-- ==== Defs.lean ====
def Pre_AttnB (m : (ℓ : Loc Cert.AttnB.nD Cert.AttnB.τ Cert.AttnB.sig) → Buf (Elt Bits) ℓ) : Prop :=
  True

def Pre_AttnBIdeal (m : (ℓ : Loc Cert.AttnBIdeal.nD Cert.AttnBIdeal.τ Cert.AttnBIdeal.sig) → Buf (Elt Ideal) ℓ) : Prop :=
  True

def Pre_RefAttnBIdeal (m : (ℓ : Loc Cert.RefAttnBIdeal.nD Cert.RefAttnBIdeal.τ Cert.RefAttnBIdeal.sig) → Buf (Elt Ideal) ℓ) : Prop :=
  True

def Pre_GateB (m : (ℓ : Loc Cert.GateB.nD Cert.GateB.τ Cert.GateB.sig) → Buf (Elt Bits) ℓ) : Prop :=
  True

def Pre_GateBIdeal (m : (ℓ : Loc Cert.GateBIdeal.nD Cert.GateBIdeal.τ Cert.GateBIdeal.sig) → Buf (Elt Ideal) ℓ) : Prop :=
  True

def Pre_RefGateBIdeal (m : (ℓ : Loc Cert.RefGateBIdeal.nD Cert.RefGateBIdeal.τ Cert.RefGateBIdeal.sig) → Buf (Elt Ideal) ℓ) : Prop :=
  True

def Pre_SwigluB (m : (ℓ : Loc Cert.SwigluB.nD Cert.SwigluB.τ Cert.SwigluB.sig) → Buf (Elt Bits) ℓ) : Prop :=
  True

def Pre_SwigluBIdeal (m : (ℓ : Loc Cert.SwigluBIdeal.nD Cert.SwigluBIdeal.τ Cert.SwigluBIdeal.sig) → Buf (Elt Ideal) ℓ) : Prop :=
  True

def Pre_SwigluBIdeal_finite_bdown [hPre_finite_bdown : Cert.Pre_finite_bdown.Facts] (m : (ℓ : Loc Cert.SwigluBIdeal.nD Cert.SwigluBIdeal.τ Cert.SwigluBIdeal.sig) → Buf (Elt Ideal) ℓ) : Prop :=
  ∀ c : Dev Cert.SwigluBIdeal.nD,
    (Cert.Pre_finite_bdown.fn (F := Ideal) (m ((c.tc : Thread Cert.SwigluBIdeal.nD Cert.SwigluBIdeal.τ).loc Cert.SwigluBIdeal.main_arg0)) (m ((c.tc : Thread Cert.SwigluBIdeal.nD Cert.SwigluBIdeal.τ).loc Cert.SwigluBIdeal.main_arg1)) (m ((c.tc : Thread Cert.SwigluBIdeal.nD Cert.SwigluBIdeal.τ).loc Cert.SwigluBIdeal.main_arg2)) (m ((c.tc : Thread Cert.SwigluBIdeal.nD Cert.SwigluBIdeal.τ).loc Cert.SwigluBIdeal.main_arg3))) = (fun _ => 1#1)

def Pre_RefSwigluBIdeal (m : (ℓ : Loc Cert.RefSwigluBIdeal.nD Cert.RefSwigluBIdeal.τ Cert.RefSwigluBIdeal.sig) → Buf (Elt Ideal) ℓ) : Prop :=
  True

def Pre_RefSwigluBIdeal_finite_bdown [hPre_finite_bdown : Cert.Pre_finite_bdown.Facts] (m : (ℓ : Loc Cert.RefSwigluBIdeal.nD Cert.RefSwigluBIdeal.τ Cert.RefSwigluBIdeal.sig) → Buf (Elt Ideal) ℓ) : Prop :=
  ∀ c : Dev Cert.RefSwigluBIdeal.nD,
    (Cert.Pre_finite_bdown.fn (F := Ideal) (m ((c.tc : Thread Cert.RefSwigluBIdeal.nD Cert.RefSwigluBIdeal.τ).loc Cert.RefSwigluBIdeal.main_arg0)) (m ((c.tc : Thread Cert.RefSwigluBIdeal.nD Cert.RefSwigluBIdeal.τ).loc Cert.RefSwigluBIdeal.main_arg1)) (m ((c.tc : Thread Cert.RefSwigluBIdeal.nD Cert.RefSwigluBIdeal.τ).loc Cert.RefSwigluBIdeal.main_arg2)) (m ((c.tc : Thread Cert.RefSwigluBIdeal.nD Cert.RefSwigluBIdeal.τ).loc Cert.RefSwigluBIdeal.main_arg3))) = (fun _ => 1#1)

def Pre_NormB (m : (ℓ : Loc Cert.NormB.nD Cert.NormB.τ Cert.NormB.sig) → Buf (Elt Bits) ℓ) : Prop :=
  True

def Pre_NormBIdeal (m : (ℓ : Loc Cert.NormBIdeal.nD Cert.NormBIdeal.τ Cert.NormBIdeal.sig) → Buf (Elt Ideal) ℓ) : Prop :=
  True

def Pre_NormBIdeal_finite_bconv [hPre_finite_bconv : Cert.Pre_finite_bconv.Facts] (m : (ℓ : Loc Cert.NormBIdeal.nD Cert.NormBIdeal.τ Cert.NormBIdeal.sig) → Buf (Elt Ideal) ℓ) : Prop :=
  ∀ c : Dev Cert.NormBIdeal.nD,
    (Cert.Pre_finite_bconv.fn (F := Ideal) (m ((c.tc : Thread Cert.NormBIdeal.nD Cert.NormBIdeal.τ).loc Cert.NormBIdeal.main_arg0)) (m ((c.tc : Thread Cert.NormBIdeal.nD Cert.NormBIdeal.τ).loc Cert.NormBIdeal.main_arg1)) (m ((c.tc : Thread Cert.NormBIdeal.nD Cert.NormBIdeal.τ).loc Cert.NormBIdeal.main_arg2)) (m ((c.tc : Thread Cert.NormBIdeal.nD Cert.NormBIdeal.τ).loc Cert.NormBIdeal.main_arg3)) (m ((c.tc : Thread Cert.NormBIdeal.nD Cert.NormBIdeal.τ).loc Cert.NormBIdeal.main_arg4))) = (fun _ => 1#1)

def Pre_RefNormBIdeal (m : (ℓ : Loc Cert.RefNormBIdeal.nD Cert.RefNormBIdeal.τ Cert.RefNormBIdeal.sig) → Buf (Elt Ideal) ℓ) : Prop :=
  True

def Pre_RefNormBIdeal_finite_bconv [hPre_finite_bconv : Cert.Pre_finite_bconv.Facts] (m : (ℓ : Loc Cert.RefNormBIdeal.nD Cert.RefNormBIdeal.τ Cert.RefNormBIdeal.sig) → Buf (Elt Ideal) ℓ) : Prop :=
  ∀ c : Dev Cert.RefNormBIdeal.nD,
    (Cert.Pre_finite_bconv.fn (F := Ideal) (m ((c.tc : Thread Cert.RefNormBIdeal.nD Cert.RefNormBIdeal.τ).loc Cert.RefNormBIdeal.main_arg0)) (m ((c.tc : Thread Cert.RefNormBIdeal.nD Cert.RefNormBIdeal.τ).loc Cert.RefNormBIdeal.main_arg1)) (m ((c.tc : Thread Cert.RefNormBIdeal.nD Cert.RefNormBIdeal.τ).loc Cert.RefNormBIdeal.main_arg2)) (m ((c.tc : Thread Cert.RefNormBIdeal.nD Cert.RefNormBIdeal.τ).loc Cert.RefNormBIdeal.main_arg3)) (m ((c.tc : Thread Cert.RefNormBIdeal.nD Cert.RefNormBIdeal.τ).loc Cert.RefNormBIdeal.main_arg4))) = (fun _ => 1#1)

def Pre_RmsB (m : (ℓ : Loc Cert.RmsB.nD Cert.RmsB.τ Cert.RmsB.sig) → Buf (Elt Bits) ℓ) : Prop :=
  True

def Pre_RmsBIdeal (m : (ℓ : Loc Cert.RmsBIdeal.nD Cert.RmsBIdeal.τ Cert.RmsBIdeal.sig) → Buf (Elt Ideal) ℓ) : Prop :=
  True

def Pre_RmsBIdeal_finite_bup [hPre_finite_bup : Cert.Pre_finite_bup.Facts] (m : (ℓ : Loc Cert.RmsBIdeal.nD Cert.RmsBIdeal.τ Cert.RmsBIdeal.sig) → Buf (Elt Ideal) ℓ) : Prop :=
  ∀ c : Dev Cert.RmsBIdeal.nD,
    (Cert.Pre_finite_bup.fn (F := Ideal) (m ((c.tc : Thread Cert.RmsBIdeal.nD Cert.RmsBIdeal.τ).loc Cert.RmsBIdeal.main_arg0)) (m ((c.tc : Thread Cert.RmsBIdeal.nD Cert.RmsBIdeal.τ).loc Cert.RmsBIdeal.main_arg1)) (m ((c.tc : Thread Cert.RmsBIdeal.nD Cert.RmsBIdeal.τ).loc Cert.RmsBIdeal.main_arg2)) (m ((c.tc : Thread Cert.RmsBIdeal.nD Cert.RmsBIdeal.τ).loc Cert.RmsBIdeal.main_arg3)) (m ((c.tc : Thread Cert.RmsBIdeal.nD Cert.RmsBIdeal.τ).loc Cert.RmsBIdeal.main_arg4)) (m ((c.tc : Thread Cert.RmsBIdeal.nD Cert.RmsBIdeal.τ).loc Cert.RmsBIdeal.main_arg5)) (m ((c.tc : Thread Cert.RmsBIdeal.nD Cert.RmsBIdeal.τ).loc Cert.RmsBIdeal.main_arg6)) (m ((c.tc : Thread Cert.RmsBIdeal.nD Cert.RmsBIdeal.τ).loc Cert.RmsBIdeal.main_arg7)) (m ((c.tc : Thread Cert.RmsBIdeal.nD Cert.RmsBIdeal.τ).loc Cert.RmsBIdeal.main_arg8)) (m ((c.tc : Thread Cert.RmsBIdeal.nD Cert.RmsBIdeal.τ).loc Cert.RmsBIdeal.main_arg9)) (m ((c.tc : Thread Cert.RmsBIdeal.nD Cert.RmsBIdeal.τ).loc Cert.RmsBIdeal.main_arg10))) = (fun _ => 1#1)

def Pre_RefRmsBIdeal (m : (ℓ : Loc Cert.RefRmsBIdeal.nD Cert.RefRmsBIdeal.τ Cert.RefRmsBIdeal.sig) → Buf (Elt Ideal) ℓ) : Prop :=
  True

def Pre_RefRmsBIdeal_finite_bup [hPre_finite_bup : Cert.Pre_finite_bup.Facts] (m : (ℓ : Loc Cert.RefRmsBIdeal.nD Cert.RefRmsBIdeal.τ Cert.RefRmsBIdeal.sig) → Buf (Elt Ideal) ℓ) : Prop :=
  ∀ c : Dev Cert.RefRmsBIdeal.nD,
    (Cert.Pre_finite_bup.fn (F := Ideal) (m ((c.tc : Thread Cert.RefRmsBIdeal.nD Cert.RefRmsBIdeal.τ).loc Cert.RefRmsBIdeal.main_arg0)) (m ((c.tc : Thread Cert.RefRmsBIdeal.nD Cert.RefRmsBIdeal.τ).loc Cert.RefRmsBIdeal.main_arg1)) (m ((c.tc : Thread Cert.RefRmsBIdeal.nD Cert.RefRmsBIdeal.τ).loc Cert.RefRmsBIdeal.main_arg2)) (m ((c.tc : Thread Cert.RefRmsBIdeal.nD Cert.RefRmsBIdeal.τ).loc Cert.RefRmsBIdeal.main_arg3)) (m ((c.tc : Thread Cert.RefRmsBIdeal.nD Cert.RefRmsBIdeal.τ).loc Cert.RefRmsBIdeal.main_arg4)) (m ((c.tc : Thread Cert.RefRmsBIdeal.nD Cert.RefRmsBIdeal.τ).loc Cert.RefRmsBIdeal.main_arg5)) (m ((c.tc : Thread Cert.RefRmsBIdeal.nD Cert.RefRmsBIdeal.τ).loc Cert.RefRmsBIdeal.main_arg6)) (m ((c.tc : Thread Cert.RefRmsBIdeal.nD Cert.RefRmsBIdeal.τ).loc Cert.RefRmsBIdeal.main_arg7)) (m ((c.tc : Thread Cert.RefRmsBIdeal.nD Cert.RefRmsBIdeal.τ).loc Cert.RefRmsBIdeal.main_arg8)) (m ((c.tc : Thread Cert.RefRmsBIdeal.nD Cert.RefRmsBIdeal.τ).loc Cert.RefRmsBIdeal.main_arg9)) (m ((c.tc : Thread Cert.RefRmsBIdeal.nD Cert.RefRmsBIdeal.τ).loc Cert.RefRmsBIdeal.main_arg10))) = (fun _ => 1#1)

def Pre_ConvB (m : (ℓ : Loc Cert.ConvB.nD Cert.ConvB.τ Cert.ConvB.sig) → Buf (Elt Bits) ℓ) : Prop :=
  True

def Pre_ConvBIdeal (m : (ℓ : Loc Cert.ConvBIdeal.nD Cert.ConvBIdeal.τ Cert.ConvBIdeal.sig) → Buf (Elt Ideal) ℓ) : Prop :=
  True

def Pre_RefConvBIdeal (m : (ℓ : Loc Cert.RefConvBIdeal.nD Cert.RefConvBIdeal.τ Cert.RefConvBIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_finite_loss [hPre_finite_loss : Cert.Pre_finite_loss.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4))) = (fun _ => 1#1)

def Pre_RefLossHeadIdeal (m : (ℓ : Loc Cert.RefLossHeadIdeal.nD Cert.RefLossHeadIdeal.τ Cert.RefLossHeadIdeal.sig) → Buf (Elt Ideal) ℓ) : Prop :=
  True

def Pre_RefLossHeadIdeal_finite_loss [hPre_finite_loss : Cert.Pre_finite_loss.Facts] (m : (ℓ : Loc Cert.RefLossHeadIdeal.nD Cert.RefLossHeadIdeal.τ Cert.RefLossHeadIdeal.sig) → Buf (Elt Ideal) ℓ) : Prop :=
  ∀ c : Dev Cert.RefLossHeadIdeal.nD,
    (Cert.Pre_finite_loss.fn (F := Ideal) (m ((c.tc : Thread Cert.RefLossHeadIdeal.nD Cert.RefLossHeadIdeal.τ).loc Cert.RefLossHeadIdeal.main_arg0)) (m ((c.tc : Thread Cert.RefLossHeadIdeal.nD Cert.RefLossHeadIdeal.τ).loc Cert.RefLossHeadIdeal.main_arg1)) (m ((c.tc : Thread Cert.RefLossHeadIdeal.nD Cert.RefLossHeadIdeal.τ).loc Cert.RefLossHeadIdeal.main_arg2)) (m ((c.tc : Thread Cert.RefLossHeadIdeal.nD Cert.RefLossHeadIdeal.τ).loc Cert.RefLossHeadIdeal.main_arg3)) (m ((c.tc : Thread Cert.RefLossHeadIdeal.nD Cert.RefLossHeadIdeal.τ).loc Cert.RefLossHeadIdeal.main_arg4))) = (fun _ => 1#1)

def Pre_SplitB (m : (ℓ : Loc Cert.SplitB.nD Cert.SplitB.τ Cert.SplitB.sig) → Buf (Elt Bits) ℓ) : Prop :=
  True

def Pre_SplitBIdeal (m : (ℓ : Loc Cert.SplitBIdeal.nD Cert.SplitBIdeal.τ Cert.SplitBIdeal.sig) → Buf (Elt Ideal) ℓ) : Prop :=
  True

def Pre_RefSplitBIdeal (m : (ℓ : Loc Cert.RefSplitBIdeal.nD Cert.RefSplitBIdeal.τ Cert.RefSplitBIdeal.sig) → Buf (Elt Ideal) ℓ) : Prop :=
  True

def Pre_Fwd16 (m : (ℓ : Loc Cert.Fwd16.nD Cert.Fwd16.τ Cert.Fwd16.sig) → Buf (Elt Bits) ℓ) : Prop :=
  True

def Pre_Fwd16Ideal (m : (ℓ : Loc Cert.Fwd16Ideal.nD Cert.Fwd16Ideal.τ Cert.Fwd16Ideal.sig) → Buf (Elt Ideal) ℓ) : Prop :=
  True

def Pre_RefFwd16Ideal (m : (ℓ : Loc Cert.RefFwd16Ideal.nD Cert.RefFwd16Ideal.τ Cert.RefFwd16Ideal.sig) → Buf (Elt Ideal) ℓ) : Prop :=
  True

def Pre_Fwd4 (m : (ℓ : Loc Cert.Fwd4.nD Cert.Fwd4.τ Cert.Fwd4.sig) → Buf (Elt Bits) ℓ) : Prop :=
  True

def Pre_Fwd4Ideal (m : (ℓ : Loc Cert.Fwd4Ideal.nD Cert.Fwd4Ideal.τ Cert.Fwd4Ideal.sig) → Buf (Elt Ideal) ℓ) : Prop :=
  True

def Pre_RefFwd4Ideal (m : (ℓ : Loc Cert.RefFwd4Ideal.nD Cert.RefFwd4Ideal.τ Cert.RefFwd4Ideal.sig) → Buf (Elt Ideal) ℓ) : Prop :=
  True

def Pre_Fwd1 (m : (ℓ : Loc Cert.Fwd1.nD Cert.Fwd1.τ Cert.Fwd1.sig) → Buf (Elt Bits) ℓ) : Prop :=
  True

def Pre_Fwd1Ideal (m : (ℓ : Loc Cert.Fwd1Ideal.nD Cert.Fwd1Ideal.τ Cert.Fwd1Ideal.sig) → Buf (Elt Ideal) ℓ) : Prop :=
  True

def Pre_RefFwd1Ideal (m : (ℓ : Loc Cert.RefFwd1Ideal.nD Cert.RefFwd1Ideal.τ Cert.RefFwd1Ideal.sig) → Buf (Elt Ideal) ℓ) : Prop :=
  True

def Pre_UpF (m : (ℓ : Loc Cert.UpF.nD Cert.UpF.τ Cert.UpF.sig) → Buf (Elt Bits) ℓ) : Prop :=
  True

def Pre_UpFIdeal (m : (ℓ : Loc Cert.UpFIdeal.nD Cert.UpFIdeal.τ Cert.UpFIdeal.sig) → Buf (Elt Ideal) ℓ) : Prop :=
  True

def Pre_RefUpFIdeal (m : (ℓ : Loc Cert.RefUpFIdeal.nD Cert.RefUpFIdeal.τ Cert.RefUpFIdeal.sig) → Buf (Elt Ideal) ℓ) : Prop :=
  True

def Pre_BranchF (m : (ℓ : Loc Cert.BranchF.nD Cert.BranchF.τ Cert.BranchF.sig) → Buf (Elt Bits) ℓ) : Prop :=
  True

def Pre_BranchFIdeal (m : (ℓ : Loc Cert.BranchFIdeal.nD Cert.BranchFIdeal.τ Cert.BranchFIdeal.sig) → Buf (Elt Ideal) ℓ) : Prop :=
  True

def Pre_RefBranchFIdeal (m : (ℓ : Loc Cert.RefBranchFIdeal.nD Cert.RefBranchFIdeal.τ Cert.RefBranchFIdeal.sig) → Buf (Elt Ideal) ℓ) : Prop :=
  True

def Pre_DownF (m : (ℓ : Loc Cert.DownF.nD Cert.DownF.τ Cert.DownF.sig) → Buf (Elt Bits) ℓ) : Prop :=
  True

def Pre_DownFIdeal (m : (ℓ : Loc Cert.DownFIdeal.nD Cert.DownFIdeal.τ Cert.DownFIdeal.sig) → Buf (Elt Ideal) ℓ) : Prop :=
  True

def Pre_RefDownFIdeal (m : (ℓ : Loc Cert.RefDownFIdeal.nD Cert.RefDownFIdeal.τ Cert.RefDownFIdeal.sig) → Buf (Elt Ideal) ℓ) : Prop :=
  True

def Pre_OutF (m : (ℓ : Loc Cert.OutF.nD Cert.OutF.τ Cert.OutF.sig) → Buf (Elt Bits) ℓ) : Prop :=
  True

def Pre_OutFIdeal (m : (ℓ : Loc Cert.OutFIdeal.nD Cert.OutFIdeal.τ Cert.OutFIdeal.sig) → Buf (Elt Ideal) ℓ) : Prop :=
  True

def Pre_RefOutFIdeal (m : (ℓ : Loc Cert.RefOutFIdeal.nD Cert.RefOutFIdeal.τ Cert.RefOutFIdeal.sig) → Buf (Elt Ideal) ℓ) : Prop :=
  True

def Pre_ModF (m : (ℓ : Loc Cert.ModF.nD Cert.ModF.τ Cert.ModF.sig) → Buf (Elt Bits) ℓ) : Prop :=
  True

def Pre_ModFIdeal (m : (ℓ : Loc Cert.ModFIdeal.nD Cert.ModFIdeal.τ Cert.ModFIdeal.sig) → Buf (Elt Ideal) ℓ) : Prop :=
  True

def Pre_RefModFIdeal (m : (ℓ : Loc Cert.RefModFIdeal.nD Cert.RefModFIdeal.τ Cert.RefModFIdeal.sig) → Buf (Elt Ideal) ℓ) : Prop :=
  True

def Pre_BinB (m : (ℓ : Loc Cert.BinB.nD Cert.BinB.τ Cert.BinB.sig) → Buf (Elt Bits) ℓ) : Prop :=
  True

def Pre_BinBIdeal (m : (ℓ : Loc Cert.BinBIdeal.nD Cert.BinBIdeal.τ Cert.BinBIdeal.sig) → Buf (Elt Ideal) ℓ) : Prop :=
  True

def Pre_BinBIdeal_finite_bin [hPre_finite_bin : Cert.Pre_finite_bin.Facts] (m : (ℓ : Loc Cert.BinBIdeal.nD Cert.BinBIdeal.τ Cert.BinBIdeal.sig) → Buf (Elt Ideal) ℓ) : Prop :=
  ∀ c : Dev Cert.BinBIdeal.nD,
    (Cert.Pre_finite_bin.fn (F := Ideal) (m ((c.tc : Thread Cert.BinBIdeal.nD Cert.BinBIdeal.τ).loc Cert.BinBIdeal.main_arg0)) (m ((c.tc : Thread Cert.BinBIdeal.nD Cert.BinBIdeal.τ).loc Cert.BinBIdeal.main_arg1)) (m ((c.tc : Thread Cert.BinBIdeal.nD Cert.BinBIdeal.τ).loc Cert.BinBIdeal.main_arg2)) (m ((c.tc : Thread Cert.BinBIdeal.nD Cert.BinBIdeal.τ).loc Cert.BinBIdeal.main_arg3)) (m ((c.tc : Thread Cert.BinBIdeal.nD Cert.BinBIdeal.τ).loc Cert.BinBIdeal.main_arg4)) (m ((c.tc : Thread Cert.BinBIdeal.nD Cert.BinBIdeal.τ).loc Cert.BinBIdeal.main_arg5)) (m ((c.tc : Thread Cert.BinBIdeal.nD Cert.BinBIdeal.τ).loc Cert.BinBIdeal.main_arg6)) (m ((c.tc : Thread Cert.BinBIdeal.nD Cert.BinBIdeal.τ).loc Cert.BinBIdeal.main_arg7)) (m ((c.tc : Thread Cert.BinBIdeal.nD Cert.BinBIdeal.τ).loc Cert.BinBIdeal.main_arg8)) (m ((c.tc : Thread Cert.BinBIdeal.nD Cert.BinBIdeal.τ).loc Cert.BinBIdeal.main_arg9)) (m ((c.tc : Thread Cert.BinBIdeal.nD Cert.BinBIdeal.τ).loc Cert.BinBIdeal.main_arg10)) (m ((c.tc : Thread Cert.BinBIdeal.nD Cert.BinBIdeal.τ).loc Cert.BinBIdeal.main_arg11))) = (fun _ => 1#1)

def Pre_RefBinBIdeal (m : (ℓ : Loc Cert.RefBinBIdeal.nD Cert.RefBinBIdeal.τ Cert.RefBinBIdeal.sig) → Buf (Elt Ideal) ℓ) : Prop :=
  True

def Pre_RefBinBIdeal_finite_bin [hPre_finite_bin : Cert.Pre_finite_bin.Facts] (m : (ℓ : Loc Cert.RefBinBIdeal.nD Cert.RefBinBIdeal.τ Cert.RefBinBIdeal.sig) → Buf (Elt Ideal) ℓ) : Prop :=
  ∀ c : Dev Cert.RefBinBIdeal.nD,
    (Cert.Pre_finite_bin.fn (F := Ideal) (m ((c.tc : Thread Cert.RefBinBIdeal.nD Cert.RefBinBIdeal.τ).loc Cert.RefBinBIdeal.main_arg0)) (m ((c.tc : Thread Cert.RefBinBIdeal.nD Cert.RefBinBIdeal.τ).loc Cert.RefBinBIdeal.main_arg1)) (m ((c.tc : Thread Cert.RefBinBIdeal.nD Cert.RefBinBIdeal.τ).loc Cert.RefBinBIdeal.main_arg2)) (m ((c.tc : Thread Cert.RefBinBIdeal.nD Cert.RefBinBIdeal.τ).loc Cert.RefBinBIdeal.main_arg3)) (m ((c.tc : Thread Cert.RefBinBIdeal.nD Cert.RefBinBIdeal.τ).loc Cert.RefBinBIdeal.main_arg4)) (m ((c.tc : Thread Cert.RefBinBIdeal.nD Cert.RefBinBIdeal.τ).loc Cert.RefBinBIdeal.main_arg5)) (m ((c.tc : Thread Cert.RefBinBIdeal.nD Cert.RefBinBIdeal.τ).loc Cert.RefBinBIdeal.main_arg6)) (m ((c.tc : Thread Cert.RefBinBIdeal.nD Cert.RefBinBIdeal.τ).loc Cert.RefBinBIdeal.main_arg7)) (m ((c.tc : Thread Cert.RefBinBIdeal.nD Cert.RefBinBIdeal.τ).loc Cert.RefBinBIdeal.main_arg8)) (m ((c.tc : Thread Cert.RefBinBIdeal.nD Cert.RefBinBIdeal.τ).loc Cert.RefBinBIdeal.main_arg9)) (m ((c.tc : Thread Cert.RefBinBIdeal.nD Cert.RefBinBIdeal.τ).loc Cert.RefBinBIdeal.main_arg10)) (m ((c.tc : Thread Cert.RefBinBIdeal.nD Cert.RefBinBIdeal.τ).loc Cert.RefBinBIdeal.main_arg11))) = (fun _ => 1#1)

def Pre_CondF (m : (ℓ : Loc Cert.CondF.nD Cert.CondF.τ Cert.CondF.sig) → Buf (Elt Bits) ℓ) : Prop :=
  True

def Pre_CondFIdeal (m : (ℓ : Loc Cert.CondFIdeal.nD Cert.CondFIdeal.τ Cert.CondFIdeal.sig) → Buf (Elt Ideal) ℓ) : Prop :=
  True

def Pre_RefCondFIdeal (m : (ℓ : Loc Cert.RefCondFIdeal.nD Cert.RefCondFIdeal.τ Cert.RefCondFIdeal.sig) → Buf (Elt Ideal) ℓ) : Prop :=
  True

def Pre_AdaF (m : (ℓ : Loc Cert.AdaF.nD Cert.AdaF.τ Cert.AdaF.sig) → Buf (Elt Bits) ℓ) : Prop :=
  True

def Pre_AdaFIdeal (m : (ℓ : Loc Cert.AdaFIdeal.nD Cert.AdaFIdeal.τ Cert.AdaFIdeal.sig) → Buf (Elt Ideal) ℓ) : Prop :=
  True

def Pre_RefAdaFIdeal (m : (ℓ : Loc Cert.RefAdaFIdeal.nD Cert.RefAdaFIdeal.τ Cert.RefAdaFIdeal.sig) → Buf (Elt Ideal) ℓ) : Prop :=
  True

def Pre_QkvF (m : (ℓ : Loc Cert.QkvF.nD Cert.QkvF.τ Cert.QkvF.sig) → Buf (Elt Bits) ℓ) : Prop :=
  True

def Pre_QkvFIdeal (m : (ℓ : Loc Cert.QkvFIdeal.nD Cert.QkvFIdeal.τ Cert.QkvFIdeal.sig) → Buf (Elt Ideal) ℓ) : Prop :=
  True

def Pre_RefQkvFIdeal (m : (ℓ : Loc Cert.RefQkvFIdeal.nD Cert.RefQkvFIdeal.τ Cert.RefQkvFIdeal.sig) → Buf (Elt Ideal) ℓ) : Prop :=
  True

def Pre_WeightB (m : (ℓ : Loc Cert.WeightB.nD Cert.WeightB.τ Cert.WeightB.sig) → Buf (Elt Bits) ℓ) : Prop :=
  True

def Pre_WeightBIdeal (m : (ℓ : Loc Cert.WeightBIdeal.nD Cert.WeightBIdeal.τ Cert.WeightBIdeal.sig) → Buf (Elt Ideal) ℓ) : Prop :=
  True

def Pre_RefWeightBIdeal (m : (ℓ : Loc Cert.RefWeightBIdeal.nD Cert.RefWeightBIdeal.τ Cert.RefWeightBIdeal.sig) → Buf (Elt Ideal) ℓ) : Prop :=
  True

def Pre_AdamU (m : (ℓ : Loc Cert.AdamU.nD Cert.AdamU.τ Cert.AdamU.sig) → Buf (Elt Bits) ℓ) : Prop :=
  True

def Pre_AdamUIdeal (m : (ℓ : Loc Cert.AdamUIdeal.nD Cert.AdamUIdeal.τ Cert.AdamUIdeal.sig) → Buf (Elt Ideal) ℓ) : Prop :=
  True

def Pre_RefAdamUIdeal (m : (ℓ : Loc Cert.RefAdamUIdeal.nD Cert.RefAdamUIdeal.τ Cert.RefAdamUIdeal.sig) → Buf (Elt Ideal) ℓ) : Prop :=
  True

def Pre_SumU (m : (ℓ : Loc Cert.SumU.nD Cert.SumU.τ Cert.SumU.sig) → Buf (Elt Bits) ℓ) : Prop :=
  True

def Pre_SumUIdeal (m : (ℓ : Loc Cert.SumUIdeal.nD Cert.SumUIdeal.τ Cert.SumUIdeal.sig) → Buf (Elt Ideal) ℓ) : Prop :=
  True

def Pre_RefSumUIdeal (m : (ℓ : Loc Cert.RefSumUIdeal.nD Cert.RefSumUIdeal.τ Cert.RefSumUIdeal.sig) → Buf (Elt Ideal) ℓ) : Prop :=
  True

def Pre_ConvF (m : (ℓ : Loc Cert.ConvF.nD Cert.ConvF.τ Cert.ConvF.sig) → Buf (Elt Bits) ℓ) : Prop :=
  True

def Pre_ConvFIdeal (m : (ℓ : Loc Cert.ConvFIdeal.nD Cert.ConvFIdeal.τ Cert.ConvFIdeal.sig) → Buf (Elt Ideal) ℓ) : Prop :=
  True

def Pre_RefConvFIdeal (m : (ℓ : Loc Cert.RefConvFIdeal.nD Cert.RefConvFIdeal.τ Cert.RefConvFIdeal.sig) → Buf (Elt Ideal) ℓ) : Prop :=
  True

def Pre_MergeF (m : (ℓ : Loc Cert.MergeF.nD Cert.MergeF.τ Cert.MergeF.sig) → Buf (Elt Bits) ℓ) : Prop :=
  True

def Pre_MergeFIdeal (m : (ℓ : Loc Cert.MergeFIdeal.nD Cert.MergeFIdeal.τ Cert.MergeFIdeal.sig) → Buf (Elt Ideal) ℓ) : Prop :=
  True

def Pre_RefMergeFIdeal (m : (ℓ : Loc Cert.RefMergeFIdeal.nD Cert.RefMergeFIdeal.τ Cert.RefMergeFIdeal.sig) → Buf (Elt Ideal) ℓ) : Prop :=
  True

def Pre_RopeF (m : (ℓ : Loc Cert.RopeF.nD Cert.RopeF.τ Cert.RopeF.sig) → Buf (Elt Bits) ℓ) : Prop :=
  True

def Pre_RopeFIdeal (m : (ℓ : Loc Cert.RopeFIdeal.nD Cert.RopeFIdeal.τ Cert.RopeFIdeal.sig) → Buf (Elt Ideal) ℓ) : Prop :=
  True

def Pre_RefRopeFIdeal (m : (ℓ : Loc Cert.RefRopeFIdeal.nD Cert.RefRopeFIdeal.τ Cert.RefRopeFIdeal.sig) → Buf (Elt Ideal) ℓ) : Prop :=
  True

def quiescent_AttnB [hAttnB : Cert.AttnB.Facts] : Prop :=
  ∀ (m : (ℓ : Loc Cert.AttnB.nD Cert.AttnB.τ Cert.AttnB.sig) → Buf (Elt Bits) ℓ) (g : Dev Cert.AttnB.nD → PrngReg), Pre_AttnB m →
    θ_run (Cert.AttnB.defs (F := Bits)) (onTc (τ := Cert.AttnB.τ) (Cert.AttnB.main (F := Bits))) ⟨m, fun _ => 0, g⟩ (fun r => (∀ c : Dev Cert.AttnB.nD,
      r.2.mem ((c.tc : Thread Cert.AttnB.nD Cert.AttnB.τ).loc Cert.AttnB.main_arg0) = m ((c.tc : Thread Cert.AttnB.nD Cert.AttnB.τ).loc Cert.AttnB.main_arg0)
      ∧ r.2.mem ((c.tc : Thread Cert.AttnB.nD Cert.AttnB.τ).loc Cert.AttnB.main_arg1) = m ((c.tc : Thread Cert.AttnB.nD Cert.AttnB.τ).loc Cert.AttnB.main_arg1)
      ∧ r.2.mem ((c.tc : Thread Cert.AttnB.nD Cert.AttnB.τ).loc Cert.AttnB.main_arg2) = m ((c.tc : Thread Cert.AttnB.nD Cert.AttnB.τ).loc Cert.AttnB.main_arg2)
      ∧ r.2.mem ((c.tc : Thread Cert.AttnB.nD Cert.AttnB.τ).loc Cert.AttnB.main_arg3) = m ((c.tc : Thread Cert.AttnB.nD Cert.AttnB.τ).loc Cert.AttnB.main_arg3)
      ∧ r.2.mem ((c.tc : Thread Cert.AttnB.nD Cert.AttnB.τ).loc Cert.AttnB.main_arg4) = m ((c.tc : Thread Cert.AttnB.nD Cert.AttnB.τ).loc Cert.AttnB.main_arg4)
      ∧ r.2.mem ((c.tc : Thread Cert.AttnB.nD Cert.AttnB.τ).loc Cert.AttnB.main_arg5) = m ((c.tc : Thread Cert.AttnB.nD Cert.AttnB.τ).loc Cert.AttnB.main_arg5)
      ∧ r.2.mem ((c.tc : Thread Cert.AttnB.nD Cert.AttnB.τ).loc Cert.AttnB.main_arg6) = m ((c.tc : Thread Cert.AttnB.nD Cert.AttnB.τ).loc Cert.AttnB.main_arg6)
      ∧ r.2.mem ((c.tc : Thread Cert.AttnB.nD Cert.AttnB.τ).loc Cert.AttnB.main_arg7) = m ((c.tc : Thread Cert.AttnB.nD Cert.AttnB.τ).loc Cert.AttnB.main_arg7))
      ∧ r.2.sem = fun _ => 0)

def quiescent_AttnBIdeal [hAttnBIdeal : Cert.AttnBIdeal.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
      ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
      ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
      ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3)
      ∧ r.2.mem ((c.tc : Thread Cert.AttnBIdeal.nD Cert.AttnBIdeal.τ).loc Cert.AttnBIdeal.main_arg4) = m ((c.tc : Thread Cert.AttnBIdeal.nD Cert.AttnBIdeal.τ).loc Cert.AttnBIdeal.main_arg4)
      ∧ r.2.mem ((c.tc : Thread Cert.AttnBIdeal.nD Cert.AttnBIdeal.τ).loc Cert.AttnBIdeal.main_arg5) = m ((c.tc : Thread Cert.AttnBIdeal.nD Cert.AttnBIdeal.τ).loc Cert.AttnBIdeal.main_arg5)
      ∧ r.2.mem ((c.tc : Thread Cert.AttnBIdeal.nD Cert.AttnBIdeal.τ).loc Cert.AttnBIdeal.main_arg6) = m ((c.tc : Thread Cert.AttnBIdeal.nD Cert.AttnBIdeal.τ).loc Cert.AttnBIdeal.main_arg6)
      ∧ r.2.mem ((c.tc : Thread Cert.AttnBIdeal.nD Cert.AttnBIdeal.τ).loc Cert.AttnBIdeal.main_arg7) = m ((c.tc : Thread Cert.AttnBIdeal.nD Cert.AttnBIdeal.τ).loc Cert.AttnBIdeal.main_arg7))
      ∧ r.2.sem = fun _ => 0)

def quiescent_RefAttnBIdeal [hRefAttnBIdeal : Cert.RefAttnBIdeal.Facts] : Prop :=
  ∀ (m : (ℓ : Loc Cert.RefAttnBIdeal.nD Cert.RefAttnBIdeal.τ Cert.RefAttnBIdeal.sig) → Buf (Elt Ideal) ℓ) (g : Dev Cert.RefAttnBIdeal.nD → PrngReg), Pre_RefAttnBIdeal m →
    θ_run (Cert.RefAttnBIdeal.defs (F := Ideal)) (onTc (τ := Cert.RefAttnBIdeal.τ) (Cert.RefAttnBIdeal.main (F := Ideal))) ⟨m, fun _ => 0, g⟩ (fun r => (∀ c : Dev Cert.RefAttnBIdeal.nD,
      r.2.mem ((c.tc : Thread Cert.RefAttnBIdeal.nD Cert.RefAttnBIdeal.τ).loc Cert.RefAttnBIdeal.main_arg0) = m ((c.tc : Thread Cert.RefAttnBIdeal.nD Cert.RefAttnBIdeal.τ).loc Cert.RefAttnBIdeal.main_arg0)
      ∧ r.2.mem ((c.tc : Thread Cert.RefAttnBIdeal.nD Cert.RefAttnBIdeal.τ).loc Cert.RefAttnBIdeal.main_arg1) = m ((c.tc : Thread Cert.RefAttnBIdeal.nD Cert.RefAttnBIdeal.τ).loc Cert.RefAttnBIdeal.main_arg1)
      ∧ r.2.mem ((c.tc : Thread Cert.RefAttnBIdeal.nD Cert.RefAttnBIdeal.τ).loc Cert.RefAttnBIdeal.main_arg2) = m ((c.tc : Thread Cert.RefAttnBIdeal.nD Cert.RefAttnBIdeal.τ).loc Cert.RefAttnBIdeal.main_arg2)
      ∧ r.2.mem ((c.tc : Thread Cert.RefAttnBIdeal.nD Cert.RefAttnBIdeal.τ).loc Cert.RefAttnBIdeal.main_arg3) = m ((c.tc : Thread Cert.RefAttnBIdeal.nD Cert.RefAttnBIdeal.τ).loc Cert.RefAttnBIdeal.main_arg3)
      ∧ r.2.mem ((c.tc : Thread Cert.RefAttnBIdeal.nD Cert.RefAttnBIdeal.τ).loc Cert.RefAttnBIdeal.main_arg4) = m ((c.tc : Thread Cert.RefAttnBIdeal.nD Cert.RefAttnBIdeal.τ).loc Cert.RefAttnBIdeal.main_arg4)
      ∧ r.2.mem ((c.tc : Thread Cert.RefAttnBIdeal.nD Cert.RefAttnBIdeal.τ).loc Cert.RefAttnBIdeal.main_arg5) = m ((c.tc : Thread Cert.RefAttnBIdeal.nD Cert.RefAttnBIdeal.τ).loc Cert.RefAttnBIdeal.main_arg5)
      ∧ r.2.mem ((c.tc : Thread Cert.RefAttnBIdeal.nD Cert.RefAttnBIdeal.τ).loc Cert.RefAttnBIdeal.main_arg6) = m ((c.tc : Thread Cert.RefAttnBIdeal.nD Cert.RefAttnBIdeal.τ).loc Cert.RefAttnBIdeal.main_arg6)
      ∧ r.2.mem ((c.tc : Thread Cert.RefAttnBIdeal.nD Cert.RefAttnBIdeal.τ).loc Cert.RefAttnBIdeal.main_arg7) = m ((c.tc : Thread Cert.RefAttnBIdeal.nD Cert.RefAttnBIdeal.τ).loc Cert.RefAttnBIdeal.main_arg7))
      ∧ r.2.sem = fun _ => 0)

def quiescent_GateB [hGateB : Cert.GateB.Facts] : Prop :=
  ∀ (m : (ℓ : Loc Cert.GateB.nD Cert.GateB.τ Cert.GateB.sig) → Buf (Elt Bits) ℓ) (g : Dev Cert.GateB.nD → PrngReg), Pre_GateB m →
    θ_run (Cert.GateB.defs (F := Bits)) (onTc (τ := Cert.GateB.τ) (Cert.GateB.main (F := Bits))) ⟨m, fun _ => 0, g⟩ (fun r => (∀ c : Dev Cert.GateB.nD,
      r.2.mem ((c.tc : Thread Cert.GateB.nD Cert.GateB.τ).loc Cert.GateB.main_arg0) = m ((c.tc : Thread Cert.GateB.nD Cert.GateB.τ).loc Cert.GateB.main_arg0)
      ∧ r.2.mem ((c.tc : Thread Cert.GateB.nD Cert.GateB.τ).loc Cert.GateB.main_arg1) = m ((c.tc : Thread Cert.GateB.nD Cert.GateB.τ).loc Cert.GateB.main_arg1)
      ∧ r.2.mem ((c.tc : Thread Cert.GateB.nD Cert.GateB.τ).loc Cert.GateB.main_arg2) = m ((c.tc : Thread Cert.GateB.nD Cert.GateB.τ).loc Cert.GateB.main_arg2)
      ∧ r.2.mem ((c.tc : Thread Cert.GateB.nD Cert.GateB.τ).loc Cert.GateB.main_arg3) = m ((c.tc : Thread Cert.GateB.nD Cert.GateB.τ).loc Cert.GateB.main_arg3)
      ∧ r.2.mem ((c.tc : Thread Cert.GateB.nD Cert.GateB.τ).loc Cert.GateB.main_arg4) = m ((c.tc : Thread Cert.GateB.nD Cert.GateB.τ).loc Cert.GateB.main_arg4)
      ∧ r.2.mem ((c.tc : Thread Cert.GateB.nD Cert.GateB.τ).loc Cert.GateB.main_arg5) = m ((c.tc : Thread Cert.GateB.nD Cert.GateB.τ).loc Cert.GateB.main_arg5))
      ∧ r.2.sem = fun _ => 0)

def quiescent_GateBIdeal [hGateBIdeal : Cert.GateBIdeal.Facts] : Prop :=
  ∀ (m : (ℓ : Loc Cert.GateBIdeal.nD Cert.GateBIdeal.τ Cert.GateBIdeal.sig) → Buf (Elt Ideal) ℓ) (g : Dev Cert.GateBIdeal.nD → PrngReg), Pre_GateBIdeal m →
    θ_run (Cert.GateBIdeal.defs (F := Ideal)) (onTc (τ := Cert.GateBIdeal.τ) (Cert.GateBIdeal.main (F := Ideal))) ⟨m, fun _ => 0, g⟩ (fun r => (∀ c : Dev Cert.GateBIdeal.nD,
      r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
      ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1)
      ∧ r.2.mem ((c.tc : Thread Cert.GateBIdeal.nD Cert.GateBIdeal.τ).loc Cert.GateBIdeal.main_arg2) = m ((c.tc : Thread Cert.GateBIdeal.nD Cert.GateBIdeal.τ).loc Cert.GateBIdeal.main_arg2)
      ∧ r.2.mem ((c.tc : Thread Cert.GateBIdeal.nD Cert.GateBIdeal.τ).loc Cert.GateBIdeal.main_arg3) = m ((c.tc : Thread Cert.GateBIdeal.nD Cert.GateBIdeal.τ).loc Cert.GateBIdeal.main_arg3)
      ∧ r.2.mem ((c.tc : Thread Cert.GateBIdeal.nD Cert.GateBIdeal.τ).loc Cert.GateBIdeal.main_arg4) = m ((c.tc : Thread Cert.GateBIdeal.nD Cert.GateBIdeal.τ).loc Cert.GateBIdeal.main_arg4)
      ∧ r.2.mem ((c.tc : Thread Cert.GateBIdeal.nD Cert.GateBIdeal.τ).loc Cert.GateBIdeal.main_arg5) = m ((c.tc : Thread Cert.GateBIdeal.nD Cert.GateBIdeal.τ).loc Cert.GateBIdeal.main_arg5))
      ∧ r.2.sem = fun _ => 0)

def quiescent_RefGateBIdeal [hRefGateBIdeal : Cert.RefGateBIdeal.Facts] : Prop :=
  ∀ (m : (ℓ : Loc Cert.RefGateBIdeal.nD Cert.RefGateBIdeal.τ Cert.RefGateBIdeal.sig) → Buf (Elt Ideal) ℓ) (g : Dev Cert.RefGateBIdeal.nD → PrngReg), Pre_RefGateBIdeal m →
    θ_run (Cert.RefGateBIdeal.defs (F := Ideal)) (onTc (τ := Cert.RefGateBIdeal.τ) (Cert.RefGateBIdeal.main (F := Ideal))) ⟨m, fun _ => 0, g⟩ (fun r => (∀ c : Dev Cert.RefGateBIdeal.nD,
      r.2.mem ((c.tc : Thread Cert.RefGateBIdeal.nD Cert.RefGateBIdeal.τ).loc Cert.RefGateBIdeal.main_arg0) = m ((c.tc : Thread Cert.RefGateBIdeal.nD Cert.RefGateBIdeal.τ).loc Cert.RefGateBIdeal.main_arg0)
      ∧ r.2.mem ((c.tc : Thread Cert.RefGateBIdeal.nD Cert.RefGateBIdeal.τ).loc Cert.RefGateBIdeal.main_arg1) = m ((c.tc : Thread Cert.RefGateBIdeal.nD Cert.RefGateBIdeal.τ).loc Cert.RefGateBIdeal.main_arg1)
      ∧ r.2.mem ((c.tc : Thread Cert.RefGateBIdeal.nD Cert.RefGateBIdeal.τ).loc Cert.RefGateBIdeal.main_arg2) = m ((c.tc : Thread Cert.RefGateBIdeal.nD Cert.RefGateBIdeal.τ).loc Cert.RefGateBIdeal.main_arg2)
      ∧ r.2.mem ((c.tc : Thread Cert.RefGateBIdeal.nD Cert.RefGateBIdeal.τ).loc Cert.RefGateBIdeal.main_arg3) = m ((c.tc : Thread Cert.RefGateBIdeal.nD Cert.RefGateBIdeal.τ).loc Cert.RefGateBIdeal.main_arg3)
      ∧ r.2.mem ((c.tc : Thread Cert.RefGateBIdeal.nD Cert.RefGateBIdeal.τ).loc Cert.RefGateBIdeal.main_arg4) = m ((c.tc : Thread Cert.RefGateBIdeal.nD Cert.RefGateBIdeal.τ).loc Cert.RefGateBIdeal.main_arg4)
      ∧ r.2.mem ((c.tc : Thread Cert.RefGateBIdeal.nD Cert.RefGateBIdeal.τ).loc Cert.RefGateBIdeal.main_arg5) = m ((c.tc : Thread Cert.RefGateBIdeal.nD Cert.RefGateBIdeal.τ).loc Cert.RefGateBIdeal.main_arg5))
      ∧ r.2.sem = fun _ => 0)

def quiescent_SwigluB [hSwigluB : Cert.SwigluB.Facts] : Prop :=
  ∀ (m : (ℓ : Loc Cert.SwigluB.nD Cert.SwigluB.τ Cert.SwigluB.sig) → Buf (Elt Bits) ℓ) (g : Dev Cert.SwigluB.nD → PrngReg), Pre_SwigluB m →
    θ_run (Cert.SwigluB.defs (F := Bits)) (onTc (τ := Cert.SwigluB.τ) (Cert.SwigluB.main (F := Bits))) ⟨m, fun _ => 0, g⟩ (fun r => (∀ c : Dev Cert.SwigluB.nD,
      r.2.mem ((c.tc : Thread Cert.SwigluB.nD Cert.SwigluB.τ).loc Cert.SwigluB.main_arg0) = m ((c.tc : Thread Cert.SwigluB.nD Cert.SwigluB.τ).loc Cert.SwigluB.main_arg0)
      ∧ r.2.mem ((c.tc : Thread Cert.SwigluB.nD Cert.SwigluB.τ).loc Cert.SwigluB.main_arg1) = m ((c.tc : Thread Cert.SwigluB.nD Cert.SwigluB.τ).loc Cert.SwigluB.main_arg1)
      ∧ r.2.mem ((c.tc : Thread Cert.SwigluB.nD Cert.SwigluB.τ).loc Cert.SwigluB.main_arg2) = m ((c.tc : Thread Cert.SwigluB.nD Cert.SwigluB.τ).loc Cert.SwigluB.main_arg2)
      ∧ r.2.mem ((c.tc : Thread Cert.SwigluB.nD Cert.SwigluB.τ).loc Cert.SwigluB.main_arg3) = m ((c.tc : Thread Cert.SwigluB.nD Cert.SwigluB.τ).loc Cert.SwigluB.main_arg3))
      ∧ r.2.sem = fun _ => 0)

def quiescent_SwigluBIdeal [hSwigluBIdeal : Cert.SwigluBIdeal.Facts] : Prop :=
  ∀ (m : (ℓ : Loc Cert.SwigluBIdeal.nD Cert.SwigluBIdeal.τ Cert.SwigluBIdeal.sig) → Buf (Elt Ideal) ℓ) (g : Dev Cert.SwigluBIdeal.nD → PrngReg), Pre_SwigluBIdeal m →
    θ_run (Cert.SwigluBIdeal.defs (F := Ideal)) (onTc (τ := Cert.SwigluBIdeal.τ) (Cert.SwigluBIdeal.main (F := Ideal))) ⟨m, fun _ => 0, g⟩ (fun r => (∀ c : Dev Cert.SwigluBIdeal.nD,
      r.2.mem ((c.tc : Thread Cert.SwigluBIdeal.nD Cert.SwigluBIdeal.τ).loc Cert.SwigluBIdeal.main_arg0) = m ((c.tc : Thread Cert.SwigluBIdeal.nD Cert.SwigluBIdeal.τ).loc Cert.SwigluBIdeal.main_arg0)
      ∧ r.2.mem ((c.tc : Thread Cert.SwigluBIdeal.nD Cert.SwigluBIdeal.τ).loc Cert.SwigluBIdeal.main_arg1) = m ((c.tc : Thread Cert.SwigluBIdeal.nD Cert.SwigluBIdeal.τ).loc Cert.SwigluBIdeal.main_arg1)
      ∧ r.2.mem ((c.tc : Thread Cert.SwigluBIdeal.nD Cert.SwigluBIdeal.τ).loc Cert.SwigluBIdeal.main_arg2) = m ((c.tc : Thread Cert.SwigluBIdeal.nD Cert.SwigluBIdeal.τ).loc Cert.SwigluBIdeal.main_arg2)
      ∧ r.2.mem ((c.tc : Thread Cert.SwigluBIdeal.nD Cert.SwigluBIdeal.τ).loc Cert.SwigluBIdeal.main_arg3) = m ((c.tc : Thread Cert.SwigluBIdeal.nD Cert.SwigluBIdeal.τ).loc Cert.SwigluBIdeal.main_arg3))
      ∧ r.2.sem = fun _ => 0)

def quiescent_SwigluBIdeal_pre_finite_bdown [hSwigluBIdeal : Cert.SwigluBIdeal.Facts] [hPre_finite_bdown : Cert.Pre_finite_bdown.Facts] : Prop :=
  ∀ (m : (ℓ : Loc Cert.SwigluBIdeal.nD Cert.SwigluBIdeal.τ Cert.SwigluBIdeal.sig) → Buf (Elt Ideal) ℓ) (g : Dev Cert.SwigluBIdeal.nD → PrngReg), Pre_SwigluBIdeal_finite_bdown m →
    θ_run (Cert.SwigluBIdeal.defs (F := Ideal)) (onTc (τ := Cert.SwigluBIdeal.τ) (Cert.SwigluBIdeal.main (F := Ideal))) ⟨m, fun _ => 0, g⟩ (fun r => (∀ c : Dev Cert.SwigluBIdeal.nD,
      r.2.mem ((c.tc : Thread Cert.SwigluBIdeal.nD Cert.SwigluBIdeal.τ).loc Cert.SwigluBIdeal.main_arg0) = m ((c.tc : Thread Cert.SwigluBIdeal.nD Cert.SwigluBIdeal.τ).loc Cert.SwigluBIdeal.main_arg0)
      ∧ r.2.mem ((c.tc : Thread Cert.SwigluBIdeal.nD Cert.SwigluBIdeal.τ).loc Cert.SwigluBIdeal.main_arg1) = m ((c.tc : Thread Cert.SwigluBIdeal.nD Cert.SwigluBIdeal.τ).loc Cert.SwigluBIdeal.main_arg1)
      ∧ r.2.mem ((c.tc : Thread Cert.SwigluBIdeal.nD Cert.SwigluBIdeal.τ).loc Cert.SwigluBIdeal.main_arg2) = m ((c.tc : Thread Cert.SwigluBIdeal.nD Cert.SwigluBIdeal.τ).loc Cert.SwigluBIdeal.main_arg2)
      ∧ r.2.mem ((c.tc : Thread Cert.SwigluBIdeal.nD Cert.SwigluBIdeal.τ).loc Cert.SwigluBIdeal.main_arg3) = m ((c.tc : Thread Cert.SwigluBIdeal.nD Cert.SwigluBIdeal.τ).loc Cert.SwigluBIdeal.main_arg3))
      ∧ r.2.sem = fun _ => 0)

def quiescent_RefSwigluBIdeal [hRefSwigluBIdeal : Cert.RefSwigluBIdeal.Facts] : Prop :=
  ∀ (m : (ℓ : Loc Cert.RefSwigluBIdeal.nD Cert.RefSwigluBIdeal.τ Cert.RefSwigluBIdeal.sig) → Buf (Elt Ideal) ℓ) (g : Dev Cert.RefSwigluBIdeal.nD → PrngReg), Pre_RefSwigluBIdeal m →
    θ_run (Cert.RefSwigluBIdeal.defs (F := Ideal)) (onTc (τ := Cert.RefSwigluBIdeal.τ) (Cert.RefSwigluBIdeal.main (F := Ideal))) ⟨m, fun _ => 0, g⟩ (fun r => (∀ c : Dev Cert.RefSwigluBIdeal.nD,
      r.2.mem ((c.tc : Thread Cert.RefSwigluBIdeal.nD Cert.RefSwigluBIdeal.τ).loc Cert.RefSwigluBIdeal.main_arg0) = m ((c.tc : Thread Cert.RefSwigluBIdeal.nD Cert.RefSwigluBIdeal.τ).loc Cert.RefSwigluBIdeal.main_arg0)
      ∧ r.2.mem ((c.tc : Thread Cert.RefSwigluBIdeal.nD Cert.RefSwigluBIdeal.τ).loc Cert.RefSwigluBIdeal.main_arg1) = m ((c.tc : Thread Cert.RefSwigluBIdeal.nD Cert.RefSwigluBIdeal.τ).loc Cert.RefSwigluBIdeal.main_arg1)
      ∧ r.2.mem ((c.tc : Thread Cert.RefSwigluBIdeal.nD Cert.RefSwigluBIdeal.τ).loc Cert.RefSwigluBIdeal.main_arg2) = m ((c.tc : Thread Cert.RefSwigluBIdeal.nD Cert.RefSwigluBIdeal.τ).loc Cert.RefSwigluBIdeal.main_arg2)
      ∧ r.2.mem ((c.tc : Thread Cert.RefSwigluBIdeal.nD Cert.RefSwigluBIdeal.τ).loc Cert.RefSwigluBIdeal.main_arg3) = m ((c.tc : Thread Cert.RefSwigluBIdeal.nD Cert.RefSwigluBIdeal.τ).loc Cert.RefSwigluBIdeal.main_arg3))
      ∧ r.2.sem = fun _ => 0)

def quiescent_RefSwigluBIdeal_pre_finite_bdown [hRefSwigluBIdeal : Cert.RefSwigluBIdeal.Facts] [hPre_finite_bdown : Cert.Pre_finite_bdown.Facts] : Prop :=
  ∀ (m : (ℓ : Loc Cert.RefSwigluBIdeal.nD Cert.RefSwigluBIdeal.τ Cert.RefSwigluBIdeal.sig) → Buf (Elt Ideal) ℓ) (g : Dev Cert.RefSwigluBIdeal.nD → PrngReg), Pre_RefSwigluBIdeal_finite_bdown m →
    θ_run (Cert.RefSwigluBIdeal.defs (F := Ideal)) (onTc (τ := Cert.RefSwigluBIdeal.τ) (Cert.RefSwigluBIdeal.main (F := Ideal))) ⟨m, fun _ => 0, g⟩ (fun r => (∀ c : Dev Cert.RefSwigluBIdeal.nD,
      r.2.mem ((c.tc : Thread Cert.RefSwigluBIdeal.nD Cert.RefSwigluBIdeal.τ).loc Cert.RefSwigluBIdeal.main_arg0) = m ((c.tc : Thread Cert.RefSwigluBIdeal.nD Cert.RefSwigluBIdeal.τ).loc Cert.RefSwigluBIdeal.main_arg0)
      ∧ r.2.mem ((c.tc : Thread Cert.RefSwigluBIdeal.nD Cert.RefSwigluBIdeal.τ).loc Cert.RefSwigluBIdeal.main_arg1) = m ((c.tc : Thread Cert.RefSwigluBIdeal.nD Cert.RefSwigluBIdeal.τ).loc Cert.RefSwigluBIdeal.main_arg1)
      ∧ r.2.mem ((c.tc : Thread Cert.RefSwigluBIdeal.nD Cert.RefSwigluBIdeal.τ).loc Cert.RefSwigluBIdeal.main_arg2) = m ((c.tc : Thread Cert.RefSwigluBIdeal.nD Cert.RefSwigluBIdeal.τ).loc Cert.RefSwigluBIdeal.main_arg2)
      ∧ r.2.mem ((c.tc : Thread Cert.RefSwigluBIdeal.nD Cert.RefSwigluBIdeal.τ).loc Cert.RefSwigluBIdeal.main_arg3) = m ((c.tc : Thread Cert.RefSwigluBIdeal.nD Cert.RefSwigluBIdeal.τ).loc Cert.RefSwigluBIdeal.main_arg3))
      ∧ r.2.sem = fun _ => 0)

def quiescent_NormB [hNormB : Cert.NormB.Facts] : Prop :=
  ∀ (m : (ℓ : Loc Cert.NormB.nD Cert.NormB.τ Cert.NormB.sig) → Buf (Elt Bits) ℓ) (g : Dev Cert.NormB.nD → PrngReg), Pre_NormB m →
    θ_run (Cert.NormB.defs (F := Bits)) (onTc (τ := Cert.NormB.τ) (Cert.NormB.main (F := Bits))) ⟨m, fun _ => 0, g⟩ (fun r => (∀ c : Dev Cert.NormB.nD,
      r.2.mem ((c.tc : Thread Cert.NormB.nD Cert.NormB.τ).loc Cert.NormB.main_arg0) = m ((c.tc : Thread Cert.NormB.nD Cert.NormB.τ).loc Cert.NormB.main_arg0)
      ∧ r.2.mem ((c.tc : Thread Cert.NormB.nD Cert.NormB.τ).loc Cert.NormB.main_arg1) = m ((c.tc : Thread Cert.NormB.nD Cert.NormB.τ).loc Cert.NormB.main_arg1)
      ∧ r.2.mem ((c.tc : Thread Cert.NormB.nD Cert.NormB.τ).loc Cert.NormB.main_arg2) = m ((c.tc : Thread Cert.NormB.nD Cert.NormB.τ).loc Cert.NormB.main_arg2)
      ∧ r.2.mem ((c.tc : Thread Cert.NormB.nD Cert.NormB.τ).loc Cert.NormB.main_arg3) = m ((c.tc : Thread Cert.NormB.nD Cert.NormB.τ).loc Cert.NormB.main_arg3)
      ∧ r.2.mem ((c.tc : Thread Cert.NormB.nD Cert.NormB.τ).loc Cert.NormB.main_arg4) = m ((c.tc : Thread Cert.NormB.nD Cert.NormB.τ).loc Cert.NormB.main_arg4))
      ∧ r.2.sem = fun _ => 0)

def quiescent_NormBIdeal [hNormBIdeal : Cert.NormBIdeal.Facts] : Prop :=
  ∀ (m : (ℓ : Loc Cert.NormBIdeal.nD Cert.NormBIdeal.τ Cert.NormBIdeal.sig) → Buf (Elt Ideal) ℓ) (g : Dev Cert.NormBIdeal.nD → PrngReg), Pre_NormBIdeal m →
    θ_run (Cert.NormBIdeal.defs (F := Ideal)) (onTc (τ := Cert.NormBIdeal.τ) (Cert.NormBIdeal.main (F := Ideal))) ⟨m, fun _ => 0, g⟩ (fun r => (∀ c : Dev Cert.NormBIdeal.nD,
      r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
      ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
      ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
      ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3)
      ∧ r.2.mem ((c.tc : Thread Cert.NormBIdeal.nD Cert.NormBIdeal.τ).loc Cert.NormBIdeal.main_arg4) = m ((c.tc : Thread Cert.NormBIdeal.nD Cert.NormBIdeal.τ).loc Cert.NormBIdeal.main_arg4))
      ∧ r.2.sem = fun _ => 0)

def quiescent_NormBIdeal_pre_finite_bconv [hNormBIdeal : Cert.NormBIdeal.Facts] [hPre_finite_bconv : Cert.Pre_finite_bconv.Facts] : Prop :=
  ∀ (m : (ℓ : Loc Cert.NormBIdeal.nD Cert.NormBIdeal.τ Cert.NormBIdeal.sig) → Buf (Elt Ideal) ℓ) (g : Dev Cert.NormBIdeal.nD → PrngReg), Pre_NormBIdeal_finite_bconv m →
    θ_run (Cert.NormBIdeal.defs (F := Ideal)) (onTc (τ := Cert.NormBIdeal.τ) (Cert.NormBIdeal.main (F := Ideal))) ⟨m, fun _ => 0, g⟩ (fun r => (∀ c : Dev Cert.NormBIdeal.nD,
      r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
      ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
      ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
      ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3)
      ∧ r.2.mem ((c.tc : Thread Cert.NormBIdeal.nD Cert.NormBIdeal.τ).loc Cert.NormBIdeal.main_arg4) = m ((c.tc : Thread Cert.NormBIdeal.nD Cert.NormBIdeal.τ).loc Cert.NormBIdeal.main_arg4))
      ∧ r.2.sem = fun _ => 0)

def quiescent_RefNormBIdeal [hRefNormBIdeal : Cert.RefNormBIdeal.Facts] : Prop :=
  ∀ (m : (ℓ : Loc Cert.RefNormBIdeal.nD Cert.RefNormBIdeal.τ Cert.RefNormBIdeal.sig) → Buf (Elt Ideal) ℓ) (g : Dev Cert.RefNormBIdeal.nD → PrngReg), Pre_RefNormBIdeal m →
    θ_run (Cert.RefNormBIdeal.defs (F := Ideal)) (onTc (τ := Cert.RefNormBIdeal.τ) (Cert.RefNormBIdeal.main (F := Ideal))) ⟨m, fun _ => 0, g⟩ (fun r => (∀ c : Dev Cert.RefNormBIdeal.nD,
      r.2.mem ((c.tc : Thread Cert.RefNormBIdeal.nD Cert.RefNormBIdeal.τ).loc Cert.RefNormBIdeal.main_arg0) = m ((c.tc : Thread Cert.RefNormBIdeal.nD Cert.RefNormBIdeal.τ).loc Cert.RefNormBIdeal.main_arg0)
      ∧ r.2.mem ((c.tc : Thread Cert.RefNormBIdeal.nD Cert.RefNormBIdeal.τ).loc Cert.RefNormBIdeal.main_arg1) = m ((c.tc : Thread Cert.RefNormBIdeal.nD Cert.RefNormBIdeal.τ).loc Cert.RefNormBIdeal.main_arg1)
      ∧ r.2.mem ((c.tc : Thread Cert.RefNormBIdeal.nD Cert.RefNormBIdeal.τ).loc Cert.RefNormBIdeal.main_arg2) = m ((c.tc : Thread Cert.RefNormBIdeal.nD Cert.RefNormBIdeal.τ).loc Cert.RefNormBIdeal.main_arg2)
      ∧ r.2.mem ((c.tc : Thread Cert.RefNormBIdeal.nD Cert.RefNormBIdeal.τ).loc Cert.RefNormBIdeal.main_arg3) = m ((c.tc : Thread Cert.RefNormBIdeal.nD Cert.RefNormBIdeal.τ).loc Cert.RefNormBIdeal.main_arg3)
      ∧ r.2.mem ((c.tc : Thread Cert.RefNormBIdeal.nD Cert.RefNormBIdeal.τ).loc Cert.RefNormBIdeal.main_arg4) = m ((c.tc : Thread Cert.RefNormBIdeal.nD Cert.RefNormBIdeal.τ).loc Cert.RefNormBIdeal.main_arg4))
      ∧ r.2.sem = fun _ => 0)

def quiescent_RefNormBIdeal_pre_finite_bconv [hRefNormBIdeal : Cert.RefNormBIdeal.Facts] [hPre_finite_bconv : Cert.Pre_finite_bconv.Facts] : Prop :=
  ∀ (m : (ℓ : Loc Cert.RefNormBIdeal.nD Cert.RefNormBIdeal.τ Cert.RefNormBIdeal.sig) → Buf (Elt Ideal) ℓ) (g : Dev Cert.RefNormBIdeal.nD → PrngReg), Pre_RefNormBIdeal_finite_bconv m →
    θ_run (Cert.RefNormBIdeal.defs (F := Ideal)) (onTc (τ := Cert.RefNormBIdeal.τ) (Cert.RefNormBIdeal.main (F := Ideal))) ⟨m, fun _ => 0, g⟩ (fun r => (∀ c : Dev Cert.RefNormBIdeal.nD,
      r.2.mem ((c.tc : Thread Cert.RefNormBIdeal.nD Cert.RefNormBIdeal.τ).loc Cert.RefNormBIdeal.main_arg0) = m ((c.tc : Thread Cert.RefNormBIdeal.nD Cert.RefNormBIdeal.τ).loc Cert.RefNormBIdeal.main_arg0)
      ∧ r.2.mem ((c.tc : Thread Cert.RefNormBIdeal.nD Cert.RefNormBIdeal.τ).loc Cert.RefNormBIdeal.main_arg1) = m ((c.tc : Thread Cert.RefNormBIdeal.nD Cert.RefNormBIdeal.τ).loc Cert.RefNormBIdeal.main_arg1)
      ∧ r.2.mem ((c.tc : Thread Cert.RefNormBIdeal.nD Cert.RefNormBIdeal.τ).loc Cert.RefNormBIdeal.main_arg2) = m ((c.tc : Thread Cert.RefNormBIdeal.nD Cert.RefNormBIdeal.τ).loc Cert.RefNormBIdeal.main_arg2)
      ∧ r.2.mem ((c.tc : Thread Cert.RefNormBIdeal.nD Cert.RefNormBIdeal.τ).loc Cert.RefNormBIdeal.main_arg3) = m ((c.tc : Thread Cert.RefNormBIdeal.nD Cert.RefNormBIdeal.τ).loc Cert.RefNormBIdeal.main_arg3)
      ∧ r.2.mem ((c.tc : Thread Cert.RefNormBIdeal.nD Cert.RefNormBIdeal.τ).loc Cert.RefNormBIdeal.main_arg4) = m ((c.tc : Thread Cert.RefNormBIdeal.nD Cert.RefNormBIdeal.τ).loc Cert.RefNormBIdeal.main_arg4))
      ∧ r.2.sem = fun _ => 0)

def quiescent_RmsB [hRmsB : Cert.RmsB.Facts] : Prop :=
  ∀ (m : (ℓ : Loc Cert.RmsB.nD Cert.RmsB.τ Cert.RmsB.sig) → Buf (Elt Bits) ℓ) (g : Dev Cert.RmsB.nD → PrngReg), Pre_RmsB m →
    θ_run (Cert.RmsB.defs (F := Bits)) (onTc (τ := Cert.RmsB.τ) (Cert.RmsB.main (F := Bits))) ⟨m, fun _ => 0, g⟩ (fun r => (∀ c : Dev Cert.RmsB.nD,
      r.2.mem ((c.tc : Thread Cert.RmsB.nD Cert.RmsB.τ).loc Cert.RmsB.main_arg0) = m ((c.tc : Thread Cert.RmsB.nD Cert.RmsB.τ).loc Cert.RmsB.main_arg0)
      ∧ r.2.mem ((c.tc : Thread Cert.RmsB.nD Cert.RmsB.τ).loc Cert.RmsB.main_arg1) = m ((c.tc : Thread Cert.RmsB.nD Cert.RmsB.τ).loc Cert.RmsB.main_arg1)
      ∧ r.2.mem ((c.tc : Thread Cert.RmsB.nD Cert.RmsB.τ).loc Cert.RmsB.main_arg2) = m ((c.tc : Thread Cert.RmsB.nD Cert.RmsB.τ).loc Cert.RmsB.main_arg2)
      ∧ r.2.mem ((c.tc : Thread Cert.RmsB.nD Cert.RmsB.τ).loc Cert.RmsB.main_arg3) = m ((c.tc : Thread Cert.RmsB.nD Cert.RmsB.τ).loc Cert.RmsB.main_arg3)
      ∧ r.2.mem ((c.tc : Thread Cert.RmsB.nD Cert.RmsB.τ).loc Cert.RmsB.main_arg4) = m ((c.tc : Thread Cert.RmsB.nD Cert.RmsB.τ).loc Cert.RmsB.main_arg4)
      ∧ r.2.mem ((c.tc : Thread Cert.RmsB.nD Cert.RmsB.τ).loc Cert.RmsB.main_arg5) = m ((c.tc : Thread Cert.RmsB.nD Cert.RmsB.τ).loc Cert.RmsB.main_arg5)
      ∧ r.2.mem ((c.tc : Thread Cert.RmsB.nD Cert.RmsB.τ).loc Cert.RmsB.main_arg6) = m ((c.tc : Thread Cert.RmsB.nD Cert.RmsB.τ).loc Cert.RmsB.main_arg6)
      ∧ r.2.mem ((c.tc : Thread Cert.RmsB.nD Cert.RmsB.τ).loc Cert.RmsB.main_arg7) = m ((c.tc : Thread Cert.RmsB.nD Cert.RmsB.τ).loc Cert.RmsB.main_arg7)
      ∧ r.2.mem ((c.tc : Thread Cert.RmsB.nD Cert.RmsB.τ).loc Cert.RmsB.main_arg8) = m ((c.tc : Thread Cert.RmsB.nD Cert.RmsB.τ).loc Cert.RmsB.main_arg8)
      ∧ r.2.mem ((c.tc : Thread Cert.RmsB.nD Cert.RmsB.τ).loc Cert.RmsB.main_arg9) = m ((c.tc : Thread Cert.RmsB.nD Cert.RmsB.τ).loc Cert.RmsB.main_arg9)
      ∧ r.2.mem ((c.tc : Thread Cert.RmsB.nD Cert.RmsB.τ).loc Cert.RmsB.main_arg10) = m ((c.tc : Thread Cert.RmsB.nD Cert.RmsB.τ).loc Cert.RmsB.main_arg10))
      ∧ r.2.sem = fun _ => 0)

def quiescent_RmsBIdeal [hRmsBIdeal : Cert.RmsBIdeal.Facts] : Prop :=
  ∀ (m : (ℓ : Loc Cert.RmsBIdeal.nD Cert.RmsBIdeal.τ Cert.RmsBIdeal.sig) → Buf (Elt Ideal) ℓ) (g : Dev Cert.RmsBIdeal.nD → PrngReg), Pre_RmsBIdeal m →
    θ_run (Cert.RmsBIdeal.defs (F := Ideal)) (onTc (τ := Cert.RmsBIdeal.τ) (Cert.RmsBIdeal.main (F := Ideal))) ⟨m, fun _ => 0, g⟩ (fun r => (∀ c : Dev Cert.RmsBIdeal.nD,
      r.2.mem ((c.tc : Thread Cert.RmsBIdeal.nD Cert.RmsBIdeal.τ).loc Cert.RmsBIdeal.main_arg0) = m ((c.tc : Thread Cert.RmsBIdeal.nD Cert.RmsBIdeal.τ).loc Cert.RmsBIdeal.main_arg0)
      ∧ r.2.mem ((c.tc : Thread Cert.RmsBIdeal.nD Cert.RmsBIdeal.τ).loc Cert.RmsBIdeal.main_arg1) = m ((c.tc : Thread Cert.RmsBIdeal.nD Cert.RmsBIdeal.τ).loc Cert.RmsBIdeal.main_arg1)
      ∧ r.2.mem ((c.tc : Thread Cert.RmsBIdeal.nD Cert.RmsBIdeal.τ).loc Cert.RmsBIdeal.main_arg2) = m ((c.tc : Thread Cert.RmsBIdeal.nD Cert.RmsBIdeal.τ).loc Cert.RmsBIdeal.main_arg2)
      ∧ r.2.mem ((c.tc : Thread Cert.RmsBIdeal.nD Cert.RmsBIdeal.τ).loc Cert.RmsBIdeal.main_arg3) = m ((c.tc : Thread Cert.RmsBIdeal.nD Cert.RmsBIdeal.τ).loc Cert.RmsBIdeal.main_arg3)
      ∧ r.2.mem ((c.tc : Thread Cert.RmsBIdeal.nD Cert.RmsBIdeal.τ).loc Cert.RmsBIdeal.main_arg4) = m ((c.tc : Thread Cert.RmsBIdeal.nD Cert.RmsBIdeal.τ).loc Cert.RmsBIdeal.main_arg4)
      ∧ r.2.mem ((c.tc : Thread Cert.RmsBIdeal.nD Cert.RmsBIdeal.τ).loc Cert.RmsBIdeal.main_arg5) = m ((c.tc : Thread Cert.RmsBIdeal.nD Cert.RmsBIdeal.τ).loc Cert.RmsBIdeal.main_arg5)
      ∧ r.2.mem ((c.tc : Thread Cert.RmsBIdeal.nD Cert.RmsBIdeal.τ).loc Cert.RmsBIdeal.main_arg6) = m ((c.tc : Thread Cert.RmsBIdeal.nD Cert.RmsBIdeal.τ).loc Cert.RmsBIdeal.main_arg6)
      ∧ r.2.mem ((c.tc : Thread Cert.RmsBIdeal.nD Cert.RmsBIdeal.τ).loc Cert.RmsBIdeal.main_arg7) = m ((c.tc : Thread Cert.RmsBIdeal.nD Cert.RmsBIdeal.τ).loc Cert.RmsBIdeal.main_arg7)
      ∧ r.2.mem ((c.tc : Thread Cert.RmsBIdeal.nD Cert.RmsBIdeal.τ).loc Cert.RmsBIdeal.main_arg8) = m ((c.tc : Thread Cert.RmsBIdeal.nD Cert.RmsBIdeal.τ).loc Cert.RmsBIdeal.main_arg8)
      ∧ r.2.mem ((c.tc : Thread Cert.RmsBIdeal.nD Cert.RmsBIdeal.τ).loc Cert.RmsBIdeal.main_arg9) = m ((c.tc : Thread Cert.RmsBIdeal.nD Cert.RmsBIdeal.τ).loc Cert.RmsBIdeal.main_arg9)
      ∧ r.2.mem ((c.tc : Thread Cert.RmsBIdeal.nD Cert.RmsBIdeal.τ).loc Cert.RmsBIdeal.main_arg10) = m ((c.tc : Thread Cert.RmsBIdeal.nD Cert.RmsBIdeal.τ).loc Cert.RmsBIdeal.main_arg10))
      ∧ r.2.sem = fun _ => 0)

def quiescent_RmsBIdeal_pre_finite_bup [hRmsBIdeal : Cert.RmsBIdeal.Facts] [hPre_finite_bup : Cert.Pre_finite_bup.Facts] : Prop :=
  ∀ (m : (ℓ : Loc Cert.RmsBIdeal.nD Cert.RmsBIdeal.τ Cert.RmsBIdeal.sig) → Buf (Elt Ideal) ℓ) (g : Dev Cert.RmsBIdeal.nD → PrngReg), Pre_RmsBIdeal_finite_bup m →
    θ_run (Cert.RmsBIdeal.defs (F := Ideal)) (onTc (τ := Cert.RmsBIdeal.τ) (Cert.RmsBIdeal.main (F := Ideal))) ⟨m, fun _ => 0, g⟩ (fun r => (∀ c : Dev Cert.RmsBIdeal.nD,
      r.2.mem ((c.tc : Thread Cert.RmsBIdeal.nD Cert.RmsBIdeal.τ).loc Cert.RmsBIdeal.main_arg0) = m ((c.tc : Thread Cert.RmsBIdeal.nD Cert.RmsBIdeal.τ).loc Cert.RmsBIdeal.main_arg0)
      ∧ r.2.mem ((c.tc : Thread Cert.RmsBIdeal.nD Cert.RmsBIdeal.τ).loc Cert.RmsBIdeal.main_arg1) = m ((c.tc : Thread Cert.RmsBIdeal.nD Cert.RmsBIdeal.τ).loc Cert.RmsBIdeal.main_arg1)
      ∧ r.2.mem ((c.tc : Thread Cert.RmsBIdeal.nD Cert.RmsBIdeal.τ).loc Cert.RmsBIdeal.main_arg2) = m ((c.tc : Thread Cert.RmsBIdeal.nD Cert.RmsBIdeal.τ).loc Cert.RmsBIdeal.main_arg2)
      ∧ r.2.mem ((c.tc : Thread Cert.RmsBIdeal.nD Cert.RmsBIdeal.τ).loc Cert.RmsBIdeal.main_arg3) = m ((c.tc : Thread Cert.RmsBIdeal.nD Cert.RmsBIdeal.τ).loc Cert.RmsBIdeal.main_arg3)
      ∧ r.2.mem ((c.tc : Thread Cert.RmsBIdeal.nD Cert.RmsBIdeal.τ).loc Cert.RmsBIdeal.main_arg4) = m ((c.tc : Thread Cert.RmsBIdeal.nD Cert.RmsBIdeal.τ).loc Cert.RmsBIdeal.main_arg4)
      ∧ r.2.mem ((c.tc : Thread Cert.RmsBIdeal.nD Cert.RmsBIdeal.τ).loc Cert.RmsBIdeal.main_arg5) = m ((c.tc : Thread Cert.RmsBIdeal.nD Cert.RmsBIdeal.τ).loc Cert.RmsBIdeal.main_arg5)
      ∧ r.2.mem ((c.tc : Thread Cert.RmsBIdeal.nD Cert.RmsBIdeal.τ).loc Cert.RmsBIdeal.main_arg6) = m ((c.tc : Thread Cert.RmsBIdeal.nD Cert.RmsBIdeal.τ).loc Cert.RmsBIdeal.main_arg6)
      ∧ r.2.mem ((c.tc : Thread Cert.RmsBIdeal.nD Cert.RmsBIdeal.τ).loc Cert.RmsBIdeal.main_arg7) = m ((c.tc : Thread Cert.RmsBIdeal.nD Cert.RmsBIdeal.τ).loc Cert.RmsBIdeal.main_arg7)
      ∧ r.2.mem ((c.tc : Thread Cert.RmsBIdeal.nD Cert.RmsBIdeal.τ).loc Cert.RmsBIdeal.main_arg8) = m ((c.tc : Thread Cert.RmsBIdeal.nD Cert.RmsBIdeal.τ).loc Cert.RmsBIdeal.main_arg8)
      ∧ r.2.mem ((c.tc : Thread Cert.RmsBIdeal.nD Cert.RmsBIdeal.τ).loc Cert.RmsBIdeal.main_arg9) = m ((c.tc : Thread Cert.RmsBIdeal.nD Cert.RmsBIdeal.τ).loc Cert.RmsBIdeal.main_arg9)
      ∧ r.2.mem ((c.tc : Thread Cert.RmsBIdeal.nD Cert.RmsBIdeal.τ).loc Cert.RmsBIdeal.main_arg10) = m ((c.tc : Thread Cert.RmsBIdeal.nD Cert.RmsBIdeal.τ).loc Cert.RmsBIdeal.main_arg10))
      ∧ r.2.sem = fun _ => 0)

def quiescent_RefRmsBIdeal [hRefRmsBIdeal : Cert.RefRmsBIdeal.Facts] : Prop :=
  ∀ (m : (ℓ : Loc Cert.RefRmsBIdeal.nD Cert.RefRmsBIdeal.τ Cert.RefRmsBIdeal.sig) → Buf (Elt Ideal) ℓ) (g : Dev Cert.RefRmsBIdeal.nD → PrngReg), Pre_RefRmsBIdeal m →
    θ_run (Cert.RefRmsBIdeal.defs (F := Ideal)) (onTc (τ := Cert.RefRmsBIdeal.τ) (Cert.RefRmsBIdeal.main (F := Ideal))) ⟨m, fun _ => 0, g⟩ (fun r => (∀ c : Dev Cert.RefRmsBIdeal.nD,
      r.2.mem ((c.tc : Thread Cert.RefRmsBIdeal.nD Cert.RefRmsBIdeal.τ).loc Cert.RefRmsBIdeal.main_arg0) = m ((c.tc : Thread Cert.RefRmsBIdeal.nD Cert.RefRmsBIdeal.τ).loc Cert.RefRmsBIdeal.main_arg0)
      ∧ r.2.mem ((c.tc : Thread Cert.RefRmsBIdeal.nD Cert.RefRmsBIdeal.τ).loc Cert.RefRmsBIdeal.main_arg1) = m ((c.tc : Thread Cert.RefRmsBIdeal.nD Cert.RefRmsBIdeal.τ).loc Cert.RefRmsBIdeal.main_arg1)
      ∧ r.2.mem ((c.tc : Thread Cert.RefRmsBIdeal.nD Cert.RefRmsBIdeal.τ).loc Cert.RefRmsBIdeal.main_arg2) = m ((c.tc : Thread Cert.RefRmsBIdeal.nD Cert.RefRmsBIdeal.τ).loc Cert.RefRmsBIdeal.main_arg2)
      ∧ r.2.mem ((c.tc : Thread Cert.RefRmsBIdeal.nD Cert.RefRmsBIdeal.τ).loc Cert.RefRmsBIdeal.main_arg3) = m ((c.tc : Thread Cert.RefRmsBIdeal.nD Cert.RefRmsBIdeal.τ).loc Cert.RefRmsBIdeal.main_arg3)
      ∧ r.2.mem ((c.tc : Thread Cert.RefRmsBIdeal.nD Cert.RefRmsBIdeal.τ).loc Cert.RefRmsBIdeal.main_arg4) = m ((c.tc : Thread Cert.RefRmsBIdeal.nD Cert.RefRmsBIdeal.τ).loc Cert.RefRmsBIdeal.main_arg4)
      ∧ r.2.mem ((c.tc : Thread Cert.RefRmsBIdeal.nD Cert.RefRmsBIdeal.τ).loc Cert.RefRmsBIdeal.main_arg5) = m ((c.tc : Thread Cert.RefRmsBIdeal.nD Cert.RefRmsBIdeal.τ).loc Cert.RefRmsBIdeal.main_arg5)
      ∧ r.2.mem ((c.tc : Thread Cert.RefRmsBIdeal.nD Cert.RefRmsBIdeal.τ).loc Cert.RefRmsBIdeal.main_arg6) = m ((c.tc : Thread Cert.RefRmsBIdeal.nD Cert.RefRmsBIdeal.τ).loc Cert.RefRmsBIdeal.main_arg6)
      ∧ r.2.mem ((c.tc : Thread Cert.RefRmsBIdeal.nD Cert.RefRmsBIdeal.τ).loc Cert.RefRmsBIdeal.main_arg7) = m ((c.tc : Thread Cert.RefRmsBIdeal.nD Cert.RefRmsBIdeal.τ).loc Cert.RefRmsBIdeal.main_arg7)
      ∧ r.2.mem ((c.tc : Thread Cert.RefRmsBIdeal.nD Cert.RefRmsBIdeal.τ).loc Cert.RefRmsBIdeal.main_arg8) = m ((c.tc : Thread Cert.RefRmsBIdeal.nD Cert.RefRmsBIdeal.τ).loc Cert.RefRmsBIdeal.main_arg8)
      ∧ r.2.mem ((c.tc : Thread Cert.RefRmsBIdeal.nD Cert.RefRmsBIdeal.τ).loc Cert.RefRmsBIdeal.main_arg9) = m ((c.tc : Thread Cert.RefRmsBIdeal.nD Cert.RefRmsBIdeal.τ).loc Cert.RefRmsBIdeal.main_arg9)
      ∧ r.2.mem ((c.tc : Thread Cert.RefRmsBIdeal.nD Cert.RefRmsBIdeal.τ).loc Cert.RefRmsBIdeal.main_arg10) = m ((c.tc : Thread Cert.RefRmsBIdeal.nD Cert.RefRmsBIdeal.τ).loc Cert.RefRmsBIdeal.main_arg10))
      ∧ r.2.sem = fun _ => 0)

def quiescent_RefRmsBIdeal_pre_finite_bup [hRefRmsBIdeal : Cert.RefRmsBIdeal.Facts] [hPre_finite_bup : Cert.Pre_finite_bup.Facts] : Prop :=
  ∀ (m : (ℓ : Loc Cert.RefRmsBIdeal.nD Cert.RefRmsBIdeal.τ Cert.RefRmsBIdeal.sig) → Buf (Elt Ideal) ℓ) (g : Dev Cert.RefRmsBIdeal.nD → PrngReg), Pre_RefRmsBIdeal_finite_bup m →
    θ_run (Cert.RefRmsBIdeal.defs (F := Ideal)) (onTc (τ := Cert.RefRmsBIdeal.τ) (Cert.RefRmsBIdeal.main (F := Ideal))) ⟨m, fun _ => 0, g⟩ (fun r => (∀ c : Dev Cert.RefRmsBIdeal.nD,
      r.2.mem ((c.tc : Thread Cert.RefRmsBIdeal.nD Cert.RefRmsBIdeal.τ).loc Cert.RefRmsBIdeal.main_arg0) = m ((c.tc : Thread Cert.RefRmsBIdeal.nD Cert.RefRmsBIdeal.τ).loc Cert.RefRmsBIdeal.main_arg0)
      ∧ r.2.mem ((c.tc : Thread Cert.RefRmsBIdeal.nD Cert.RefRmsBIdeal.τ).loc Cert.RefRmsBIdeal.main_arg1) = m ((c.tc : Thread Cert.RefRmsBIdeal.nD Cert.RefRmsBIdeal.τ).loc Cert.RefRmsBIdeal.main_arg1)
      ∧ r.2.mem ((c.tc : Thread Cert.RefRmsBIdeal.nD Cert.RefRmsBIdeal.τ).loc Cert.RefRmsBIdeal.main_arg2) = m ((c.tc : Thread Cert.RefRmsBIdeal.nD Cert.RefRmsBIdeal.τ).loc Cert.RefRmsBIdeal.main_arg2)
      ∧ r.2.mem ((c.tc : Thread Cert.RefRmsBIdeal.nD Cert.RefRmsBIdeal.τ).loc Cert.RefRmsBIdeal.main_arg3) = m ((c.tc : Thread Cert.RefRmsBIdeal.nD Cert.RefRmsBIdeal.τ).loc Cert.RefRmsBIdeal.main_arg3)
      ∧ r.2.mem ((c.tc : Thread Cert.RefRmsBIdeal.nD Cert.RefRmsBIdeal.τ).loc Cert.RefRmsBIdeal.main_arg4) = m ((c.tc : Thread Cert.RefRmsBIdeal.nD Cert.RefRmsBIdeal.τ).loc Cert.RefRmsBIdeal.main_arg4)
      ∧ r.2.mem ((c.tc : Thread Cert.RefRmsBIdeal.nD Cert.RefRmsBIdeal.τ).loc Cert.RefRmsBIdeal.main_arg5) = m ((c.tc : Thread Cert.RefRmsBIdeal.nD Cert.RefRmsBIdeal.τ).loc Cert.RefRmsBIdeal.main_arg5)
      ∧ r.2.mem ((c.tc : Thread Cert.RefRmsBIdeal.nD Cert.RefRmsBIdeal.τ).loc Cert.RefRmsBIdeal.main_arg6) = m ((c.tc : Thread Cert.RefRmsBIdeal.nD Cert.RefRmsBIdeal.τ).loc Cert.RefRmsBIdeal.main_arg6)
      ∧ r.2.mem ((c.tc : Thread Cert.RefRmsBIdeal.nD Cert.RefRmsBIdeal.τ).loc Cert.RefRmsBIdeal.main_arg7) = m ((c.tc : Thread Cert.RefRmsBIdeal.nD Cert.RefRmsBIdeal.τ).loc Cert.RefRmsBIdeal.main_arg7)
      ∧ r.2.mem ((c.tc : Thread Cert.RefRmsBIdeal.nD Cert.RefRmsBIdeal.τ).loc Cert.RefRmsBIdeal.main_arg8) = m ((c.tc : Thread Cert.RefRmsBIdeal.nD Cert.RefRmsBIdeal.τ).loc Cert.RefRmsBIdeal.main_arg8)
      ∧ r.2.mem ((c.tc : Thread Cert.RefRmsBIdeal.nD Cert.RefRmsBIdeal.τ).loc Cert.RefRmsBIdeal.main_arg9) = m ((c.tc : Thread Cert.RefRmsBIdeal.nD Cert.RefRmsBIdeal.τ).loc Cert.RefRmsBIdeal.main_arg9)
      ∧ r.2.mem ((c.tc : Thread Cert.RefRmsBIdeal.nD Cert.RefRmsBIdeal.τ).loc Cert.RefRmsBIdeal.main_arg10) = m ((c.tc : Thread Cert.RefRmsBIdeal.nD Cert.RefRmsBIdeal.τ).loc Cert.RefRmsBIdeal.main_arg10))
      ∧ r.2.sem = fun _ => 0)

def quiescent_ConvB [hConvB : Cert.ConvB.Facts] : Prop :=
  ∀ (m : (ℓ : Loc Cert.ConvB.nD Cert.ConvB.τ Cert.ConvB.sig) → Buf (Elt Bits) ℓ) (g : Dev Cert.ConvB.nD → PrngReg), Pre_ConvB m →
    θ_run (Cert.ConvB.defs (F := Bits)) (onTc (τ := Cert.ConvB.τ) (Cert.ConvB.main (F := Bits))) ⟨m, fun _ => 0, g⟩ (fun r => (∀ c : Dev Cert.ConvB.nD,
      r.2.mem ((c.tc : Thread Cert.ConvB.nD Cert.ConvB.τ).loc Cert.ConvB.main_arg0) = m ((c.tc : Thread Cert.ConvB.nD Cert.ConvB.τ).loc Cert.ConvB.main_arg0)
      ∧ r.2.mem ((c.tc : Thread Cert.ConvB.nD Cert.ConvB.τ).loc Cert.ConvB.main_arg1) = m ((c.tc : Thread Cert.ConvB.nD Cert.ConvB.τ).loc Cert.ConvB.main_arg1)
      ∧ r.2.mem ((c.tc : Thread Cert.ConvB.nD Cert.ConvB.τ).loc Cert.ConvB.main_arg2) = m ((c.tc : Thread Cert.ConvB.nD Cert.ConvB.τ).loc Cert.ConvB.main_arg2))
      ∧ r.2.sem = fun _ => 0)

def quiescent_ConvBIdeal [hConvBIdeal : Cert.ConvBIdeal.Facts] : Prop :=
  ∀ (m : (ℓ : Loc Cert.ConvBIdeal.nD Cert.ConvBIdeal.τ Cert.ConvBIdeal.sig) → Buf (Elt Ideal) ℓ) (g : Dev Cert.ConvBIdeal.nD → PrngReg), Pre_ConvBIdeal m →
    θ_run (Cert.ConvBIdeal.defs (F := Ideal)) (onTc (τ := Cert.ConvBIdeal.τ) (Cert.ConvBIdeal.main (F := Ideal))) ⟨m, fun _ => 0, g⟩ (fun r => (∀ c : Dev Cert.ConvBIdeal.nD,
      r.2.mem ((c.tc : Thread Cert.ConvBIdeal.nD Cert.ConvBIdeal.τ).loc Cert.ConvBIdeal.main_arg0) = m ((c.tc : Thread Cert.ConvBIdeal.nD Cert.ConvBIdeal.τ).loc Cert.ConvBIdeal.main_arg0)
      ∧ r.2.mem ((c.tc : Thread Cert.ConvBIdeal.nD Cert.ConvBIdeal.τ).loc Cert.ConvBIdeal.main_arg1) = m ((c.tc : Thread Cert.ConvBIdeal.nD Cert.ConvBIdeal.τ).loc Cert.ConvBIdeal.main_arg1)
      ∧ r.2.mem ((c.tc : Thread Cert.ConvBIdeal.nD Cert.ConvBIdeal.τ).loc Cert.ConvBIdeal.main_arg2) = m ((c.tc : Thread Cert.ConvBIdeal.nD Cert.ConvBIdeal.τ).loc Cert.ConvBIdeal.main_arg2))
      ∧ r.2.sem = fun _ => 0)

def quiescent_RefConvBIdeal [hRefConvBIdeal : Cert.RefConvBIdeal.Facts] : Prop :=
  ∀ (m : (ℓ : Loc Cert.RefConvBIdeal.nD Cert.RefConvBIdeal.τ Cert.RefConvBIdeal.sig) → Buf (Elt Ideal) ℓ) (g : Dev Cert.RefConvBIdeal.nD → PrngReg), Pre_RefConvBIdeal m →
    θ_run (Cert.RefConvBIdeal.defs (F := Ideal)) (onTc (τ := Cert.RefConvBIdeal.τ) (Cert.RefConvBIdeal.main (F := Ideal))) ⟨m, fun _ => 0, g⟩ (fun r => (∀ c : Dev Cert.RefConvBIdeal.nD,
      r.2.mem ((c.tc : Thread Cert.RefConvBIdeal.nD Cert.RefConvBIdeal.τ).loc Cert.RefConvBIdeal.main_arg0) = m ((c.tc : Thread Cert.RefConvBIdeal.nD Cert.RefConvBIdeal.τ).loc Cert.RefConvBIdeal.main_arg0)
      ∧ r.2.mem ((c.tc : Thread Cert.RefConvBIdeal.nD Cert.RefConvBIdeal.τ).loc Cert.RefConvBIdeal.main_arg1) = m ((c.tc : Thread Cert.RefConvBIdeal.nD Cert.RefConvBIdeal.τ).loc Cert.RefConvBIdeal.main_arg1)
      ∧ r.2.mem ((c.tc : Thread Cert.RefConvBIdeal.nD Cert.RefConvBIdeal.τ).loc Cert.RefConvBIdeal.main_arg2) = m ((c.tc : Thread Cert.RefConvBIdeal.nD Cert.RefConvBIdeal.τ).loc Cert.RefConvBIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadIdeal_pre_finite_loss [hLossHeadIdeal : Cert.LossHeadIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_finite_loss m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_RefLossHeadIdeal [hRefLossHeadIdeal : Cert.RefLossHeadIdeal.Facts] : Prop :=
  ∀ (m : (ℓ : Loc Cert.RefLossHeadIdeal.nD Cert.RefLossHeadIdeal.τ Cert.RefLossHeadIdeal.sig) → Buf (Elt Ideal) ℓ) (g : Dev Cert.RefLossHeadIdeal.nD → PrngReg), Pre_RefLossHeadIdeal m →
    θ_run (Cert.RefLossHeadIdeal.defs (F := Ideal)) (onTc (τ := Cert.RefLossHeadIdeal.τ) (Cert.RefLossHeadIdeal.main (F := Ideal))) ⟨m, fun _ => 0, g⟩ (fun r => (∀ c : Dev Cert.RefLossHeadIdeal.nD,
      r.2.mem ((c.tc : Thread Cert.RefLossHeadIdeal.nD Cert.RefLossHeadIdeal.τ).loc Cert.RefLossHeadIdeal.main_arg0) = m ((c.tc : Thread Cert.RefLossHeadIdeal.nD Cert.RefLossHeadIdeal.τ).loc Cert.RefLossHeadIdeal.main_arg0)
      ∧ r.2.mem ((c.tc : Thread Cert.RefLossHeadIdeal.nD Cert.RefLossHeadIdeal.τ).loc Cert.RefLossHeadIdeal.main_arg1) = m ((c.tc : Thread Cert.RefLossHeadIdeal.nD Cert.RefLossHeadIdeal.τ).loc Cert.RefLossHeadIdeal.main_arg1)
      ∧ r.2.mem ((c.tc : Thread Cert.RefLossHeadIdeal.nD Cert.RefLossHeadIdeal.τ).loc Cert.RefLossHeadIdeal.main_arg2) = m ((c.tc : Thread Cert.RefLossHeadIdeal.nD Cert.RefLossHeadIdeal.τ).loc Cert.RefLossHeadIdeal.main_arg2)
      ∧ r.2.mem ((c.tc : Thread Cert.RefLossHeadIdeal.nD Cert.RefLossHeadIdeal.τ).loc Cert.RefLossHeadIdeal.main_arg3) = m ((c.tc : Thread Cert.RefLossHeadIdeal.nD Cert.RefLossHeadIdeal.τ).loc Cert.RefLossHeadIdeal.main_arg3)
      ∧ r.2.mem ((c.tc : Thread Cert.RefLossHeadIdeal.nD Cert.RefLossHeadIdeal.τ).loc Cert.RefLossHeadIdeal.main_arg4) = m ((c.tc : Thread Cert.RefLossHeadIdeal.nD Cert.RefLossHeadIdeal.τ).loc Cert.RefLossHeadIdeal.main_arg4))
      ∧ r.2.sem = fun _ => 0)

def quiescent_RefLossHeadIdeal_pre_finite_loss [hRefLossHeadIdeal : Cert.RefLossHeadIdeal.Facts] [hPre_finite_loss : Cert.Pre_finite_loss.Facts] : Prop :=
  ∀ (m : (ℓ : Loc Cert.RefLossHeadIdeal.nD Cert.RefLossHeadIdeal.τ Cert.RefLossHeadIdeal.sig) → Buf (Elt Ideal) ℓ) (g : Dev Cert.RefLossHeadIdeal.nD → PrngReg), Pre_RefLossHeadIdeal_finite_loss m →
    θ_run (Cert.RefLossHeadIdeal.defs (F := Ideal)) (onTc (τ := Cert.RefLossHeadIdeal.τ) (Cert.RefLossHeadIdeal.main (F := Ideal))) ⟨m, fun _ => 0, g⟩ (fun r => (∀ c : Dev Cert.RefLossHeadIdeal.nD,
      r.2.mem ((c.tc : Thread Cert.RefLossHeadIdeal.nD Cert.RefLossHeadIdeal.τ).loc Cert.RefLossHeadIdeal.main_arg0) = m ((c.tc : Thread Cert.RefLossHeadIdeal.nD Cert.RefLossHeadIdeal.τ).loc Cert.RefLossHeadIdeal.main_arg0)
      ∧ r.2.mem ((c.tc : Thread Cert.RefLossHeadIdeal.nD Cert.RefLossHeadIdeal.τ).loc Cert.RefLossHeadIdeal.main_arg1) = m ((c.tc : Thread Cert.RefLossHeadIdeal.nD Cert.RefLossHeadIdeal.τ).loc Cert.RefLossHeadIdeal.main_arg1)
      ∧ r.2.mem ((c.tc : Thread Cert.RefLossHeadIdeal.nD Cert.RefLossHeadIdeal.τ).loc Cert.RefLossHeadIdeal.main_arg2) = m ((c.tc : Thread Cert.RefLossHeadIdeal.nD Cert.RefLossHeadIdeal.τ).loc Cert.RefLossHeadIdeal.main_arg2)
      ∧ r.2.mem ((c.tc : Thread Cert.RefLossHeadIdeal.nD Cert.RefLossHeadIdeal.τ).loc Cert.RefLossHeadIdeal.main_arg3) = m ((c.tc : Thread Cert.RefLossHeadIdeal.nD Cert.RefLossHeadIdeal.τ).loc Cert.RefLossHeadIdeal.main_arg3)
      ∧ r.2.mem ((c.tc : Thread Cert.RefLossHeadIdeal.nD Cert.RefLossHeadIdeal.τ).loc Cert.RefLossHeadIdeal.main_arg4) = m ((c.tc : Thread Cert.RefLossHeadIdeal.nD Cert.RefLossHeadIdeal.τ).loc Cert.RefLossHeadIdeal.main_arg4))
      ∧ r.2.sem = fun _ => 0)

def quiescent_SplitB [hSplitB : Cert.SplitB.Facts] : Prop :=
  ∀ (m : (ℓ : Loc Cert.SplitB.nD Cert.SplitB.τ Cert.SplitB.sig) → Buf (Elt Bits) ℓ) (g : Dev Cert.SplitB.nD → PrngReg), Pre_SplitB m →
    θ_run (Cert.SplitB.defs (F := Bits)) (onTc (τ := Cert.SplitB.τ) (Cert.SplitB.main (F := Bits))) ⟨m, fun _ => 0, g⟩ (fun r => (∀ c : Dev Cert.SplitB.nD,
      r.2.mem ((c.tc : Thread Cert.SplitB.nD Cert.SplitB.τ).loc Cert.SplitB.main_arg0) = m ((c.tc : Thread Cert.SplitB.nD Cert.SplitB.τ).loc Cert.SplitB.main_arg0)
      ∧ r.2.mem ((c.tc : Thread Cert.SplitB.nD Cert.SplitB.τ).loc Cert.SplitB.main_arg1) = m ((c.tc : Thread Cert.SplitB.nD Cert.SplitB.τ).loc Cert.SplitB.main_arg1)
      ∧ r.2.mem ((c.tc : Thread Cert.SplitB.nD Cert.SplitB.τ).loc Cert.SplitB.main_arg2) = m ((c.tc : Thread Cert.SplitB.nD Cert.SplitB.τ).loc Cert.SplitB.main_arg2))
      ∧ r.2.sem = fun _ => 0)

def quiescent_SplitBIdeal [hSplitBIdeal : Cert.SplitBIdeal.Facts] : Prop :=
  ∀ (m : (ℓ : Loc Cert.SplitBIdeal.nD Cert.SplitBIdeal.τ Cert.SplitBIdeal.sig) → Buf (Elt Ideal) ℓ) (g : Dev Cert.SplitBIdeal.nD → PrngReg), Pre_SplitBIdeal m →
    θ_run (Cert.SplitBIdeal.defs (F := Ideal)) (onTc (τ := Cert.SplitBIdeal.τ) (Cert.SplitBIdeal.main (F := Ideal))) ⟨m, fun _ => 0, g⟩ (fun r => (∀ c : Dev Cert.SplitBIdeal.nD,
      r.2.mem ((c.tc : Thread Cert.SplitBIdeal.nD Cert.SplitBIdeal.τ).loc Cert.SplitBIdeal.main_arg0) = m ((c.tc : Thread Cert.SplitBIdeal.nD Cert.SplitBIdeal.τ).loc Cert.SplitBIdeal.main_arg0)
      ∧ r.2.mem ((c.tc : Thread Cert.SplitBIdeal.nD Cert.SplitBIdeal.τ).loc Cert.SplitBIdeal.main_arg1) = m ((c.tc : Thread Cert.SplitBIdeal.nD Cert.SplitBIdeal.τ).loc Cert.SplitBIdeal.main_arg1)
      ∧ r.2.mem ((c.tc : Thread Cert.SplitBIdeal.nD Cert.SplitBIdeal.τ).loc Cert.SplitBIdeal.main_arg2) = m ((c.tc : Thread Cert.SplitBIdeal.nD Cert.SplitBIdeal.τ).loc Cert.SplitBIdeal.main_arg2))
      ∧ r.2.sem = fun _ => 0)

def quiescent_RefSplitBIdeal [hRefSplitBIdeal : Cert.RefSplitBIdeal.Facts] : Prop :=
  ∀ (m : (ℓ : Loc Cert.RefSplitBIdeal.nD Cert.RefSplitBIdeal.τ Cert.RefSplitBIdeal.sig) → Buf (Elt Ideal) ℓ) (g : Dev Cert.RefSplitBIdeal.nD → PrngReg), Pre_RefSplitBIdeal m →
    θ_run (Cert.RefSplitBIdeal.defs (F := Ideal)) (onTc (τ := Cert.RefSplitBIdeal.τ) (Cert.RefSplitBIdeal.main (F := Ideal))) ⟨m, fun _ => 0, g⟩ (fun r => (∀ c : Dev Cert.RefSplitBIdeal.nD,
      r.2.mem ((c.tc : Thread Cert.RefSplitBIdeal.nD Cert.RefSplitBIdeal.τ).loc Cert.RefSplitBIdeal.main_arg0) = m ((c.tc : Thread Cert.RefSplitBIdeal.nD Cert.RefSplitBIdeal.τ).loc Cert.RefSplitBIdeal.main_arg0)
      ∧ r.2.mem ((c.tc : Thread Cert.RefSplitBIdeal.nD Cert.RefSplitBIdeal.τ).loc Cert.RefSplitBIdeal.main_arg1) = m ((c.tc : Thread Cert.RefSplitBIdeal.nD Cert.RefSplitBIdeal.τ).loc Cert.RefSplitBIdeal.main_arg1)
      ∧ r.2.mem ((c.tc : Thread Cert.RefSplitBIdeal.nD Cert.RefSplitBIdeal.τ).loc Cert.RefSplitBIdeal.main_arg2) = m ((c.tc : Thread Cert.RefSplitBIdeal.nD Cert.RefSplitBIdeal.τ).loc Cert.RefSplitBIdeal.main_arg2))
      ∧ r.2.sem = fun _ => 0)

def quiescent_Fwd16 [hFwd16 : Cert.Fwd16.Facts] : Prop :=
  ∀ (m : (ℓ : Loc Cert.Fwd16.nD Cert.Fwd16.τ Cert.Fwd16.sig) → Buf (Elt Bits) ℓ) (g : Dev Cert.Fwd16.nD → PrngReg), Pre_Fwd16 m →
    θ_run (Cert.Fwd16.defs (F := Bits)) (onTc (τ := Cert.Fwd16.τ) (Cert.Fwd16.main (F := Bits))) ⟨m, fun _ => 0, g⟩ (fun r => (∀ c : Dev Cert.Fwd16.nD,
      r.2.mem ((c.tc : Thread Cert.Fwd16.nD Cert.Fwd16.τ).loc Cert.Fwd16.main_arg0) = m ((c.tc : Thread Cert.Fwd16.nD Cert.Fwd16.τ).loc Cert.Fwd16.main_arg0)
      ∧ r.2.mem ((c.tc : Thread Cert.Fwd16.nD Cert.Fwd16.τ).loc Cert.Fwd16.main_arg1) = m ((c.tc : Thread Cert.Fwd16.nD Cert.Fwd16.τ).loc Cert.Fwd16.main_arg1)
      ∧ r.2.mem ((c.tc : Thread Cert.Fwd16.nD Cert.Fwd16.τ).loc Cert.Fwd16.main_arg2) = m ((c.tc : Thread Cert.Fwd16.nD Cert.Fwd16.τ).loc Cert.Fwd16.main_arg2))
      ∧ r.2.sem = fun _ => 0)

def quiescent_Fwd16Ideal [hFwd16Ideal : Cert.Fwd16Ideal.Facts] : Prop :=
  ∀ (m : (ℓ : Loc Cert.Fwd16Ideal.nD Cert.Fwd16Ideal.τ Cert.Fwd16Ideal.sig) → Buf (Elt Ideal) ℓ) (g : Dev Cert.Fwd16Ideal.nD → PrngReg), Pre_Fwd16Ideal m →
    θ_run (Cert.Fwd16Ideal.defs (F := Ideal)) (onTc (τ := Cert.Fwd16Ideal.τ) (Cert.Fwd16Ideal.main (F := Ideal))) ⟨m, fun _ => 0, g⟩ (fun r => (∀ c : Dev Cert.Fwd16Ideal.nD,
      r.2.mem ((c.tc : Thread Cert.Fwd16Ideal.nD Cert.Fwd16Ideal.τ).loc Cert.Fwd16Ideal.main_arg0) = m ((c.tc : Thread Cert.Fwd16Ideal.nD Cert.Fwd16Ideal.τ).loc Cert.Fwd16Ideal.main_arg0)
      ∧ r.2.mem ((c.tc : Thread Cert.Fwd16Ideal.nD Cert.Fwd16Ideal.τ).loc Cert.Fwd16Ideal.main_arg1) = m ((c.tc : Thread Cert.Fwd16Ideal.nD Cert.Fwd16Ideal.τ).loc Cert.Fwd16Ideal.main_arg1)
      ∧ r.2.mem ((c.tc : Thread Cert.Fwd16Ideal.nD Cert.Fwd16Ideal.τ).loc Cert.Fwd16Ideal.main_arg2) = m ((c.tc : Thread Cert.Fwd16Ideal.nD Cert.Fwd16Ideal.τ).loc Cert.Fwd16Ideal.main_arg2))
      ∧ r.2.sem = fun _ => 0)

def quiescent_RefFwd16Ideal [hRefFwd16Ideal : Cert.RefFwd16Ideal.Facts] : Prop :=
  ∀ (m : (ℓ : Loc Cert.RefFwd16Ideal.nD Cert.RefFwd16Ideal.τ Cert.RefFwd16Ideal.sig) → Buf (Elt Ideal) ℓ) (g : Dev Cert.RefFwd16Ideal.nD → PrngReg), Pre_RefFwd16Ideal m →
    θ_run (Cert.RefFwd16Ideal.defs (F := Ideal)) (onTc (τ := Cert.RefFwd16Ideal.τ) (Cert.RefFwd16Ideal.main (F := Ideal))) ⟨m, fun _ => 0, g⟩ (fun r => (∀ c : Dev Cert.RefFwd16Ideal.nD,
      r.2.mem ((c.tc : Thread Cert.RefFwd16Ideal.nD Cert.RefFwd16Ideal.τ).loc Cert.RefFwd16Ideal.main_arg0) = m ((c.tc : Thread Cert.RefFwd16Ideal.nD Cert.RefFwd16Ideal.τ).loc Cert.RefFwd16Ideal.main_arg0)
      ∧ r.2.mem ((c.tc : Thread Cert.RefFwd16Ideal.nD Cert.RefFwd16Ideal.τ).loc Cert.RefFwd16Ideal.main_arg1) = m ((c.tc : Thread Cert.RefFwd16Ideal.nD Cert.RefFwd16Ideal.τ).loc Cert.RefFwd16Ideal.main_arg1)
      ∧ r.2.mem ((c.tc : Thread Cert.RefFwd16Ideal.nD Cert.RefFwd16Ideal.τ).loc Cert.RefFwd16Ideal.main_arg2) = m ((c.tc : Thread Cert.RefFwd16Ideal.nD Cert.RefFwd16Ideal.τ).loc Cert.RefFwd16Ideal.main_arg2))
      ∧ r.2.sem = fun _ => 0)

def quiescent_Fwd4 [hFwd4 : Cert.Fwd4.Facts] : Prop :=
  ∀ (m : (ℓ : Loc Cert.Fwd4.nD Cert.Fwd4.τ Cert.Fwd4.sig) → Buf (Elt Bits) ℓ) (g : Dev Cert.Fwd4.nD → PrngReg), Pre_Fwd4 m →
    θ_run (Cert.Fwd4.defs (F := Bits)) (onTc (τ := Cert.Fwd4.τ) (Cert.Fwd4.main (F := Bits))) ⟨m, fun _ => 0, g⟩ (fun r => (∀ c : Dev Cert.Fwd4.nD,
      r.2.mem ((c.tc : Thread Cert.Fwd4.nD Cert.Fwd4.τ).loc Cert.Fwd4.main_arg0) = m ((c.tc : Thread Cert.Fwd4.nD Cert.Fwd4.τ).loc Cert.Fwd4.main_arg0)
      ∧ r.2.mem ((c.tc : Thread Cert.Fwd4.nD Cert.Fwd4.τ).loc Cert.Fwd4.main_arg1) = m ((c.tc : Thread Cert.Fwd4.nD Cert.Fwd4.τ).loc Cert.Fwd4.main_arg1)
      ∧ r.2.mem ((c.tc : Thread Cert.Fwd4.nD Cert.Fwd4.τ).loc Cert.Fwd4.main_arg2) = m ((c.tc : Thread Cert.Fwd4.nD Cert.Fwd4.τ).loc Cert.Fwd4.main_arg2))
      ∧ r.2.sem = fun _ => 0)

def quiescent_Fwd4Ideal [hFwd4Ideal : Cert.Fwd4Ideal.Facts] : Prop :=
  ∀ (m : (ℓ : Loc Cert.Fwd4Ideal.nD Cert.Fwd4Ideal.τ Cert.Fwd4Ideal.sig) → Buf (Elt Ideal) ℓ) (g : Dev Cert.Fwd4Ideal.nD → PrngReg), Pre_Fwd4Ideal m →
    θ_run (Cert.Fwd4Ideal.defs (F := Ideal)) (onTc (τ := Cert.Fwd4Ideal.τ) (Cert.Fwd4Ideal.main (F := Ideal))) ⟨m, fun _ => 0, g⟩ (fun r => (∀ c : Dev Cert.Fwd4Ideal.nD,
      r.2.mem ((c.tc : Thread Cert.Fwd4Ideal.nD Cert.Fwd4Ideal.τ).loc Cert.Fwd4Ideal.main_arg0) = m ((c.tc : Thread Cert.Fwd4Ideal.nD Cert.Fwd4Ideal.τ).loc Cert.Fwd4Ideal.main_arg0)
      ∧ r.2.mem ((c.tc : Thread Cert.Fwd4Ideal.nD Cert.Fwd4Ideal.τ).loc Cert.Fwd4Ideal.main_arg1) = m ((c.tc : Thread Cert.Fwd4Ideal.nD Cert.Fwd4Ideal.τ).loc Cert.Fwd4Ideal.main_arg1)
      ∧ r.2.mem ((c.tc : Thread Cert.Fwd4Ideal.nD Cert.Fwd4Ideal.τ).loc Cert.Fwd4Ideal.main_arg2) = m ((c.tc : Thread Cert.Fwd4Ideal.nD Cert.Fwd4Ideal.τ).loc Cert.Fwd4Ideal.main_arg2))
      ∧ r.2.sem = fun _ => 0)

def quiescent_RefFwd4Ideal [hRefFwd4Ideal : Cert.RefFwd4Ideal.Facts] : Prop :=
  ∀ (m : (ℓ : Loc Cert.RefFwd4Ideal.nD Cert.RefFwd4Ideal.τ Cert.RefFwd4Ideal.sig) → Buf (Elt Ideal) ℓ) (g : Dev Cert.RefFwd4Ideal.nD → PrngReg), Pre_RefFwd4Ideal m →
    θ_run (Cert.RefFwd4Ideal.defs (F := Ideal)) (onTc (τ := Cert.RefFwd4Ideal.τ) (Cert.RefFwd4Ideal.main (F := Ideal))) ⟨m, fun _ => 0, g⟩ (fun r => (∀ c : Dev Cert.RefFwd4Ideal.nD,
      r.2.mem ((c.tc : Thread Cert.RefFwd4Ideal.nD Cert.RefFwd4Ideal.τ).loc Cert.RefFwd4Ideal.main_arg0) = m ((c.tc : Thread Cert.RefFwd4Ideal.nD Cert.RefFwd4Ideal.τ).loc Cert.RefFwd4Ideal.main_arg0)
      ∧ r.2.mem ((c.tc : Thread Cert.RefFwd4Ideal.nD Cert.RefFwd4Ideal.τ).loc Cert.RefFwd4Ideal.main_arg1) = m ((c.tc : Thread Cert.RefFwd4Ideal.nD Cert.RefFwd4Ideal.τ).loc Cert.RefFwd4Ideal.main_arg1)
      ∧ r.2.mem ((c.tc : Thread Cert.RefFwd4Ideal.nD Cert.RefFwd4Ideal.τ).loc Cert.RefFwd4Ideal.main_arg2) = m ((c.tc : Thread Cert.RefFwd4Ideal.nD Cert.RefFwd4Ideal.τ).loc Cert.RefFwd4Ideal.main_arg2))
      ∧ r.2.sem = fun _ => 0)

def quiescent_Fwd1 [hFwd1 : Cert.Fwd1.Facts] : Prop :=
  ∀ (m : (ℓ : Loc Cert.Fwd1.nD Cert.Fwd1.τ Cert.Fwd1.sig) → Buf (Elt Bits) ℓ) (g : Dev Cert.Fwd1.nD → PrngReg), Pre_Fwd1 m →
    θ_run (Cert.Fwd1.defs (F := Bits)) (onTc (τ := Cert.Fwd1.τ) (Cert.Fwd1.main (F := Bits))) ⟨m, fun _ => 0, g⟩ (fun r => (∀ c : Dev Cert.Fwd1.nD,
      r.2.mem ((c.tc : Thread Cert.Fwd1.nD Cert.Fwd1.τ).loc Cert.Fwd1.main_arg0) = m ((c.tc : Thread Cert.Fwd1.nD Cert.Fwd1.τ).loc Cert.Fwd1.main_arg0)
      ∧ r.2.mem ((c.tc : Thread Cert.Fwd1.nD Cert.Fwd1.τ).loc Cert.Fwd1.main_arg1) = m ((c.tc : Thread Cert.Fwd1.nD Cert.Fwd1.τ).loc Cert.Fwd1.main_arg1)
      ∧ r.2.mem ((c.tc : Thread Cert.Fwd1.nD Cert.Fwd1.τ).loc Cert.Fwd1.main_arg2) = m ((c.tc : Thread Cert.Fwd1.nD Cert.Fwd1.τ).loc Cert.Fwd1.main_arg2))
      ∧ r.2.sem = fun _ => 0)

def quiescent_Fwd1Ideal [hFwd1Ideal : Cert.Fwd1Ideal.Facts] : Prop :=
  ∀ (m : (ℓ : Loc Cert.Fwd1Ideal.nD Cert.Fwd1Ideal.τ Cert.Fwd1Ideal.sig) → Buf (Elt Ideal) ℓ) (g : Dev Cert.Fwd1Ideal.nD → PrngReg), Pre_Fwd1Ideal m →
    θ_run (Cert.Fwd1Ideal.defs (F := Ideal)) (onTc (τ := Cert.Fwd1Ideal.τ) (Cert.Fwd1Ideal.main (F := Ideal))) ⟨m, fun _ => 0, g⟩ (fun r => (∀ c : Dev Cert.Fwd1Ideal.nD,
      r.2.mem ((c.tc : Thread Cert.Fwd1Ideal.nD Cert.Fwd1Ideal.τ).loc Cert.Fwd1Ideal.main_arg0) = m ((c.tc : Thread Cert.Fwd1Ideal.nD Cert.Fwd1Ideal.τ).loc Cert.Fwd1Ideal.main_arg0)
      ∧ r.2.mem ((c.tc : Thread Cert.Fwd1Ideal.nD Cert.Fwd1Ideal.τ).loc Cert.Fwd1Ideal.main_arg1) = m ((c.tc : Thread Cert.Fwd1Ideal.nD Cert.Fwd1Ideal.τ).loc Cert.Fwd1Ideal.main_arg1)
      ∧ r.2.mem ((c.tc : Thread Cert.Fwd1Ideal.nD Cert.Fwd1Ideal.τ).loc Cert.Fwd1Ideal.main_arg2) = m ((c.tc : Thread Cert.Fwd1Ideal.nD Cert.Fwd1Ideal.τ).loc Cert.Fwd1Ideal.main_arg2))
      ∧ r.2.sem = fun _ => 0)

def quiescent_RefFwd1Ideal [hRefFwd1Ideal : Cert.RefFwd1Ideal.Facts] : Prop :=
  ∀ (m : (ℓ : Loc Cert.RefFwd1Ideal.nD Cert.RefFwd1Ideal.τ Cert.RefFwd1Ideal.sig) → Buf (Elt Ideal) ℓ) (g : Dev Cert.RefFwd1Ideal.nD → PrngReg), Pre_RefFwd1Ideal m →
    θ_run (Cert.RefFwd1Ideal.defs (F := Ideal)) (onTc (τ := Cert.RefFwd1Ideal.τ) (Cert.RefFwd1Ideal.main (F := Ideal))) ⟨m, fun _ => 0, g⟩ (fun r => (∀ c : Dev Cert.RefFwd1Ideal.nD,
      r.2.mem ((c.tc : Thread Cert.RefFwd1Ideal.nD Cert.RefFwd1Ideal.τ).loc Cert.RefFwd1Ideal.main_arg0) = m ((c.tc : Thread Cert.RefFwd1Ideal.nD Cert.RefFwd1Ideal.τ).loc Cert.RefFwd1Ideal.main_arg0)
      ∧ r.2.mem ((c.tc : Thread Cert.RefFwd1Ideal.nD Cert.RefFwd1Ideal.τ).loc Cert.RefFwd1Ideal.main_arg1) = m ((c.tc : Thread Cert.RefFwd1Ideal.nD Cert.RefFwd1Ideal.τ).loc Cert.RefFwd1Ideal.main_arg1)
      ∧ r.2.mem ((c.tc : Thread Cert.RefFwd1Ideal.nD Cert.RefFwd1Ideal.τ).loc Cert.RefFwd1Ideal.main_arg2) = m ((c.tc : Thread Cert.RefFwd1Ideal.nD Cert.RefFwd1Ideal.τ).loc Cert.RefFwd1Ideal.main_arg2))
      ∧ r.2.sem = fun _ => 0)

def quiescent_UpF [hUpF : Cert.UpF.Facts] : Prop :=
  ∀ (m : (ℓ : Loc Cert.UpF.nD Cert.UpF.τ Cert.UpF.sig) → Buf (Elt Bits) ℓ) (g : Dev Cert.UpF.nD → PrngReg), Pre_UpF m →
    θ_run (Cert.UpF.defs (F := Bits)) (onTc (τ := Cert.UpF.τ) (Cert.UpF.main (F := Bits))) ⟨m, fun _ => 0, g⟩ (fun r => (∀ c : Dev Cert.UpF.nD,
      r.2.mem ((c.tc : Thread Cert.UpF.nD Cert.UpF.τ).loc Cert.UpF.main_arg0) = m ((c.tc : Thread Cert.UpF.nD Cert.UpF.τ).loc Cert.UpF.main_arg0)
      ∧ r.2.mem ((c.tc : Thread Cert.UpF.nD Cert.UpF.τ).loc Cert.UpF.main_arg1) = m ((c.tc : Thread Cert.UpF.nD Cert.UpF.τ).loc Cert.UpF.main_arg1)
      ∧ r.2.mem ((c.tc : Thread Cert.UpF.nD Cert.UpF.τ).loc Cert.UpF.main_arg2) = m ((c.tc : Thread Cert.UpF.nD Cert.UpF.τ).loc Cert.UpF.main_arg2))
      ∧ r.2.sem = fun _ => 0)

def quiescent_UpFIdeal [hUpFIdeal : Cert.UpFIdeal.Facts] : Prop :=
  ∀ (m : (ℓ : Loc Cert.UpFIdeal.nD Cert.UpFIdeal.τ Cert.UpFIdeal.sig) → Buf (Elt Ideal) ℓ) (g : Dev Cert.UpFIdeal.nD → PrngReg), Pre_UpFIdeal m →
    θ_run (Cert.UpFIdeal.defs (F := Ideal)) (onTc (τ := Cert.UpFIdeal.τ) (Cert.UpFIdeal.main (F := Ideal))) ⟨m, fun _ => 0, g⟩ (fun r => (∀ c : Dev Cert.UpFIdeal.nD,
      r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
      ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1)
      ∧ r.2.mem ((c.tc : Thread Cert.UpFIdeal.nD Cert.UpFIdeal.τ).loc Cert.UpFIdeal.main_arg2) = m ((c.tc : Thread Cert.UpFIdeal.nD Cert.UpFIdeal.τ).loc Cert.UpFIdeal.main_arg2))
      ∧ r.2.sem = fun _ => 0)

def quiescent_RefUpFIdeal [hRefUpFIdeal : Cert.RefUpFIdeal.Facts] : Prop :=
  ∀ (m : (ℓ : Loc Cert.RefUpFIdeal.nD Cert.RefUpFIdeal.τ Cert.RefUpFIdeal.sig) → Buf (Elt Ideal) ℓ) (g : Dev Cert.RefUpFIdeal.nD → PrngReg), Pre_RefUpFIdeal m →
    θ_run (Cert.RefUpFIdeal.defs (F := Ideal)) (onTc (τ := Cert.RefUpFIdeal.τ) (Cert.RefUpFIdeal.main (F := Ideal))) ⟨m, fun _ => 0, g⟩ (fun r => (∀ c : Dev Cert.RefUpFIdeal.nD,
      r.2.mem ((c.tc : Thread Cert.RefUpFIdeal.nD Cert.RefUpFIdeal.τ).loc Cert.RefUpFIdeal.main_arg0) = m ((c.tc : Thread Cert.RefUpFIdeal.nD Cert.RefUpFIdeal.τ).loc Cert.RefUpFIdeal.main_arg0)
      ∧ r.2.mem ((c.tc : Thread Cert.RefUpFIdeal.nD Cert.RefUpFIdeal.τ).loc Cert.RefUpFIdeal.main_arg1) = m ((c.tc : Thread Cert.RefUpFIdeal.nD Cert.RefUpFIdeal.τ).loc Cert.RefUpFIdeal.main_arg1)
      ∧ r.2.mem ((c.tc : Thread Cert.RefUpFIdeal.nD Cert.RefUpFIdeal.τ).loc Cert.RefUpFIdeal.main_arg2) = m ((c.tc : Thread Cert.RefUpFIdeal.nD Cert.RefUpFIdeal.τ).loc Cert.RefUpFIdeal.main_arg2))
      ∧ r.2.sem = fun _ => 0)

def quiescent_BranchF [hBranchF : Cert.BranchF.Facts] : Prop :=
  ∀ (m : (ℓ : Loc Cert.BranchF.nD Cert.BranchF.τ Cert.BranchF.sig) → Buf (Elt Bits) ℓ) (g : Dev Cert.BranchF.nD → PrngReg), Pre_BranchF m →
    θ_run (Cert.BranchF.defs (F := Bits)) (onTc (τ := Cert.BranchF.τ) (Cert.BranchF.main (F := Bits))) ⟨m, fun _ => 0, g⟩ (fun r => (∀ c : Dev Cert.BranchF.nD,
      r.2.mem ((c.tc : Thread Cert.BranchF.nD Cert.BranchF.τ).loc Cert.BranchF.main_arg0) = m ((c.tc : Thread Cert.BranchF.nD Cert.BranchF.τ).loc Cert.BranchF.main_arg0)
      ∧ r.2.mem ((c.tc : Thread Cert.BranchF.nD Cert.BranchF.τ).loc Cert.BranchF.main_arg1) = m ((c.tc : Thread Cert.BranchF.nD Cert.BranchF.τ).loc Cert.BranchF.main_arg1)
      ∧ r.2.mem ((c.tc : Thread Cert.BranchF.nD Cert.BranchF.τ).loc Cert.BranchF.main_arg2) = m ((c.tc : Thread Cert.BranchF.nD Cert.BranchF.τ).loc Cert.BranchF.main_arg2)
      ∧ r.2.mem ((c.tc : Thread Cert.BranchF.nD Cert.BranchF.τ).loc Cert.BranchF.main_arg3) = m ((c.tc : Thread Cert.BranchF.nD Cert.BranchF.τ).loc Cert.BranchF.main_arg3)
      ∧ r.2.mem ((c.tc : Thread Cert.BranchF.nD Cert.BranchF.τ).loc Cert.BranchF.main_arg4) = m ((c.tc : Thread Cert.BranchF.nD Cert.BranchF.τ).loc Cert.BranchF.main_arg4)
      ∧ r.2.mem ((c.tc : Thread Cert.BranchF.nD Cert.BranchF.τ).loc Cert.BranchF.main_arg5) = m ((c.tc : Thread Cert.BranchF.nD Cert.BranchF.τ).loc Cert.BranchF.main_arg5))
      ∧ r.2.sem = fun _ => 0)

def quiescent_BranchFIdeal [hBranchFIdeal : Cert.BranchFIdeal.Facts] : Prop :=
  ∀ (m : (ℓ : Loc Cert.BranchFIdeal.nD Cert.BranchFIdeal.τ Cert.BranchFIdeal.sig) → Buf (Elt Ideal) ℓ) (g : Dev Cert.BranchFIdeal.nD → PrngReg), Pre_BranchFIdeal m →
    θ_run (Cert.BranchFIdeal.defs (F := Ideal)) (onTc (τ := Cert.BranchFIdeal.τ) (Cert.BranchFIdeal.main (F := Ideal))) ⟨m, fun _ => 0, g⟩ (fun r => (∀ c : Dev Cert.BranchFIdeal.nD,
      r.2.mem ((c.tc : Thread Cert.BranchFIdeal.nD Cert.BranchFIdeal.τ).loc Cert.BranchFIdeal.main_arg0) = m ((c.tc : Thread Cert.BranchFIdeal.nD Cert.BranchFIdeal.τ).loc Cert.BranchFIdeal.main_arg0)
      ∧ r.2.mem ((c.tc : Thread Cert.BranchFIdeal.nD Cert.BranchFIdeal.τ).loc Cert.BranchFIdeal.main_arg1) = m ((c.tc : Thread Cert.BranchFIdeal.nD Cert.BranchFIdeal.τ).loc Cert.BranchFIdeal.main_arg1)
      ∧ r.2.mem ((c.tc : Thread Cert.BranchFIdeal.nD Cert.BranchFIdeal.τ).loc Cert.BranchFIdeal.main_arg2) = m ((c.tc : Thread Cert.BranchFIdeal.nD Cert.BranchFIdeal.τ).loc Cert.BranchFIdeal.main_arg2)
      ∧ r.2.mem ((c.tc : Thread Cert.BranchFIdeal.nD Cert.BranchFIdeal.τ).loc Cert.BranchFIdeal.main_arg3) = m ((c.tc : Thread Cert.BranchFIdeal.nD Cert.BranchFIdeal.τ).loc Cert.BranchFIdeal.main_arg3)
      ∧ r.2.mem ((c.tc : Thread Cert.BranchFIdeal.nD Cert.BranchFIdeal.τ).loc Cert.BranchFIdeal.main_arg4) = m ((c.tc : Thread Cert.BranchFIdeal.nD Cert.BranchFIdeal.τ).loc Cert.BranchFIdeal.main_arg4)
      ∧ r.2.mem ((c.tc : Thread Cert.BranchFIdeal.nD Cert.BranchFIdeal.τ).loc Cert.BranchFIdeal.main_arg5) = m ((c.tc : Thread Cert.BranchFIdeal.nD Cert.BranchFIdeal.τ).loc Cert.BranchFIdeal.main_arg5))
      ∧ r.2.sem = fun _ => 0)

def quiescent_RefBranchFIdeal [hRefBranchFIdeal : Cert.RefBranchFIdeal.Facts] : Prop :=
  ∀ (m : (ℓ : Loc Cert.RefBranchFIdeal.nD Cert.RefBranchFIdeal.τ Cert.RefBranchFIdeal.sig) → Buf (Elt Ideal) ℓ) (g : Dev Cert.RefBranchFIdeal.nD → PrngReg), Pre_RefBranchFIdeal m →
    θ_run (Cert.RefBranchFIdeal.defs (F := Ideal)) (onTc (τ := Cert.RefBranchFIdeal.τ) (Cert.RefBranchFIdeal.main (F := Ideal))) ⟨m, fun _ => 0, g⟩ (fun r => (∀ c : Dev Cert.RefBranchFIdeal.nD,
      r.2.mem ((c.tc : Thread Cert.RefBranchFIdeal.nD Cert.RefBranchFIdeal.τ).loc Cert.RefBranchFIdeal.main_arg0) = m ((c.tc : Thread Cert.RefBranchFIdeal.nD Cert.RefBranchFIdeal.τ).loc Cert.RefBranchFIdeal.main_arg0)
      ∧ r.2.mem ((c.tc : Thread Cert.RefBranchFIdeal.nD Cert.RefBranchFIdeal.τ).loc Cert.RefBranchFIdeal.main_arg1) = m ((c.tc : Thread Cert.RefBranchFIdeal.nD Cert.RefBranchFIdeal.τ).loc Cert.RefBranchFIdeal.main_arg1)
      ∧ r.2.mem ((c.tc : Thread Cert.RefBranchFIdeal.nD Cert.RefBranchFIdeal.τ).loc Cert.RefBranchFIdeal.main_arg2) = m ((c.tc : Thread Cert.RefBranchFIdeal.nD Cert.RefBranchFIdeal.τ).loc Cert.RefBranchFIdeal.main_arg2)
      ∧ r.2.mem ((c.tc : Thread Cert.RefBranchFIdeal.nD Cert.RefBranchFIdeal.τ).loc Cert.RefBranchFIdeal.main_arg3) = m ((c.tc : Thread Cert.RefBranchFIdeal.nD Cert.RefBranchFIdeal.τ).loc Cert.RefBranchFIdeal.main_arg3)
      ∧ r.2.mem ((c.tc : Thread Cert.RefBranchFIdeal.nD Cert.RefBranchFIdeal.τ).loc Cert.RefBranchFIdeal.main_arg4) = m ((c.tc : Thread Cert.RefBranchFIdeal.nD Cert.RefBranchFIdeal.τ).loc Cert.RefBranchFIdeal.main_arg4)
      ∧ r.2.mem ((c.tc : Thread Cert.RefBranchFIdeal.nD Cert.RefBranchFIdeal.τ).loc Cert.RefBranchFIdeal.main_arg5) = m ((c.tc : Thread Cert.RefBranchFIdeal.nD Cert.RefBranchFIdeal.τ).loc Cert.RefBranchFIdeal.main_arg5))
      ∧ r.2.sem = fun _ => 0)

def quiescent_DownF [hDownF : Cert.DownF.Facts] : Prop :=
  ∀ (m : (ℓ : Loc Cert.DownF.nD Cert.DownF.τ Cert.DownF.sig) → Buf (Elt Bits) ℓ) (g : Dev Cert.DownF.nD → PrngReg), Pre_DownF m →
    θ_run (Cert.DownF.defs (F := Bits)) (onTc (τ := Cert.DownF.τ) (Cert.DownF.main (F := Bits))) ⟨m, fun _ => 0, g⟩ (fun r => (∀ c : Dev Cert.DownF.nD,
      r.2.mem ((c.tc : Thread Cert.DownF.nD Cert.DownF.τ).loc Cert.DownF.main_arg0) = m ((c.tc : Thread Cert.DownF.nD Cert.DownF.τ).loc Cert.DownF.main_arg0)
      ∧ r.2.mem ((c.tc : Thread Cert.DownF.nD Cert.DownF.τ).loc Cert.DownF.main_arg1) = m ((c.tc : Thread Cert.DownF.nD Cert.DownF.τ).loc Cert.DownF.main_arg1)
      ∧ r.2.mem ((c.tc : Thread Cert.DownF.nD Cert.DownF.τ).loc Cert.DownF.main_arg2) = m ((c.tc : Thread Cert.DownF.nD Cert.DownF.τ).loc Cert.DownF.main_arg2)
      ∧ r.2.mem ((c.tc : Thread Cert.DownF.nD Cert.DownF.τ).loc Cert.DownF.main_arg3) = m ((c.tc : Thread Cert.DownF.nD Cert.DownF.τ).loc Cert.DownF.main_arg3)
      ∧ r.2.mem ((c.tc : Thread Cert.DownF.nD Cert.DownF.τ).loc Cert.DownF.main_arg4) = m ((c.tc : Thread Cert.DownF.nD Cert.DownF.τ).loc Cert.DownF.main_arg4)
      ∧ r.2.mem ((c.tc : Thread Cert.DownF.nD Cert.DownF.τ).loc Cert.DownF.main_arg5) = m ((c.tc : Thread Cert.DownF.nD Cert.DownF.τ).loc Cert.DownF.main_arg5)
      ∧ r.2.mem ((c.tc : Thread Cert.DownF.nD Cert.DownF.τ).loc Cert.DownF.main_arg6) = m ((c.tc : Thread Cert.DownF.nD Cert.DownF.τ).loc Cert.DownF.main_arg6))
      ∧ r.2.sem = fun _ => 0)

def quiescent_DownFIdeal [hDownFIdeal : Cert.DownFIdeal.Facts] : Prop :=
  ∀ (m : (ℓ : Loc Cert.DownFIdeal.nD Cert.DownFIdeal.τ Cert.DownFIdeal.sig) → Buf (Elt Ideal) ℓ) (g : Dev Cert.DownFIdeal.nD → PrngReg), Pre_DownFIdeal m →
    θ_run (Cert.DownFIdeal.defs (F := Ideal)) (onTc (τ := Cert.DownFIdeal.τ) (Cert.DownFIdeal.main (F := Ideal))) ⟨m, fun _ => 0, g⟩ (fun r => (∀ c : Dev Cert.DownFIdeal.nD,
      r.2.mem ((c.tc : Thread Cert.DownFIdeal.nD Cert.DownFIdeal.τ).loc Cert.DownFIdeal.main_arg0) = m ((c.tc : Thread Cert.DownFIdeal.nD Cert.DownFIdeal.τ).loc Cert.DownFIdeal.main_arg0)
      ∧ r.2.mem ((c.tc : Thread Cert.DownFIdeal.nD Cert.DownFIdeal.τ).loc Cert.DownFIdeal.main_arg1) = m ((c.tc : Thread Cert.DownFIdeal.nD Cert.DownFIdeal.τ).loc Cert.DownFIdeal.main_arg1)
      ∧ r.2.mem ((c.tc : Thread Cert.DownFIdeal.nD Cert.DownFIdeal.τ).loc Cert.DownFIdeal.main_arg2) = m ((c.tc : Thread Cert.DownFIdeal.nD Cert.DownFIdeal.τ).loc Cert.DownFIdeal.main_arg2)
      ∧ r.2.mem ((c.tc : Thread Cert.DownFIdeal.nD Cert.DownFIdeal.τ).loc Cert.DownFIdeal.main_arg3) = m ((c.tc : Thread Cert.DownFIdeal.nD Cert.DownFIdeal.τ).loc Cert.DownFIdeal.main_arg3)
      ∧ r.2.mem ((c.tc : Thread Cert.DownFIdeal.nD Cert.DownFIdeal.τ).loc Cert.DownFIdeal.main_arg4) = m ((c.tc : Thread Cert.DownFIdeal.nD Cert.DownFIdeal.τ).loc Cert.DownFIdeal.main_arg4)
      ∧ r.2.mem ((c.tc : Thread Cert.DownFIdeal.nD Cert.DownFIdeal.τ).loc Cert.DownFIdeal.main_arg5) = m ((c.tc : Thread Cert.DownFIdeal.nD Cert.DownFIdeal.τ).loc Cert.DownFIdeal.main_arg5)
      ∧ r.2.mem ((c.tc : Thread Cert.DownFIdeal.nD Cert.DownFIdeal.τ).loc Cert.DownFIdeal.main_arg6) = m ((c.tc : Thread Cert.DownFIdeal.nD Cert.DownFIdeal.τ).loc Cert.DownFIdeal.main_arg6))
      ∧ r.2.sem = fun _ => 0)

def quiescent_RefDownFIdeal [hRefDownFIdeal : Cert.RefDownFIdeal.Facts] : Prop :=
  ∀ (m : (ℓ : Loc Cert.RefDownFIdeal.nD Cert.RefDownFIdeal.τ Cert.RefDownFIdeal.sig) → Buf (Elt Ideal) ℓ) (g : Dev Cert.RefDownFIdeal.nD → PrngReg), Pre_RefDownFIdeal m →
    θ_run (Cert.RefDownFIdeal.defs (F := Ideal)) (onTc (τ := Cert.RefDownFIdeal.τ) (Cert.RefDownFIdeal.main (F := Ideal))) ⟨m, fun _ => 0, g⟩ (fun r => (∀ c : Dev Cert.RefDownFIdeal.nD,
      r.2.mem ((c.tc : Thread Cert.RefDownFIdeal.nD Cert.RefDownFIdeal.τ).loc Cert.RefDownFIdeal.main_arg0) = m ((c.tc : Thread Cert.RefDownFIdeal.nD Cert.RefDownFIdeal.τ).loc Cert.RefDownFIdeal.main_arg0)
      ∧ r.2.mem ((c.tc : Thread Cert.RefDownFIdeal.nD Cert.RefDownFIdeal.τ).loc Cert.RefDownFIdeal.main_arg1) = m ((c.tc : Thread Cert.RefDownFIdeal.nD Cert.RefDownFIdeal.τ).loc Cert.RefDownFIdeal.main_arg1)
      ∧ r.2.mem ((c.tc : Thread Cert.RefDownFIdeal.nD Cert.RefDownFIdeal.τ).loc Cert.RefDownFIdeal.main_arg2) = m ((c.tc : Thread Cert.RefDownFIdeal.nD Cert.RefDownFIdeal.τ).loc Cert.RefDownFIdeal.main_arg2)
      ∧ r.2.mem ((c.tc : Thread Cert.RefDownFIdeal.nD Cert.RefDownFIdeal.τ).loc Cert.RefDownFIdeal.main_arg3) = m ((c.tc : Thread Cert.RefDownFIdeal.nD Cert.RefDownFIdeal.τ).loc Cert.RefDownFIdeal.main_arg3)
      ∧ r.2.mem ((c.tc : Thread Cert.RefDownFIdeal.nD Cert.RefDownFIdeal.τ).loc Cert.RefDownFIdeal.main_arg4) = m ((c.tc : Thread Cert.RefDownFIdeal.nD Cert.RefDownFIdeal.τ).loc Cert.RefDownFIdeal.main_arg4)
      ∧ r.2.mem ((c.tc : Thread Cert.RefDownFIdeal.nD Cert.RefDownFIdeal.τ).loc Cert.RefDownFIdeal.main_arg5) = m ((c.tc : Thread Cert.RefDownFIdeal.nD Cert.RefDownFIdeal.τ).loc Cert.RefDownFIdeal.main_arg5)
      ∧ r.2.mem ((c.tc : Thread Cert.RefDownFIdeal.nD Cert.RefDownFIdeal.τ).loc Cert.RefDownFIdeal.main_arg6) = m ((c.tc : Thread Cert.RefDownFIdeal.nD Cert.RefDownFIdeal.τ).loc Cert.RefDownFIdeal.main_arg6))
      ∧ r.2.sem = fun _ => 0)

def quiescent_OutF [hOutF : Cert.OutF.Facts] : Prop :=
  ∀ (m : (ℓ : Loc Cert.OutF.nD Cert.OutF.τ Cert.OutF.sig) → Buf (Elt Bits) ℓ) (g : Dev Cert.OutF.nD → PrngReg), Pre_OutF m →
    θ_run (Cert.OutF.defs (F := Bits)) (onTc (τ := Cert.OutF.τ) (Cert.OutF.main (F := Bits))) ⟨m, fun _ => 0, g⟩ (fun r => (∀ c : Dev Cert.OutF.nD,
      r.2.mem ((c.tc : Thread Cert.OutF.nD Cert.OutF.τ).loc Cert.OutF.main_arg0) = m ((c.tc : Thread Cert.OutF.nD Cert.OutF.τ).loc Cert.OutF.main_arg0)
      ∧ r.2.mem ((c.tc : Thread Cert.OutF.nD Cert.OutF.τ).loc Cert.OutF.main_arg1) = m ((c.tc : Thread Cert.OutF.nD Cert.OutF.τ).loc Cert.OutF.main_arg1)
      ∧ r.2.mem ((c.tc : Thread Cert.OutF.nD Cert.OutF.τ).loc Cert.OutF.main_arg2) = m ((c.tc : Thread Cert.OutF.nD Cert.OutF.τ).loc Cert.OutF.main_arg2)
      ∧ r.2.mem ((c.tc : Thread Cert.OutF.nD Cert.OutF.τ).loc Cert.OutF.main_arg3) = m ((c.tc : Thread Cert.OutF.nD Cert.OutF.τ).loc Cert.OutF.main_arg3)
      ∧ r.2.mem ((c.tc : Thread Cert.OutF.nD Cert.OutF.τ).loc Cert.OutF.main_arg4) = m ((c.tc : Thread Cert.OutF.nD Cert.OutF.τ).loc Cert.OutF.main_arg4)
      ∧ r.2.mem ((c.tc : Thread Cert.OutF.nD Cert.OutF.τ).loc Cert.OutF.main_arg5) = m ((c.tc : Thread Cert.OutF.nD Cert.OutF.τ).loc Cert.OutF.main_arg5)
      ∧ r.2.mem ((c.tc : Thread Cert.OutF.nD Cert.OutF.τ).loc Cert.OutF.main_arg6) = m ((c.tc : Thread Cert.OutF.nD Cert.OutF.τ).loc Cert.OutF.main_arg6))
      ∧ r.2.sem = fun _ => 0)

def quiescent_OutFIdeal [hOutFIdeal : Cert.OutFIdeal.Facts] : Prop :=
  ∀ (m : (ℓ : Loc Cert.OutFIdeal.nD Cert.OutFIdeal.τ Cert.OutFIdeal.sig) → Buf (Elt Ideal) ℓ) (g : Dev Cert.OutFIdeal.nD → PrngReg), Pre_OutFIdeal m →
    θ_run (Cert.OutFIdeal.defs (F := Ideal)) (onTc (τ := Cert.OutFIdeal.τ) (Cert.OutFIdeal.main (F := Ideal))) ⟨m, fun _ => 0, g⟩ (fun r => (∀ c : Dev Cert.OutFIdeal.nD,
      r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
      ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
      ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2)
      ∧ r.2.mem ((c.tc : Thread Cert.OutFIdeal.nD Cert.OutFIdeal.τ).loc Cert.OutFIdeal.main_arg3) = m ((c.tc : Thread Cert.OutFIdeal.nD Cert.OutFIdeal.τ).loc Cert.OutFIdeal.main_arg3)
      ∧ r.2.mem ((c.tc : Thread Cert.OutFIdeal.nD Cert.OutFIdeal.τ).loc Cert.OutFIdeal.main_arg4) = m ((c.tc : Thread Cert.OutFIdeal.nD Cert.OutFIdeal.τ).loc Cert.OutFIdeal.main_arg4)
      ∧ r.2.mem ((c.tc : Thread Cert.OutFIdeal.nD Cert.OutFIdeal.τ).loc Cert.OutFIdeal.main_arg5) = m ((c.tc : Thread Cert.OutFIdeal.nD Cert.OutFIdeal.τ).loc Cert.OutFIdeal.main_arg5)
      ∧ r.2.mem ((c.tc : Thread Cert.OutFIdeal.nD Cert.OutFIdeal.τ).loc Cert.OutFIdeal.main_arg6) = m ((c.tc : Thread Cert.OutFIdeal.nD Cert.OutFIdeal.τ).loc Cert.OutFIdeal.main_arg6))
      ∧ r.2.sem = fun _ => 0)

def quiescent_RefOutFIdeal [hRefOutFIdeal : Cert.RefOutFIdeal.Facts] : Prop :=
  ∀ (m : (ℓ : Loc Cert.RefOutFIdeal.nD Cert.RefOutFIdeal.τ Cert.RefOutFIdeal.sig) → Buf (Elt Ideal) ℓ) (g : Dev Cert.RefOutFIdeal.nD → PrngReg), Pre_RefOutFIdeal m →
    θ_run (Cert.RefOutFIdeal.defs (F := Ideal)) (onTc (τ := Cert.RefOutFIdeal.τ) (Cert.RefOutFIdeal.main (F := Ideal))) ⟨m, fun _ => 0, g⟩ (fun r => (∀ c : Dev Cert.RefOutFIdeal.nD,
      r.2.mem ((c.tc : Thread Cert.RefOutFIdeal.nD Cert.RefOutFIdeal.τ).loc Cert.RefOutFIdeal.main_arg0) = m ((c.tc : Thread Cert.RefOutFIdeal.nD Cert.RefOutFIdeal.τ).loc Cert.RefOutFIdeal.main_arg0)
      ∧ r.2.mem ((c.tc : Thread Cert.RefOutFIdeal.nD Cert.RefOutFIdeal.τ).loc Cert.RefOutFIdeal.main_arg1) = m ((c.tc : Thread Cert.RefOutFIdeal.nD Cert.RefOutFIdeal.τ).loc Cert.RefOutFIdeal.main_arg1)
      ∧ r.2.mem ((c.tc : Thread Cert.RefOutFIdeal.nD Cert.RefOutFIdeal.τ).loc Cert.RefOutFIdeal.main_arg2) = m ((c.tc : Thread Cert.RefOutFIdeal.nD Cert.RefOutFIdeal.τ).loc Cert.RefOutFIdeal.main_arg2)
      ∧ r.2.mem ((c.tc : Thread Cert.RefOutFIdeal.nD Cert.RefOutFIdeal.τ).loc Cert.RefOutFIdeal.main_arg3) = m ((c.tc : Thread Cert.RefOutFIdeal.nD Cert.RefOutFIdeal.τ).loc Cert.RefOutFIdeal.main_arg3)
      ∧ r.2.mem ((c.tc : Thread Cert.RefOutFIdeal.nD Cert.RefOutFIdeal.τ).loc Cert.RefOutFIdeal.main_arg4) = m ((c.tc : Thread Cert.RefOutFIdeal.nD Cert.RefOutFIdeal.τ).loc Cert.RefOutFIdeal.main_arg4)
      ∧ r.2.mem ((c.tc : Thread Cert.RefOutFIdeal.nD Cert.RefOutFIdeal.τ).loc Cert.RefOutFIdeal.main_arg5) = m ((c.tc : Thread Cert.RefOutFIdeal.nD Cert.RefOutFIdeal.τ).loc Cert.RefOutFIdeal.main_arg5)
      ∧ r.2.mem ((c.tc : Thread Cert.RefOutFIdeal.nD Cert.RefOutFIdeal.τ).loc Cert.RefOutFIdeal.main_arg6) = m ((c.tc : Thread Cert.RefOutFIdeal.nD Cert.RefOutFIdeal.τ).loc Cert.RefOutFIdeal.main_arg6))
      ∧ r.2.sem = fun _ => 0)

def quiescent_ModF [hModF : Cert.ModF.Facts] : Prop :=
  ∀ (m : (ℓ : Loc Cert.ModF.nD Cert.ModF.τ Cert.ModF.sig) → Buf (Elt Bits) ℓ) (g : Dev Cert.ModF.nD → PrngReg), Pre_ModF m →
    θ_run (Cert.ModF.defs (F := Bits)) (onTc (τ := Cert.ModF.τ) (Cert.ModF.main (F := Bits))) ⟨m, fun _ => 0, g⟩ (fun r => (∀ c : Dev Cert.ModF.nD,
      r.2.mem ((c.tc : Thread Cert.ModF.nD Cert.ModF.τ).loc Cert.ModF.main_arg0) = m ((c.tc : Thread Cert.ModF.nD Cert.ModF.τ).loc Cert.ModF.main_arg0)
      ∧ r.2.mem ((c.tc : Thread Cert.ModF.nD Cert.ModF.τ).loc Cert.ModF.main_arg1) = m ((c.tc : Thread Cert.ModF.nD Cert.ModF.τ).loc Cert.ModF.main_arg1)
      ∧ r.2.mem ((c.tc : Thread Cert.ModF.nD Cert.ModF.τ).loc Cert.ModF.main_arg2) = m ((c.tc : Thread Cert.ModF.nD Cert.ModF.τ).loc Cert.ModF.main_arg2)
      ∧ r.2.mem ((c.tc : Thread Cert.ModF.nD Cert.ModF.τ).loc Cert.ModF.main_arg3) = m ((c.tc : Thread Cert.ModF.nD Cert.ModF.τ).loc Cert.ModF.main_arg3))
      ∧ r.2.sem = fun _ => 0)

def quiescent_ModFIdeal [hModFIdeal : Cert.ModFIdeal.Facts] : Prop :=
  ∀ (m : (ℓ : Loc Cert.ModFIdeal.nD Cert.ModFIdeal.τ Cert.ModFIdeal.sig) → Buf (Elt Ideal) ℓ) (g : Dev Cert.ModFIdeal.nD → PrngReg), Pre_ModFIdeal m →
    θ_run (Cert.ModFIdeal.defs (F := Ideal)) (onTc (τ := Cert.ModFIdeal.τ) (Cert.ModFIdeal.main (F := Ideal))) ⟨m, fun _ => 0, g⟩ (fun r => (∀ c : Dev Cert.ModFIdeal.nD,
      r.2.mem ((c.tc : Thread Cert.ModFIdeal.nD Cert.ModFIdeal.τ).loc Cert.ModFIdeal.main_arg0) = m ((c.tc : Thread Cert.ModFIdeal.nD Cert.ModFIdeal.τ).loc Cert.ModFIdeal.main_arg0)
      ∧ r.2.mem ((c.tc : Thread Cert.ModFIdeal.nD Cert.ModFIdeal.τ).loc Cert.ModFIdeal.main_arg1) = m ((c.tc : Thread Cert.ModFIdeal.nD Cert.ModFIdeal.τ).loc Cert.ModFIdeal.main_arg1)
      ∧ r.2.mem ((c.tc : Thread Cert.ModFIdeal.nD Cert.ModFIdeal.τ).loc Cert.ModFIdeal.main_arg2) = m ((c.tc : Thread Cert.ModFIdeal.nD Cert.ModFIdeal.τ).loc Cert.ModFIdeal.main_arg2)
      ∧ r.2.mem ((c.tc : Thread Cert.ModFIdeal.nD Cert.ModFIdeal.τ).loc Cert.ModFIdeal.main_arg3) = m ((c.tc : Thread Cert.ModFIdeal.nD Cert.ModFIdeal.τ).loc Cert.ModFIdeal.main_arg3))
      ∧ r.2.sem = fun _ => 0)

def quiescent_RefModFIdeal [hRefModFIdeal : Cert.RefModFIdeal.Facts] : Prop :=
  ∀ (m : (ℓ : Loc Cert.RefModFIdeal.nD Cert.RefModFIdeal.τ Cert.RefModFIdeal.sig) → Buf (Elt Ideal) ℓ) (g : Dev Cert.RefModFIdeal.nD → PrngReg), Pre_RefModFIdeal m →
    θ_run (Cert.RefModFIdeal.defs (F := Ideal)) (onTc (τ := Cert.RefModFIdeal.τ) (Cert.RefModFIdeal.main (F := Ideal))) ⟨m, fun _ => 0, g⟩ (fun r => (∀ c : Dev Cert.RefModFIdeal.nD,
      r.2.mem ((c.tc : Thread Cert.RefModFIdeal.nD Cert.RefModFIdeal.τ).loc Cert.RefModFIdeal.main_arg0) = m ((c.tc : Thread Cert.RefModFIdeal.nD Cert.RefModFIdeal.τ).loc Cert.RefModFIdeal.main_arg0)
      ∧ r.2.mem ((c.tc : Thread Cert.RefModFIdeal.nD Cert.RefModFIdeal.τ).loc Cert.RefModFIdeal.main_arg1) = m ((c.tc : Thread Cert.RefModFIdeal.nD Cert.RefModFIdeal.τ).loc Cert.RefModFIdeal.main_arg1)
      ∧ r.2.mem ((c.tc : Thread Cert.RefModFIdeal.nD Cert.RefModFIdeal.τ).loc Cert.RefModFIdeal.main_arg2) = m ((c.tc : Thread Cert.RefModFIdeal.nD Cert.RefModFIdeal.τ).loc Cert.RefModFIdeal.main_arg2)
      ∧ r.2.mem ((c.tc : Thread Cert.RefModFIdeal.nD Cert.RefModFIdeal.τ).loc Cert.RefModFIdeal.main_arg3) = m ((c.tc : Thread Cert.RefModFIdeal.nD Cert.RefModFIdeal.τ).loc Cert.RefModFIdeal.main_arg3))
      ∧ r.2.sem = fun _ => 0)

def quiescent_BinB [hBinB : Cert.BinB.Facts] : Prop :=
  ∀ (m : (ℓ : Loc Cert.BinB.nD Cert.BinB.τ Cert.BinB.sig) → Buf (Elt Bits) ℓ) (g : Dev Cert.BinB.nD → PrngReg), Pre_BinB m →
    θ_run (Cert.BinB.defs (F := Bits)) (onTc (τ := Cert.BinB.τ) (Cert.BinB.main (F := Bits))) ⟨m, fun _ => 0, g⟩ (fun r => (∀ c : Dev Cert.BinB.nD,
      r.2.mem ((c.tc : Thread Cert.BinB.nD Cert.BinB.τ).loc Cert.BinB.main_arg0) = m ((c.tc : Thread Cert.BinB.nD Cert.BinB.τ).loc Cert.BinB.main_arg0)
      ∧ r.2.mem ((c.tc : Thread Cert.BinB.nD Cert.BinB.τ).loc Cert.BinB.main_arg1) = m ((c.tc : Thread Cert.BinB.nD Cert.BinB.τ).loc Cert.BinB.main_arg1)
      ∧ r.2.mem ((c.tc : Thread Cert.BinB.nD Cert.BinB.τ).loc Cert.BinB.main_arg2) = m ((c.tc : Thread Cert.BinB.nD Cert.BinB.τ).loc Cert.BinB.main_arg2)
      ∧ r.2.mem ((c.tc : Thread Cert.BinB.nD Cert.BinB.τ).loc Cert.BinB.main_arg3) = m ((c.tc : Thread Cert.BinB.nD Cert.BinB.τ).loc Cert.BinB.main_arg3)
      ∧ r.2.mem ((c.tc : Thread Cert.BinB.nD Cert.BinB.τ).loc Cert.BinB.main_arg4) = m ((c.tc : Thread Cert.BinB.nD Cert.BinB.τ).loc Cert.BinB.main_arg4)
      ∧ r.2.mem ((c.tc : Thread Cert.BinB.nD Cert.BinB.τ).loc Cert.BinB.main_arg5) = m ((c.tc : Thread Cert.BinB.nD Cert.BinB.τ).loc Cert.BinB.main_arg5)
      ∧ r.2.mem ((c.tc : Thread Cert.BinB.nD Cert.BinB.τ).loc Cert.BinB.main_arg6) = m ((c.tc : Thread Cert.BinB.nD Cert.BinB.τ).loc Cert.BinB.main_arg6)
      ∧ r.2.mem ((c.tc : Thread Cert.BinB.nD Cert.BinB.τ).loc Cert.BinB.main_arg7) = m ((c.tc : Thread Cert.BinB.nD Cert.BinB.τ).loc Cert.BinB.main_arg7)
      ∧ r.2.mem ((c.tc : Thread Cert.BinB.nD Cert.BinB.τ).loc Cert.BinB.main_arg8) = m ((c.tc : Thread Cert.BinB.nD Cert.BinB.τ).loc Cert.BinB.main_arg8)
      ∧ r.2.mem ((c.tc : Thread Cert.BinB.nD Cert.BinB.τ).loc Cert.BinB.main_arg9) = m ((c.tc : Thread Cert.BinB.nD Cert.BinB.τ).loc Cert.BinB.main_arg9)
      ∧ r.2.mem ((c.tc : Thread Cert.BinB.nD Cert.BinB.τ).loc Cert.BinB.main_arg10) = m ((c.tc : Thread Cert.BinB.nD Cert.BinB.τ).loc Cert.BinB.main_arg10)
      ∧ r.2.mem ((c.tc : Thread Cert.BinB.nD Cert.BinB.τ).loc Cert.BinB.main_arg11) = m ((c.tc : Thread Cert.BinB.nD Cert.BinB.τ).loc Cert.BinB.main_arg11))
      ∧ r.2.sem = fun _ => 0)

def quiescent_BinBIdeal [hBinBIdeal : Cert.BinBIdeal.Facts] : Prop :=
  ∀ (m : (ℓ : Loc Cert.BinBIdeal.nD Cert.BinBIdeal.τ Cert.BinBIdeal.sig) → Buf (Elt Ideal) ℓ) (g : Dev Cert.BinBIdeal.nD → PrngReg), Pre_BinBIdeal m →
    θ_run (Cert.BinBIdeal.defs (F := Ideal)) (onTc (τ := Cert.BinBIdeal.τ) (Cert.BinBIdeal.main (F := Ideal))) ⟨m, fun _ => 0, g⟩ (fun r => (∀ c : Dev Cert.BinBIdeal.nD,
      r.2.mem ((c.tc : Thread Cert.BinBIdeal.nD Cert.BinBIdeal.τ).loc Cert.BinBIdeal.main_arg0) = m ((c.tc : Thread Cert.BinBIdeal.nD Cert.BinBIdeal.τ).loc Cert.BinBIdeal.main_arg0)
      ∧ r.2.mem ((c.tc : Thread Cert.BinBIdeal.nD Cert.BinBIdeal.τ).loc Cert.BinBIdeal.main_arg1) = m ((c.tc : Thread Cert.BinBIdeal.nD Cert.BinBIdeal.τ).loc Cert.BinBIdeal.main_arg1)
      ∧ r.2.mem ((c.tc : Thread Cert.BinBIdeal.nD Cert.BinBIdeal.τ).loc Cert.BinBIdeal.main_arg2) = m ((c.tc : Thread Cert.BinBIdeal.nD Cert.BinBIdeal.τ).loc Cert.BinBIdeal.main_arg2)
      ∧ r.2.mem ((c.tc : Thread Cert.BinBIdeal.nD Cert.BinBIdeal.τ).loc Cert.BinBIdeal.main_arg3) = m ((c.tc : Thread Cert.BinBIdeal.nD Cert.BinBIdeal.τ).loc Cert.BinBIdeal.main_arg3)
      ∧ r.2.mem ((c.tc : Thread Cert.BinBIdeal.nD Cert.BinBIdeal.τ).loc Cert.BinBIdeal.main_arg4) = m ((c.tc : Thread Cert.BinBIdeal.nD Cert.BinBIdeal.τ).loc Cert.BinBIdeal.main_arg4)
      ∧ r.2.mem ((c.tc : Thread Cert.BinBIdeal.nD Cert.BinBIdeal.τ).loc Cert.BinBIdeal.main_arg5) = m ((c.tc : Thread Cert.BinBIdeal.nD Cert.BinBIdeal.τ).loc Cert.BinBIdeal.main_arg5)
      ∧ r.2.mem ((c.tc : Thread Cert.BinBIdeal.nD Cert.BinBIdeal.τ).loc Cert.BinBIdeal.main_arg6) = m ((c.tc : Thread Cert.BinBIdeal.nD Cert.BinBIdeal.τ).loc Cert.BinBIdeal.main_arg6)
      ∧ r.2.mem ((c.tc : Thread Cert.BinBIdeal.nD Cert.BinBIdeal.τ).loc Cert.BinBIdeal.main_arg7) = m ((c.tc : Thread Cert.BinBIdeal.nD Cert.BinBIdeal.τ).loc Cert.BinBIdeal.main_arg7)
      ∧ r.2.mem ((c.tc : Thread Cert.BinBIdeal.nD Cert.BinBIdeal.τ).loc Cert.BinBIdeal.main_arg8) = m ((c.tc : Thread Cert.BinBIdeal.nD Cert.BinBIdeal.τ).loc Cert.BinBIdeal.main_arg8)
      ∧ r.2.mem ((c.tc : Thread Cert.BinBIdeal.nD Cert.BinBIdeal.τ).loc Cert.BinBIdeal.main_arg9) = m ((c.tc : Thread Cert.BinBIdeal.nD Cert.BinBIdeal.τ).loc Cert.BinBIdeal.main_arg9)
      ∧ r.2.mem ((c.tc : Thread Cert.BinBIdeal.nD Cert.BinBIdeal.τ).loc Cert.BinBIdeal.main_arg10) = m ((c.tc : Thread Cert.BinBIdeal.nD Cert.BinBIdeal.τ).loc Cert.BinBIdeal.main_arg10)
      ∧ r.2.mem ((c.tc : Thread Cert.BinBIdeal.nD Cert.BinBIdeal.τ).loc Cert.BinBIdeal.main_arg11) = m ((c.tc : Thread Cert.BinBIdeal.nD Cert.BinBIdeal.τ).loc Cert.BinBIdeal.main_arg11))
      ∧ r.2.sem = fun _ => 0)

def quiescent_BinBIdeal_pre_finite_bin [hBinBIdeal : Cert.BinBIdeal.Facts] [hPre_finite_bin : Cert.Pre_finite_bin.Facts] : Prop :=
  ∀ (m : (ℓ : Loc Cert.BinBIdeal.nD Cert.BinBIdeal.τ Cert.BinBIdeal.sig) → Buf (Elt Ideal) ℓ) (g : Dev Cert.BinBIdeal.nD → PrngReg), Pre_BinBIdeal_finite_bin m →
    θ_run (Cert.BinBIdeal.defs (F := Ideal)) (onTc (τ := Cert.BinBIdeal.τ) (Cert.BinBIdeal.main (F := Ideal))) ⟨m, fun _ => 0, g⟩ (fun r => (∀ c : Dev Cert.BinBIdeal.nD,
      r.2.mem ((c.tc : Thread Cert.BinBIdeal.nD Cert.BinBIdeal.τ).loc Cert.BinBIdeal.main_arg0) = m ((c.tc : Thread Cert.BinBIdeal.nD Cert.BinBIdeal.τ).loc Cert.BinBIdeal.main_arg0)
      ∧ r.2.mem ((c.tc : Thread Cert.BinBIdeal.nD Cert.BinBIdeal.τ).loc Cert.BinBIdeal.main_arg1) = m ((c.tc : Thread Cert.BinBIdeal.nD Cert.BinBIdeal.τ).loc Cert.BinBIdeal.main_arg1)
      ∧ r.2.mem ((c.tc : Thread Cert.BinBIdeal.nD Cert.BinBIdeal.τ).loc Cert.BinBIdeal.main_arg2) = m ((c.tc : Thread Cert.BinBIdeal.nD Cert.BinBIdeal.τ).loc Cert.BinBIdeal.main_arg2)
      ∧ r.2.mem ((c.tc : Thread Cert.BinBIdeal.nD Cert.BinBIdeal.τ).loc Cert.BinBIdeal.main_arg3) = m ((c.tc : Thread Cert.BinBIdeal.nD Cert.BinBIdeal.τ).loc Cert.BinBIdeal.main_arg3)
      ∧ r.2.mem ((c.tc : Thread Cert.BinBIdeal.nD Cert.BinBIdeal.τ).loc Cert.BinBIdeal.main_arg4) = m ((c.tc : Thread Cert.BinBIdeal.nD Cert.BinBIdeal.τ).loc Cert.BinBIdeal.main_arg4)
      ∧ r.2.mem ((c.tc : Thread Cert.BinBIdeal.nD Cert.BinBIdeal.τ).loc Cert.BinBIdeal.main_arg5) = m ((c.tc : Thread Cert.BinBIdeal.nD Cert.BinBIdeal.τ).loc Cert.BinBIdeal.main_arg5)
      ∧ r.2.mem ((c.tc : Thread Cert.BinBIdeal.nD Cert.BinBIdeal.τ).loc Cert.BinBIdeal.main_arg6) = m ((c.tc : Thread Cert.BinBIdeal.nD Cert.BinBIdeal.τ).loc Cert.BinBIdeal.main_arg6)
      ∧ r.2.mem ((c.tc : Thread Cert.BinBIdeal.nD Cert.BinBIdeal.τ).loc Cert.BinBIdeal.main_arg7) = m ((c.tc : Thread Cert.BinBIdeal.nD Cert.BinBIdeal.τ).loc Cert.BinBIdeal.main_arg7)
      ∧ r.2.mem ((c.tc : Thread Cert.BinBIdeal.nD Cert.BinBIdeal.τ).loc Cert.BinBIdeal.main_arg8) = m ((c.tc : Thread Cert.BinBIdeal.nD Cert.BinBIdeal.τ).loc Cert.BinBIdeal.main_arg8)
      ∧ r.2.mem ((c.tc : Thread Cert.BinBIdeal.nD Cert.BinBIdeal.τ).loc Cert.BinBIdeal.main_arg9) = m ((c.tc : Thread Cert.BinBIdeal.nD Cert.BinBIdeal.τ).loc Cert.BinBIdeal.main_arg9)
      ∧ r.2.mem ((c.tc : Thread Cert.BinBIdeal.nD Cert.BinBIdeal.τ).loc Cert.BinBIdeal.main_arg10) = m ((c.tc : Thread Cert.BinBIdeal.nD Cert.BinBIdeal.τ).loc Cert.BinBIdeal.main_arg10)
      ∧ r.2.mem ((c.tc : Thread Cert.BinBIdeal.nD Cert.BinBIdeal.τ).loc Cert.BinBIdeal.main_arg11) = m ((c.tc : Thread Cert.BinBIdeal.nD Cert.BinBIdeal.τ).loc Cert.BinBIdeal.main_arg11))
      ∧ r.2.sem = fun _ => 0)

def quiescent_RefBinBIdeal [hRefBinBIdeal : Cert.RefBinBIdeal.Facts] : Prop :=
  ∀ (m : (ℓ : Loc Cert.RefBinBIdeal.nD Cert.RefBinBIdeal.τ Cert.RefBinBIdeal.sig) → Buf (Elt Ideal) ℓ) (g : Dev Cert.RefBinBIdeal.nD → PrngReg), Pre_RefBinBIdeal m →
    θ_run (Cert.RefBinBIdeal.defs (F := Ideal)) (onTc (τ := Cert.RefBinBIdeal.τ) (Cert.RefBinBIdeal.main (F := Ideal))) ⟨m, fun _ => 0, g⟩ (fun r => (∀ c : Dev Cert.RefBinBIdeal.nD,
      r.2.mem ((c.tc : Thread Cert.RefBinBIdeal.nD Cert.RefBinBIdeal.τ).loc Cert.RefBinBIdeal.main_arg0) = m ((c.tc : Thread Cert.RefBinBIdeal.nD Cert.RefBinBIdeal.τ).loc Cert.RefBinBIdeal.main_arg0)
      ∧ r.2.mem ((c.tc : Thread Cert.RefBinBIdeal.nD Cert.RefBinBIdeal.τ).loc Cert.RefBinBIdeal.main_arg1) = m ((c.tc : Thread Cert.RefBinBIdeal.nD Cert.RefBinBIdeal.τ).loc Cert.RefBinBIdeal.main_arg1)
      ∧ r.2.mem ((c.tc : Thread Cert.RefBinBIdeal.nD Cert.RefBinBIdeal.τ).loc Cert.RefBinBIdeal.main_arg2) = m ((c.tc : Thread Cert.RefBinBIdeal.nD Cert.RefBinBIdeal.τ).loc Cert.RefBinBIdeal.main_arg2)
      ∧ r.2.mem ((c.tc : Thread Cert.RefBinBIdeal.nD Cert.RefBinBIdeal.τ).loc Cert.RefBinBIdeal.main_arg3) = m ((c.tc : Thread Cert.RefBinBIdeal.nD Cert.RefBinBIdeal.τ).loc Cert.RefBinBIdeal.main_arg3)
      ∧ r.2.mem ((c.tc : Thread Cert.RefBinBIdeal.nD Cert.RefBinBIdeal.τ).loc Cert.RefBinBIdeal.main_arg4) = m ((c.tc : Thread Cert.RefBinBIdeal.nD Cert.RefBinBIdeal.τ).loc Cert.RefBinBIdeal.main_arg4)
      ∧ r.2.mem ((c.tc : Thread Cert.RefBinBIdeal.nD Cert.RefBinBIdeal.τ).loc Cert.RefBinBIdeal.main_arg5) = m ((c.tc : Thread Cert.RefBinBIdeal.nD Cert.RefBinBIdeal.τ).loc Cert.RefBinBIdeal.main_arg5)
      ∧ r.2.mem ((c.tc : Thread Cert.RefBinBIdeal.nD Cert.RefBinBIdeal.τ).loc Cert.RefBinBIdeal.main_arg6) = m ((c.tc : Thread Cert.RefBinBIdeal.nD Cert.RefBinBIdeal.τ).loc Cert.RefBinBIdeal.main_arg6)
      ∧ r.2.mem ((c.tc : Thread Cert.RefBinBIdeal.nD Cert.RefBinBIdeal.τ).loc Cert.RefBinBIdeal.main_arg7) = m ((c.tc : Thread Cert.RefBinBIdeal.nD Cert.RefBinBIdeal.τ).loc Cert.RefBinBIdeal.main_arg7)
      ∧ r.2.mem ((c.tc : Thread Cert.RefBinBIdeal.nD Cert.RefBinBIdeal.τ).loc Cert.RefBinBIdeal.main_arg8) = m ((c.tc : Thread Cert.RefBinBIdeal.nD Cert.RefBinBIdeal.τ).loc Cert.RefBinBIdeal.main_arg8)
      ∧ r.2.mem ((c.tc : Thread Cert.RefBinBIdeal.nD Cert.RefBinBIdeal.τ).loc Cert.RefBinBIdeal.main_arg9) = m ((c.tc : Thread Cert.RefBinBIdeal.nD Cert.RefBinBIdeal.τ).loc Cert.RefBinBIdeal.main_arg9)
      ∧ r.2.mem ((c.tc : Thread Cert.RefBinBIdeal.nD Cert.RefBinBIdeal.τ).loc Cert.RefBinBIdeal.main_arg10) = m ((c.tc : Thread Cert.RefBinBIdeal.nD Cert.RefBinBIdeal.τ).loc Cert.RefBinBIdeal.main_arg10)
      ∧ r.2.mem ((c.tc : Thread Cert.RefBinBIdeal.nD Cert.RefBinBIdeal.τ).loc Cert.RefBinBIdeal.main_arg11) = m ((c.tc : Thread Cert.RefBinBIdeal.nD Cert.RefBinBIdeal.τ).loc Cert.RefBinBIdeal.main_arg11))
      ∧ r.2.sem = fun _ => 0)

def quiescent_RefBinBIdeal_pre_finite_bin [hRefBinBIdeal : Cert.RefBinBIdeal.Facts] [hPre_finite_bin : Cert.Pre_finite_bin.Facts] : Prop :=
  ∀ (m : (ℓ : Loc Cert.RefBinBIdeal.nD Cert.RefBinBIdeal.τ Cert.RefBinBIdeal.sig) → Buf (Elt Ideal) ℓ) (g : Dev Cert.RefBinBIdeal.nD → PrngReg), Pre_RefBinBIdeal_finite_bin m →
    θ_run (Cert.RefBinBIdeal.defs (F := Ideal)) (onTc (τ := Cert.RefBinBIdeal.τ) (Cert.RefBinBIdeal.main (F := Ideal))) ⟨m, fun _ => 0, g⟩ (fun r => (∀ c : Dev Cert.RefBinBIdeal.nD,
      r.2.mem ((c.tc : Thread Cert.RefBinBIdeal.nD Cert.RefBinBIdeal.τ).loc Cert.RefBinBIdeal.main_arg0) = m ((c.tc : Thread Cert.RefBinBIdeal.nD Cert.RefBinBIdeal.τ).loc Cert.RefBinBIdeal.main_arg0)
      ∧ r.2.mem ((c.tc : Thread Cert.RefBinBIdeal.nD Cert.RefBinBIdeal.τ).loc Cert.RefBinBIdeal.main_arg1) = m ((c.tc : Thread Cert.RefBinBIdeal.nD Cert.RefBinBIdeal.τ).loc Cert.RefBinBIdeal.main_arg1)
      ∧ r.2.mem ((c.tc : Thread Cert.RefBinBIdeal.nD Cert.RefBinBIdeal.τ).loc Cert.RefBinBIdeal.main_arg2) = m ((c.tc : Thread Cert.RefBinBIdeal.nD Cert.RefBinBIdeal.τ).loc Cert.RefBinBIdeal.main_arg2)
      ∧ r.2.mem ((c.tc : Thread Cert.RefBinBIdeal.nD Cert.RefBinBIdeal.τ).loc Cert.RefBinBIdeal.main_arg3) = m ((c.tc : Thread Cert.RefBinBIdeal.nD Cert.RefBinBIdeal.τ).loc Cert.RefBinBIdeal.main_arg3)
      ∧ r.2.mem ((c.tc : Thread Cert.RefBinBIdeal.nD Cert.RefBinBIdeal.τ).loc Cert.RefBinBIdeal.main_arg4) = m ((c.tc : Thread Cert.RefBinBIdeal.nD Cert.RefBinBIdeal.τ).loc Cert.RefBinBIdeal.main_arg4)
      ∧ r.2.mem ((c.tc : Thread Cert.RefBinBIdeal.nD Cert.RefBinBIdeal.τ).loc Cert.RefBinBIdeal.main_arg5) = m ((c.tc : Thread Cert.RefBinBIdeal.nD Cert.RefBinBIdeal.τ).loc Cert.RefBinBIdeal.main_arg5)
      ∧ r.2.mem ((c.tc : Thread Cert.RefBinBIdeal.nD Cert.RefBinBIdeal.τ).loc Cert.RefBinBIdeal.main_arg6) = m ((c.tc : Thread Cert.RefBinBIdeal.nD Cert.RefBinBIdeal.τ).loc Cert.RefBinBIdeal.main_arg6)
      ∧ r.2.mem ((c.tc : Thread Cert.RefBinBIdeal.nD Cert.RefBinBIdeal.τ).loc Cert.RefBinBIdeal.main_arg7) = m ((c.tc : Thread Cert.RefBinBIdeal.nD Cert.RefBinBIdeal.τ).loc Cert.RefBinBIdeal.main_arg7)
      ∧ r.2.mem ((c.tc : Thread Cert.RefBinBIdeal.nD Cert.RefBinBIdeal.τ).loc Cert.RefBinBIdeal.main_arg8) = m ((c.tc : Thread Cert.RefBinBIdeal.nD Cert.RefBinBIdeal.τ).loc Cert.RefBinBIdeal.main_arg8)
      ∧ r.2.mem ((c.tc : Thread Cert.RefBinBIdeal.nD Cert.RefBinBIdeal.τ).loc Cert.RefBinBIdeal.main_arg9) = m ((c.tc : Thread Cert.RefBinBIdeal.nD Cert.RefBinBIdeal.τ).loc Cert.RefBinBIdeal.main_arg9)
      ∧ r.2.mem ((c.tc : Thread Cert.RefBinBIdeal.nD Cert.RefBinBIdeal.τ).loc Cert.RefBinBIdeal.main_arg10) = m ((c.tc : Thread Cert.RefBinBIdeal.nD Cert.RefBinBIdeal.τ).loc Cert.RefBinBIdeal.main_arg10)
      ∧ r.2.mem ((c.tc : Thread Cert.RefBinBIdeal.nD Cert.RefBinBIdeal.τ).loc Cert.RefBinBIdeal.main_arg11) = m ((c.tc : Thread Cert.RefBinBIdeal.nD Cert.RefBinBIdeal.τ).loc Cert.RefBinBIdeal.main_arg11))
      ∧ r.2.sem = fun _ => 0)

def quiescent_CondF [hCondF : Cert.CondF.Facts] : Prop :=
  ∀ (m : (ℓ : Loc Cert.CondF.nD Cert.CondF.τ Cert.CondF.sig) → Buf (Elt Bits) ℓ) (g : Dev Cert.CondF.nD → PrngReg), Pre_CondF m →
    θ_run (Cert.CondF.defs (F := Bits)) (onTc (τ := Cert.CondF.τ) (Cert.CondF.main (F := Bits))) ⟨m, fun _ => 0, g⟩ (fun r => (∀ c : Dev Cert.CondF.nD,
      r.2.mem ((c.tc : Thread Cert.CondF.nD Cert.CondF.τ).loc Cert.CondF.main_arg0) = m ((c.tc : Thread Cert.CondF.nD Cert.CondF.τ).loc Cert.CondF.main_arg0))
      ∧ r.2.sem = fun _ => 0)

def quiescent_CondFIdeal [hCondFIdeal : Cert.CondFIdeal.Facts] : Prop :=
  ∀ (m : (ℓ : Loc Cert.CondFIdeal.nD Cert.CondFIdeal.τ Cert.CondFIdeal.sig) → Buf (Elt Ideal) ℓ) (g : Dev Cert.CondFIdeal.nD → PrngReg), Pre_CondFIdeal m →
    θ_run (Cert.CondFIdeal.defs (F := Ideal)) (onTc (τ := Cert.CondFIdeal.τ) (Cert.CondFIdeal.main (F := Ideal))) ⟨m, fun _ => 0, g⟩ (fun r => (∀ c : Dev Cert.CondFIdeal.nD,
      r.2.mem ((c.tc : Thread Cert.CondFIdeal.nD Cert.CondFIdeal.τ).loc Cert.CondFIdeal.main_arg0) = m ((c.tc : Thread Cert.CondFIdeal.nD Cert.CondFIdeal.τ).loc Cert.CondFIdeal.main_arg0))
      ∧ r.2.sem = fun _ => 0)

def quiescent_RefCondFIdeal [hRefCondFIdeal : Cert.RefCondFIdeal.Facts] : Prop :=
  ∀ (m : (ℓ : Loc Cert.RefCondFIdeal.nD Cert.RefCondFIdeal.τ Cert.RefCondFIdeal.sig) → Buf (Elt Ideal) ℓ) (g : Dev Cert.RefCondFIdeal.nD → PrngReg), Pre_RefCondFIdeal m →
    θ_run (Cert.RefCondFIdeal.defs (F := Ideal)) (onTc (τ := Cert.RefCondFIdeal.τ) (Cert.RefCondFIdeal.main (F := Ideal))) ⟨m, fun _ => 0, g⟩ (fun r => (∀ c : Dev Cert.RefCondFIdeal.nD,
      r.2.mem ((c.tc : Thread Cert.RefCondFIdeal.nD Cert.RefCondFIdeal.τ).loc Cert.RefCondFIdeal.main_arg0) = m ((c.tc : Thread Cert.RefCondFIdeal.nD Cert.RefCondFIdeal.τ).loc Cert.RefCondFIdeal.main_arg0))
      ∧ r.2.sem = fun _ => 0)

def quiescent_AdaF [hAdaF : Cert.AdaF.Facts] : Prop :=
  ∀ (m : (ℓ : Loc Cert.AdaF.nD Cert.AdaF.τ Cert.AdaF.sig) → Buf (Elt Bits) ℓ) (g : Dev Cert.AdaF.nD → PrngReg), Pre_AdaF m →
    θ_run (Cert.AdaF.defs (F := Bits)) (onTc (τ := Cert.AdaF.τ) (Cert.AdaF.main (F := Bits))) ⟨m, fun _ => 0, g⟩ (fun r => (∀ c : Dev Cert.AdaF.nD,
      r.2.mem ((c.tc : Thread Cert.AdaF.nD Cert.AdaF.τ).loc Cert.AdaF.main_arg0) = m ((c.tc : Thread Cert.AdaF.nD Cert.AdaF.τ).loc Cert.AdaF.main_arg0)
      ∧ r.2.mem ((c.tc : Thread Cert.AdaF.nD Cert.AdaF.τ).loc Cert.AdaF.main_arg1) = m ((c.tc : Thread Cert.AdaF.nD Cert.AdaF.τ).loc Cert.AdaF.main_arg1)
      ∧ r.2.mem ((c.tc : Thread Cert.AdaF.nD Cert.AdaF.τ).loc Cert.AdaF.main_arg2) = m ((c.tc : Thread Cert.AdaF.nD Cert.AdaF.τ).loc Cert.AdaF.main_arg2))
      ∧ r.2.sem = fun _ => 0)

def quiescent_AdaFIdeal [hAdaFIdeal : Cert.AdaFIdeal.Facts] : Prop :=
  ∀ (m : (ℓ : Loc Cert.AdaFIdeal.nD Cert.AdaFIdeal.τ Cert.AdaFIdeal.sig) → Buf (Elt Ideal) ℓ) (g : Dev Cert.AdaFIdeal.nD → PrngReg), Pre_AdaFIdeal m →
    θ_run (Cert.AdaFIdeal.defs (F := Ideal)) (onTc (τ := Cert.AdaFIdeal.τ) (Cert.AdaFIdeal.main (F := Ideal))) ⟨m, fun _ => 0, g⟩ (fun r => (∀ c : Dev Cert.AdaFIdeal.nD,
      r.2.mem ((c.tc : Thread Cert.AdaFIdeal.nD Cert.AdaFIdeal.τ).loc Cert.AdaFIdeal.main_arg0) = m ((c.tc : Thread Cert.AdaFIdeal.nD Cert.AdaFIdeal.τ).loc Cert.AdaFIdeal.main_arg0)
      ∧ r.2.mem ((c.tc : Thread Cert.AdaFIdeal.nD Cert.AdaFIdeal.τ).loc Cert.AdaFIdeal.main_arg1) = m ((c.tc : Thread Cert.AdaFIdeal.nD Cert.AdaFIdeal.τ).loc Cert.AdaFIdeal.main_arg1)
      ∧ r.2.mem ((c.tc : Thread Cert.AdaFIdeal.nD Cert.AdaFIdeal.τ).loc Cert.AdaFIdeal.main_arg2) = m ((c.tc : Thread Cert.AdaFIdeal.nD Cert.AdaFIdeal.τ).loc Cert.AdaFIdeal.main_arg2))
      ∧ r.2.sem = fun _ => 0)

def quiescent_RefAdaFIdeal [hRefAdaFIdeal : Cert.RefAdaFIdeal.Facts] : Prop :=
  ∀ (m : (ℓ : Loc Cert.RefAdaFIdeal.nD Cert.RefAdaFIdeal.τ Cert.RefAdaFIdeal.sig) → Buf (Elt Ideal) ℓ) (g : Dev Cert.RefAdaFIdeal.nD → PrngReg), Pre_RefAdaFIdeal m →
    θ_run (Cert.RefAdaFIdeal.defs (F := Ideal)) (onTc (τ := Cert.RefAdaFIdeal.τ) (Cert.RefAdaFIdeal.main (F := Ideal))) ⟨m, fun _ => 0, g⟩ (fun r => (∀ c : Dev Cert.RefAdaFIdeal.nD,
      r.2.mem ((c.tc : Thread Cert.RefAdaFIdeal.nD Cert.RefAdaFIdeal.τ).loc Cert.RefAdaFIdeal.main_arg0) = m ((c.tc : Thread Cert.RefAdaFIdeal.nD Cert.RefAdaFIdeal.τ).loc Cert.RefAdaFIdeal.main_arg0)
      ∧ r.2.mem ((c.tc : Thread Cert.RefAdaFIdeal.nD Cert.RefAdaFIdeal.τ).loc Cert.RefAdaFIdeal.main_arg1) = m ((c.tc : Thread Cert.RefAdaFIdeal.nD Cert.RefAdaFIdeal.τ).loc Cert.RefAdaFIdeal.main_arg1)
      ∧ r.2.mem ((c.tc : Thread Cert.RefAdaFIdeal.nD Cert.RefAdaFIdeal.τ).loc Cert.RefAdaFIdeal.main_arg2) = m ((c.tc : Thread Cert.RefAdaFIdeal.nD Cert.RefAdaFIdeal.τ).loc Cert.RefAdaFIdeal.main_arg2))
      ∧ r.2.sem = fun _ => 0)

def quiescent_QkvF [hQkvF : Cert.QkvF.Facts] : Prop :=
  ∀ (m : (ℓ : Loc Cert.QkvF.nD Cert.QkvF.τ Cert.QkvF.sig) → Buf (Elt Bits) ℓ) (g : Dev Cert.QkvF.nD → PrngReg), Pre_QkvF m →
    θ_run (Cert.QkvF.defs (F := Bits)) (onTc (τ := Cert.QkvF.τ) (Cert.QkvF.main (F := Bits))) ⟨m, fun _ => 0, g⟩ (fun r => (∀ c : Dev Cert.QkvF.nD,
      r.2.mem ((c.tc : Thread Cert.QkvF.nD Cert.QkvF.τ).loc Cert.QkvF.main_arg0) = m ((c.tc : Thread Cert.QkvF.nD Cert.QkvF.τ).loc Cert.QkvF.main_arg0)
      ∧ r.2.mem ((c.tc : Thread Cert.QkvF.nD Cert.QkvF.τ).loc Cert.QkvF.main_arg1) = m ((c.tc : Thread Cert.QkvF.nD Cert.QkvF.τ).loc Cert.QkvF.main_arg1))
      ∧ r.2.sem = fun _ => 0)

def quiescent_QkvFIdeal [hQkvFIdeal : Cert.QkvFIdeal.Facts] : Prop :=
  ∀ (m : (ℓ : Loc Cert.QkvFIdeal.nD Cert.QkvFIdeal.τ Cert.QkvFIdeal.sig) → Buf (Elt Ideal) ℓ) (g : Dev Cert.QkvFIdeal.nD → PrngReg), Pre_QkvFIdeal m →
    θ_run (Cert.QkvFIdeal.defs (F := Ideal)) (onTc (τ := Cert.QkvFIdeal.τ) (Cert.QkvFIdeal.main (F := Ideal))) ⟨m, fun _ => 0, g⟩ (fun r => (∀ c : Dev Cert.QkvFIdeal.nD,
      r.2.mem ((c.tc : Thread Cert.QkvFIdeal.nD Cert.QkvFIdeal.τ).loc Cert.QkvFIdeal.main_arg0) = m ((c.tc : Thread Cert.QkvFIdeal.nD Cert.QkvFIdeal.τ).loc Cert.QkvFIdeal.main_arg0)
      ∧ r.2.mem ((c.tc : Thread Cert.QkvFIdeal.nD Cert.QkvFIdeal.τ).loc Cert.QkvFIdeal.main_arg1) = m ((c.tc : Thread Cert.QkvFIdeal.nD Cert.QkvFIdeal.τ).loc Cert.QkvFIdeal.main_arg1))
      ∧ r.2.sem = fun _ => 0)

def quiescent_RefQkvFIdeal [hRefQkvFIdeal : Cert.RefQkvFIdeal.Facts] : Prop :=
  ∀ (m : (ℓ : Loc Cert.RefQkvFIdeal.nD Cert.RefQkvFIdeal.τ Cert.RefQkvFIdeal.sig) → Buf (Elt Ideal) ℓ) (g : Dev Cert.RefQkvFIdeal.nD → PrngReg), Pre_RefQkvFIdeal m →
    θ_run (Cert.RefQkvFIdeal.defs (F := Ideal)) (onTc (τ := Cert.RefQkvFIdeal.τ) (Cert.RefQkvFIdeal.main (F := Ideal))) ⟨m, fun _ => 0, g⟩ (fun r => (∀ c : Dev Cert.RefQkvFIdeal.nD,
      r.2.mem ((c.tc : Thread Cert.RefQkvFIdeal.nD Cert.RefQkvFIdeal.τ).loc Cert.RefQkvFIdeal.main_arg0) = m ((c.tc : Thread Cert.RefQkvFIdeal.nD Cert.RefQkvFIdeal.τ).loc Cert.RefQkvFIdeal.main_arg0)
      ∧ r.2.mem ((c.tc : Thread Cert.RefQkvFIdeal.nD Cert.RefQkvFIdeal.τ).loc Cert.RefQkvFIdeal.main_arg1) = m ((c.tc : Thread Cert.RefQkvFIdeal.nD Cert.RefQkvFIdeal.τ).loc Cert.RefQkvFIdeal.main_arg1))
      ∧ r.2.sem = fun _ => 0)

def quiescent_WeightB [hWeightB : Cert.WeightB.Facts] : Prop :=
  ∀ (m : (ℓ : Loc Cert.WeightB.nD Cert.WeightB.τ Cert.WeightB.sig) → Buf (Elt Bits) ℓ) (g : Dev Cert.WeightB.nD → PrngReg), Pre_WeightB m →
    θ_run (Cert.WeightB.defs (F := Bits)) (onTc (τ := Cert.WeightB.τ) (Cert.WeightB.main (F := Bits))) ⟨m, fun _ => 0, g⟩ (fun r => (∀ c : Dev Cert.WeightB.nD,
      r.2.mem ((c.tc : Thread Cert.WeightB.nD Cert.WeightB.τ).loc Cert.WeightB.main_arg0) = m ((c.tc : Thread Cert.WeightB.nD Cert.WeightB.τ).loc Cert.WeightB.main_arg0)
      ∧ r.2.mem ((c.tc : Thread Cert.WeightB.nD Cert.WeightB.τ).loc Cert.WeightB.main_arg1) = m ((c.tc : Thread Cert.WeightB.nD Cert.WeightB.τ).loc Cert.WeightB.main_arg1))
      ∧ r.2.sem = fun _ => 0)

def quiescent_WeightBIdeal [hWeightBIdeal : Cert.WeightBIdeal.Facts] : Prop :=
  ∀ (m : (ℓ : Loc Cert.WeightBIdeal.nD Cert.WeightBIdeal.τ Cert.WeightBIdeal.sig) → Buf (Elt Ideal) ℓ) (g : Dev Cert.WeightBIdeal.nD → PrngReg), Pre_WeightBIdeal m →
    θ_run (Cert.WeightBIdeal.defs (F := Ideal)) (onTc (τ := Cert.WeightBIdeal.τ) (Cert.WeightBIdeal.main (F := Ideal))) ⟨m, fun _ => 0, g⟩ (fun r => (∀ c : Dev Cert.WeightBIdeal.nD,
      r.2.mem ((c.tc : Thread Cert.WeightBIdeal.nD Cert.WeightBIdeal.τ).loc Cert.WeightBIdeal.main_arg0) = m ((c.tc : Thread Cert.WeightBIdeal.nD Cert.WeightBIdeal.τ).loc Cert.WeightBIdeal.main_arg0)
      ∧ r.2.mem ((c.tc : Thread Cert.WeightBIdeal.nD Cert.WeightBIdeal.τ).loc Cert.WeightBIdeal.main_arg1) = m ((c.tc : Thread Cert.WeightBIdeal.nD Cert.WeightBIdeal.τ).loc Cert.WeightBIdeal.main_arg1))
      ∧ r.2.sem = fun _ => 0)

def quiescent_RefWeightBIdeal [hRefWeightBIdeal : Cert.RefWeightBIdeal.Facts] : Prop :=
  ∀ (m : (ℓ : Loc Cert.RefWeightBIdeal.nD Cert.RefWeightBIdeal.τ Cert.RefWeightBIdeal.sig) → Buf (Elt Ideal) ℓ) (g : Dev Cert.RefWeightBIdeal.nD → PrngReg), Pre_RefWeightBIdeal m →
    θ_run (Cert.RefWeightBIdeal.defs (F := Ideal)) (onTc (τ := Cert.RefWeightBIdeal.τ) (Cert.RefWeightBIdeal.main (F := Ideal))) ⟨m, fun _ => 0, g⟩ (fun r => (∀ c : Dev Cert.RefWeightBIdeal.nD,
      r.2.mem ((c.tc : Thread Cert.RefWeightBIdeal.nD Cert.RefWeightBIdeal.τ).loc Cert.RefWeightBIdeal.main_arg0) = m ((c.tc : Thread Cert.RefWeightBIdeal.nD Cert.RefWeightBIdeal.τ).loc Cert.RefWeightBIdeal.main_arg0)
      ∧ r.2.mem ((c.tc : Thread Cert.RefWeightBIdeal.nD Cert.RefWeightBIdeal.τ).loc Cert.RefWeightBIdeal.main_arg1) = m ((c.tc : Thread Cert.RefWeightBIdeal.nD Cert.RefWeightBIdeal.τ).loc Cert.RefWeightBIdeal.main_arg1))
      ∧ r.2.sem = fun _ => 0)

def quiescent_AdamU [hAdamU : Cert.AdamU.Facts] : Prop :=
  ∀ (m : (ℓ : Loc Cert.AdamU.nD Cert.AdamU.τ Cert.AdamU.sig) → Buf (Elt Bits) ℓ) (g : Dev Cert.AdamU.nD → PrngReg), Pre_AdamU m →
    θ_run (Cert.AdamU.defs (F := Bits)) (onTc (τ := Cert.AdamU.τ) (Cert.AdamU.main (F := Bits))) ⟨m, fun _ => 0, g⟩ (fun r => (∀ c : Dev Cert.AdamU.nD,
      r.2.mem ((c.tc : Thread Cert.AdamU.nD Cert.AdamU.τ).loc Cert.AdamU.main_arg0) = m ((c.tc : Thread Cert.AdamU.nD Cert.AdamU.τ).loc Cert.AdamU.main_arg0)
      ∧ r.2.mem ((c.tc : Thread Cert.AdamU.nD Cert.AdamU.τ).loc Cert.AdamU.main_arg1) = m ((c.tc : Thread Cert.AdamU.nD Cert.AdamU.τ).loc Cert.AdamU.main_arg1)
      ∧ r.2.mem ((c.tc : Thread Cert.AdamU.nD Cert.AdamU.τ).loc Cert.AdamU.main_arg2) = m ((c.tc : Thread Cert.AdamU.nD Cert.AdamU.τ).loc Cert.AdamU.main_arg2)
      ∧ r.2.mem ((c.tc : Thread Cert.AdamU.nD Cert.AdamU.τ).loc Cert.AdamU.main_arg3) = m ((c.tc : Thread Cert.AdamU.nD Cert.AdamU.τ).loc Cert.AdamU.main_arg3))
      ∧ r.2.sem = fun _ => 0)

def quiescent_AdamUIdeal [hAdamUIdeal : Cert.AdamUIdeal.Facts] : Prop :=
  ∀ (m : (ℓ : Loc Cert.AdamUIdeal.nD Cert.AdamUIdeal.τ Cert.AdamUIdeal.sig) → Buf (Elt Ideal) ℓ) (g : Dev Cert.AdamUIdeal.nD → PrngReg), Pre_AdamUIdeal m →
    θ_run (Cert.AdamUIdeal.defs (F := Ideal)) (onTc (τ := Cert.AdamUIdeal.τ) (Cert.AdamUIdeal.main (F := Ideal))) ⟨m, fun _ => 0, g⟩ (fun r => (∀ c : Dev Cert.AdamUIdeal.nD,
      r.2.mem ((c.tc : Thread Cert.AdamUIdeal.nD Cert.AdamUIdeal.τ).loc Cert.AdamUIdeal.main_arg0) = m ((c.tc : Thread Cert.AdamUIdeal.nD Cert.AdamUIdeal.τ).loc Cert.AdamUIdeal.main_arg0)
      ∧ r.2.mem ((c.tc : Thread Cert.AdamUIdeal.nD Cert.AdamUIdeal.τ).loc Cert.AdamUIdeal.main_arg1) = m ((c.tc : Thread Cert.AdamUIdeal.nD Cert.AdamUIdeal.τ).loc Cert.AdamUIdeal.main_arg1)
      ∧ r.2.mem ((c.tc : Thread Cert.AdamUIdeal.nD Cert.AdamUIdeal.τ).loc Cert.AdamUIdeal.main_arg2) = m ((c.tc : Thread Cert.AdamUIdeal.nD Cert.AdamUIdeal.τ).loc Cert.AdamUIdeal.main_arg2)
      ∧ r.2.mem ((c.tc : Thread Cert.AdamUIdeal.nD Cert.AdamUIdeal.τ).loc Cert.AdamUIdeal.main_arg3) = m ((c.tc : Thread Cert.AdamUIdeal.nD Cert.AdamUIdeal.τ).loc Cert.AdamUIdeal.main_arg3))
      ∧ r.2.sem = fun _ => 0)

def quiescent_RefAdamUIdeal [hRefAdamUIdeal : Cert.RefAdamUIdeal.Facts] : Prop :=
  ∀ (m : (ℓ : Loc Cert.RefAdamUIdeal.nD Cert.RefAdamUIdeal.τ Cert.RefAdamUIdeal.sig) → Buf (Elt Ideal) ℓ) (g : Dev Cert.RefAdamUIdeal.nD → PrngReg), Pre_RefAdamUIdeal m →
    θ_run (Cert.RefAdamUIdeal.defs (F := Ideal)) (onTc (τ := Cert.RefAdamUIdeal.τ) (Cert.RefAdamUIdeal.main (F := Ideal))) ⟨m, fun _ => 0, g⟩ (fun r => (∀ c : Dev Cert.RefAdamUIdeal.nD,
      r.2.mem ((c.tc : Thread Cert.RefAdamUIdeal.nD Cert.RefAdamUIdeal.τ).loc Cert.RefAdamUIdeal.main_arg0) = m ((c.tc : Thread Cert.RefAdamUIdeal.nD Cert.RefAdamUIdeal.τ).loc Cert.RefAdamUIdeal.main_arg0)
      ∧ r.2.mem ((c.tc : Thread Cert.RefAdamUIdeal.nD Cert.RefAdamUIdeal.τ).loc Cert.RefAdamUIdeal.main_arg1) = m ((c.tc : Thread Cert.RefAdamUIdeal.nD Cert.RefAdamUIdeal.τ).loc Cert.RefAdamUIdeal.main_arg1)
      ∧ r.2.mem ((c.tc : Thread Cert.RefAdamUIdeal.nD Cert.RefAdamUIdeal.τ).loc Cert.RefAdamUIdeal.main_arg2) = m ((c.tc : Thread Cert.RefAdamUIdeal.nD Cert.RefAdamUIdeal.τ).loc Cert.RefAdamUIdeal.main_arg2)
      ∧ r.2.mem ((c.tc : Thread Cert.RefAdamUIdeal.nD Cert.RefAdamUIdeal.τ).loc Cert.RefAdamUIdeal.main_arg3) = m ((c.tc : Thread Cert.RefAdamUIdeal.nD Cert.RefAdamUIdeal.τ).loc Cert.RefAdamUIdeal.main_arg3))
      ∧ r.2.sem = fun _ => 0)

def quiescent_SumU [hSumU : Cert.SumU.Facts] : Prop :=
  ∀ (m : (ℓ : Loc Cert.SumU.nD Cert.SumU.τ Cert.SumU.sig) → Buf (Elt Bits) ℓ) (g : Dev Cert.SumU.nD → PrngReg), Pre_SumU m →
    θ_run (Cert.SumU.defs (F := Bits)) (onTc (τ := Cert.SumU.τ) (Cert.SumU.main (F := Bits))) ⟨m, fun _ => 0, g⟩ (fun r => (∀ c : Dev Cert.SumU.nD,
      r.2.mem ((c.tc : Thread Cert.SumU.nD Cert.SumU.τ).loc Cert.SumU.main_arg0) = m ((c.tc : Thread Cert.SumU.nD Cert.SumU.τ).loc Cert.SumU.main_arg0))
      ∧ r.2.sem = fun _ => 0)

def quiescent_SumUIdeal [hSumUIdeal : Cert.SumUIdeal.Facts] : Prop :=
  ∀ (m : (ℓ : Loc Cert.SumUIdeal.nD Cert.SumUIdeal.τ Cert.SumUIdeal.sig) → Buf (Elt Ideal) ℓ) (g : Dev Cert.SumUIdeal.nD → PrngReg), Pre_SumUIdeal m →
    θ_run (Cert.SumUIdeal.defs (F := Ideal)) (onTc (τ := Cert.SumUIdeal.τ) (Cert.SumUIdeal.main (F := Ideal))) ⟨m, fun _ => 0, g⟩ (fun r => (∀ c : Dev Cert.SumUIdeal.nD,
      r.2.mem ((c.tc : Thread Cert.SumUIdeal.nD Cert.SumUIdeal.τ).loc Cert.SumUIdeal.main_arg0) = m ((c.tc : Thread Cert.SumUIdeal.nD Cert.SumUIdeal.τ).loc Cert.SumUIdeal.main_arg0))
      ∧ r.2.sem = fun _ => 0)

def quiescent_RefSumUIdeal [hRefSumUIdeal : Cert.RefSumUIdeal.Facts] : Prop :=
  ∀ (m : (ℓ : Loc Cert.RefSumUIdeal.nD Cert.RefSumUIdeal.τ Cert.RefSumUIdeal.sig) → Buf (Elt Ideal) ℓ) (g : Dev Cert.RefSumUIdeal.nD → PrngReg), Pre_RefSumUIdeal m →
    θ_run (Cert.RefSumUIdeal.defs (F := Ideal)) (onTc (τ := Cert.RefSumUIdeal.τ) (Cert.RefSumUIdeal.main (F := Ideal))) ⟨m, fun _ => 0, g⟩ (fun r => (∀ c : Dev Cert.RefSumUIdeal.nD,
      r.2.mem ((c.tc : Thread Cert.RefSumUIdeal.nD Cert.RefSumUIdeal.τ).loc Cert.RefSumUIdeal.main_arg0) = m ((c.tc : Thread Cert.RefSumUIdeal.nD Cert.RefSumUIdeal.τ).loc Cert.RefSumUIdeal.main_arg0))
      ∧ r.2.sem = fun _ => 0)

def quiescent_ConvF [hConvF : Cert.ConvF.Facts] : Prop :=
  ∀ (m : (ℓ : Loc Cert.ConvF.nD Cert.ConvF.τ Cert.ConvF.sig) → Buf (Elt Bits) ℓ) (g : Dev Cert.ConvF.nD → PrngReg), Pre_ConvF m →
    θ_run (Cert.ConvF.defs (F := Bits)) (onTc (τ := Cert.ConvF.τ) (Cert.ConvF.main (F := Bits))) ⟨m, fun _ => 0, g⟩ (fun r => (∀ c : Dev Cert.ConvF.nD,
      r.2.mem ((c.tc : Thread Cert.ConvF.nD Cert.ConvF.τ).loc Cert.ConvF.main_arg0) = m ((c.tc : Thread Cert.ConvF.nD Cert.ConvF.τ).loc Cert.ConvF.main_arg0)
      ∧ r.2.mem ((c.tc : Thread Cert.ConvF.nD Cert.ConvF.τ).loc Cert.ConvF.main_arg1) = m ((c.tc : Thread Cert.ConvF.nD Cert.ConvF.τ).loc Cert.ConvF.main_arg1)
      ∧ r.2.mem ((c.tc : Thread Cert.ConvF.nD Cert.ConvF.τ).loc Cert.ConvF.main_arg2) = m ((c.tc : Thread Cert.ConvF.nD Cert.ConvF.τ).loc Cert.ConvF.main_arg2)
      ∧ r.2.mem ((c.tc : Thread Cert.ConvF.nD Cert.ConvF.τ).loc Cert.ConvF.main_arg3) = m ((c.tc : Thread Cert.ConvF.nD Cert.ConvF.τ).loc Cert.ConvF.main_arg3)
      ∧ r.2.mem ((c.tc : Thread Cert.ConvF.nD Cert.ConvF.τ).loc Cert.ConvF.main_arg4) = m ((c.tc : Thread Cert.ConvF.nD Cert.ConvF.τ).loc Cert.ConvF.main_arg4))
      ∧ r.2.sem = fun _ => 0)

def quiescent_ConvFIdeal [hConvFIdeal : Cert.ConvFIdeal.Facts] : Prop :=
  ∀ (m : (ℓ : Loc Cert.ConvFIdeal.nD Cert.ConvFIdeal.τ Cert.ConvFIdeal.sig) → Buf (Elt Ideal) ℓ) (g : Dev Cert.ConvFIdeal.nD → PrngReg), Pre_ConvFIdeal m →
    θ_run (Cert.ConvFIdeal.defs (F := Ideal)) (onTc (τ := Cert.ConvFIdeal.τ) (Cert.ConvFIdeal.main (F := Ideal))) ⟨m, fun _ => 0, g⟩ (fun r => (∀ c : Dev Cert.ConvFIdeal.nD,
      r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
      ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
      ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2)
      ∧ r.2.mem ((c.tc : Thread Cert.ConvFIdeal.nD Cert.ConvFIdeal.τ).loc Cert.ConvFIdeal.main_arg3) = m ((c.tc : Thread Cert.ConvFIdeal.nD Cert.ConvFIdeal.τ).loc Cert.ConvFIdeal.main_arg3)
      ∧ r.2.mem ((c.tc : Thread Cert.ConvFIdeal.nD Cert.ConvFIdeal.τ).loc Cert.ConvFIdeal.main_arg4) = m ((c.tc : Thread Cert.ConvFIdeal.nD Cert.ConvFIdeal.τ).loc Cert.ConvFIdeal.main_arg4))
      ∧ r.2.sem = fun _ => 0)

def quiescent_RefConvFIdeal [hRefConvFIdeal : Cert.RefConvFIdeal.Facts] : Prop :=
  ∀ (m : (ℓ : Loc Cert.RefConvFIdeal.nD Cert.RefConvFIdeal.τ Cert.RefConvFIdeal.sig) → Buf (Elt Ideal) ℓ) (g : Dev Cert.RefConvFIdeal.nD → PrngReg), Pre_RefConvFIdeal m →
    θ_run (Cert.RefConvFIdeal.defs (F := Ideal)) (onTc (τ := Cert.RefConvFIdeal.τ) (Cert.RefConvFIdeal.main (F := Ideal))) ⟨m, fun _ => 0, g⟩ (fun r => (∀ c : Dev Cert.RefConvFIdeal.nD,
      r.2.mem ((c.tc : Thread Cert.RefConvFIdeal.nD Cert.RefConvFIdeal.τ).loc Cert.RefConvFIdeal.main_arg0) = m ((c.tc : Thread Cert.RefConvFIdeal.nD Cert.RefConvFIdeal.τ).loc Cert.RefConvFIdeal.main_arg0)
      ∧ r.2.mem ((c.tc : Thread Cert.RefConvFIdeal.nD Cert.RefConvFIdeal.τ).loc Cert.RefConvFIdeal.main_arg1) = m ((c.tc : Thread Cert.RefConvFIdeal.nD Cert.RefConvFIdeal.τ).loc Cert.RefConvFIdeal.main_arg1)
      ∧ r.2.mem ((c.tc : Thread Cert.RefConvFIdeal.nD Cert.RefConvFIdeal.τ).loc Cert.RefConvFIdeal.main_arg2) = m ((c.tc : Thread Cert.RefConvFIdeal.nD Cert.RefConvFIdeal.τ).loc Cert.RefConvFIdeal.main_arg2)
      ∧ r.2.mem ((c.tc : Thread Cert.RefConvFIdeal.nD Cert.RefConvFIdeal.τ).loc Cert.RefConvFIdeal.main_arg3) = m ((c.tc : Thread Cert.RefConvFIdeal.nD Cert.RefConvFIdeal.τ).loc Cert.RefConvFIdeal.main_arg3)
      ∧ r.2.mem ((c.tc : Thread Cert.RefConvFIdeal.nD Cert.RefConvFIdeal.τ).loc Cert.RefConvFIdeal.main_arg4) = m ((c.tc : Thread Cert.RefConvFIdeal.nD Cert.RefConvFIdeal.τ).loc Cert.RefConvFIdeal.main_arg4))
      ∧ r.2.sem = fun _ => 0)

def quiescent_MergeF [hMergeF : Cert.MergeF.Facts] : Prop :=
  ∀ (m : (ℓ : Loc Cert.MergeF.nD Cert.MergeF.τ Cert.MergeF.sig) → Buf (Elt Bits) ℓ) (g : Dev Cert.MergeF.nD → PrngReg), Pre_MergeF m →
    θ_run (Cert.MergeF.defs (F := Bits)) (onTc (τ := Cert.MergeF.τ) (Cert.MergeF.main (F := Bits))) ⟨m, fun _ => 0, g⟩ (fun r => (∀ c : Dev Cert.MergeF.nD,
      r.2.mem ((c.tc : Thread Cert.MergeF.nD Cert.MergeF.τ).loc Cert.MergeF.main_arg0) = m ((c.tc : Thread Cert.MergeF.nD Cert.MergeF.τ).loc Cert.MergeF.main_arg0)
      ∧ r.2.mem ((c.tc : Thread Cert.MergeF.nD Cert.MergeF.τ).loc Cert.MergeF.main_arg1) = m ((c.tc : Thread Cert.MergeF.nD Cert.MergeF.τ).loc Cert.MergeF.main_arg1)
      ∧ r.2.mem ((c.tc : Thread Cert.MergeF.nD Cert.MergeF.τ).loc Cert.MergeF.main_arg2) = m ((c.tc : Thread Cert.MergeF.nD Cert.MergeF.τ).loc Cert.MergeF.main_arg2)
      ∧ r.2.mem ((c.tc : Thread Cert.MergeF.nD Cert.MergeF.τ).loc Cert.MergeF.main_arg3) = m ((c.tc : Thread Cert.MergeF.nD Cert.MergeF.τ).loc Cert.MergeF.main_arg3)
      ∧ r.2.mem ((c.tc : Thread Cert.MergeF.nD Cert.MergeF.τ).loc Cert.MergeF.main_arg4) = m ((c.tc : Thread Cert.MergeF.nD Cert.MergeF.τ).loc Cert.MergeF.main_arg4)
      ∧ r.2.mem ((c.tc : Thread Cert.MergeF.nD Cert.MergeF.τ).loc Cert.MergeF.main_arg5) = m ((c.tc : Thread Cert.MergeF.nD Cert.MergeF.τ).loc Cert.MergeF.main_arg5))
      ∧ r.2.sem = fun _ => 0)

def quiescent_MergeFIdeal [hMergeFIdeal : Cert.MergeFIdeal.Facts] : Prop :=
  ∀ (m : (ℓ : Loc Cert.MergeFIdeal.nD Cert.MergeFIdeal.τ Cert.MergeFIdeal.sig) → Buf (Elt Ideal) ℓ) (g : Dev Cert.MergeFIdeal.nD → PrngReg), Pre_MergeFIdeal m →
    θ_run (Cert.MergeFIdeal.defs (F := Ideal)) (onTc (τ := Cert.MergeFIdeal.τ) (Cert.MergeFIdeal.main (F := Ideal))) ⟨m, fun _ => 0, g⟩ (fun r => (∀ c : Dev Cert.MergeFIdeal.nD,
      r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
      ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
      ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2)
      ∧ r.2.mem ((c.tc : Thread Cert.MergeFIdeal.nD Cert.MergeFIdeal.τ).loc Cert.MergeFIdeal.main_arg3) = m ((c.tc : Thread Cert.MergeFIdeal.nD Cert.MergeFIdeal.τ).loc Cert.MergeFIdeal.main_arg3)
      ∧ r.2.mem ((c.tc : Thread Cert.MergeFIdeal.nD Cert.MergeFIdeal.τ).loc Cert.MergeFIdeal.main_arg4) = m ((c.tc : Thread Cert.MergeFIdeal.nD Cert.MergeFIdeal.τ).loc Cert.MergeFIdeal.main_arg4)
      ∧ r.2.mem ((c.tc : Thread Cert.MergeFIdeal.nD Cert.MergeFIdeal.τ).loc Cert.MergeFIdeal.main_arg5) = m ((c.tc : Thread Cert.MergeFIdeal.nD Cert.MergeFIdeal.τ).loc Cert.MergeFIdeal.main_arg5))
      ∧ r.2.sem = fun _ => 0)

def quiescent_RefMergeFIdeal [hRefMergeFIdeal : Cert.RefMergeFIdeal.Facts] : Prop :=
  ∀ (m : (ℓ : Loc Cert.RefMergeFIdeal.nD Cert.RefMergeFIdeal.τ Cert.RefMergeFIdeal.sig) → Buf (Elt Ideal) ℓ) (g : Dev Cert.RefMergeFIdeal.nD → PrngReg), Pre_RefMergeFIdeal m →
    θ_run (Cert.RefMergeFIdeal.defs (F := Ideal)) (onTc (τ := Cert.RefMergeFIdeal.τ) (Cert.RefMergeFIdeal.main (F := Ideal))) ⟨m, fun _ => 0, g⟩ (fun r => (∀ c : Dev Cert.RefMergeFIdeal.nD,
      r.2.mem ((c.tc : Thread Cert.RefMergeFIdeal.nD Cert.RefMergeFIdeal.τ).loc Cert.RefMergeFIdeal.main_arg0) = m ((c.tc : Thread Cert.RefMergeFIdeal.nD Cert.RefMergeFIdeal.τ).loc Cert.RefMergeFIdeal.main_arg0)
      ∧ r.2.mem ((c.tc : Thread Cert.RefMergeFIdeal.nD Cert.RefMergeFIdeal.τ).loc Cert.RefMergeFIdeal.main_arg1) = m ((c.tc : Thread Cert.RefMergeFIdeal.nD Cert.RefMergeFIdeal.τ).loc Cert.RefMergeFIdeal.main_arg1)
      ∧ r.2.mem ((c.tc : Thread Cert.RefMergeFIdeal.nD Cert.RefMergeFIdeal.τ).loc Cert.RefMergeFIdeal.main_arg2) = m ((c.tc : Thread Cert.RefMergeFIdeal.nD Cert.RefMergeFIdeal.τ).loc Cert.RefMergeFIdeal.main_arg2)
      ∧ r.2.mem ((c.tc : Thread Cert.RefMergeFIdeal.nD Cert.RefMergeFIdeal.τ).loc Cert.RefMergeFIdeal.main_arg3) = m ((c.tc : Thread Cert.RefMergeFIdeal.nD Cert.RefMergeFIdeal.τ).loc Cert.RefMergeFIdeal.main_arg3)
      ∧ r.2.mem ((c.tc : Thread Cert.RefMergeFIdeal.nD Cert.RefMergeFIdeal.τ).loc Cert.RefMergeFIdeal.main_arg4) = m ((c.tc : Thread Cert.RefMergeFIdeal.nD Cert.RefMergeFIdeal.τ).loc Cert.RefMergeFIdeal.main_arg4)
      ∧ r.2.mem ((c.tc : Thread Cert.RefMergeFIdeal.nD Cert.RefMergeFIdeal.τ).loc Cert.RefMergeFIdeal.main_arg5) = m ((c.tc : Thread Cert.RefMergeFIdeal.nD Cert.RefMergeFIdeal.τ).loc Cert.RefMergeFIdeal.main_arg5))
      ∧ r.2.sem = fun _ => 0)

def quiescent_RopeF [hRopeF : Cert.RopeF.Facts] : Prop :=
  ∀ (m : (ℓ : Loc Cert.RopeF.nD Cert.RopeF.τ Cert.RopeF.sig) → Buf (Elt Bits) ℓ) (g : Dev Cert.RopeF.nD → PrngReg), Pre_RopeF m →
    θ_run (Cert.RopeF.defs (F := Bits)) (onTc (τ := Cert.RopeF.τ) (Cert.RopeF.main (F := Bits))) ⟨m, fun _ => 0, g⟩ (fun r => (∀ c : Dev Cert.RopeF.nD,
      r.2.mem ((c.tc : Thread Cert.RopeF.nD Cert.RopeF.τ).loc Cert.RopeF.main_arg0) = m ((c.tc : Thread Cert.RopeF.nD Cert.RopeF.τ).loc Cert.RopeF.main_arg0))
      ∧ r.2.sem = fun _ => 0)

def quiescent_RopeFIdeal [hRopeFIdeal : Cert.RopeFIdeal.Facts] : Prop :=
  ∀ (m : (ℓ : Loc Cert.RopeFIdeal.nD Cert.RopeFIdeal.τ Cert.RopeFIdeal.sig) → Buf (Elt Ideal) ℓ) (g : Dev Cert.RopeFIdeal.nD → PrngReg), Pre_RopeFIdeal m →
    θ_run (Cert.RopeFIdeal.defs (F := Ideal)) (onTc (τ := Cert.RopeFIdeal.τ) (Cert.RopeFIdeal.main (F := Ideal))) ⟨m, fun _ => 0, g⟩ (fun r => (∀ c : Dev Cert.RopeFIdeal.nD,
      r.2.mem ((c.tc : Thread Cert.RopeFIdeal.nD Cert.RopeFIdeal.τ).loc Cert.RopeFIdeal.main_arg0) = m ((c.tc : Thread Cert.RopeFIdeal.nD Cert.RopeFIdeal.τ).loc Cert.RopeFIdeal.main_arg0))
      ∧ r.2.sem = fun _ => 0)

def quiescent_RefRopeFIdeal [hRefRopeFIdeal : Cert.RefRopeFIdeal.Facts] : Prop :=
  ∀ (m : (ℓ : Loc Cert.RefRopeFIdeal.nD Cert.RefRopeFIdeal.τ Cert.RefRopeFIdeal.sig) → Buf (Elt Ideal) ℓ) (g : Dev Cert.RefRopeFIdeal.nD → PrngReg), Pre_RefRopeFIdeal m →
    θ_run (Cert.RefRopeFIdeal.defs (F := Ideal)) (onTc (τ := Cert.RefRopeFIdeal.τ) (Cert.RefRopeFIdeal.main (F := Ideal))) ⟨m, fun _ => 0, g⟩ (fun r => (∀ c : Dev Cert.RefRopeFIdeal.nD,
      r.2.mem ((c.tc : Thread Cert.RefRopeFIdeal.nD Cert.RefRopeFIdeal.τ).loc Cert.RefRopeFIdeal.main_arg0) = m ((c.tc : Thread Cert.RefRopeFIdeal.nD Cert.RefRopeFIdeal.τ).loc Cert.RefRopeFIdeal.main_arg0))
      ∧ r.2.sem = fun _ => 0)

def preserves_AttnB_AttnBIdeal : Prop :=
  IdealRules.named_const.Statement Cert.AttnBIdeal.κ "mask" .f32 0xF149F2CA#32 ⊥

def preserves_GateB_GateBIdeal : Prop :=
  True

def algebraic_GateBIdeal_RefGateBIdeal [hGateBIdeal : Cert.GateBIdeal.Facts] [hRefGateBIdeal : Cert.RefGateBIdeal.Facts] : Prop :=
  ∀ (m : (ℓ : Loc Cert.GateBIdeal.nD Cert.GateBIdeal.τ Cert.GateBIdeal.sig) → Buf (Elt Ideal) ℓ) (g : Dev Cert.GateBIdeal.nD → PrngReg)
    (m' : (ℓ : Loc Cert.RefGateBIdeal.nD Cert.RefGateBIdeal.τ Cert.RefGateBIdeal.sig) → Buf (Elt Ideal) ℓ) (g' : Dev Cert.RefGateBIdeal.nD → PrngReg), Pre_GateBIdeal m →
    (∀ c : Dev Cert.GateBIdeal.nD,
      m' ((c.tc : Thread Cert.RefGateBIdeal.nD Cert.RefGateBIdeal.τ).loc Cert.RefGateBIdeal.main_arg0) = m ((c.tc : Thread Cert.GateBIdeal.nD Cert.GateBIdeal.τ).loc Cert.GateBIdeal.main_arg0)
      ∧ m' ((c.tc : Thread Cert.RefGateBIdeal.nD Cert.RefGateBIdeal.τ).loc Cert.RefGateBIdeal.main_arg1) = m ((c.tc : Thread Cert.GateBIdeal.nD Cert.GateBIdeal.τ).loc Cert.GateBIdeal.main_arg1)
      ∧ m' ((c.tc : Thread Cert.RefGateBIdeal.nD Cert.RefGateBIdeal.τ).loc Cert.RefGateBIdeal.main_arg2) = m ((c.tc : Thread Cert.GateBIdeal.nD Cert.GateBIdeal.τ).loc Cert.GateBIdeal.main_arg2)
      ∧ m' ((c.tc : Thread Cert.RefGateBIdeal.nD Cert.RefGateBIdeal.τ).loc Cert.RefGateBIdeal.main_arg3) = m ((c.tc : Thread Cert.GateBIdeal.nD Cert.GateBIdeal.τ).loc Cert.GateBIdeal.main_arg3)
      ∧ m' ((c.tc : Thread Cert.RefGateBIdeal.nD Cert.RefGateBIdeal.τ).loc Cert.RefGateBIdeal.main_arg4) = m ((c.tc : Thread Cert.GateBIdeal.nD Cert.GateBIdeal.τ).loc Cert.GateBIdeal.main_arg4)
      ∧ m' ((c.tc : Thread Cert.RefGateBIdeal.nD Cert.RefGateBIdeal.τ).loc Cert.RefGateBIdeal.main_arg5) = m ((c.tc : Thread Cert.GateBIdeal.nD Cert.GateBIdeal.τ).loc Cert.GateBIdeal.main_arg5)) →
    ∃ (v0 : (c : Dev Cert.GateBIdeal.nD) → Buf (Elt Ideal) ((c.tc : Thread Cert.GateBIdeal.nD Cert.GateBIdeal.τ).loc Cert.GateBIdeal.main_v6_0)) (v1 : (c : Dev Cert.GateBIdeal.nD) → Buf (Elt Ideal) ((c.tc : Thread Cert.GateBIdeal.nD Cert.GateBIdeal.τ).loc Cert.GateBIdeal.main_v6_1)) (v2 : (c : Dev Cert.GateBIdeal.nD) → Buf (Elt Ideal) ((c.tc : Thread Cert.GateBIdeal.nD Cert.GateBIdeal.τ).loc Cert.GateBIdeal.main_v6_2)) (v3 : (c : Dev Cert.GateBIdeal.nD) → Buf (Elt Ideal) ((c.tc : Thread Cert.GateBIdeal.nD Cert.GateBIdeal.τ).loc Cert.GateBIdeal.main_v6_3)),
      θ_run (Cert.GateBIdeal.defs (F := Ideal)) (onTc (τ := Cert.GateBIdeal.τ) (Cert.GateBIdeal.main (F := Ideal))) ⟨m, fun _ => 0, g⟩ (fun r => ∀ c : Dev Cert.GateBIdeal.nD,
          r.2.mem ((c.tc : Thread Cert.GateBIdeal.nD Cert.GateBIdeal.τ).loc Cert.GateBIdeal.main_v6_0) = v0 c
          ∧ r.2.mem ((c.tc : Thread Cert.GateBIdeal.nD Cert.GateBIdeal.τ).loc Cert.GateBIdeal.main_v6_1) = v1 c
          ∧ r.2.mem ((c.tc : Thread Cert.GateBIdeal.nD Cert.GateBIdeal.τ).loc Cert.GateBIdeal.main_v6_2) = v2 c
          ∧ r.2.mem ((c.tc : Thread Cert.GateBIdeal.nD Cert.GateBIdeal.τ).loc Cert.GateBIdeal.main_v6_3) = v3 c
          ∧ r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
          ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1)
          ∧ r.2.mem ((c.tc : Thread Cert.GateBIdeal.nD Cert.GateBIdeal.τ).loc Cert.GateBIdeal.main_arg2) = m ((c.tc : Thread Cert.GateBIdeal.nD Cert.GateBIdeal.τ).loc Cert.GateBIdeal.main_arg2)
          ∧ r.2.mem ((c.tc : Thread Cert.GateBIdeal.nD Cert.GateBIdeal.τ).loc Cert.GateBIdeal.main_arg3) = m ((c.tc : Thread Cert.GateBIdeal.nD Cert.GateBIdeal.τ).loc Cert.GateBIdeal.main_arg3)
          ∧ r.2.mem ((c.tc : Thread Cert.GateBIdeal.nD Cert.GateBIdeal.τ).loc Cert.GateBIdeal.main_arg4) = m ((c.tc : Thread Cert.GateBIdeal.nD Cert.GateBIdeal.τ).loc Cert.GateBIdeal.main_arg4)
          ∧ r.2.mem ((c.tc : Thread Cert.GateBIdeal.nD Cert.GateBIdeal.τ).loc Cert.GateBIdeal.main_arg5) = m ((c.tc : Thread Cert.GateBIdeal.nD Cert.GateBIdeal.τ).loc Cert.GateBIdeal.main_arg5))
      ∧ θ_run (Cert.RefGateBIdeal.defs (F := Ideal)) (onTc (τ := Cert.RefGateBIdeal.τ) (Cert.RefGateBIdeal.main (F := Ideal))) ⟨m', fun _ => 0, g'⟩ (fun r => ∀ c : Dev Cert.RefGateBIdeal.nD,
          r.2.mem ((c.tc : Thread Cert.RefGateBIdeal.nD Cert.RefGateBIdeal.τ).loc Cert.RefGateBIdeal.main_v29) = v0 c
          ∧ r.2.mem ((c.tc : Thread Cert.RefGateBIdeal.nD Cert.RefGateBIdeal.τ).loc Cert.RefGateBIdeal.main_v30) = v1 c
          ∧ r.2.mem ((c.tc : Thread Cert.RefGateBIdeal.nD Cert.RefGateBIdeal.τ).loc Cert.RefGateBIdeal.main_v31) = v2 c
          ∧ r.2.mem ((c.tc : Thread Cert.RefGateBIdeal.nD Cert.RefGateBIdeal.τ).loc Cert.RefGateBIdeal.main_v32) = v3 c
          ∧ r.2.mem ((c.tc : Thread Cert.RefGateBIdeal.nD Cert.RefGateBIdeal.τ).loc Cert.RefGateBIdeal.main_arg0) = m' ((c.tc : Thread Cert.RefGateBIdeal.nD Cert.RefGateBIdeal.τ).loc Cert.RefGateBIdeal.main_arg0)
          ∧ r.2.mem ((c.tc : Thread Cert.RefGateBIdeal.nD Cert.RefGateBIdeal.τ).loc Cert.RefGateBIdeal.main_arg1) = m' ((c.tc : Thread Cert.RefGateBIdeal.nD Cert.RefGateBIdeal.τ).loc Cert.RefGateBIdeal.main_arg1)
          ∧ r.2.mem ((c.tc : Thread Cert.RefGateBIdeal.nD Cert.RefGateBIdeal.τ).loc Cert.RefGateBIdeal.main_arg2) = m' ((c.tc : Thread Cert.RefGateBIdeal.nD Cert.RefGateBIdeal.τ).loc Cert.RefGateBIdeal.main_arg2)
          ∧ r.2.mem ((c.tc : Thread Cert.RefGateBIdeal.nD Cert.RefGateBIdeal.τ).loc Cert.RefGateBIdeal.main_arg3) = m' ((c.tc : Thread Cert.RefGateBIdeal.nD Cert.RefGateBIdeal.τ).loc Cert.RefGateBIdeal.main_arg3)
          ∧ r.2.mem ((c.tc : Thread Cert.RefGateBIdeal.nD Cert.RefGateBIdeal.τ).loc Cert.RefGateBIdeal.main_arg4) = m' ((c.tc : Thread Cert.RefGateBIdeal.nD Cert.RefGateBIdeal.τ).loc Cert.RefGateBIdeal.main_arg4)
          ∧ r.2.mem ((c.tc : Thread Cert.RefGateBIdeal.nD Cert.RefGateBIdeal.τ).loc Cert.RefGateBIdeal.main_arg5) = m' ((c.tc : Thread Cert.RefGateBIdeal.nD Cert.RefGateBIdeal.τ).loc Cert.RefGateBIdeal.main_arg5))

def preserves_SwigluB_SwigluBIdeal : Prop :=
  True

def algebraic_SwigluBIdeal_RefSwigluBIdeal_pre_finite_bdown [hSwigluBIdeal : Cert.SwigluBIdeal.Facts] [hRefSwigluBIdeal : Cert.RefSwigluBIdeal.Facts] [hPre_finite_bdown : Cert.Pre_finite_bdown.Facts] : Prop :=
  ∀ (m : (ℓ : Loc Cert.SwigluBIdeal.nD Cert.SwigluBIdeal.τ Cert.SwigluBIdeal.sig) → Buf (Elt Ideal) ℓ) (g : Dev Cert.SwigluBIdeal.nD → PrngReg)
    (m' : (ℓ : Loc Cert.RefSwigluBIdeal.nD Cert.RefSwigluBIdeal.τ Cert.RefSwigluBIdeal.sig) → Buf (Elt Ideal) ℓ) (g' : Dev Cert.RefSwigluBIdeal.nD → PrngReg), Pre_SwigluBIdeal_finite_bdown m →
    (∀ c : Dev Cert.SwigluBIdeal.nD,
      m' ((c.tc : Thread Cert.RefSwigluBIdeal.nD Cert.RefSwigluBIdeal.τ).loc Cert.RefSwigluBIdeal.main_arg0) = m ((c.tc : Thread Cert.SwigluBIdeal.nD Cert.SwigluBIdeal.τ).loc Cert.SwigluBIdeal.main_arg0)
      ∧ m' ((c.tc : Thread Cert.RefSwigluBIdeal.nD Cert.RefSwigluBIdeal.τ).loc Cert.RefSwigluBIdeal.main_arg1) = m ((c.tc : Thread Cert.SwigluBIdeal.nD Cert.SwigluBIdeal.τ).loc Cert.SwigluBIdeal.main_arg1)
      ∧ m' ((c.tc : Thread Cert.RefSwigluBIdeal.nD Cert.RefSwigluBIdeal.τ).loc Cert.RefSwigluBIdeal.main_arg2) = m ((c.tc : Thread Cert.SwigluBIdeal.nD Cert.SwigluBIdeal.τ).loc Cert.SwigluBIdeal.main_arg2)
      ∧ m' ((c.tc : Thread Cert.RefSwigluBIdeal.nD Cert.RefSwigluBIdeal.τ).loc Cert.RefSwigluBIdeal.main_arg3) = m ((c.tc : Thread Cert.SwigluBIdeal.nD Cert.SwigluBIdeal.τ).loc Cert.SwigluBIdeal.main_arg3)) →
    ∃ (v0 : (c : Dev Cert.SwigluBIdeal.nD) → Buf (Elt Ideal) ((c.tc : Thread Cert.SwigluBIdeal.nD Cert.SwigluBIdeal.τ).loc Cert.SwigluBIdeal.main_v4_0)) (v1 : (c : Dev Cert.SwigluBIdeal.nD) → Buf (Elt Ideal) ((c.tc : Thread Cert.SwigluBIdeal.nD Cert.SwigluBIdeal.τ).loc Cert.SwigluBIdeal.main_v4_1)),
      θ_run (Cert.SwigluBIdeal.defs (F := Ideal)) (onTc (τ := Cert.SwigluBIdeal.τ) (Cert.SwigluBIdeal.main (F := Ideal))) ⟨m, fun _ => 0, g⟩ (fun r => ∀ c : Dev Cert.SwigluBIdeal.nD,
          r.2.mem ((c.tc : Thread Cert.SwigluBIdeal.nD Cert.SwigluBIdeal.τ).loc Cert.SwigluBIdeal.main_v4_0) = v0 c
          ∧ r.2.mem ((c.tc : Thread Cert.SwigluBIdeal.nD Cert.SwigluBIdeal.τ).loc Cert.SwigluBIdeal.main_v4_1) = v1 c
          ∧ r.2.mem ((c.tc : Thread Cert.SwigluBIdeal.nD Cert.SwigluBIdeal.τ).loc Cert.SwigluBIdeal.main_arg0) = m ((c.tc : Thread Cert.SwigluBIdeal.nD Cert.SwigluBIdeal.τ).loc Cert.SwigluBIdeal.main_arg0)
          ∧ r.2.mem ((c.tc : Thread Cert.SwigluBIdeal.nD Cert.SwigluBIdeal.τ).loc Cert.SwigluBIdeal.main_arg1) = m ((c.tc : Thread Cert.SwigluBIdeal.nD Cert.SwigluBIdeal.τ).loc Cert.SwigluBIdeal.main_arg1)
          ∧ r.2.mem ((c.tc : Thread Cert.SwigluBIdeal.nD Cert.SwigluBIdeal.τ).loc Cert.SwigluBIdeal.main_arg2) = m ((c.tc : Thread Cert.SwigluBIdeal.nD Cert.SwigluBIdeal.τ).loc Cert.SwigluBIdeal.main_arg2)
          ∧ r.2.mem ((c.tc : Thread Cert.SwigluBIdeal.nD Cert.SwigluBIdeal.τ).loc Cert.SwigluBIdeal.main_arg3) = m ((c.tc : Thread Cert.SwigluBIdeal.nD Cert.SwigluBIdeal.τ).loc Cert.SwigluBIdeal.main_arg3))
      ∧ θ_run (Cert.RefSwigluBIdeal.defs (F := Ideal)) (onTc (τ := Cert.RefSwigluBIdeal.τ) (Cert.RefSwigluBIdeal.main (F := Ideal))) ⟨m', fun _ => 0, g'⟩ (fun r => ∀ c : Dev Cert.RefSwigluBIdeal.nD,
          r.2.mem ((c.tc : Thread Cert.RefSwigluBIdeal.nD Cert.RefSwigluBIdeal.τ).loc Cert.RefSwigluBIdeal.main_v7) = v0 c
          ∧ r.2.mem ((c.tc : Thread Cert.RefSwigluBIdeal.nD Cert.RefSwigluBIdeal.τ).loc Cert.RefSwigluBIdeal.main_v8) = v1 c
          ∧ r.2.mem ((c.tc : Thread Cert.RefSwigluBIdeal.nD Cert.RefSwigluBIdeal.τ).loc Cert.RefSwigluBIdeal.main_arg0) = m' ((c.tc : Thread Cert.RefSwigluBIdeal.nD Cert.RefSwigluBIdeal.τ).loc Cert.RefSwigluBIdeal.main_arg0)
          ∧ r.2.mem ((c.tc : Thread Cert.RefSwigluBIdeal.nD Cert.RefSwigluBIdeal.τ).loc Cert.RefSwigluBIdeal.main_arg1) = m' ((c.tc : Thread Cert.RefSwigluBIdeal.nD Cert.RefSwigluBIdeal.τ).loc Cert.RefSwigluBIdeal.main_arg1)
          ∧ r.2.mem ((c.tc : Thread Cert.RefSwigluBIdeal.nD Cert.RefSwigluBIdeal.τ).loc Cert.RefSwigluBIdeal.main_arg2) = m' ((c.tc : Thread Cert.RefSwigluBIdeal.nD Cert.RefSwigluBIdeal.τ).loc Cert.RefSwigluBIdeal.main_arg2)
          ∧ r.2.mem ((c.tc : Thread Cert.RefSwigluBIdeal.nD Cert.RefSwigluBIdeal.τ).loc Cert.RefSwigluBIdeal.main_arg3) = m' ((c.tc : Thread Cert.RefSwigluBIdeal.nD Cert.RefSwigluBIdeal.τ).loc Cert.RefSwigluBIdeal.main_arg3))

def preserves_NormB_NormBIdeal : Prop :=
  True

def algebraic_NormBIdeal_RefNormBIdeal_pre_finite_bconv [hNormBIdeal : Cert.NormBIdeal.Facts] [hRefNormBIdeal : Cert.RefNormBIdeal.Facts] [hPre_finite_bconv : Cert.Pre_finite_bconv.Facts] : Prop :=
  ∀ (m : (ℓ : Loc Cert.NormBIdeal.nD Cert.NormBIdeal.τ Cert.NormBIdeal.sig) → Buf (Elt Ideal) ℓ) (g : Dev Cert.NormBIdeal.nD → PrngReg)
    (m' : (ℓ : Loc Cert.RefNormBIdeal.nD Cert.RefNormBIdeal.τ Cert.RefNormBIdeal.sig) → Buf (Elt Ideal) ℓ) (g' : Dev Cert.RefNormBIdeal.nD → PrngReg), Pre_NormBIdeal_finite_bconv m →
    (∀ c : Dev Cert.NormBIdeal.nD,
      m' ((c.tc : Thread Cert.RefNormBIdeal.nD Cert.RefNormBIdeal.τ).loc Cert.RefNormBIdeal.main_arg0) = m ((c.tc : Thread Cert.NormBIdeal.nD Cert.NormBIdeal.τ).loc Cert.NormBIdeal.main_arg0)
      ∧ m' ((c.tc : Thread Cert.RefNormBIdeal.nD Cert.RefNormBIdeal.τ).loc Cert.RefNormBIdeal.main_arg1) = m ((c.tc : Thread Cert.NormBIdeal.nD Cert.NormBIdeal.τ).loc Cert.NormBIdeal.main_arg1)
      ∧ m' ((c.tc : Thread Cert.RefNormBIdeal.nD Cert.RefNormBIdeal.τ).loc Cert.RefNormBIdeal.main_arg2) = m ((c.tc : Thread Cert.NormBIdeal.nD Cert.NormBIdeal.τ).loc Cert.NormBIdeal.main_arg2)
      ∧ m' ((c.tc : Thread Cert.RefNormBIdeal.nD Cert.RefNormBIdeal.τ).loc Cert.RefNormBIdeal.main_arg3) = m ((c.tc : Thread Cert.NormBIdeal.nD Cert.NormBIdeal.τ).loc Cert.NormBIdeal.main_arg3)
      ∧ m' ((c.tc : Thread Cert.RefNormBIdeal.nD Cert.RefNormBIdeal.τ).loc Cert.RefNormBIdeal.main_arg4) = m ((c.tc : Thread Cert.NormBIdeal.nD Cert.NormBIdeal.τ).loc Cert.NormBIdeal.main_arg4)) →
    ∃ (v0 : (c : Dev Cert.NormBIdeal.nD) → Buf (Elt Ideal) ((c.tc : Thread Cert.NormBIdeal.nD Cert.NormBIdeal.τ).loc Cert.NormBIdeal.main_v5_0)) (v1 : (c : Dev Cert.NormBIdeal.nD) → Buf (Elt Ideal) ((c.tc : Thread Cert.NormBIdeal.nD Cert.NormBIdeal.τ).loc Cert.NormBIdeal.main_v5_1)) (v2 : (c : Dev Cert.NormBIdeal.nD) → Buf (Elt Ideal) ((c.tc : Thread Cert.NormBIdeal.nD Cert.NormBIdeal.τ).loc Cert.NormBIdeal.main_v5_2)),
      θ_run (Cert.NormBIdeal.defs (F := Ideal)) (onTc (τ := Cert.NormBIdeal.τ) (Cert.NormBIdeal.main (F := Ideal))) ⟨m, fun _ => 0, g⟩ (fun r => ∀ c : Dev Cert.NormBIdeal.nD,
          r.2.mem ((c.tc : Thread Cert.NormBIdeal.nD Cert.NormBIdeal.τ).loc Cert.NormBIdeal.main_v5_0) = v0 c
          ∧ r.2.mem ((c.tc : Thread Cert.NormBIdeal.nD Cert.NormBIdeal.τ).loc Cert.NormBIdeal.main_v5_1) = v1 c
          ∧ r.2.mem ((c.tc : Thread Cert.NormBIdeal.nD Cert.NormBIdeal.τ).loc Cert.NormBIdeal.main_v5_2) = v2 c
          ∧ r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
          ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
          ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
          ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3)
          ∧ r.2.mem ((c.tc : Thread Cert.NormBIdeal.nD Cert.NormBIdeal.τ).loc Cert.NormBIdeal.main_arg4) = m ((c.tc : Thread Cert.NormBIdeal.nD Cert.NormBIdeal.τ).loc Cert.NormBIdeal.main_arg4))
      ∧ θ_run (Cert.RefNormBIdeal.defs (F := Ideal)) (onTc (τ := Cert.RefNormBIdeal.τ) (Cert.RefNormBIdeal.main (F := Ideal))) ⟨m', fun _ => 0, g'⟩ (fun r => ∀ c : Dev Cert.RefNormBIdeal.nD,
          r.2.mem ((c.tc : Thread Cert.RefNormBIdeal.nD Cert.RefNormBIdeal.τ).loc Cert.RefNormBIdeal.main_v59) = v0 c
          ∧ r.2.mem ((c.tc : Thread Cert.RefNormBIdeal.nD Cert.RefNormBIdeal.τ).loc Cert.RefNormBIdeal.main_v60) = v1 c
          ∧ r.2.mem ((c.tc : Thread Cert.RefNormBIdeal.nD Cert.RefNormBIdeal.τ).loc Cert.RefNormBIdeal.main_v61) = v2 c
          ∧ r.2.mem ((c.tc : Thread Cert.RefNormBIdeal.nD Cert.RefNormBIdeal.τ).loc Cert.RefNormBIdeal.main_arg0) = m' ((c.tc : Thread Cert.RefNormBIdeal.nD Cert.RefNormBIdeal.τ).loc Cert.RefNormBIdeal.main_arg0)
          ∧ r.2.mem ((c.tc : Thread Cert.RefNormBIdeal.nD Cert.RefNormBIdeal.τ).loc Cert.RefNormBIdeal.main_arg1) = m' ((c.tc : Thread Cert.RefNormBIdeal.nD Cert.RefNormBIdeal.τ).loc Cert.RefNormBIdeal.main_arg1)
          ∧ r.2.mem ((c.tc : Thread Cert.RefNormBIdeal.nD Cert.RefNormBIdeal.τ).loc Cert.RefNormBIdeal.main_arg2) = m' ((c.tc : Thread Cert.RefNormBIdeal.nD Cert.RefNormBIdeal.τ).loc Cert.RefNormBIdeal.main_arg2)
          ∧ r.2.mem ((c.tc : Thread Cert.RefNormBIdeal.nD Cert.RefNormBIdeal.τ).loc Cert.RefNormBIdeal.main_arg3) = m' ((c.tc : Thread Cert.RefNormBIdeal.nD Cert.RefNormBIdeal.τ).loc Cert.RefNormBIdeal.main_arg3)
          ∧ r.2.mem ((c.tc : Thread Cert.RefNormBIdeal.nD Cert.RefNormBIdeal.τ).loc Cert.RefNormBIdeal.main_arg4) = m' ((c.tc : Thread Cert.RefNormBIdeal.nD Cert.RefNormBIdeal.τ).loc Cert.RefNormBIdeal.main_arg4))

def preserves_RmsB_RmsBIdeal : Prop :=
  True

def algebraic_RmsBIdeal_RefRmsBIdeal_pre_finite_bup [hRmsBIdeal : Cert.RmsBIdeal.Facts] [hRefRmsBIdeal : Cert.RefRmsBIdeal.Facts] [hPre_finite_bup : Cert.Pre_finite_bup.Facts] : Prop :=
  ∀ (m : (ℓ : Loc Cert.RmsBIdeal.nD Cert.RmsBIdeal.τ Cert.RmsBIdeal.sig) → Buf (Elt Ideal) ℓ) (g : Dev Cert.RmsBIdeal.nD → PrngReg)
    (m' : (ℓ : Loc Cert.RefRmsBIdeal.nD Cert.RefRmsBIdeal.τ Cert.RefRmsBIdeal.sig) → Buf (Elt Ideal) ℓ) (g' : Dev Cert.RefRmsBIdeal.nD → PrngReg), Pre_RmsBIdeal_finite_bup m →
    (∀ c : Dev Cert.RmsBIdeal.nD,
      m' ((c.tc : Thread Cert.RefRmsBIdeal.nD Cert.RefRmsBIdeal.τ).loc Cert.RefRmsBIdeal.main_arg0) = m ((c.tc : Thread Cert.RmsBIdeal.nD Cert.RmsBIdeal.τ).loc Cert.RmsBIdeal.main_arg0)
      ∧ m' ((c.tc : Thread Cert.RefRmsBIdeal.nD Cert.RefRmsBIdeal.τ).loc Cert.RefRmsBIdeal.main_arg1) = m ((c.tc : Thread Cert.RmsBIdeal.nD Cert.RmsBIdeal.τ).loc Cert.RmsBIdeal.main_arg1)
      ∧ m' ((c.tc : Thread Cert.RefRmsBIdeal.nD Cert.RefRmsBIdeal.τ).loc Cert.RefRmsBIdeal.main_arg2) = m ((c.tc : Thread Cert.RmsBIdeal.nD Cert.RmsBIdeal.τ).loc Cert.RmsBIdeal.main_arg2)
      ∧ m' ((c.tc : Thread Cert.RefRmsBIdeal.nD Cert.RefRmsBIdeal.τ).loc Cert.RefRmsBIdeal.main_arg3) = m ((c.tc : Thread Cert.RmsBIdeal.nD Cert.RmsBIdeal.τ).loc Cert.RmsBIdeal.main_arg3)
      ∧ m' ((c.tc : Thread Cert.RefRmsBIdeal.nD Cert.RefRmsBIdeal.τ).loc Cert.RefRmsBIdeal.main_arg4) = m ((c.tc : Thread Cert.RmsBIdeal.nD Cert.RmsBIdeal.τ).loc Cert.RmsBIdeal.main_arg4)
      ∧ m' ((c.tc : Thread Cert.RefRmsBIdeal.nD Cert.RefRmsBIdeal.τ).loc Cert.RefRmsBIdeal.main_arg5) = m ((c.tc : Thread Cert.RmsBIdeal.nD Cert.RmsBIdeal.τ).loc Cert.RmsBIdeal.main_arg5)
      ∧ m' ((c.tc : Thread Cert.RefRmsBIdeal.nD Cert.RefRmsBIdeal.τ).loc Cert.RefRmsBIdeal.main_arg6) = m ((c.tc : Thread Cert.RmsBIdeal.nD Cert.RmsBIdeal.τ).loc Cert.RmsBIdeal.main_arg6)
      ∧ m' ((c.tc : Thread Cert.RefRmsBIdeal.nD Cert.RefRmsBIdeal.τ).loc Cert.RefRmsBIdeal.main_arg7) = m ((c.tc : Thread Cert.RmsBIdeal.nD Cert.RmsBIdeal.τ).loc Cert.RmsBIdeal.main_arg7)
      ∧ m' ((c.tc : Thread Cert.RefRmsBIdeal.nD Cert.RefRmsBIdeal.τ).loc Cert.RefRmsBIdeal.main_arg8) = m ((c.tc : Thread Cert.RmsBIdeal.nD Cert.RmsBIdeal.τ).loc Cert.RmsBIdeal.main_arg8)
      ∧ m' ((c.tc : Thread Cert.RefRmsBIdeal.nD Cert.RefRmsBIdeal.τ).loc Cert.RefRmsBIdeal.main_arg9) = m ((c.tc : Thread Cert.RmsBIdeal.nD Cert.RmsBIdeal.τ).loc Cert.RmsBIdeal.main_arg9)
      ∧ m' ((c.tc : Thread Cert.RefRmsBIdeal.nD Cert.RefRmsBIdeal.τ).loc Cert.RefRmsBIdeal.main_arg10) = m ((c.tc : Thread Cert.RmsBIdeal.nD Cert.RmsBIdeal.τ).loc Cert.RmsBIdeal.main_arg10)) →
    ∃ (v0 : (c : Dev Cert.RmsBIdeal.nD) → Buf (Elt Ideal) ((c.tc : Thread Cert.RmsBIdeal.nD Cert.RmsBIdeal.τ).loc Cert.RmsBIdeal.main_v8_0)) (v1 : (c : Dev Cert.RmsBIdeal.nD) → Buf (Elt Ideal) ((c.tc : Thread Cert.RmsBIdeal.nD Cert.RmsBIdeal.τ).loc Cert.RmsBIdeal.main_v8_1)) (v2 : (c : Dev Cert.RmsBIdeal.nD) → Buf (Elt Ideal) ((c.tc : Thread Cert.RmsBIdeal.nD Cert.RmsBIdeal.τ).loc Cert.RmsBIdeal.main_v8_2)) (v3 : (c : Dev Cert.RmsBIdeal.nD) → Buf (Elt Ideal) ((c.tc : Thread Cert.RmsBIdeal.nD Cert.RmsBIdeal.τ).loc Cert.RmsBIdeal.main_v8_3)) (v4 : (c : Dev Cert.RmsBIdeal.nD) → Buf (Elt Ideal) ((c.tc : Thread Cert.RmsBIdeal.nD Cert.RmsBIdeal.τ).loc Cert.RmsBIdeal.main_v8_4)) (v5 : (c : Dev Cert.RmsBIdeal.nD) → Buf (Elt Ideal) ((c.tc : Thread Cert.RmsBIdeal.nD Cert.RmsBIdeal.τ).loc Cert.RmsBIdeal.main_v8_5)),
      θ_run (Cert.RmsBIdeal.defs (F := Ideal)) (onTc (τ := Cert.RmsBIdeal.τ) (Cert.RmsBIdeal.main (F := Ideal))) ⟨m, fun _ => 0, g⟩ (fun r => ∀ c : Dev Cert.RmsBIdeal.nD,
          r.2.mem ((c.tc : Thread Cert.RmsBIdeal.nD Cert.RmsBIdeal.τ).loc Cert.RmsBIdeal.main_v8_0) = v0 c
          ∧ r.2.mem ((c.tc : Thread Cert.RmsBIdeal.nD Cert.RmsBIdeal.τ).loc Cert.RmsBIdeal.main_v8_1) = v1 c
          ∧ r.2.mem ((c.tc : Thread Cert.RmsBIdeal.nD Cert.RmsBIdeal.τ).loc Cert.RmsBIdeal.main_v8_2) = v2 c
          ∧ r.2.mem ((c.tc : Thread Cert.RmsBIdeal.nD Cert.RmsBIdeal.τ).loc Cert.RmsBIdeal.main_v8_3) = v3 c
          ∧ r.2.mem ((c.tc : Thread Cert.RmsBIdeal.nD Cert.RmsBIdeal.τ).loc Cert.RmsBIdeal.main_v8_4) = v4 c
          ∧ r.2.mem ((c.tc : Thread Cert.RmsBIdeal.nD Cert.RmsBIdeal.τ).loc Cert.RmsBIdeal.main_v8_5) = v5 c
          ∧ r.2.mem ((c.tc : Thread Cert.RmsBIdeal.nD Cert.RmsBIdeal.τ).loc Cert.RmsBIdeal.main_arg0) = m ((c.tc : Thread Cert.RmsBIdeal.nD Cert.RmsBIdeal.τ).loc Cert.RmsBIdeal.main_arg0)
          ∧ r.2.mem ((c.tc : Thread Cert.RmsBIdeal.nD Cert.RmsBIdeal.τ).loc Cert.RmsBIdeal.main_arg1) = m ((c.tc : Thread Cert.RmsBIdeal.nD Cert.RmsBIdeal.τ).loc Cert.RmsBIdeal.main_arg1)
          ∧ r.2.mem ((c.tc : Thread Cert.RmsBIdeal.nD Cert.RmsBIdeal.τ).loc Cert.RmsBIdeal.main_arg2) = m ((c.tc : Thread Cert.RmsBIdeal.nD Cert.RmsBIdeal.τ).loc Cert.RmsBIdeal.main_arg2)
          ∧ r.2.mem ((c.tc : Thread Cert.RmsBIdeal.nD Cert.RmsBIdeal.τ).loc Cert.RmsBIdeal.main_arg3) = m ((c.tc : Thread Cert.RmsBIdeal.nD Cert.RmsBIdeal.τ).loc Cert.RmsBIdeal.main_arg3)
          ∧ r.2.mem ((c.tc : Thread Cert.RmsBIdeal.nD Cert.RmsBIdeal.τ).loc Cert.RmsBIdeal.main_arg4) = m ((c.tc : Thread Cert.RmsBIdeal.nD Cert.RmsBIdeal.τ).loc Cert.RmsBIdeal.main_arg4)
          ∧ r.2.mem ((c.tc : Thread Cert.RmsBIdeal.nD Cert.RmsBIdeal.τ).loc Cert.RmsBIdeal.main_arg5) = m ((c.tc : Thread Cert.RmsBIdeal.nD Cert.RmsBIdeal.τ).loc Cert.RmsBIdeal.main_arg5)
          ∧ r.2.mem ((c.tc : Thread Cert.RmsBIdeal.nD Cert.RmsBIdeal.τ).loc Cert.RmsBIdeal.main_arg6) = m ((c.tc : Thread Cert.RmsBIdeal.nD Cert.RmsBIdeal.τ).loc Cert.RmsBIdeal.main_arg6)
          ∧ r.2.mem ((c.tc : Thread Cert.RmsBIdeal.nD Cert.RmsBIdeal.τ).loc Cert.RmsBIdeal.main_arg7) = m ((c.tc : Thread Cert.RmsBIdeal.nD Cert.RmsBIdeal.τ).loc Cert.RmsBIdeal.main_arg7)
          ∧ r.2.mem ((c.tc : Thread Cert.RmsBIdeal.nD Cert.RmsBIdeal.τ).loc Cert.RmsBIdeal.main_arg8) = m ((c.tc : Thread Cert.RmsBIdeal.nD Cert.RmsBIdeal.τ).loc Cert.RmsBIdeal.main_arg8)
          ∧ r.2.mem ((c.tc : Thread Cert.RmsBIdeal.nD Cert.RmsBIdeal.τ).loc Cert.RmsBIdeal.main_arg9) = m ((c.tc : Thread Cert.RmsBIdeal.nD Cert.RmsBIdeal.τ).loc Cert.RmsBIdeal.main_arg9)
          ∧ r.2.mem ((c.tc : Thread Cert.RmsBIdeal.nD Cert.RmsBIdeal.τ).loc Cert.RmsBIdeal.main_arg10) = m ((c.tc : Thread Cert.RmsBIdeal.nD Cert.RmsBIdeal.τ).loc Cert.RmsBIdeal.main_arg10))
      ∧ θ_run (Cert.RefRmsBIdeal.defs (F := Ideal)) (onTc (τ := Cert.RefRmsBIdeal.τ) (Cert.RefRmsBIdeal.main (F := Ideal))) ⟨m', fun _ => 0, g'⟩ (fun r => ∀ c : Dev Cert.RefRmsBIdeal.nD,
          r.2.mem ((c.tc : Thread Cert.RefRmsBIdeal.nD Cert.RefRmsBIdeal.τ).loc Cert.RefRmsBIdeal.main_v55) = v0 c
          ∧ r.2.mem ((c.tc : Thread Cert.RefRmsBIdeal.nD Cert.RefRmsBIdeal.τ).loc Cert.RefRmsBIdeal.main_v62) = v1 c
          ∧ r.2.mem ((c.tc : Thread Cert.RefRmsBIdeal.nD Cert.RefRmsBIdeal.τ).loc Cert.RefRmsBIdeal.main_v30) = v2 c
          ∧ r.2.mem ((c.tc : Thread Cert.RefRmsBIdeal.nD Cert.RefRmsBIdeal.τ).loc Cert.RefRmsBIdeal.main_v33) = v3 c
          ∧ r.2.mem ((c.tc : Thread Cert.RefRmsBIdeal.nD Cert.RefRmsBIdeal.τ).loc Cert.RefRmsBIdeal.main_v38) = v4 c
          ∧ r.2.mem ((c.tc : Thread Cert.RefRmsBIdeal.nD Cert.RefRmsBIdeal.τ).loc Cert.RefRmsBIdeal.main_v61) = v5 c
          ∧ r.2.mem ((c.tc : Thread Cert.RefRmsBIdeal.nD Cert.RefRmsBIdeal.τ).loc Cert.RefRmsBIdeal.main_arg0) = m' ((c.tc : Thread Cert.RefRmsBIdeal.nD Cert.RefRmsBIdeal.τ).loc Cert.RefRmsBIdeal.main_arg0)
          ∧ r.2.mem ((c.tc : Thread Cert.RefRmsBIdeal.nD Cert.RefRmsBIdeal.τ).loc Cert.RefRmsBIdeal.main_arg1) = m' ((c.tc : Thread Cert.RefRmsBIdeal.nD Cert.RefRmsBIdeal.τ).loc Cert.RefRmsBIdeal.main_arg1)
          ∧ r.2.mem ((c.tc : Thread Cert.RefRmsBIdeal.nD Cert.RefRmsBIdeal.τ).loc Cert.RefRmsBIdeal.main_arg2) = m' ((c.tc : Thread Cert.RefRmsBIdeal.nD Cert.RefRmsBIdeal.τ).loc Cert.RefRmsBIdeal.main_arg2)
          ∧ r.2.mem ((c.tc : Thread Cert.RefRmsBIdeal.nD Cert.RefRmsBIdeal.τ).loc Cert.RefRmsBIdeal.main_arg3) = m' ((c.tc : Thread Cert.RefRmsBIdeal.nD Cert.RefRmsBIdeal.τ).loc Cert.RefRmsBIdeal.main_arg3)
          ∧ r.2.mem ((c.tc : Thread Cert.RefRmsBIdeal.nD Cert.RefRmsBIdeal.τ).loc Cert.RefRmsBIdeal.main_arg4) = m' ((c.tc : Thread Cert.RefRmsBIdeal.nD Cert.RefRmsBIdeal.τ).loc Cert.RefRmsBIdeal.main_arg4)
          ∧ r.2.mem ((c.tc : Thread Cert.RefRmsBIdeal.nD Cert.RefRmsBIdeal.τ).loc Cert.RefRmsBIdeal.main_arg5) = m' ((c.tc : Thread Cert.RefRmsBIdeal.nD Cert.RefRmsBIdeal.τ).loc Cert.RefRmsBIdeal.main_arg5)
          ∧ r.2.mem ((c.tc : Thread Cert.RefRmsBIdeal.nD Cert.RefRmsBIdeal.τ).loc Cert.RefRmsBIdeal.main_arg6) = m' ((c.tc : Thread Cert.RefRmsBIdeal.nD Cert.RefRmsBIdeal.τ).loc Cert.RefRmsBIdeal.main_arg6)
          ∧ r.2.mem ((c.tc : Thread Cert.RefRmsBIdeal.nD Cert.RefRmsBIdeal.τ).loc Cert.RefRmsBIdeal.main_arg7) = m' ((c.tc : Thread Cert.RefRmsBIdeal.nD Cert.RefRmsBIdeal.τ).loc Cert.RefRmsBIdeal.main_arg7)
          ∧ r.2.mem ((c.tc : Thread Cert.RefRmsBIdeal.nD Cert.RefRmsBIdeal.τ).loc Cert.RefRmsBIdeal.main_arg8) = m' ((c.tc : Thread Cert.RefRmsBIdeal.nD Cert.RefRmsBIdeal.τ).loc Cert.RefRmsBIdeal.main_arg8)
          ∧ r.2.mem ((c.tc : Thread Cert.RefRmsBIdeal.nD Cert.RefRmsBIdeal.τ).loc Cert.RefRmsBIdeal.main_arg9) = m' ((c.tc : Thread Cert.RefRmsBIdeal.nD Cert.RefRmsBIdeal.τ).loc Cert.RefRmsBIdeal.main_arg9)
          ∧ r.2.mem ((c.tc : Thread Cert.RefRmsBIdeal.nD Cert.RefRmsBIdeal.τ).loc Cert.RefRmsBIdeal.main_arg10) = m' ((c.tc : Thread Cert.RefRmsBIdeal.nD Cert.RefRmsBIdeal.τ).loc Cert.RefRmsBIdeal.main_arg10))

def preserves_ConvB_ConvBIdeal : Prop :=
  True

def preserves_LossHead_LossHeadIdeal : Prop :=
  True

def algebraic_LossHeadIdeal_RefLossHeadIdeal_pre_finite_loss [hLossHeadIdeal : Cert.LossHeadIdeal.Facts] [hRefLossHeadIdeal : Cert.RefLossHeadIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.RefLossHeadIdeal.nD Cert.RefLossHeadIdeal.τ Cert.RefLossHeadIdeal.sig) → Buf (Elt Ideal) ℓ) (g' : Dev Cert.RefLossHeadIdeal.nD → PrngReg), Pre_LossHeadIdeal_finite_loss m →
    (∀ c : Dev Cert.LossHeadIdeal.nD,
      m' ((c.tc : Thread Cert.RefLossHeadIdeal.nD Cert.RefLossHeadIdeal.τ).loc Cert.RefLossHeadIdeal.main_arg0) = m ((c.tc : Thread Cert.LossHeadIdeal.nD Cert.LossHeadIdeal.τ).loc Cert.LossHeadIdeal.main_arg0)
      ∧ m' ((c.tc : Thread Cert.RefLossHeadIdeal.nD Cert.RefLossHeadIdeal.τ).loc Cert.RefLossHeadIdeal.main_arg1) = m ((c.tc : Thread Cert.LossHeadIdeal.nD Cert.LossHeadIdeal.τ).loc Cert.LossHeadIdeal.main_arg1)
      ∧ m' ((c.tc : Thread Cert.RefLossHeadIdeal.nD Cert.RefLossHeadIdeal.τ).loc Cert.RefLossHeadIdeal.main_arg2) = m ((c.tc : Thread Cert.LossHeadIdeal.nD Cert.LossHeadIdeal.τ).loc Cert.LossHeadIdeal.main_arg2)
      ∧ m' ((c.tc : Thread Cert.RefLossHeadIdeal.nD Cert.RefLossHeadIdeal.τ).loc Cert.RefLossHeadIdeal.main_arg3) = m ((c.tc : Thread Cert.LossHeadIdeal.nD Cert.LossHeadIdeal.τ).loc Cert.LossHeadIdeal.main_arg3)
      ∧ m' ((c.tc : Thread Cert.RefLossHeadIdeal.nD Cert.RefLossHeadIdeal.τ).loc Cert.RefLossHeadIdeal.main_arg4) = m ((c.tc : Thread Cert.LossHeadIdeal.nD Cert.LossHeadIdeal.τ).loc Cert.LossHeadIdeal.main_arg4)) →
    ∃ (v0 : (c : Dev Cert.LossHeadIdeal.nD) → Buf (Elt Ideal) ((c.tc : Thread Cert.LossHeadIdeal.nD Cert.LossHeadIdeal.τ).loc Cert.LossHeadIdeal.main_v9)) (v1 : (c : Dev Cert.LossHeadIdeal.nD) → Buf (Elt Ideal) ((c.tc : Thread Cert.LossHeadIdeal.nD Cert.LossHeadIdeal.τ).loc Cert.LossHeadIdeal.main_v7_0)) (v2 : (c : Dev Cert.LossHeadIdeal.nD) → Buf (Elt Ideal) ((c.tc : Thread Cert.LossHeadIdeal.nD Cert.LossHeadIdeal.τ).loc Cert.LossHeadIdeal.main_v7_1)) (v3 : (c : Dev Cert.LossHeadIdeal.nD) → Buf (Elt Ideal) ((c.tc : Thread Cert.LossHeadIdeal.nD Cert.LossHeadIdeal.τ).loc Cert.LossHeadIdeal.main_v7_4)) (v4 : (c : Dev Cert.LossHeadIdeal.nD) → Buf (Elt Ideal) ((c.tc : Thread Cert.LossHeadIdeal.nD Cert.LossHeadIdeal.τ).loc Cert.LossHeadIdeal.main_v7_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v9) = v0 c
          ∧ r.2.mem ((c.tc : Thread Cert.LossHeadIdeal.nD Cert.LossHeadIdeal.τ).loc Cert.LossHeadIdeal.main_v7_0) = v1 c
          ∧ r.2.mem ((c.tc : Thread Cert.LossHeadIdeal.nD Cert.LossHeadIdeal.τ).loc Cert.LossHeadIdeal.main_v7_1) = v2 c
          ∧ r.2.mem ((c.tc : Thread Cert.LossHeadIdeal.nD Cert.LossHeadIdeal.τ).loc Cert.LossHeadIdeal.main_v7_4) = v3 c
          ∧ r.2.mem ((c.tc : Thread Cert.LossHeadIdeal.nD Cert.LossHeadIdeal.τ).loc Cert.LossHeadIdeal.main_v7_3) = v4 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ θ_run (Cert.RefLossHeadIdeal.defs (F := Ideal)) (onTc (τ := Cert.RefLossHeadIdeal.τ) (Cert.RefLossHeadIdeal.main (F := Ideal))) ⟨m', fun _ => 0, g'⟩ (fun r => ∀ c : Dev Cert.RefLossHeadIdeal.nD,
          r.2.mem ((c.tc : Thread Cert.RefLossHeadIdeal.nD Cert.RefLossHeadIdeal.τ).loc Cert.RefLossHeadIdeal.main_v29) = v0 c
          ∧ r.2.mem ((c.tc : Thread Cert.RefLossHeadIdeal.nD Cert.RefLossHeadIdeal.τ).loc Cert.RefLossHeadIdeal.main_v55) = v1 c
          ∧ r.2.mem ((c.tc : Thread Cert.RefLossHeadIdeal.nD Cert.RefLossHeadIdeal.τ).loc Cert.RefLossHeadIdeal.main_v63) = v2 c
          ∧ r.2.mem ((c.tc : Thread Cert.RefLossHeadIdeal.nD Cert.RefLossHeadIdeal.τ).loc Cert.RefLossHeadIdeal.main_v62) = v3 c
          ∧ r.2.mem ((c.tc : Thread Cert.RefLossHeadIdeal.nD Cert.RefLossHeadIdeal.τ).loc Cert.RefLossHeadIdeal.main_v64) = v4 c
          ∧ r.2.mem ((c.tc : Thread Cert.RefLossHeadIdeal.nD Cert.RefLossHeadIdeal.τ).loc Cert.RefLossHeadIdeal.main_arg0) = m' ((c.tc : Thread Cert.RefLossHeadIdeal.nD Cert.RefLossHeadIdeal.τ).loc Cert.RefLossHeadIdeal.main_arg0)
          ∧ r.2.mem ((c.tc : Thread Cert.RefLossHeadIdeal.nD Cert.RefLossHeadIdeal.τ).loc Cert.RefLossHeadIdeal.main_arg1) = m' ((c.tc : Thread Cert.RefLossHeadIdeal.nD Cert.RefLossHeadIdeal.τ).loc Cert.RefLossHeadIdeal.main_arg1)
          ∧ r.2.mem ((c.tc : Thread Cert.RefLossHeadIdeal.nD Cert.RefLossHeadIdeal.τ).loc Cert.RefLossHeadIdeal.main_arg2) = m' ((c.tc : Thread Cert.RefLossHeadIdeal.nD Cert.RefLossHeadIdeal.τ).loc Cert.RefLossHeadIdeal.main_arg2)
          ∧ r.2.mem ((c.tc : Thread Cert.RefLossHeadIdeal.nD Cert.RefLossHeadIdeal.τ).loc Cert.RefLossHeadIdeal.main_arg3) = m' ((c.tc : Thread Cert.RefLossHeadIdeal.nD Cert.RefLossHeadIdeal.τ).loc Cert.RefLossHeadIdeal.main_arg3)
          ∧ r.2.mem ((c.tc : Thread Cert.RefLossHeadIdeal.nD Cert.RefLossHeadIdeal.τ).loc Cert.RefLossHeadIdeal.main_arg4) = m' ((c.tc : Thread Cert.RefLossHeadIdeal.nD Cert.RefLossHeadIdeal.τ).loc Cert.RefLossHeadIdeal.main_arg4))

def preserves_SplitB_SplitBIdeal : Prop :=
  True

def preserves_Fwd16_Fwd16Ideal : Prop :=
  IdealRules.named_const.Statement Cert.Fwd16Ideal.κ "mask" .f32 0xF149F2CA#32 ⊥

def algebraic_Fwd16Ideal_RefFwd16Ideal [hFwd16Ideal : Cert.Fwd16Ideal.Facts] [hRefFwd16Ideal : Cert.RefFwd16Ideal.Facts] : Prop :=
  ∀ (m : (ℓ : Loc Cert.Fwd16Ideal.nD Cert.Fwd16Ideal.τ Cert.Fwd16Ideal.sig) → Buf (Elt Ideal) ℓ) (g : Dev Cert.Fwd16Ideal.nD → PrngReg)
    (m' : (ℓ : Loc Cert.RefFwd16Ideal.nD Cert.RefFwd16Ideal.τ Cert.RefFwd16Ideal.sig) → Buf (Elt Ideal) ℓ) (g' : Dev Cert.RefFwd16Ideal.nD → PrngReg), Pre_Fwd16Ideal m →
    (∀ c : Dev Cert.Fwd16Ideal.nD,
      m' ((c.tc : Thread Cert.RefFwd16Ideal.nD Cert.RefFwd16Ideal.τ).loc Cert.RefFwd16Ideal.main_arg0) = m ((c.tc : Thread Cert.Fwd16Ideal.nD Cert.Fwd16Ideal.τ).loc Cert.Fwd16Ideal.main_arg0)
      ∧ m' ((c.tc : Thread Cert.RefFwd16Ideal.nD Cert.RefFwd16Ideal.τ).loc Cert.RefFwd16Ideal.main_arg1) = m ((c.tc : Thread Cert.Fwd16Ideal.nD Cert.Fwd16Ideal.τ).loc Cert.Fwd16Ideal.main_arg1)
      ∧ m' ((c.tc : Thread Cert.RefFwd16Ideal.nD Cert.RefFwd16Ideal.τ).loc Cert.RefFwd16Ideal.main_arg2) = m ((c.tc : Thread Cert.Fwd16Ideal.nD Cert.Fwd16Ideal.τ).loc Cert.Fwd16Ideal.main_arg2)) →
    ∃ (v0 : (c : Dev Cert.Fwd16Ideal.nD) → Buf (Elt Ideal) ((c.tc : Thread Cert.Fwd16Ideal.nD Cert.Fwd16Ideal.τ).loc Cert.Fwd16Ideal.main_v11)) (v1 : (c : Dev Cert.Fwd16Ideal.nD) → Buf (Elt Ideal) ((c.tc : Thread Cert.Fwd16Ideal.nD Cert.Fwd16Ideal.τ).loc Cert.Fwd16Ideal.main_v15)),
      θ_run (Cert.Fwd16Ideal.defs (F := Ideal)) (onTc (τ := Cert.Fwd16Ideal.τ) (Cert.Fwd16Ideal.main (F := Ideal))) ⟨m, fun _ => 0, g⟩ (fun r => ∀ c : Dev Cert.Fwd16Ideal.nD,
          r.2.mem ((c.tc : Thread Cert.Fwd16Ideal.nD Cert.Fwd16Ideal.τ).loc Cert.Fwd16Ideal.main_v11) = v0 c
          ∧ r.2.mem ((c.tc : Thread Cert.Fwd16Ideal.nD Cert.Fwd16Ideal.τ).loc Cert.Fwd16Ideal.main_v15) = v1 c
          ∧ r.2.mem ((c.tc : Thread Cert.Fwd16Ideal.nD Cert.Fwd16Ideal.τ).loc Cert.Fwd16Ideal.main_arg0) = m ((c.tc : Thread Cert.Fwd16Ideal.nD Cert.Fwd16Ideal.τ).loc Cert.Fwd16Ideal.main_arg0)
          ∧ r.2.mem ((c.tc : Thread Cert.Fwd16Ideal.nD Cert.Fwd16Ideal.τ).loc Cert.Fwd16Ideal.main_arg1) = m ((c.tc : Thread Cert.Fwd16Ideal.nD Cert.Fwd16Ideal.τ).loc Cert.Fwd16Ideal.main_arg1)
          ∧ r.2.mem ((c.tc : Thread Cert.Fwd16Ideal.nD Cert.Fwd16Ideal.τ).loc Cert.Fwd16Ideal.main_arg2) = m ((c.tc : Thread Cert.Fwd16Ideal.nD Cert.Fwd16Ideal.τ).loc Cert.Fwd16Ideal.main_arg2))
      ∧ θ_run (Cert.RefFwd16Ideal.defs (F := Ideal)) (onTc (τ := Cert.RefFwd16Ideal.τ) (Cert.RefFwd16Ideal.main (F := Ideal))) ⟨m', fun _ => 0, g'⟩ (fun r => ∀ c : Dev Cert.RefFwd16Ideal.nD,
          r.2.mem ((c.tc : Thread Cert.RefFwd16Ideal.nD Cert.RefFwd16Ideal.τ).loc Cert.RefFwd16Ideal.main_v69) = v0 c
          ∧ r.2.mem ((c.tc : Thread Cert.RefFwd16Ideal.nD Cert.RefFwd16Ideal.τ).loc Cert.RefFwd16Ideal.main_v73) = v1 c
          ∧ r.2.mem ((c.tc : Thread Cert.RefFwd16Ideal.nD Cert.RefFwd16Ideal.τ).loc Cert.RefFwd16Ideal.main_arg0) = m' ((c.tc : Thread Cert.RefFwd16Ideal.nD Cert.RefFwd16Ideal.τ).loc Cert.RefFwd16Ideal.main_arg0)
          ∧ r.2.mem ((c.tc : Thread Cert.RefFwd16Ideal.nD Cert.RefFwd16Ideal.τ).loc Cert.RefFwd16Ideal.main_arg1) = m' ((c.tc : Thread Cert.RefFwd16Ideal.nD Cert.RefFwd16Ideal.τ).loc Cert.RefFwd16Ideal.main_arg1)
          ∧ r.2.mem ((c.tc : Thread Cert.RefFwd16Ideal.nD Cert.RefFwd16Ideal.τ).loc Cert.RefFwd16Ideal.main_arg2) = m' ((c.tc : Thread Cert.RefFwd16Ideal.nD Cert.RefFwd16Ideal.τ).loc Cert.RefFwd16Ideal.main_arg2))

def preserves_Fwd4_Fwd4Ideal : Prop :=
  IdealRules.named_const.Statement Cert.Fwd4Ideal.κ "mask" .f32 0xF149F2CA#32 ⊥

def algebraic_Fwd4Ideal_RefFwd4Ideal [hFwd4Ideal : Cert.Fwd4Ideal.Facts] [hRefFwd4Ideal : Cert.RefFwd4Ideal.Facts] : Prop :=
  ∀ (m : (ℓ : Loc Cert.Fwd4Ideal.nD Cert.Fwd4Ideal.τ Cert.Fwd4Ideal.sig) → Buf (Elt Ideal) ℓ) (g : Dev Cert.Fwd4Ideal.nD → PrngReg)
    (m' : (ℓ : Loc Cert.RefFwd4Ideal.nD Cert.RefFwd4Ideal.τ Cert.RefFwd4Ideal.sig) → Buf (Elt Ideal) ℓ) (g' : Dev Cert.RefFwd4Ideal.nD → PrngReg), Pre_Fwd4Ideal m →
    (∀ c : Dev Cert.Fwd4Ideal.nD,
      m' ((c.tc : Thread Cert.RefFwd4Ideal.nD Cert.RefFwd4Ideal.τ).loc Cert.RefFwd4Ideal.main_arg0) = m ((c.tc : Thread Cert.Fwd4Ideal.nD Cert.Fwd4Ideal.τ).loc Cert.Fwd4Ideal.main_arg0)
      ∧ m' ((c.tc : Thread Cert.RefFwd4Ideal.nD Cert.RefFwd4Ideal.τ).loc Cert.RefFwd4Ideal.main_arg1) = m ((c.tc : Thread Cert.Fwd4Ideal.nD Cert.Fwd4Ideal.τ).loc Cert.Fwd4Ideal.main_arg1)
      ∧ m' ((c.tc : Thread Cert.RefFwd4Ideal.nD Cert.RefFwd4Ideal.τ).loc Cert.RefFwd4Ideal.main_arg2) = m ((c.tc : Thread Cert.Fwd4Ideal.nD Cert.Fwd4Ideal.τ).loc Cert.Fwd4Ideal.main_arg2)) →
    ∃ (v0 : (c : Dev Cert.Fwd4Ideal.nD) → Buf (Elt Ideal) ((c.tc : Thread Cert.Fwd4Ideal.nD Cert.Fwd4Ideal.τ).loc Cert.Fwd4Ideal.main_v11)) (v1 : (c : Dev Cert.Fwd4Ideal.nD) → Buf (Elt Ideal) ((c.tc : Thread Cert.Fwd4Ideal.nD Cert.Fwd4Ideal.τ).loc Cert.Fwd4Ideal.main_v15)),
      θ_run (Cert.Fwd4Ideal.defs (F := Ideal)) (onTc (τ := Cert.Fwd4Ideal.τ) (Cert.Fwd4Ideal.main (F := Ideal))) ⟨m, fun _ => 0, g⟩ (fun r => ∀ c : Dev Cert.Fwd4Ideal.nD,
          r.2.mem ((c.tc : Thread Cert.Fwd4Ideal.nD Cert.Fwd4Ideal.τ).loc Cert.Fwd4Ideal.main_v11) = v0 c
          ∧ r.2.mem ((c.tc : Thread Cert.Fwd4Ideal.nD Cert.Fwd4Ideal.τ).loc Cert.Fwd4Ideal.main_v15) = v1 c
          ∧ r.2.mem ((c.tc : Thread Cert.Fwd4Ideal.nD Cert.Fwd4Ideal.τ).loc Cert.Fwd4Ideal.main_arg0) = m ((c.tc : Thread Cert.Fwd4Ideal.nD Cert.Fwd4Ideal.τ).loc Cert.Fwd4Ideal.main_arg0)
          ∧ r.2.mem ((c.tc : Thread Cert.Fwd4Ideal.nD Cert.Fwd4Ideal.τ).loc Cert.Fwd4Ideal.main_arg1) = m ((c.tc : Thread Cert.Fwd4Ideal.nD Cert.Fwd4Ideal.τ).loc Cert.Fwd4Ideal.main_arg1)
          ∧ r.2.mem ((c.tc : Thread Cert.Fwd4Ideal.nD Cert.Fwd4Ideal.τ).loc Cert.Fwd4Ideal.main_arg2) = m ((c.tc : Thread Cert.Fwd4Ideal.nD Cert.Fwd4Ideal.τ).loc Cert.Fwd4Ideal.main_arg2))
      ∧ θ_run (Cert.RefFwd4Ideal.defs (F := Ideal)) (onTc (τ := Cert.RefFwd4Ideal.τ) (Cert.RefFwd4Ideal.main (F := Ideal))) ⟨m', fun _ => 0, g'⟩ (fun r => ∀ c : Dev Cert.RefFwd4Ideal.nD,
          r.2.mem ((c.tc : Thread Cert.RefFwd4Ideal.nD Cert.RefFwd4Ideal.τ).loc Cert.RefFwd4Ideal.main_v69) = v0 c
          ∧ r.2.mem ((c.tc : Thread Cert.RefFwd4Ideal.nD Cert.RefFwd4Ideal.τ).loc Cert.RefFwd4Ideal.main_v73) = v1 c
          ∧ r.2.mem ((c.tc : Thread Cert.RefFwd4Ideal.nD Cert.RefFwd4Ideal.τ).loc Cert.RefFwd4Ideal.main_arg0) = m' ((c.tc : Thread Cert.RefFwd4Ideal.nD Cert.RefFwd4Ideal.τ).loc Cert.RefFwd4Ideal.main_arg0)
          ∧ r.2.mem ((c.tc : Thread Cert.RefFwd4Ideal.nD Cert.RefFwd4Ideal.τ).loc Cert.RefFwd4Ideal.main_arg1) = m' ((c.tc : Thread Cert.RefFwd4Ideal.nD Cert.RefFwd4Ideal.τ).loc Cert.RefFwd4Ideal.main_arg1)
          ∧ r.2.mem ((c.tc : Thread Cert.RefFwd4Ideal.nD Cert.RefFwd4Ideal.τ).loc Cert.RefFwd4Ideal.main_arg2) = m' ((c.tc : Thread Cert.RefFwd4Ideal.nD Cert.RefFwd4Ideal.τ).loc Cert.RefFwd4Ideal.main_arg2))

def preserves_Fwd1_Fwd1Ideal : Prop :=
  IdealRules.named_const.Statement Cert.Fwd1Ideal.κ "mask" .f32 0xF149F2CA#32 ⊥

def algebraic_Fwd1Ideal_RefFwd1Ideal [hFwd1Ideal : Cert.Fwd1Ideal.Facts] [hRefFwd1Ideal : Cert.RefFwd1Ideal.Facts] : Prop :=
  ∀ (m : (ℓ : Loc Cert.Fwd1Ideal.nD Cert.Fwd1Ideal.τ Cert.Fwd1Ideal.sig) → Buf (Elt Ideal) ℓ) (g : Dev Cert.Fwd1Ideal.nD → PrngReg)
    (m' : (ℓ : Loc Cert.RefFwd1Ideal.nD Cert.RefFwd1Ideal.τ Cert.RefFwd1Ideal.sig) → Buf (Elt Ideal) ℓ) (g' : Dev Cert.RefFwd1Ideal.nD → PrngReg), Pre_Fwd1Ideal m →
    (∀ c : Dev Cert.Fwd1Ideal.nD,
      m' ((c.tc : Thread Cert.RefFwd1Ideal.nD Cert.RefFwd1Ideal.τ).loc Cert.RefFwd1Ideal.main_arg0) = m ((c.tc : Thread Cert.Fwd1Ideal.nD Cert.Fwd1Ideal.τ).loc Cert.Fwd1Ideal.main_arg0)
      ∧ m' ((c.tc : Thread Cert.RefFwd1Ideal.nD Cert.RefFwd1Ideal.τ).loc Cert.RefFwd1Ideal.main_arg1) = m ((c.tc : Thread Cert.Fwd1Ideal.nD Cert.Fwd1Ideal.τ).loc Cert.Fwd1Ideal.main_arg1)
      ∧ m' ((c.tc : Thread Cert.RefFwd1Ideal.nD Cert.RefFwd1Ideal.τ).loc Cert.RefFwd1Ideal.main_arg2) = m ((c.tc : Thread Cert.Fwd1Ideal.nD Cert.Fwd1Ideal.τ).loc Cert.Fwd1Ideal.main_arg2)) →
    ∃ (v0 : (c : Dev Cert.Fwd1Ideal.nD) → Buf (Elt Ideal) ((c.tc : Thread Cert.Fwd1Ideal.nD Cert.Fwd1Ideal.τ).loc Cert.Fwd1Ideal.main_v11)) (v1 : (c : Dev Cert.Fwd1Ideal.nD) → Buf (Elt Ideal) ((c.tc : Thread Cert.Fwd1Ideal.nD Cert.Fwd1Ideal.τ).loc Cert.Fwd1Ideal.main_v15)),
      θ_run (Cert.Fwd1Ideal.defs (F := Ideal)) (onTc (τ := Cert.Fwd1Ideal.τ) (Cert.Fwd1Ideal.main (F := Ideal))) ⟨m, fun _ => 0, g⟩ (fun r => ∀ c : Dev Cert.Fwd1Ideal.nD,
          r.2.mem ((c.tc : Thread Cert.Fwd1Ideal.nD Cert.Fwd1Ideal.τ).loc Cert.Fwd1Ideal.main_v11) = v0 c
          ∧ r.2.mem ((c.tc : Thread Cert.Fwd1Ideal.nD Cert.Fwd1Ideal.τ).loc Cert.Fwd1Ideal.main_v15) = v1 c
          ∧ r.2.mem ((c.tc : Thread Cert.Fwd1Ideal.nD Cert.Fwd1Ideal.τ).loc Cert.Fwd1Ideal.main_arg0) = m ((c.tc : Thread Cert.Fwd1Ideal.nD Cert.Fwd1Ideal.τ).loc Cert.Fwd1Ideal.main_arg0)
          ∧ r.2.mem ((c.tc : Thread Cert.Fwd1Ideal.nD Cert.Fwd1Ideal.τ).loc Cert.Fwd1Ideal.main_arg1) = m ((c.tc : Thread Cert.Fwd1Ideal.nD Cert.Fwd1Ideal.τ).loc Cert.Fwd1Ideal.main_arg1)
          ∧ r.2.mem ((c.tc : Thread Cert.Fwd1Ideal.nD Cert.Fwd1Ideal.τ).loc Cert.Fwd1Ideal.main_arg2) = m ((c.tc : Thread Cert.Fwd1Ideal.nD Cert.Fwd1Ideal.τ).loc Cert.Fwd1Ideal.main_arg2))
      ∧ θ_run (Cert.RefFwd1Ideal.defs (F := Ideal)) (onTc (τ := Cert.RefFwd1Ideal.τ) (Cert.RefFwd1Ideal.main (F := Ideal))) ⟨m', fun _ => 0, g'⟩ (fun r => ∀ c : Dev Cert.RefFwd1Ideal.nD,
          r.2.mem ((c.tc : Thread Cert.RefFwd1Ideal.nD Cert.RefFwd1Ideal.τ).loc Cert.RefFwd1Ideal.main_v69) = v0 c
          ∧ r.2.mem ((c.tc : Thread Cert.RefFwd1Ideal.nD Cert.RefFwd1Ideal.τ).loc Cert.RefFwd1Ideal.main_v73) = v1 c
          ∧ r.2.mem ((c.tc : Thread Cert.RefFwd1Ideal.nD Cert.RefFwd1Ideal.τ).loc Cert.RefFwd1Ideal.main_arg0) = m' ((c.tc : Thread Cert.RefFwd1Ideal.nD Cert.RefFwd1Ideal.τ).loc Cert.RefFwd1Ideal.main_arg0)
          ∧ r.2.mem ((c.tc : Thread Cert.RefFwd1Ideal.nD Cert.RefFwd1Ideal.τ).loc Cert.RefFwd1Ideal.main_arg1) = m' ((c.tc : Thread Cert.RefFwd1Ideal.nD Cert.RefFwd1Ideal.τ).loc Cert.RefFwd1Ideal.main_arg1)
          ∧ r.2.mem ((c.tc : Thread Cert.RefFwd1Ideal.nD Cert.RefFwd1Ideal.τ).loc Cert.RefFwd1Ideal.main_arg2) = m' ((c.tc : Thread Cert.RefFwd1Ideal.nD Cert.RefFwd1Ideal.τ).loc Cert.RefFwd1Ideal.main_arg2))

def preserves_UpF_UpFIdeal : Prop :=
  True

def algebraic_UpFIdeal_RefUpFIdeal [hUpFIdeal : Cert.UpFIdeal.Facts] [hRefUpFIdeal : Cert.RefUpFIdeal.Facts] : Prop :=
  ∀ (m : (ℓ : Loc Cert.UpFIdeal.nD Cert.UpFIdeal.τ Cert.UpFIdeal.sig) → Buf (Elt Ideal) ℓ) (g : Dev Cert.UpFIdeal.nD → PrngReg)
    (m' : (ℓ : Loc Cert.RefUpFIdeal.nD Cert.RefUpFIdeal.τ Cert.RefUpFIdeal.sig) → Buf (Elt Ideal) ℓ) (g' : Dev Cert.RefUpFIdeal.nD → PrngReg), Pre_UpFIdeal m →
    (∀ c : Dev Cert.UpFIdeal.nD,
      m' ((c.tc : Thread Cert.RefUpFIdeal.nD Cert.RefUpFIdeal.τ).loc Cert.RefUpFIdeal.main_arg0) = m ((c.tc : Thread Cert.UpFIdeal.nD Cert.UpFIdeal.τ).loc Cert.UpFIdeal.main_arg0)
      ∧ m' ((c.tc : Thread Cert.RefUpFIdeal.nD Cert.RefUpFIdeal.τ).loc Cert.RefUpFIdeal.main_arg1) = m ((c.tc : Thread Cert.UpFIdeal.nD Cert.UpFIdeal.τ).loc Cert.UpFIdeal.main_arg1)
      ∧ m' ((c.tc : Thread Cert.RefUpFIdeal.nD Cert.RefUpFIdeal.τ).loc Cert.RefUpFIdeal.main_arg2) = m ((c.tc : Thread Cert.UpFIdeal.nD Cert.UpFIdeal.τ).loc Cert.UpFIdeal.main_arg2)) →
    ∃ (v0 : (c : Dev Cert.UpFIdeal.nD) → Buf (Elt Ideal) ((c.tc : Thread Cert.UpFIdeal.nD Cert.UpFIdeal.τ).loc Cert.UpFIdeal.main_v4_0)) (v1 : (c : Dev Cert.UpFIdeal.nD) → Buf (Elt Ideal) ((c.tc : Thread Cert.UpFIdeal.nD Cert.UpFIdeal.τ).loc Cert.UpFIdeal.main_v4_1)) (v2 : (c : Dev Cert.UpFIdeal.nD) → Buf (Elt Ideal) ((c.tc : Thread Cert.UpFIdeal.nD Cert.UpFIdeal.τ).loc Cert.UpFIdeal.main_v4_2)),
      θ_run (Cert.UpFIdeal.defs (F := Ideal)) (onTc (τ := Cert.UpFIdeal.τ) (Cert.UpFIdeal.main (F := Ideal))) ⟨m, fun _ => 0, g⟩ (fun r => ∀ c : Dev Cert.UpFIdeal.nD,
          r.2.mem ((c.tc : Thread Cert.UpFIdeal.nD Cert.UpFIdeal.τ).loc Cert.UpFIdeal.main_v4_0) = v0 c
          ∧ r.2.mem ((c.tc : Thread Cert.UpFIdeal.nD Cert.UpFIdeal.τ).loc Cert.UpFIdeal.main_v4_1) = v1 c
          ∧ r.2.mem ((c.tc : Thread Cert.UpFIdeal.nD Cert.UpFIdeal.τ).loc Cert.UpFIdeal.main_v4_2) = v2 c
          ∧ r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
          ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1)
          ∧ r.2.mem ((c.tc : Thread Cert.UpFIdeal.nD Cert.UpFIdeal.τ).loc Cert.UpFIdeal.main_arg2) = m ((c.tc : Thread Cert.UpFIdeal.nD Cert.UpFIdeal.τ).loc Cert.UpFIdeal.main_arg2))
      ∧ θ_run (Cert.RefUpFIdeal.defs (F := Ideal)) (onTc (τ := Cert.RefUpFIdeal.τ) (Cert.RefUpFIdeal.main (F := Ideal))) ⟨m', fun _ => 0, g'⟩ (fun r => ∀ c : Dev Cert.RefUpFIdeal.nD,
          r.2.mem ((c.tc : Thread Cert.RefUpFIdeal.nD Cert.RefUpFIdeal.τ).loc Cert.RefUpFIdeal.main_v2) = v0 c
          ∧ r.2.mem ((c.tc : Thread Cert.RefUpFIdeal.nD Cert.RefUpFIdeal.τ).loc Cert.RefUpFIdeal.main_v3) = v1 c
          ∧ r.2.mem ((c.tc : Thread Cert.RefUpFIdeal.nD Cert.RefUpFIdeal.τ).loc Cert.RefUpFIdeal.main_v6) = v2 c
          ∧ r.2.mem ((c.tc : Thread Cert.RefUpFIdeal.nD Cert.RefUpFIdeal.τ).loc Cert.RefUpFIdeal.main_arg0) = m' ((c.tc : Thread Cert.RefUpFIdeal.nD Cert.RefUpFIdeal.τ).loc Cert.RefUpFIdeal.main_arg0)
          ∧ r.2.mem ((c.tc : Thread Cert.RefUpFIdeal.nD Cert.RefUpFIdeal.τ).loc Cert.RefUpFIdeal.main_arg1) = m' ((c.tc : Thread Cert.RefUpFIdeal.nD Cert.RefUpFIdeal.τ).loc Cert.RefUpFIdeal.main_arg1)
          ∧ r.2.mem ((c.tc : Thread Cert.RefUpFIdeal.nD Cert.RefUpFIdeal.τ).loc Cert.RefUpFIdeal.main_arg2) = m' ((c.tc : Thread Cert.RefUpFIdeal.nD Cert.RefUpFIdeal.τ).loc Cert.RefUpFIdeal.main_arg2))

def preserves_BranchF_BranchFIdeal : Prop :=
  True

def algebraic_BranchFIdeal_RefBranchFIdeal [hBranchFIdeal : Cert.BranchFIdeal.Facts] [hRefBranchFIdeal : Cert.RefBranchFIdeal.Facts] : Prop :=
  ∀ (m : (ℓ : Loc Cert.BranchFIdeal.nD Cert.BranchFIdeal.τ Cert.BranchFIdeal.sig) → Buf (Elt Ideal) ℓ) (g : Dev Cert.BranchFIdeal.nD → PrngReg)
    (m' : (ℓ : Loc Cert.RefBranchFIdeal.nD Cert.RefBranchFIdeal.τ Cert.RefBranchFIdeal.sig) → Buf (Elt Ideal) ℓ) (g' : Dev Cert.RefBranchFIdeal.nD → PrngReg), Pre_BranchFIdeal m →
    (∀ c : Dev Cert.BranchFIdeal.nD,
      m' ((c.tc : Thread Cert.RefBranchFIdeal.nD Cert.RefBranchFIdeal.τ).loc Cert.RefBranchFIdeal.main_arg0) = m ((c.tc : Thread Cert.BranchFIdeal.nD Cert.BranchFIdeal.τ).loc Cert.BranchFIdeal.main_arg0)
      ∧ m' ((c.tc : Thread Cert.RefBranchFIdeal.nD Cert.RefBranchFIdeal.τ).loc Cert.RefBranchFIdeal.main_arg1) = m ((c.tc : Thread Cert.BranchFIdeal.nD Cert.BranchFIdeal.τ).loc Cert.BranchFIdeal.main_arg1)
      ∧ m' ((c.tc : Thread Cert.RefBranchFIdeal.nD Cert.RefBranchFIdeal.τ).loc Cert.RefBranchFIdeal.main_arg2) = m ((c.tc : Thread Cert.BranchFIdeal.nD Cert.BranchFIdeal.τ).loc Cert.BranchFIdeal.main_arg2)
      ∧ m' ((c.tc : Thread Cert.RefBranchFIdeal.nD Cert.RefBranchFIdeal.τ).loc Cert.RefBranchFIdeal.main_arg3) = m ((c.tc : Thread Cert.BranchFIdeal.nD Cert.BranchFIdeal.τ).loc Cert.BranchFIdeal.main_arg3)
      ∧ m' ((c.tc : Thread Cert.RefBranchFIdeal.nD Cert.RefBranchFIdeal.τ).loc Cert.RefBranchFIdeal.main_arg4) = m ((c.tc : Thread Cert.BranchFIdeal.nD Cert.BranchFIdeal.τ).loc Cert.BranchFIdeal.main_arg4)
      ∧ m' ((c.tc : Thread Cert.RefBranchFIdeal.nD Cert.RefBranchFIdeal.τ).loc Cert.RefBranchFIdeal.main_arg5) = m ((c.tc : Thread Cert.BranchFIdeal.nD Cert.BranchFIdeal.τ).loc Cert.BranchFIdeal.main_arg5)) →
    ∃ (v0 : (c : Dev Cert.BranchFIdeal.nD) → Buf (Elt Ideal) ((c.tc : Thread Cert.BranchFIdeal.nD Cert.BranchFIdeal.τ).loc Cert.BranchFIdeal.main_v6_0)) (v1 : (c : Dev Cert.BranchFIdeal.nD) → Buf (Elt Ideal) ((c.tc : Thread Cert.BranchFIdeal.nD Cert.BranchFIdeal.τ).loc Cert.BranchFIdeal.main_v6_1)) (v2 : (c : Dev Cert.BranchFIdeal.nD) → Buf (Elt Ideal) ((c.tc : Thread Cert.BranchFIdeal.nD Cert.BranchFIdeal.τ).loc Cert.BranchFIdeal.main_v6_2)),
      θ_run (Cert.BranchFIdeal.defs (F := Ideal)) (onTc (τ := Cert.BranchFIdeal.τ) (Cert.BranchFIdeal.main (F := Ideal))) ⟨m, fun _ => 0, g⟩ (fun r => ∀ c : Dev Cert.BranchFIdeal.nD,
          r.2.mem ((c.tc : Thread Cert.BranchFIdeal.nD Cert.BranchFIdeal.τ).loc Cert.BranchFIdeal.main_v6_0) = v0 c
          ∧ r.2.mem ((c.tc : Thread Cert.BranchFIdeal.nD Cert.BranchFIdeal.τ).loc Cert.BranchFIdeal.main_v6_1) = v1 c
          ∧ r.2.mem ((c.tc : Thread Cert.BranchFIdeal.nD Cert.BranchFIdeal.τ).loc Cert.BranchFIdeal.main_v6_2) = v2 c
          ∧ r.2.mem ((c.tc : Thread Cert.BranchFIdeal.nD Cert.BranchFIdeal.τ).loc Cert.BranchFIdeal.main_arg0) = m ((c.tc : Thread Cert.BranchFIdeal.nD Cert.BranchFIdeal.τ).loc Cert.BranchFIdeal.main_arg0)
          ∧ r.2.mem ((c.tc : Thread Cert.BranchFIdeal.nD Cert.BranchFIdeal.τ).loc Cert.BranchFIdeal.main_arg1) = m ((c.tc : Thread Cert.BranchFIdeal.nD Cert.BranchFIdeal.τ).loc Cert.BranchFIdeal.main_arg1)
          ∧ r.2.mem ((c.tc : Thread Cert.BranchFIdeal.nD Cert.BranchFIdeal.τ).loc Cert.BranchFIdeal.main_arg2) = m ((c.tc : Thread Cert.BranchFIdeal.nD Cert.BranchFIdeal.τ).loc Cert.BranchFIdeal.main_arg2)
          ∧ r.2.mem ((c.tc : Thread Cert.BranchFIdeal.nD Cert.BranchFIdeal.τ).loc Cert.BranchFIdeal.main_arg3) = m ((c.tc : Thread Cert.BranchFIdeal.nD Cert.BranchFIdeal.τ).loc Cert.BranchFIdeal.main_arg3)
          ∧ r.2.mem ((c.tc : Thread Cert.BranchFIdeal.nD Cert.BranchFIdeal.τ).loc Cert.BranchFIdeal.main_arg4) = m ((c.tc : Thread Cert.BranchFIdeal.nD Cert.BranchFIdeal.τ).loc Cert.BranchFIdeal.main_arg4)
          ∧ r.2.mem ((c.tc : Thread Cert.BranchFIdeal.nD Cert.BranchFIdeal.τ).loc Cert.BranchFIdeal.main_arg5) = m ((c.tc : Thread Cert.BranchFIdeal.nD Cert.BranchFIdeal.τ).loc Cert.BranchFIdeal.main_arg5))
      ∧ θ_run (Cert.RefBranchFIdeal.defs (F := Ideal)) (onTc (τ := Cert.RefBranchFIdeal.τ) (Cert.RefBranchFIdeal.main (F := Ideal))) ⟨m', fun _ => 0, g'⟩ (fun r => ∀ c : Dev Cert.RefBranchFIdeal.nD,
          r.2.mem ((c.tc : Thread Cert.RefBranchFIdeal.nD Cert.RefBranchFIdeal.τ).loc Cert.RefBranchFIdeal.main_v17) = v0 c
          ∧ r.2.mem ((c.tc : Thread Cert.RefBranchFIdeal.nD Cert.RefBranchFIdeal.τ).loc Cert.RefBranchFIdeal.main_v18) = v1 c
          ∧ r.2.mem ((c.tc : Thread Cert.RefBranchFIdeal.nD Cert.RefBranchFIdeal.τ).loc Cert.RefBranchFIdeal.main_v19) = v2 c
          ∧ r.2.mem ((c.tc : Thread Cert.RefBranchFIdeal.nD Cert.RefBranchFIdeal.τ).loc Cert.RefBranchFIdeal.main_arg0) = m' ((c.tc : Thread Cert.RefBranchFIdeal.nD Cert.RefBranchFIdeal.τ).loc Cert.RefBranchFIdeal.main_arg0)
          ∧ r.2.mem ((c.tc : Thread Cert.RefBranchFIdeal.nD Cert.RefBranchFIdeal.τ).loc Cert.RefBranchFIdeal.main_arg1) = m' ((c.tc : Thread Cert.RefBranchFIdeal.nD Cert.RefBranchFIdeal.τ).loc Cert.RefBranchFIdeal.main_arg1)
          ∧ r.2.mem ((c.tc : Thread Cert.RefBranchFIdeal.nD Cert.RefBranchFIdeal.τ).loc Cert.RefBranchFIdeal.main_arg2) = m' ((c.tc : Thread Cert.RefBranchFIdeal.nD Cert.RefBranchFIdeal.τ).loc Cert.RefBranchFIdeal.main_arg2)
          ∧ r.2.mem ((c.tc : Thread Cert.RefBranchFIdeal.nD Cert.RefBranchFIdeal.τ).loc Cert.RefBranchFIdeal.main_arg3) = m' ((c.tc : Thread Cert.RefBranchFIdeal.nD Cert.RefBranchFIdeal.τ).loc Cert.RefBranchFIdeal.main_arg3)
          ∧ r.2.mem ((c.tc : Thread Cert.RefBranchFIdeal.nD Cert.RefBranchFIdeal.τ).loc Cert.RefBranchFIdeal.main_arg4) = m' ((c.tc : Thread Cert.RefBranchFIdeal.nD Cert.RefBranchFIdeal.τ).loc Cert.RefBranchFIdeal.main_arg4)
          ∧ r.2.mem ((c.tc : Thread Cert.RefBranchFIdeal.nD Cert.RefBranchFIdeal.τ).loc Cert.RefBranchFIdeal.main_arg5) = m' ((c.tc : Thread Cert.RefBranchFIdeal.nD Cert.RefBranchFIdeal.τ).loc Cert.RefBranchFIdeal.main_arg5))

def preserves_DownF_DownFIdeal : Prop :=
  True

def algebraic_DownFIdeal_RefDownFIdeal [hDownFIdeal : Cert.DownFIdeal.Facts] [hRefDownFIdeal : Cert.RefDownFIdeal.Facts] : Prop :=
  ∀ (m : (ℓ : Loc Cert.DownFIdeal.nD Cert.DownFIdeal.τ Cert.DownFIdeal.sig) → Buf (Elt Ideal) ℓ) (g : Dev Cert.DownFIdeal.nD → PrngReg)
    (m' : (ℓ : Loc Cert.RefDownFIdeal.nD Cert.RefDownFIdeal.τ Cert.RefDownFIdeal.sig) → Buf (Elt Ideal) ℓ) (g' : Dev Cert.RefDownFIdeal.nD → PrngReg), Pre_DownFIdeal m →
    (∀ c : Dev Cert.DownFIdeal.nD,
      m' ((c.tc : Thread Cert.RefDownFIdeal.nD Cert.RefDownFIdeal.τ).loc Cert.RefDownFIdeal.main_arg0) = m ((c.tc : Thread Cert.DownFIdeal.nD Cert.DownFIdeal.τ).loc Cert.DownFIdeal.main_arg0)
      ∧ m' ((c.tc : Thread Cert.RefDownFIdeal.nD Cert.RefDownFIdeal.τ).loc Cert.RefDownFIdeal.main_arg1) = m ((c.tc : Thread Cert.DownFIdeal.nD Cert.DownFIdeal.τ).loc Cert.DownFIdeal.main_arg1)
      ∧ m' ((c.tc : Thread Cert.RefDownFIdeal.nD Cert.RefDownFIdeal.τ).loc Cert.RefDownFIdeal.main_arg2) = m ((c.tc : Thread Cert.DownFIdeal.nD Cert.DownFIdeal.τ).loc Cert.DownFIdeal.main_arg2)
      ∧ m' ((c.tc : Thread Cert.RefDownFIdeal.nD Cert.RefDownFIdeal.τ).loc Cert.RefDownFIdeal.main_arg3) = m ((c.tc : Thread Cert.DownFIdeal.nD Cert.DownFIdeal.τ).loc Cert.DownFIdeal.main_arg3)
      ∧ m' ((c.tc : Thread Cert.RefDownFIdeal.nD Cert.RefDownFIdeal.τ).loc Cert.RefDownFIdeal.main_arg4) = m ((c.tc : Thread Cert.DownFIdeal.nD Cert.DownFIdeal.τ).loc Cert.DownFIdeal.main_arg4)
      ∧ m' ((c.tc : Thread Cert.RefDownFIdeal.nD Cert.RefDownFIdeal.τ).loc Cert.RefDownFIdeal.main_arg5) = m ((c.tc : Thread Cert.DownFIdeal.nD Cert.DownFIdeal.τ).loc Cert.DownFIdeal.main_arg5)
      ∧ m' ((c.tc : Thread Cert.RefDownFIdeal.nD Cert.RefDownFIdeal.τ).loc Cert.RefDownFIdeal.main_arg6) = m ((c.tc : Thread Cert.DownFIdeal.nD Cert.DownFIdeal.τ).loc Cert.DownFIdeal.main_arg6)) →
    ∃ (v0 : (c : Dev Cert.DownFIdeal.nD) → Buf (Elt Ideal) ((c.tc : Thread Cert.DownFIdeal.nD Cert.DownFIdeal.τ).loc Cert.DownFIdeal.main_v2_0)) (v1 : (c : Dev Cert.DownFIdeal.nD) → Buf (Elt Ideal) ((c.tc : Thread Cert.DownFIdeal.nD Cert.DownFIdeal.τ).loc Cert.DownFIdeal.main_v2_1)) (v2 : (c : Dev Cert.DownFIdeal.nD) → Buf (Elt Ideal) ((c.tc : Thread Cert.DownFIdeal.nD Cert.DownFIdeal.τ).loc Cert.DownFIdeal.main_v2_2)),
      θ_run (Cert.DownFIdeal.defs (F := Ideal)) (onTc (τ := Cert.DownFIdeal.τ) (Cert.DownFIdeal.main (F := Ideal))) ⟨m, fun _ => 0, g⟩ (fun r => ∀ c : Dev Cert.DownFIdeal.nD,
          r.2.mem ((c.tc : Thread Cert.DownFIdeal.nD Cert.DownFIdeal.τ).loc Cert.DownFIdeal.main_v2_0) = v0 c
          ∧ r.2.mem ((c.tc : Thread Cert.DownFIdeal.nD Cert.DownFIdeal.τ).loc Cert.DownFIdeal.main_v2_1) = v1 c
          ∧ r.2.mem ((c.tc : Thread Cert.DownFIdeal.nD Cert.DownFIdeal.τ).loc Cert.DownFIdeal.main_v2_2) = v2 c
          ∧ r.2.mem ((c.tc : Thread Cert.DownFIdeal.nD Cert.DownFIdeal.τ).loc Cert.DownFIdeal.main_arg0) = m ((c.tc : Thread Cert.DownFIdeal.nD Cert.DownFIdeal.τ).loc Cert.DownFIdeal.main_arg0)
          ∧ r.2.mem ((c.tc : Thread Cert.DownFIdeal.nD Cert.DownFIdeal.τ).loc Cert.DownFIdeal.main_arg1) = m ((c.tc : Thread Cert.DownFIdeal.nD Cert.DownFIdeal.τ).loc Cert.DownFIdeal.main_arg1)
          ∧ r.2.mem ((c.tc : Thread Cert.DownFIdeal.nD Cert.DownFIdeal.τ).loc Cert.DownFIdeal.main_arg2) = m ((c.tc : Thread Cert.DownFIdeal.nD Cert.DownFIdeal.τ).loc Cert.DownFIdeal.main_arg2)
          ∧ r.2.mem ((c.tc : Thread Cert.DownFIdeal.nD Cert.DownFIdeal.τ).loc Cert.DownFIdeal.main_arg3) = m ((c.tc : Thread Cert.DownFIdeal.nD Cert.DownFIdeal.τ).loc Cert.DownFIdeal.main_arg3)
          ∧ r.2.mem ((c.tc : Thread Cert.DownFIdeal.nD Cert.DownFIdeal.τ).loc Cert.DownFIdeal.main_arg4) = m ((c.tc : Thread Cert.DownFIdeal.nD Cert.DownFIdeal.τ).loc Cert.DownFIdeal.main_arg4)
          ∧ r.2.mem ((c.tc : Thread Cert.DownFIdeal.nD Cert.DownFIdeal.τ).loc Cert.DownFIdeal.main_arg5) = m ((c.tc : Thread Cert.DownFIdeal.nD Cert.DownFIdeal.τ).loc Cert.DownFIdeal.main_arg5)
          ∧ r.2.mem ((c.tc : Thread Cert.DownFIdeal.nD Cert.DownFIdeal.τ).loc Cert.DownFIdeal.main_arg6) = m ((c.tc : Thread Cert.DownFIdeal.nD Cert.DownFIdeal.τ).loc Cert.DownFIdeal.main_arg6))
      ∧ θ_run (Cert.RefDownFIdeal.defs (F := Ideal)) (onTc (τ := Cert.RefDownFIdeal.τ) (Cert.RefDownFIdeal.main (F := Ideal))) ⟨m', fun _ => 0, g'⟩ (fun r => ∀ c : Dev Cert.RefDownFIdeal.nD,
          r.2.mem ((c.tc : Thread Cert.RefDownFIdeal.nD Cert.RefDownFIdeal.τ).loc Cert.RefDownFIdeal.main_v5) = v0 c
          ∧ r.2.mem ((c.tc : Thread Cert.RefDownFIdeal.nD Cert.RefDownFIdeal.τ).loc Cert.RefDownFIdeal.main_v6) = v1 c
          ∧ r.2.mem ((c.tc : Thread Cert.RefDownFIdeal.nD Cert.RefDownFIdeal.τ).loc Cert.RefDownFIdeal.main_v25) = v2 c
          ∧ r.2.mem ((c.tc : Thread Cert.RefDownFIdeal.nD Cert.RefDownFIdeal.τ).loc Cert.RefDownFIdeal.main_arg0) = m' ((c.tc : Thread Cert.RefDownFIdeal.nD Cert.RefDownFIdeal.τ).loc Cert.RefDownFIdeal.main_arg0)
          ∧ r.2.mem ((c.tc : Thread Cert.RefDownFIdeal.nD Cert.RefDownFIdeal.τ).loc Cert.RefDownFIdeal.main_arg1) = m' ((c.tc : Thread Cert.RefDownFIdeal.nD Cert.RefDownFIdeal.τ).loc Cert.RefDownFIdeal.main_arg1)
          ∧ r.2.mem ((c.tc : Thread Cert.RefDownFIdeal.nD Cert.RefDownFIdeal.τ).loc Cert.RefDownFIdeal.main_arg2) = m' ((c.tc : Thread Cert.RefDownFIdeal.nD Cert.RefDownFIdeal.τ).loc Cert.RefDownFIdeal.main_arg2)
          ∧ r.2.mem ((c.tc : Thread Cert.RefDownFIdeal.nD Cert.RefDownFIdeal.τ).loc Cert.RefDownFIdeal.main_arg3) = m' ((c.tc : Thread Cert.RefDownFIdeal.nD Cert.RefDownFIdeal.τ).loc Cert.RefDownFIdeal.main_arg3)
          ∧ r.2.mem ((c.tc : Thread Cert.RefDownFIdeal.nD Cert.RefDownFIdeal.τ).loc Cert.RefDownFIdeal.main_arg4) = m' ((c.tc : Thread Cert.RefDownFIdeal.nD Cert.RefDownFIdeal.τ).loc Cert.RefDownFIdeal.main_arg4)
          ∧ r.2.mem ((c.tc : Thread Cert.RefDownFIdeal.nD Cert.RefDownFIdeal.τ).loc Cert.RefDownFIdeal.main_arg5) = m' ((c.tc : Thread Cert.RefDownFIdeal.nD Cert.RefDownFIdeal.τ).loc Cert.RefDownFIdeal.main_arg5)
          ∧ r.2.mem ((c.tc : Thread Cert.RefDownFIdeal.nD Cert.RefDownFIdeal.τ).loc Cert.RefDownFIdeal.main_arg6) = m' ((c.tc : Thread Cert.RefDownFIdeal.nD Cert.RefDownFIdeal.τ).loc Cert.RefDownFIdeal.main_arg6))

def preserves_OutF_OutFIdeal : Prop :=
  True

def algebraic_OutFIdeal_RefOutFIdeal [hOutFIdeal : Cert.OutFIdeal.Facts] [hRefOutFIdeal : Cert.RefOutFIdeal.Facts] : Prop :=
  ∀ (m : (ℓ : Loc Cert.OutFIdeal.nD Cert.OutFIdeal.τ Cert.OutFIdeal.sig) → Buf (Elt Ideal) ℓ) (g : Dev Cert.OutFIdeal.nD → PrngReg)
    (m' : (ℓ : Loc Cert.RefOutFIdeal.nD Cert.RefOutFIdeal.τ Cert.RefOutFIdeal.sig) → Buf (Elt Ideal) ℓ) (g' : Dev Cert.RefOutFIdeal.nD → PrngReg), Pre_OutFIdeal m →
    (∀ c : Dev Cert.OutFIdeal.nD,
      m' ((c.tc : Thread Cert.RefOutFIdeal.nD Cert.RefOutFIdeal.τ).loc Cert.RefOutFIdeal.main_arg0) = m ((c.tc : Thread Cert.OutFIdeal.nD Cert.OutFIdeal.τ).loc Cert.OutFIdeal.main_arg0)
      ∧ m' ((c.tc : Thread Cert.RefOutFIdeal.nD Cert.RefOutFIdeal.τ).loc Cert.RefOutFIdeal.main_arg1) = m ((c.tc : Thread Cert.OutFIdeal.nD Cert.OutFIdeal.τ).loc Cert.OutFIdeal.main_arg1)
      ∧ m' ((c.tc : Thread Cert.RefOutFIdeal.nD Cert.RefOutFIdeal.τ).loc Cert.RefOutFIdeal.main_arg2) = m ((c.tc : Thread Cert.OutFIdeal.nD Cert.OutFIdeal.τ).loc Cert.OutFIdeal.main_arg2)
      ∧ m' ((c.tc : Thread Cert.RefOutFIdeal.nD Cert.RefOutFIdeal.τ).loc Cert.RefOutFIdeal.main_arg3) = m ((c.tc : Thread Cert.OutFIdeal.nD Cert.OutFIdeal.τ).loc Cert.OutFIdeal.main_arg3)
      ∧ m' ((c.tc : Thread Cert.RefOutFIdeal.nD Cert.RefOutFIdeal.τ).loc Cert.RefOutFIdeal.main_arg4) = m ((c.tc : Thread Cert.OutFIdeal.nD Cert.OutFIdeal.τ).loc Cert.OutFIdeal.main_arg4)
      ∧ m' ((c.tc : Thread Cert.RefOutFIdeal.nD Cert.RefOutFIdeal.τ).loc Cert.RefOutFIdeal.main_arg5) = m ((c.tc : Thread Cert.OutFIdeal.nD Cert.OutFIdeal.τ).loc Cert.OutFIdeal.main_arg5)
      ∧ m' ((c.tc : Thread Cert.RefOutFIdeal.nD Cert.RefOutFIdeal.τ).loc Cert.RefOutFIdeal.main_arg6) = m ((c.tc : Thread Cert.OutFIdeal.nD Cert.OutFIdeal.τ).loc Cert.OutFIdeal.main_arg6)) →
    ∃ (v0 : (c : Dev Cert.OutFIdeal.nD) → Buf (Elt Ideal) ((c.tc : Thread Cert.OutFIdeal.nD Cert.OutFIdeal.τ).loc Cert.OutFIdeal.main_v2_0)) (v1 : (c : Dev Cert.OutFIdeal.nD) → Buf (Elt Ideal) ((c.tc : Thread Cert.OutFIdeal.nD Cert.OutFIdeal.τ).loc Cert.OutFIdeal.main_v2_1)) (v2 : (c : Dev Cert.OutFIdeal.nD) → Buf (Elt Ideal) ((c.tc : Thread Cert.OutFIdeal.nD Cert.OutFIdeal.τ).loc Cert.OutFIdeal.main_v2_2)),
      θ_run (Cert.OutFIdeal.defs (F := Ideal)) (onTc (τ := Cert.OutFIdeal.τ) (Cert.OutFIdeal.main (F := Ideal))) ⟨m, fun _ => 0, g⟩ (fun r => ∀ c : Dev Cert.OutFIdeal.nD,
          r.2.mem ((c.tc : Thread Cert.OutFIdeal.nD Cert.OutFIdeal.τ).loc Cert.OutFIdeal.main_v2_0) = v0 c
          ∧ r.2.mem ((c.tc : Thread Cert.OutFIdeal.nD Cert.OutFIdeal.τ).loc Cert.OutFIdeal.main_v2_1) = v1 c
          ∧ r.2.mem ((c.tc : Thread Cert.OutFIdeal.nD Cert.OutFIdeal.τ).loc Cert.OutFIdeal.main_v2_2) = v2 c
          ∧ r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
          ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
          ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2)
          ∧ r.2.mem ((c.tc : Thread Cert.OutFIdeal.nD Cert.OutFIdeal.τ).loc Cert.OutFIdeal.main_arg3) = m ((c.tc : Thread Cert.OutFIdeal.nD Cert.OutFIdeal.τ).loc Cert.OutFIdeal.main_arg3)
          ∧ r.2.mem ((c.tc : Thread Cert.OutFIdeal.nD Cert.OutFIdeal.τ).loc Cert.OutFIdeal.main_arg4) = m ((c.tc : Thread Cert.OutFIdeal.nD Cert.OutFIdeal.τ).loc Cert.OutFIdeal.main_arg4)
          ∧ r.2.mem ((c.tc : Thread Cert.OutFIdeal.nD Cert.OutFIdeal.τ).loc Cert.OutFIdeal.main_arg5) = m ((c.tc : Thread Cert.OutFIdeal.nD Cert.OutFIdeal.τ).loc Cert.OutFIdeal.main_arg5)
          ∧ r.2.mem ((c.tc : Thread Cert.OutFIdeal.nD Cert.OutFIdeal.τ).loc Cert.OutFIdeal.main_arg6) = m ((c.tc : Thread Cert.OutFIdeal.nD Cert.OutFIdeal.τ).loc Cert.OutFIdeal.main_arg6))
      ∧ θ_run (Cert.RefOutFIdeal.defs (F := Ideal)) (onTc (τ := Cert.RefOutFIdeal.τ) (Cert.RefOutFIdeal.main (F := Ideal))) ⟨m', fun _ => 0, g'⟩ (fun r => ∀ c : Dev Cert.RefOutFIdeal.nD,
          r.2.mem ((c.tc : Thread Cert.RefOutFIdeal.nD Cert.RefOutFIdeal.τ).loc Cert.RefOutFIdeal.main_v3) = v0 c
          ∧ r.2.mem ((c.tc : Thread Cert.RefOutFIdeal.nD Cert.RefOutFIdeal.τ).loc Cert.RefOutFIdeal.main_v4) = v1 c
          ∧ r.2.mem ((c.tc : Thread Cert.RefOutFIdeal.nD Cert.RefOutFIdeal.τ).loc Cert.RefOutFIdeal.main_v23) = v2 c
          ∧ r.2.mem ((c.tc : Thread Cert.RefOutFIdeal.nD Cert.RefOutFIdeal.τ).loc Cert.RefOutFIdeal.main_arg0) = m' ((c.tc : Thread Cert.RefOutFIdeal.nD Cert.RefOutFIdeal.τ).loc Cert.RefOutFIdeal.main_arg0)
          ∧ r.2.mem ((c.tc : Thread Cert.RefOutFIdeal.nD Cert.RefOutFIdeal.τ).loc Cert.RefOutFIdeal.main_arg1) = m' ((c.tc : Thread Cert.RefOutFIdeal.nD Cert.RefOutFIdeal.τ).loc Cert.RefOutFIdeal.main_arg1)
          ∧ r.2.mem ((c.tc : Thread Cert.RefOutFIdeal.nD Cert.RefOutFIdeal.τ).loc Cert.RefOutFIdeal.main_arg2) = m' ((c.tc : Thread Cert.RefOutFIdeal.nD Cert.RefOutFIdeal.τ).loc Cert.RefOutFIdeal.main_arg2)
          ∧ r.2.mem ((c.tc : Thread Cert.RefOutFIdeal.nD Cert.RefOutFIdeal.τ).loc Cert.RefOutFIdeal.main_arg3) = m' ((c.tc : Thread Cert.RefOutFIdeal.nD Cert.RefOutFIdeal.τ).loc Cert.RefOutFIdeal.main_arg3)
          ∧ r.2.mem ((c.tc : Thread Cert.RefOutFIdeal.nD Cert.RefOutFIdeal.τ).loc Cert.RefOutFIdeal.main_arg4) = m' ((c.tc : Thread Cert.RefOutFIdeal.nD Cert.RefOutFIdeal.τ).loc Cert.RefOutFIdeal.main_arg4)
          ∧ r.2.mem ((c.tc : Thread Cert.RefOutFIdeal.nD Cert.RefOutFIdeal.τ).loc Cert.RefOutFIdeal.main_arg5) = m' ((c.tc : Thread Cert.RefOutFIdeal.nD Cert.RefOutFIdeal.τ).loc Cert.RefOutFIdeal.main_arg5)
          ∧ r.2.mem ((c.tc : Thread Cert.RefOutFIdeal.nD Cert.RefOutFIdeal.τ).loc Cert.RefOutFIdeal.main_arg6) = m' ((c.tc : Thread Cert.RefOutFIdeal.nD Cert.RefOutFIdeal.τ).loc Cert.RefOutFIdeal.main_arg6))

def preserves_ModF_ModFIdeal : Prop :=
  True

def algebraic_ModFIdeal_RefModFIdeal [hModFIdeal : Cert.ModFIdeal.Facts] [hRefModFIdeal : Cert.RefModFIdeal.Facts] : Prop :=
  ∀ (m : (ℓ : Loc Cert.ModFIdeal.nD Cert.ModFIdeal.τ Cert.ModFIdeal.sig) → Buf (Elt Ideal) ℓ) (g : Dev Cert.ModFIdeal.nD → PrngReg)
    (m' : (ℓ : Loc Cert.RefModFIdeal.nD Cert.RefModFIdeal.τ Cert.RefModFIdeal.sig) → Buf (Elt Ideal) ℓ) (g' : Dev Cert.RefModFIdeal.nD → PrngReg), Pre_ModFIdeal m →
    (∀ c : Dev Cert.ModFIdeal.nD,
      m' ((c.tc : Thread Cert.RefModFIdeal.nD Cert.RefModFIdeal.τ).loc Cert.RefModFIdeal.main_arg0) = m ((c.tc : Thread Cert.ModFIdeal.nD Cert.ModFIdeal.τ).loc Cert.ModFIdeal.main_arg0)
      ∧ m' ((c.tc : Thread Cert.RefModFIdeal.nD Cert.RefModFIdeal.τ).loc Cert.RefModFIdeal.main_arg1) = m ((c.tc : Thread Cert.ModFIdeal.nD Cert.ModFIdeal.τ).loc Cert.ModFIdeal.main_arg1)
      ∧ m' ((c.tc : Thread Cert.RefModFIdeal.nD Cert.RefModFIdeal.τ).loc Cert.RefModFIdeal.main_arg2) = m ((c.tc : Thread Cert.ModFIdeal.nD Cert.ModFIdeal.τ).loc Cert.ModFIdeal.main_arg2)
      ∧ m' ((c.tc : Thread Cert.RefModFIdeal.nD Cert.RefModFIdeal.τ).loc Cert.RefModFIdeal.main_arg3) = m ((c.tc : Thread Cert.ModFIdeal.nD Cert.ModFIdeal.τ).loc Cert.ModFIdeal.main_arg3)) →
    ∃ (v0 : (c : Dev Cert.ModFIdeal.nD) → Buf (Elt Ideal) ((c.tc : Thread Cert.ModFIdeal.nD Cert.ModFIdeal.τ).loc Cert.ModFIdeal.main_v0)),
      θ_run (Cert.ModFIdeal.defs (F := Ideal)) (onTc (τ := Cert.ModFIdeal.τ) (Cert.ModFIdeal.main (F := Ideal))) ⟨m, fun _ => 0, g⟩ (fun r => ∀ c : Dev Cert.ModFIdeal.nD,
          r.2.mem ((c.tc : Thread Cert.ModFIdeal.nD Cert.ModFIdeal.τ).loc Cert.ModFIdeal.main_v0) = v0 c
          ∧ r.2.mem ((c.tc : Thread Cert.ModFIdeal.nD Cert.ModFIdeal.τ).loc Cert.ModFIdeal.main_arg0) = m ((c.tc : Thread Cert.ModFIdeal.nD Cert.ModFIdeal.τ).loc Cert.ModFIdeal.main_arg0)
          ∧ r.2.mem ((c.tc : Thread Cert.ModFIdeal.nD Cert.ModFIdeal.τ).loc Cert.ModFIdeal.main_arg1) = m ((c.tc : Thread Cert.ModFIdeal.nD Cert.ModFIdeal.τ).loc Cert.ModFIdeal.main_arg1)
          ∧ r.2.mem ((c.tc : Thread Cert.ModFIdeal.nD Cert.ModFIdeal.τ).loc Cert.ModFIdeal.main_arg2) = m ((c.tc : Thread Cert.ModFIdeal.nD Cert.ModFIdeal.τ).loc Cert.ModFIdeal.main_arg2)
          ∧ r.2.mem ((c.tc : Thread Cert.ModFIdeal.nD Cert.ModFIdeal.τ).loc Cert.ModFIdeal.main_arg3) = m ((c.tc : Thread Cert.ModFIdeal.nD Cert.ModFIdeal.τ).loc Cert.ModFIdeal.main_arg3))
      ∧ θ_run (Cert.RefModFIdeal.defs (F := Ideal)) (onTc (τ := Cert.RefModFIdeal.τ) (Cert.RefModFIdeal.main (F := Ideal))) ⟨m', fun _ => 0, g'⟩ (fun r => ∀ c : Dev Cert.RefModFIdeal.nD,
          r.2.mem ((c.tc : Thread Cert.RefModFIdeal.nD Cert.RefModFIdeal.τ).loc Cert.RefModFIdeal.main_v18) = v0 c
          ∧ r.2.mem ((c.tc : Thread Cert.RefModFIdeal.nD Cert.RefModFIdeal.τ).loc Cert.RefModFIdeal.main_arg0) = m' ((c.tc : Thread Cert.RefModFIdeal.nD Cert.RefModFIdeal.τ).loc Cert.RefModFIdeal.main_arg0)
          ∧ r.2.mem ((c.tc : Thread Cert.RefModFIdeal.nD Cert.RefModFIdeal.τ).loc Cert.RefModFIdeal.main_arg1) = m' ((c.tc : Thread Cert.RefModFIdeal.nD Cert.RefModFIdeal.τ).loc Cert.RefModFIdeal.main_arg1)
          ∧ r.2.mem ((c.tc : Thread Cert.RefModFIdeal.nD Cert.RefModFIdeal.τ).loc Cert.RefModFIdeal.main_arg2) = m' ((c.tc : Thread Cert.RefModFIdeal.nD Cert.RefModFIdeal.τ).loc Cert.RefModFIdeal.main_arg2)
          ∧ r.2.mem ((c.tc : Thread Cert.RefModFIdeal.nD Cert.RefModFIdeal.τ).loc Cert.RefModFIdeal.main_arg3) = m' ((c.tc : Thread Cert.RefModFIdeal.nD Cert.RefModFIdeal.τ).loc Cert.RefModFIdeal.main_arg3))

def preserves_BinB_BinBIdeal : Prop :=
  True

def algebraic_BinBIdeal_RefBinBIdeal_pre_finite_bin [hBinBIdeal : Cert.BinBIdeal.Facts] [hRefBinBIdeal : Cert.RefBinBIdeal.Facts] [hPre_finite_bin : Cert.Pre_finite_bin.Facts] : Prop :=
  ∀ (m : (ℓ : Loc Cert.BinBIdeal.nD Cert.BinBIdeal.τ Cert.BinBIdeal.sig) → Buf (Elt Ideal) ℓ) (g : Dev Cert.BinBIdeal.nD → PrngReg)
    (m' : (ℓ : Loc Cert.RefBinBIdeal.nD Cert.RefBinBIdeal.τ Cert.RefBinBIdeal.sig) → Buf (Elt Ideal) ℓ) (g' : Dev Cert.RefBinBIdeal.nD → PrngReg), Pre_BinBIdeal_finite_bin m →
    (∀ c : Dev Cert.BinBIdeal.nD,
      m' ((c.tc : Thread Cert.RefBinBIdeal.nD Cert.RefBinBIdeal.τ).loc Cert.RefBinBIdeal.main_arg0) = m ((c.tc : Thread Cert.BinBIdeal.nD Cert.BinBIdeal.τ).loc Cert.BinBIdeal.main_arg0)
      ∧ m' ((c.tc : Thread Cert.RefBinBIdeal.nD Cert.RefBinBIdeal.τ).loc Cert.RefBinBIdeal.main_arg1) = m ((c.tc : Thread Cert.BinBIdeal.nD Cert.BinBIdeal.τ).loc Cert.BinBIdeal.main_arg1)
      ∧ m' ((c.tc : Thread Cert.RefBinBIdeal.nD Cert.RefBinBIdeal.τ).loc Cert.RefBinBIdeal.main_arg2) = m ((c.tc : Thread Cert.BinBIdeal.nD Cert.BinBIdeal.τ).loc Cert.BinBIdeal.main_arg2)
      ∧ m' ((c.tc : Thread Cert.RefBinBIdeal.nD Cert.RefBinBIdeal.τ).loc Cert.RefBinBIdeal.main_arg3) = m ((c.tc : Thread Cert.BinBIdeal.nD Cert.BinBIdeal.τ).loc Cert.BinBIdeal.main_arg3)
      ∧ m' ((c.tc : Thread Cert.RefBinBIdeal.nD Cert.RefBinBIdeal.τ).loc Cert.RefBinBIdeal.main_arg4) = m ((c.tc : Thread Cert.BinBIdeal.nD Cert.BinBIdeal.τ).loc Cert.BinBIdeal.main_arg4)
      ∧ m' ((c.tc : Thread Cert.RefBinBIdeal.nD Cert.RefBinBIdeal.τ).loc Cert.RefBinBIdeal.main_arg5) = m ((c.tc : Thread Cert.BinBIdeal.nD Cert.BinBIdeal.τ).loc Cert.BinBIdeal.main_arg5)
      ∧ m' ((c.tc : Thread Cert.RefBinBIdeal.nD Cert.RefBinBIdeal.τ).loc Cert.RefBinBIdeal.main_arg6) = m ((c.tc : Thread Cert.BinBIdeal.nD Cert.BinBIdeal.τ).loc Cert.BinBIdeal.main_arg6)
      ∧ m' ((c.tc : Thread Cert.RefBinBIdeal.nD Cert.RefBinBIdeal.τ).loc Cert.RefBinBIdeal.main_arg7) = m ((c.tc : Thread Cert.BinBIdeal.nD Cert.BinBIdeal.τ).loc Cert.BinBIdeal.main_arg7)
      ∧ m' ((c.tc : Thread Cert.RefBinBIdeal.nD Cert.RefBinBIdeal.τ).loc Cert.RefBinBIdeal.main_arg8) = m ((c.tc : Thread Cert.BinBIdeal.nD Cert.BinBIdeal.τ).loc Cert.BinBIdeal.main_arg8)
      ∧ m' ((c.tc : Thread Cert.RefBinBIdeal.nD Cert.RefBinBIdeal.τ).loc Cert.RefBinBIdeal.main_arg9) = m ((c.tc : Thread Cert.BinBIdeal.nD Cert.BinBIdeal.τ).loc Cert.BinBIdeal.main_arg9)
      ∧ m' ((c.tc : Thread Cert.RefBinBIdeal.nD Cert.RefBinBIdeal.τ).loc Cert.RefBinBIdeal.main_arg10) = m ((c.tc : Thread Cert.BinBIdeal.nD Cert.BinBIdeal.τ).loc Cert.BinBIdeal.main_arg10)
      ∧ m' ((c.tc : Thread Cert.RefBinBIdeal.nD Cert.RefBinBIdeal.τ).loc Cert.RefBinBIdeal.main_arg11) = m ((c.tc : Thread Cert.BinBIdeal.nD Cert.BinBIdeal.τ).loc Cert.BinBIdeal.main_arg11)) →
    ∃ (v0 : (c : Dev Cert.BinBIdeal.nD) → Buf (Elt Ideal) ((c.tc : Thread Cert.BinBIdeal.nD Cert.BinBIdeal.τ).loc Cert.BinBIdeal.main_v18_0)) (v1 : (c : Dev Cert.BinBIdeal.nD) → Buf (Elt Ideal) ((c.tc : Thread Cert.BinBIdeal.nD Cert.BinBIdeal.τ).loc Cert.BinBIdeal.main_v18_1)) (v2 : (c : Dev Cert.BinBIdeal.nD) → Buf (Elt Ideal) ((c.tc : Thread Cert.BinBIdeal.nD Cert.BinBIdeal.τ).loc Cert.BinBIdeal.main_v18_2)) (v3 : (c : Dev Cert.BinBIdeal.nD) → Buf (Elt Ideal) ((c.tc : Thread Cert.BinBIdeal.nD Cert.BinBIdeal.τ).loc Cert.BinBIdeal.main_v18_3)) (v4 : (c : Dev Cert.BinBIdeal.nD) → Buf (Elt Ideal) ((c.tc : Thread Cert.BinBIdeal.nD Cert.BinBIdeal.τ).loc Cert.BinBIdeal.main_v18_4)) (v5 : (c : Dev Cert.BinBIdeal.nD) → Buf (Elt Ideal) ((c.tc : Thread Cert.BinBIdeal.nD Cert.BinBIdeal.τ).loc Cert.BinBIdeal.main_v18_5)),
      θ_run (Cert.BinBIdeal.defs (F := Ideal)) (onTc (τ := Cert.BinBIdeal.τ) (Cert.BinBIdeal.main (F := Ideal))) ⟨m, fun _ => 0, g⟩ (fun r => ∀ c : Dev Cert.BinBIdeal.nD,
          r.2.mem ((c.tc : Thread Cert.BinBIdeal.nD Cert.BinBIdeal.τ).loc Cert.BinBIdeal.main_v18_0) = v0 c
          ∧ r.2.mem ((c.tc : Thread Cert.BinBIdeal.nD Cert.BinBIdeal.τ).loc Cert.BinBIdeal.main_v18_1) = v1 c
          ∧ r.2.mem ((c.tc : Thread Cert.BinBIdeal.nD Cert.BinBIdeal.τ).loc Cert.BinBIdeal.main_v18_2) = v2 c
          ∧ r.2.mem ((c.tc : Thread Cert.BinBIdeal.nD Cert.BinBIdeal.τ).loc Cert.BinBIdeal.main_v18_3) = v3 c
          ∧ r.2.mem ((c.tc : Thread Cert.BinBIdeal.nD Cert.BinBIdeal.τ).loc Cert.BinBIdeal.main_v18_4) = v4 c
          ∧ r.2.mem ((c.tc : Thread Cert.BinBIdeal.nD Cert.BinBIdeal.τ).loc Cert.BinBIdeal.main_v18_5) = v5 c
          ∧ r.2.mem ((c.tc : Thread Cert.BinBIdeal.nD Cert.BinBIdeal.τ).loc Cert.BinBIdeal.main_arg0) = m ((c.tc : Thread Cert.BinBIdeal.nD Cert.BinBIdeal.τ).loc Cert.BinBIdeal.main_arg0)
          ∧ r.2.mem ((c.tc : Thread Cert.BinBIdeal.nD Cert.BinBIdeal.τ).loc Cert.BinBIdeal.main_arg1) = m ((c.tc : Thread Cert.BinBIdeal.nD Cert.BinBIdeal.τ).loc Cert.BinBIdeal.main_arg1)
          ∧ r.2.mem ((c.tc : Thread Cert.BinBIdeal.nD Cert.BinBIdeal.τ).loc Cert.BinBIdeal.main_arg2) = m ((c.tc : Thread Cert.BinBIdeal.nD Cert.BinBIdeal.τ).loc Cert.BinBIdeal.main_arg2)
          ∧ r.2.mem ((c.tc : Thread Cert.BinBIdeal.nD Cert.BinBIdeal.τ).loc Cert.BinBIdeal.main_arg3) = m ((c.tc : Thread Cert.BinBIdeal.nD Cert.BinBIdeal.τ).loc Cert.BinBIdeal.main_arg3)
          ∧ r.2.mem ((c.tc : Thread Cert.BinBIdeal.nD Cert.BinBIdeal.τ).loc Cert.BinBIdeal.main_arg4) = m ((c.tc : Thread Cert.BinBIdeal.nD Cert.BinBIdeal.τ).loc Cert.BinBIdeal.main_arg4)
          ∧ r.2.mem ((c.tc : Thread Cert.BinBIdeal.nD Cert.BinBIdeal.τ).loc Cert.BinBIdeal.main_arg5) = m ((c.tc : Thread Cert.BinBIdeal.nD Cert.BinBIdeal.τ).loc Cert.BinBIdeal.main_arg5)
          ∧ r.2.mem ((c.tc : Thread Cert.BinBIdeal.nD Cert.BinBIdeal.τ).loc Cert.BinBIdeal.main_arg6) = m ((c.tc : Thread Cert.BinBIdeal.nD Cert.BinBIdeal.τ).loc Cert.BinBIdeal.main_arg6)
          ∧ r.2.mem ((c.tc : Thread Cert.BinBIdeal.nD Cert.BinBIdeal.τ).loc Cert.BinBIdeal.main_arg7) = m ((c.tc : Thread Cert.BinBIdeal.nD Cert.BinBIdeal.τ).loc Cert.BinBIdeal.main_arg7)
          ∧ r.2.mem ((c.tc : Thread Cert.BinBIdeal.nD Cert.BinBIdeal.τ).loc Cert.BinBIdeal.main_arg8) = m ((c.tc : Thread Cert.BinBIdeal.nD Cert.BinBIdeal.τ).loc Cert.BinBIdeal.main_arg8)
          ∧ r.2.mem ((c.tc : Thread Cert.BinBIdeal.nD Cert.BinBIdeal.τ).loc Cert.BinBIdeal.main_arg9) = m ((c.tc : Thread Cert.BinBIdeal.nD Cert.BinBIdeal.τ).loc Cert.BinBIdeal.main_arg9)
          ∧ r.2.mem ((c.tc : Thread Cert.BinBIdeal.nD Cert.BinBIdeal.τ).loc Cert.BinBIdeal.main_arg10) = m ((c.tc : Thread Cert.BinBIdeal.nD Cert.BinBIdeal.τ).loc Cert.BinBIdeal.main_arg10)
          ∧ r.2.mem ((c.tc : Thread Cert.BinBIdeal.nD Cert.BinBIdeal.τ).loc Cert.BinBIdeal.main_arg11) = m ((c.tc : Thread Cert.BinBIdeal.nD Cert.BinBIdeal.τ).loc Cert.BinBIdeal.main_arg11))
      ∧ θ_run (Cert.RefBinBIdeal.defs (F := Ideal)) (onTc (τ := Cert.RefBinBIdeal.τ) (Cert.RefBinBIdeal.main (F := Ideal))) ⟨m', fun _ => 0, g'⟩ (fun r => ∀ c : Dev Cert.RefBinBIdeal.nD,
          r.2.mem ((c.tc : Thread Cert.RefBinBIdeal.nD Cert.RefBinBIdeal.τ).loc Cert.RefBinBIdeal.main_v67) = v0 c
          ∧ r.2.mem ((c.tc : Thread Cert.RefBinBIdeal.nD Cert.RefBinBIdeal.τ).loc Cert.RefBinBIdeal.main_v76) = v1 c
          ∧ r.2.mem ((c.tc : Thread Cert.RefBinBIdeal.nD Cert.RefBinBIdeal.τ).loc Cert.RefBinBIdeal.main_v42) = v2 c
          ∧ r.2.mem ((c.tc : Thread Cert.RefBinBIdeal.nD Cert.RefBinBIdeal.τ).loc Cert.RefBinBIdeal.main_v45) = v3 c
          ∧ r.2.mem ((c.tc : Thread Cert.RefBinBIdeal.nD Cert.RefBinBIdeal.τ).loc Cert.RefBinBIdeal.main_v50) = v4 c
          ∧ r.2.mem ((c.tc : Thread Cert.RefBinBIdeal.nD Cert.RefBinBIdeal.τ).loc Cert.RefBinBIdeal.main_v75) = v5 c
          ∧ r.2.mem ((c.tc : Thread Cert.RefBinBIdeal.nD Cert.RefBinBIdeal.τ).loc Cert.RefBinBIdeal.main_arg0) = m' ((c.tc : Thread Cert.RefBinBIdeal.nD Cert.RefBinBIdeal.τ).loc Cert.RefBinBIdeal.main_arg0)
          ∧ r.2.mem ((c.tc : Thread Cert.RefBinBIdeal.nD Cert.RefBinBIdeal.τ).loc Cert.RefBinBIdeal.main_arg1) = m' ((c.tc : Thread Cert.RefBinBIdeal.nD Cert.RefBinBIdeal.τ).loc Cert.RefBinBIdeal.main_arg1)
          ∧ r.2.mem ((c.tc : Thread Cert.RefBinBIdeal.nD Cert.RefBinBIdeal.τ).loc Cert.RefBinBIdeal.main_arg2) = m' ((c.tc : Thread Cert.RefBinBIdeal.nD Cert.RefBinBIdeal.τ).loc Cert.RefBinBIdeal.main_arg2)
          ∧ r.2.mem ((c.tc : Thread Cert.RefBinBIdeal.nD Cert.RefBinBIdeal.τ).loc Cert.RefBinBIdeal.main_arg3) = m' ((c.tc : Thread Cert.RefBinBIdeal.nD Cert.RefBinBIdeal.τ).loc Cert.RefBinBIdeal.main_arg3)
          ∧ r.2.mem ((c.tc : Thread Cert.RefBinBIdeal.nD Cert.RefBinBIdeal.τ).loc Cert.RefBinBIdeal.main_arg4) = m' ((c.tc : Thread Cert.RefBinBIdeal.nD Cert.RefBinBIdeal.τ).loc Cert.RefBinBIdeal.main_arg4)
          ∧ r.2.mem ((c.tc : Thread Cert.RefBinBIdeal.nD Cert.RefBinBIdeal.τ).loc Cert.RefBinBIdeal.main_arg5) = m' ((c.tc : Thread Cert.RefBinBIdeal.nD Cert.RefBinBIdeal.τ).loc Cert.RefBinBIdeal.main_arg5)
          ∧ r.2.mem ((c.tc : Thread Cert.RefBinBIdeal.nD Cert.RefBinBIdeal.τ).loc Cert.RefBinBIdeal.main_arg6) = m' ((c.tc : Thread Cert.RefBinBIdeal.nD Cert.RefBinBIdeal.τ).loc Cert.RefBinBIdeal.main_arg6)
          ∧ r.2.mem ((c.tc : Thread Cert.RefBinBIdeal.nD Cert.RefBinBIdeal.τ).loc Cert.RefBinBIdeal.main_arg7) = m' ((c.tc : Thread Cert.RefBinBIdeal.nD Cert.RefBinBIdeal.τ).loc Cert.RefBinBIdeal.main_arg7)
          ∧ r.2.mem ((c.tc : Thread Cert.RefBinBIdeal.nD Cert.RefBinBIdeal.τ).loc Cert.RefBinBIdeal.main_arg8) = m' ((c.tc : Thread Cert.RefBinBIdeal.nD Cert.RefBinBIdeal.τ).loc Cert.RefBinBIdeal.main_arg8)
          ∧ r.2.mem ((c.tc : Thread Cert.RefBinBIdeal.nD Cert.RefBinBIdeal.τ).loc Cert.RefBinBIdeal.main_arg9) = m' ((c.tc : Thread Cert.RefBinBIdeal.nD Cert.RefBinBIdeal.τ).loc Cert.RefBinBIdeal.main_arg9)
          ∧ r.2.mem ((c.tc : Thread Cert.RefBinBIdeal.nD Cert.RefBinBIdeal.τ).loc Cert.RefBinBIdeal.main_arg10) = m' ((c.tc : Thread Cert.RefBinBIdeal.nD Cert.RefBinBIdeal.τ).loc Cert.RefBinBIdeal.main_arg10)
          ∧ r.2.mem ((c.tc : Thread Cert.RefBinBIdeal.nD Cert.RefBinBIdeal.τ).loc Cert.RefBinBIdeal.main_arg11) = m' ((c.tc : Thread Cert.RefBinBIdeal.nD Cert.RefBinBIdeal.τ).loc Cert.RefBinBIdeal.main_arg11))

def preserves_CondF_CondFIdeal : Prop :=
  True

def algebraic_CondFIdeal_RefCondFIdeal [hCondFIdeal : Cert.CondFIdeal.Facts] [hRefCondFIdeal : Cert.RefCondFIdeal.Facts] : Prop :=
  ∀ (m : (ℓ : Loc Cert.CondFIdeal.nD Cert.CondFIdeal.τ Cert.CondFIdeal.sig) → Buf (Elt Ideal) ℓ) (g : Dev Cert.CondFIdeal.nD → PrngReg)
    (m' : (ℓ : Loc Cert.RefCondFIdeal.nD Cert.RefCondFIdeal.τ Cert.RefCondFIdeal.sig) → Buf (Elt Ideal) ℓ) (g' : Dev Cert.RefCondFIdeal.nD → PrngReg), Pre_CondFIdeal m →
    (∀ c : Dev Cert.CondFIdeal.nD,
      m' ((c.tc : Thread Cert.RefCondFIdeal.nD Cert.RefCondFIdeal.τ).loc Cert.RefCondFIdeal.main_arg0) = m ((c.tc : Thread Cert.CondFIdeal.nD Cert.CondFIdeal.τ).loc Cert.CondFIdeal.main_arg0)) →
    ∃ (v0 : (c : Dev Cert.CondFIdeal.nD) → Buf (Elt Ideal) ((c.tc : Thread Cert.CondFIdeal.nD Cert.CondFIdeal.τ).loc Cert.CondFIdeal.main_v0)),
      θ_run (Cert.CondFIdeal.defs (F := Ideal)) (onTc (τ := Cert.CondFIdeal.τ) (Cert.CondFIdeal.main (F := Ideal))) ⟨m, fun _ => 0, g⟩ (fun r => ∀ c : Dev Cert.CondFIdeal.nD,
          r.2.mem ((c.tc : Thread Cert.CondFIdeal.nD Cert.CondFIdeal.τ).loc Cert.CondFIdeal.main_v0) = v0 c
          ∧ r.2.mem ((c.tc : Thread Cert.CondFIdeal.nD Cert.CondFIdeal.τ).loc Cert.CondFIdeal.main_arg0) = m ((c.tc : Thread Cert.CondFIdeal.nD Cert.CondFIdeal.τ).loc Cert.CondFIdeal.main_arg0))
      ∧ θ_run (Cert.RefCondFIdeal.defs (F := Ideal)) (onTc (τ := Cert.RefCondFIdeal.τ) (Cert.RefCondFIdeal.main (F := Ideal))) ⟨m', fun _ => 0, g'⟩ (fun r => ∀ c : Dev Cert.RefCondFIdeal.nD,
          r.2.mem ((c.tc : Thread Cert.RefCondFIdeal.nD Cert.RefCondFIdeal.τ).loc Cert.RefCondFIdeal.main_v1) = v0 c
          ∧ r.2.mem ((c.tc : Thread Cert.RefCondFIdeal.nD Cert.RefCondFIdeal.τ).loc Cert.RefCondFIdeal.main_arg0) = m' ((c.tc : Thread Cert.RefCondFIdeal.nD Cert.RefCondFIdeal.τ).loc Cert.RefCondFIdeal.main_arg0))

def preserves_AdaF_AdaFIdeal : Prop :=
  True

def algebraic_AdaFIdeal_RefAdaFIdeal [hAdaFIdeal : Cert.AdaFIdeal.Facts] [hRefAdaFIdeal : Cert.RefAdaFIdeal.Facts] : Prop :=
  ∀ (m : (ℓ : Loc Cert.AdaFIdeal.nD Cert.AdaFIdeal.τ Cert.AdaFIdeal.sig) → Buf (Elt Ideal) ℓ) (g : Dev Cert.AdaFIdeal.nD → PrngReg)
    (m' : (ℓ : Loc Cert.RefAdaFIdeal.nD Cert.RefAdaFIdeal.τ Cert.RefAdaFIdeal.sig) → Buf (Elt Ideal) ℓ) (g' : Dev Cert.RefAdaFIdeal.nD → PrngReg), Pre_AdaFIdeal m →
    (∀ c : Dev Cert.AdaFIdeal.nD,
      m' ((c.tc : Thread Cert.RefAdaFIdeal.nD Cert.RefAdaFIdeal.τ).loc Cert.RefAdaFIdeal.main_arg0) = m ((c.tc : Thread Cert.AdaFIdeal.nD Cert.AdaFIdeal.τ).loc Cert.AdaFIdeal.main_arg0)
      ∧ m' ((c.tc : Thread Cert.RefAdaFIdeal.nD Cert.RefAdaFIdeal.τ).loc Cert.RefAdaFIdeal.main_arg1) = m ((c.tc : Thread Cert.AdaFIdeal.nD Cert.AdaFIdeal.τ).loc Cert.AdaFIdeal.main_arg1)
      ∧ m' ((c.tc : Thread Cert.RefAdaFIdeal.nD Cert.RefAdaFIdeal.τ).loc Cert.RefAdaFIdeal.main_arg2) = m ((c.tc : Thread Cert.AdaFIdeal.nD Cert.AdaFIdeal.τ).loc Cert.AdaFIdeal.main_arg2)) →
    ∃ (v0 : (c : Dev Cert.AdaFIdeal.nD) → Buf (Elt Ideal) ((c.tc : Thread Cert.AdaFIdeal.nD Cert.AdaFIdeal.τ).loc Cert.AdaFIdeal.main_v5)),
      θ_run (Cert.AdaFIdeal.defs (F := Ideal)) (onTc (τ := Cert.AdaFIdeal.τ) (Cert.AdaFIdeal.main (F := Ideal))) ⟨m, fun _ => 0, g⟩ (fun r => ∀ c : Dev Cert.AdaFIdeal.nD,
          r.2.mem ((c.tc : Thread Cert.AdaFIdeal.nD Cert.AdaFIdeal.τ).loc Cert.AdaFIdeal.main_v5) = v0 c
          ∧ r.2.mem ((c.tc : Thread Cert.AdaFIdeal.nD Cert.AdaFIdeal.τ).loc Cert.AdaFIdeal.main_arg0) = m ((c.tc : Thread Cert.AdaFIdeal.nD Cert.AdaFIdeal.τ).loc Cert.AdaFIdeal.main_arg0)
          ∧ r.2.mem ((c.tc : Thread Cert.AdaFIdeal.nD Cert.AdaFIdeal.τ).loc Cert.AdaFIdeal.main_arg1) = m ((c.tc : Thread Cert.AdaFIdeal.nD Cert.AdaFIdeal.τ).loc Cert.AdaFIdeal.main_arg1)
          ∧ r.2.mem ((c.tc : Thread Cert.AdaFIdeal.nD Cert.AdaFIdeal.τ).loc Cert.AdaFIdeal.main_arg2) = m ((c.tc : Thread Cert.AdaFIdeal.nD Cert.AdaFIdeal.τ).loc Cert.AdaFIdeal.main_arg2))
      ∧ θ_run (Cert.RefAdaFIdeal.defs (F := Ideal)) (onTc (τ := Cert.RefAdaFIdeal.τ) (Cert.RefAdaFIdeal.main (F := Ideal))) ⟨m', fun _ => 0, g'⟩ (fun r => ∀ c : Dev Cert.RefAdaFIdeal.nD,
          r.2.mem ((c.tc : Thread Cert.RefAdaFIdeal.nD Cert.RefAdaFIdeal.τ).loc Cert.RefAdaFIdeal.main_v3) = v0 c
          ∧ r.2.mem ((c.tc : Thread Cert.RefAdaFIdeal.nD Cert.RefAdaFIdeal.τ).loc Cert.RefAdaFIdeal.main_arg0) = m' ((c.tc : Thread Cert.RefAdaFIdeal.nD Cert.RefAdaFIdeal.τ).loc Cert.RefAdaFIdeal.main_arg0)
          ∧ r.2.mem ((c.tc : Thread Cert.RefAdaFIdeal.nD Cert.RefAdaFIdeal.τ).loc Cert.RefAdaFIdeal.main_arg1) = m' ((c.tc : Thread Cert.RefAdaFIdeal.nD Cert.RefAdaFIdeal.τ).loc Cert.RefAdaFIdeal.main_arg1)
          ∧ r.2.mem ((c.tc : Thread Cert.RefAdaFIdeal.nD Cert.RefAdaFIdeal.τ).loc Cert.RefAdaFIdeal.main_arg2) = m' ((c.tc : Thread Cert.RefAdaFIdeal.nD Cert.RefAdaFIdeal.τ).loc Cert.RefAdaFIdeal.main_arg2))

def preserves_QkvF_QkvFIdeal : Prop :=
  True

def algebraic_QkvFIdeal_RefQkvFIdeal [hQkvFIdeal : Cert.QkvFIdeal.Facts] [hRefQkvFIdeal : Cert.RefQkvFIdeal.Facts] : Prop :=
  ∀ (m : (ℓ : Loc Cert.QkvFIdeal.nD Cert.QkvFIdeal.τ Cert.QkvFIdeal.sig) → Buf (Elt Ideal) ℓ) (g : Dev Cert.QkvFIdeal.nD → PrngReg)
    (m' : (ℓ : Loc Cert.RefQkvFIdeal.nD Cert.RefQkvFIdeal.τ Cert.RefQkvFIdeal.sig) → Buf (Elt Ideal) ℓ) (g' : Dev Cert.RefQkvFIdeal.nD → PrngReg), Pre_QkvFIdeal m →
    (∀ c : Dev Cert.QkvFIdeal.nD,
      m' ((c.tc : Thread Cert.RefQkvFIdeal.nD Cert.RefQkvFIdeal.τ).loc Cert.RefQkvFIdeal.main_arg0) = m ((c.tc : Thread Cert.QkvFIdeal.nD Cert.QkvFIdeal.τ).loc Cert.QkvFIdeal.main_arg0)
      ∧ m' ((c.tc : Thread Cert.RefQkvFIdeal.nD Cert.RefQkvFIdeal.τ).loc Cert.RefQkvFIdeal.main_arg1) = m ((c.tc : Thread Cert.QkvFIdeal.nD Cert.QkvFIdeal.τ).loc Cert.QkvFIdeal.main_arg1)) →
    ∃ (v0 : (c : Dev Cert.QkvFIdeal.nD) → Buf (Elt Ideal) ((c.tc : Thread Cert.QkvFIdeal.nD Cert.QkvFIdeal.τ).loc Cert.QkvFIdeal.main_v2)),
      θ_run (Cert.QkvFIdeal.defs (F := Ideal)) (onTc (τ := Cert.QkvFIdeal.τ) (Cert.QkvFIdeal.main (F := Ideal))) ⟨m, fun _ => 0, g⟩ (fun r => ∀ c : Dev Cert.QkvFIdeal.nD,
          r.2.mem ((c.tc : Thread Cert.QkvFIdeal.nD Cert.QkvFIdeal.τ).loc Cert.QkvFIdeal.main_v2) = v0 c
          ∧ r.2.mem ((c.tc : Thread Cert.QkvFIdeal.nD Cert.QkvFIdeal.τ).loc Cert.QkvFIdeal.main_arg0) = m ((c.tc : Thread Cert.QkvFIdeal.nD Cert.QkvFIdeal.τ).loc Cert.QkvFIdeal.main_arg0)
          ∧ r.2.mem ((c.tc : Thread Cert.QkvFIdeal.nD Cert.QkvFIdeal.τ).loc Cert.QkvFIdeal.main_arg1) = m ((c.tc : Thread Cert.QkvFIdeal.nD Cert.QkvFIdeal.τ).loc Cert.QkvFIdeal.main_arg1))
      ∧ θ_run (Cert.RefQkvFIdeal.defs (F := Ideal)) (onTc (τ := Cert.RefQkvFIdeal.τ) (Cert.RefQkvFIdeal.main (F := Ideal))) ⟨m', fun _ => 0, g'⟩ (fun r => ∀ c : Dev Cert.RefQkvFIdeal.nD,
          r.2.mem ((c.tc : Thread Cert.RefQkvFIdeal.nD Cert.RefQkvFIdeal.τ).loc Cert.RefQkvFIdeal.main_v1) = v0 c
          ∧ r.2.mem ((c.tc : Thread Cert.RefQkvFIdeal.nD Cert.RefQkvFIdeal.τ).loc Cert.RefQkvFIdeal.main_arg0) = m' ((c.tc : Thread Cert.RefQkvFIdeal.nD Cert.RefQkvFIdeal.τ).loc Cert.RefQkvFIdeal.main_arg0)
          ∧ r.2.mem ((c.tc : Thread Cert.RefQkvFIdeal.nD Cert.RefQkvFIdeal.τ).loc Cert.RefQkvFIdeal.main_arg1) = m' ((c.tc : Thread Cert.RefQkvFIdeal.nD Cert.RefQkvFIdeal.τ).loc Cert.RefQkvFIdeal.main_arg1))

def preserves_WeightB_WeightBIdeal : Prop :=
  True

def algebraic_WeightBIdeal_RefWeightBIdeal [hWeightBIdeal : Cert.WeightBIdeal.Facts] [hRefWeightBIdeal : Cert.RefWeightBIdeal.Facts] : Prop :=
  ∀ (m : (ℓ : Loc Cert.WeightBIdeal.nD Cert.WeightBIdeal.τ Cert.WeightBIdeal.sig) → Buf (Elt Ideal) ℓ) (g : Dev Cert.WeightBIdeal.nD → PrngReg)
    (m' : (ℓ : Loc Cert.RefWeightBIdeal.nD Cert.RefWeightBIdeal.τ Cert.RefWeightBIdeal.sig) → Buf (Elt Ideal) ℓ) (g' : Dev Cert.RefWeightBIdeal.nD → PrngReg), Pre_WeightBIdeal m →
    (∀ c : Dev Cert.WeightBIdeal.nD,
      m' ((c.tc : Thread Cert.RefWeightBIdeal.nD Cert.RefWeightBIdeal.τ).loc Cert.RefWeightBIdeal.main_arg0) = m ((c.tc : Thread Cert.WeightBIdeal.nD Cert.WeightBIdeal.τ).loc Cert.WeightBIdeal.main_arg0)
      ∧ m' ((c.tc : Thread Cert.RefWeightBIdeal.nD Cert.RefWeightBIdeal.τ).loc Cert.RefWeightBIdeal.main_arg1) = m ((c.tc : Thread Cert.WeightBIdeal.nD Cert.WeightBIdeal.τ).loc Cert.WeightBIdeal.main_arg1)) →
    ∃ (v0 : (c : Dev Cert.WeightBIdeal.nD) → Buf (Elt Ideal) ((c.tc : Thread Cert.WeightBIdeal.nD Cert.WeightBIdeal.τ).loc Cert.WeightBIdeal.main_v2)),
      θ_run (Cert.WeightBIdeal.defs (F := Ideal)) (onTc (τ := Cert.WeightBIdeal.τ) (Cert.WeightBIdeal.main (F := Ideal))) ⟨m, fun _ => 0, g⟩ (fun r => ∀ c : Dev Cert.WeightBIdeal.nD,
          r.2.mem ((c.tc : Thread Cert.WeightBIdeal.nD Cert.WeightBIdeal.τ).loc Cert.WeightBIdeal.main_v2) = v0 c
          ∧ r.2.mem ((c.tc : Thread Cert.WeightBIdeal.nD Cert.WeightBIdeal.τ).loc Cert.WeightBIdeal.main_arg0) = m ((c.tc : Thread Cert.WeightBIdeal.nD Cert.WeightBIdeal.τ).loc Cert.WeightBIdeal.main_arg0)
          ∧ r.2.mem ((c.tc : Thread Cert.WeightBIdeal.nD Cert.WeightBIdeal.τ).loc Cert.WeightBIdeal.main_arg1) = m ((c.tc : Thread Cert.WeightBIdeal.nD Cert.WeightBIdeal.τ).loc Cert.WeightBIdeal.main_arg1))
      ∧ θ_run (Cert.RefWeightBIdeal.defs (F := Ideal)) (onTc (τ := Cert.RefWeightBIdeal.τ) (Cert.RefWeightBIdeal.main (F := Ideal))) ⟨m', fun _ => 0, g'⟩ (fun r => ∀ c : Dev Cert.RefWeightBIdeal.nD,
          r.2.mem ((c.tc : Thread Cert.RefWeightBIdeal.nD Cert.RefWeightBIdeal.τ).loc Cert.RefWeightBIdeal.main_v4) = v0 c
          ∧ r.2.mem ((c.tc : Thread Cert.RefWeightBIdeal.nD Cert.RefWeightBIdeal.τ).loc Cert.RefWeightBIdeal.main_arg0) = m' ((c.tc : Thread Cert.RefWeightBIdeal.nD Cert.RefWeightBIdeal.τ).loc Cert.RefWeightBIdeal.main_arg0)
          ∧ r.2.mem ((c.tc : Thread Cert.RefWeightBIdeal.nD Cert.RefWeightBIdeal.τ).loc Cert.RefWeightBIdeal.main_arg1) = m' ((c.tc : Thread Cert.RefWeightBIdeal.nD Cert.RefWeightBIdeal.τ).loc Cert.RefWeightBIdeal.main_arg1))

def preserves_AdamU_AdamUIdeal : Prop :=
  True

def algebraic_AdamUIdeal_RefAdamUIdeal [hAdamUIdeal : Cert.AdamUIdeal.Facts] [hRefAdamUIdeal : Cert.RefAdamUIdeal.Facts] : Prop :=
  ∀ (m : (ℓ : Loc Cert.AdamUIdeal.nD Cert.AdamUIdeal.τ Cert.AdamUIdeal.sig) → Buf (Elt Ideal) ℓ) (g : Dev Cert.AdamUIdeal.nD → PrngReg)
    (m' : (ℓ : Loc Cert.RefAdamUIdeal.nD Cert.RefAdamUIdeal.τ Cert.RefAdamUIdeal.sig) → Buf (Elt Ideal) ℓ) (g' : Dev Cert.RefAdamUIdeal.nD → PrngReg), Pre_AdamUIdeal m →
    (∀ c : Dev Cert.AdamUIdeal.nD,
      m' ((c.tc : Thread Cert.RefAdamUIdeal.nD Cert.RefAdamUIdeal.τ).loc Cert.RefAdamUIdeal.main_arg0) = m ((c.tc : Thread Cert.AdamUIdeal.nD Cert.AdamUIdeal.τ).loc Cert.AdamUIdeal.main_arg0)
      ∧ m' ((c.tc : Thread Cert.RefAdamUIdeal.nD Cert.RefAdamUIdeal.τ).loc Cert.RefAdamUIdeal.main_arg1) = m ((c.tc : Thread Cert.AdamUIdeal.nD Cert.AdamUIdeal.τ).loc Cert.AdamUIdeal.main_arg1)
      ∧ m' ((c.tc : Thread Cert.RefAdamUIdeal.nD Cert.RefAdamUIdeal.τ).loc Cert.RefAdamUIdeal.main_arg2) = m ((c.tc : Thread Cert.AdamUIdeal.nD Cert.AdamUIdeal.τ).loc Cert.AdamUIdeal.main_arg2)
      ∧ m' ((c.tc : Thread Cert.RefAdamUIdeal.nD Cert.RefAdamUIdeal.τ).loc Cert.RefAdamUIdeal.main_arg3) = m ((c.tc : Thread Cert.AdamUIdeal.nD Cert.AdamUIdeal.τ).loc Cert.AdamUIdeal.main_arg3)) →
    ∃ (v0 : (c : Dev Cert.AdamUIdeal.nD) → Buf (Elt Ideal) ((c.tc : Thread Cert.AdamUIdeal.nD Cert.AdamUIdeal.τ).loc Cert.AdamUIdeal.main_v0_0)) (v1 : (c : Dev Cert.AdamUIdeal.nD) → Buf (Elt Ideal) ((c.tc : Thread Cert.AdamUIdeal.nD Cert.AdamUIdeal.τ).loc Cert.AdamUIdeal.main_v0_1)) (v2 : (c : Dev Cert.AdamUIdeal.nD) → Buf (Elt Ideal) ((c.tc : Thread Cert.AdamUIdeal.nD Cert.AdamUIdeal.τ).loc Cert.AdamUIdeal.main_v0_2)) (v3 : (c : Dev Cert.AdamUIdeal.nD) → Buf (Elt Ideal) ((c.tc : Thread Cert.AdamUIdeal.nD Cert.AdamUIdeal.τ).loc Cert.AdamUIdeal.main_v0_3)),
      θ_run (Cert.AdamUIdeal.defs (F := Ideal)) (onTc (τ := Cert.AdamUIdeal.τ) (Cert.AdamUIdeal.main (F := Ideal))) ⟨m, fun _ => 0, g⟩ (fun r => ∀ c : Dev Cert.AdamUIdeal.nD,
          r.2.mem ((c.tc : Thread Cert.AdamUIdeal.nD Cert.AdamUIdeal.τ).loc Cert.AdamUIdeal.main_v0_0) = v0 c
          ∧ r.2.mem ((c.tc : Thread Cert.AdamUIdeal.nD Cert.AdamUIdeal.τ).loc Cert.AdamUIdeal.main_v0_1) = v1 c
          ∧ r.2.mem ((c.tc : Thread Cert.AdamUIdeal.nD Cert.AdamUIdeal.τ).loc Cert.AdamUIdeal.main_v0_2) = v2 c
          ∧ r.2.mem ((c.tc : Thread Cert.AdamUIdeal.nD Cert.AdamUIdeal.τ).loc Cert.AdamUIdeal.main_v0_3) = v3 c
          ∧ r.2.mem ((c.tc : Thread Cert.AdamUIdeal.nD Cert.AdamUIdeal.τ).loc Cert.AdamUIdeal.main_arg0) = m ((c.tc : Thread Cert.AdamUIdeal.nD Cert.AdamUIdeal.τ).loc Cert.AdamUIdeal.main_arg0)
          ∧ r.2.mem ((c.tc : Thread Cert.AdamUIdeal.nD Cert.AdamUIdeal.τ).loc Cert.AdamUIdeal.main_arg1) = m ((c.tc : Thread Cert.AdamUIdeal.nD Cert.AdamUIdeal.τ).loc Cert.AdamUIdeal.main_arg1)
          ∧ r.2.mem ((c.tc : Thread Cert.AdamUIdeal.nD Cert.AdamUIdeal.τ).loc Cert.AdamUIdeal.main_arg2) = m ((c.tc : Thread Cert.AdamUIdeal.nD Cert.AdamUIdeal.τ).loc Cert.AdamUIdeal.main_arg2)
          ∧ r.2.mem ((c.tc : Thread Cert.AdamUIdeal.nD Cert.AdamUIdeal.τ).loc Cert.AdamUIdeal.main_arg3) = m ((c.tc : Thread Cert.AdamUIdeal.nD Cert.AdamUIdeal.τ).loc Cert.AdamUIdeal.main_arg3))
      ∧ θ_run (Cert.RefAdamUIdeal.defs (F := Ideal)) (onTc (τ := Cert.RefAdamUIdeal.τ) (Cert.RefAdamUIdeal.main (F := Ideal))) ⟨m', fun _ => 0, g'⟩ (fun r => ∀ c : Dev Cert.RefAdamUIdeal.nD,
          r.2.mem ((c.tc : Thread Cert.RefAdamUIdeal.nD Cert.RefAdamUIdeal.τ).loc Cert.RefAdamUIdeal.main_arg1) = v0 c
          ∧ r.2.mem ((c.tc : Thread Cert.RefAdamUIdeal.nD Cert.RefAdamUIdeal.τ).loc Cert.RefAdamUIdeal.main_v23) = v1 c
          ∧ r.2.mem ((c.tc : Thread Cert.RefAdamUIdeal.nD Cert.RefAdamUIdeal.τ).loc Cert.RefAdamUIdeal.main_v4) = v2 c
          ∧ r.2.mem ((c.tc : Thread Cert.RefAdamUIdeal.nD Cert.RefAdamUIdeal.τ).loc Cert.RefAdamUIdeal.main_v10) = v3 c
          ∧ r.2.mem ((c.tc : Thread Cert.RefAdamUIdeal.nD Cert.RefAdamUIdeal.τ).loc Cert.RefAdamUIdeal.main_arg0) = m' ((c.tc : Thread Cert.RefAdamUIdeal.nD Cert.RefAdamUIdeal.τ).loc Cert.RefAdamUIdeal.main_arg0)
          ∧ r.2.mem ((c.tc : Thread Cert.RefAdamUIdeal.nD Cert.RefAdamUIdeal.τ).loc Cert.RefAdamUIdeal.main_arg1) = m' ((c.tc : Thread Cert.RefAdamUIdeal.nD Cert.RefAdamUIdeal.τ).loc Cert.RefAdamUIdeal.main_arg1)
          ∧ r.2.mem ((c.tc : Thread Cert.RefAdamUIdeal.nD Cert.RefAdamUIdeal.τ).loc Cert.RefAdamUIdeal.main_arg2) = m' ((c.tc : Thread Cert.RefAdamUIdeal.nD Cert.RefAdamUIdeal.τ).loc Cert.RefAdamUIdeal.main_arg2)
          ∧ r.2.mem ((c.tc : Thread Cert.RefAdamUIdeal.nD Cert.RefAdamUIdeal.τ).loc Cert.RefAdamUIdeal.main_arg3) = m' ((c.tc : Thread Cert.RefAdamUIdeal.nD Cert.RefAdamUIdeal.τ).loc Cert.RefAdamUIdeal.main_arg3))

def preserves_SumU_SumUIdeal : Prop :=
  True

def algebraic_SumUIdeal_RefSumUIdeal [hSumUIdeal : Cert.SumUIdeal.Facts] [hRefSumUIdeal : Cert.RefSumUIdeal.Facts] : Prop :=
  ∀ (m : (ℓ : Loc Cert.SumUIdeal.nD Cert.SumUIdeal.τ Cert.SumUIdeal.sig) → Buf (Elt Ideal) ℓ) (g : Dev Cert.SumUIdeal.nD → PrngReg)
    (m' : (ℓ : Loc Cert.RefSumUIdeal.nD Cert.RefSumUIdeal.τ Cert.RefSumUIdeal.sig) → Buf (Elt Ideal) ℓ) (g' : Dev Cert.RefSumUIdeal.nD → PrngReg), Pre_SumUIdeal m →
    (∀ c : Dev Cert.SumUIdeal.nD,
      m' ((c.tc : Thread Cert.RefSumUIdeal.nD Cert.RefSumUIdeal.τ).loc Cert.RefSumUIdeal.main_arg0) = m ((c.tc : Thread Cert.SumUIdeal.nD Cert.SumUIdeal.τ).loc Cert.SumUIdeal.main_arg0)) →
    ∃ (v0 : (c : Dev Cert.SumUIdeal.nD) → Buf (Elt Ideal) ((c.tc : Thread Cert.SumUIdeal.nD Cert.SumUIdeal.τ).loc Cert.SumUIdeal.main_v16)),
      θ_run (Cert.SumUIdeal.defs (F := Ideal)) (onTc (τ := Cert.SumUIdeal.τ) (Cert.SumUIdeal.main (F := Ideal))) ⟨m, fun _ => 0, g⟩ (fun r => ∀ c : Dev Cert.SumUIdeal.nD,
          r.2.mem ((c.tc : Thread Cert.SumUIdeal.nD Cert.SumUIdeal.τ).loc Cert.SumUIdeal.main_v16) = v0 c
          ∧ r.2.mem ((c.tc : Thread Cert.SumUIdeal.nD Cert.SumUIdeal.τ).loc Cert.SumUIdeal.main_arg0) = m ((c.tc : Thread Cert.SumUIdeal.nD Cert.SumUIdeal.τ).loc Cert.SumUIdeal.main_arg0))
      ∧ θ_run (Cert.RefSumUIdeal.defs (F := Ideal)) (onTc (τ := Cert.RefSumUIdeal.τ) (Cert.RefSumUIdeal.main (F := Ideal))) ⟨m', fun _ => 0, g'⟩ (fun r => ∀ c : Dev Cert.RefSumUIdeal.nD,
          r.2.mem ((c.tc : Thread Cert.RefSumUIdeal.nD Cert.RefSumUIdeal.τ).loc Cert.RefSumUIdeal.main_v0) = v0 c
          ∧ r.2.mem ((c.tc : Thread Cert.RefSumUIdeal.nD Cert.RefSumUIdeal.τ).loc Cert.RefSumUIdeal.main_arg0) = m' ((c.tc : Thread Cert.RefSumUIdeal.nD Cert.RefSumUIdeal.τ).loc Cert.RefSumUIdeal.main_arg0))

def preserves_ConvF_ConvFIdeal : Prop :=
  True

def preserves_MergeF_MergeFIdeal : Prop :=
  True

def preserves_RopeF_RopeFIdeal : Prop :=
  True

def Claim : Prop :=
  ∃ (hAttnB : Cert.AttnB.Facts) (hAttnBIdeal : Cert.AttnBIdeal.Facts) (hRefAttnBIdeal : Cert.RefAttnBIdeal.Facts) (hGateB : Cert.GateB.Facts) (hGateBIdeal : Cert.GateBIdeal.Facts) (hRefGateBIdeal : Cert.RefGateBIdeal.Facts) (hSwigluB : Cert.SwigluB.Facts) (hSwigluBIdeal : Cert.SwigluBIdeal.Facts) (hRefSwigluBIdeal : Cert.RefSwigluBIdeal.Facts) (hNormB : Cert.NormB.Facts) (hNormBIdeal : Cert.NormBIdeal.Facts) (hRefNormBIdeal : Cert.RefNormBIdeal.Facts) (hRmsB : Cert.RmsB.Facts) (hRmsBIdeal : Cert.RmsBIdeal.Facts) (hRefRmsBIdeal : Cert.RefRmsBIdeal.Facts) (hConvB : Cert.ConvB.Facts) (hConvBIdeal : Cert.ConvBIdeal.Facts) (hRefConvBIdeal : Cert.RefConvBIdeal.Facts) (hLossHead : Cert.LossHead.Facts) (hLossHeadIdeal : Cert.LossHeadIdeal.Facts) (hRefLossHeadIdeal : Cert.RefLossHeadIdeal.Facts) (hSplitB : Cert.SplitB.Facts) (hSplitBIdeal : Cert.SplitBIdeal.Facts) (hRefSplitBIdeal : Cert.RefSplitBIdeal.Facts) (hFwd16 : Cert.Fwd16.Facts) (hFwd16Ideal : Cert.Fwd16Ideal.Facts) (hRefFwd16Ideal : Cert.RefFwd16Ideal.Facts) (hFwd4 : Cert.Fwd4.Facts) (hFwd4Ideal : Cert.Fwd4Ideal.Facts) (hRefFwd4Ideal : Cert.RefFwd4Ideal.Facts) (hFwd1 : Cert.Fwd1.Facts) (hFwd1Ideal : Cert.Fwd1Ideal.Facts) (hRefFwd1Ideal : Cert.RefFwd1Ideal.Facts) (hUpF : Cert.UpF.Facts) (hUpFIdeal : Cert.UpFIdeal.Facts) (hRefUpFIdeal : Cert.RefUpFIdeal.Facts) (hBranchF : Cert.BranchF.Facts) (hBranchFIdeal : Cert.BranchFIdeal.Facts) (hRefBranchFIdeal : Cert.RefBranchFIdeal.Facts) (hDownF : Cert.DownF.Facts) (hDownFIdeal : Cert.DownFIdeal.Facts) (hRefDownFIdeal : Cert.RefDownFIdeal.Facts) (hOutF : Cert.OutF.Facts) (hOutFIdeal : Cert.OutFIdeal.Facts) (hRefOutFIdeal : Cert.RefOutFIdeal.Facts) (hModF : Cert.ModF.Facts) (hModFIdeal : Cert.ModFIdeal.Facts) (hRefModFIdeal : Cert.RefModFIdeal.Facts) (hBinB : Cert.BinB.Facts) (hBinBIdeal : Cert.BinBIdeal.Facts) (hRefBinBIdeal : Cert.RefBinBIdeal.Facts) (hCondF : Cert.CondF.Facts) (hCondFIdeal : Cert.CondFIdeal.Facts) (hRefCondFIdeal : Cert.RefCondFIdeal.Facts) (hAdaF : Cert.AdaF.Facts) (hAdaFIdeal : Cert.AdaFIdeal.Facts) (hRefAdaFIdeal : Cert.RefAdaFIdeal.Facts) (hQkvF : Cert.QkvF.Facts) (hQkvFIdeal : Cert.QkvFIdeal.Facts) (hRefQkvFIdeal : Cert.RefQkvFIdeal.Facts) (hWeightB : Cert.WeightB.Facts) (hWeightBIdeal : Cert.WeightBIdeal.Facts) (hRefWeightBIdeal : Cert.RefWeightBIdeal.Facts) (hAdamU : Cert.AdamU.Facts) (hAdamUIdeal : Cert.AdamUIdeal.Facts) (hRefAdamUIdeal : Cert.RefAdamUIdeal.Facts) (hSumU : Cert.SumU.Facts) (hSumUIdeal : Cert.SumUIdeal.Facts) (hRefSumUIdeal : Cert.RefSumUIdeal.Facts) (hConvF : Cert.ConvF.Facts) (hConvFIdeal : Cert.ConvFIdeal.Facts) (hRefConvFIdeal : Cert.RefConvFIdeal.Facts) (hMergeF : Cert.MergeF.Facts) (hMergeFIdeal : Cert.MergeFIdeal.Facts) (hRefMergeFIdeal : Cert.RefMergeFIdeal.Facts) (hRopeF : Cert.RopeF.Facts) (hRopeFIdeal : Cert.RopeFIdeal.Facts) (hRefRopeFIdeal : Cert.RefRopeFIdeal.Facts) (hPre_finite_bdown : Cert.Pre_finite_bdown.Facts) (hPre_finite_bconv : Cert.Pre_finite_bconv.Facts) (hPre_finite_bup : Cert.Pre_finite_bup.Facts) (hPre_finite_loss : Cert.Pre_finite_loss.Facts) (hPre_finite_bin : Cert.Pre_finite_bin.Facts),
    quiescent_AttnB (hAttnB := hAttnB)
    ∧ quiescent_AttnBIdeal (hAttnBIdeal := hAttnBIdeal)
    ∧ quiescent_RefAttnBIdeal (hRefAttnBIdeal := hRefAttnBIdeal)
    ∧ quiescent_GateB (hGateB := hGateB)
    ∧ quiescent_GateBIdeal (hGateBIdeal := hGateBIdeal)
    ∧ quiescent_RefGateBIdeal (hRefGateBIdeal := hRefGateBIdeal)
    ∧ quiescent_SwigluB (hSwigluB := hSwigluB)
    ∧ quiescent_SwigluBIdeal (hSwigluBIdeal := hSwigluBIdeal)
    ∧ quiescent_SwigluBIdeal_pre_finite_bdown (hSwigluBIdeal := hSwigluBIdeal) (hPre_finite_bdown := hPre_finite_bdown)
    ∧ quiescent_RefSwigluBIdeal (hRefSwigluBIdeal := hRefSwigluBIdeal)
    ∧ quiescent_RefSwigluBIdeal_pre_finite_bdown (hRefSwigluBIdeal := hRefSwigluBIdeal) (hPre_finite_bdown := hPre_finite_bdown)
    ∧ quiescent_NormB (hNormB := hNormB)
    ∧ quiescent_NormBIdeal (hNormBIdeal := hNormBIdeal)
    ∧ quiescent_NormBIdeal_pre_finite_bconv (hNormBIdeal := hNormBIdeal) (hPre_finite_bconv := hPre_finite_bconv)
    ∧ quiescent_RefNormBIdeal (hRefNormBIdeal := hRefNormBIdeal)
    ∧ quiescent_RefNormBIdeal_pre_finite_bconv (hRefNormBIdeal := hRefNormBIdeal) (hPre_finite_bconv := hPre_finite_bconv)
    ∧ quiescent_RmsB (hRmsB := hRmsB)
    ∧ quiescent_RmsBIdeal (hRmsBIdeal := hRmsBIdeal)
    ∧ quiescent_RmsBIdeal_pre_finite_bup (hRmsBIdeal := hRmsBIdeal) (hPre_finite_bup := hPre_finite_bup)
    ∧ quiescent_RefRmsBIdeal (hRefRmsBIdeal := hRefRmsBIdeal)
    ∧ quiescent_RefRmsBIdeal_pre_finite_bup (hRefRmsBIdeal := hRefRmsBIdeal) (hPre_finite_bup := hPre_finite_bup)
    ∧ quiescent_ConvB (hConvB := hConvB)
    ∧ quiescent_ConvBIdeal (hConvBIdeal := hConvBIdeal)
    ∧ quiescent_RefConvBIdeal (hRefConvBIdeal := hRefConvBIdeal)
    ∧ quiescent_LossHead (hLossHead := hLossHead)
    ∧ quiescent_LossHeadIdeal (hLossHeadIdeal := hLossHeadIdeal)
    ∧ quiescent_LossHeadIdeal_pre_finite_loss (hLossHeadIdeal := hLossHeadIdeal) (hPre_finite_loss := hPre_finite_loss)
    ∧ quiescent_RefLossHeadIdeal (hRefLossHeadIdeal := hRefLossHeadIdeal)
    ∧ quiescent_RefLossHeadIdeal_pre_finite_loss (hRefLossHeadIdeal := hRefLossHeadIdeal) (hPre_finite_loss := hPre_finite_loss)
    ∧ quiescent_SplitB (hSplitB := hSplitB)
    ∧ quiescent_SplitBIdeal (hSplitBIdeal := hSplitBIdeal)
    ∧ quiescent_RefSplitBIdeal (hRefSplitBIdeal := hRefSplitBIdeal)
    ∧ quiescent_Fwd16 (hFwd16 := hFwd16)
    ∧ quiescent_Fwd16Ideal (hFwd16Ideal := hFwd16Ideal)
    ∧ quiescent_RefFwd16Ideal (hRefFwd16Ideal := hRefFwd16Ideal)
    ∧ quiescent_Fwd4 (hFwd4 := hFwd4)
    ∧ quiescent_Fwd4Ideal (hFwd4Ideal := hFwd4Ideal)
    ∧ quiescent_RefFwd4Ideal (hRefFwd4Ideal := hRefFwd4Ideal)
    ∧ quiescent_Fwd1 (hFwd1 := hFwd1)
    ∧ quiescent_Fwd1Ideal (hFwd1Ideal := hFwd1Ideal)
    ∧ quiescent_RefFwd1Ideal (hRefFwd1Ideal := hRefFwd1Ideal)
    ∧ quiescent_UpF (hUpF := hUpF)
    ∧ quiescent_UpFIdeal (hUpFIdeal := hUpFIdeal)
    ∧ quiescent_RefUpFIdeal (hRefUpFIdeal := hRefUpFIdeal)
    ∧ quiescent_BranchF (hBranchF := hBranchF)
    ∧ quiescent_BranchFIdeal (hBranchFIdeal := hBranchFIdeal)
    ∧ quiescent_RefBranchFIdeal (hRefBranchFIdeal := hRefBranchFIdeal)
    ∧ quiescent_DownF (hDownF := hDownF)
    ∧ quiescent_DownFIdeal (hDownFIdeal := hDownFIdeal)
    ∧ quiescent_RefDownFIdeal (hRefDownFIdeal := hRefDownFIdeal)
    ∧ quiescent_OutF (hOutF := hOutF)
    ∧ quiescent_OutFIdeal (hOutFIdeal := hOutFIdeal)
    ∧ quiescent_RefOutFIdeal (hRefOutFIdeal := hRefOutFIdeal)
    ∧ quiescent_ModF (hModF := hModF)
    ∧ quiescent_ModFIdeal (hModFIdeal := hModFIdeal)
    ∧ quiescent_RefModFIdeal (hRefModFIdeal := hRefModFIdeal)
    ∧ quiescent_BinB (hBinB := hBinB)
    ∧ quiescent_BinBIdeal (hBinBIdeal := hBinBIdeal)
    ∧ quiescent_BinBIdeal_pre_finite_bin (hBinBIdeal := hBinBIdeal) (hPre_finite_bin := hPre_finite_bin)
    ∧ quiescent_RefBinBIdeal (hRefBinBIdeal := hRefBinBIdeal)
    ∧ quiescent_RefBinBIdeal_pre_finite_bin (hRefBinBIdeal := hRefBinBIdeal) (hPre_finite_bin := hPre_finite_bin)
    ∧ quiescent_CondF (hCondF := hCondF)
    ∧ quiescent_CondFIdeal (hCondFIdeal := hCondFIdeal)
    ∧ quiescent_RefCondFIdeal (hRefCondFIdeal := hRefCondFIdeal)
    ∧ quiescent_AdaF (hAdaF := hAdaF)
    ∧ quiescent_AdaFIdeal (hAdaFIdeal := hAdaFIdeal)
    ∧ quiescent_RefAdaFIdeal (hRefAdaFIdeal := hRefAdaFIdeal)
    ∧ quiescent_QkvF (hQkvF := hQkvF)
    ∧ quiescent_QkvFIdeal (hQkvFIdeal := hQkvFIdeal)
    ∧ quiescent_RefQkvFIdeal (hRefQkvFIdeal := hRefQkvFIdeal)
    ∧ quiescent_WeightB (hWeightB := hWeightB)
    ∧ quiescent_WeightBIdeal (hWeightBIdeal := hWeightBIdeal)
    ∧ quiescent_RefWeightBIdeal (hRefWeightBIdeal := hRefWeightBIdeal)
    ∧ quiescent_AdamU (hAdamU := hAdamU)
    ∧ quiescent_AdamUIdeal (hAdamUIdeal := hAdamUIdeal)
    ∧ quiescent_RefAdamUIdeal (hRefAdamUIdeal := hRefAdamUIdeal)
    ∧ quiescent_SumU (hSumU := hSumU)
    ∧ quiescent_SumUIdeal (hSumUIdeal := hSumUIdeal)
    ∧ quiescent_RefSumUIdeal (hRefSumUIdeal := hRefSumUIdeal)
    ∧ quiescent_ConvF (hConvF := hConvF)
    ∧ quiescent_ConvFIdeal (hConvFIdeal := hConvFIdeal)
    ∧ quiescent_RefConvFIdeal (hRefConvFIdeal := hRefConvFIdeal)
    ∧ quiescent_MergeF (hMergeF := hMergeF)
    ∧ quiescent_MergeFIdeal (hMergeFIdeal := hMergeFIdeal)
    ∧ quiescent_RefMergeFIdeal (hRefMergeFIdeal := hRefMergeFIdeal)
    ∧ quiescent_RopeF (hRopeF := hRopeF)
    ∧ quiescent_RopeFIdeal (hRopeFIdeal := hRopeFIdeal)
    ∧ quiescent_RefRopeFIdeal (hRefRopeFIdeal := hRefRopeFIdeal)
    ∧ preserves_AttnB_AttnBIdeal
    ∧ preserves_GateB_GateBIdeal
    ∧ algebraic_GateBIdeal_RefGateBIdeal (hGateBIdeal := hGateBIdeal) (hRefGateBIdeal := hRefGateBIdeal)
    ∧ preserves_SwigluB_SwigluBIdeal
    ∧ algebraic_SwigluBIdeal_RefSwigluBIdeal_pre_finite_bdown (hSwigluBIdeal := hSwigluBIdeal) (hRefSwigluBIdeal := hRefSwigluBIdeal) (hPre_finite_bdown := hPre_finite_bdown)
    ∧ preserves_NormB_NormBIdeal
    ∧ algebraic_NormBIdeal_RefNormBIdeal_pre_finite_bconv (hNormBIdeal := hNormBIdeal) (hRefNormBIdeal := hRefNormBIdeal) (hPre_finite_bconv := hPre_finite_bconv)
    ∧ preserves_RmsB_RmsBIdeal
    ∧ algebraic_RmsBIdeal_RefRmsBIdeal_pre_finite_bup (hRmsBIdeal := hRmsBIdeal) (hRefRmsBIdeal := hRefRmsBIdeal) (hPre_finite_bup := hPre_finite_bup)
    ∧ preserves_ConvB_ConvBIdeal
    ∧ preserves_LossHead_LossHeadIdeal
    ∧ algebraic_LossHeadIdeal_RefLossHeadIdeal_pre_finite_loss (hLossHeadIdeal := hLossHeadIdeal) (hRefLossHeadIdeal := hRefLossHeadIdeal) (hPre_finite_loss := hPre_finite_loss)
    ∧ preserves_SplitB_SplitBIdeal
    ∧ preserves_Fwd16_Fwd16Ideal
    ∧ algebraic_Fwd16Ideal_RefFwd16Ideal (hFwd16Ideal := hFwd16Ideal) (hRefFwd16Ideal := hRefFwd16Ideal)
    ∧ preserves_Fwd4_Fwd4Ideal
    ∧ algebraic_Fwd4Ideal_RefFwd4Ideal (hFwd4Ideal := hFwd4Ideal) (hRefFwd4Ideal := hRefFwd4Ideal)
    ∧ preserves_Fwd1_Fwd1Ideal
    ∧ algebraic_Fwd1Ideal_RefFwd1Ideal (hFwd1Ideal := hFwd1Ideal) (hRefFwd1Ideal := hRefFwd1Ideal)
    ∧ preserves_UpF_UpFIdeal
    ∧ algebraic_UpFIdeal_RefUpFIdeal (hUpFIdeal := hUpFIdeal) (hRefUpFIdeal := hRefUpFIdeal)
    ∧ preserves_BranchF_BranchFIdeal
    ∧ algebraic_BranchFIdeal_RefBranchFIdeal (hBranchFIdeal := hBranchFIdeal) (hRefBranchFIdeal := hRefBranchFIdeal)
    ∧ preserves_DownF_DownFIdeal
    ∧ algebraic_DownFIdeal_RefDownFIdeal (hDownFIdeal := hDownFIdeal) (hRefDownFIdeal := hRefDownFIdeal)
    ∧ preserves_OutF_OutFIdeal
    ∧ algebraic_OutFIdeal_RefOutFIdeal (hOutFIdeal := hOutFIdeal) (hRefOutFIdeal := hRefOutFIdeal)
    ∧ preserves_ModF_ModFIdeal
    ∧ algebraic_ModFIdeal_RefModFIdeal (hModFIdeal := hModFIdeal) (hRefModFIdeal := hRefModFIdeal)
    ∧ preserves_BinB_BinBIdeal
    ∧ algebraic_BinBIdeal_RefBinBIdeal_pre_finite_bin (hBinBIdeal := hBinBIdeal) (hRefBinBIdeal := hRefBinBIdeal) (hPre_finite_bin := hPre_finite_bin)
    ∧ preserves_CondF_CondFIdeal
    ∧ algebraic_CondFIdeal_RefCondFIdeal (hCondFIdeal := hCondFIdeal) (hRefCondFIdeal := hRefCondFIdeal)
    ∧ preserves_AdaF_AdaFIdeal
    ∧ algebraic_AdaFIdeal_RefAdaFIdeal (hAdaFIdeal := hAdaFIdeal) (hRefAdaFIdeal := hRefAdaFIdeal)
    ∧ preserves_QkvF_QkvFIdeal
    ∧ algebraic_QkvFIdeal_RefQkvFIdeal (hQkvFIdeal := hQkvFIdeal) (hRefQkvFIdeal := hRefQkvFIdeal)
    ∧ preserves_WeightB_WeightBIdeal
    ∧ algebraic_WeightBIdeal_RefWeightBIdeal (hWeightBIdeal := hWeightBIdeal) (hRefWeightBIdeal := hRefWeightBIdeal)
    ∧ preserves_AdamU_AdamUIdeal
    ∧ algebraic_AdamUIdeal_RefAdamUIdeal (hAdamUIdeal := hAdamUIdeal) (hRefAdamUIdeal := hRefAdamUIdeal)
    ∧ preserves_SumU_SumUIdeal
    ∧ algebraic_SumUIdeal_RefSumUIdeal (hSumUIdeal := hSumUIdeal) (hRefSumUIdeal := hRefSumUIdeal)
    ∧ preserves_ConvF_ConvFIdeal
    ∧ preserves_MergeF_MergeFIdeal
    ∧ preserves_RopeF_RopeFIdeal
-- ==== Pre_finite_bconv.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S16384x1024 .f32) (main_v3 : IVec S_ 1) (main_v7 : IVec S_ 1) (main_v11 : IVec S_ 1) (main_v15 : IVec S_ 1) : IVec S_ 1 :=
  let main_v16 : FVec F S16384x1024 .f32 := Host.absf main_arg4
  let main_cst_6 : FVec F S_ .f32 := constant S_ .f32 0x7F800000#32
  let main_v17 : FVec F S16384x1024 .f32 := broadcastInDim S16384x1024 ![] bcast_S_S16384x1024 main_cst_6
  let main_v18 : IVec S16384x1024 1 := cmpf .olt main_v16 main_v17
  let main_c_7 : IVec S_ 1 := constantI S_ 1 1#1
  let main_v19 : IVec S_ 1 := (fun x v => Host.reduce IntOp.andi x v reducesTo_S16384x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S16384x1024 .f32) (main_arg1 : FVec F S1024 .f32) (main_arg2 : FVec F S1024 .f32) (main_arg3 : FVec F S1024x1024 .f32) (main_arg4 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024x1024 .f32 := Host.absf main_arg3
  let main_cst_4 : FVec F S_ .f32 := constant S_ .f32 0x7F800000#32
  let main_v13 : FVec F S1024x1024 .f32 := broadcastInDim S1024x1024 ![] bcast_S_S1024x1024 main_cst_4
  let main_v14 : IVec S1024x1024 1 := cmpf .olt main_v12 main_v13
  let main_c_5 : IVec S_ 1 := constantI S_ 1 1#1
  let main_v15 : IVec S_ 1 := (fun x v => Host.reduce IntOp.andi x v reducesTo_S1024x1024_S_d0_1 h_S_) main_v14 main_c_5
  fn_part1 (F := F) main_arg4 main_v3 main_v7 main_v11 main_v15
-- ==== Pre_finite_bdown.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩

class Facts : Prop where
  bcast_S_S16384x2816 : S_.BroadcastsInDim S16384x2816 (![] : Fin 0 → Fin S16384x2816.rank)
  reducesTo_S16384x2816_S_d0_1 : S16384x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S16384x1024 : S_.BroadcastsInDim S16384x1024 (![] : Fin 0 → Fin S16384x1024.rank)
  reducesTo_S16384x1024_S_d0_1 : S16384x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S16384x2816 .f32) (main_arg1 : FVec F S16384x2816 .f32) (main_arg2 : FVec F S2816x1024 .f32) (main_arg3 : FVec F S16384x1024 .f32) : IVec S_ 1 :=
  let main_v0 : FVec F S16384x2816 .f32 := Host.absf main_arg0
  let main_cst : FVec F S_ .f32 := constant S_ .f32 0x7F800000#32
  let main_v1 : FVec F S16384x2816 .f32 := broadcastInDim S16384x2816 ![] bcast_S_S16384x2816 main_cst
  let main_v2 : IVec S16384x2816 1 := cmpf .olt main_v0 main_v1
  let main_c : IVec S_ 1 := constantI S_ 1 1#1
  let main_v3 : IVec S_ 1 := (fun x v => Host.reduce IntOp.andi x v reducesTo_S16384x2816_S_d0_1 h_S_) main_v2 main_c
  let main_v4 : FVec F S16384x2816 .f32 := Host.absf main_arg1
  let main_cst_0 : FVec F S_ .f32 := constant S_ .f32 0x7F800000#32
  let main_v5 : FVec F S16384x2816 .f32 := broadcastInDim S16384x2816 ![] bcast_S_S16384x2816 main_cst_0
  let main_v6 : IVec S16384x2816 1 := cmpf .olt main_v4 main_v5
  let main_c_1 : IVec S_ 1 := constantI S_ 1 1#1
  let main_v7 : IVec S_ 1 := (fun x v => Host.reduce IntOp.andi x v reducesTo_S16384x2816_S_d0_1 h_S_) main_v6 main_c_1
  let main_v8 : FVec F S2816x1024 .f32 := Host.absf main_arg2
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v8 main_v9
  let main_c_3 : IVec S_ 1 := constantI S_ 1 1#1
  let main_v11 : IVec S_ 1 := (fun x v => Host.reduce IntOp.andi x v reducesTo_S2816x1024_S_d0_1 h_S_) main_v10 main_c_3
  let main_v12 : FVec F S16384x1024 .f32 := Host.absf main_arg3
  let main_cst_4 : FVec F S_ .f32 := constant S_ .f32 0x7F800000#32
  let main_v13 : FVec F S16384x1024 .f32 := broadcastInDim S16384x1024 ![] bcast_S_S16384x1024 main_cst_4
  let main_v14 : IVec S16384x1024 1 := cmpf .olt main_v12 main_v13
  let main_c_5 : IVec S_ 1 := constantI S_ 1 1#1
  let main_v15 : IVec S_ 1 := (fun x v => Host.reduce IntOp.andi x v reducesTo_S16384x1024_S_d0_1 h_S_) main_v14 main_c_5
  fn_part1 (F := F) main_v3 main_v7 main_v11 main_v15
-- ==== Pre_finite_bin.lean ====
abbrev S16384x1024 : Shape := ⟨2, ![16384, 1024]⟩
abbrev S1x1024 : Shape := ⟨2, ![1, 1024]⟩
abbrev S1024x6400 : Shape := ⟨2, ![1024, 6400]⟩
abbrev S16384x2304 : Shape := ⟨2, ![16384, 2304]⟩
abbrev S16384x2048 : Shape := ⟨2, ![16384, 2048]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x6400 : S_.BroadcastsInDim S1024x6400 (![] : Fin 0 → Fin S1024x6400.rank)
  reducesTo_S1024x6400_S_d0_1 : S1024x6400.ReducesTo [0, 1] S_
  bcast_S_S16384x2304 : S_.BroadcastsInDim S16384x2304 (![] : Fin 0 → Fin S16384x2304.rank)
  reducesTo_S16384x2304_S_d0_1 : S16384x2304.ReducesTo [0, 1] S_
  bcast_S_S16384x2048 : S_.BroadcastsInDim S16384x2048 (![] : Fin 0 → Fin S16384x2048.rank)
  reducesTo_S16384x2048_S_d0_1 : S16384x2048.ReducesTo [0, 1] S_

variable [Facts]

def fn_part2 {F : FTy → Type} [FloatOps F] (main_arg9 : FVec F S16384x1024 .f32) (main_arg10 : FVec F S16384x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S16384x1024 .f32 := Host.absf main_arg9
  let main_cst_14 : FVec F S_ .f32 := constant S_ .f32 0x7F800000#32
  let main_v33 : FVec F S16384x1024 .f32 := broadcastInDim S16384x1024 ![] bcast_S_S16384x1024 main_cst_14
  let main_v34 : IVec S16384x1024 1 := cmpf .olt main_v32 main_v33
  let main_c_15 : IVec S_ 1 := constantI S_ 1 1#1
  let main_v35 : IVec S_ 1 := (fun x v => Host.reduce IntOp.andi x v reducesTo_S16384x1024_S_d0_1 h_S_) main_v34 main_c_15
  let main_v36 : FVec F S16384x1024 .f32 := Host.absf main_arg10
  let main_cst_16 : FVec F S_ .f32 := constant S_ .f32 0x7F800000#32
  let main_v37 : FVec F S16384x1024 .f32 := broadcastInDim S16384x1024 ![] bcast_S_S16384x1024 main_cst_16
  let main_v38 : IVec S16384x1024 1 := cmpf .olt main_v36 main_v37
  let main_c_17 : IVec S_ 1 := constantI S_ 1 1#1
  let main_v39 : IVec S_ 1 := (fun x v => Host.reduce IntOp.andi x v reducesTo_S16384x1024_S_d0_1 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg4 : FVec F S1x1024 .f32) (main_arg6 : FVec F S1024x6400 .f32) (main_arg7 : FVec F S16384x2304 .f32) (main_arg8 : FVec F S16384x2048 .f32) (main_arg9 : FVec F S16384x1024 .f32) (main_arg10 : FVec F S16384x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1024x6400 .f32 := Host.absf main_arg6
  let main_cst_8 : FVec F S_ .f32 := constant S_ .f32 0x7F800000#32
  let main_v21 : FVec F S1024x6400 .f32 := broadcastInDim S1024x6400 ![] bcast_S_S1024x6400 main_cst_8
  let main_v22 : IVec S1024x6400 1 := cmpf .olt main_v20 main_v21
  let main_c_9 : IVec S_ 1 := constantI S_ 1 1#1
  let main_v23 : IVec S_ 1 := (fun x v => Host.reduce IntOp.andi x v reducesTo_S1024x6400_S_d0_1 h_S_) main_v22 main_c_9
  let main_v24 : FVec F S16384x2304 .f32 := Host.absf main_arg7
  let main_cst_10 : FVec F S_ .f32 := constant S_ .f32 0x7F800000#32
  let main_v25 : FVec F S16384x2304 .f32 := broadcastInDim S16384x2304 ![] bcast_S_S16384x2304 main_cst_10
  let main_v26 : IVec S16384x2304 1 := cmpf .olt main_v24 main_v25
  let main_c_11 : IVec S_ 1 := constantI S_ 1 1#1
  let main_v27 : IVec S_ 1 := (fun x v => Host.reduce IntOp.andi x v reducesTo_S16384x2304_S_d0_1 h_S_) main_v26 main_c_11
  let main_v28 : FVec F S16384x2048 .f32 := Host.absf main_arg8
  let main_cst_12 : FVec F S_ .f32 := constant S_ .f32 0x7F800000#32
  let main_v29 : FVec F S16384x2048 .f32 := broadcastInDim S16384x2048 ![] bcast_S_S16384x2048 main_cst_12
  let main_v30 : IVec S16384x2048 1 := cmpf .olt main_v28 main_v29
  let main_c_13 : IVec S_ 1 := constantI S_ 1 1#1
  let main_v31 : IVec S_ 1 := (fun x v => Host.reduce IntOp.andi x v reducesTo_S16384x2048_S_d0_1 h_S_) main_v30 main_c_13
  fn_part2 (F := F) main_arg9 main_arg10 main_v3 main_v7 main_v11 main_v15 main_v19 main_v23 main_v27 main_v31

def fn {F : FTy → Type} [FloatOps F] (main_arg0 : FVec F S16384x1024 .f32) (main_arg1 : FVec F S16384x1024 .f32) (main_arg2 : FVec F S1x1024 .f32) (main_arg3 : FVec F S1x1024 .f32) (main_arg4 : FVec F S1x1024 .f32) (main_arg5 : FVec F S1x1024 .f32) (main_arg6 : FVec F S1024x6400 .f32) (main_arg7 : FVec F S16384x2304 .f32) (main_arg8 : FVec F S16384x2048 .f32) (main_arg9 : FVec F S16384x1024 .f32) (main_arg10 : FVec F S16384x1024 .f32) (main_arg11 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg6 main_arg7 main_arg8 main_arg9 main_arg10 main_v3 main_v7 main_v11 main_v15
-- ==== Pre_finite_bup.lean ====
abbrev S16384x1024 : Shape := ⟨2, ![16384, 1024]⟩
abbrev S1x1024 : Shape := ⟨2, ![1, 1024]⟩
abbrev S1024x2816 : Shape := ⟨2, ![1024, 2816]⟩
abbrev S16384x2816 : Shape := ⟨2, ![16384, 2816]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S16384x2816 : S_.BroadcastsInDim S16384x2816 (![] : Fin 0 → Fin S16384x2816.rank)
  reducesTo_S16384x2816_S_d0_1 : S16384x2816.ReducesTo [0, 1] S_

variable [Facts]

def fn_part3 {F : FTy → Type} [FloatOps F] (main_v31 : IVec S_ 1) (main_v35 : IVec S_ 1) (main_v39 : IVec S_ 1) (main_v43 : IVec S_ 1) (main_v49 : IVec S_ 1) : IVec S_ 1 :=
  let main_v50 : IVec S_ 1 := andi main_v49 main_v31
  let main_v51 : IVec S_ 1 := andi main_v50 main_v35
  let main_v52 : IVec S_ 1 := andi main_v51 main_v39
  let main_v53 : IVec S_ 1 := andi main_v52 main_v43
  main_v53

def fn_part2 {F : FTy → Type} [FloatOps F] (main_arg8 : FVec F S16384x2816 .f32) (main_arg9 : FVec F S16384x2816 .f32) (main_arg10 : FVec F S16384x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S16384x2816 .f32 := Host.absf main_arg8
  let main_cst_14 : FVec F S_ .f32 := constant S_ .f32 0x7F800000#32
  let main_v33 : FVec F S16384x2816 .f32 := broadcastInDim S16384x2816 ![] bcast_S_S16384x2816 main_cst_14
  let main_v34 : IVec S16384x2816 1 := cmpf .olt main_v32 main_v33
  let main_c_15 : IVec S_ 1 := constantI S_ 1 1#1
  let main_v35 : IVec S_ 1 := (fun x v => Host.reduce IntOp.andi x v reducesTo_S16384x2816_S_d0_1 h_S_) main_v34 main_c_15
  let main_v36 : FVec F S16384x2816 .f32 := Host.absf main_arg9
  let main_cst_16 : FVec F S_ .f32 := constant S_ .f32 0x7F800000#32
  let main_v37 : FVec F S16384x2816 .f32 := broadcastInDim S16384x2816 ![] bcast_S_S16384x2816 main_cst_16
  let main_v38 : IVec S16384x2816 1 := cmpf .olt main_v36 main_v37
  let main_c_17 : IVec S_ 1 := constantI S_ 1 1#1
  let main_v39 : IVec S_ 1 := (fun x v => Host.reduce IntOp.andi x v reducesTo_S16384x2816_S_d0_1 h_S_) main_v38 main_c_17
  let main_v40 : FVec F S16384x1024 .f32 := Host.absf main_arg10
  let main_cst_18 : FVec F S_ .f32 := constant S_ .f32 0x7F800000#32
  let main_v41 : FVec F S16384x1024 .f32 := broadcastInDim S16384x1024 ![] bcast_S_S16384x1024 main_cst_18
  let main_v42 : IVec S16384x1024 1 := cmpf .olt main_v40 main_v41
  let main_c_19 : IVec S_ 1 := constantI S_ 1 1#1
  let main_v43 : IVec S_ 1 := (fun x v => Host.reduce IntOp.andi x v reducesTo_S16384x1024_S_d0_1 h_S_) main_v42 main_c_19
  let main_v44 : IVec S_ 1 := andi main_v3 main_v7
  let main_v45 : IVec S_ 1 := andi main_v44 main_v11
  let main_v46 : IVec S_ 1 := andi main_v45 main_v15
  let main_v47 : IVec S_ 1 := andi main_v46 main_v19
  let main_v48 : IVec S_ 1 := andi main_v47 main_v23
  let main_v49 : IVec S_ 1 := andi main_v48 main_v27
  fn_part3 (F := F) main_v31 main_v35 main_v39 main_v43 main_v49

def fn_part1 {F : FTy → Type} [FloatOps F] (main_arg4 : FVec F S1x1024 .f32) (main_arg5 : FVec F S1x1024 .f32) (main_arg6 : FVec F S1024x2816 .f32) (main_arg7 : FVec F S1024x2816 .f32) (main_arg8 : FVec F S16384x2816 .f32) (main_arg9 : FVec F S16384x2816 .f32) (main_arg10 : FVec F S16384x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1024x2816 .f32 := Host.absf main_arg6
  let main_cst_10 : FVec F S_ .f32 := constant S_ .f32 0x7F800000#32
  let main_v25 : FVec F S1024x2816 .f32 := broadcastInDim S1024x2816 ![] bcast_S_S1024x2816 main_cst_10
  let main_v26 : IVec S1024x2816 1 := cmpf .olt main_v24 main_v25
  let main_c_11 : IVec S_ 1 := constantI S_ 1 1#1
  let main_v27 : IVec S_ 1 := (fun x v => Host.reduce IntOp.andi x v reducesTo_S1024x2816_S_d0_1 h_S_) main_v26 main_c_11
  let main_v28 : FVec F S1024x2816 .f32 := Host.absf main_arg7
  let main_cst_12 : FVec F S_ .f32 := constant S_ .f32 0x7F800000#32
  let main_v29 : FVec F S1024x2816 .f32 := broadcastInDim S1024x2816 ![] bcast_S_S1024x2816 main_cst_12
  let main_v30 : IVec S1024x2816 1 := cmpf .olt main_v28 main_v29
  let main_c_13 : IVec S_ 1 := constantI S_ 1 1#1
  let main_v31 : IVec S_ 1 := (fun x v => Host.reduce IntOp.andi x v reducesTo_S1024x2816_S_d0_1 h_S_) main_v30 main_c_13
  fn_part2 (F := F) main_arg8 main_arg9 main_arg10 main_v3 main_v7 main_v11 main_v15 main_v19 main_v23 main_v27 main_v31

def fn {F : FTy → Type} [FloatOps F] (main_arg0 : FVec F S16384x1024 .f32) (main_arg1 : FVec F S16384x1024 .f32) (main_arg2 : FVec F S1x1024 .f32) (main_arg3 : FVec F S1x1024 .f32) (main_arg4 : FVec F S1x1024 .f32) (main_arg5 : FVec F S1x1024 .f32) (main_arg6 : FVec F S1024x2816 .f32) (main_arg7 : FVec F S1024x2816 .f32) (main_arg8 : FVec F S16384x2816 .f32) (main_arg9 : FVec F S16384x2816 .f32) (main_arg10 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_arg7 main_arg8 main_arg9 main_arg10 main_v3 main_v7 main_v11 main_v15
-- ==== Pre_finite_loss.lean ====
abbrev S16384x1024 : Shape := ⟨2, ![16384, 1024]⟩
abbrev S1x1024 : Shape := ⟨2, ![1, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S16384x1024 .f32) (main_v3 : IVec S_ 1) (main_v7 : IVec S_ 1) (main_v11 : IVec S_ 1) (main_v15 : IVec S_ 1) : IVec S_ 1 :=
  let main_v16 : FVec F S16384x1024 .f32 := Host.absf main_arg4
  let main_cst_6 : FVec F S_ .f32 := constant S_ .f32 0x7F800000#32
  let main_v17 : FVec F S16384x1024 .f32 := broadcastInDim S16384x1024 ![] bcast_S_S16384x1024 main_cst_6
  let main_v18 : IVec S16384x1024 1 := cmpf .olt main_v16 main_v17
  let main_c_7 : IVec S_ 1 := constantI S_ 1 1#1
  let main_v19 : IVec S_ 1 := (fun x v => Host.reduce IntOp.andi x v reducesTo_S16384x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S16384x1024 .f32) (main_arg1 : FVec F S16384x1024 .f32) (main_arg2 : FVec F S1x1024 .f32) (main_arg3 : FVec F S1024 .f32) (main_arg4 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_v3 main_v7 main_v11 main_v15
-- ==== AttnB.lean ====
abbrev S16384x4x64 : Shape := ⟨3, ![16384, 4, 64]⟩
abbrev S16384x4 : Shape := ⟨2, ![16384, 4]⟩
abbrev S1024x16x4x64 : Shape := ⟨4, ![1024, 16, 4, 64]⟩
abbrev S16x1024x4x64 : Shape := ⟨4, ![16, 1024, 4, 64]⟩
abbrev S16x8x128x4x64 : Shape := ⟨5, ![16, 8, 128, 4, 64]⟩
abbrev S_ : Shape := ⟨0, ![]⟩
abbrev S16x1x128x4x64 : Shape := ⟨5, ![16, 1, 128, 4, 64]⟩
abbrev S16x7x128x4x64 : Shape := ⟨5, ![16, 7, 128, 4, 64]⟩
abbrev S16x8x256x4x64 : Shape := ⟨5, ![16, 8, 256, 4, 64]⟩
abbrev S16x8x4x128x256 : Shape := ⟨5, ![16, 8, 4, 128, 256]⟩
abbrev S8x128x256 : Shape := ⟨3, ![8, 128, 256]⟩
abbrev S16x8x4x128 : Shape := ⟨4, ![16, 8, 4, 128]⟩
abbrev S16x8x4x64x128 : Shape := ⟨5, ![16, 8, 4, 64, 128]⟩
abbrev S8x128x16x4x64 : Shape := ⟨5, ![8, 128, 16, 4, 64]⟩
abbrev S8x128x16x4 : Shape := ⟨4, ![8, 128, 16, 4]⟩
abbrev S16x1024x256 : Shape := ⟨3, ![16, 1024, 256]⟩
abbrev S1x256x256 : Shape := ⟨3, ![1, 256, 256]⟩
abbrev S1x128x256 : Shape := ⟨3, ![1, 128, 256]⟩
abbrev S256x256 : Shape := ⟨2, ![256, 256]⟩
abbrev S128x256 : Shape := ⟨2, ![128, 256]⟩
abbrev S128 : Shape := ⟨1, ![128]⟩
abbrev S128x1 : Shape := ⟨2, ![128, 1]⟩

abbrev nBuf : Space → Nat
  | .hbm => 120
  | .vmem => 24
  | .smem => 0
  | _ => 0

abbrev bufTy : (tb : Table) → Fin (tcTables nBuf tb) → BufTy
  | .hbm, ⟨0, _⟩ => ⟨S16384x4x64, .f32⟩
  | .hbm, ⟨1, _⟩ => ⟨S16384x4x64, .f32⟩
  | .hbm, ⟨2, _⟩ => ⟨S16384x4x64, .f32⟩
  | .hbm, ⟨3, _⟩ => ⟨S16384x4x64, .f32⟩
  | .hbm, ⟨4, _⟩ => ⟨S16384x4, .f32⟩
  | .hbm, ⟨5, _⟩ => ⟨S16384x4x64, .f32⟩
  | .hbm, ⟨6, _⟩ => ⟨S16384x4, .f32⟩
  | .hbm, ⟨7, _⟩ => ⟨S16384x4x64, .f32⟩
  | .hbm, ⟨8, _⟩ => ⟨S1024x16x4x64, .f32⟩
  | .hbm, ⟨9, _⟩ => ⟨S16x1024x4x64, .f32⟩
  | .hbm, ⟨10, _⟩ => ⟨S1024x16x4x64, .f32⟩
  | .hbm, ⟨11, _⟩ => ⟨S16x1024x4x64, .f32⟩
  | .hbm, ⟨12, _⟩ => ⟨S1024x16x4x64, .f32⟩
  | .hbm, ⟨13, _⟩ => ⟨S16x1024x4x64, .f32⟩
  | .hbm, ⟨14, _⟩ => ⟨S16x8x128x4x64, .f32⟩
  | .hbm, ⟨15, _⟩ => ⟨S16x8x128x4x64, .f32⟩
  | .hbm, ⟨16, _⟩ => ⟨S_, .f32⟩
  | .hbm, ⟨17, _⟩ => ⟨S16x1x128x4x64, .f32⟩
  | .hbm, ⟨18, _⟩ => ⟨S16x7x128x4x64, .f32⟩
  | .hbm, ⟨19, _⟩ => ⟨S16x8x128x4x64, .f32⟩
  | .hbm, ⟨20, _⟩ => ⟨S16x8x256x4x64, .f32⟩
  | .hbm, ⟨21, _⟩ => ⟨S16x8x4x128x256, .f32⟩
  | .hbm, ⟨22, _⟩ => ⟨S_, .f32⟩
  | .hbm, ⟨23, _⟩ => ⟨S16x8x4x128x256, .f32⟩
  | .hbm, ⟨24, _⟩ => ⟨S16x8x4x128x256, .f32⟩
  | .hbm, ⟨25, _⟩ => ⟨S8x128x256, .i32⟩
  | .hbm, ⟨26, _⟩ => ⟨S_, .i32⟩
  | .hbm, ⟨27, _⟩ => ⟨S8x128x256, .i32⟩
  | .hbm, ⟨28, _⟩ => ⟨S8x128x256, .i32⟩
  | .hbm, ⟨29, _⟩ => ⟨S8x128x256, .i32⟩
  | .hbm, ⟨30, _⟩ => ⟨S8x128x256, .i32⟩
  | .hbm, ⟨31, _⟩ => ⟨S_, .i32⟩
  | .hbm, ⟨32, _⟩ => ⟨S8x128x256, .i32⟩
  | .hbm, ⟨33, _⟩ => ⟨S8x128x256, .i1⟩
  | .hbm, ⟨34, _⟩ => ⟨S_, .i32⟩
  | .hbm, ⟨35, _⟩ => ⟨S8x128x256, .i32⟩
  | .hbm, ⟨36, _⟩ => ⟨S8x128x256, .i1⟩
  | .hbm, ⟨37, _⟩ => ⟨S8x128x256, .i1⟩
  | .hbm, ⟨38, _⟩ => ⟨S8x128x256, .i32⟩
  | .hbm, ⟨39, _⟩ => ⟨S_, .i32⟩
  | .hbm, ⟨40, _⟩ => ⟨S8x128x256, .i32⟩
  | .hbm, ⟨41, _⟩ => ⟨S8x128x256, .i1⟩
  | .hbm, ⟨42, _⟩ => ⟨S8x128x256, .i32⟩
  | .hbm, ⟨43, _⟩ => ⟨S_, .i32⟩
  | .hbm, ⟨44, _⟩ => ⟨S8x128x256, .i32⟩
  | .hbm, ⟨45, _⟩ => ⟨S8x128x256, .i1⟩
  | .hbm, ⟨46, _⟩ => ⟨S8x128x256, .i1⟩
  | .hbm, ⟨47, _⟩ => ⟨S8x128x256, .i1⟩
  | .hbm, ⟨48, _⟩ => ⟨S16x8x4x128x256, .i1⟩
  | .hbm, ⟨49, _⟩ => ⟨S_, .f32⟩
  | .hbm, ⟨50, _⟩ => ⟨S16x8x4x128x256, .f32⟩
  | .hbm, ⟨51, _⟩ => ⟨S16x8x4x128x256, .f32⟩
  | .hbm, ⟨52, _⟩ => ⟨S_, .f32⟩
  | .hbm, ⟨53, _⟩ => ⟨S16x8x4x128, .f32⟩
  | .hbm, ⟨54, _⟩ => ⟨S16x8x4x128x256, .f32⟩
  | .hbm, ⟨55, _⟩ => ⟨S16x8x4x128x256, .f32⟩
  | .hbm, ⟨56, _⟩ => ⟨S16x8x4x128x256, .f32⟩
  | .hbm, ⟨57, _⟩ => ⟨S_, .f32⟩
  | .hbm, ⟨58, _⟩ => ⟨S16x8x4x128, .f32⟩
  | .hbm, ⟨59, _⟩ => ⟨S16x8x128x4x64, .f32⟩
  | .hbm, ⟨60, _⟩ => ⟨S_, .f32⟩
  | .hbm, ⟨61, _⟩ => ⟨S16x1x128x4x64, .f32⟩
  | .hbm, ⟨62, _⟩ => ⟨S16x7x128x4x64, .f32⟩
  | .hbm, ⟨63, _⟩ => ⟨S16x8x128x4x64, .f32⟩
  | .hbm, ⟨64, _⟩ => ⟨S16x8x256x4x64, .f32⟩
  | .hbm, ⟨65, _⟩ => ⟨S16x8x4x64x128, .f32⟩
  | .hbm, ⟨66, _⟩ => ⟨S16x8x4x64x128, .f32⟩
  | .hbm, ⟨67, _⟩ => ⟨S16x8x4x64x128, .f32⟩
  | .hbm, ⟨68, _⟩ => ⟨S8x128x16x4x64, .f32⟩
  | .hbm, ⟨69, _⟩ => ⟨S16384x4x64, .f32⟩
  | .hbm, ⟨70, _⟩ => ⟨S16x8x4x128, .f32⟩
  | .hbm, ⟨71, _⟩ => ⟨S16x8x4x128, .f32⟩
  | .hbm, ⟨72, _⟩ => ⟨S8x128x16x4, .f32⟩
  | .hbm, ⟨73, _⟩ => ⟨S16384x4, .f32⟩
  | .hbm, ⟨74, _⟩ => ⟨S16384x4, .f32⟩
  | .hbm, ⟨75, _⟩ => ⟨S16384x4, .f32⟩
  | .hbm, ⟨76, _⟩ => ⟨S16384x4, .f32⟩
  | .hbm, ⟨77, _⟩ => ⟨S16384x4, .f32⟩
  | .hbm, ⟨78, _⟩ => ⟨S16384x4, .f32⟩
  | .hbm, ⟨79, _⟩ => ⟨S16384x4, .f32⟩
  | .hbm, ⟨80, _⟩ => ⟨S16384x4, .f32⟩
  | .hbm, ⟨81, _⟩ => ⟨S16384x4, .f32⟩
  | .hbm, ⟨82, _⟩ => ⟨S16384x4, .f32⟩
  | .hbm, ⟨83, _⟩ => ⟨S16384x4, .f32⟩
  | .hbm, ⟨84, _⟩ => ⟨S16384x4x64, .f32⟩
  | .hbm, ⟨85, _⟩ => ⟨S16384x4x64, .f32⟩
  | .hbm, ⟨86, _⟩ => ⟨S16384x4x64, .f32⟩
  | .hbm, ⟨87, _⟩ => ⟨S16384x4x64, .f32⟩
  | .hbm, ⟨88, _⟩ => ⟨S16384x4x64, .f32⟩
  | .hbm, ⟨89, _⟩ => ⟨S16384x4x64, .f32⟩
  | .hbm, ⟨90, _⟩ => ⟨S16384x4x64, .f32⟩
  | .hbm, ⟨91, _⟩ => ⟨S16384x4x64, .f32⟩
  | .hbm, ⟨92, _⟩ => ⟨S16384x4x64, .f32⟩
  | .hbm, ⟨93, _⟩ => ⟨S16384x4x64, .f32⟩
  | .hbm, ⟨94, _⟩ => ⟨S16384x4, .f32⟩
  | .hbm, ⟨95, _⟩ => ⟨S16384x4, .f32⟩
  | .hbm, ⟨96, _⟩ => ⟨S16384x4x64, .f32⟩
  | .hbm, ⟨97, _⟩ => ⟨S_, .f32⟩
  | .hbm, ⟨98, _⟩ => ⟨S16384x4, .f32⟩
  | .hbm, ⟨99, _⟩ => ⟨S16x1024x256, .f32⟩
  | .hbm, ⟨100, _⟩ => ⟨S16x1024x256, .bf16⟩
  | .hbm, ⟨101, _⟩ => ⟨S16x1024x256, .f32⟩
  | .hbm, ⟨102, _⟩ => ⟨S16x1024x256, .bf16⟩
  | .hbm, ⟨103, _⟩ => ⟨S16x1024x256, .f32⟩
  | .hbm, ⟨104, _⟩ => ⟨S16x1024x256, .bf16⟩
  | .hbm, ⟨105, _⟩ => ⟨S1024x16x4x64, .f32⟩
  | .hbm, ⟨106, _⟩ => ⟨S16x1024x4x64, .f32⟩
  | .hbm, ⟨107, _⟩ => ⟨S16x1024x256, .f32⟩
  | .hbm, ⟨108, _⟩ => ⟨S16x1024x256, .bf16⟩
  | .hbm, ⟨109, _⟩ => ⟨S16384x4x64, .f32⟩
  | .hbm, ⟨110, _⟩ => ⟨S1024x16x4x64, .f32⟩
  | .hbm, ⟨111, _⟩ => ⟨S16x1024x4x64, .f32⟩
  | .hbm, ⟨112, _⟩ => ⟨S16x1024x256, .f32⟩
  | .hbm, ⟨113, _⟩ => ⟨S16384x4x64, .f32⟩
  | .hbm, ⟨114, _⟩ => ⟨S1024x16x4x64, .f32⟩
  | .hbm, ⟨115, _⟩ => ⟨S16x1024x4x64, .f32⟩
  | .hbm, ⟨116, _⟩ => ⟨S16x1024x256, .f32⟩
  | .hbm, ⟨117, _⟩ => ⟨S16x1024x256, .bf16⟩
  | .hbm, ⟨118, _⟩ => ⟨S16x1024x256, .bf16⟩
  | .hbm, ⟨119, _⟩ => ⟨S16x1024x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .bf16⟩
  | .local _ .vmem, ⟨17, _⟩ => ⟨S1x256x256, .bf16⟩
  | .local _ .vmem, ⟨18, _⟩ => ⟨S1x256x256, .bf16⟩
  | .local _ .vmem, ⟨19, _⟩ => ⟨S1x256x256, .bf16⟩
  | .local _ .vmem, ⟨20, _⟩ => ⟨S1x256x256, .bf16⟩
  | .local _ .vmem, ⟨21, _⟩ => ⟨S1x256x256, .bf16⟩
  | .local _ .vmem, ⟨22, _⟩ => ⟨S256x256, .f32⟩
  | .local _ .vmem, ⟨23, _⟩ => ⟨S256x256, .f32⟩
  | _, _ => ⟨S16384x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_9 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97_0 : Ref sig .tc := ⟨.hbm, 117, rfl⟩
abbrev main_v97_1 : Ref sig .tc := ⟨.hbm, 118, rfl⟩
abbrev main_v97_2 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 5], ![false, false]⟩

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32_2 : BitVec 32 := 4#32
  let v6 : BitVec 1 := Scalar.cmpi .eq arg1 c4_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c2_i32 : BitVec 32 := 2#32
  let v1 : BitVec 32 := Scalar.muli c2_i32 v0
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c2_i32 : BitVec 32 := 2#32
  let v1 : BitVec 32 := Scalar.muli c2_i32 v0
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnBIdeal.lean ====
variable {F : FTy → Type} [FloatOps F] [Named F]
def κ : String → Option EReal := fun
  | "mask" => some ⊥
  | _ => none
-- ==== RefAttnBIdeal.lean ====
abbrev S16384x4x64 : Shape := ⟨3, ![16384, 4, 64]⟩
abbrev S16384x4 : Shape := ⟨2, ![16384, 4]⟩
abbrev S1024x16x4x64 : Shape := ⟨4, ![1024, 16, 4, 64]⟩
abbrev S16x1024x4x64 : Shape := ⟨4, ![16, 1024, 4, 64]⟩
abbrev S16x8x128x4x64 : Shape := ⟨5, ![16, 8, 128, 4, 64]⟩
abbrev S16x1x128x4x64 : Shape := ⟨5, ![16, 1, 128, 4, 64]⟩
abbrev S_ : Shape := ⟨0, ![]⟩
abbrev S16x7x128x4x64 : Shape := ⟨5, ![16, 7, 128, 4, 64]⟩
abbrev S16x8x256x4x64 : Shape := ⟨5, ![16, 8, 256, 4, 64]⟩
abbrev S16x8x4x128x256 : Shape := ⟨5, ![16, 8, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S8x1x128x256 : Shape := ⟨4, ![8, 1, 128, 256]⟩
abbrev S16x8x4x128 : Shape := ⟨4, ![16, 8, 4, 128]⟩
abbrev S16x8x4x128x1 : Shape := ⟨5, ![16, 8, 4, 128, 1]⟩
abbrev S16x8x4x64x128 : Shape := ⟨5, ![16, 8, 4, 64, 128]⟩
abbrev S16x8x128x4 : Shape := ⟨4, ![16, 8, 128, 4]⟩
abbrev S16x8x128x4x1 : Shape := ⟨5, ![16, 8, 128, 4, 1]⟩
abbrev S16x1024x4 : Shape := ⟨3, ![16, 1024, 4]⟩
abbrev S1024x16x4 : Shape := ⟨3, ![1024, 16, 4]⟩
abbrev S1x16384x4 : Shape := ⟨3, ![1, 16384, 4]⟩
abbrev S3x16384x4 : Shape := ⟨3, ![3, 16384, 4]⟩
abbrev S3x16384x4x1 : Shape := ⟨4, ![3, 16384, 4, 1]⟩
abbrev S1x16384x4x64 : Shape := ⟨4, ![1, 16384, 4, 64]⟩
abbrev S3x16384x4x64 : Shape := ⟨4, ![3, 16384, 4, 64]⟩
abbrev S16x8x4x64x256 : Shape := ⟨5, ![16, 8, 4, 64, 256]⟩
abbrev S16x8x4x256x64 : Shape := ⟨5, ![16, 8, 4, 256, 64]⟩
abbrev S16x8x4x128x64 : Shape := ⟨5, ![16, 8, 4, 128, 64]⟩
abbrev S16x1024x256 : Shape := ⟨3, ![16, 1024, 256]⟩

abbrev nBuf : Space → Nat
  | .hbm => 291
  | .vmem => 0
  | .smem => 0
  | _ => 0

abbrev hbmTy0_0 (i : Nat) : BufTy := match i % 128 with
  | 0 => ⟨S16384x4x64, .f32⟩
  | 1 => ⟨S16384x4x64, .f32⟩
  | 2 => ⟨S16384x4x64, .f32⟩
  | 3 => ⟨S16384x4x64, .f32⟩
  | 4 => ⟨S16384x4, .f32⟩
  | 5 => ⟨S16384x4x64, .f32⟩
  | 6 => ⟨S16384x4, .f32⟩
  | 7 => ⟨S16384x4x64, .f32⟩
  | 8 => ⟨S1024x16x4x64, .f32⟩
  | 9 => ⟨S16x1024x4x64, .f32⟩
  | 10 => ⟨S16x8x128x4x64, .f32⟩
  | 11 => ⟨S1024x16x4x64, .f32⟩
  | 12 => ⟨S16x1024x4x64, .f32⟩
  | 13 => ⟨S16x8x128x4x64, .f32⟩
  | 14 => ⟨S16x1x128x4x64, .f32⟩
  | 15 => ⟨S_, .f32⟩
  | 16 => ⟨S16x1x128x4x64, .f32⟩
  | 17 => ⟨S16x7x128x4x64, .f32⟩
  | 18 => ⟨S16x8x128x4x64, .f32⟩
  | 19 => ⟨S_, .f32⟩
  | 20 => ⟨S16x1x128x4x64, .f32⟩
  | 21 => ⟨S16x8x256x4x64, .f32⟩
  | 22 => ⟨S1024x16x4x64, .f32⟩
  | 23 => ⟨S16x1024x4x64, .f32⟩
  | 24 => ⟨S16x8x128x4x64, .f32⟩
  | 25 => ⟨S16x1x128x4x64, .f32⟩
  | 26 => ⟨S_, .f32⟩
  | 27 => ⟨S16x1x128x4x64, .f32⟩
  | 28 => ⟨S16x7x128x4x64, .f32⟩
  | 29 => ⟨S16x8x128x4x64, .f32⟩
  | 30 => ⟨S_, .f32⟩
  | 31 => ⟨S16x1x128x4x64, .f32⟩
  | 32 => ⟨S16x8x256x4x64, .f32⟩
  | 33 => ⟨S16x8x4x128x256, .f32⟩
  | 34 => ⟨S_, .f32⟩
  | 35 => ⟨S16x8x4x128x256, .f32⟩
  | 36 => ⟨S16x8x4x128x256, .f32⟩
  | 37 => ⟨S128, .i32⟩
  | 38 => ⟨S128x1, .i32⟩
  | 39 => ⟨S256, .i32⟩
  | 40 => ⟨S1x256, .i32⟩
  | 41 => ⟨S_, .i32⟩
  | 42 => ⟨S128x1, .i32⟩
  | 43 => ⟨S128x1, .i32⟩
  | 44 => ⟨S128x256, .i32⟩
  | 45 => ⟨S128x256, .i32⟩
  | 46 => ⟨S128x256, .i32⟩
  | 47 => ⟨S_, .i32⟩
  | 48 => ⟨S128x256, .i32⟩
  | 49 => ⟨S128x256, .i1⟩
  | 50 => ⟨S_, .i32⟩
  | 51 => ⟨S128x256, .i32⟩
  | 52 => ⟨S128x256, .i1⟩
  | 53 => ⟨S128x256, .i1⟩
  | 54 => ⟨S8, .i32⟩
  | 55 => ⟨S8x1x1, .i32⟩
  | 56 => ⟨S_, .i32⟩
  | 57 => ⟨S8x1x1, .i32⟩
  | 58 => ⟨S8x1x1, .i1⟩
  | 59 => ⟨S1x1x256, .i32⟩
  | 60 => ⟨S_, .i32⟩
  | 61 => ⟨S1x1x256, .i32⟩
  | 62 => ⟨S1x1x256, .i1⟩
  | 63 => ⟨S8x1x256, .i1⟩
  | 64 => ⟨S8x1x256, .i1⟩
  | 65 => ⟨S8x1x256, .i1⟩
  | 66 => ⟨S1x128x256, .i1⟩
  | 67 => ⟨S8x128x256, .i1⟩
  | 68 => ⟨S8x128x256, .i1⟩
  | 69 => ⟨S8x128x256, .i1⟩
  | 70 => ⟨S8x1x128x256, .i1⟩
  | 71 => ⟨S_, .f32⟩
  | 72 => ⟨S_, .f32⟩
  | 73 => ⟨S16x8x4x128x256, .i1⟩
  | 74 => ⟨S16x8x4x128x256, .f32⟩
  | 75 => ⟨S16x8x4x128x256, .f32⟩
  | 76 => ⟨S_, .f32⟩
  | 77 => ⟨S16x8x4x128x256, .f32⟩
  | 78 => ⟨S_, .f32⟩
  | 79 => ⟨S16x8x4x128, .f32⟩
  | 80 => ⟨S16x8x4x128x1, .f32⟩
  | 81 => ⟨S16x8x4x128x256, .f32⟩
  | 82 => ⟨S16x8x4x128x256, .i1⟩
  | 83 => ⟨S16x8x4x128x256, .f32⟩
  | 84 => ⟨S_, .f32⟩
  | 85 => ⟨S16x8x4x128, .f32⟩
  | 86 => ⟨S16x8x4x128x1, .f32⟩
  | 87 => ⟨S16x8x4x128x256, .f32⟩
  | 88 => ⟨S16x8x4x128x256, .f32⟩
  | 89 => ⟨S16x8x4x128x256, .f32⟩
  | 90 => ⟨S_, .f32⟩
  | 91 => ⟨S16x8x4x128, .f32⟩
  | 92 => ⟨S16x8x4x64x128, .f32⟩
  | 93 => ⟨S16x8x128x4x64, .f32⟩
  | 94 => ⟨S16x8x128x4, .f32⟩
  | 95 => ⟨S16x8x128x4x1, .f32⟩
  | 96 => ⟨S16x8x128x4x64, .f32⟩
  | 97 => ⟨S16x8x128x4x64, .f32⟩
  | 98 => ⟨S16x8x128x4x1, .f32⟩
  | 99 => ⟨S_, .f32⟩
  | 100 => ⟨S16x8x128x4x1, .f32⟩
  | 101 => ⟨S16x8x128x4x1, .f32⟩
  | 102 => ⟨S16x8x4x128, .f32⟩
  | 103 => ⟨S16x8x4x128, .f32⟩
  | 104 => ⟨S16x8x4x128, .f32⟩
  | 105 => ⟨S16x1024x4x64, .f32⟩
  | 106 => ⟨S1024x16x4x64, .f32⟩
  | 107 => ⟨S16384x4x64, .f32⟩
  | 108 => ⟨S16x8x128x4, .f32⟩
  | 109 => ⟨S16x1024x4, .f32⟩
  | 110 => ⟨S1024x16x4, .f32⟩
  | 111 => ⟨S16384x4, .f32⟩
  | 112 => ⟨S1x16384x4, .f32⟩
  | 113 => ⟨S1x16384x4, .f32⟩
  | 114 => ⟨S1x16384x4, .f32⟩
  | 115 => ⟨S3x16384x4, .f32⟩
  | 116 => ⟨S_, .f32⟩
  | 117 => ⟨S16384x4, .f32⟩
  | 118 => ⟨S_, .f32⟩
  | 119 => ⟨S16384x4, .f32⟩
  | 120 => ⟨S_, .f32⟩
  | 121 => ⟨S16384x4, .f32⟩
  | 122 => ⟨S1x16384x4, .f32⟩
  | 123 => ⟨S3x16384x4, .f32⟩
  | 124 => ⟨S3x16384x4, .i1⟩
  | 125 => ⟨S3x16384x4, .f32⟩
  | 126 => ⟨S_, .f32⟩
  | 127 => ⟨S16384x4, .f32⟩
  | _ => ⟨S16384x4x64, .f32⟩

abbrev hbmTy0_1 (i : Nat) : BufTy := match i % 128 with
  | 0 => ⟨S_, .f32⟩
  | 1 => ⟨S16384x4, .f32⟩
  | 2 => ⟨S16384x4, .f32⟩
  | 3 => ⟨S_, .f32⟩
  | 4 => ⟨S16384x4, .f32⟩
  | 5 => ⟨S16384x4, .i1⟩
  | 6 => ⟨S_, .f32⟩
  | 7 => ⟨S16384x4, .f32⟩
  | 8 => ⟨S16384x4, .i1⟩
  | 9 => ⟨S_, .f32⟩
  | 10 => ⟨S16384x4, .f32⟩
  | 11 => ⟨S_, .f32⟩
  | 12 => ⟨S16384x4, .f32⟩
  | 13 => ⟨S_, .f32⟩
  | 14 => ⟨S16384x4, .f32⟩
  | 15 => ⟨S16384x4, .f32⟩
  | 16 => ⟨S16384x4, .f32⟩
  | 17 => ⟨S1x16384x4, .f32⟩
  | 18 => ⟨S3x16384x4, .f32⟩
  | 19 => ⟨S3x16384x4, .f32⟩
  | 20 => ⟨S3x16384x4, .f32⟩
  | 21 => ⟨S_, .f32⟩
  | 22 => ⟨S16384x4, .f32⟩
  | 23 => ⟨S1x16384x4, .f32⟩
  | 24 => ⟨S3x16384x4, .f32⟩
  | 25 => ⟨S3x16384x4, .f32⟩
  | 26 => ⟨S1x16384x4, .f32⟩
  | 27 => ⟨S_, .f32⟩
  | 28 => ⟨S1x16384x4, .f32⟩
  | 29 => ⟨S1x16384x4, .f32⟩
  | 30 => ⟨S3x16384x4x1, .f32⟩
  | 31 => ⟨S1x16384x4x64, .f32⟩
  | 32 => ⟨S1x16384x4x64, .f32⟩
  | 33 => ⟨S1x16384x4x64, .f32⟩
  | 34 => ⟨S3x16384x4x64, .f32⟩
  | 35 => ⟨S_, .f32⟩
  | 36 => ⟨S16384x4x64, .f32⟩
  | 37 => ⟨S_, .f32⟩
  | 38 => ⟨S16384x4x64, .f32⟩
  | 39 => ⟨S3x16384x4x64, .f32⟩
  | 40 => ⟨S3x16384x4x64, .f32⟩
  | 41 => ⟨S_, .f32⟩
  | 42 => ⟨S16384x4x64, .f32⟩
  | 43 => ⟨S3x16384x4x64, .f32⟩
  | 44 => ⟨S3x16384x4x64, .f32⟩
  | 45 => ⟨S3x16384x4x64, .f32⟩
  | 46 => ⟨S3x16384x4x64, .f32⟩
  | 47 => ⟨S_, .f32⟩
  | 48 => ⟨S3x16384x4, .f32⟩
  | 49 => ⟨S3x16384x4x1, .f32⟩
  | 50 => ⟨S1x16384x4x64, .f32⟩
  | 51 => ⟨S16384x4x64, .f32⟩
  | 52 => ⟨S1x16384x4x64, .f32⟩
  | 53 => ⟨S16384x4x64, .f32⟩
  | 54 => ⟨S1x16384x4x64, .f32⟩
  | 55 => ⟨S16384x4x64, .f32⟩
  | 56 => ⟨S_, .f32⟩
  | 57 => ⟨S3x16384x4, .f32⟩
  | 58 => ⟨S3x16384x4, .f32⟩
  | 59 => ⟨S3x16384x4, .f32⟩
  | 60 => ⟨S3x16384x4, .f32⟩
  | 61 => ⟨S_, .f32⟩
  | 62 => ⟨S16384x4, .f32⟩
  | 63 => ⟨S1x16384x4, .f32⟩
  | 64 => ⟨S1x16384x4, .f32⟩
  | 65 => ⟨S3x16384x4, .f32⟩
  | 66 => ⟨S3x16384x4, .f32⟩
  | 67 => ⟨S_, .f32⟩
  | 68 => ⟨S16384x4, .f32⟩
  | 69 => ⟨S3x16384x4, .f32⟩
  | 70 => ⟨S3x16384x4, .f32⟩
  | 71 => ⟨S3x16384x4, .f32⟩
  | 72 => ⟨S1x16384x4, .f32⟩
  | 73 => ⟨S16384x4, .f32⟩
  | 74 => ⟨S1x16384x4, .f32⟩
  | 75 => ⟨S16384x4, .f32⟩
  | 76 => ⟨S1x16384x4, .f32⟩
  | 77 => ⟨S16384x4, .f32⟩
  | 78 => ⟨S1024x16x4, .f32⟩
  | 79 => ⟨S16x1024x4, .f32⟩
  | 80 => ⟨S16x8x128x4, .f32⟩
  | 81 => ⟨S16x8x4x128, .f32⟩
  | 82 => ⟨S1024x16x4x64, .f32⟩
  | 83 => ⟨S16x1024x4x64, .f32⟩
  | 84 => ⟨S16x8x128x4x64, .f32⟩
  | 85 => ⟨S16x8x4x128, .f32⟩
  | 86 => ⟨S16x8x4x128x1, .f32⟩
  | 87 => ⟨S16x8x128x4x64, .f32⟩
  | 88 => ⟨S16x8x128x4x64, .f32⟩
  | 89 => ⟨S16x8x128x4x64, .f32⟩
  | 90 => ⟨S_, .f32⟩
  | 91 => ⟨S16x8x128x4, .f32⟩
  | 92 => ⟨S16x8x128x4x1, .f32⟩
  | 93 => ⟨S16x8x128x4x1, .f32⟩
  | 94 => ⟨S16x8x128x4x64, .f32⟩
  | 95 => ⟨S16x8x128x4x64, .f32⟩
  | 96 => ⟨S_, .f32⟩
  | 97 => ⟨S16x8x128x4, .f32⟩
  | 98 => ⟨S16x8x4x128, .f32⟩
  | 99 => ⟨S16x8x4x128, .f32⟩
  | 100 => ⟨S16x8x4x64x128, .f32⟩
  | 101 => ⟨S16x8x4x128x256, .f32⟩
  | 102 => ⟨S16x8x4x64x256, .f32⟩
  | 103 => ⟨S16x8x256x4x64, .f32⟩
  | 104 => ⟨S16x8x4x128x256, .f32⟩
  | 105 => ⟨S16x8x4x128x256, .f32⟩
  | 106 => ⟨S16x8x4x128x256, .f32⟩
  | 107 => ⟨S16x8x4x128x256, .f32⟩
  | 108 => ⟨S_, .f32⟩
  | 109 => ⟨S16x8x4x128, .f32⟩
  | 110 => ⟨S16x8x4x128x1, .f32⟩
  | 111 => ⟨S16x8x4x128x1, .f32⟩
  | 112 => ⟨S_, .f32⟩
  | 113 => ⟨S16x8x4x128, .f32⟩
  | 114 => ⟨S16x8x4x128, .f32⟩
  | 115 => ⟨S16x8x4x128x256, .f32⟩
  | 116 => ⟨S16x8x4x128x256, .f32⟩
  | 117 => ⟨S16x8x4x128x256, .f32⟩
  | 118 => ⟨S_, .f32⟩
  | 119 => ⟨S16x8x4x128x256, .f32⟩
  | 120 => ⟨S16x8x4x128x256, .f32⟩
  | 121 => ⟨S_, .f32⟩
  | 122 => ⟨S16x8x4x128x256, .f32⟩
  | 123 => ⟨S16x8x4x128x256, .f32⟩
  | 124 => ⟨S16x8x4x256x64, .f32⟩
  | 125 => ⟨S16x8x256x4x64, .f32⟩
  | 126 => ⟨S16x8x4x128x64, .f32⟩
  | 127 => ⟨S16x8x128x4x64, .f32⟩
  | _ => ⟨S16384x4x64, .f32⟩

abbrev hbmTy0_2 (i : Nat) : BufTy := match i % 128 with
  | 0 => ⟨S16x8x128x4x64, .f32⟩
  | 1 => ⟨S16x8x128x4x64, .f32⟩
  | 2 => ⟨S16x1x128x4x64, .f32⟩
  | 3 => ⟨S16x7x128x4x64, .f32⟩
  | 4 => ⟨S_, .f32⟩
  | 5 => ⟨S16x8x128x4x64, .f32⟩
  | 6 => ⟨S16x8x128x4x64, .f32⟩
  | 7 => ⟨S16x1024x4x64, .f32⟩
  | 8 => ⟨S1024x16x4x64, .f32⟩
  | 9 => ⟨S16384x4x64, .f32⟩
  | 10 => ⟨S16x8x128x4x64, .f32⟩
  | 11 => ⟨S16x8x128x4x64, .f32⟩
  | 12 => ⟨S16x1x128x4x64, .f32⟩
  | 13 => ⟨S16x7x128x4x64, .f32⟩
  | 14 => ⟨S_, .f32⟩
  | 15 => ⟨S16x8x128x4x64, .f32⟩
  | 16 => ⟨S16x8x128x4x64, .f32⟩
  | 17 => ⟨S16x1024x4x64, .f32⟩
  | 18 => ⟨S1024x16x4x64, .f32⟩
  | 19 => ⟨S16384x4x64, .f32⟩
  | 20 => ⟨S16x1024x4x64, .f32⟩
  | 21 => ⟨S1024x16x4x64, .f32⟩
  | 22 => ⟨S16384x4x64, .f32⟩
  | 23 => ⟨S1024x16x4x64, .f32⟩
  | 24 => ⟨S16x1024x4x64, .f32⟩
  | 25 => ⟨S16x1024x256, .f32⟩
  | 26 => ⟨S16x1024x256, .bf16⟩
  | 27 => ⟨S1024x16x4x64, .f32⟩
  | 28 => ⟨S16x1024x4x64, .f32⟩
  | 29 => ⟨S16x1024x256, .f32⟩
  | 30 => ⟨S16x1024x256, .bf16⟩
  | 31 => ⟨S1024x16x4x64, .f32⟩
  | 32 => ⟨S16x1024x4x64, .f32⟩
  | 33 => ⟨S16x1024x256, .f32⟩
  | 34 => ⟨S16x1024x256, .bf16⟩
  | _ => ⟨S16384x4x64, .f32⟩

abbrev hbmTy (i : Nat) : BufTy := match i / 128 with
  | 0 => hbmTy0_0 i
  | 1 => hbmTy0_1 i
  | 2 => hbmTy0_2 i
  | _ => ⟨S16384x4x64, .f32⟩

abbrev bufTy : (tb : Table) → Fin (tcTables nBuf tb) → BufTy
  | .hbm, ⟨i, _⟩ => hbmTy i
  | _, _ => ⟨S16384x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_call0_v0 : Ref sig .tc := ⟨.hbm, 72, rfl⟩
abbrev main_v53_1 : Ref sig .tc := ⟨.hbm, 73, rfl⟩
abbrev main_call0_v2 : Ref sig .tc := ⟨.hbm, 74, rfl⟩
abbrev main_v53_0 : Ref sig .tc := ⟨.hbm, 75, rfl⟩
abbrev main_call0_cst : Ref sig .tc := ⟨.hbm, 76, rfl⟩
abbrev main_v53_2 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_11 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_12 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_13 : Ref sig .tc := ⟨.hbm, 116, rfl⟩
abbrev main_v88 : Ref sig .tc := ⟨.hbm, 117, rfl⟩
abbrev main_cst_14 : Ref sig .tc := ⟨.hbm, 118, rfl⟩
abbrev main_v89 : Ref sig .tc := ⟨.hbm, 119, rfl⟩
abbrev main_cst_15 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_16 : Ref sig .tc := ⟨.hbm, 126, rfl⟩
abbrev main_v95 : Ref sig .tc := ⟨.hbm, 127, rfl⟩
abbrev main_cst_17 : Ref sig .tc := ⟨.hbm, 128, rfl⟩
abbrev main_v96 : Ref sig .tc := ⟨.hbm, 129, rfl⟩
abbrev main_v97 : Ref sig .tc := ⟨.hbm, 130, rfl⟩
abbrev main_cst_18 : Ref sig .tc := ⟨.hbm, 131, rfl⟩
abbrev main_v98 : Ref sig .tc := ⟨.hbm, 132, rfl⟩
abbrev main_v99 : Ref sig .tc := ⟨.hbm, 133, rfl⟩
abbrev main_cst_19 : Ref sig .tc := ⟨.hbm, 134, rfl⟩
abbrev main_v100 : Ref sig .tc := ⟨.hbm, 135, rfl⟩
abbrev main_v101 : Ref sig .tc := ⟨.hbm, 136, rfl⟩
abbrev main_cst_20 : Ref sig .tc := ⟨.hbm, 137, rfl⟩
abbrev main_v102 : Ref sig .tc := ⟨.hbm, 138, rfl⟩
abbrev main_cst_21 : Ref sig .tc := ⟨.hbm, 139, rfl⟩
abbrev main_v103 : Ref sig .tc := ⟨.hbm, 140, rfl⟩
abbrev main_cst_22 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_23 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_24 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_cst_25 : Ref sig .tc := ⟨.hbm, 163, rfl⟩
abbrev main_v123 : Ref sig .tc := ⟨.hbm, 164, rfl⟩
abbrev main_cst_26 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_27 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_28 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_cst_29 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_cst_30 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_cst_31 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_cst_32 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_cst_33 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_cst_34 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_cst_35 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_call1_cst : Ref sig .tc := ⟨.hbm, 246, rfl⟩
abbrev main_call1_v0 : Ref sig .tc := ⟨.hbm, 247, rfl⟩
abbrev main_v195 : Ref sig .tc := ⟨.hbm, 248, rfl⟩
abbrev main_cst_36 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_cst_37 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_cst_38 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩

abbrev nD : Nat := 1
abbrev τ : Topo := Topo.v7x

variable {F : FTy → Type} [FloatOps F]
-- ==== GateB.lean ====
abbrev S16384x1024 : Shape := ⟨2, ![16384, 1024]⟩
abbrev S1024x1024 : Shape := ⟨2, ![1024, 1024]⟩
abbrev S512x1024 : Shape := ⟨2, ![512, 1024]⟩
abbrev S256x1024 : Shape := ⟨2, ![256, 1024]⟩
abbrev S512x256 : Shape := ⟨2, ![512, 256]⟩

abbrev nBuf : Space → Nat
  | .hbm => 16
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .bf16⟩
  | .hbm, ⟨7, _⟩ => ⟨S1024x1024, .bf16⟩
  | .hbm, ⟨8, _⟩ => ⟨S16384x1024, .bf16⟩
  | .hbm, ⟨9, _⟩ => ⟨S16384x1024, .bf16⟩
  | .hbm, ⟨10, _⟩ => ⟨S16384x1024, .bf16⟩
  | .hbm, ⟨11, _⟩ => ⟨S16384x1024, .bf16⟩
  | .hbm, ⟨12, _⟩ => ⟨S16384x1024, .bf16⟩
  | .hbm, ⟨13, _⟩ => ⟨S16384x1024, .bf16⟩
  | .hbm, ⟨14, _⟩ => ⟨S16384x1024, .bf16⟩
  | .hbm, ⟨15, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RefGateBIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .bf16⟩
  | .hbm, ⟨42, _⟩ => ⟨S16384x1024, .bf16⟩
  | .hbm, ⟨43, _⟩ => ⟨S16384x1024, .bf16⟩
  | .hbm, ⟨44, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== SwigluB.lean ====
abbrev S16384x2816 : Shape := ⟨2, ![16384, 2816]⟩
abbrev S2816x1024 : Shape := ⟨2, ![2816, 1024]⟩
abbrev S16384x1024 : Shape := ⟨2, ![16384, 1024]⟩
abbrev S512x1024 : Shape := ⟨2, ![512, 1024]⟩
abbrev S1408x1024 : Shape := ⟨2, ![1408, 1024]⟩
abbrev S512x1408 : Shape := ⟨2, ![512, 1408]⟩
abbrev S384x1024 : Shape := ⟨2, ![384, 1024]⟩
abbrev S512x384 : Shape := ⟨2, ![512, 384]⟩
abbrev S256x1024 : Shape := ⟨2, ![256, 1024]⟩
abbrev S512x256 : Shape := ⟨2, ![512, 256]⟩

abbrev nBuf : Space → Nat
  | .hbm => 10
  | .vmem => 12
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S2816x1024, .f32⟩
  | .hbm, ⟨3, _⟩ => ⟨S16384x1024, .f32⟩
  | .hbm, ⟨4, _⟩ => ⟨S16384x1024, .bf16⟩
  | .hbm, ⟨5, _⟩ => ⟨S2816x1024, .bf16⟩
  | .hbm, ⟨6, _⟩ => ⟨S16384x2816, .bf16⟩
  | .hbm, ⟨7, _⟩ => ⟨S16384x2816, .bf16⟩
  | .hbm, ⟨8, _⟩ => ⟨S16384x2816, .bf16⟩
  | .hbm, ⟨9, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefSwigluBIdeal.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S2816x1024, .f32⟩
  | .hbm, ⟨3, _⟩ => ⟨S16384x1024, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x1024, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .bf16⟩
  | .hbm, ⟨27, _⟩ => ⟨S16384x2816, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== NormB.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S16384x1024, .f32⟩
  | .hbm, ⟨5, _⟩ => ⟨S16384x1024, .bf16⟩
  | .hbm, ⟨6, _⟩ => ⟨S1024x1024, .bf16⟩
  | .hbm, ⟨7, _⟩ => ⟨S16384x1024, .bf16⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S1x1024, .f32⟩
  | .hbm, ⟨12, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨2, ![1, 64], ![false, false]⟩

def k0_cond1 (i : grid0.Coords) : BitVec 1 :=
  let arg1 : BitVec 32 := BitVec.ofNat 32 (i 1).val
  let c0_i32 : BitVec 32 := 0#32
  let v70 : BitVec 1 := Scalar.cmpi .eq arg1 c0_i32
  let v71 : BitVec 32 := Scalar.extui v70
  let c0_i32_27 : BitVec 32 := 0#32
  let v72 : BitVec 1 := Scalar.cmpi .ne v71 c0_i32_27
  v72

def k0_cond2 (i : grid0.Coords) : BitVec 1 :=
  let arg1 : BitVec 32 := BitVec.ofNat 32 (i 1).val
  let c0_i32 : BitVec 32 := 0#32
  let v70 : BitVec 1 := Scalar.cmpi .eq arg1 c0_i32
  let v_true : BitVec 1 := 1#1
  let v73 : BitVec 1 := Scalar.xori v70 v_true
  let v74 : BitVec 32 := Scalar.extui v73
  let c0_i32_28 : BitVec 32 := 0#32
  let v75 : BitVec 1 := Scalar.cmpi .ne v74 c0_i32_28
  v75

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== RefNormBIdeal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 98
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S16384x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S1024, .f32⟩
  | .hbm, ⟨68, _⟩ => ⟨S16384x1024, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S16384x1024, .f32⟩
  | .hbm, ⟨73, _⟩ => ⟨S16384x1024, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S_, .f32⟩
  | .hbm, ⟨79, _⟩ => ⟨S16384, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S_, .f32⟩
  | .hbm, ⟨87, _⟩ => ⟨S16384, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S_, .f32⟩
  | .hbm, ⟨93, _⟩ => ⟨S16384, .f32⟩
  | .hbm, ⟨94, _⟩ => ⟨S16384x1024, .f32⟩
  | .hbm, ⟨95, _⟩ => ⟨S16384x1024, .f32⟩
  | .hbm, ⟨96, _⟩ => ⟨S1x1024, .f32⟩
  | .hbm, ⟨97, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v25_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v25_1 : Ref sig .tc := ⟨.hbm, 47, rfl⟩
abbrev main_v25_0 : Ref sig .tc := ⟨.hbm, 48, rfl⟩
abbrev main_v26 : Ref sig .tc := ⟨.hbm, 49, rfl⟩
abbrev main_v27 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v28 : Ref sig .tc := ⟨.hbm, 54, rfl⟩
abbrev main_cst_5 : Ref sig .tc := ⟨.hbm, 55, rfl⟩
abbrev main_v29 : Ref sig .tc := ⟨.hbm, 56, rfl⟩
abbrev main_v30 : Ref sig .tc := ⟨.hbm, 57, rfl⟩
abbrev main_cst_6 : Ref sig .tc := ⟨.hbm, 58, rfl⟩
abbrev main_v31 : Ref sig .tc := ⟨.hbm, 59, rfl⟩
abbrev main_v32 : Ref sig .tc := ⟨.hbm, 60, rfl⟩
abbrev main_cst_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_8 : Ref sig .tc := ⟨.hbm, 66, rfl⟩
abbrev main_v37 : Ref sig .tc := ⟨.hbm, 67, rfl⟩
abbrev main_v38 : Ref sig .tc := ⟨.hbm, 68, rfl⟩
abbrev main_cst_9 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_10 : Ref sig .tc := ⟨.hbm, 75, rfl⟩
abbrev main_v44 : Ref sig .tc := ⟨.hbm, 76, rfl⟩
abbrev main_v45 : Ref sig .tc := ⟨.hbm, 77, rfl⟩
abbrev main_cst_11 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_12 : Ref sig .tc := ⟨.hbm, 86, rfl⟩
abbrev main_v53 : Ref sig .tc := ⟨.hbm, 87, rfl⟩
abbrev main_v54 : Ref sig .tc := ⟨.hbm, 88, rfl⟩
abbrev main_cst_13 : Ref sig .tc := ⟨.hbm, 89, rfl⟩
abbrev main_v55 : Ref sig .tc := ⟨.hbm, 90, rfl⟩
abbrev main_v56 : Ref sig .tc := ⟨.hbm, 91, rfl⟩
abbrev main_cst_14 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩

abbrev nD : Nat := 1
abbrev τ : Topo := Topo.v7x

variable {F : FTy → Type} [FloatOps F]
-- ==== RmsB.lean ====
abbrev S16384x1024 : Shape := ⟨2, ![16384, 1024]⟩
abbrev S1x1024 : Shape := ⟨2, ![1, 1024]⟩
abbrev S1024x2816 : Shape := ⟨2, ![1024, 2816]⟩
abbrev S16384x2816 : Shape := ⟨2, ![16384, 2816]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 25
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S16384x2816, .f32⟩
  | .hbm, ⟨9, _⟩ => ⟨S16384x2816, .f32⟩
  | .hbm, ⟨10, _⟩ => ⟨S16384x1024, .f32⟩
  | .hbm, ⟨11, _⟩ => ⟨S16384x2816, .bf16⟩
  | .hbm, ⟨12, _⟩ => ⟨S1024x2816, .bf16⟩
  | .hbm, ⟨13, _⟩ => ⟨S16384x2816, .bf16⟩
  | .hbm, ⟨14, _⟩ => ⟨S1024x2816, .bf16⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .bf16⟩
  | .hbm, ⟨19, _⟩ => ⟨S16384x1024, .f32⟩
  | .hbm, ⟨20, _⟩ => ⟨S16384x1024, .bf16⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S1024x2816, .bf16⟩
  | .local _ .vmem, ⟨3, _⟩ => ⟨S256x2816, .bf16⟩
  | .local _ .vmem, ⟨4, _⟩ => ⟨S256x2816, .bf16⟩
  | .local _ .vmem, ⟨5, _⟩ => ⟨S1024x2816, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev main_v8_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem15_0 : DmaSem sig := 22

abbrev nD : Nat := 1
abbrev τ : Topo := Topo.v7x

variable {F : FTy → Type} [FloatOps F]

abbrev grid0 : Pipeline.Grid := ⟨2, ![1, 64], ![false, false]⟩

def k0_cond1 (i : grid0.Coords) : BitVec 1 :=
  let arg1 : BitVec 32 := BitVec.ofNat 32 (i 1).val
  let c0_i32 : BitVec 32 := 0#32
  let v69 : BitVec 1 := Scalar.cmpi .eq arg1 c0_i32
  let v70 : BitVec 32 := Scalar.extui v69
  let c0_i32_36 : BitVec 32 := 0#32
  let v71 : BitVec 1 := Scalar.cmpi .ne v70 c0_i32_36
  v71

def k0_cond2 (i : grid0.Coords) : BitVec 1 :=
  let arg1 : BitVec 32 := BitVec.ofNat 32 (i 1).val
  let c0_i32 : BitVec 32 := 0#32
  let v69 : BitVec 1 := Scalar.cmpi .eq arg1 c0_i32
  let v_true : BitVec 1 := 1#1
  let v72 : BitVec 1 := Scalar.xori v69 v_true
  let v73 : BitVec 32 := Scalar.extui v72
  let c0_i32_37 : BitVec 32 := 0#32
  let v74 : BitVec 1 := Scalar.cmpi .ne v73 c0_i32_37
  v74

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]
-- ==== RefRmsBIdeal.lean ====
abbrev S16384x1024 : Shape := ⟨2, ![16384, 1024]⟩
abbrev S1x1024 : Shape := ⟨2, ![1, 1024]⟩
abbrev S1024x2816 : Shape := ⟨2, ![1024, 2816]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 86
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S16384x2816, .f32⟩
  | .hbm, ⟨9, _⟩ => ⟨S16384x2816, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x2816, .f32⟩
  | .hbm, ⟨41, _⟩ => ⟨S16384x2816, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S16384x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S_, .f32⟩
  | .hbm, ⟨72, _⟩ => ⟨S16384, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== ConvB.lean ====
abbrev S16384x2048 : Shape := ⟨2, ![16384, 2048]⟩
abbrev S31x1024 : Shape := ⟨2, ![31, 1024]⟩
abbrev S16384x1024 : Shape := ⟨2, ![16384, 1024]⟩
abbrev S_ : Shape := ⟨0, ![]⟩
abbrev S32x1024 : Shape := ⟨2, ![32, 1024]⟩
abbrev S248x1024 : Shape := ⟨2, ![248, 1024]⟩
abbrev S1x1024 : Shape := ⟨2, ![1, 1024]⟩
abbrev S128x1024 : Shape := ⟨2, ![128, 1024]⟩
abbrev S128x2048 : Shape := ⟨2, ![128, 2048]⟩
abbrev S160x1024 : Shape := ⟨2, ![160, 1024]⟩
abbrev S7x152x1024 : Shape := ⟨3, ![7, 152, 1024]⟩
abbrev S1024 : Shape := ⟨1, ![1024]⟩
abbrev S152x1024 : Shape := ⟨2, ![152, 1024]⟩
abbrev S1x152x1024 : Shape := ⟨3, ![1, 152, 1024]⟩
abbrev S32x128 : Shape := ⟨2, ![32, 128]⟩
abbrev S1x128 : Shape := ⟨2, ![1, 128]⟩
abbrev S1x32x128 : Shape := ⟨3, ![1, 32, 128]⟩
abbrev S8x128 : Shape := ⟨2, ![8, 128]⟩
abbrev S4x8x128 : Shape := ⟨3, ![4, 8, 128]⟩
abbrev S31x8x1024 : Shape := ⟨3, ![31, 8, 1024]⟩

abbrev nBuf : Space → Nat
  | .hbm => 13
  | .vmem => 22
  | .smem => 0
  | _ => 0

abbrev bufTy : (tb : Table) → Fin (tcTables nBuf tb) → BufTy
  | .hbm, ⟨0, _⟩ => ⟨S16384x2048, .f32⟩
  | .hbm, ⟨1, _⟩ => ⟨S31x1024, .f32⟩
  | .hbm, ⟨2, _⟩ => ⟨S16384x1024, .f32⟩
  | .hbm, ⟨3, _⟩ => ⟨S16384x2048, .bf16⟩
  | .hbm, ⟨4, _⟩ => ⟨S_, .i32⟩
  | .hbm, ⟨5, _⟩ => ⟨S_, .f32⟩
  | .hbm, ⟨6, _⟩ => ⟨S32x1024, .f32⟩
  | .hbm, ⟨7, _⟩ => ⟨S16384x2048, .bf16⟩
  | .hbm, ⟨8, _⟩ => ⟨S248x1024, .f32⟩
  | .hbm, ⟨9, _⟩ => ⟨S1x1024, .f32⟩
  | .hbm, ⟨10, _⟩ => ⟨S31x8x1024, .f32⟩
  | .hbm, ⟨11, _⟩ => ⟨S_, .f32⟩
  | .hbm, ⟨12, _⟩ => ⟨S31x1024, .f32⟩
  | .local _ .vmem, ⟨0, _⟩ => ⟨S128x1024, .f32⟩
  | .local _ .vmem, ⟨1, _⟩ => ⟨S128x1024, .f32⟩
  | .local _ .vmem, ⟨2, _⟩ => ⟨S32x1024, .f32⟩
  | .local _ .vmem, ⟨3, _⟩ => ⟨S32x1024, .f32⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S32x1024, .bf16⟩
  | .local _ .vmem, ⟨9, _⟩ => ⟨S32x1024, .bf16⟩
  | .local _ .vmem, ⟨10, _⟩ => ⟨S32x1024, .bf16⟩
  | .local _ .vmem, ⟨11, _⟩ => ⟨S32x1024, .bf16⟩
  | .local _ .vmem, ⟨12, _⟩ => ⟨S32x1024, .f32⟩
  | .local _ .vmem, ⟨13, _⟩ => ⟨S128x2048, .bf16⟩
  | .local _ .vmem, ⟨14, _⟩ => ⟨S128x2048, .bf16⟩
  | .local _ .vmem, ⟨15, _⟩ => ⟨S248x1024, .f32⟩
  | .local _ .vmem, ⟨16, _⟩ => ⟨S1x1024, .f32⟩
  | .local _ .vmem, ⟨17, _⟩ => ⟨S160x1024, .f32⟩
  | .local _ .vmem, ⟨18, _⟩ => ⟨S160x1024, .f32⟩
  | .local _ .vmem, ⟨19, _⟩ => ⟨S128x1024, .f32⟩
  | .local _ .vmem, ⟨20, _⟩ => ⟨S7x152x1024, .f32⟩
  | .local _ .vmem, ⟨21, _⟩ => ⟨S7x152x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S248x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RefConvBIdeal.lean ====
abbrev S16384x2048 : Shape := ⟨2, ![16384, 2048]⟩
abbrev S31x1024 : Shape := ⟨2, ![31, 1024]⟩
abbrev S16384x1024 : Shape := ⟨2, ![16384, 1024]⟩
abbrev S_ : Shape := ⟨0, ![]⟩
abbrev S1024 : Shape := ⟨1, ![1024]⟩
abbrev S30x1024 : Shape := ⟨2, ![30, 1024]⟩
abbrev S16414x1024 : Shape := ⟨2, ![16414, 1024]⟩
abbrev S1x1024 : Shape := ⟨2, ![1, 1024]⟩

abbrev nBuf : Space → Nat
  | .hbm => 724
  | .vmem => 0
  | .smem => 0
  | _ => 0

abbrev hbmTy0_0 (i : Nat) : BufTy := match i % 128 with
  | 0 => ⟨S16384x2048, .f32⟩
  | 1 => ⟨S31x1024, .f32⟩
  | 2 => ⟨S16384x1024, .f32⟩
  | 3 => ⟨S_, .f32⟩
  | 4 => ⟨S1024, .f32⟩
  | 5 => ⟨S16384x1024, .f32⟩
  | 6 => ⟨S16384x1024, .f32⟩
  | 7 => ⟨S16384x1024, .f32⟩
  | 8 => ⟨S16384x1024, .f32⟩
  | 9 => ⟨S_, .f32⟩
  | 10 => ⟨S16384x1024, .f32⟩
  | 11 => ⟨S16384x1024, .f32⟩
  | 12 => ⟨S_, .f32⟩
  | 13 => ⟨S16384x1024, .f32⟩
  | 14 => ⟨S16384x1024, .f32⟩
  | 15 => ⟨S_, .f32⟩
  | 16 => ⟨S16384x1024, .f32⟩
  | 17 => ⟨S16384x1024, .f32⟩
  | 18 => ⟨S16384x1024, .f32⟩
  | 19 => ⟨S16384x1024, .f32⟩
  | 20 => ⟨S_, .f32⟩
  | 21 => ⟨S30x1024, .f32⟩
  | 22 => ⟨S16414x1024, .f32⟩
  | 23 => ⟨S_, .f32⟩
  | 24 => ⟨S30x1024, .f32⟩
  | 25 => ⟨S16384x1024, .f32⟩
  | 26 => ⟨S1x1024, .f32⟩
  | 27 => ⟨S1024, .f32⟩
  | 28 => ⟨S1x1024, .f32⟩
  | 29 => ⟨S16384x1024, .f32⟩
  | 30 => ⟨S16384x1024, .f32⟩
  | 31 => ⟨S_, .f32⟩
  | 32 => ⟨S16384x1024, .f32⟩
  | 33 => ⟨S16384x1024, .f32⟩
  | 34 => ⟨S16384x1024, .f32⟩
  | 35 => ⟨S1x1024, .f32⟩
  | 36 => ⟨S1024, .f32⟩
  | 37 => ⟨S1x1024, .f32⟩
  | 38 => ⟨S16384x1024, .f32⟩
  | 39 => ⟨S16384x1024, .f32⟩
  | 40 => ⟨S16384x1024, .f32⟩
  | 41 => ⟨S16384x1024, .f32⟩
  | 42 => ⟨S1x1024, .f32⟩
  | 43 => ⟨S1024, .f32⟩
  | 44 => ⟨S1x1024, .f32⟩
  | 45 => ⟨S16384x1024, .f32⟩
  | 46 => ⟨S16384x1024, .f32⟩
  | 47 => ⟨S16384x1024, .f32⟩
  | 48 => ⟨S16384x1024, .f32⟩
  | 49 => ⟨S1x1024, .f32⟩
  | 50 => ⟨S1024, .f32⟩
  | 51 => ⟨S1x1024, .f32⟩
  | 52 => ⟨S16384x1024, .f32⟩
  | 53 => ⟨S16384x1024, .f32⟩
  | 54 => ⟨S16384x1024, .f32⟩
  | 55 => ⟨S16384x1024, .f32⟩
  | 56 => ⟨S1x1024, .f32⟩
  | 57 => ⟨S1024, .f32⟩
  | 58 => ⟨S1x1024, .f32⟩
  | 59 => ⟨S16384x1024, .f32⟩
  | 60 => ⟨S16384x1024, .f32⟩
  | 61 => ⟨S16384x1024, .f32⟩
  | 62 => ⟨S16384x1024, .f32⟩
  | 63 => ⟨S1x1024, .f32⟩
  | 64 => ⟨S1024, .f32⟩
  | 65 => ⟨S1x1024, .f32⟩
  | 66 => ⟨S16384x1024, .f32⟩
  | 67 => ⟨S16384x1024, .f32⟩
  | 68 => ⟨S16384x1024, .f32⟩
  | 69 => ⟨S16384x1024, .f32⟩
  | 70 => ⟨S1x1024, .f32⟩
  | 71 => ⟨S1024, .f32⟩
  | 72 => ⟨S1x1024, .f32⟩
  | 73 => ⟨S16384x1024, .f32⟩
  | 74 => ⟨S16384x1024, .f32⟩
  | 75 => ⟨S16384x1024, .f32⟩
  | 76 => ⟨S16384x1024, .f32⟩
  | 77 => ⟨S1x1024, .f32⟩
  | 78 => ⟨S1024, .f32⟩
  | 79 => ⟨S1x1024, .f32⟩
  | 80 => ⟨S16384x1024, .f32⟩
  | 81 => ⟨S16384x1024, .f32⟩
  | 82 => ⟨S16384x1024, .f32⟩
  | 83 => ⟨S16384x1024, .f32⟩
  | 84 => ⟨S1x1024, .f32⟩
  | 85 => ⟨S1024, .f32⟩
  | 86 => ⟨S1x1024, .f32⟩
  | 87 => ⟨S16384x1024, .f32⟩
  | 88 => ⟨S16384x1024, .f32⟩
  | 89 => ⟨S16384x1024, .f32⟩
  | 90 => ⟨S16384x1024, .f32⟩
  | 91 => ⟨S1x1024, .f32⟩
  | 92 => ⟨S1024, .f32⟩
  | 93 => ⟨S1x1024, .f32⟩
  | 94 => ⟨S16384x1024, .f32⟩
  | 95 => ⟨S16384x1024, .f32⟩
  | 96 => ⟨S16384x1024, .f32⟩
  | 97 => ⟨S16384x1024, .f32⟩
  | 98 => ⟨S1x1024, .f32⟩
  | 99 => ⟨S1024, .f32⟩
  | 100 => ⟨S1x1024, .f32⟩
  | 101 => ⟨S16384x1024, .f32⟩
  | 102 => ⟨S16384x1024, .f32⟩
  | 103 => ⟨S16384x1024, .f32⟩
  | 104 => ⟨S16384x1024, .f32⟩
  | 105 => ⟨S1x1024, .f32⟩
  | 106 => ⟨S1024, .f32⟩
  | 107 => ⟨S1x1024, .f32⟩
  | 108 => ⟨S16384x1024, .f32⟩
  | 109 => ⟨S16384x1024, .f32⟩
  | 110 => ⟨S16384x1024, .f32⟩
  | 111 => ⟨S16384x1024, .f32⟩
  | 112 => ⟨S1x1024, .f32⟩
  | 113 => ⟨S1024, .f32⟩
  | 114 => ⟨S1x1024, .f32⟩
  | 115 => ⟨S16384x1024, .f32⟩
  | 116 => ⟨S16384x1024, .f32⟩
  | 117 => ⟨S16384x1024, .f32⟩
  | 118 => ⟨S16384x1024, .f32⟩
  | 119 => ⟨S1x1024, .f32⟩
  | 120 => ⟨S1024, .f32⟩
  | 121 => ⟨S1x1024, .f32⟩
  | 122 => ⟨S16384x1024, .f32⟩
  | 123 => ⟨S16384x1024, .f32⟩
  | 124 => ⟨S16384x1024, .f32⟩
  | 125 => ⟨S16384x1024, .f32⟩
  | 126 => ⟨S1x1024, .f32⟩
  | 127 => ⟨S1024, .f32⟩
  | _ => ⟨S16384x2048, .f32⟩

abbrev hbmTy0_1 (i : Nat) : BufTy := match i % 128 with
  | 0 => ⟨S1x1024, .f32⟩
  | 1 => ⟨S16384x1024, .f32⟩
  | 2 => ⟨S16384x1024, .f32⟩
  | 3 => ⟨S16384x1024, .f32⟩
  | 4 => ⟨S16384x1024, .f32⟩
  | 5 => ⟨S1x1024, .f32⟩
  | 6 => ⟨S1024, .f32⟩
  | 7 => ⟨S1x1024, .f32⟩
  | 8 => ⟨S16384x1024, .f32⟩
  | 9 => ⟨S16384x1024, .f32⟩
  | 10 => ⟨S16384x1024, .f32⟩
  | 11 => ⟨S16384x1024, .f32⟩
  | 12 => ⟨S1x1024, .f32⟩
  | 13 => ⟨S1024, .f32⟩
  | 14 => ⟨S1x1024, .f32⟩
  | 15 => ⟨S16384x1024, .f32⟩
  | 16 => ⟨S16384x1024, .f32⟩
  | 17 => ⟨S16384x1024, .f32⟩
  | 18 => ⟨S16384x1024, .f32⟩
  | 19 => ⟨S1x1024, .f32⟩
  | 20 => ⟨S1024, .f32⟩
  | 21 => ⟨S1x1024, .f32⟩
  | 22 => ⟨S16384x1024, .f32⟩
  | 23 => ⟨S16384x1024, .f32⟩
  | 24 => ⟨S16384x1024, .f32⟩
  | 25 => ⟨S16384x1024, .f32⟩
  | 26 => ⟨S1x1024, .f32⟩
  | 27 => ⟨S1024, .f32⟩
  | 28 => ⟨S1x1024, .f32⟩
  | 29 => ⟨S16384x1024, .f32⟩
  | 30 => ⟨S16384x1024, .f32⟩
  | 31 => ⟨S16384x1024, .f32⟩
  | 32 => ⟨S16384x1024, .f32⟩
  | 33 => ⟨S1x1024, .f32⟩
  | 34 => ⟨S1024, .f32⟩
  | 35 => ⟨S1x1024, .f32⟩
  | 36 => ⟨S16384x1024, .f32⟩
  | 37 => ⟨S16384x1024, .f32⟩
  | 38 => ⟨S16384x1024, .f32⟩
  | 39 => ⟨S16384x1024, .f32⟩
  | 40 => ⟨S1x1024, .f32⟩
  | 41 => ⟨S1024, .f32⟩
  | 42 => ⟨S1x1024, .f32⟩
  | 43 => ⟨S16384x1024, .f32⟩
  | 44 => ⟨S16384x1024, .f32⟩
  | 45 => ⟨S16384x1024, .f32⟩
  | 46 => ⟨S16384x1024, .f32⟩
  | 47 => ⟨S1x1024, .f32⟩
  | 48 => ⟨S1024, .f32⟩
  | 49 => ⟨S1x1024, .f32⟩
  | 50 => ⟨S16384x1024, .f32⟩
  | 51 => ⟨S16384x1024, .f32⟩
  | 52 => ⟨S16384x1024, .f32⟩
  | 53 => ⟨S16384x1024, .f32⟩
  | 54 => ⟨S1x1024, .f32⟩
  | 55 => ⟨S1024, .f32⟩
  | 56 => ⟨S1x1024, .f32⟩
  | 57 => ⟨S16384x1024, .f32⟩
  | 58 => ⟨S16384x1024, .f32⟩
  | 59 => ⟨S16384x1024, .f32⟩
  | 60 => ⟨S16384x1024, .f32⟩
  | 61 => ⟨S1x1024, .f32⟩
  | 62 => ⟨S1024, .f32⟩
  | 63 => ⟨S1x1024, .f32⟩
  | 64 => ⟨S16384x1024, .f32⟩
  | 65 => ⟨S16384x1024, .f32⟩
  | 66 => ⟨S16384x1024, .f32⟩
  | 67 => ⟨S16384x1024, .f32⟩
  | 68 => ⟨S1x1024, .f32⟩
  | 69 => ⟨S1024, .f32⟩
  | 70 => ⟨S1x1024, .f32⟩
  | 71 => ⟨S16384x1024, .f32⟩
  | 72 => ⟨S16384x1024, .f32⟩
  | 73 => ⟨S16384x1024, .f32⟩
  | 74 => ⟨S16384x1024, .f32⟩
  | 75 => ⟨S1x1024, .f32⟩
  | 76 => ⟨S1024, .f32⟩
  | 77 => ⟨S1x1024, .f32⟩
  | 78 => ⟨S16384x1024, .f32⟩
  | 79 => ⟨S16384x1024, .f32⟩
  | 80 => ⟨S16384x1024, .f32⟩
  | 81 => ⟨S16384x1024, .f32⟩
  | 82 => ⟨S1x1024, .f32⟩
  | 83 => ⟨S1024, .f32⟩
  | 84 => ⟨S1x1024, .f32⟩
  | 85 => ⟨S16384x1024, .f32⟩
  | 86 => ⟨S16384x1024, .f32⟩
  | 87 => ⟨S16384x1024, .f32⟩
  | 88 => ⟨S16384x1024, .f32⟩
  | 89 => ⟨S1x1024, .f32⟩
  | 90 => ⟨S1024, .f32⟩
  | 91 => ⟨S1x1024, .f32⟩
  | 92 => ⟨S16384x1024, .f32⟩
  | 93 => ⟨S16384x1024, .f32⟩
  | 94 => ⟨S16384x1024, .f32⟩
  | 95 => ⟨S16384x1024, .f32⟩
  | 96 => ⟨S1x1024, .f32⟩
  | 97 => ⟨S1024, .f32⟩
  | 98 => ⟨S1x1024, .f32⟩
  | 99 => ⟨S16384x1024, .f32⟩
  | 100 => ⟨S16384x1024, .f32⟩
  | 101 => ⟨S16384x1024, .f32⟩
  | 102 => ⟨S16384x1024, .f32⟩
  | 103 => ⟨S1x1024, .f32⟩
  | 104 => ⟨S1024, .f32⟩
  | 105 => ⟨S1x1024, .f32⟩
  | 106 => ⟨S16384x1024, .f32⟩
  | 107 => ⟨S16384x1024, .f32⟩
  | 108 => ⟨S16384x1024, .f32⟩
  | 109 => ⟨S16384x1024, .f32⟩
  | 110 => ⟨S1x1024, .f32⟩
  | 111 => ⟨S1024, .f32⟩
  | 112 => ⟨S1x1024, .f32⟩
  | 113 => ⟨S16384x1024, .f32⟩
  | 114 => ⟨S16384x1024, .f32⟩
  | 115 => ⟨S16384x1024, .f32⟩
  | 116 => ⟨S1x1024, .f32⟩
  | 117 => ⟨S16384x1024, .f32⟩
  | 118 => ⟨S16384x1024, .f32⟩
  | 119 => ⟨S16384x1024, .f32⟩
  | 120 => ⟨S_, .f32⟩
  | 121 => ⟨S1024, .f32⟩
  | 122 => ⟨S1x1024, .f32⟩
  | 123 => ⟨S_, .f32⟩
  | 124 => ⟨S1024, .f32⟩
  | 125 => ⟨S16384x1024, .f32⟩
  | 126 => ⟨S_, .f32⟩
  | 127 => ⟨S1024, .f32⟩
  | _ => ⟨S16384x2048, .f32⟩

abbrev hbmTy0_2 (i : Nat) : BufTy := match i % 128 with
  | 0 => ⟨S1x1024, .f32⟩
  | 1 => ⟨S16384x1024, .f32⟩
  | 2 => ⟨S16384x1024, .f32⟩
  | 3 => ⟨S_, .f32⟩
  | 4 => ⟨S1024, .f32⟩
  | 5 => ⟨S1x1024, .f32⟩
  | 6 => ⟨S_, .f32⟩
  | 7 => ⟨S31x1024, .f32⟩
  | 8 => ⟨S_, .f32⟩
  | 9 => ⟨S16414x1024, .f32⟩
  | 10 => ⟨S16384x1024, .f32⟩
  | 11 => ⟨S_, .f32⟩
  | 12 => ⟨S1024, .f32⟩
  | 13 => ⟨S1x1024, .f32⟩
  | 14 => ⟨S16384x1024, .f32⟩
  | 15 => ⟨S16384x1024, .f32⟩
  | 16 => ⟨S_, .f32⟩
  | 17 => ⟨S1024, .f32⟩
  | 18 => ⟨S1x1024, .f32⟩
  | 19 => ⟨S_, .f32⟩
  | 20 => ⟨S31x1024, .f32⟩
  | 21 => ⟨S31x1024, .f32⟩
  | 22 => ⟨S_, .f32⟩
  | 23 => ⟨S16414x1024, .f32⟩
  | 24 => ⟨S16414x1024, .f32⟩
  | 25 => ⟨S16384x1024, .f32⟩
  | 26 => ⟨S_, .f32⟩
  | 27 => ⟨S1024, .f32⟩
  | 28 => ⟨S1x1024, .f32⟩
  | 29 => ⟨S16384x1024, .f32⟩
  | 30 => ⟨S16384x1024, .f32⟩
  | 31 => ⟨S_, .f32⟩
  | 32 => ⟨S1024, .f32⟩
  | 33 => ⟨S1x1024, .f32⟩
  | 34 => ⟨S_, .f32⟩
  | 35 => ⟨S31x1024, .f32⟩
  | 36 => ⟨S31x1024, .f32⟩
  | 37 => ⟨S_, .f32⟩
  | 38 => ⟨S16414x1024, .f32⟩
  | 39 => ⟨S16414x1024, .f32⟩
  | 40 => ⟨S16384x1024, .f32⟩
  | 41 => ⟨S_, .f32⟩
  | 42 => ⟨S1024, .f32⟩
  | 43 => ⟨S1x1024, .f32⟩
  | 44 => ⟨S16384x1024, .f32⟩
  | 45 => ⟨S16384x1024, .f32⟩
  | 46 => ⟨S_, .f32⟩
  | 47 => ⟨S1024, .f32⟩
  | 48 => ⟨S1x1024, .f32⟩
  | 49 => ⟨S_, .f32⟩
  | 50 => ⟨S31x1024, .f32⟩
  | 51 => ⟨S31x1024, .f32⟩
  | 52 => ⟨S_, .f32⟩
  | 53 => ⟨S16414x1024, .f32⟩
  | 54 => ⟨S16414x1024, .f32⟩
  | 55 => ⟨S16384x1024, .f32⟩
  | 56 => ⟨S_, .f32⟩
  | 57 => ⟨S1024, .f32⟩
  | 58 => ⟨S1x1024, .f32⟩
  | 59 => ⟨S16384x1024, .f32⟩
  | 60 => ⟨S16384x1024, .f32⟩
  | 61 => ⟨S_, .f32⟩
  | 62 => ⟨S1024, .f32⟩
  | 63 => ⟨S1x1024, .f32⟩
  | 64 => ⟨S_, .f32⟩
  | 65 => ⟨S31x1024, .f32⟩
  | 66 => ⟨S31x1024, .f32⟩
  | 67 => ⟨S_, .f32⟩
  | 68 => ⟨S16414x1024, .f32⟩
  | 69 => ⟨S16414x1024, .f32⟩
  | 70 => ⟨S16384x1024, .f32⟩
  | 71 => ⟨S_, .f32⟩
  | 72 => ⟨S1024, .f32⟩
  | 73 => ⟨S1x1024, .f32⟩
  | 74 => ⟨S16384x1024, .f32⟩
  | 75 => ⟨S16384x1024, .f32⟩
  | 76 => ⟨S_, .f32⟩
  | 77 => ⟨S1024, .f32⟩
  | 78 => ⟨S1x1024, .f32⟩
  | 79 => ⟨S_, .f32⟩
  | 80 => ⟨S31x1024, .f32⟩
  | 81 => ⟨S31x1024, .f32⟩
  | 82 => ⟨S_, .f32⟩
  | 83 => ⟨S16414x1024, .f32⟩
  | 84 => ⟨S16414x1024, .f32⟩
  | 85 => ⟨S16384x1024, .f32⟩
  | 86 => ⟨S_, .f32⟩
  | 87 => ⟨S1024, .f32⟩
  | 88 => ⟨S1x1024, .f32⟩
  | 89 => ⟨S16384x1024, .f32⟩
  | 90 => ⟨S16384x1024, .f32⟩
  | 91 => ⟨S_, .f32⟩
  | 92 => ⟨S1024, .f32⟩
  | 93 => ⟨S1x1024, .f32⟩
  | 94 => ⟨S_, .f32⟩
  | 95 => ⟨S31x1024, .f32⟩
  | 96 => ⟨S31x1024, .f32⟩
  | 97 => ⟨S_, .f32⟩
  | 98 => ⟨S16414x1024, .f32⟩
  | 99 => ⟨S16414x1024, .f32⟩
  | 100 => ⟨S16384x1024, .f32⟩
  | 101 => ⟨S_, .f32⟩
  | 102 => ⟨S1024, .f32⟩
  | 103 => ⟨S1x1024, .f32⟩
  | 104 => ⟨S16384x1024, .f32⟩
  | 105 => ⟨S16384x1024, .f32⟩
  | 106 => ⟨S_, .f32⟩
  | 107 => ⟨S1024, .f32⟩
  | 108 => ⟨S1x1024, .f32⟩
  | 109 => ⟨S_, .f32⟩
  | 110 => ⟨S31x1024, .f32⟩
  | 111 => ⟨S31x1024, .f32⟩
  | 112 => ⟨S_, .f32⟩
  | 113 => ⟨S16414x1024, .f32⟩
  | 114 => ⟨S16414x1024, .f32⟩
  | 115 => ⟨S16384x1024, .f32⟩
  | 116 => ⟨S_, .f32⟩
  | 117 => ⟨S1024, .f32⟩
  | 118 => ⟨S1x1024, .f32⟩
  | 119 => ⟨S16384x1024, .f32⟩
  | 120 => ⟨S16384x1024, .f32⟩
  | 121 => ⟨S_, .f32⟩
  | 122 => ⟨S1024, .f32⟩
  | 123 => ⟨S1x1024, .f32⟩
  | 124 => ⟨S_, .f32⟩
  | 125 => ⟨S31x1024, .f32⟩
  | 126 => ⟨S31x1024, .f32⟩
  | 127 => ⟨S_, .f32⟩
  | _ => ⟨S16384x2048, .f32⟩

abbrev hbmTy0_3 (i : Nat) : BufTy := match i % 128 with
  | 0 => ⟨S16414x1024, .f32⟩
  | 1 => ⟨S16414x1024, .f32⟩
  | 2 => ⟨S16384x1024, .f32⟩
  | 3 => ⟨S_, .f32⟩
  | 4 => ⟨S1024, .f32⟩
  | 5 => ⟨S1x1024, .f32⟩
  | 6 => ⟨S16384x1024, .f32⟩
  | 7 => ⟨S16384x1024, .f32⟩
  | 8 => ⟨S_, .f32⟩
  | 9 => ⟨S1024, .f32⟩
  | 10 => ⟨S1x1024, .f32⟩
  | 11 => ⟨S_, .f32⟩
  | 12 => ⟨S31x1024, .f32⟩
  | 13 => ⟨S31x1024, .f32⟩
  | 14 => ⟨S_, .f32⟩
  | 15 => ⟨S16414x1024, .f32⟩
  | 16 => ⟨S16414x1024, .f32⟩
  | 17 => ⟨S16384x1024, .f32⟩
  | 18 => ⟨S_, .f32⟩
  | 19 => ⟨S1024, .f32⟩
  | 20 => ⟨S1x1024, .f32⟩
  | 21 => ⟨S16384x1024, .f32⟩
  | 22 => ⟨S16384x1024, .f32⟩
  | 23 => ⟨S_, .f32⟩
  | 24 => ⟨S1024, .f32⟩
  | 25 => ⟨S1x1024, .f32⟩
  | 26 => ⟨S_, .f32⟩
  | 27 => ⟨S31x1024, .f32⟩
  | 28 => ⟨S31x1024, .f32⟩
  | 29 => ⟨S_, .f32⟩
  | 30 => ⟨S16414x1024, .f32⟩
  | 31 => ⟨S16414x1024, .f32⟩
  | 32 => ⟨S16384x1024, .f32⟩
  | 33 => ⟨S_, .f32⟩
  | 34 => ⟨S1024, .f32⟩
  | 35 => ⟨S1x1024, .f32⟩
  | 36 => ⟨S16384x1024, .f32⟩
  | 37 => ⟨S16384x1024, .f32⟩
  | 38 => ⟨S_, .f32⟩
  | 39 => ⟨S1024, .f32⟩
  | 40 => ⟨S1x1024, .f32⟩
  | 41 => ⟨S_, .f32⟩
  | 42 => ⟨S31x1024, .f32⟩
  | 43 => ⟨S31x1024, .f32⟩
  | 44 => ⟨S_, .f32⟩
  | 45 => ⟨S16414x1024, .f32⟩
  | 46 => ⟨S16414x1024, .f32⟩
  | 47 => ⟨S16384x1024, .f32⟩
  | 48 => ⟨S_, .f32⟩
  | 49 => ⟨S1024, .f32⟩
  | 50 => ⟨S1x1024, .f32⟩
  | 51 => ⟨S16384x1024, .f32⟩
  | 52 => ⟨S16384x1024, .f32⟩
  | 53 => ⟨S_, .f32⟩
  | 54 => ⟨S1024, .f32⟩
  | 55 => ⟨S1x1024, .f32⟩
  | 56 => ⟨S_, .f32⟩
  | 57 => ⟨S31x1024, .f32⟩
  | 58 => ⟨S31x1024, .f32⟩
  | 59 => ⟨S_, .f32⟩
  | 60 => ⟨S16414x1024, .f32⟩
  | 61 => ⟨S16414x1024, .f32⟩
  | 62 => ⟨S16384x1024, .f32⟩
  | 63 => ⟨S_, .f32⟩
  | 64 => ⟨S1024, .f32⟩
  | 65 => ⟨S1x1024, .f32⟩
  | 66 => ⟨S16384x1024, .f32⟩
  | 67 => ⟨S16384x1024, .f32⟩
  | 68 => ⟨S_, .f32⟩
  | 69 => ⟨S1024, .f32⟩
  | 70 => ⟨S1x1024, .f32⟩
  | 71 => ⟨S_, .f32⟩
  | 72 => ⟨S31x1024, .f32⟩
  | 73 => ⟨S31x1024, .f32⟩
  | 74 => ⟨S_, .f32⟩
  | 75 => ⟨S16414x1024, .f32⟩
  | 76 => ⟨S16414x1024, .f32⟩
  | 77 => ⟨S16384x1024, .f32⟩
  | 78 => ⟨S_, .f32⟩
  | 79 => ⟨S1024, .f32⟩
  | 80 => ⟨S1x1024, .f32⟩
  | 81 => ⟨S16384x1024, .f32⟩
  | 82 => ⟨S16384x1024, .f32⟩
  | 83 => ⟨S_, .f32⟩
  | 84 => ⟨S1024, .f32⟩
  | 85 => ⟨S1x1024, .f32⟩
  | 86 => ⟨S_, .f32⟩
  | 87 => ⟨S31x1024, .f32⟩
  | 88 => ⟨S31x1024, .f32⟩
  | 89 => ⟨S_, .f32⟩
  | 90 => ⟨S16414x1024, .f32⟩
  | 91 => ⟨S16414x1024, .f32⟩
  | 92 => ⟨S16384x1024, .f32⟩
  | 93 => ⟨S_, .f32⟩
  | 94 => ⟨S1024, .f32⟩
  | 95 => ⟨S1x1024, .f32⟩
  | 96 => ⟨S16384x1024, .f32⟩
  | 97 => ⟨S16384x1024, .f32⟩
  | 98 => ⟨S_, .f32⟩
  | 99 => ⟨S1024, .f32⟩
  | 100 => ⟨S1x1024, .f32⟩
  | 101 => ⟨S_, .f32⟩
  | 102 => ⟨S31x1024, .f32⟩
  | 103 => ⟨S31x1024, .f32⟩
  | 104 => ⟨S_, .f32⟩
  | 105 => ⟨S16414x1024, .f32⟩
  | 106 => ⟨S16414x1024, .f32⟩
  | 107 => ⟨S16384x1024, .f32⟩
  | 108 => ⟨S_, .f32⟩
  | 109 => ⟨S1024, .f32⟩
  | 110 => ⟨S1x1024, .f32⟩
  | 111 => ⟨S16384x1024, .f32⟩
  | 112 => ⟨S16384x1024, .f32⟩
  | 113 => ⟨S_, .f32⟩
  | 114 => ⟨S1024, .f32⟩
  | 115 => ⟨S1x1024, .f32⟩
  | 116 => ⟨S_, .f32⟩
  | 117 => ⟨S31x1024, .f32⟩
  | 118 => ⟨S31x1024, .f32⟩
  | 119 => ⟨S_, .f32⟩
  | 120 => ⟨S16414x1024, .f32⟩
  | 121 => ⟨S16414x1024, .f32⟩
  | 122 => ⟨S16384x1024, .f32⟩
  | 123 => ⟨S_, .f32⟩
  | 124 => ⟨S1024, .f32⟩
  | 125 => ⟨S1x1024, .f32⟩
  | 126 => ⟨S16384x1024, .f32⟩
  | 127 => ⟨S16384x1024, .f32⟩
  | _ => ⟨S16384x2048, .f32⟩

abbrev hbmTy0_4 (i : Nat) : BufTy := match i % 128 with
  | 0 => ⟨S_, .f32⟩
  | 1 => ⟨S1024, .f32⟩
  | 2 => ⟨S1x1024, .f32⟩
  | 3 => ⟨S_, .f32⟩
  | 4 => ⟨S31x1024, .f32⟩
  | 5 => ⟨S31x1024, .f32⟩
  | 6 => ⟨S_, .f32⟩
  | 7 => ⟨S16414x1024, .f32⟩
  | 8 => ⟨S16414x1024, .f32⟩
  | 9 => ⟨S16384x1024, .f32⟩
  | 10 => ⟨S_, .f32⟩
  | 11 => ⟨S1024, .f32⟩
  | 12 => ⟨S1x1024, .f32⟩
  | 13 => ⟨S16384x1024, .f32⟩
  | 14 => ⟨S16384x1024, .f32⟩
  | 15 => ⟨S_, .f32⟩
  | 16 => ⟨S1024, .f32⟩
  | 17 => ⟨S1x1024, .f32⟩
  | 18 => ⟨S_, .f32⟩
  | 19 => ⟨S31x1024, .f32⟩
  | 20 => ⟨S31x1024, .f32⟩
  | 21 => ⟨S_, .f32⟩
  | 22 => ⟨S16414x1024, .f32⟩
  | 23 => ⟨S16414x1024, .f32⟩
  | 24 => ⟨S16384x1024, .f32⟩
  | 25 => ⟨S_, .f32⟩
  | 26 => ⟨S1024, .f32⟩
  | 27 => ⟨S1x1024, .f32⟩
  | 28 => ⟨S16384x1024, .f32⟩
  | 29 => ⟨S16384x1024, .f32⟩
  | 30 => ⟨S_, .f32⟩
  | 31 => ⟨S1024, .f32⟩
  | 32 => ⟨S1x1024, .f32⟩
  | 33 => ⟨S_, .f32⟩
  | 34 => ⟨S31x1024, .f32⟩
  | 35 => ⟨S31x1024, .f32⟩
  | 36 => ⟨S_, .f32⟩
  | 37 => ⟨S16414x1024, .f32⟩
  | 38 => ⟨S16414x1024, .f32⟩
  | 39 => ⟨S16384x1024, .f32⟩
  | 40 => ⟨S_, .f32⟩
  | 41 => ⟨S1024, .f32⟩
  | 42 => ⟨S1x1024, .f32⟩
  | 43 => ⟨S16384x1024, .f32⟩
  | 44 => ⟨S16384x1024, .f32⟩
  | 45 => ⟨S_, .f32⟩
  | 46 => ⟨S1024, .f32⟩
  | 47 => ⟨S1x1024, .f32⟩
  | 48 => ⟨S_, .f32⟩
  | 49 => ⟨S31x1024, .f32⟩
  | 50 => ⟨S31x1024, .f32⟩
  | 51 => ⟨S_, .f32⟩
  | 52 => ⟨S16414x1024, .f32⟩
  | 53 => ⟨S16414x1024, .f32⟩
  | 54 => ⟨S16384x1024, .f32⟩
  | 55 => ⟨S_, .f32⟩
  | 56 => ⟨S1024, .f32⟩
  | 57 => ⟨S1x1024, .f32⟩
  | 58 => ⟨S16384x1024, .f32⟩
  | 59 => ⟨S16384x1024, .f32⟩
  | 60 => ⟨S_, .f32⟩
  | 61 => ⟨S1024, .f32⟩
  | 62 => ⟨S1x1024, .f32⟩
  | 63 => ⟨S_, .f32⟩
  | 64 => ⟨S31x1024, .f32⟩
  | 65 => ⟨S31x1024, .f32⟩
  | 66 => ⟨S_, .f32⟩
  | 67 => ⟨S16414x1024, .f32⟩
  | 68 => ⟨S16414x1024, .f32⟩
  | 69 => ⟨S16384x1024, .f32⟩
  | 70 => ⟨S_, .f32⟩
  | 71 => ⟨S1024, .f32⟩
  | 72 => ⟨S1x1024, .f32⟩
  | 73 => ⟨S16384x1024, .f32⟩
  | 74 => ⟨S16384x1024, .f32⟩
  | 75 => ⟨S_, .f32⟩
  | 76 => ⟨S1024, .f32⟩
  | 77 => ⟨S1x1024, .f32⟩
  | 78 => ⟨S_, .f32⟩
  | 79 => ⟨S31x1024, .f32⟩
  | 80 => ⟨S31x1024, .f32⟩
  | 81 => ⟨S_, .f32⟩
  | 82 => ⟨S16414x1024, .f32⟩
  | 83 => ⟨S16414x1024, .f32⟩
  | 84 => ⟨S16384x1024, .f32⟩
  | 85 => ⟨S_, .f32⟩
  | 86 => ⟨S1024, .f32⟩
  | 87 => ⟨S1x1024, .f32⟩
  | 88 => ⟨S16384x1024, .f32⟩
  | 89 => ⟨S16384x1024, .f32⟩
  | 90 => ⟨S_, .f32⟩
  | 91 => ⟨S1024, .f32⟩
  | 92 => ⟨S1x1024, .f32⟩
  | 93 => ⟨S_, .f32⟩
  | 94 => ⟨S31x1024, .f32⟩
  | 95 => ⟨S31x1024, .f32⟩
  | 96 => ⟨S_, .f32⟩
  | 97 => ⟨S16414x1024, .f32⟩
  | 98 => ⟨S16414x1024, .f32⟩
  | 99 => ⟨S16384x1024, .f32⟩
  | 100 => ⟨S_, .f32⟩
  | 101 => ⟨S1024, .f32⟩
  | 102 => ⟨S1x1024, .f32⟩
  | 103 => ⟨S16384x1024, .f32⟩
  | 104 => ⟨S16384x1024, .f32⟩
  | 105 => ⟨S_, .f32⟩
  | 106 => ⟨S1024, .f32⟩
  | 107 => ⟨S1x1024, .f32⟩
  | 108 => ⟨S_, .f32⟩
  | 109 => ⟨S31x1024, .f32⟩
  | 110 => ⟨S31x1024, .f32⟩
  | 111 => ⟨S_, .f32⟩
  | 112 => ⟨S16414x1024, .f32⟩
  | 113 => ⟨S16414x1024, .f32⟩
  | 114 => ⟨S16384x1024, .f32⟩
  | 115 => ⟨S_, .f32⟩
  | 116 => ⟨S1024, .f32⟩
  | 117 => ⟨S1x1024, .f32⟩
  | 118 => ⟨S16384x1024, .f32⟩
  | 119 => ⟨S16384x1024, .f32⟩
  | 120 => ⟨S_, .f32⟩
  | 121 => ⟨S1024, .f32⟩
  | 122 => ⟨S1x1024, .f32⟩
  | 123 => ⟨S_, .f32⟩
  | 124 => ⟨S31x1024, .f32⟩
  | 125 => ⟨S31x1024, .f32⟩
  | 126 => ⟨S_, .f32⟩
  | 127 => ⟨S16414x1024, .f32⟩
  | _ => ⟨S16384x2048, .f32⟩

abbrev hbmTy0_5 (i : Nat) : BufTy := match i % 128 with
  | 0 => ⟨S16414x1024, .f32⟩
  | 1 => ⟨S16384x1024, .f32⟩
  | 2 => ⟨S_, .f32⟩
  | 3 => ⟨S1024, .f32⟩
  | 4 => ⟨S1x1024, .f32⟩
  | 5 => ⟨S16384x1024, .f32⟩
  | 6 => ⟨S16384x1024, .f32⟩
  | 7 => ⟨S_, .f32⟩
  | 8 => ⟨S1024, .f32⟩
  | 9 => ⟨S1x1024, .f32⟩
  | 10 => ⟨S_, .f32⟩
  | 11 => ⟨S31x1024, .f32⟩
  | 12 => ⟨S31x1024, .f32⟩
  | 13 => ⟨S_, .f32⟩
  | 14 => ⟨S16414x1024, .f32⟩
  | 15 => ⟨S16414x1024, .f32⟩
  | 16 => ⟨S16384x1024, .f32⟩
  | 17 => ⟨S_, .f32⟩
  | 18 => ⟨S1024, .f32⟩
  | 19 => ⟨S1x1024, .f32⟩
  | 20 => ⟨S16384x1024, .f32⟩
  | 21 => ⟨S16384x1024, .f32⟩
  | 22 => ⟨S_, .f32⟩
  | 23 => ⟨S1024, .f32⟩
  | 24 => ⟨S1x1024, .f32⟩
  | 25 => ⟨S_, .f32⟩
  | 26 => ⟨S31x1024, .f32⟩
  | 27 => ⟨S31x1024, .f32⟩
  | 28 => ⟨S_, .f32⟩
  | 29 => ⟨S16414x1024, .f32⟩
  | 30 => ⟨S16414x1024, .f32⟩
  | 31 => ⟨S16384x1024, .f32⟩
  | 32 => ⟨S_, .f32⟩
  | 33 => ⟨S1024, .f32⟩
  | 34 => ⟨S1x1024, .f32⟩
  | 35 => ⟨S16384x1024, .f32⟩
  | 36 => ⟨S16384x1024, .f32⟩
  | 37 => ⟨S_, .f32⟩
  | 38 => ⟨S1024, .f32⟩
  | 39 => ⟨S1x1024, .f32⟩
  | 40 => ⟨S_, .f32⟩
  | 41 => ⟨S31x1024, .f32⟩
  | 42 => ⟨S31x1024, .f32⟩
  | 43 => ⟨S_, .f32⟩
  | 44 => ⟨S16414x1024, .f32⟩
  | 45 => ⟨S16414x1024, .f32⟩
  | 46 => ⟨S16384x1024, .f32⟩
  | 47 => ⟨S_, .f32⟩
  | 48 => ⟨S1024, .f32⟩
  | 49 => ⟨S1x1024, .f32⟩
  | 50 => ⟨S16384x1024, .f32⟩
  | 51 => ⟨S16384x1024, .f32⟩
  | 52 => ⟨S_, .f32⟩
  | 53 => ⟨S1024, .f32⟩
  | 54 => ⟨S1x1024, .f32⟩
  | 55 => ⟨S_, .f32⟩
  | 56 => ⟨S31x1024, .f32⟩
  | 57 => ⟨S31x1024, .f32⟩
  | 58 => ⟨S_, .f32⟩
  | 59 => ⟨S16414x1024, .f32⟩
  | 60 => ⟨S16414x1024, .f32⟩
  | 61 => ⟨S16384x1024, .f32⟩
  | 62 => ⟨S_, .f32⟩
  | 63 => ⟨S1024, .f32⟩
  | 64 => ⟨S1x1024, .f32⟩
  | 65 => ⟨S16384x1024, .f32⟩
  | 66 => ⟨S16384x1024, .f32⟩
  | 67 => ⟨S_, .f32⟩
  | 68 => ⟨S1024, .f32⟩
  | 69 => ⟨S1x1024, .f32⟩
  | 70 => ⟨S_, .f32⟩
  | 71 => ⟨S31x1024, .f32⟩
  | 72 => ⟨S31x1024, .f32⟩
  | 73 => ⟨S_, .f32⟩
  | 74 => ⟨S16414x1024, .f32⟩
  | 75 => ⟨S16414x1024, .f32⟩
  | 76 => ⟨S30x1024, .f32⟩
  | 77 => ⟨S16384x1024, .f32⟩
  | 78 => ⟨S16384x1024, .f32⟩
  | 79 => ⟨S16384x1024, .f32⟩
  | 80 => ⟨S16384x1024, .f32⟩
  | 81 => ⟨S16384x2048, .f32⟩
  | 82 => ⟨S16384x2048, .bf16⟩
  | 83 => ⟨S1x1024, .f32⟩
  | _ => ⟨S16384x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_cst_6 : Ref sig .tc := ⟨.hbm, 248, rfl⟩
abbrev main_v238 : Ref sig .tc := ⟨.hbm, 249, rfl⟩
abbrev main_v239 : Ref sig .tc := ⟨.hbm, 250, rfl⟩
abbrev main_cst_7 : Ref sig .tc := ⟨.hbm, 251, rfl⟩
abbrev main_v240 : Ref sig .tc := ⟨.hbm, 252, rfl⟩
abbrev main_v241 : Ref sig .tc := ⟨.hbm, 253, rfl⟩
abbrev main_cst_8 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_cst_9 : Ref sig .tc := ⟨.hbm, 259, rfl⟩
abbrev main_v246 : Ref sig .tc := ⟨.hbm, 260, rfl⟩
abbrev main_v247 : Ref sig .tc := ⟨.hbm, 261, rfl⟩
abbrev main_cst_10 : Ref sig .tc := ⟨.hbm, 262, rfl⟩
abbrev main_v248 : Ref sig .tc := ⟨.hbm, 263, rfl⟩
abbrev main_cst_11 : Ref sig .tc := ⟨.hbm, 264, rfl⟩
abbrev main_v249 : Ref sig .tc := ⟨.hbm, 265, rfl⟩
abbrev main_v250 : Ref sig .tc := ⟨.hbm, 266, rfl⟩
abbrev main_cst_12 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_cst_13 : Ref sig .tc := ⟨.hbm, 272, rfl⟩
abbrev main_v255 : Ref sig .tc := ⟨.hbm, 273, rfl⟩
abbrev main_v256 : Ref sig .tc := ⟨.hbm, 274, rfl⟩
abbrev main_cst_14 : Ref sig .tc := ⟨.hbm, 275, rfl⟩
abbrev main_v257 : Ref sig .tc := ⟨.hbm, 276, rfl⟩
abbrev main_v258 : Ref sig .tc := ⟨.hbm, 277, rfl⟩
abbrev main_cst_15 : Ref sig .tc := ⟨.hbm, 278, rfl⟩
abbrev main_v259 : Ref sig .tc := ⟨.hbm, 279, rfl⟩
abbrev main_v260 : Ref sig .tc := ⟨.hbm, 280, rfl⟩
abbrev main_v261 : Ref sig .tc := ⟨.hbm, 281, rfl⟩
abbrev main_cst_16 : Ref sig .tc := ⟨.hbm, 282, rfl⟩
abbrev main_v262 : Ref sig .tc := ⟨.hbm, 283, rfl⟩
abbrev main_v263 : Ref sig .tc := ⟨.hbm, 284, rfl⟩
abbrev main_v264 : Ref sig .tc := ⟨.hbm, 285, rfl⟩
abbrev main_v265 : Ref sig .tc := ⟨.hbm, 286, rfl⟩
abbrev main_cst_17 : Ref sig .tc := ⟨.hbm, 287, rfl⟩
abbrev main_v266 : Ref sig .tc := ⟨.hbm, 288, rfl⟩
abbrev main_v267 : Ref sig .tc := ⟨.hbm, 289, rfl⟩
abbrev main_cst_18 : Ref sig .tc := ⟨.hbm, 290, rfl⟩
abbrev main_v268 : Ref sig .tc := ⟨.hbm, 291, rfl⟩
abbrev main_v269 : Ref sig .tc := ⟨.hbm, 292, rfl⟩
abbrev main_cst_19 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_cst_20 : Ref sig .tc := ⟨.hbm, 297, rfl⟩
abbrev main_v273 : Ref sig .tc := ⟨.hbm, 298, rfl⟩
abbrev main_v274 : Ref sig .tc := ⟨.hbm, 299, rfl⟩
abbrev main_v275 : Ref sig .tc := ⟨.hbm, 300, rfl⟩
abbrev main_v276 : Ref sig .tc := ⟨.hbm, 301, rfl⟩
abbrev main_cst_21 : Ref sig .tc := ⟨.hbm, 302, rfl⟩
abbrev main_v277 : Ref sig .tc := ⟨.hbm, 303, rfl⟩
abbrev main_v278 : Ref sig .tc := ⟨.hbm, 304, rfl⟩
abbrev main_cst_22 : Ref sig .tc := ⟨.hbm, 305, rfl⟩
abbrev main_v279 : Ref sig .tc := ⟨.hbm, 306, rfl⟩
abbrev main_v280 : Ref sig .tc := ⟨.hbm, 307, rfl⟩
abbrev main_cst_23 : Ref sig .tc := ⟨.hbm, 308, rfl⟩
abbrev main_v281 : Ref sig .tc := ⟨.hbm, 309, rfl⟩
abbrev main_v282 : Ref sig .tc := ⟨.hbm, 310, rfl⟩
abbrev main_v283 : Ref sig .tc := ⟨.hbm, 311, rfl⟩
abbrev main_cst_24 : Ref sig .tc := ⟨.hbm, 312, rfl⟩
abbrev main_v284 : Ref sig .tc := ⟨.hbm, 313, rfl⟩
abbrev main_v285 : Ref sig .tc := ⟨.hbm, 314, rfl⟩
abbrev main_v286 : Ref sig .tc := ⟨.hbm, 315, rfl⟩
abbrev main_v287 : Ref sig .tc := ⟨.hbm, 316, rfl⟩
abbrev main_cst_25 : Ref sig .tc := ⟨.hbm, 317, rfl⟩
abbrev main_v288 : Ref sig .tc := ⟨.hbm, 318, rfl⟩
abbrev main_v289 : Ref sig .tc := ⟨.hbm, 319, rfl⟩
abbrev main_cst_26 : Ref sig .tc := ⟨.hbm, 320, rfl⟩
abbrev main_v290 : Ref sig .tc := ⟨.hbm, 321, rfl⟩
abbrev main_v291 : Ref sig .tc := ⟨.hbm, 322, rfl⟩
abbrev main_cst_27 : Ref sig .tc := ⟨.hbm, 323, rfl⟩
abbrev main_v292 : Ref sig .tc := ⟨.hbm, 324, rfl⟩
abbrev main_v293 : Ref sig .tc := ⟨.hbm, 325, rfl⟩
abbrev main_v294 : Ref sig .tc := ⟨.hbm, 326, rfl⟩
abbrev main_cst_28 : Ref sig .tc := ⟨.hbm, 327, rfl⟩
abbrev main_v295 : Ref sig .tc := ⟨.hbm, 328, rfl⟩
abbrev main_v296 : Ref sig .tc := ⟨.hbm, 329, rfl⟩
abbrev main_v297 : Ref sig .tc := ⟨.hbm, 330, rfl⟩
abbrev main_v298 : Ref sig .tc := ⟨.hbm, 331, rfl⟩
abbrev main_cst_29 : Ref sig .tc := ⟨.hbm, 332, rfl⟩
abbrev main_v299 : Ref sig .tc := ⟨.hbm, 333, rfl⟩
abbrev main_v300 : Ref sig .tc := ⟨.hbm, 334, rfl⟩
abbrev main_cst_30 : Ref sig .tc := ⟨.hbm, 335, rfl⟩
abbrev main_v301 : Ref sig .tc := ⟨.hbm, 336, rfl⟩
abbrev main_v302 : Ref sig .tc := ⟨.hbm, 337, rfl⟩
abbrev main_cst_31 : Ref sig .tc := ⟨.hbm, 338, rfl⟩
abbrev main_v303 : Ref sig .tc := ⟨.hbm, 339, rfl⟩
abbrev main_v304 : Ref sig .tc := ⟨.hbm, 340, rfl⟩
abbrev main_v305 : Ref sig .tc := ⟨.hbm, 341, rfl⟩
abbrev main_cst_32 : Ref sig .tc := ⟨.hbm, 342, rfl⟩
abbrev main_v306 : Ref sig .tc := ⟨.hbm, 343, rfl⟩
abbrev main_v307 : Ref sig .tc := ⟨.hbm, 344, rfl⟩
abbrev main_v308 : Ref sig .tc := ⟨.hbm, 345, rfl⟩
abbrev main_v309 : Ref sig .tc := ⟨.hbm, 346, rfl⟩
abbrev main_cst_33 : Ref sig .tc := ⟨.hbm, 347, rfl⟩
abbrev main_v310 : Ref sig .tc := ⟨.hbm, 348, rfl⟩
abbrev main_v311 : Ref sig .tc := ⟨.hbm, 349, rfl⟩
abbrev main_cst_34 : Ref sig .tc := ⟨.hbm, 350, rfl⟩
abbrev main_v312 : Ref sig .tc := ⟨.hbm, 351, rfl⟩
abbrev main_v313 : Ref sig .tc := ⟨.hbm, 352, rfl⟩
abbrev main_cst_35 : Ref sig .tc := ⟨.hbm, 353, rfl⟩
abbrev main_v314 : Ref sig .tc := ⟨.hbm, 354, rfl⟩
abbrev main_v315 : Ref sig .tc := ⟨.hbm, 355, rfl⟩
abbrev main_v316 : Ref sig .tc := ⟨.hbm, 356, rfl⟩
abbrev main_cst_36 : Ref sig .tc := ⟨.hbm, 357, rfl⟩
abbrev main_v317 : Ref sig .tc := ⟨.hbm, 358, rfl⟩
abbrev main_v318 : Ref sig .tc := ⟨.hbm, 359, rfl⟩
abbrev main_v319 : Ref sig .tc := ⟨.hbm, 360, rfl⟩
abbrev main_v320 : Ref sig .tc := ⟨.hbm, 361, rfl⟩
abbrev main_cst_37 : Ref sig .tc := ⟨.hbm, 362, rfl⟩
abbrev main_v321 : Ref sig .tc := ⟨.hbm, 363, rfl⟩
abbrev main_v322 : Ref sig .tc := ⟨.hbm, 364, rfl⟩
abbrev main_cst_38 : Ref sig .tc := ⟨.hbm, 365, rfl⟩
abbrev main_v323 : Ref sig .tc := ⟨.hbm, 366, rfl⟩
abbrev main_v324 : Ref sig .tc := ⟨.hbm, 367, rfl⟩
abbrev main_cst_39 : Ref sig .tc := ⟨.hbm, 368, rfl⟩
abbrev main_v325 : Ref sig .tc := ⟨.hbm, 369, rfl⟩
abbrev main_v326 : Ref sig .tc := ⟨.hbm, 370, rfl⟩
abbrev main_v327 : Ref sig .tc := ⟨.hbm, 371, rfl⟩
abbrev main_cst_40 : Ref sig .tc := ⟨.hbm, 372, rfl⟩
abbrev main_v328 : Ref sig .tc := ⟨.hbm, 373, rfl⟩
abbrev main_v329 : Ref sig .tc := ⟨.hbm, 374, rfl⟩
abbrev main_v330 : Ref sig .tc := ⟨.hbm, 375, rfl⟩
abbrev main_v331 : Ref sig .tc := ⟨.hbm, 376, rfl⟩
abbrev main_cst_41 : Ref sig .tc := ⟨.hbm, 377, rfl⟩
abbrev main_v332 : Ref sig .tc := ⟨.hbm, 378, rfl⟩
abbrev main_v333 : Ref sig .tc := ⟨.hbm, 379, rfl⟩
abbrev main_cst_42 : Ref sig .tc := ⟨.hbm, 380, rfl⟩
abbrev main_v334 : Ref sig .tc := ⟨.hbm, 381, rfl⟩
abbrev main_v335 : Ref sig .tc := ⟨.hbm, 382, rfl⟩
abbrev main_cst_43 : Ref sig .tc := ⟨.hbm, 383, rfl⟩
abbrev main_v336 : Ref sig .tc := ⟨.hbm, 384, rfl⟩
abbrev main_v337 : Ref sig .tc := ⟨.hbm, 385, rfl⟩
abbrev main_v338 : Ref sig .tc := ⟨.hbm, 386, rfl⟩
abbrev main_cst_44 : Ref sig .tc := ⟨.hbm, 387, rfl⟩
abbrev main_v339 : Ref sig .tc := ⟨.hbm, 388, rfl⟩
abbrev main_v340 : Ref sig .tc := ⟨.hbm, 389, rfl⟩
abbrev main_v341 : Ref sig .tc := ⟨.hbm, 390, rfl⟩
abbrev main_v342 : Ref sig .tc := ⟨.hbm, 391, rfl⟩
abbrev main_cst_45 : Ref sig .tc := ⟨.hbm, 392, rfl⟩
abbrev main_v343 : Ref sig .tc := ⟨.hbm, 393, rfl⟩
abbrev main_v344 : Ref sig .tc := ⟨.hbm, 394, rfl⟩
abbrev main_cst_46 : Ref sig .tc := ⟨.hbm, 395, rfl⟩
abbrev main_v345 : Ref sig .tc := ⟨.hbm, 396, rfl⟩
abbrev main_v346 : Ref sig .tc := ⟨.hbm, 397, rfl⟩
abbrev main_cst_47 : Ref sig .tc := ⟨.hbm, 398, rfl⟩
abbrev main_v347 : Ref sig .tc := ⟨.hbm, 399, rfl⟩
abbrev main_v348 : Ref sig .tc := ⟨.hbm, 400, rfl⟩
abbrev main_v349 : Ref sig .tc := ⟨.hbm, 401, rfl⟩
abbrev main_cst_48 : Ref sig .tc := ⟨.hbm, 402, rfl⟩
abbrev main_v350 : Ref sig .tc := ⟨.hbm, 403, rfl⟩
abbrev main_v351 : Ref sig .tc := ⟨.hbm, 404, rfl⟩
abbrev main_v352 : Ref sig .tc := ⟨.hbm, 405, rfl⟩
abbrev main_v353 : Ref sig .tc := ⟨.hbm, 406, rfl⟩
abbrev main_cst_49 : Ref sig .tc := ⟨.hbm, 407, rfl⟩
abbrev main_v354 : Ref sig .tc := ⟨.hbm, 408, rfl⟩
abbrev main_v355 : Ref sig .tc := ⟨.hbm, 409, rfl⟩
abbrev main_cst_50 : Ref sig .tc := ⟨.hbm, 410, rfl⟩
abbrev main_v356 : Ref sig .tc := ⟨.hbm, 411, rfl⟩
abbrev main_v357 : Ref sig .tc := ⟨.hbm, 412, rfl⟩
abbrev main_cst_51 : Ref sig .tc := ⟨.hbm, 413, rfl⟩
abbrev main_v358 : Ref sig .tc := ⟨.hbm, 414, rfl⟩
abbrev main_v359 : Ref sig .tc := ⟨.hbm, 415, rfl⟩
abbrev main_v360 : Ref sig .tc := ⟨.hbm, 416, rfl⟩
abbrev main_cst_52 : Ref sig .tc := ⟨.hbm, 417, rfl⟩
abbrev main_v361 : Ref sig .tc := ⟨.hbm, 418, rfl⟩
abbrev main_v362 : Ref sig .tc := ⟨.hbm, 419, rfl⟩
abbrev main_v363 : Ref sig .tc := ⟨.hbm, 420, rfl⟩
abbrev main_v364 : Ref sig .tc := ⟨.hbm, 421, rfl⟩
abbrev main_cst_53 : Ref sig .tc := ⟨.hbm, 422, rfl⟩
abbrev main_v365 : Ref sig .tc := ⟨.hbm, 423, rfl⟩
abbrev main_v366 : Ref sig .tc := ⟨.hbm, 424, rfl⟩
abbrev main_cst_54 : Ref sig .tc := ⟨.hbm, 425, rfl⟩
abbrev main_v367 : Ref sig .tc := ⟨.hbm, 426, rfl⟩
abbrev main_v368 : Ref sig .tc := ⟨.hbm, 427, rfl⟩
abbrev main_cst_55 : Ref sig .tc := ⟨.hbm, 428, rfl⟩
abbrev main_v369 : Ref sig .tc := ⟨.hbm, 429, rfl⟩
abbrev main_v370 : Ref sig .tc := ⟨.hbm, 430, rfl⟩
abbrev main_v371 : Ref sig .tc := ⟨.hbm, 431, rfl⟩
abbrev main_cst_56 : Ref sig .tc := ⟨.hbm, 432, rfl⟩
abbrev main_v372 : Ref sig .tc := ⟨.hbm, 433, rfl⟩
abbrev main_v373 : Ref sig .tc := ⟨.hbm, 434, rfl⟩
abbrev main_v374 : Ref sig .tc := ⟨.hbm, 435, rfl⟩
abbrev main_v375 : Ref sig .tc := ⟨.hbm, 436, rfl⟩
abbrev main_cst_57 : Ref sig .tc := ⟨.hbm, 437, rfl⟩
abbrev main_v376 : Ref sig .tc := ⟨.hbm, 438, rfl⟩
abbrev main_v377 : Ref sig .tc := ⟨.hbm, 439, rfl⟩
abbrev main_cst_58 : Ref sig .tc := ⟨.hbm, 440, rfl⟩
abbrev main_v378 : Ref sig .tc := ⟨.hbm, 441, rfl⟩
abbrev main_v379 : Ref sig .tc := ⟨.hbm, 442, rfl⟩
abbrev main_cst_59 : Ref sig .tc := ⟨.hbm, 443, rfl⟩
abbrev main_v380 : Ref sig .tc := ⟨.hbm, 444, rfl⟩
abbrev main_v381 : Ref sig .tc := ⟨.hbm, 445, rfl⟩
abbrev main_v382 : Ref sig .tc := ⟨.hbm, 446, rfl⟩
abbrev main_cst_60 : Ref sig .tc := ⟨.hbm, 447, rfl⟩
abbrev main_v383 : Ref sig .tc := ⟨.hbm, 448, rfl⟩
abbrev main_v384 : Ref sig .tc := ⟨.hbm, 449, rfl⟩
abbrev main_v385 : Ref sig .tc := ⟨.hbm, 450, rfl⟩
abbrev main_v386 : Ref sig .tc := ⟨.hbm, 451, rfl⟩
abbrev main_cst_61 : Ref sig .tc := ⟨.hbm, 452, rfl⟩
abbrev main_v387 : Ref sig .tc := ⟨.hbm, 453, rfl⟩
abbrev main_v388 : Ref sig .tc := ⟨.hbm, 454, rfl⟩
abbrev main_cst_62 : Ref sig .tc := ⟨.hbm, 455, rfl⟩
abbrev main_v389 : Ref sig .tc := ⟨.hbm, 456, rfl⟩
abbrev main_v390 : Ref sig .tc := ⟨.hbm, 457, rfl⟩
abbrev main_cst_63 : Ref sig .tc := ⟨.hbm, 458, rfl⟩
abbrev main_v391 : Ref sig .tc := ⟨.hbm, 459, rfl⟩
abbrev main_v392 : Ref sig .tc := ⟨.hbm, 460, rfl⟩
abbrev main_v393 : Ref sig .tc := ⟨.hbm, 461, rfl⟩
abbrev main_cst_64 : Ref sig .tc := ⟨.hbm, 462, rfl⟩
abbrev main_v394 : Ref sig .tc := ⟨.hbm, 463, rfl⟩
abbrev main_v395 : Ref sig .tc := ⟨.hbm, 464, rfl⟩
abbrev main_v396 : Ref sig .tc := ⟨.hbm, 465, rfl⟩
abbrev main_v397 : Ref sig .tc := ⟨.hbm, 466, rfl⟩
abbrev main_cst_65 : Ref sig .tc := ⟨.hbm, 467, rfl⟩
abbrev main_v398 : Ref sig .tc := ⟨.hbm, 468, rfl⟩
abbrev main_v399 : Ref sig .tc := ⟨.hbm, 469, rfl⟩
abbrev main_cst_66 : Ref sig .tc := ⟨.hbm, 470, rfl⟩
abbrev main_v400 : Ref sig .tc := ⟨.hbm, 471, rfl⟩
abbrev main_v401 : Ref sig .tc := ⟨.hbm, 472, rfl⟩
abbrev main_cst_67 : Ref sig .tc := ⟨.hbm, 473, rfl⟩
abbrev main_v402 : Ref sig .tc := ⟨.hbm, 474, rfl⟩
abbrev main_v403 : Ref sig .tc := ⟨.hbm, 475, rfl⟩
abbrev main_v404 : Ref sig .tc := ⟨.hbm, 476, rfl⟩
abbrev main_cst_68 : Ref sig .tc := ⟨.hbm, 477, rfl⟩
abbrev main_v405 : Ref sig .tc := ⟨.hbm, 478, rfl⟩
abbrev main_v406 : Ref sig .tc := ⟨.hbm, 479, rfl⟩
abbrev main_v407 : Ref sig .tc := ⟨.hbm, 480, rfl⟩
abbrev main_v408 : Ref sig .tc := ⟨.hbm, 481, rfl⟩
abbrev main_cst_69 : Ref sig .tc := ⟨.hbm, 482, rfl⟩
abbrev main_v409 : Ref sig .tc := ⟨.hbm, 483, rfl⟩
abbrev main_v410 : Ref sig .tc := ⟨.hbm, 484, rfl⟩
abbrev main_cst_70 : Ref sig .tc := ⟨.hbm, 485, rfl⟩
abbrev main_v411 : Ref sig .tc := ⟨.hbm, 486, rfl⟩
abbrev main_v412 : Ref sig .tc := ⟨.hbm, 487, rfl⟩
abbrev main_cst_71 : Ref sig .tc := ⟨.hbm, 488, rfl⟩
abbrev main_v413 : Ref sig .tc := ⟨.hbm, 489, rfl⟩
abbrev main_v414 : Ref sig .tc := ⟨.hbm, 490, rfl⟩
abbrev main_v415 : Ref sig .tc := ⟨.hbm, 491, rfl⟩
abbrev main_cst_72 : Ref sig .tc := ⟨.hbm, 492, rfl⟩
abbrev main_v416 : Ref sig .tc := ⟨.hbm, 493, rfl⟩
abbrev main_v417 : Ref sig .tc := ⟨.hbm, 494, rfl⟩
abbrev main_v418 : Ref sig .tc := ⟨.hbm, 495, rfl⟩
abbrev main_v419 : Ref sig .tc := ⟨.hbm, 496, rfl⟩
abbrev main_cst_73 : Ref sig .tc := ⟨.hbm, 497, rfl⟩
abbrev main_v420 : Ref sig .tc := ⟨.hbm, 498, rfl⟩
abbrev main_v421 : Ref sig .tc := ⟨.hbm, 499, rfl⟩
abbrev main_cst_74 : Ref sig .tc := ⟨.hbm, 500, rfl⟩
abbrev main_v422 : Ref sig .tc := ⟨.hbm, 501, rfl⟩
abbrev main_v423 : Ref sig .tc := ⟨.hbm, 502, rfl⟩
abbrev main_cst_75 : Ref sig .tc := ⟨.hbm, 503, rfl⟩
abbrev main_v424 : Ref sig .tc := ⟨.hbm, 504, rfl⟩
abbrev main_v425 : Ref sig .tc := ⟨.hbm, 505, rfl⟩
abbrev main_v426 : Ref sig .tc := ⟨.hbm, 506, rfl⟩
abbrev main_cst_76 : Ref sig .tc := ⟨.hbm, 507, rfl⟩
abbrev main_v427 : Ref sig .tc := ⟨.hbm, 508, rfl⟩
abbrev main_v428 : Ref sig .tc := ⟨.hbm, 509, rfl⟩
abbrev main_v429 : Ref sig .tc := ⟨.hbm, 510, rfl⟩
abbrev main_v430 : Ref sig .tc := ⟨.hbm, 511, rfl⟩
abbrev main_cst_77 : Ref sig .tc := ⟨.hbm, 512, rfl⟩
abbrev main_v431 : Ref sig .tc := ⟨.hbm, 513, rfl⟩
abbrev main_v432 : Ref sig .tc := ⟨.hbm, 514, rfl⟩
abbrev main_cst_78 : Ref sig .tc := ⟨.hbm, 515, rfl⟩
abbrev main_v433 : Ref sig .tc := ⟨.hbm, 516, rfl⟩
abbrev main_v434 : Ref sig .tc := ⟨.hbm, 517, rfl⟩
abbrev main_cst_79 : Ref sig .tc := ⟨.hbm, 518, rfl⟩
abbrev main_v435 : Ref sig .tc := ⟨.hbm, 519, rfl⟩
abbrev main_v436 : Ref sig .tc := ⟨.hbm, 520, rfl⟩
abbrev main_v437 : Ref sig .tc := ⟨.hbm, 521, rfl⟩
abbrev main_cst_80 : Ref sig .tc := ⟨.hbm, 522, rfl⟩
abbrev main_v438 : Ref sig .tc := ⟨.hbm, 523, rfl⟩
abbrev main_v439 : Ref sig .tc := ⟨.hbm, 524, rfl⟩
abbrev main_v440 : Ref sig .tc := ⟨.hbm, 525, rfl⟩
abbrev main_v441 : Ref sig .tc := ⟨.hbm, 526, rfl⟩
abbrev main_cst_81 : Ref sig .tc := ⟨.hbm, 527, rfl⟩
abbrev main_v442 : Ref sig .tc := ⟨.hbm, 528, rfl⟩
abbrev main_v443 : Ref sig .tc := ⟨.hbm, 529, rfl⟩
abbrev main_cst_82 : Ref sig .tc := ⟨.hbm, 530, rfl⟩
abbrev main_v444 : Ref sig .tc := ⟨.hbm, 531, rfl⟩
abbrev main_v445 : Ref sig .tc := ⟨.hbm, 532, rfl⟩
abbrev main_cst_83 : Ref sig .tc := ⟨.hbm, 533, rfl⟩
abbrev main_v446 : Ref sig .tc := ⟨.hbm, 534, rfl⟩
abbrev main_v447 : Ref sig .tc := ⟨.hbm, 535, rfl⟩
abbrev main_v448 : Ref sig .tc := ⟨.hbm, 536, rfl⟩
abbrev main_cst_84 : Ref sig .tc := ⟨.hbm, 537, rfl⟩
abbrev main_v449 : Ref sig .tc := ⟨.hbm, 538, rfl⟩
abbrev main_v450 : Ref sig .tc := ⟨.hbm, 539, rfl⟩
abbrev main_v451 : Ref sig .tc := ⟨.hbm, 540, rfl⟩
abbrev main_v452 : Ref sig .tc := ⟨.hbm, 541, rfl⟩
abbrev main_cst_85 : Ref sig .tc := ⟨.hbm, 542, rfl⟩
abbrev main_v453 : Ref sig .tc := ⟨.hbm, 543, rfl⟩
abbrev main_v454 : Ref sig .tc := ⟨.hbm, 544, rfl⟩
abbrev main_cst_86 : Ref sig .tc := ⟨.hbm, 545, rfl⟩
abbrev main_v455 : Ref sig .tc := ⟨.hbm, 546, rfl⟩
abbrev main_v456 : Ref sig .tc := ⟨.hbm, 547, rfl⟩
abbrev main_cst_87 : Ref sig .tc := ⟨.hbm, 548, rfl⟩
abbrev main_v457 : Ref sig .tc := ⟨.hbm, 549, rfl⟩
abbrev main_v458 : Ref sig .tc := ⟨.hbm, 550, rfl⟩
abbrev main_v459 : Ref sig .tc := ⟨.hbm, 551, rfl⟩
abbrev main_cst_88 : Ref sig .tc := ⟨.hbm, 552, rfl⟩
abbrev main_v460 : Ref sig .tc := ⟨.hbm, 553, rfl⟩
abbrev main_v461 : Ref sig .tc := ⟨.hbm, 554, rfl⟩
abbrev main_v462 : Ref sig .tc := ⟨.hbm, 555, rfl⟩
abbrev main_v463 : Ref sig .tc := ⟨.hbm, 556, rfl⟩
abbrev main_cst_89 : Ref sig .tc := ⟨.hbm, 557, rfl⟩
abbrev main_v464 : Ref sig .tc := ⟨.hbm, 558, rfl⟩
abbrev main_v465 : Ref sig .tc := ⟨.hbm, 559, rfl⟩
abbrev main_cst_90 : Ref sig .tc := ⟨.hbm, 560, rfl⟩
abbrev main_v466 : Ref sig .tc := ⟨.hbm, 561, rfl⟩
abbrev main_v467 : Ref sig .tc := ⟨.hbm, 562, rfl⟩
abbrev main_cst_91 : Ref sig .tc := ⟨.hbm, 563, rfl⟩
abbrev main_v468 : Ref sig .tc := ⟨.hbm, 564, rfl⟩
abbrev main_v469 : Ref sig .tc := ⟨.hbm, 565, rfl⟩
abbrev main_v470 : Ref sig .tc := ⟨.hbm, 566, rfl⟩
abbrev main_cst_92 : Ref sig .tc := ⟨.hbm, 567, rfl⟩
abbrev main_v471 : Ref sig .tc := ⟨.hbm, 568, rfl⟩
abbrev main_v472 : Ref sig .tc := ⟨.hbm, 569, rfl⟩
abbrev main_v473 : Ref sig .tc := ⟨.hbm, 570, rfl⟩
abbrev main_v474 : Ref sig .tc := ⟨.hbm, 571, rfl⟩
abbrev main_cst_93 : Ref sig .tc := ⟨.hbm, 572, rfl⟩
abbrev main_v475 : Ref sig .tc := ⟨.hbm, 573, rfl⟩
abbrev main_v476 : Ref sig .tc := ⟨.hbm, 574, rfl⟩
abbrev main_cst_94 : Ref sig .tc := ⟨.hbm, 575, rfl⟩
abbrev main_v477 : Ref sig .tc := ⟨.hbm, 576, rfl⟩
abbrev main_v478 : Ref sig .tc := ⟨.hbm, 577, rfl⟩
abbrev main_cst_95 : Ref sig .tc := ⟨.hbm, 578, rfl⟩
abbrev main_v479 : Ref sig .tc := ⟨.hbm, 579, rfl⟩
abbrev main_v480 : Ref sig .tc := ⟨.hbm, 580, rfl⟩
abbrev main_v481 : Ref sig .tc := ⟨.hbm, 581, rfl⟩
abbrev main_cst_96 : Ref sig .tc := ⟨.hbm, 582, rfl⟩
abbrev main_v482 : Ref sig .tc := ⟨.hbm, 583, rfl⟩
abbrev main_v483 : Ref sig .tc := ⟨.hbm, 584, rfl⟩
abbrev main_v484 : Ref sig .tc := ⟨.hbm, 585, rfl⟩
abbrev main_v485 : Ref sig .tc := ⟨.hbm, 586, rfl⟩
abbrev main_cst_97 : Ref sig .tc := ⟨.hbm, 587, rfl⟩
abbrev main_v486 : Ref sig .tc := ⟨.hbm, 588, rfl⟩
abbrev main_v487 : Ref sig .tc := ⟨.hbm, 589, rfl⟩
abbrev main_cst_98 : Ref sig .tc := ⟨.hbm, 590, rfl⟩
abbrev main_v488 : Ref sig .tc := ⟨.hbm, 591, rfl⟩
abbrev main_v489 : Ref sig .tc := ⟨.hbm, 592, rfl⟩
abbrev main_cst_99 : Ref sig .tc := ⟨.hbm, 593, rfl⟩
abbrev main_v490 : Ref sig .tc := ⟨.hbm, 594, rfl⟩
abbrev main_v491 : Ref sig .tc := ⟨.hbm, 595, rfl⟩
abbrev main_v492 : Ref sig .tc := ⟨.hbm, 596, rfl⟩
abbrev main_cst_100 : Ref sig .tc := ⟨.hbm, 597, rfl⟩
abbrev main_v493 : Ref sig .tc := ⟨.hbm, 598, rfl⟩
abbrev main_v494 : Ref sig .tc := ⟨.hbm, 599, rfl⟩
abbrev main_v495 : Ref sig .tc := ⟨.hbm, 600, rfl⟩
abbrev main_v496 : Ref sig .tc := ⟨.hbm, 601, rfl⟩
abbrev main_cst_101 : Ref sig .tc := ⟨.hbm, 602, rfl⟩
abbrev main_v497 : Ref sig .tc := ⟨.hbm, 603, rfl⟩
abbrev main_v498 : Ref sig .tc := ⟨.hbm, 604, rfl⟩
abbrev main_cst_102 : Ref sig .tc := ⟨.hbm, 605, rfl⟩
abbrev main_v499 : Ref sig .tc := ⟨.hbm, 606, rfl⟩
abbrev main_v500 : Ref sig .tc := ⟨.hbm, 607, rfl⟩
abbrev main_cst_103 : Ref sig .tc := ⟨.hbm, 608, rfl⟩
abbrev main_v501 : Ref sig .tc := ⟨.hbm, 609, rfl⟩
abbrev main_v502 : Ref sig .tc := ⟨.hbm, 610, rfl⟩
abbrev main_v503 : Ref sig .tc := ⟨.hbm, 611, rfl⟩
abbrev main_cst_104 : Ref sig .tc := ⟨.hbm, 612, rfl⟩
abbrev main_v504 : Ref sig .tc := ⟨.hbm, 613, rfl⟩
abbrev main_v505 : Ref sig .tc := ⟨.hbm, 614, rfl⟩
abbrev main_v506 : Ref sig .tc := ⟨.hbm, 615, rfl⟩
abbrev main_v507 : Ref sig .tc := ⟨.hbm, 616, rfl⟩
abbrev main_cst_105 : Ref sig .tc := ⟨.hbm, 617, rfl⟩
abbrev main_v508 : Ref sig .tc := ⟨.hbm, 618, rfl⟩
abbrev main_v509 : Ref sig .tc := ⟨.hbm, 619, rfl⟩
abbrev main_cst_106 : Ref sig .tc := ⟨.hbm, 620, rfl⟩
abbrev main_v510 : Ref sig .tc := ⟨.hbm, 621, rfl⟩
abbrev main_v511 : Ref sig .tc := ⟨.hbm, 622, rfl⟩
abbrev main_cst_107 : Ref sig .tc := ⟨.hbm, 623, rfl⟩
abbrev main_v512 : Ref sig .tc := ⟨.hbm, 624, rfl⟩
abbrev main_v513 : Ref sig .tc := ⟨.hbm, 625, rfl⟩
abbrev main_v514 : Ref sig .tc := ⟨.hbm, 626, rfl⟩
abbrev main_cst_108 : Ref sig .tc := ⟨.hbm, 627, rfl⟩
abbrev main_v515 : Ref sig .tc := ⟨.hbm, 628, rfl⟩
abbrev main_v516 : Ref sig .tc := ⟨.hbm, 629, rfl⟩
abbrev main_v517 : Ref sig .tc := ⟨.hbm, 630, rfl⟩
abbrev main_v518 : Ref sig .tc := ⟨.hbm, 631, rfl⟩
abbrev main_cst_109 : Ref sig .tc := ⟨.hbm, 632, rfl⟩
abbrev main_v519 : Ref sig .tc := ⟨.hbm, 633, rfl⟩
abbrev main_v520 : Ref sig .tc := ⟨.hbm, 634, rfl⟩
abbrev main_cst_110 : Ref sig .tc := ⟨.hbm, 635, rfl⟩
abbrev main_v521 : Ref sig .tc := ⟨.hbm, 636, rfl⟩
abbrev main_v522 : Ref sig .tc := ⟨.hbm, 637, rfl⟩
abbrev main_cst_111 : Ref sig .tc := ⟨.hbm, 638, rfl⟩
abbrev main_v523 : Ref sig .tc := ⟨.hbm, 639, rfl⟩
abbrev main_v524 : Ref sig .tc := ⟨.hbm, 640, rfl⟩
abbrev main_v525 : Ref sig .tc := ⟨.hbm, 641, rfl⟩
abbrev main_cst_112 : Ref sig .tc := ⟨.hbm, 642, rfl⟩
abbrev main_v526 : Ref sig .tc := ⟨.hbm, 643, rfl⟩
abbrev main_v527 : Ref sig .tc := ⟨.hbm, 644, rfl⟩
abbrev main_v528 : Ref sig .tc := ⟨.hbm, 645, rfl⟩
abbrev main_v529 : Ref sig .tc := ⟨.hbm, 646, rfl⟩
abbrev main_cst_113 : Ref sig .tc := ⟨.hbm, 647, rfl⟩
abbrev main_v530 : Ref sig .tc := ⟨.hbm, 648, rfl⟩
abbrev main_v531 : Ref sig .tc := ⟨.hbm, 649, rfl⟩
abbrev main_cst_114 : Ref sig .tc := ⟨.hbm, 650, rfl⟩
abbrev main_v532 : Ref sig .tc := ⟨.hbm, 651, rfl⟩
abbrev main_v533 : Ref sig .tc := ⟨.hbm, 652, rfl⟩
abbrev main_cst_115 : Ref sig .tc := ⟨.hbm, 653, rfl⟩
abbrev main_v534 : Ref sig .tc := ⟨.hbm, 654, rfl⟩
abbrev main_v535 : Ref sig .tc := ⟨.hbm, 655, rfl⟩
abbrev main_v536 : Ref sig .tc := ⟨.hbm, 656, rfl⟩
abbrev main_cst_116 : Ref sig .tc := ⟨.hbm, 657, rfl⟩
abbrev main_v537 : Ref sig .tc := ⟨.hbm, 658, rfl⟩
abbrev main_v538 : Ref sig .tc := ⟨.hbm, 659, rfl⟩
abbrev main_v539 : Ref sig .tc := ⟨.hbm, 660, rfl⟩
abbrev main_v540 : Ref sig .tc := ⟨.hbm, 661, rfl⟩
abbrev main_cst_117 : Ref sig .tc := ⟨.hbm, 662, rfl⟩
abbrev main_v541 : Ref sig .tc := ⟨.hbm, 663, rfl⟩
abbrev main_v542 : Ref sig .tc := ⟨.hbm, 664, rfl⟩
abbrev main_cst_118 : Ref sig .tc := ⟨.hbm, 665, rfl⟩
abbrev main_v543 : Ref sig .tc := ⟨.hbm, 666, rfl⟩
abbrev main_v544 : Ref sig .tc := ⟨.hbm, 667, rfl⟩
abbrev main_cst_119 : Ref sig .tc := ⟨.hbm, 668, rfl⟩
abbrev main_v545 : Ref sig .tc := ⟨.hbm, 669, rfl⟩
abbrev main_v546 : Ref sig .tc := ⟨.hbm, 670, rfl⟩
abbrev main_v547 : Ref sig .tc := ⟨.hbm, 671, rfl⟩
abbrev main_cst_120 : Ref sig .tc := ⟨.hbm, 672, rfl⟩
abbrev main_v548 : Ref sig .tc := ⟨.hbm, 673, rfl⟩
abbrev main_v549 : Ref sig .tc := ⟨.hbm, 674, rfl⟩
abbrev main_v550 : Ref sig .tc := ⟨.hbm, 675, rfl⟩
abbrev main_v551 : Ref sig .tc := ⟨.hbm, 676, rfl⟩
abbrev main_cst_121 : Ref sig .tc := ⟨.hbm, 677, rfl⟩
abbrev main_v552 : Ref sig .tc := ⟨.hbm, 678, rfl⟩
abbrev main_v553 : Ref sig .tc := ⟨.hbm, 679, rfl⟩
abbrev main_cst_122 : Ref sig .tc := ⟨.hbm, 680, rfl⟩
abbrev main_v554 : Ref sig .tc := ⟨.hbm, 681, rfl⟩
abbrev main_v555 : Ref sig .tc := ⟨.hbm, 682, rfl⟩
abbrev main_cst_123 : Ref sig .tc := ⟨.hbm, 683, rfl⟩
abbrev main_v556 : Ref sig .tc := ⟨.hbm, 684, rfl⟩
abbrev main_v557 : Ref sig .tc := ⟨.hbm, 685, rfl⟩
abbrev main_v558 : Ref sig .tc := ⟨.hbm, 686, rfl⟩
abbrev main_cst_124 : Ref sig .tc := ⟨.hbm, 687, rfl⟩
abbrev main_v559 : Ref sig .tc := ⟨.hbm, 688, rfl⟩
abbrev main_v560 : Ref sig .tc := ⟨.hbm, 689, rfl⟩
abbrev main_v561 : Ref sig .tc := ⟨.hbm, 690, rfl⟩
abbrev main_v562 : Ref sig .tc := ⟨.hbm, 691, rfl⟩
abbrev main_cst_125 : Ref sig .tc := ⟨.hbm, 692, rfl⟩
abbrev main_v563 : Ref sig .tc := ⟨.hbm, 693, rfl⟩
abbrev main_v564 : Ref sig .tc := ⟨.hbm, 694, rfl⟩
abbrev main_cst_126 : Ref sig .tc := ⟨.hbm, 695, rfl⟩
abbrev main_v565 : Ref sig .tc := ⟨.hbm, 696, rfl⟩
abbrev main_v566 : Ref sig .tc := ⟨.hbm, 697, rfl⟩
abbrev main_cst_127 : Ref sig .tc := ⟨.hbm, 698, rfl⟩
abbrev main_v567 : Ref sig .tc := ⟨.hbm, 699, rfl⟩
abbrev main_v568 : Ref sig .tc := ⟨.hbm, 700, rfl⟩
abbrev main_v569 : Ref sig .tc := ⟨.hbm, 701, rfl⟩
abbrev main_cst_128 : Ref sig .tc := ⟨.hbm, 702, rfl⟩
abbrev main_v570 : Ref sig .tc := ⟨.hbm, 703, rfl⟩
abbrev main_v571 : Ref sig .tc := ⟨.hbm, 704, rfl⟩
abbrev main_v572 : Ref sig .tc := ⟨.hbm, 705, rfl⟩
abbrev main_v573 : Ref sig .tc := ⟨.hbm, 706, rfl⟩
abbrev main_cst_129 : Ref sig .tc := ⟨.hbm, 707, rfl⟩
abbrev main_v574 : Ref sig .tc := ⟨.hbm, 708, rfl⟩
abbrev main_v575 : Ref sig .tc := ⟨.hbm, 709, rfl⟩
abbrev main_cst_130 : Ref sig .tc := ⟨.hbm, 710, rfl⟩
abbrev main_v576 : Ref sig .tc := ⟨.hbm, 711, rfl⟩
abbrev main_v577 : Ref sig .tc := ⟨.hbm, 712, rfl⟩
abbrev main_cst_131 : Ref sig .tc := ⟨.hbm, 713, rfl⟩
abbrev main_v578 : Ref sig .tc := ⟨.hbm, 714, rfl⟩
abbrev main_v579 : Ref sig .tc := ⟨.hbm, 715, rfl⟩
abbrev main_v580 : Ref sig .tc := ⟨.hbm, 716, rfl⟩
abbrev main_v581 : Ref sig .tc := ⟨.hbm, 717, rfl⟩
abbrev main_v582 : Ref sig .tc := ⟨.hbm, 718, rfl⟩
abbrev main_v583 : Ref sig .tc := ⟨.hbm, 719, rfl⟩
abbrev main_v584 : Ref sig .tc := ⟨.hbm, 720, rfl⟩
abbrev main_v585 : Ref sig .tc := ⟨.hbm, 721, rfl⟩
abbrev main_v586 : Ref sig .tc := ⟨.hbm, 722, rfl⟩
abbrev main_v587 : Ref sig .tc := ⟨.hbm, 723, rfl⟩

abbrev nD : Nat := 1
abbrev τ : Topo := Topo.v7x

variable {F : FTy → Type} [FloatOps F]
-- ==== LossHead.lean ====
abbrev S16384x1024 : Shape := ⟨2, ![16384, 1024]⟩
abbrev S1x1024 : Shape := ⟨2, ![1, 1024]⟩
abbrev S1024 : Shape := ⟨1, ![1024]⟩
abbrev S_ : Shape := ⟨0, ![]⟩
abbrev S512x1024 : Shape := ⟨2, ![512, 1024]⟩
abbrev S512 : Shape := ⟨1, ![512]⟩
abbrev S512x1 : Shape := ⟨2, ![512, 1]⟩

abbrev nBuf : Space → Nat
  | .hbm => 22
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S1x1024, .f32⟩
  | .hbm, ⟨12, _⟩ => ⟨S16384x1024, .bf16⟩
  | .hbm, ⟨13, _⟩ => ⟨S16384x1024, .f32⟩
  | .hbm, ⟨14, _⟩ => ⟨S16384x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_cst_0 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_23 : BitVec 32 := 0#32
  let v56 : BitVec 1 := Scalar.cmpi .ne v55 c0_i32_23
  v56

def k0_cond2 (i : grid0.Coords) : BitVec 1 :=
  let arg0 : BitVec 32 := BitVec.ofNat 32 (i 0).val
  let c0_i32 : BitVec 32 := 0#32
  let v54 : BitVec 1 := Scalar.cmpi .eq arg0 c0_i32
  let v_true : BitVec 1 := 1#1
  let v57 : BitVec 1 := Scalar.xori v54 v_true
  let v58 : BitVec 32 := Scalar.extui v57
  let c0_i32_24 : BitVec 32 := 0#32
  let v59 : BitVec 1 := Scalar.cmpi .ne v58 c0_i32_24
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RefLossHeadIdeal.lean ====
abbrev S16384x1024 : Shape := ⟨2, ![16384, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 90
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S_, .f32⟩
  | .hbm, ⟨39, _⟩ => ⟨S16384, .f32⟩
  | .hbm, ⟨40, _⟩ => ⟨S16384, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S16384, .f32⟩
  | .hbm, ⟨49, _⟩ => ⟨S_, .f32⟩
  | .hbm, ⟨50, _⟩ => ⟨S16384, .f32⟩
  | .hbm, ⟨51, _⟩ => ⟨S16384, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S1024, .f32⟩
  | .hbm, ⟨62, _⟩ => ⟨S16384x1024, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S16384x1024, .f32⟩
  | .hbm, ⟨67, _⟩ => ⟨S16384x1024, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S_, .f32⟩
  | .hbm, ⟨73, _⟩ => ⟨S16384, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S16384x1024, .bf16⟩
  | .hbm, ⟨89, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_cst_9 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_cst_11 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_cst_16 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_17 : Ref sig .tc := ⟨.hbm, 82, rfl⟩
abbrev main_v59 : Ref sig .tc := ⟨.hbm, 83, rfl⟩
abbrev main_v60 : Ref sig .tc := ⟨.hbm, 84, rfl⟩
abbrev main_cst_18 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]
-- ==== SplitB.lean ====
abbrev S16384x256 : Shape := ⟨2, ![16384, 256]⟩
abbrev S1x16384x256 : Shape := ⟨3, ![1, 16384, 256]⟩
abbrev S4x4096x256 : Shape := ⟨3, ![4, 4096, 256]⟩
abbrev S16x1024x256 : Shape := ⟨3, ![16, 1024, 256]⟩
abbrev S512x256 : Shape := ⟨2, ![512, 256]⟩
abbrev S1x512x256 : Shape := ⟨3, ![1, 512, 256]⟩
abbrev S4x128x256 : Shape := ⟨3, ![4, 128, 256]⟩
abbrev S16x32x256 : Shape := ⟨3, ![16, 32, 256]⟩
abbrev S6x512x128 : Shape := ⟨3, ![6, 512, 128]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S128x128 : Shape := ⟨2, ![128, 128]⟩
abbrev S1x128x256 : Shape := ⟨3, ![1, 128, 256]⟩
abbrev S128x256 : Shape := ⟨2, ![128, 256]⟩
abbrev S1x128x128 : Shape := ⟨3, ![1, 128, 128]⟩
abbrev S32x128 : Shape := ⟨2, ![32, 128]⟩
abbrev S1x32x256 : Shape := ⟨3, ![1, 32, 256]⟩
abbrev S32x256 : Shape := ⟨2, ![32, 256]⟩
abbrev S1x32x128 : Shape := ⟨3, ![1, 32, 128]⟩

abbrev nBuf : Space → Nat
  | .hbm => 14
  | .vmem => 25
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x256, .bf16⟩
  | .hbm, ⟨4, _⟩ => ⟨S16384x256, .bf16⟩
  | .hbm, ⟨5, _⟩ => ⟨S1x16384x256, .bf16⟩
  | .hbm, ⟨6, _⟩ => ⟨S4x4096x256, .bf16⟩
  | .hbm, ⟨7, _⟩ => ⟨S16x1024x256, .bf16⟩
  | .hbm, ⟨8, _⟩ => ⟨S1x16384x256, .f32⟩
  | .hbm, ⟨9, _⟩ => ⟨S4x4096x256, .f32⟩
  | .hbm, ⟨10, _⟩ => ⟨S16x1024x256, .f32⟩
  | .hbm, ⟨11, _⟩ => ⟨S1x16384x256, .f32⟩
  | .hbm, ⟨12, _⟩ => ⟨S4x4096x256, .f32⟩
  | .hbm, ⟨13, _⟩ => ⟨S16x1024x256, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .f32⟩
  | .local _ .vmem, ⟨5, _⟩ => ⟨S512x256, .f32⟩
  | .local _ .vmem, ⟨6, _⟩ => ⟨S1x512x256, .bf16⟩
  | .local _ .vmem, ⟨7, _⟩ => ⟨S1x512x256, .bf16⟩
  | .local _ .vmem, ⟨8, _⟩ => ⟨S4x128x256, .bf16⟩
  | .local _ .vmem, ⟨9, _⟩ => ⟨S4x128x256, .bf16⟩
  | .local _ .vmem, ⟨10, _⟩ => ⟨S16x32x256, .bf16⟩
  | .local _ .vmem, ⟨11, _⟩ => ⟨S16x32x256, .bf16⟩
  | .local _ .vmem, ⟨12, _⟩ => ⟨S1x512x256, .f32⟩
  | .local _ .vmem, ⟨13, _⟩ => ⟨S1x512x256, .f32⟩
  | .local _ .vmem, ⟨14, _⟩ => ⟨S4x128x256, .f32⟩
  | .local _ .vmem, ⟨15, _⟩ => ⟨S4x128x256, .f32⟩
  | .local _ .vmem, ⟨16, _⟩ => ⟨S16x32x256, .f32⟩
  | .local _ .vmem, ⟨17, _⟩ => ⟨S16x32x256, .f32⟩
  | .local _ .vmem, ⟨18, _⟩ => ⟨S1x512x256, .f32⟩
  | .local _ .vmem, ⟨19, _⟩ => ⟨S1x512x256, .f32⟩
  | .local _ .vmem, ⟨20, _⟩ => ⟨S4x128x256, .f32⟩
  | .local _ .vmem, ⟨21, _⟩ => ⟨S4x128x256, .f32⟩
  | .local _ .vmem, ⟨22, _⟩ => ⟨S16x32x256, .f32⟩
  | .local _ .vmem, ⟨23, _⟩ => ⟨S16x32x256, .f32⟩
  | .local _ .vmem, ⟨24, _⟩ => ⟨S6x512x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev main_v2_7 : Ref sig .tc := ⟨.hbm, 12, rfl⟩
abbrev main_v2_8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x32x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x32x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RefSplitBIdeal.lean ====
abbrev S16384x256 : Shape := ⟨2, ![16384, 256]⟩
abbrev S16384x4x64 : Shape := ⟨3, ![16384, 4, 64]⟩
abbrev S_ : Shape := ⟨0, ![]⟩
abbrev S16384x4 : Shape := ⟨2, ![16384, 4]⟩
abbrev S16384x4x1 : Shape := ⟨3, ![16384, 4, 1]⟩
abbrev S16384x1x256 : Shape := ⟨3, ![16384, 1, 256]⟩
abbrev S1x16384x256 : Shape := ⟨3, ![1, 16384, 256]⟩
abbrev S4096x4x256 : Shape := ⟨3, ![4096, 4, 256]⟩
abbrev S4x4096x256 : Shape := ⟨3, ![4, 4096, 256]⟩
abbrev S1024x16x256 : Shape := ⟨3, ![1024, 16, 256]⟩
abbrev S16x1024x256 : Shape := ⟨3, ![16, 1024, 256]⟩

abbrev nBuf : Space → Nat
  | .hbm => 31
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x4x64, .f32⟩
  | .hbm, ⟨5, _⟩ => ⟨S_, .f32⟩
  | .hbm, ⟨6, _⟩ => ⟨S16384x4, .f32⟩
  | .hbm, ⟨7, _⟩ => ⟨S16384x4x1, .f32⟩
  | .hbm, ⟨8, _⟩ => ⟨S16384x4x64, .f32⟩
  | .hbm, ⟨9, _⟩ => ⟨S16384x256, .f32⟩
  | .hbm, ⟨10, _⟩ => ⟨S16384x1x256, .f32⟩
  | .hbm, ⟨11, _⟩ => ⟨S1x16384x256, .f32⟩
  | .hbm, ⟨12, _⟩ => ⟨S1x16384x256, .bf16⟩
  | .hbm, ⟨13, _⟩ => ⟨S4096x4x256, .f32⟩
  | .hbm, ⟨14, _⟩ => ⟨S4x4096x256, .f32⟩
  | .hbm, ⟨15, _⟩ => ⟨S4x4096x256, .bf16⟩
  | .hbm, ⟨16, _⟩ => ⟨S1024x16x256, .f32⟩
  | .hbm, ⟨17, _⟩ => ⟨S16x1024x256, .f32⟩
  | .hbm, ⟨18, _⟩ => ⟨S16x1024x256, .bf16⟩
  | .hbm, ⟨19, _⟩ => ⟨S16384x1x256, .f32⟩
  | .hbm, ⟨20, _⟩ => ⟨S1x16384x256, .f32⟩
  | .hbm, ⟨21, _⟩ => ⟨S4096x4x256, .f32⟩
  | .hbm, ⟨22, _⟩ => ⟨S4x4096x256, .f32⟩
  | .hbm, ⟨23, _⟩ => ⟨S1024x16x256, .f32⟩
  | .hbm, ⟨24, _⟩ => ⟨S16x1024x256, .f32⟩
  | .hbm, ⟨25, _⟩ => ⟨S16384x1x256, .f32⟩
  | .hbm, ⟨26, _⟩ => ⟨S1x16384x256, .f32⟩
  | .hbm, ⟨27, _⟩ => ⟨S4096x4x256, .f32⟩
  | .hbm, ⟨28, _⟩ => ⟨S4x4096x256, .f32⟩
  | .hbm, ⟨29, _⟩ => ⟨S1024x16x256, .f32⟩
  | .hbm, ⟨30, _⟩ => ⟨S16x1024x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== Fwd16.lean ====
abbrev S16384x4x64 : Shape := ⟨3, ![16384, 4, 64]⟩
abbrev S1024x16x256 : Shape := ⟨3, ![1024, 16, 256]⟩
abbrev S16x1024x256 : Shape := ⟨3, ![16, 1024, 256]⟩
abbrev S1x512x256 : Shape := ⟨3, ![1, 512, 256]⟩
abbrev S1x128x256 : Shape := ⟨3, ![1, 128, 256]⟩
abbrev S128x256 : Shape := ⟨2, ![128, 256]⟩
abbrev S128x128 : Shape := ⟨2, ![128, 128]⟩
abbrev S128 : Shape := ⟨1, ![128]⟩
abbrev S128x1 : Shape := ⟨2, ![128, 1]⟩
abbrev S16384x4x1 : Shape := ⟨3, ![16384, 4, 1]⟩
abbrev S16384x4 : Shape := ⟨2, ![16384, 4]⟩

abbrev nBuf : Space → Nat
  | .hbm => 20
  | .vmem => 14
  | .smem => 0
  | _ => 0

abbrev bufTy : (tb : Table) → Fin (tcTables nBuf tb) → BufTy
  | .hbm, ⟨0, _⟩ => ⟨S16384x4x64, .f32⟩
  | .hbm, ⟨1, _⟩ => ⟨S16384x4x64, .f32⟩
  | .hbm, ⟨2, _⟩ => ⟨S16384x4x64, .f32⟩
  | .hbm, ⟨3, _⟩ => ⟨S1024x16x256, .f32⟩
  | .hbm, ⟨4, _⟩ => ⟨S16x1024x256, .f32⟩
  | .hbm, ⟨5, _⟩ => ⟨S16x1024x256, .bf16⟩
  | .hbm, ⟨6, _⟩ => ⟨S1024x16x256, .f32⟩
  | .hbm, ⟨7, _⟩ => ⟨S16x1024x256, .f32⟩
  | .hbm, ⟨8, _⟩ => ⟨S16x1024x256, .bf16⟩
  | .hbm, ⟨9, _⟩ => ⟨S1024x16x256, .f32⟩
  | .hbm, ⟨10, _⟩ => ⟨S16x1024x256, .f32⟩
  | .hbm, ⟨11, _⟩ => ⟨S16x1024x256, .bf16⟩
  | .hbm, ⟨12, _⟩ => ⟨S16x1024x256, .f32⟩
  | .hbm, ⟨13, _⟩ => ⟨S16x1024x256, .f32⟩
  | .hbm, ⟨14, _⟩ => ⟨S1024x16x256, .f32⟩
  | .hbm, ⟨15, _⟩ => ⟨S16384x4x64, .f32⟩
  | .hbm, ⟨16, _⟩ => ⟨S1024x16x256, .f32⟩
  | .hbm, ⟨17, _⟩ => ⟨S16384x4x64, .f32⟩
  | .hbm, ⟨18, _⟩ => ⟨S16384x4x1, .f32⟩
  | .hbm, ⟨19, _⟩ => ⟨S16384x4, .f32⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | _, _ => ⟨S16384x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Fwd16Ideal.lean ====
variable {F : FTy → Type} [FloatOps F] [Named F]
def κ : String → Option EReal := fun
  | "mask" => some ⊥
  | _ => none
-- ==== RefFwd16Ideal.lean ====
abbrev S16384x4x64 : Shape := ⟨3, ![16384, 4, 64]⟩
abbrev S1024x16x4x64 : Shape := ⟨4, ![1024, 16, 4, 64]⟩
abbrev S16x1024x4x64 : Shape := ⟨4, ![16, 1024, 4, 64]⟩
abbrev S16x8x128x4x64 : Shape := ⟨5, ![16, 8, 128, 4, 64]⟩
abbrev S16x1x128x4x64 : Shape := ⟨5, ![16, 1, 128, 4, 64]⟩
abbrev S_ : Shape := ⟨0, ![]⟩
abbrev S16x7x128x4x64 : Shape := ⟨5, ![16, 7, 128, 4, 64]⟩
abbrev S16x8x256x4x64 : Shape := ⟨5, ![16, 8, 256, 4, 64]⟩
abbrev S16x8x4x128x256 : Shape := ⟨5, ![16, 8, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S8x1x128x256 : Shape := ⟨4, ![8, 1, 128, 256]⟩
abbrev S16x8x4x128 : Shape := ⟨4, ![16, 8, 4, 128]⟩
abbrev S16x8x4x128x1 : Shape := ⟨5, ![16, 8, 4, 128, 1]⟩
abbrev S16x8x4x64x128 : Shape := ⟨5, ![16, 8, 4, 64, 128]⟩
abbrev S16x8x128x4 : Shape := ⟨4, ![16, 8, 128, 4]⟩
abbrev S16x8x128x4x1 : Shape := ⟨5, ![16, 8, 128, 4, 1]⟩
abbrev S16x1024x4 : Shape := ⟨3, ![16, 1024, 4]⟩
abbrev S1024x16x4 : Shape := ⟨3, ![1024, 16, 4]⟩
abbrev S16384x4 : Shape := ⟨2, ![16384, 4]⟩

abbrev nBuf : Space → Nat
  | .hbm => 91
  | .vmem => 0
  | .smem => 0
  | _ => 0

abbrev bufTy : (tb : Table) → Fin (tcTables nBuf tb) → BufTy
  | .hbm, ⟨0, _⟩ => ⟨S16384x4x64, .f32⟩
  | .hbm, ⟨1, _⟩ => ⟨S16384x4x64, .f32⟩
  | .hbm, ⟨2, _⟩ => ⟨S16384x4x64, .f32⟩
  | .hbm, ⟨3, _⟩ => ⟨S1024x16x4x64, .f32⟩
  | .hbm, ⟨4, _⟩ => ⟨S16x1024x4x64, .f32⟩
  | .hbm, ⟨5, _⟩ => ⟨S16x8x128x4x64, .f32⟩
  | .hbm, ⟨6, _⟩ => ⟨S1024x16x4x64, .f32⟩
  | .hbm, ⟨7, _⟩ => ⟨S16x1024x4x64, .f32⟩
  | .hbm, ⟨8, _⟩ => ⟨S16x8x128x4x64, .f32⟩
  | .hbm, ⟨9, _⟩ => ⟨S16x1x128x4x64, .f32⟩
  | .hbm, ⟨10, _⟩ => ⟨S_, .f32⟩
  | .hbm, ⟨11, _⟩ => ⟨S16x1x128x4x64, .f32⟩
  | .hbm, ⟨12, _⟩ => ⟨S16x7x128x4x64, .f32⟩
  | .hbm, ⟨13, _⟩ => ⟨S16x8x128x4x64, .f32⟩
  | .hbm, ⟨14, _⟩ => ⟨S16x8x256x4x64, .f32⟩
  | .hbm, ⟨15, _⟩ => ⟨S1024x16x4x64, .f32⟩
  | .hbm, ⟨16, _⟩ => ⟨S16x1024x4x64, .f32⟩
  | .hbm, ⟨17, _⟩ => ⟨S16x8x128x4x64, .f32⟩
  | .hbm, ⟨18, _⟩ => ⟨S16x1x128x4x64, .f32⟩
  | .hbm, ⟨19, _⟩ => ⟨S_, .f32⟩
  | .hbm, ⟨20, _⟩ => ⟨S16x1x128x4x64, .f32⟩
  | .hbm, ⟨21, _⟩ => ⟨S16x7x128x4x64, .f32⟩
  | .hbm, ⟨22, _⟩ => ⟨S16x8x128x4x64, .f32⟩
  | .hbm, ⟨23, _⟩ => ⟨S16x8x256x4x64, .f32⟩
  | .hbm, ⟨24, _⟩ => ⟨S16x8x4x128x256, .f32⟩
  | .hbm, ⟨25, _⟩ => ⟨S_, .f32⟩
  | .hbm, ⟨26, _⟩ => ⟨S16x8x4x128x256, .f32⟩
  | .hbm, ⟨27, _⟩ => ⟨S16x8x4x128x256, .f32⟩
  | .hbm, ⟨28, _⟩ => ⟨S128, .i32⟩
  | .hbm, ⟨29, _⟩ => ⟨S128x1, .i32⟩
  | .hbm, ⟨30, _⟩ => ⟨S256, .i32⟩
  | .hbm, ⟨31, _⟩ => ⟨S1x256, .i32⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S128x256, .i32⟩
  | .hbm, ⟨36, _⟩ => ⟨S128x256, .i32⟩
  | .hbm, ⟨37, _⟩ => ⟨S128x256, .i32⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S128x256, .i1⟩
  | .hbm, ⟨45, _⟩ => ⟨S8, .i32⟩
  | .hbm, ⟨46, _⟩ => ⟨S8x1x1, .i32⟩
  | .hbm, ⟨47, _⟩ => ⟨S_, .i32⟩
  | .hbm, ⟨48, _⟩ => ⟨S8x1x1, .i32⟩
  | .hbm, ⟨49, _⟩ => ⟨S8x1x1, .i1⟩
  | .hbm, ⟨50, _⟩ => ⟨S1x1x256, .i32⟩
  | .hbm, ⟨51, _⟩ => ⟨S_, .i32⟩
  | .hbm, ⟨52, _⟩ => ⟨S1x1x256, .i32⟩
  | .hbm, ⟨53, _⟩ => ⟨S1x1x256, .i1⟩
  | .hbm, ⟨54, _⟩ => ⟨S8x1x256, .i1⟩
  | .hbm, ⟨55, _⟩ => ⟨S8x1x256, .i1⟩
  | .hbm, ⟨56, _⟩ => ⟨S8x1x256, .i1⟩
  | .hbm, ⟨57, _⟩ => ⟨S1x128x256, .i1⟩
  | .hbm, ⟨58, _⟩ => ⟨S8x128x256, .i1⟩
  | .hbm, ⟨59, _⟩ => ⟨S8x128x256, .i1⟩
  | .hbm, ⟨60, _⟩ => ⟨S8x128x256, .i1⟩
  | .hbm, ⟨61, _⟩ => ⟨S8x1x128x256, .i1⟩
  | .hbm, ⟨62, _⟩ => ⟨S_, .f32⟩
  | .hbm, ⟨63, _⟩ => ⟨S_, .f32⟩
  | .hbm, ⟨64, _⟩ => ⟨S16x8x4x128x256, .i1⟩
  | .hbm, ⟨65, _⟩ => ⟨S16x8x4x128x256, .f32⟩
  | .hbm, ⟨66, _⟩ => ⟨S16x8x4x128x256, .f32⟩
  | .hbm, ⟨67, _⟩ => ⟨S_, .f32⟩
  | .hbm, ⟨68, _⟩ => ⟨S16x8x4x128, .f32⟩
  | .hbm, ⟨69, _⟩ => ⟨S16x8x4x128x1, .f32⟩
  | .hbm, ⟨70, _⟩ => ⟨S16x8x4x128x256, .f32⟩
  | .hbm, ⟨71, _⟩ => ⟨S16x8x4x128x256, .f32⟩
  | .hbm, ⟨72, _⟩ => ⟨S16x8x4x128x256, .f32⟩
  | .hbm, ⟨73, _⟩ => ⟨S_, .f32⟩
  | .hbm, ⟨74, _⟩ => ⟨S16x8x4x128, .f32⟩
  | .hbm, ⟨75, _⟩ => ⟨S16x8x4x64x128, .f32⟩
  | .hbm, ⟨76, _⟩ => ⟨S16x8x128x4x64, .f32⟩
  | .hbm, ⟨77, _⟩ => ⟨S16x8x128x4, .f32⟩
  | .hbm, ⟨78, _⟩ => ⟨S16x8x128x4x1, .f32⟩
  | .hbm, ⟨79, _⟩ => ⟨S16x8x128x4x64, .f32⟩
  | .hbm, ⟨80, _⟩ => ⟨S16x8x128x4x64, .f32⟩
  | .hbm, ⟨81, _⟩ => ⟨S16x8x4x128, .f32⟩
  | .hbm, ⟨82, _⟩ => ⟨S16x8x4x128, .f32⟩
  | .hbm, ⟨83, _⟩ => ⟨S16x8x4x128, .f32⟩
  | .hbm, ⟨84, _⟩ => ⟨S16x1024x4x64, .f32⟩
  | .hbm, ⟨85, _⟩ => ⟨S1024x16x4x64, .f32⟩
  | .hbm, ⟨86, _⟩ => ⟨S16384x4x64, .f32⟩
  | .hbm, ⟨87, _⟩ => ⟨S16x8x128x4, .f32⟩
  | .hbm, ⟨88, _⟩ => ⟨S16x1024x4, .f32⟩
  | .hbm, ⟨89, _⟩ => ⟨S1024x16x4, .f32⟩
  | .hbm, ⟨90, _⟩ => ⟨S16384x4, .f32⟩
  | _, _ => ⟨S16384x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_2 : Ref sig .tc := ⟨.hbm, 38, rfl⟩
abbrev main_v31 : Ref sig .tc := ⟨.hbm, 39, rfl⟩
abbrev main_v32 : Ref sig .tc := ⟨.hbm, 40, rfl⟩
abbrev main_c_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩

abbrev nD : Nat := 1
abbrev τ : Topo := Topo.v7x

variable {F : FTy → Type} [FloatOps F]
-- ==== Fwd4.lean ====
abbrev S16384x4x64 : Shape := ⟨3, ![16384, 4, 64]⟩
abbrev S4096x4x256 : Shape := ⟨3, ![4096, 4, 256]⟩
abbrev S4x4096x256 : Shape := ⟨3, ![4, 4096, 256]⟩
abbrev S1x512x256 : Shape := ⟨3, ![1, 512, 256]⟩
abbrev S1x128x256 : Shape := ⟨3, ![1, 128, 256]⟩
abbrev S128x256 : Shape := ⟨2, ![128, 256]⟩
abbrev S128x128 : Shape := ⟨2, ![128, 128]⟩
abbrev S128 : Shape := ⟨1, ![128]⟩
abbrev S128x1 : Shape := ⟨2, ![128, 1]⟩
abbrev S16384x4x1 : Shape := ⟨3, ![16384, 4, 1]⟩
abbrev S16384x4 : Shape := ⟨2, ![16384, 4]⟩

abbrev nBuf : Space → Nat
  | .hbm => 20
  | .vmem => 14
  | .smem => 0
  | _ => 0

abbrev bufTy : (tb : Table) → Fin (tcTables nBuf tb) → BufTy
  | .hbm, ⟨0, _⟩ => ⟨S16384x4x64, .f32⟩
  | .hbm, ⟨1, _⟩ => ⟨S16384x4x64, .f32⟩
  | .hbm, ⟨2, _⟩ => ⟨S16384x4x64, .f32⟩
  | .hbm, ⟨3, _⟩ => ⟨S4096x4x256, .f32⟩
  | .hbm, ⟨4, _⟩ => ⟨S4x4096x256, .f32⟩
  | .hbm, ⟨5, _⟩ => ⟨S4x4096x256, .bf16⟩
  | .hbm, ⟨6, _⟩ => ⟨S4096x4x256, .f32⟩
  | .hbm, ⟨7, _⟩ => ⟨S4x4096x256, .f32⟩
  | .hbm, ⟨8, _⟩ => ⟨S4x4096x256, .bf16⟩
  | .hbm, ⟨9, _⟩ => ⟨S4096x4x256, .f32⟩
  | .hbm, ⟨10, _⟩ => ⟨S4x4096x256, .f32⟩
  | .hbm, ⟨11, _⟩ => ⟨S4x4096x256, .bf16⟩
  | .hbm, ⟨12, _⟩ => ⟨S4x4096x256, .f32⟩
  | .hbm, ⟨13, _⟩ => ⟨S4x4096x256, .f32⟩
  | .hbm, ⟨14, _⟩ => ⟨S4096x4x256, .f32⟩
  | .hbm, ⟨15, _⟩ => ⟨S16384x4x64, .f32⟩
  | .hbm, ⟨16, _⟩ => ⟨S4096x4x256, .f32⟩
  | .hbm, ⟨17, _⟩ => ⟨S16384x4x64, .f32⟩
  | .hbm, ⟨18, _⟩ => ⟨S16384x4x1, .f32⟩
  | .hbm, ⟨19, _⟩ => ⟨S16384x4, .f32⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | _, _ => ⟨S16384x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Fwd4Ideal.lean ====
variable {F : FTy → Type} [FloatOps F] [Named F]
def κ : String → Option EReal := fun
  | "mask" => some ⊥
  | _ => none
-- ==== RefFwd4Ideal.lean ====
abbrev S16384x4x64 : Shape := ⟨3, ![16384, 4, 64]⟩
abbrev S4096x4x4x64 : Shape := ⟨4, ![4096, 4, 4, 64]⟩
abbrev S4x4096x4x64 : Shape := ⟨4, ![4, 4096, 4, 64]⟩
abbrev S4x32x128x4x64 : Shape := ⟨5, ![4, 32, 128, 4, 64]⟩
abbrev S4x1x128x4x64 : Shape := ⟨5, ![4, 1, 128, 4, 64]⟩
abbrev S_ : Shape := ⟨0, ![]⟩
abbrev S4x31x128x4x64 : Shape := ⟨5, ![4, 31, 128, 4, 64]⟩
abbrev S4x32x256x4x64 : Shape := ⟨5, ![4, 32, 256, 4, 64]⟩
abbrev S4x32x4x128x256 : Shape := ⟨5, ![4, 32, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x128x256 : Shape := ⟨4, ![32, 1, 128, 256]⟩
abbrev S4x32x4x128 : Shape := ⟨4, ![4, 32, 4, 128]⟩
abbrev S4x32x4x128x1 : Shape := ⟨5, ![4, 32, 4, 128, 1]⟩
abbrev S4x32x4x64x128 : Shape := ⟨5, ![4, 32, 4, 64, 128]⟩
abbrev S4x32x128x4 : Shape := ⟨4, ![4, 32, 128, 4]⟩
abbrev S4x32x128x4x1 : Shape := ⟨5, ![4, 32, 128, 4, 1]⟩
abbrev S4x4096x4 : Shape := ⟨3, ![4, 4096, 4]⟩
abbrev S4096x4x4 : Shape := ⟨3, ![4096, 4, 4]⟩
abbrev S16384x4 : Shape := ⟨2, ![16384, 4]⟩

abbrev nBuf : Space → Nat
  | .hbm => 91
  | .vmem => 0
  | .smem => 0
  | _ => 0

abbrev bufTy : (tb : Table) → Fin (tcTables nBuf tb) → BufTy
  | .hbm, ⟨0, _⟩ => ⟨S16384x4x64, .f32⟩
  | .hbm, ⟨1, _⟩ => ⟨S16384x4x64, .f32⟩
  | .hbm, ⟨2, _⟩ => ⟨S16384x4x64, .f32⟩
  | .hbm, ⟨3, _⟩ => ⟨S4096x4x4x64, .f32⟩
  | .hbm, ⟨4, _⟩ => ⟨S4x4096x4x64, .f32⟩
  | .hbm, ⟨5, _⟩ => ⟨S4x32x128x4x64, .f32⟩
  | .hbm, ⟨6, _⟩ => ⟨S4096x4x4x64, .f32⟩
  | .hbm, ⟨7, _⟩ => ⟨S4x4096x4x64, .f32⟩
  | .hbm, ⟨8, _⟩ => ⟨S4x32x128x4x64, .f32⟩
  | .hbm, ⟨9, _⟩ => ⟨S4x1x128x4x64, .f32⟩
  | .hbm, ⟨10, _⟩ => ⟨S_, .f32⟩
  | .hbm, ⟨11, _⟩ => ⟨S4x1x128x4x64, .f32⟩
  | .hbm, ⟨12, _⟩ => ⟨S4x31x128x4x64, .f32⟩
  | .hbm, ⟨13, _⟩ => ⟨S4x32x128x4x64, .f32⟩
  | .hbm, ⟨14, _⟩ => ⟨S4x32x256x4x64, .f32⟩
  | .hbm, ⟨15, _⟩ => ⟨S4096x4x4x64, .f32⟩
  | .hbm, ⟨16, _⟩ => ⟨S4x4096x4x64, .f32⟩
  | .hbm, ⟨17, _⟩ => ⟨S4x32x128x4x64, .f32⟩
  | .hbm, ⟨18, _⟩ => ⟨S4x1x128x4x64, .f32⟩
  | .hbm, ⟨19, _⟩ => ⟨S_, .f32⟩
  | .hbm, ⟨20, _⟩ => ⟨S4x1x128x4x64, .f32⟩
  | .hbm, ⟨21, _⟩ => ⟨S4x31x128x4x64, .f32⟩
  | .hbm, ⟨22, _⟩ => ⟨S4x32x128x4x64, .f32⟩
  | .hbm, ⟨23, _⟩ => ⟨S4x32x256x4x64, .f32⟩
  | .hbm, ⟨24, _⟩ => ⟨S4x32x4x128x256, .f32⟩
  | .hbm, ⟨25, _⟩ => ⟨S_, .f32⟩
  | .hbm, ⟨26, _⟩ => ⟨S4x32x4x128x256, .f32⟩
  | .hbm, ⟨27, _⟩ => ⟨S4x32x4x128x256, .f32⟩
  | .hbm, ⟨28, _⟩ => ⟨S128, .i32⟩
  | .hbm, ⟨29, _⟩ => ⟨S128x1, .i32⟩
  | .hbm, ⟨30, _⟩ => ⟨S256, .i32⟩
  | .hbm, ⟨31, _⟩ => ⟨S1x256, .i32⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S128x256, .i32⟩
  | .hbm, ⟨36, _⟩ => ⟨S128x256, .i32⟩
  | .hbm, ⟨37, _⟩ => ⟨S128x256, .i32⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S128x256, .i1⟩
  | .hbm, ⟨45, _⟩ => ⟨S32, .i32⟩
  | .hbm, ⟨46, _⟩ => ⟨S32x1x1, .i32⟩
  | .hbm, ⟨47, _⟩ => ⟨S_, .i32⟩
  | .hbm, ⟨48, _⟩ => ⟨S32x1x1, .i32⟩
  | .hbm, ⟨49, _⟩ => ⟨S32x1x1, .i1⟩
  | .hbm, ⟨50, _⟩ => ⟨S1x1x256, .i32⟩
  | .hbm, ⟨51, _⟩ => ⟨S_, .i32⟩
  | .hbm, ⟨52, _⟩ => ⟨S1x1x256, .i32⟩
  | .hbm, ⟨53, _⟩ => ⟨S1x1x256, .i1⟩
  | .hbm, ⟨54, _⟩ => ⟨S32x1x256, .i1⟩
  | .hbm, ⟨55, _⟩ => ⟨S32x1x256, .i1⟩
  | .hbm, ⟨56, _⟩ => ⟨S32x1x256, .i1⟩
  | .hbm, ⟨57, _⟩ => ⟨S1x128x256, .i1⟩
  | .hbm, ⟨58, _⟩ => ⟨S32x128x256, .i1⟩
  | .hbm, ⟨59, _⟩ => ⟨S32x128x256, .i1⟩
  | .hbm, ⟨60, _⟩ => ⟨S32x128x256, .i1⟩
  | .hbm, ⟨61, _⟩ => ⟨S32x1x128x256, .i1⟩
  | .hbm, ⟨62, _⟩ => ⟨S_, .f32⟩
  | .hbm, ⟨63, _⟩ => ⟨S_, .f32⟩
  | .hbm, ⟨64, _⟩ => ⟨S4x32x4x128x256, .i1⟩
  | .hbm, ⟨65, _⟩ => ⟨S4x32x4x128x256, .f32⟩
  | .hbm, ⟨66, _⟩ => ⟨S4x32x4x128x256, .f32⟩
  | .hbm, ⟨67, _⟩ => ⟨S_, .f32⟩
  | .hbm, ⟨68, _⟩ => ⟨S4x32x4x128, .f32⟩
  | .hbm, ⟨69, _⟩ => ⟨S4x32x4x128x1, .f32⟩
  | .hbm, ⟨70, _⟩ => ⟨S4x32x4x128x256, .f32⟩
  | .hbm, ⟨71, _⟩ => ⟨S4x32x4x128x256, .f32⟩
  | .hbm, ⟨72, _⟩ => ⟨S4x32x4x128x256, .f32⟩
  | .hbm, ⟨73, _⟩ => ⟨S_, .f32⟩
  | .hbm, ⟨74, _⟩ => ⟨S4x32x4x128, .f32⟩
  | .hbm, ⟨75, _⟩ => ⟨S4x32x4x64x128, .f32⟩
  | .hbm, ⟨76, _⟩ => ⟨S4x32x128x4x64, .f32⟩
  | .hbm, ⟨77, _⟩ => ⟨S4x32x128x4, .f32⟩
  | .hbm, ⟨78, _⟩ => ⟨S4x32x128x4x1, .f32⟩
  | .hbm, ⟨79, _⟩ => ⟨S4x32x128x4x64, .f32⟩
  | .hbm, ⟨80, _⟩ => ⟨S4x32x128x4x64, .f32⟩
  | .hbm, ⟨81, _⟩ => ⟨S4x32x4x128, .f32⟩
  | .hbm, ⟨82, _⟩ => ⟨S4x32x4x128, .f32⟩
  | .hbm, ⟨83, _⟩ => ⟨S4x32x4x128, .f32⟩
  | .hbm, ⟨84, _⟩ => ⟨S4x4096x4x64, .f32⟩
  | .hbm, ⟨85, _⟩ => ⟨S4096x4x4x64, .f32⟩
  | .hbm, ⟨86, _⟩ => ⟨S16384x4x64, .f32⟩
  | .hbm, ⟨87, _⟩ => ⟨S4x32x128x4, .f32⟩
  | .hbm, ⟨88, _⟩ => ⟨S4x4096x4, .f32⟩
  | .hbm, ⟨89, _⟩ => ⟨S4096x4x4, .f32⟩
  | .hbm, ⟨90, _⟩ => ⟨S16384x4, .f32⟩
  | _, _ => ⟨S16384x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_2 : Ref sig .tc := ⟨.hbm, 38, rfl⟩
abbrev main_v31 : Ref sig .tc := ⟨.hbm, 39, rfl⟩
abbrev main_v32 : Ref sig .tc := ⟨.hbm, 40, rfl⟩
abbrev main_c_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩

abbrev nD : Nat := 1
abbrev τ : Topo := Topo.v7x

variable {F : FTy → Type} [FloatOps F]
-- ==== Fwd1.lean ====
abbrev S16384x4x64 : Shape := ⟨3, ![16384, 4, 64]⟩
abbrev S16384x1x256 : Shape := ⟨3, ![16384, 1, 256]⟩
abbrev S1x16384x256 : Shape := ⟨3, ![1, 16384, 256]⟩
abbrev S1x512x256 : Shape := ⟨3, ![1, 512, 256]⟩
abbrev S1x128x256 : Shape := ⟨3, ![1, 128, 256]⟩
abbrev S128x256 : Shape := ⟨2, ![128, 256]⟩
abbrev S128x128 : Shape := ⟨2, ![128, 128]⟩
abbrev S128 : Shape := ⟨1, ![128]⟩
abbrev S128x1 : Shape := ⟨2, ![128, 1]⟩
abbrev S16384x4x1 : Shape := ⟨3, ![16384, 4, 1]⟩
abbrev S16384x4 : Shape := ⟨2, ![16384, 4]⟩

abbrev nBuf : Space → Nat
  | .hbm => 20
  | .vmem => 14
  | .smem => 0
  | _ => 0

abbrev bufTy : (tb : Table) → Fin (tcTables nBuf tb) → BufTy
  | .hbm, ⟨0, _⟩ => ⟨S16384x4x64, .f32⟩
  | .hbm, ⟨1, _⟩ => ⟨S16384x4x64, .f32⟩
  | .hbm, ⟨2, _⟩ => ⟨S16384x4x64, .f32⟩
  | .hbm, ⟨3, _⟩ => ⟨S16384x1x256, .f32⟩
  | .hbm, ⟨4, _⟩ => ⟨S1x16384x256, .f32⟩
  | .hbm, ⟨5, _⟩ => ⟨S1x16384x256, .bf16⟩
  | .hbm, ⟨6, _⟩ => ⟨S16384x1x256, .f32⟩
  | .hbm, ⟨7, _⟩ => ⟨S1x16384x256, .f32⟩
  | .hbm, ⟨8, _⟩ => ⟨S1x16384x256, .bf16⟩
  | .hbm, ⟨9, _⟩ => ⟨S16384x1x256, .f32⟩
  | .hbm, ⟨10, _⟩ => ⟨S1x16384x256, .f32⟩
  | .hbm, ⟨11, _⟩ => ⟨S1x16384x256, .bf16⟩
  | .hbm, ⟨12, _⟩ => ⟨S1x16384x256, .f32⟩
  | .hbm, ⟨13, _⟩ => ⟨S1x16384x256, .f32⟩
  | .hbm, ⟨14, _⟩ => ⟨S16384x1x256, .f32⟩
  | .hbm, ⟨15, _⟩ => ⟨S16384x4x64, .f32⟩
  | .hbm, ⟨16, _⟩ => ⟨S16384x1x256, .f32⟩
  | .hbm, ⟨17, _⟩ => ⟨S16384x4x64, .f32⟩
  | .hbm, ⟨18, _⟩ => ⟨S16384x4x1, .f32⟩
  | .hbm, ⟨19, _⟩ => ⟨S16384x4, .f32⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | _, _ => ⟨S16384x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Fwd1Ideal.lean ====
variable {F : FTy → Type} [FloatOps F] [Named F]
def κ : String → Option EReal := fun
  | "mask" => some ⊥
  | _ => none
-- ==== RefFwd1Ideal.lean ====
abbrev S16384x4x64 : Shape := ⟨3, ![16384, 4, 64]⟩
abbrev S16384x1x4x64 : Shape := ⟨4, ![16384, 1, 4, 64]⟩
abbrev S1x16384x4x64 : Shape := ⟨4, ![1, 16384, 4, 64]⟩
abbrev S1x128x128x4x64 : Shape := ⟨5, ![1, 128, 128, 4, 64]⟩
abbrev S1x1x128x4x64 : Shape := ⟨5, ![1, 1, 128, 4, 64]⟩
abbrev S_ : Shape := ⟨0, ![]⟩
abbrev S1x127x128x4x64 : Shape := ⟨5, ![1, 127, 128, 4, 64]⟩
abbrev S1x128x256x4x64 : Shape := ⟨5, ![1, 128, 256, 4, 64]⟩
abbrev S1x128x4x128x256 : Shape := ⟨5, ![1, 128, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S128x1x128x256 : Shape := ⟨4, ![128, 1, 128, 256]⟩
abbrev S1x128x4x128 : Shape := ⟨4, ![1, 128, 4, 128]⟩
abbrev S1x128x4x128x1 : Shape := ⟨5, ![1, 128, 4, 128, 1]⟩
abbrev S1x128x4x64x128 : Shape := ⟨5, ![1, 128, 4, 64, 128]⟩
abbrev S1x128x128x4 : Shape := ⟨4, ![1, 128, 128, 4]⟩
abbrev S1x128x128x4x1 : Shape := ⟨5, ![1, 128, 128, 4, 1]⟩
abbrev S1x16384x4 : Shape := ⟨3, ![1, 16384, 4]⟩
abbrev S16384x1x4 : Shape := ⟨3, ![16384, 1, 4]⟩
abbrev S16384x4 : Shape := ⟨2, ![16384, 4]⟩

abbrev nBuf : Space → Nat
  | .hbm => 91
  | .vmem => 0
  | .smem => 0
  | _ => 0

abbrev bufTy : (tb : Table) → Fin (tcTables nBuf tb) → BufTy
  | .hbm, ⟨0, _⟩ => ⟨S16384x4x64, .f32⟩
  | .hbm, ⟨1, _⟩ => ⟨S16384x4x64, .f32⟩
  | .hbm, ⟨2, _⟩ => ⟨S16384x4x64, .f32⟩
  | .hbm, ⟨3, _⟩ => ⟨S16384x1x4x64, .f32⟩
  | .hbm, ⟨4, _⟩ => ⟨S1x16384x4x64, .f32⟩
  | .hbm, ⟨5, _⟩ => ⟨S1x128x128x4x64, .f32⟩
  | .hbm, ⟨6, _⟩ => ⟨S16384x1x4x64, .f32⟩
  | .hbm, ⟨7, _⟩ => ⟨S1x16384x4x64, .f32⟩
  | .hbm, ⟨8, _⟩ => ⟨S1x128x128x4x64, .f32⟩
  | .hbm, ⟨9, _⟩ => ⟨S1x1x128x4x64, .f32⟩
  | .hbm, ⟨10, _⟩ => ⟨S_, .f32⟩
  | .hbm, ⟨11, _⟩ => ⟨S1x1x128x4x64, .f32⟩
  | .hbm, ⟨12, _⟩ => ⟨S1x127x128x4x64, .f32⟩
  | .hbm, ⟨13, _⟩ => ⟨S1x128x128x4x64, .f32⟩
  | .hbm, ⟨14, _⟩ => ⟨S1x128x256x4x64, .f32⟩
  | .hbm, ⟨15, _⟩ => ⟨S16384x1x4x64, .f32⟩
  | .hbm, ⟨16, _⟩ => ⟨S1x16384x4x64, .f32⟩
  | .hbm, ⟨17, _⟩ => ⟨S1x128x128x4x64, .f32⟩
  | .hbm, ⟨18, _⟩ => ⟨S1x1x128x4x64, .f32⟩
  | .hbm, ⟨19, _⟩ => ⟨S_, .f32⟩
  | .hbm, ⟨20, _⟩ => ⟨S1x1x128x4x64, .f32⟩
  | .hbm, ⟨21, _⟩ => ⟨S1x127x128x4x64, .f32⟩
  | .hbm, ⟨22, _⟩ => ⟨S1x128x128x4x64, .f32⟩
  | .hbm, ⟨23, _⟩ => ⟨S1x128x256x4x64, .f32⟩
  | .hbm, ⟨24, _⟩ => ⟨S1x128x4x128x256, .f32⟩
  | .hbm, ⟨25, _⟩ => ⟨S_, .f32⟩
  | .hbm, ⟨26, _⟩ => ⟨S1x128x4x128x256, .f32⟩
  | .hbm, ⟨27, _⟩ => ⟨S1x128x4x128x256, .f32⟩
  | .hbm, ⟨28, _⟩ => ⟨S128, .i32⟩
  | .hbm, ⟨29, _⟩ => ⟨S128x1, .i32⟩
  | .hbm, ⟨30, _⟩ => ⟨S256, .i32⟩
  | .hbm, ⟨31, _⟩ => ⟨S1x256, .i32⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S128x256, .i32⟩
  | .hbm, ⟨36, _⟩ => ⟨S128x256, .i32⟩
  | .hbm, ⟨37, _⟩ => ⟨S128x256, .i32⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S128x256, .i1⟩
  | .hbm, ⟨45, _⟩ => ⟨S128, .i32⟩
  | .hbm, ⟨46, _⟩ => ⟨S128x1x1, .i32⟩
  | .hbm, ⟨47, _⟩ => ⟨S_, .i32⟩
  | .hbm, ⟨48, _⟩ => ⟨S128x1x1, .i32⟩
  | .hbm, ⟨49, _⟩ => ⟨S128x1x1, .i1⟩
  | .hbm, ⟨50, _⟩ => ⟨S1x1x256, .i32⟩
  | .hbm, ⟨51, _⟩ => ⟨S_, .i32⟩
  | .hbm, ⟨52, _⟩ => ⟨S1x1x256, .i32⟩
  | .hbm, ⟨53, _⟩ => ⟨S1x1x256, .i1⟩
  | .hbm, ⟨54, _⟩ => ⟨S128x1x256, .i1⟩
  | .hbm, ⟨55, _⟩ => ⟨S128x1x256, .i1⟩
  | .hbm, ⟨56, _⟩ => ⟨S128x1x256, .i1⟩
  | .hbm, ⟨57, _⟩ => ⟨S1x128x256, .i1⟩
  | .hbm, ⟨58, _⟩ => ⟨S128x128x256, .i1⟩
  | .hbm, ⟨59, _⟩ => ⟨S128x128x256, .i1⟩
  | .hbm, ⟨60, _⟩ => ⟨S128x128x256, .i1⟩
  | .hbm, ⟨61, _⟩ => ⟨S128x1x128x256, .i1⟩
  | .hbm, ⟨62, _⟩ => ⟨S_, .f32⟩
  | .hbm, ⟨63, _⟩ => ⟨S_, .f32⟩
  | .hbm, ⟨64, _⟩ => ⟨S1x128x4x128x256, .i1⟩
  | .hbm, ⟨65, _⟩ => ⟨S1x128x4x128x256, .f32⟩
  | .hbm, ⟨66, _⟩ => ⟨S1x128x4x128x256, .f32⟩
  | .hbm, ⟨67, _⟩ => ⟨S_, .f32⟩
  | .hbm, ⟨68, _⟩ => ⟨S1x128x4x128, .f32⟩
  | .hbm, ⟨69, _⟩ => ⟨S1x128x4x128x1, .f32⟩
  | .hbm, ⟨70, _⟩ => ⟨S1x128x4x128x256, .f32⟩
  | .hbm, ⟨71, _⟩ => ⟨S1x128x4x128x256, .f32⟩
  | .hbm, ⟨72, _⟩ => ⟨S1x128x4x128x256, .f32⟩
  | .hbm, ⟨73, _⟩ => ⟨S_, .f32⟩
  | .hbm, ⟨74, _⟩ => ⟨S1x128x4x128, .f32⟩
  | .hbm, ⟨75, _⟩ => ⟨S1x128x4x64x128, .f32⟩
  | .hbm, ⟨76, _⟩ => ⟨S1x128x128x4x64, .f32⟩
  | .hbm, ⟨77, _⟩ => ⟨S1x128x128x4, .f32⟩
  | .hbm, ⟨78, _⟩ => ⟨S1x128x128x4x1, .f32⟩
  | .hbm, ⟨79, _⟩ => ⟨S1x128x128x4x64, .f32⟩
  | .hbm, ⟨80, _⟩ => ⟨S1x128x128x4x64, .f32⟩
  | .hbm, ⟨81, _⟩ => ⟨S1x128x4x128, .f32⟩
  | .hbm, ⟨82, _⟩ => ⟨S1x128x4x128, .f32⟩
  | .hbm, ⟨83, _⟩ => ⟨S1x128x4x128, .f32⟩
  | .hbm, ⟨84, _⟩ => ⟨S1x16384x4x64, .f32⟩
  | .hbm, ⟨85, _⟩ => ⟨S16384x1x4x64, .f32⟩
  | .hbm, ⟨86, _⟩ => ⟨S16384x4x64, .f32⟩
  | .hbm, ⟨87, _⟩ => ⟨S1x128x128x4, .f32⟩
  | .hbm, ⟨88, _⟩ => ⟨S1x16384x4, .f32⟩
  | .hbm, ⟨89, _⟩ => ⟨S16384x1x4, .f32⟩
  | .hbm, ⟨90, _⟩ => ⟨S16384x4, .f32⟩
  | _, _ => ⟨S16384x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_2 : Ref sig .tc := ⟨.hbm, 38, rfl⟩
abbrev main_v31 : Ref sig .tc := ⟨.hbm, 39, rfl⟩
abbrev main_v32 : Ref sig .tc := ⟨.hbm, 40, rfl⟩
abbrev main_c_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩

abbrev nD : Nat := 1
abbrev τ : Topo := Topo.v7x

variable {F : FTy → Type} [FloatOps F]
-- ==== UpF.lean ====
abbrev S16384x1024 : Shape := ⟨2, ![16384, 1024]⟩
abbrev S1024x2816 : Shape := ⟨2, ![1024, 2816]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S16384x1024, .bf16⟩
  | .hbm, ⟨4, _⟩ => ⟨S1024x2816, .bf16⟩
  | .hbm, ⟨5, _⟩ => ⟨S16384x1024, .bf16⟩
  | .hbm, ⟨6, _⟩ => ⟨S1024x2816, .bf16⟩
  | .hbm, ⟨7, _⟩ => ⟨S16384x2816, .bf16⟩
  | .hbm, ⟨8, _⟩ => ⟨S16384x2816, .bf16⟩
  | .hbm, ⟨9, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S512x1024, .bf16⟩
  | .local _ .vmem, ⟨5, _⟩ => ⟨S512x1024, .bf16⟩
  | .local _ .vmem, ⟨6, _⟩ => ⟨S1024x1408, .bf16⟩
  | .local _ .vmem, ⟨7, _⟩ => ⟨S1024x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefUpFIdeal.lean ====
abbrev S16384x1024 : Shape := ⟨2, ![16384, 1024]⟩
abbrev S1024x2816 : Shape := ⟨2, ![1024, 2816]⟩
abbrev S16384x2816 : Shape := ⟨2, ![16384, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S16384x2816, .f32⟩
  | .hbm, ⟨4, _⟩ => ⟨S16384x2816, .f32⟩
  | .hbm, ⟨5, _⟩ => ⟨S16384x2816, .bf16⟩
  | .hbm, ⟨6, _⟩ => ⟨S16384x2816, .bf16⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== BranchF.lean ====
abbrev S16384x256 : Shape := ⟨2, ![16384, 256]⟩
abbrev S256x1024 : Shape := ⟨2, ![256, 1024]⟩
abbrev S16384x1024 : Shape := ⟨2, ![16384, 1024]⟩
abbrev S1024x1024 : Shape := ⟨2, ![1024, 1024]⟩
abbrev S512x256 : Shape := ⟨2, ![512, 256]⟩
abbrev S512x1024 : Shape := ⟨2, ![512, 1024]⟩

abbrev nBuf : Space → Nat
  | .hbm => 15
  | .vmem => 16
  | .smem => 0
  | _ => 0

abbrev bufTy : (tb : Table) → Fin (tcTables nBuf tb) → BufTy
  | .hbm, ⟨0, _⟩ => ⟨S16384x256, .f32⟩
  | .hbm, ⟨1, _⟩ => ⟨S256x1024, .f32⟩
  | .hbm, ⟨2, _⟩ => ⟨S16384x1024, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x256, .bf16⟩
  | .hbm, ⟨7, _⟩ => ⟨S256x1024, .bf16⟩
  | .hbm, ⟨8, _⟩ => ⟨S16384x1024, .bf16⟩
  | .hbm, ⟨9, _⟩ => ⟨S1024x1024, .bf16⟩
  | .hbm, ⟨10, _⟩ => ⟨S16384x1024, .bf16⟩
  | .hbm, ⟨11, _⟩ => ⟨S16384x1024, .bf16⟩
  | .hbm, ⟨12, _⟩ => ⟨S16384x1024, .bf16⟩
  | .hbm, ⟨13, _⟩ => ⟨S16384x1024, .bf16⟩
  | .hbm, ⟨14, _⟩ => ⟨S16384x1024, .bf16⟩
  | .local _ .vmem, ⟨0, _⟩ => ⟨S512x256, .bf16⟩
  | .local _ .vmem, ⟨1, _⟩ => ⟨S512x256, .bf16⟩
  | .local _ .vmem, ⟨2, _⟩ => ⟨S256x1024, .bf16⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefBranchFIdeal.lean ====
abbrev S16384x256 : Shape := ⟨2, ![16384, 256]⟩
abbrev S256x1024 : Shape := ⟨2, ![256, 1024]⟩
abbrev S16384x1024 : Shape := ⟨2, ![16384, 1024]⟩
abbrev S1024x1024 : Shape := ⟨2, ![1024, 1024]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x1024, .f32⟩
  | .hbm, ⟨2, _⟩ => ⟨S16384x1024, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .bf16⟩
  | .hbm, ⟨28, _⟩ => ⟨S16384x1024, .bf16⟩
  | .hbm, ⟨29, _⟩ => ⟨S16384x1024, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== DownF.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S16384x2816, .bf16⟩
  | .hbm, ⟨8, _⟩ => ⟨S2816x1024, .bf16⟩
  | .hbm, ⟨9, _⟩ => ⟨S16384x1024, .f32⟩
  | .hbm, ⟨10, _⟩ => ⟨S16384x1024, .bf16⟩
  | .hbm, ⟨11, _⟩ => ⟨S16384x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RefDownFIdeal.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 38
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .bf16⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== OutF.lean ====
abbrev S16384x1024 : Shape := ⟨2, ![16384, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S16384x1024, .bf16⟩
  | .hbm, ⟨8, _⟩ => ⟨S1024x1024, .bf16⟩
  | .hbm, ⟨9, _⟩ => ⟨S16384x1024, .f32⟩
  | .hbm, ⟨10, _⟩ => ⟨S16384x1024, .bf16⟩
  | .hbm, ⟨11, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RefOutFIdeal.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .bf16⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== ModF.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefModFIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== BinB.lean ====
abbrev S16384x1024 : Shape := ⟨2, ![16384, 1024]⟩
abbrev S1x1024 : Shape := ⟨2, ![1, 1024]⟩
abbrev S1024x6400 : Shape := ⟨2, ![1024, 6400]⟩
abbrev S16384x2304 : Shape := ⟨2, ![16384, 2304]⟩
abbrev S16384x2048 : Shape := ⟨2, ![16384, 2048]⟩
abbrev S1024x2304 : Shape := ⟨2, ![1024, 2304]⟩
abbrev S1024x2048 : Shape := ⟨2, ![1024, 2048]⟩
abbrev S1024x1024 : Shape := ⟨2, ![1024, 1024]⟩
abbrev S_ : Shape := ⟨0, ![]⟩
abbrev S256x2304 : Shape := ⟨2, ![256, 2304]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 37
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x6400, .f32⟩
  | .hbm, ⟨7, _⟩ => ⟨S16384x2304, .f32⟩
  | .hbm, ⟨8, _⟩ => ⟨S16384x2048, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S1024x2304, .f32⟩
  | .hbm, ⟨13, _⟩ => ⟨S1024x2048, .f32⟩
  | .hbm, ⟨14, _⟩ => ⟨S1024x1024, .f32⟩
  | .hbm, ⟨15, _⟩ => ⟨S1024x1024, .f32⟩
  | .hbm, ⟨16, _⟩ => ⟨S16384x2304, .bf16⟩
  | .hbm, ⟨17, _⟩ => ⟨S1024x2304, .bf16⟩
  | .hbm, ⟨18, _⟩ => ⟨S16384x2048, .bf16⟩
  | .hbm, ⟨19, _⟩ => ⟨S1024x2048, .bf16⟩
  | .hbm, ⟨20, _⟩ => ⟨S16384x1024, .bf16⟩
  | .hbm, ⟨21, _⟩ => ⟨S1024x1024, .bf16⟩
  | .hbm, ⟨22, _⟩ => ⟨S16384x1024, .bf16⟩
  | .hbm, ⟨23, _⟩ => ⟨S1024x1024, .bf16⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .bf16⟩
  | .hbm, ⟨31, _⟩ => ⟨S16384x1024, .f32⟩
  | .hbm, ⟨32, _⟩ => ⟨S16384x1024, .bf16⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .local _ .vmem, ⟨0, _⟩ => ⟨S256x2304, .bf16⟩
  | .local _ .vmem, ⟨1, _⟩ => ⟨S256x2304, .bf16⟩
  | .local _ .vmem, ⟨2, _⟩ => ⟨S1024x2304, .bf16⟩
  | .local _ .vmem, ⟨3, _⟩ => ⟨S256x2048, .bf16⟩
  | .local _ .vmem, ⟨4, _⟩ => ⟨S256x2048, .bf16⟩
  | .local _ .vmem, ⟨5, _⟩ => ⟨S1024x2048, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .bf16⟩
  | .local _ .vmem, ⟨9, _⟩ => ⟨S256x1024, .bf16⟩
  | .local _ .vmem, ⟨10, _⟩ => ⟨S256x1024, .bf16⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev main_v18_4 : Ref sig .tc := ⟨.hbm, 35, rfl⟩
abbrev main_v18_5 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem18_0 : DmaSem sig := 27
abbrev cc0_sem19_0 : DmaSem sig := 28

abbrev nD : Nat := 1
abbrev τ : Topo := Topo.v7x

variable {F : FTy → Type} [FloatOps F]

abbrev grid0 : Pipeline.Grid := ⟨2, ![1, 64], ![false, false]⟩

def k0_cond1 (i : grid0.Coords) : BitVec 1 :=
  let arg1 : BitVec 32 := BitVec.ofNat 32 (i 1).val
  let c0_i32 : BitVec 32 := 0#32
  let v81 : BitVec 1 := Scalar.cmpi .eq arg1 c0_i32
  let v82 : BitVec 32 := Scalar.extui v81
  let c0_i32_46 : BitVec 32 := 0#32
  let v83 : BitVec 1 := Scalar.cmpi .ne v82 c0_i32_46
  v83

def k0_cond2 (i : grid0.Coords) : BitVec 1 :=
  let arg1 : BitVec 32 := BitVec.ofNat 32 (i 1).val
  let c0_i32 : BitVec 32 := 0#32
  let v81 : BitVec 1 := Scalar.cmpi .eq arg1 c0_i32
  let v_true : BitVec 1 := 1#1
  let v84 : BitVec 1 := Scalar.xori v81 v_true
  let v85 : BitVec 32 := Scalar.extui v84
  let c0_i32_47 : BitVec 32 := 0#32
  let v86 : BitVec 1 := Scalar.cmpi .ne v85 c0_i32_47
  v86

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true, false]
-- ==== RefBinBIdeal.lean ====
abbrev S16384x1024 : Shape := ⟨2, ![16384, 1024]⟩
abbrev S1x1024 : Shape := ⟨2, ![1, 1024]⟩
abbrev S1024x6400 : Shape := ⟨2, ![1024, 6400]⟩
abbrev S16384x2304 : Shape := ⟨2, ![16384, 2304]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1024x2304 : Shape := ⟨2, ![1024, 2304]⟩
abbrev S1024x2048 : Shape := ⟨2, ![1024, 2048]⟩
abbrev S1024x1024 : Shape := ⟨2, ![1024, 1024]⟩
abbrev S1024 : Shape := ⟨1, ![1024]⟩

abbrev nBuf : Space → Nat
  | .hbm => 103
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x6400, .f32⟩
  | .hbm, ⟨7, _⟩ => ⟨S16384x2304, .f32⟩
  | .hbm, ⟨8, _⟩ => ⟨S16384x2048, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S1024x2304, .f32⟩
  | .hbm, ⟨45, _⟩ => ⟨S16384x2304, .f32⟩
  | .hbm, ⟨46, _⟩ => ⟨S1024x2048, .f32⟩
  | .hbm, ⟨47, _⟩ => ⟨S16384x2048, .f32⟩
  | .hbm, ⟨48, _⟩ => ⟨S1024x1024, .f32⟩
  | .hbm, ⟨49, _⟩ => ⟨S16384x1024, .f32⟩
  | .hbm, ⟨50, _⟩ => ⟨S1024x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S16384x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S_, .f32⟩
  | .hbm, ⟨76, _⟩ => ⟨S16384, .f32⟩
  | .hbm, ⟨77, _⟩ => ⟨S16384x1, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1, .f32⟩
  | .hbm, ⟨82, _⟩ => ⟨S_, .f32⟩
  | .hbm, ⟨83, _⟩ => ⟨S16384x1, .f32⟩
  | .hbm, ⟨84, _⟩ => ⟨S16384x1, .f32⟩
  | .hbm, ⟨85, _⟩ => ⟨S_, .f32⟩
  | .hbm, ⟨86, _⟩ => ⟨S16384, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S_, .f32⟩
  | .hbm, ⟨97, _⟩ => ⟨S1024, .f32⟩
  | .hbm, ⟨98, _⟩ => ⟨S1x1024, .f32⟩
  | .hbm, ⟨99, _⟩ => ⟨S_, .f32⟩
  | .hbm, ⟨100, _⟩ => ⟨S1x1024, .f32⟩
  | .hbm, ⟨101, _⟩ => ⟨S1x1024, .f32⟩
  | .hbm, ⟨102, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_9 : Ref sig .tc := ⟨.hbm, 82, rfl⟩
abbrev main_v60 : Ref sig .tc := ⟨.hbm, 83, rfl⟩
abbrev main_v61 : Ref sig .tc := ⟨.hbm, 84, rfl⟩
abbrev main_cst_10 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_11 : Ref sig .tc := ⟨.hbm, 96, rfl⟩
abbrev main_v72 : Ref sig .tc := ⟨.hbm, 97, rfl⟩
abbrev main_v73 : Ref sig .tc := ⟨.hbm, 98, rfl⟩
abbrev main_cst_12 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩

abbrev nD : Nat := 1
abbrev τ : Topo := Topo.v7x

variable {F : FTy → Type} [FloatOps F]
-- ==== CondF.lean ====
abbrev S8x1024 : Shape := ⟨2, ![8, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x1024, .f32⟩
  | .hbm, ⟨1, _⟩ => ⟨S8x1024, .bf16⟩
  | .local _ .vmem, ⟨0, _⟩ => ⟨S8x1024, .f32⟩
  | .local _ .vmem, ⟨1, _⟩ => ⟨S8x1024, .bf16⟩
  | _, _ => ⟨S8x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== RefCondFIdeal.lean ====
abbrev S8x1024 : Shape := ⟨2, ![8, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S_, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .bf16⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩
abbrev main_v1 : Ref sig .tc := ⟨.hbm, 10, rfl⟩

abbrev nD : Nat := 1
abbrev τ : Topo := Topo.v7x

variable {F : FTy → Type} [FloatOps F]
-- ==== AdaF.lean ====
abbrev S8x1024 : Shape := ⟨2, ![8, 1024]⟩
abbrev S1024x1152 : Shape := ⟨2, ![1024, 1152]⟩
abbrev S1152 : Shape := ⟨1, ![1152]⟩
abbrev S_ : Shape := ⟨0, ![]⟩
abbrev S128x1024 : Shape := ⟨2, ![128, 1024]⟩
abbrev S1x1152 : Shape := ⟨2, ![1, 1152]⟩
abbrev S128x1152 : Shape := ⟨2, ![128, 1152]⟩
abbrev S8x1152 : Shape := ⟨2, ![8, 1152]⟩

abbrev nBuf : Space → Nat
  | .hbm => 11
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x1152, .f32⟩
  | .hbm, ⟨2, _⟩ => ⟨S1152, .f32⟩
  | .hbm, ⟨3, _⟩ => ⟨S_, .i32⟩
  | .hbm, ⟨4, _⟩ => ⟨S_, .f32⟩
  | .hbm, ⟨5, _⟩ => ⟨S128x1024, .f32⟩
  | .hbm, ⟨6, _⟩ => ⟨S128x1024, .bf16⟩
  | .hbm, ⟨7, _⟩ => ⟨S1024x1152, .bf16⟩
  | .hbm, ⟨8, _⟩ => ⟨S1x1152, .f32⟩
  | .hbm, ⟨9, _⟩ => ⟨S128x1152, .f32⟩
  | .hbm, ⟨10, _⟩ => ⟨S8x1152, .f32⟩
  | .local _ .vmem, ⟨0, _⟩ => ⟨S128x1024, .bf16⟩
  | .local _ .vmem, ⟨1, _⟩ => ⟨S1024x1152, .bf16⟩
  | .local _ .vmem, ⟨2, _⟩ => ⟨S1x1152, .f32⟩
  | .local _ .vmem, ⟨3, _⟩ => ⟨S128x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1024x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S128x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== RefAdaFIdeal.lean ====
abbrev S8x1024 : Shape := ⟨2, ![8, 1024]⟩
abbrev S1024x1152 : Shape := ⟨2, ![1024, 1152]⟩
abbrev S1152 : Shape := ⟨1, ![1152]⟩
abbrev S8x1152 : Shape := ⟨2, ![8, 1152]⟩
abbrev S1x1152 : Shape := ⟨2, ![1, 1152]⟩

abbrev nBuf : Space → Nat
  | .hbm => 7
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x1152, .f32⟩
  | .hbm, ⟨2, _⟩ => ⟨S1152, .f32⟩
  | .hbm, ⟨3, _⟩ => ⟨S8x1152, .f32⟩
  | .hbm, ⟨4, _⟩ => ⟨S1x1152, .f32⟩
  | .hbm, ⟨5, _⟩ => ⟨S8x1152, .f32⟩
  | .hbm, ⟨6, _⟩ => ⟨S8x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QkvF.lean ====
abbrev S16384x1024 : Shape := ⟨2, ![16384, 1024]⟩
abbrev S1024x2304 : Shape := ⟨2, ![1024, 2304]⟩
abbrev S16384x2304 : Shape := ⟨2, ![16384, 2304]⟩
abbrev S512x1024 : Shape := ⟨2, ![512, 1024]⟩
abbrev S512x2304 : Shape := ⟨2, ![512, 2304]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x2304, .f32⟩
  | .hbm, ⟨2, _⟩ => ⟨S16384x1024, .bf16⟩
  | .hbm, ⟨3, _⟩ => ⟨S1024x2304, .bf16⟩
  | .hbm, ⟨4, _⟩ => ⟨S16384x2304, .bf16⟩
  | .local _ .vmem, ⟨0, _⟩ => ⟨S512x1024, .bf16⟩
  | .local _ .vmem, ⟨1, _⟩ => ⟨S512x1024, .bf16⟩
  | .local _ .vmem, ⟨2, _⟩ => ⟨S1024x2304, .bf16⟩
  | .local _ .vmem, ⟨3, _⟩ => ⟨S512x2304, .bf16⟩
  | .local _ .vmem, ⟨4, _⟩ => ⟨S512x2304, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefQkvFIdeal.lean ====
abbrev S16384x1024 : Shape := ⟨2, ![16384, 1024]⟩
abbrev S1024x2304 : Shape := ⟨2, ![1024, 2304]⟩
abbrev S16384x2304 : Shape := ⟨2, ![16384, 2304]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2304, .f32⟩
  | .hbm, ⟨2, _⟩ => ⟨S16384x2304, .f32⟩
  | .hbm, ⟨3, _⟩ => ⟨S16384x2304, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== WeightB.lean ====
abbrev S16384x1024 : Shape := ⟨2, ![16384, 1024]⟩
abbrev S16384x2816 : Shape := ⟨2, ![16384, 2816]⟩
abbrev S1024x2816 : Shape := ⟨2, ![1024, 2816]⟩
abbrev S512x1024 : Shape := ⟨2, ![512, 1024]⟩
abbrev S512x2816 : Shape := ⟨2, ![512, 2816]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S16384x1024, .bf16⟩
  | .hbm, ⟨3, _⟩ => ⟨S16384x2816, .bf16⟩
  | .hbm, ⟨4, _⟩ => ⟨S1024x2816, .bf16⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S1024x2816, .bf16⟩
  | .local _ .vmem, ⟨5, _⟩ => ⟨S1024x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 32], ![false, false]⟩

def k0_cond2 (i : grid0.Coords) : BitVec 1 :=
  let arg1 : BitVec 32 := BitVec.ofNat 32 (i 1).val
  let c31_i32 : BitVec 32 := 31#32
  let v13 : BitVec 1 := Scalar.cmpi .eq arg1 c31_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== RefWeightBIdeal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S_, .f32⟩
  | .hbm, ⟨3, _⟩ => ⟨S1024x2816, .f32⟩
  | .hbm, ⟨4, _⟩ => ⟨S16384x2816, .f32⟩
  | .hbm, ⟨5, _⟩ => ⟨S2816x1024, .f32⟩
  | .hbm, ⟨6, _⟩ => ⟨S1024x2816, .f32⟩
  | .hbm, ⟨7, _⟩ => ⟨S1024x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamU.lean ====
abbrev S2048x1152 : Shape := ⟨2, ![2048, 1152]⟩
abbrev S128x1152 : Shape := ⟨2, ![128, 1152]⟩

abbrev nBuf : Space → Nat
  | .hbm => 8
  | .vmem => 16
  | .smem => 0
  | _ => 0

abbrev bufTy : (tb : Table) → Fin (tcTables nBuf tb) → BufTy
  | .hbm, ⟨0, _⟩ => ⟨S2048x1152, .f32⟩
  | .hbm, ⟨1, _⟩ => ⟨S2048x1152, .f32⟩
  | .hbm, ⟨2, _⟩ => ⟨S2048x1152, .f32⟩
  | .hbm, ⟨3, _⟩ => ⟨S2048x1152, .f32⟩
  | .hbm, ⟨4, _⟩ => ⟨S2048x1152, .f32⟩
  | .hbm, ⟨5, _⟩ => ⟨S2048x1152, .f32⟩
  | .hbm, ⟨6, _⟩ => ⟨S2048x1152, .f32⟩
  | .hbm, ⟨7, _⟩ => ⟨S2048x1152, .f32⟩
  | .local _ .vmem, ⟨0, _⟩ => ⟨S128x1152, .f32⟩
  | .local _ .vmem, ⟨1, _⟩ => ⟨S128x1152, .f32⟩
  | .local _ .vmem, ⟨2, _⟩ => ⟨S128x1152, .f32⟩
  | .local _ .vmem, ⟨3, _⟩ => ⟨S128x1152, .f32⟩
  | .local _ .vmem, ⟨4, _⟩ => ⟨S128x1152, .f32⟩
  | .local _ .vmem, ⟨5, _⟩ => ⟨S128x1152, .f32⟩
  | .local _ .vmem, ⟨6, _⟩ => ⟨S128x1152, .f32⟩
  | .local _ .vmem, ⟨7, _⟩ => ⟨S128x1152, .f32⟩
  | .local _ .vmem, ⟨8, _⟩ => ⟨S128x1152, .f32⟩
  | .local _ .vmem, ⟨9, _⟩ => ⟨S128x1152, .f32⟩
  | .local _ .vmem, ⟨10, _⟩ => ⟨S128x1152, .f32⟩
  | .local _ .vmem, ⟨11, _⟩ => ⟨S128x1152, .f32⟩
  | .local _ .vmem, ⟨12, _⟩ => ⟨S128x1152, .f32⟩
  | .local _ .vmem, ⟨13, _⟩ => ⟨S128x1152, .f32⟩
  | .local _ .vmem, ⟨14, _⟩ => ⟨S128x1152, .f32⟩
  | .local _ .vmem, ⟨15, _⟩ => ⟨S128x1152, .f32⟩
  | _, _ => ⟨S2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamUIdeal.lean ====
abbrev S2048x1152 : Shape := ⟨2, ![2048, 1152]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1152, .f32⟩
  | .hbm, ⟨1, _⟩ => ⟨S2048x1152, .f32⟩
  | .hbm, ⟨2, _⟩ => ⟨S2048x1152, .f32⟩
  | .hbm, ⟨3, _⟩ => ⟨S2048x1152, .f32⟩
  | .hbm, ⟨4, _⟩ => ⟨S_, .f32⟩
  | .hbm, ⟨5, _⟩ => ⟨S2048x1152, .f32⟩
  | .hbm, ⟨6, _⟩ => ⟨S2048x1152, .f32⟩
  | .hbm, ⟨7, _⟩ => ⟨S_, .f32⟩
  | .hbm, ⟨8, _⟩ => ⟨S2048x1152, .f32⟩
  | .hbm, ⟨9, _⟩ => ⟨S2048x1152, .f32⟩
  | .hbm, ⟨10, _⟩ => ⟨S2048x1152, .f32⟩
  | .hbm, ⟨11, _⟩ => ⟨S_, .f32⟩
  | .hbm, ⟨12, _⟩ => ⟨S2048x1152, .f32⟩
  | .hbm, ⟨13, _⟩ => ⟨S2048x1152, .f32⟩
  | .hbm, ⟨14, _⟩ => ⟨S2048x1152, .f32⟩
  | .hbm, ⟨15, _⟩ => ⟨S_, .f32⟩
  | .hbm, ⟨16, _⟩ => ⟨S2048x1152, .f32⟩
  | .hbm, ⟨17, _⟩ => ⟨S2048x1152, .f32⟩
  | .hbm, ⟨18, _⟩ => ⟨S2048x1152, .f32⟩
  | .hbm, ⟨19, _⟩ => ⟨S_, .f32⟩
  | .hbm, ⟨20, _⟩ => ⟨S2048x1152, .f32⟩
  | .hbm, ⟨21, _⟩ => ⟨S2048x1152, .f32⟩
  | .hbm, ⟨22, _⟩ => ⟨S_, .f32⟩
  | .hbm, ⟨23, _⟩ => ⟨S2048x1152, .f32⟩
  | .hbm, ⟨24, _⟩ => ⟨S2048x1152, .f32⟩
  | .hbm, ⟨25, _⟩ => ⟨S2048x1152, .f32⟩
  | .hbm, ⟨26, _⟩ => ⟨S_, .f32⟩
  | .hbm, ⟨27, _⟩ => ⟨S2048x1152, .f32⟩
  | .hbm, ⟨28, _⟩ => ⟨S2048x1152, .f32⟩
  | .hbm, ⟨29, _⟩ => ⟨S2048x1152, .f32⟩
  | .hbm, ⟨30, _⟩ => ⟨S_, .f32⟩
  | .hbm, ⟨31, _⟩ => ⟨S2048x1152, .f32⟩
  | .hbm, ⟨32, _⟩ => ⟨S2048x1152, .f32⟩
  | .hbm, ⟨33, _⟩ => ⟨S2048x1152, .f32⟩
  | .hbm, ⟨34, _⟩ => ⟨S_, .f32⟩
  | .hbm, ⟨35, _⟩ => ⟨S2048x1152, .f32⟩
  | .hbm, ⟨36, _⟩ => ⟨S2048x1152, .f32⟩
  | _, _ => ⟨S2048x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumU.lean ====
abbrev S8x744x128 : Shape := ⟨3, ![8, 744, 128]⟩
abbrev S1x744x128 : Shape := ⟨3, ![1, 744, 128]⟩
abbrev S744x128 : Shape := ⟨2, ![744, 128]⟩

abbrev nBuf : Space → Nat
  | .hbm => 18
  | .vmem => 9
  | .smem => 0
  | _ => 0

abbrev bufTy : (tb : Table) → Fin (tcTables nBuf tb) → BufTy
  | .hbm, ⟨0, _⟩ => ⟨S8x744x128, .f32⟩
  | .hbm, ⟨1, _⟩ => ⟨S1x744x128, .f32⟩
  | .hbm, ⟨2, _⟩ => ⟨S744x128, .f32⟩
  | .hbm, ⟨3, _⟩ => ⟨S1x744x128, .f32⟩
  | .hbm, ⟨4, _⟩ => ⟨S744x128, .f32⟩
  | .hbm, ⟨5, _⟩ => ⟨S1x744x128, .f32⟩
  | .hbm, ⟨6, _⟩ => ⟨S744x128, .f32⟩
  | .hbm, ⟨7, _⟩ => ⟨S1x744x128, .f32⟩
  | .hbm, ⟨8, _⟩ => ⟨S744x128, .f32⟩
  | .hbm, ⟨9, _⟩ => ⟨S1x744x128, .f32⟩
  | .hbm, ⟨10, _⟩ => ⟨S744x128, .f32⟩
  | .hbm, ⟨11, _⟩ => ⟨S1x744x128, .f32⟩
  | .hbm, ⟨12, _⟩ => ⟨S744x128, .f32⟩
  | .hbm, ⟨13, _⟩ => ⟨S1x744x128, .f32⟩
  | .hbm, ⟨14, _⟩ => ⟨S744x128, .f32⟩
  | .hbm, ⟨15, _⟩ => ⟨S1x744x128, .f32⟩
  | .hbm, ⟨16, _⟩ => ⟨S744x128, .f32⟩
  | .hbm, ⟨17, _⟩ => ⟨S744x128, .f32⟩
  | .local _ .vmem, ⟨0, _⟩ => ⟨S744x128, .f32⟩
  | .local _ .vmem, ⟨1, _⟩ => ⟨S744x128, .f32⟩
  | .local _ .vmem, ⟨2, _⟩ => ⟨S744x128, .f32⟩
  | .local _ .vmem, ⟨3, _⟩ => ⟨S744x128, .f32⟩
  | .local _ .vmem, ⟨4, _⟩ => ⟨S744x128, .f32⟩
  | .local _ .vmem, ⟨5, _⟩ => ⟨S744x128, .f32⟩
  | .local _ .vmem, ⟨6, _⟩ => ⟨S744x128, .f32⟩
  | .local _ .vmem, ⟨7, _⟩ => ⟨S744x128, .f32⟩
  | .local _ .vmem, ⟨8, _⟩ => ⟨S744x128, .f32⟩
  | _, _ => ⟨S8x744x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S744x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S744x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S744x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S744x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S744x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S744x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S744x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S744x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S744x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== RefSumUIdeal.lean ====
abbrev S8x744x128 : Shape := ⟨3, ![8, 744, 128]⟩
abbrev S_ : Shape := ⟨0, ![]⟩
abbrev S744x128 : Shape := ⟨2, ![744, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x744x128, .f32⟩
  | .hbm, ⟨1, _⟩ => ⟨S_, .f32⟩
  | .hbm, ⟨2, _⟩ => ⟨S744x128, .f32⟩
  | _, _ => ⟨S8x744x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ConvF.lean ====
abbrev S16384x2048 : Shape := ⟨2, ![16384, 2048]⟩
abbrev S31x1024 : Shape := ⟨2, ![31, 1024]⟩
abbrev S1024 : Shape := ⟨1, ![1024]⟩
abbrev S_ : Shape := ⟨0, ![]⟩
abbrev S32x1024 : Shape := ⟨2, ![32, 1024]⟩
abbrev S1x1024 : Shape := ⟨2, ![1, 1024]⟩
abbrev S16384x1024 : Shape := ⟨2, ![16384, 1024]⟩
abbrev S128x1024 : Shape := ⟨2, ![128, 1024]⟩
abbrev S160x1024 : Shape := ⟨2, ![160, 1024]⟩
abbrev S7x152x1024 : Shape := ⟨3, ![7, 152, 1024]⟩
abbrev S152x1024 : Shape := ⟨2, ![152, 1024]⟩
abbrev S1x152x1024 : Shape := ⟨3, ![1, 152, 1024]⟩
abbrev S1x128 : Shape := ⟨2, ![1, 128]⟩
abbrev S64x128 : Shape := ⟨2, ![64, 128]⟩
abbrev S1x64x128 : Shape := ⟨3, ![1, 64, 128]⟩
abbrev S128 : Shape := ⟨1, ![128]⟩
abbrev S128x1 : Shape := ⟨2, ![128, 1]⟩

abbrev nBuf : Space → Nat
  | .hbm => 14
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S16384x2048, .bf16⟩
  | .hbm, ⟨6, _⟩ => ⟨S_, .i32⟩
  | .hbm, ⟨7, _⟩ => ⟨S_, .f32⟩
  | .hbm, ⟨8, _⟩ => ⟨S32x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S16384x1024, .bf16⟩
  | .hbm, ⟨13, _⟩ => ⟨S16384x1024, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S32x1024, .bf16⟩
  | .local _ .vmem, ⟨5, _⟩ => ⟨S32x1024, .bf16⟩
  | .local _ .vmem, ⟨6, _⟩ => ⟨S32x1024, .bf16⟩
  | .local _ .vmem, ⟨7, _⟩ => ⟨S32x1024, .bf16⟩
  | .local _ .vmem, ⟨8, _⟩ => ⟨S32x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S160x1024, .f32⟩
  | .local _ .vmem, ⟨17, _⟩ => ⟨S128x1024, .f32⟩
  | .local _ .vmem, ⟨18, _⟩ => ⟨S7x152x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefConvFIdeal.lean ====
abbrev S16384x2048 : Shape := ⟨2, ![16384, 2048]⟩
abbrev S31x1024 : Shape := ⟨2, ![31, 1024]⟩
abbrev S1024 : Shape := ⟨1, ![1024]⟩
abbrev S16384x1024 : Shape := ⟨2, ![16384, 1024]⟩
abbrev S_ : Shape := ⟨0, ![]⟩
abbrev S30x1024 : Shape := ⟨2, ![30, 1024]⟩
abbrev S16414x1024 : Shape := ⟨2, ![16414, 1024]⟩
abbrev S1x1024 : Shape := ⟨2, ![1, 1024]⟩
abbrev S16384 : Shape := ⟨1, ![16384]⟩
abbrev S16384x1 : Shape := ⟨2, ![16384, 1]⟩

abbrev nBuf : Space → Nat
  | .hbm => 279
  | .vmem => 0
  | .smem => 0
  | _ => 0

abbrev hbmTy0_0 (i : Nat) : BufTy := match i % 128 with
  | 0 => ⟨S16384x2048, .f32⟩
  | 1 => ⟨S31x1024, .f32⟩
  | 2 => ⟨S1024, .f32⟩
  | 3 => ⟨S1024, .f32⟩
  | 4 => ⟨S1024, .f32⟩
  | 5 => ⟨S16384x1024, .f32⟩
  | 6 => ⟨S16384x1024, .f32⟩
  | 7 => ⟨S16384x1024, .f32⟩
  | 8 => ⟨S16384x1024, .f32⟩
  | 9 => ⟨S_, .f32⟩
  | 10 => ⟨S16384x1024, .f32⟩
  | 11 => ⟨S16384x1024, .f32⟩
  | 12 => ⟨S_, .f32⟩
  | 13 => ⟨S16384x1024, .f32⟩
  | 14 => ⟨S16384x1024, .f32⟩
  | 15 => ⟨S16384x1024, .f32⟩
  | 16 => ⟨S_, .f32⟩
  | 17 => ⟨S30x1024, .f32⟩
  | 18 => ⟨S16414x1024, .f32⟩
  | 19 => ⟨S16384x1024, .f32⟩
  | 20 => ⟨S1x1024, .f32⟩
  | 21 => ⟨S1024, .f32⟩
  | 22 => ⟨S1x1024, .f32⟩
  | 23 => ⟨S16384x1024, .f32⟩
  | 24 => ⟨S16384x1024, .f32⟩
  | 25 => ⟨S_, .f32⟩
  | 26 => ⟨S16384x1024, .f32⟩
  | 27 => ⟨S16384x1024, .f32⟩
  | 28 => ⟨S16384x1024, .f32⟩
  | 29 => ⟨S1x1024, .f32⟩
  | 30 => ⟨S1024, .f32⟩
  | 31 => ⟨S1x1024, .f32⟩
  | 32 => ⟨S16384x1024, .f32⟩
  | 33 => ⟨S16384x1024, .f32⟩
  | 34 => ⟨S16384x1024, .f32⟩
  | 35 => ⟨S16384x1024, .f32⟩
  | 36 => ⟨S1x1024, .f32⟩
  | 37 => ⟨S1024, .f32⟩
  | 38 => ⟨S1x1024, .f32⟩
  | 39 => ⟨S16384x1024, .f32⟩
  | 40 => ⟨S16384x1024, .f32⟩
  | 41 => ⟨S16384x1024, .f32⟩
  | 42 => ⟨S16384x1024, .f32⟩
  | 43 => ⟨S1x1024, .f32⟩
  | 44 => ⟨S1024, .f32⟩
  | 45 => ⟨S1x1024, .f32⟩
  | 46 => ⟨S16384x1024, .f32⟩
  | 47 => ⟨S16384x1024, .f32⟩
  | 48 => ⟨S16384x1024, .f32⟩
  | 49 => ⟨S16384x1024, .f32⟩
  | 50 => ⟨S1x1024, .f32⟩
  | 51 => ⟨S1024, .f32⟩
  | 52 => ⟨S1x1024, .f32⟩
  | 53 => ⟨S16384x1024, .f32⟩
  | 54 => ⟨S16384x1024, .f32⟩
  | 55 => ⟨S16384x1024, .f32⟩
  | 56 => ⟨S16384x1024, .f32⟩
  | 57 => ⟨S1x1024, .f32⟩
  | 58 => ⟨S1024, .f32⟩
  | 59 => ⟨S1x1024, .f32⟩
  | 60 => ⟨S16384x1024, .f32⟩
  | 61 => ⟨S16384x1024, .f32⟩
  | 62 => ⟨S16384x1024, .f32⟩
  | 63 => ⟨S16384x1024, .f32⟩
  | 64 => ⟨S1x1024, .f32⟩
  | 65 => ⟨S1024, .f32⟩
  | 66 => ⟨S1x1024, .f32⟩
  | 67 => ⟨S16384x1024, .f32⟩
  | 68 => ⟨S16384x1024, .f32⟩
  | 69 => ⟨S16384x1024, .f32⟩
  | 70 => ⟨S16384x1024, .f32⟩
  | 71 => ⟨S1x1024, .f32⟩
  | 72 => ⟨S1024, .f32⟩
  | 73 => ⟨S1x1024, .f32⟩
  | 74 => ⟨S16384x1024, .f32⟩
  | 75 => ⟨S16384x1024, .f32⟩
  | 76 => ⟨S16384x1024, .f32⟩
  | 77 => ⟨S16384x1024, .f32⟩
  | 78 => ⟨S1x1024, .f32⟩
  | 79 => ⟨S1024, .f32⟩
  | 80 => ⟨S1x1024, .f32⟩
  | 81 => ⟨S16384x1024, .f32⟩
  | 82 => ⟨S16384x1024, .f32⟩
  | 83 => ⟨S16384x1024, .f32⟩
  | 84 => ⟨S16384x1024, .f32⟩
  | 85 => ⟨S1x1024, .f32⟩
  | 86 => ⟨S1024, .f32⟩
  | 87 => ⟨S1x1024, .f32⟩
  | 88 => ⟨S16384x1024, .f32⟩
  | 89 => ⟨S16384x1024, .f32⟩
  | 90 => ⟨S16384x1024, .f32⟩
  | 91 => ⟨S16384x1024, .f32⟩
  | 92 => ⟨S1x1024, .f32⟩
  | 93 => ⟨S1024, .f32⟩
  | 94 => ⟨S1x1024, .f32⟩
  | 95 => ⟨S16384x1024, .f32⟩
  | 96 => ⟨S16384x1024, .f32⟩
  | 97 => ⟨S16384x1024, .f32⟩
  | 98 => ⟨S16384x1024, .f32⟩
  | 99 => ⟨S1x1024, .f32⟩
  | 100 => ⟨S1024, .f32⟩
  | 101 => ⟨S1x1024, .f32⟩
  | 102 => ⟨S16384x1024, .f32⟩
  | 103 => ⟨S16384x1024, .f32⟩
  | 104 => ⟨S16384x1024, .f32⟩
  | 105 => ⟨S16384x1024, .f32⟩
  | 106 => ⟨S1x1024, .f32⟩
  | 107 => ⟨S1024, .f32⟩
  | 108 => ⟨S1x1024, .f32⟩
  | 109 => ⟨S16384x1024, .f32⟩
  | 110 => ⟨S16384x1024, .f32⟩
  | 111 => ⟨S16384x1024, .f32⟩
  | 112 => ⟨S16384x1024, .f32⟩
  | 113 => ⟨S1x1024, .f32⟩
  | 114 => ⟨S1024, .f32⟩
  | 115 => ⟨S1x1024, .f32⟩
  | 116 => ⟨S16384x1024, .f32⟩
  | 117 => ⟨S16384x1024, .f32⟩
  | 118 => ⟨S16384x1024, .f32⟩
  | 119 => ⟨S16384x1024, .f32⟩
  | 120 => ⟨S1x1024, .f32⟩
  | 121 => ⟨S1024, .f32⟩
  | 122 => ⟨S1x1024, .f32⟩
  | 123 => ⟨S16384x1024, .f32⟩
  | 124 => ⟨S16384x1024, .f32⟩
  | 125 => ⟨S16384x1024, .f32⟩
  | 126 => ⟨S16384x1024, .f32⟩
  | 127 => ⟨S1x1024, .f32⟩
  | _ => ⟨S16384x2048, .f32⟩

abbrev hbmTy0_1 (i : Nat) : BufTy := match i % 128 with
  | 0 => ⟨S1024, .f32⟩
  | 1 => ⟨S1x1024, .f32⟩
  | 2 => ⟨S16384x1024, .f32⟩
  | 3 => ⟨S16384x1024, .f32⟩
  | 4 => ⟨S16384x1024, .f32⟩
  | 5 => ⟨S16384x1024, .f32⟩
  | 6 => ⟨S1x1024, .f32⟩
  | 7 => ⟨S1024, .f32⟩
  | 8 => ⟨S1x1024, .f32⟩
  | 9 => ⟨S16384x1024, .f32⟩
  | 10 => ⟨S16384x1024, .f32⟩
  | 11 => ⟨S16384x1024, .f32⟩
  | 12 => ⟨S16384x1024, .f32⟩
  | 13 => ⟨S1x1024, .f32⟩
  | 14 => ⟨S1024, .f32⟩
  | 15 => ⟨S1x1024, .f32⟩
  | 16 => ⟨S16384x1024, .f32⟩
  | 17 => ⟨S16384x1024, .f32⟩
  | 18 => ⟨S16384x1024, .f32⟩
  | 19 => ⟨S16384x1024, .f32⟩
  | 20 => ⟨S1x1024, .f32⟩
  | 21 => ⟨S1024, .f32⟩
  | 22 => ⟨S1x1024, .f32⟩
  | 23 => ⟨S16384x1024, .f32⟩
  | 24 => ⟨S16384x1024, .f32⟩
  | 25 => ⟨S16384x1024, .f32⟩
  | 26 => ⟨S16384x1024, .f32⟩
  | 27 => ⟨S1x1024, .f32⟩
  | 28 => ⟨S1024, .f32⟩
  | 29 => ⟨S1x1024, .f32⟩
  | 30 => ⟨S16384x1024, .f32⟩
  | 31 => ⟨S16384x1024, .f32⟩
  | 32 => ⟨S16384x1024, .f32⟩
  | 33 => ⟨S16384x1024, .f32⟩
  | 34 => ⟨S1x1024, .f32⟩
  | 35 => ⟨S1024, .f32⟩
  | 36 => ⟨S1x1024, .f32⟩
  | 37 => ⟨S16384x1024, .f32⟩
  | 38 => ⟨S16384x1024, .f32⟩
  | 39 => ⟨S16384x1024, .f32⟩
  | 40 => ⟨S16384x1024, .f32⟩
  | 41 => ⟨S1x1024, .f32⟩
  | 42 => ⟨S1024, .f32⟩
  | 43 => ⟨S1x1024, .f32⟩
  | 44 => ⟨S16384x1024, .f32⟩
  | 45 => ⟨S16384x1024, .f32⟩
  | 46 => ⟨S16384x1024, .f32⟩
  | 47 => ⟨S16384x1024, .f32⟩
  | 48 => ⟨S1x1024, .f32⟩
  | 49 => ⟨S1024, .f32⟩
  | 50 => ⟨S1x1024, .f32⟩
  | 51 => ⟨S16384x1024, .f32⟩
  | 52 => ⟨S16384x1024, .f32⟩
  | 53 => ⟨S16384x1024, .f32⟩
  | 54 => ⟨S16384x1024, .f32⟩
  | 55 => ⟨S1x1024, .f32⟩
  | 56 => ⟨S1024, .f32⟩
  | 57 => ⟨S1x1024, .f32⟩
  | 58 => ⟨S16384x1024, .f32⟩
  | 59 => ⟨S16384x1024, .f32⟩
  | 60 => ⟨S16384x1024, .f32⟩
  | 61 => ⟨S16384x1024, .f32⟩
  | 62 => ⟨S1x1024, .f32⟩
  | 63 => ⟨S1024, .f32⟩
  | 64 => ⟨S1x1024, .f32⟩
  | 65 => ⟨S16384x1024, .f32⟩
  | 66 => ⟨S16384x1024, .f32⟩
  | 67 => ⟨S16384x1024, .f32⟩
  | 68 => ⟨S16384x1024, .f32⟩
  | 69 => ⟨S1x1024, .f32⟩
  | 70 => ⟨S1024, .f32⟩
  | 71 => ⟨S1x1024, .f32⟩
  | 72 => ⟨S16384x1024, .f32⟩
  | 73 => ⟨S16384x1024, .f32⟩
  | 74 => ⟨S16384x1024, .f32⟩
  | 75 => ⟨S16384x1024, .f32⟩
  | 76 => ⟨S1x1024, .f32⟩
  | 77 => ⟨S1024, .f32⟩
  | 78 => ⟨S1x1024, .f32⟩
  | 79 => ⟨S16384x1024, .f32⟩
  | 80 => ⟨S16384x1024, .f32⟩
  | 81 => ⟨S16384x1024, .f32⟩
  | 82 => ⟨S16384x1024, .f32⟩
  | 83 => ⟨S1x1024, .f32⟩
  | 84 => ⟨S1024, .f32⟩
  | 85 => ⟨S1x1024, .f32⟩
  | 86 => ⟨S16384x1024, .f32⟩
  | 87 => ⟨S16384x1024, .f32⟩
  | 88 => ⟨S16384x1024, .f32⟩
  | 89 => ⟨S16384x1024, .f32⟩
  | 90 => ⟨S1x1024, .f32⟩
  | 91 => ⟨S1024, .f32⟩
  | 92 => ⟨S1x1024, .f32⟩
  | 93 => ⟨S16384x1024, .f32⟩
  | 94 => ⟨S16384x1024, .f32⟩
  | 95 => ⟨S16384x1024, .f32⟩
  | 96 => ⟨S16384x1024, .f32⟩
  | 97 => ⟨S1x1024, .f32⟩
  | 98 => ⟨S1024, .f32⟩
  | 99 => ⟨S1x1024, .f32⟩
  | 100 => ⟨S16384x1024, .f32⟩
  | 101 => ⟨S16384x1024, .f32⟩
  | 102 => ⟨S16384x1024, .f32⟩
  | 103 => ⟨S16384x1024, .f32⟩
  | 104 => ⟨S1x1024, .f32⟩
  | 105 => ⟨S1024, .f32⟩
  | 106 => ⟨S1x1024, .f32⟩
  | 107 => ⟨S16384x1024, .f32⟩
  | 108 => ⟨S16384x1024, .f32⟩
  | 109 => ⟨S16384x1024, .f32⟩
  | 110 => ⟨S1x1024, .f32⟩
  | 111 => ⟨S16384x1024, .f32⟩
  | 112 => ⟨S16384x1024, .f32⟩
  | 113 => ⟨S16384x1024, .bf16⟩
  | 114 => ⟨S_, .f32⟩
  | 115 => ⟨S16384, .f32⟩
  | 116 => ⟨S16384x1, .f32⟩
  | 117 => ⟨S_, .f32⟩
  | 118 => ⟨S16384x1, .f32⟩
  | 119 => ⟨S16384x1, .f32⟩
  | 120 => ⟨S16384x1024, .f32⟩
  | 121 => ⟨S16384x1024, .f32⟩
  | 122 => ⟨S16384x1024, .f32⟩
  | 123 => ⟨S_, .f32⟩
  | 124 => ⟨S16384, .f32⟩
  | 125 => ⟨S16384x1, .f32⟩
  | 126 => ⟨S_, .f32⟩
  | 127 => ⟨S16384x1, .f32⟩
  | _ => ⟨S16384x2048, .f32⟩

abbrev hbmTy0_2 (i : Nat) : BufTy := match i % 128 with
  | 0 => ⟨S16384x1, .f32⟩
  | 1 => ⟨S_, .f32⟩
  | 2 => ⟨S16384x1, .f32⟩
  | 3 => ⟨S16384x1, .f32⟩
  | 4 => ⟨S16384x1, .f32⟩
  | 5 => ⟨S16384x1024, .f32⟩
  | 6 => ⟨S16384x1024, .f32⟩
  | 7 => ⟨S1x1024, .f32⟩
  | 8 => ⟨S16384x1024, .f32⟩
  | 9 => ⟨S16384x1024, .f32⟩
  | 10 => ⟨S1x1024, .f32⟩
  | 11 => ⟨S16384x1024, .f32⟩
  | 12 => ⟨S16384x1024, .f32⟩
  | 13 => ⟨S16384x1024, .f32⟩
  | 14 => ⟨S16384x1024, .f32⟩
  | 15 => ⟨S_, .f32⟩
  | 16 => ⟨S16384x1024, .f32⟩
  | 17 => ⟨S16384x1024, .f32⟩
  | 18 => ⟨S_, .f32⟩
  | 19 => ⟨S16384x1024, .f32⟩
  | 20 => ⟨S16384x1024, .f32⟩
  | 21 => ⟨S16384x1024, .f32⟩
  | 22 => ⟨S16384x1024, .bf16⟩
  | _ => ⟨S16384x2048, .f32⟩

abbrev hbmTy (i : Nat) : BufTy := match i / 128 with
  | 0 => hbmTy0_0 i
  | 1 => hbmTy0_1 i
  | 2 => hbmTy0_2 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_cst_3 : Ref sig .tc := ⟨.hbm, 242, rfl⟩
abbrev main_v233 : Ref sig .tc := ⟨.hbm, 243, rfl⟩
abbrev main_v234 : Ref sig .tc := ⟨.hbm, 244, rfl⟩
abbrev main_cst_4 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_cst_5 : Ref sig .tc := ⟨.hbm, 251, rfl⟩
abbrev main_v240 : Ref sig .tc := ⟨.hbm, 252, rfl⟩
abbrev main_v241 : Ref sig .tc := ⟨.hbm, 253, rfl⟩
abbrev main_cst_6 : Ref sig .tc := ⟨.hbm, 254, rfl⟩
abbrev main_v242 : Ref sig .tc := ⟨.hbm, 255, rfl⟩
abbrev main_v243 : Ref sig .tc := ⟨.hbm, 256, rfl⟩
abbrev main_cst_7 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_call0_v0 : Ref sig .tc := ⟨.hbm, 269, rfl⟩
abbrev main_call0_v1 : Ref sig .tc := ⟨.hbm, 270, rfl⟩
abbrev main_call0_cst : Ref sig .tc := ⟨.hbm, 271, rfl⟩
abbrev main_call0_v2 : Ref sig .tc := ⟨.hbm, 272, rfl⟩
abbrev main_call0_v3 : Ref sig .tc := ⟨.hbm, 273, rfl⟩
abbrev main_call0_cst_0 : Ref sig .tc := ⟨.hbm, 274, rfl⟩
abbrev main_call0_v4 : Ref sig .tc := ⟨.hbm, 275, rfl⟩
abbrev main_call0_v5 : Ref sig .tc := ⟨.hbm, 276, rfl⟩
abbrev main_v255 : Ref sig .tc := ⟨.hbm, 277, rfl⟩
abbrev main_v256 : Ref sig .tc := ⟨.hbm, 278, rfl⟩

abbrev nD : Nat := 1
abbrev τ : Topo := Topo.v7x

variable {F : FTy → Type} [FloatOps F]
-- ==== MergeF.lean ====
abbrev S16384x4x64 : Shape := ⟨3, ![16384, 4, 64]⟩
abbrev S16384x4 : Shape := ⟨2, ![16384, 4]⟩
abbrev S16384x1x256 : Shape := ⟨3, ![16384, 1, 256]⟩
abbrev S1x16384x256 : Shape := ⟨3, ![1, 16384, 256]⟩
abbrev S4096x4x256 : Shape := ⟨3, ![4096, 4, 256]⟩
abbrev S4x4096x256 : Shape := ⟨3, ![4, 4096, 256]⟩
abbrev S1024x16x256 : Shape := ⟨3, ![1024, 16, 256]⟩
abbrev S16x1024x256 : Shape := ⟨3, ![16, 1024, 256]⟩
abbrev S16384x256 : Shape := ⟨2, ![16384, 256]⟩
abbrev S1x512x256 : Shape := ⟨3, ![1, 512, 256]⟩
abbrev S4x128x256 : Shape := ⟨3, ![4, 128, 256]⟩
abbrev S16x32x256 : Shape := ⟨3, ![16, 32, 256]⟩
abbrev S512x256 : Shape := ⟨2, ![512, 256]⟩
abbrev S12x512x128 : Shape := ⟨3, ![12, 512, 128]⟩
abbrev S512x128 : Shape := ⟨2, ![512, 128]⟩
abbrev S1x512x128 : Shape := ⟨3, ![1, 512, 128]⟩
abbrev S1x128x256 : Shape := ⟨3, ![1, 128, 256]⟩
abbrev S128x256 : Shape := ⟨2, ![128, 256]⟩
abbrev S128x128 : Shape := ⟨2, ![128, 128]⟩
abbrev S1x32x256 : Shape := ⟨3, ![1, 32, 256]⟩
abbrev S32x256 : Shape := ⟨2, ![32, 256]⟩
abbrev S32x128 : Shape := ⟨2, ![32, 128]⟩
abbrev S16384x4x1 : Shape := ⟨3, ![16384, 4, 1]⟩

abbrev nBuf : Space → Nat
  | .hbm => 26
  | .vmem => 17
  | .smem => 0
  | _ => 0

abbrev bufTy : (tb : Table) → Fin (tcTables nBuf tb) → BufTy
  | .hbm, ⟨0, _⟩ => ⟨S16384x4x64, .f32⟩
  | .hbm, ⟨1, _⟩ => ⟨S16384x4x64, .f32⟩
  | .hbm, ⟨2, _⟩ => ⟨S16384x4x64, .f32⟩
  | .hbm, ⟨3, _⟩ => ⟨S16384x4, .f32⟩
  | .hbm, ⟨4, _⟩ => ⟨S16384x4, .f32⟩
  | .hbm, ⟨5, _⟩ => ⟨S16384x4, .f32⟩
  | .hbm, ⟨6, _⟩ => ⟨S16384x1x256, .f32⟩
  | .hbm, ⟨7, _⟩ => ⟨S1x16384x256, .f32⟩
  | .hbm, ⟨8, _⟩ => ⟨S4096x4x256, .f32⟩
  | .hbm, ⟨9, _⟩ => ⟨S4x4096x256, .f32⟩
  | .hbm, ⟨10, _⟩ => ⟨S1024x16x256, .f32⟩
  | .hbm, ⟨11, _⟩ => ⟨S16x1024x256, .f32⟩
  | .hbm, ⟨12, _⟩ => ⟨S16384x4x64, .f32⟩
  | .hbm, ⟨13, _⟩ => ⟨S16384x1x256, .f32⟩
  | .hbm, ⟨14, _⟩ => ⟨S1x16384x256, .f32⟩
  | .hbm, ⟨15, _⟩ => ⟨S16384x4x64, .f32⟩
  | .hbm, ⟨16, _⟩ => ⟨S4096x4x256, .f32⟩
  | .hbm, ⟨17, _⟩ => ⟨S4x4096x256, .f32⟩
  | .hbm, ⟨18, _⟩ => ⟨S16384x4x64, .f32⟩
  | .hbm, ⟨19, _⟩ => ⟨S1024x16x256, .f32⟩
  | .hbm, ⟨20, _⟩ => ⟨S16x1024x256, .f32⟩
  | .hbm, ⟨21, _⟩ => ⟨S16384x256, .bf16⟩
  | .hbm, ⟨22, _⟩ => ⟨S16384x256, .f32⟩
  | .hbm, ⟨23, _⟩ => ⟨S16384x4x64, .f32⟩
  | .hbm, ⟨24, _⟩ => ⟨S16384x4x1, .f32⟩
  | .hbm, ⟨25, _⟩ => ⟨S16384x4, .f32⟩
  | .local _ .vmem, ⟨0, _⟩ => ⟨S1x512x256, .f32⟩
  | .local _ .vmem, ⟨1, _⟩ => ⟨S1x512x256, .f32⟩
  | .local _ .vmem, ⟨2, _⟩ => ⟨S4x128x256, .f32⟩
  | .local _ .vmem, ⟨3, _⟩ => ⟨S4x128x256, .f32⟩
  | .local _ .vmem, ⟨4, _⟩ => ⟨S16x32x256, .f32⟩
  | .local _ .vmem, ⟨5, _⟩ => ⟨S16x32x256, .f32⟩
  | .local _ .vmem, ⟨6, _⟩ => ⟨S1x512x256, .f32⟩
  | .local _ .vmem, ⟨7, _⟩ => ⟨S1x512x256, .f32⟩
  | .local _ .vmem, ⟨8, _⟩ => ⟨S4x128x256, .f32⟩
  | .local _ .vmem, ⟨9, _⟩ => ⟨S4x128x256, .f32⟩
  | .local _ .vmem, ⟨10, _⟩ => ⟨S16x32x256, .f32⟩
  | .local _ .vmem, ⟨11, _⟩ => ⟨S16x32x256, .f32⟩
  | .local _ .vmem, ⟨12, _⟩ => ⟨S512x256, .bf16⟩
  | .local _ .vmem, ⟨13, _⟩ => ⟨S512x256, .bf16⟩
  | .local _ .vmem, ⟨14, _⟩ => ⟨S512x256, .f32⟩
  | .local _ .vmem, ⟨15, _⟩ => ⟨S512x256, .f32⟩
  | .local _ .vmem, ⟨16, _⟩ => ⟨S12x512x128, .f32⟩
  | _, _ => ⟨S16384x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefMergeFIdeal.lean ====
abbrev S16384x4x64 : Shape := ⟨3, ![16384, 4, 64]⟩
abbrev S16384x4 : Shape := ⟨2, ![16384, 4]⟩
abbrev S1x16384x4 : Shape := ⟨3, ![1, 16384, 4]⟩
abbrev S3x16384x4 : Shape := ⟨3, ![3, 16384, 4]⟩
abbrev S1x16384x4x64 : Shape := ⟨4, ![1, 16384, 4, 64]⟩
abbrev S3x16384x4x64 : Shape := ⟨4, ![3, 16384, 4, 64]⟩
abbrev S_ : Shape := ⟨0, ![]⟩
abbrev S3x16384x4x1 : Shape := ⟨4, ![3, 16384, 4, 1]⟩
abbrev S16384x256 : Shape := ⟨2, ![16384, 256]⟩

abbrev nBuf : Space → Nat
  | .hbm => 45
  | .vmem => 0
  | .smem => 0
  | _ => 0

abbrev bufTy : (tb : Table) → Fin (tcTables nBuf tb) → BufTy
  | .hbm, ⟨0, _⟩ => ⟨S16384x4x64, .f32⟩
  | .hbm, ⟨1, _⟩ => ⟨S16384x4x64, .f32⟩
  | .hbm, ⟨2, _⟩ => ⟨S16384x4x64, .f32⟩
  | .hbm, ⟨3, _⟩ => ⟨S16384x4, .f32⟩
  | .hbm, ⟨4, _⟩ => ⟨S16384x4, .f32⟩
  | .hbm, ⟨5, _⟩ => ⟨S16384x4, .f32⟩
  | .hbm, ⟨6, _⟩ => ⟨S1x16384x4, .f32⟩
  | .hbm, ⟨7, _⟩ => ⟨S1x16384x4, .f32⟩
  | .hbm, ⟨8, _⟩ => ⟨S1x16384x4, .f32⟩
  | .hbm, ⟨9, _⟩ => ⟨S3x16384x4, .f32⟩
  | .hbm, ⟨10, _⟩ => ⟨S1x16384x4x64, .f32⟩
  | .hbm, ⟨11, _⟩ => ⟨S1x16384x4x64, .f32⟩
  | .hbm, ⟨12, _⟩ => ⟨S1x16384x4x64, .f32⟩
  | .hbm, ⟨13, _⟩ => ⟨S3x16384x4x64, .f32⟩
  | .hbm, ⟨14, _⟩ => ⟨S_, .f32⟩
  | .hbm, ⟨15, _⟩ => ⟨S16384x4, .f32⟩
  | .hbm, ⟨16, _⟩ => ⟨S_, .f32⟩
  | .hbm, ⟨17, _⟩ => ⟨S16384x4, .f32⟩
  | .hbm, ⟨18, _⟩ => ⟨S16384x4, .f32⟩
  | .hbm, ⟨19, _⟩ => ⟨S1x16384x4, .f32⟩
  | .hbm, ⟨20, _⟩ => ⟨S3x16384x4, .f32⟩
  | .hbm, ⟨21, _⟩ => ⟨S3x16384x4, .f32⟩
  | .hbm, ⟨22, _⟩ => ⟨S3x16384x4, .f32⟩
  | .hbm, ⟨23, _⟩ => ⟨S_, .f32⟩
  | .hbm, ⟨24, _⟩ => ⟨S16384x4, .f32⟩
  | .hbm, ⟨25, _⟩ => ⟨S1x16384x4, .f32⟩
  | .hbm, ⟨26, _⟩ => ⟨S3x16384x4, .f32⟩
  | .hbm, ⟨27, _⟩ => ⟨S3x16384x4, .f32⟩
  | .hbm, ⟨28, _⟩ => ⟨S3x16384x4x1, .f32⟩
  | .hbm, ⟨29, _⟩ => ⟨S3x16384x4x64, .f32⟩
  | .hbm, ⟨30, _⟩ => ⟨S3x16384x4x64, .f32⟩
  | .hbm, ⟨31, _⟩ => ⟨S_, .f32⟩
  | .hbm, ⟨32, _⟩ => ⟨S16384x4x64, .f32⟩
  | .hbm, ⟨33, _⟩ => ⟨S_, .f32⟩
  | .hbm, ⟨34, _⟩ => ⟨S16384x4, .f32⟩
  | .hbm, ⟨35, _⟩ => ⟨S16384x256, .f32⟩
  | .hbm, ⟨36, _⟩ => ⟨S16384x256, .bf16⟩
  | .hbm, ⟨37, _⟩ => ⟨S1x16384x4, .f32⟩
  | .hbm, ⟨38, _⟩ => ⟨S3x16384x4, .f32⟩
  | .hbm, ⟨39, _⟩ => ⟨S3x16384x4, .f32⟩
  | .hbm, ⟨40, _⟩ => ⟨S3x16384x4, .f32⟩
  | .hbm, ⟨41, _⟩ => ⟨S_, .f32⟩
  | .hbm, ⟨42, _⟩ => ⟨S16384x4, .f32⟩
  | .hbm, ⟨43, _⟩ => ⟨S16384x4, .f32⟩
  | .hbm, ⟨44, _⟩ => ⟨S16384x4, .f32⟩
  | _, _ => ⟨S16384x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== RopeF.lean ====
abbrev S16384x2304 : Shape := ⟨2, ![16384, 2304]⟩
abbrev S32 : Shape := ⟨1, ![32]⟩
abbrev S_ : Shape := ⟨0, ![]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S1x16384x256 : Shape := ⟨3, ![1, 16384, 256]⟩
abbrev S4x4096x256 : Shape := ⟨3, ![4, 4096, 256]⟩
abbrev S16x1024x256 : Shape := ⟨3, ![16, 1024, 256]⟩
abbrev S512x2304 : Shape := ⟨2, ![512, 2304]⟩
abbrev S512x128 : Shape := ⟨2, ![512, 128]⟩
abbrev S1x512x256 : Shape := ⟨3, ![1, 512, 256]⟩
abbrev S4x128x256 : Shape := ⟨3, ![4, 128, 256]⟩
abbrev S16x32x256 : Shape := ⟨3, ![16, 32, 256]⟩
abbrev S18x512x128 : Shape := ⟨3, ![18, 512, 128]⟩
abbrev S512x768 : Shape := ⟨2, ![512, 768]⟩
abbrev S1x512x128 : Shape := ⟨3, ![1, 512, 128]⟩
abbrev S512x256 : Shape := ⟨2, ![512, 256]⟩
abbrev S128x128 : Shape := ⟨2, ![128, 128]⟩
abbrev S1x128x256 : Shape := ⟨3, ![1, 128, 256]⟩
abbrev S128x256 : Shape := ⟨2, ![128, 256]⟩
abbrev S1x128x128 : Shape := ⟨3, ![1, 128, 128]⟩
abbrev S32x128 : Shape := ⟨2, ![32, 128]⟩
abbrev S1x32x256 : Shape := ⟨3, ![1, 32, 256]⟩
abbrev S32x256 : Shape := ⟨2, ![32, 256]⟩
abbrev S1x32x128 : Shape := ⟨3, ![1, 32, 128]⟩

abbrev nBuf : Space → Nat
  | .hbm => 39
  | .vmem => 25
  | .smem => 0
  | _ => 0

abbrev bufTy : (tb : Table) → Fin (tcTables nBuf tb) → BufTy
  | .hbm, ⟨0, _⟩ => ⟨S16384x2304, .f32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S16384, .f32⟩
  | .hbm, ⟨13, _⟩ => ⟨S16384x1, .f32⟩
  | .hbm, ⟨14, _⟩ => ⟨S1x32, .f32⟩
  | .hbm, ⟨15, _⟩ => ⟨S16384x32, .f32⟩
  | .hbm, ⟨16, _⟩ => ⟨S16384x32, .f32⟩
  | .hbm, ⟨17, _⟩ => ⟨S16384x32, .f32⟩
  | .hbm, ⟨18, _⟩ => ⟨S16384x32, .f32⟩
  | .hbm, ⟨19, _⟩ => ⟨S16384x32, .f32⟩
  | .hbm, ⟨20, _⟩ => ⟨S16384x64, .f32⟩
  | .hbm, ⟨21, _⟩ => ⟨S1x16384x1x64, .f32⟩
  | .hbm, ⟨22, _⟩ => ⟨S1x16384x2x64, .f32⟩
  | .hbm, ⟨23, _⟩ => ⟨S16384x128, .f32⟩
  | .hbm, ⟨24, _⟩ => ⟨S16384x32, .f32⟩
  | .hbm, ⟨25, _⟩ => ⟨S16384x64, .f32⟩
  | .hbm, ⟨26, _⟩ => ⟨S1x16384x1x64, .f32⟩
  | .hbm, ⟨27, _⟩ => ⟨S1x16384x2x64, .f32⟩
  | .hbm, ⟨28, _⟩ => ⟨S16384x128, .f32⟩
  | .hbm, ⟨29, _⟩ => ⟨S16384x2304, .bf16⟩
  | .hbm, ⟨30, _⟩ => ⟨S1x16384x256, .bf16⟩
  | .hbm, ⟨31, _⟩ => ⟨S4x4096x256, .bf16⟩
  | .hbm, ⟨32, _⟩ => ⟨S16x1024x256, .bf16⟩
  | .hbm, ⟨33, _⟩ => ⟨S1x16384x256, .bf16⟩
  | .hbm, ⟨34, _⟩ => ⟨S4x4096x256, .bf16⟩
  | .hbm, ⟨35, _⟩ => ⟨S16x1024x256, .bf16⟩
  | .hbm, ⟨36, _⟩ => ⟨S1x16384x256, .bf16⟩
  | .hbm, ⟨37, _⟩ => ⟨S4x4096x256, .bf16⟩
  | .hbm, ⟨38, _⟩ => ⟨S16x1024x256, .bf16⟩
  | .local _ .vmem, ⟨0, _⟩ => ⟨S512x2304, .bf16⟩
  | .local _ .vmem, ⟨1, _⟩ => ⟨S512x2304, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x512x256, .bf16⟩
  | .local _ .vmem, ⟨7, _⟩ => ⟨S1x512x256, .bf16⟩
  | .local _ .vmem, ⟨8, _⟩ => ⟨S4x128x256, .bf16⟩
  | .local _ .vmem, ⟨9, _⟩ => ⟨S4x128x256, .bf16⟩
  | .local _ .vmem, ⟨10, _⟩ => ⟨S16x32x256, .bf16⟩
  | .local _ .vmem, ⟨11, _⟩ => ⟨S16x32x256, .bf16⟩
  | .local _ .vmem, ⟨12, _⟩ => ⟨S1x512x256, .bf16⟩
  | .local _ .vmem, ⟨13, _⟩ => ⟨S1x512x256, .bf16⟩
  | .local _ .vmem, ⟨14, _⟩ => ⟨S4x128x256, .bf16⟩
  | .local _ .vmem, ⟨15, _⟩ => ⟨S4x128x256, .bf16⟩
  | .local _ .vmem, ⟨16, _⟩ => ⟨S16x32x256, .bf16⟩
  | .local _ .vmem, ⟨17, _⟩ => ⟨S16x32x256, .bf16⟩
  | .local _ .vmem, ⟨18, _⟩ => ⟨S1x512x256, .bf16⟩
  | .local _ .vmem, ⟨19, _⟩ => ⟨S1x512x256, .bf16⟩
  | .local _ .vmem, ⟨20, _⟩ => ⟨S4x128x256, .bf16⟩
  | .local _ .vmem, ⟨21, _⟩ => ⟨S4x128x256, .bf16⟩
  | .local _ .vmem, ⟨22, _⟩ => ⟨S16x32x256, .bf16⟩
  | .local _ .vmem, ⟨23, _⟩ => ⟨S16x32x256, .bf16⟩
  | .local _ .vmem, ⟨24, _⟩ => ⟨S18x512x128, .f32⟩
  | _, _ => ⟨S16384x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26_0 : Ref sig .tc := ⟨.hbm, 30, rfl⟩
abbrev main_v26_1 : Ref sig .tc := ⟨.hbm, 31, rfl⟩
abbrev main_v26_2 : Ref sig .tc := ⟨.hbm, 32, rfl⟩
abbrev main_v26_3 : Ref sig .tc := ⟨.hbm, 33, rfl⟩
abbrev main_v26_4 : Ref sig .tc := ⟨.hbm, 34, rfl⟩
abbrev main_v26_5 : Ref sig .tc := ⟨.hbm, 35, rfl⟩
abbrev main_v26_6 : Ref sig .tc := ⟨.hbm, 36, rfl⟩
abbrev main_v26_7 : Ref sig .tc := ⟨.hbm, 37, rfl⟩
abbrev main_v26_8 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x32x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x32x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x32x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RefRopeFIdeal.lean ====
abbrev S16384x2304 : Shape := ⟨2, ![16384, 2304]⟩
abbrev S32 : Shape := ⟨1, ![32]⟩
abbrev S_ : Shape := ⟨0, ![]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S16384x1x32 : Shape := ⟨3, ![16384, 1, 32]⟩
abbrev S16384x768 : Shape := ⟨2, ![16384, 768]⟩
abbrev S16384x12x64 : Shape := ⟨3, ![16384, 12, 64]⟩
abbrev S16384x12x32 : Shape := ⟨3, ![16384, 12, 32]⟩
abbrev S16384x4x64 : Shape := ⟨3, ![16384, 4, 64]⟩
abbrev S16384x1x256 : Shape := ⟨3, ![16384, 1, 256]⟩
abbrev S1x16384x256 : Shape := ⟨3, ![1, 16384, 256]⟩
abbrev S4096x4x256 : Shape := ⟨3, ![4096, 4, 256]⟩
abbrev S4x4096x256 : Shape := ⟨3, ![4, 4096, 256]⟩
abbrev S1024x16x256 : Shape := ⟨3, ![1024, 16, 256]⟩
abbrev S16x1024x256 : Shape := ⟨3, ![16, 1024, 256]⟩

abbrev nBuf : Space → Nat
  | .hbm => 90
  | .vmem => 0
  | .smem => 0
  | _ => 0

abbrev bufTy : (tb : Table) → Fin (tcTables nBuf tb) → BufTy
  | .hbm, ⟨0, _⟩ => ⟨S16384x2304, .f32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S16384, .f32⟩
  | .hbm, ⟨13, _⟩ => ⟨S16384x1, .f32⟩
  | .hbm, ⟨14, _⟩ => ⟨S1x32, .f32⟩
  | .hbm, ⟨15, _⟩ => ⟨S16384x32, .f32⟩
  | .hbm, ⟨16, _⟩ => ⟨S16384x32, .f32⟩
  | .hbm, ⟨17, _⟩ => ⟨S16384x32, .f32⟩
  | .hbm, ⟨18, _⟩ => ⟨S16384x32, .f32⟩
  | .hbm, ⟨19, _⟩ => ⟨S16384x1x32, .f32⟩
  | .hbm, ⟨20, _⟩ => ⟨S16384x32, .f32⟩
  | .hbm, ⟨21, _⟩ => ⟨S16384x1x32, .f32⟩
  | .hbm, ⟨22, _⟩ => ⟨S16384x768, .f32⟩
  | .hbm, ⟨23, _⟩ => ⟨S16384x768, .f32⟩
  | .hbm, ⟨24, _⟩ => ⟨S16384x768, .f32⟩
  | .hbm, ⟨25, _⟩ => ⟨S16384x12x64, .f32⟩
  | .hbm, ⟨26, _⟩ => ⟨S16384x12x64, .f32⟩
  | .hbm, ⟨27, _⟩ => ⟨S16384x12x64, .f32⟩
  | .hbm, ⟨28, _⟩ => ⟨S16384x12x32, .f32⟩
  | .hbm, ⟨29, _⟩ => ⟨S16384x12x32, .f32⟩
  | .hbm, ⟨30, _⟩ => ⟨S16384x12x32, .f32⟩
  | .hbm, ⟨31, _⟩ => ⟨S16384x12x32, .f32⟩
  | .hbm, ⟨32, _⟩ => ⟨S16384x12x32, .f32⟩
  | .hbm, ⟨33, _⟩ => ⟨S16384x12x32, .f32⟩
  | .hbm, ⟨34, _⟩ => ⟨S16384x12x32, .f32⟩
  | .hbm, ⟨35, _⟩ => ⟨S16384x12x32, .f32⟩
  | .hbm, ⟨36, _⟩ => ⟨S16384x12x32, .f32⟩
  | .hbm, ⟨37, _⟩ => ⟨S16384x12x32, .f32⟩
  | .hbm, ⟨38, _⟩ => ⟨S16384x12x32, .f32⟩
  | .hbm, ⟨39, _⟩ => ⟨S16384x12x32, .f32⟩
  | .hbm, ⟨40, _⟩ => ⟨S16384x12x64, .f32⟩
  | .hbm, ⟨41, _⟩ => ⟨S16384x12x32, .f32⟩
  | .hbm, ⟨42, _⟩ => ⟨S16384x12x32, .f32⟩
  | .hbm, ⟨43, _⟩ => ⟨S16384x12x32, .f32⟩
  | .hbm, ⟨44, _⟩ => ⟨S16384x12x32, .f32⟩
  | .hbm, ⟨45, _⟩ => ⟨S16384x12x32, .f32⟩
  | .hbm, ⟨46, _⟩ => ⟨S16384x12x32, .f32⟩
  | .hbm, ⟨47, _⟩ => ⟨S16384x12x32, .f32⟩
  | .hbm, ⟨48, _⟩ => ⟨S16384x12x32, .f32⟩
  | .hbm, ⟨49, _⟩ => ⟨S16384x12x32, .f32⟩
  | .hbm, ⟨50, _⟩ => ⟨S16384x12x32, .f32⟩
  | .hbm, ⟨51, _⟩ => ⟨S16384x12x32, .f32⟩
  | .hbm, ⟨52, _⟩ => ⟨S16384x12x32, .f32⟩
  | .hbm, ⟨53, _⟩ => ⟨S16384x12x64, .f32⟩
  | .hbm, ⟨54, _⟩ => ⟨S16384x4x64, .f32⟩
  | .hbm, ⟨55, _⟩ => ⟨S16384x1x256, .f32⟩
  | .hbm, ⟨56, _⟩ => ⟨S1x16384x256, .f32⟩
  | .hbm, ⟨57, _⟩ => ⟨S1x16384x256, .bf16⟩
  | .hbm, ⟨58, _⟩ => ⟨S16384x4x64, .f32⟩
  | .hbm, ⟨59, _⟩ => ⟨S4096x4x256, .f32⟩
  | .hbm, ⟨60, _⟩ => ⟨S4x4096x256, .f32⟩
  | .hbm, ⟨61, _⟩ => ⟨S4x4096x256, .bf16⟩
  | .hbm, ⟨62, _⟩ => ⟨S16384x4x64, .f32⟩
  | .hbm, ⟨63, _⟩ => ⟨S1024x16x256, .f32⟩
  | .hbm, ⟨64, _⟩ => ⟨S16x1024x256, .f32⟩
  | .hbm, ⟨65, _⟩ => ⟨S16x1024x256, .bf16⟩
  | .hbm, ⟨66, _⟩ => ⟨S16384x4x64, .f32⟩
  | .hbm, ⟨67, _⟩ => ⟨S16384x1x256, .f32⟩
  | .hbm, ⟨68, _⟩ => ⟨S1x16384x256, .f32⟩
  | .hbm, ⟨69, _⟩ => ⟨S1x16384x256, .bf16⟩
  | .hbm, ⟨70, _⟩ => ⟨S16384x4x64, .f32⟩
  | .hbm, ⟨71, _⟩ => ⟨S4096x4x256, .f32⟩
  | .hbm, ⟨72, _⟩ => ⟨S4x4096x256, .f32⟩
  | .hbm, ⟨73, _⟩ => ⟨S4x4096x256, .bf16⟩
  | .hbm, ⟨74, _⟩ => ⟨S16384x4x64, .f32⟩
  | .hbm, ⟨75, _⟩ => ⟨S1024x16x256, .f32⟩
  | .hbm, ⟨76, _⟩ => ⟨S16x1024x256, .f32⟩
  | .hbm, ⟨77, _⟩ => ⟨S16x1024x256, .bf16⟩
  | .hbm, ⟨78, _⟩ => ⟨S16384x4x64, .f32⟩
  | .hbm, ⟨79, _⟩ => ⟨S16384x1x256, .f32⟩
  | .hbm, ⟨80, _⟩ => ⟨S1x16384x256, .f32⟩
  | .hbm, ⟨81, _⟩ => ⟨S1x16384x256, .bf16⟩
  | .hbm, ⟨82, _⟩ => ⟨S16384x4x64, .f32⟩
  | .hbm, ⟨83, _⟩ => ⟨S4096x4x256, .f32⟩
  | .hbm, ⟨84, _⟩ => ⟨S4x4096x256, .f32⟩
  | .hbm, ⟨85, _⟩ => ⟨S4x4096x256, .bf16⟩
  | .hbm, ⟨86, _⟩ => ⟨S16384x4x64, .f32⟩
  | .hbm, ⟨87, _⟩ => ⟨S1024x16x256, .f32⟩
  | .hbm, ⟨88, _⟩ => ⟨S16x1024x256, .f32⟩
  | .hbm, ⟨89, _⟩ => ⟨S16x1024x256, .bf16⟩
  | _, _ => ⟨S16384x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩

abbrev nD : Nat := 1
abbrev τ : Topo := Topo.v7x

variable {F : FTy → Type} [FloatOps F]
-- ==== Proof.AttnIdeal.Run.lean ====
/- The attention gradient's kernel body at one grid point, over any float type: it ends with its inputs unchanged. -/
module

public import proofs.«01_k».proof.Proof.Gen.AttnBIdeal.Frame
public import proofs.«01_k».proof.Proof.Gen.AttnBIdeal.Skeleton

@[expose] public section

set_option maxRecDepth 16384

noncomputable section

namespace Cert.AttnBIdeal.Body

open Cert.AttnBIdeal Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the branch that clears the carried blocks. -/
abbrev isFirst (i : grid0.Coords) : Prop := (Scalar.cmpi .ne (Scalar.extui (Scalar.cmpi .eq (BitVec.ofNat 32 (i 1).val) 0#32)) 0#32) = 1#1
/-- The condition of the branch that works on a pair of blocks. -/
abbrev isInner (i : grid0.Coords) : Prop := k0_cond2 i = 1#1
/-- The condition of the branch that writes the last carried blocks. -/
abbrev isLast (i : grid0.Coords) : Prop := k0_cond3 i = 1#1

/-- The three kinds of grid point: the first of a residue, an inner one, and the last. -/
def Kind (i : grid0.Coords) : Prop :=
  (isFirst i ∧ isInner i ∧ ¬isLast i) ∨ (¬isFirst i ∧ isInner i ∧ ¬isLast i) ∨ (¬isFirst i ∧ ¬isInner i ∧ isLast i)

/-- Every grid point is of one of the three kinds. -/
theorem kind : ∀ t : Fin cfg0.N, Kind (grid0.coords t) := by
  unfold Kind
  exact (by decide +kernel : ∀ t : Fin grid0.N, (isFirst (grid0.coords t) ∧ isInner (grid0.coords t) ∧ ¬isLast (grid0.coords t))
    ∨ (¬isFirst (grid0.coords t) ∧ isInner (grid0.coords t) ∧ ¬isLast (grid0.coords t))
    ∨ (¬isFirst (grid0.coords t) ∧ ¬isInner (grid0.coords t) ∧ isLast (grid0.coords t)))

set_option maxHeartbeats 4000000 in
/-- At a point of any kind the body, given its inputs and any contents of its outputs and scratch, ends with the inputs as they were. -/
theorem run (c : Dev nD) (i : grid0.Coords) (hi : Kind i)
    (a2 : Memref sig .tc .vmem S1x256x256 .bf16) (h2 : a2.IsWhole) (a3 : Memref sig .tc .vmem S1x256x256 .bf16) (h3 : a3.IsWhole)
    (a4 : Memref sig .tc .vmem S1x128x256 .bf16) (h4 : a4.IsWhole) (a5 : Memref sig .tc .vmem S1x256x256 .bf16) (h5 : a5.IsWhole)
    (a6 : Memref sig .tc .vmem S1x128x256 .bf16) (h6 : a6.IsWhole) (a7 : Memref sig .tc .vmem S1x256x256 .bf16) (h7 : a7.IsWhole)
    (a8 : Memref sig .tc .vmem S1x256x256 .f32) (h8 : a8.IsWhole) (a9 : Memref sig .tc .vmem S1x256x256 .f32) (h9 : a9.IsWhole)
    (a10 : Memref sig .tc .vmem S1x256x256 .bf16) (h10 : a10.IsWhole) (a11 : Memref sig .tc .vmem S1x256x256 .bf16) (h11 : a11.IsWhole)
    (a12 : Memref sig .tc .vmem S1x256x256 .bf16) (h12 : a12.IsWhole) (a13 : Memref sig .tc .vmem S256x256 .f32) (h13 : a13.IsWhole)
    (a14 : Memref sig .tc .vmem S256x256 .f32) (h14 : a14.IsWhole)
    (x0 : Vec F S1x256x256 .bf16) (x1 : Vec F S1x256x256 .bf16) (x2 : Vec F S1x128x256 .bf16) (x3 : Vec F S1x256x256 .bf16)
    (x4 : Vec F S1x128x256 .bf16) (x5 : Vec F S1x256x256 .bf16) (x6 : Vec F S1x256x256 .f32) (x7 : Vec F S1x256x256 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare x6 ∗ owns (c : Thread nD τ) a9 fullShare x7
        ∗ (∃ d, owns (c : Thread nD τ) a10 fullShare d) ∗ (∃ d, owns (c : Thread nD τ) a11 fullShare d)
        ∗ (∃ d, owns (c : Thread nD τ) a12 fullShare d) ∗ (∃ d, owns (c : Thread nD τ) a13 fullShare d) ∗ (∃ d, owns (c : Thread nD τ) a14 fullShare d)
        ∗ (iprop(owns (c : Thread nD τ) a2 fullShare x0 ∗ owns (c : Thread nD τ) a3 fullShare x1 ∗ owns (c : Thread nD τ) a4 fullShare x2
          ∗ owns (c : Thread nD τ) a5 fullShare x3 ∗ owns (c : Thread nD τ) a6 fullShare x4 ∗ owns (c : Thread nD τ) a7 fullShare x5
          ∗ owns (c : Thread nD τ) a8 fullShare x6 ∗ owns (c : Thread nD τ) a9 fullShare x7
          ∗ (∃ d, owns (c : Thread nD τ) a10 fullShare d) ∗ (∃ d, owns (c : Thread nD τ) a11 fullShare d)
          ∗ (∃ d, owns (c : Thread nD τ) a12 fullShare d) ∗ (∃ d, owns (c : Thread nD τ) a13 fullShare d)
          ∗ (∃ d, owns (c : Thread nD τ) a14 fullShare d)) -∗ K ⟨⟩))
      ⊢ wp frame (wpE (defs₀ (F := F)) Variants.none c none) E
          (cc0_attnb i a2 h2 a3 h3 a4 h4 a5 h5 a6 h6 a7 h7 a8 h8 a9 h9 a10 h10 a11 h11 a12 h12 a13 h13 a14 h14) K := by
  rcases hi with ⟨hc0, hc1, hc2⟩ | ⟨hc0, hc1, hc2⟩ | ⟨hc0, hc1, hc2⟩
  all_goals
    simp only [cc0_attnb_eq_skeleton]; unfold cc0_attnb_skel
    try simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton, k0_part11_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%ds0, %g0, -, S0⟩, ⟨%ds1, %g1, -, S1⟩, Hk⟩
    obtain rfl := h2.eq_unread e0; obtain rfl := h3.eq_unread e1; obtain rfl := h4.eq_unread e2; obtain rfl := h5.eq_unread e3
    obtain rfl := h6.eq_unread e4; obtain rfl := h7.eq_unread e5; obtain rfl := h8.eq_unread e6; obtain rfl := h9.eq_unread e7
    sl_exec (disch := first | sl_exact hc0 | sl_exact hc1 | sl_exact hc2)
    sl_step
    iapply Hk
    isplitl [H0]; · iexists _; isplitr; swap; · iexact H0
                    ipureintro; exact h2.read_unread _
    isplitl [H1]; · iexists _; isplitr; swap; · iexact H1
                    ipureintro; exact h3.read_unread _
    isplitl [H2]; · iexists _; isplitr; swap; · iexact H2
                    ipureintro; exact h4.read_unread _
    isplitl [H3]; · iexists _; isplitr; swap; · iexact H3
                    ipureintro; exact h5.read_unread _
    isplitl [H4]; · iexists _; isplitr; swap; · iexact H4
                    ipureintro; exact h6.read_unread _
    isplitl [H5]; · iexists _; isplitr; swap; · iexact H5
                    ipureintro; exact h7.read_unread _
    isplitl [H6]; · iexists _; isplitr; swap; · iexact H6
                    ipureintro; exact h8.read_unread _
    isplitl [H7]; · iexists _; isplitr; swap; · iexact H7
                    ipureintro; exact h9.read_unread _
    isplitl [H8]; · iexists _, _; isplitr; swap; · iexact H8
                    ipureintro; rfl
    isplitl [H9]; · iexists _, _; isplitr; swap; · iexact H9
                    ipureintro; rfl
    isplitl [H10]; · iexists _, _; isplitr; swap; · iexact H10
                     ipureintro; rfl
    isplitl [S0]; · iexists _, _; isplitr; swap; · iexact S0
                    ipureintro; rfl
    iexists _, _; isplitr; swap; · iexact S1
    ipureintro; rfl

end Cert.AttnBIdeal.Body

end
-- ==== Proof.AttnIdeal.Frame.lean ====
/- The frame of the attention gradient's kernel, over any float type: every argument ends unchanged and no signal is owed. -/
module

public import proofs.«01_k».proof.Proof.AttnIdeal.Run

@[expose] public section

set_option maxRecDepth 16384

noncomputable section

namespace Cert.AttnBIdeal.Body

open Cert.AttnBIdeal Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The three output windows: nothing is said of what the kernel leaves in them. -/
def outs : Fin 11 → Bool := fun w => decide (8 ≤ w.val)

/-- The pipeline's data: inputs hold their blocks at every point, outputs anything, and the scratch is the body's own. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q w := Pipeline.shareOf spec0 w
  owed _ := 0

/-- The arrays are what the region finds. -/
theorem data_A (c : Dev nD) (w : Fin cfg0.W) : (data m 0 c).A w = V m c (Pipeline.arrRef spec0 w) := by
  dsimp only [data]

/-- What each input's buffer holds after the body at a point is its block, so that is what it holds before the body too. -/
theorem before_in (c : Dev nD) (t : Fin cfg0.N) :
    (∀ d, (data m 0 c).before 0 t d = iblk m c 0 t) ∧ (∀ d, (data m 0 c).before 1 t d = iblk m c 1 t)
    ∧ (∀ d, (data m 0 c).before 2 t d = iblk m c 2 t) ∧ (∀ d, (data m 0 c).before 3 t d = iblk m c 3 t)
    ∧ (∀ d, (data m 0 c).before 4 t d = iblk m c 4 t) ∧ (∀ d, (data m 0 c).before 5 t d = iblk m c 5 t)
    ∧ (∀ d, (data m 0 c).before 6 t d = iblk m c 6 t) ∧ (∀ d, (data m 0 c).before 7 t d = iblk m c 7 t) :=
  ⟨before0_0_of m (data m 0 c) (data_A m c 0) (fun t => by dsimp only [data]) t,
   before0_1_of m (data m 0 c) (data_A m c 1) (fun t => by dsimp only [data]) t,
   before0_2_of m (data m 0 c) (data_A m c 2) (fun t => by dsimp only [data]) t,
   before0_3_of m (data m 0 c) (data_A m c 3) (fun t => by dsimp only [data]) t,
   before0_4_of m (data m 0 c) (data_A m c 4) (fun t => by dsimp only [data]) t,
   before0_5_of m (data m 0 c) (data_A m c 5) (fun t => by dsimp only [data]) t,
   before0_6_of m (data m 0 c) (data_A m c 6) (fun t => by dsimp only [data]) t,
   before0_7_of m (data m 0 c) (data_A m c 7) (fun t => by dsimp only [data]) t⟩

/-- What the body returns of each input: its block. -/
theorem leaves_in (c : Dev nD) (t : Fin cfg0.N) :
    (data m 0 c).leavesExact 0 t = owns (c : Thread nD τ) (st0_0 t) fullShare (iblk m c 0 t)
    ∧ (data m 0 c).leavesExact 1 t = owns (c : Thread nD τ) (st0_1 t) fullShare (iblk m c 1 t)
    ∧ (data m 0 c).leavesExact 2 t = owns (c : Thread nD τ) (st0_2 t) fullShare (iblk m c 2 t)
    ∧ (data m 0 c).leavesExact 3 t = owns (c : Thread nD τ) (st0_3 t) fullShare (iblk m c 3 t)
    ∧ (data m 0 c).leavesExact 4 t = owns (c : Thread nD τ) (st0_4 t) fullShare (iblk m c 4 t)
    ∧ (data m 0 c).leavesExact 5 t = owns (c : Thread nD τ) (st0_5 t) fullShare (iblk m c 5 t)
    ∧ (data m 0 c).leavesExact 6 t = owns (c : Thread nD τ) (st0_6 t) fullShare (iblk m c 6 t)
    ∧ (data m 0 c).leavesExact 7 t = owns (c : Thread nD τ) (st0_7 t) fullShare (iblk m c 7 t) := by
  have live : ∀ k : Fin 11, k.val < 8 → cfg0.idle k (grid0.coords t) = false := fun k hk => by
    match k, hk with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, _ => rfl
  refine ⟨?_, ?_, ?_, ?_, ?_, ?_, ?_, ?_⟩
  · unfold Dat.leavesExact; rw [live 0 (by decide)]; dsimp only [data]
  · unfold Dat.leavesExact; rw [live 1 (by decide)]; dsimp only [data]
  · unfold Dat.leavesExact; rw [live 2 (by decide)]; dsimp only [data]
  · unfold Dat.leavesExact; rw [live 3 (by decide)]; dsimp only [data]
  · unfold Dat.leavesExact; rw [live 4 (by decide)]; dsimp only [data]
  · unfold Dat.leavesExact; rw [live 5 (by decide)]; dsimp only [data]
  · unfold Dat.leavesExact; rw [live 6 (by decide)]; dsimp only [data]
  · unfold Dat.leavesExact; rw [live 7 (by decide)]; dsimp only [data]

/-- The class's invariant with the two scratch buffers owned at some contents. -/
theorem inv_eq (c : Dev nD) :
    (Pipeline.ΦA spec0 c : sProp 𝕄)
      = iprop(iprop((∃ d, owns (c : Thread nD τ) (Memref.whole cc0_scratch0) fullShare d)
        ∗ (∃ d, owns (c : Thread nD τ) (Memref.whole cc0_scratch1) fullShare d)) ∗ (∃ r, prngReg c r)) := by
  unfold Pipeline.ΦA; rw [scopedRest0_eq]; simp only [owns_whole]; try rfl

/-- What the body is called with at a point. -/
def bodyPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d))

/-- What the body returns at a point. -/
def bodyPost (c : Dev nD) (t : Fin cfg0.N) : sProp 𝕄 :=
  iprop((data m 0 c).Φ t.succ ∗ (data m 0 c).owesAt () t.succ
    ∗ (data m 0 c).leavesExact 0 t ∗ (data m 0 c).leavesExact 1 t ∗ (data m 0 c).leavesExact 2 t ∗ (data m 0 c).leavesExact 3 t
    ∗ (data m 0 c).leavesExact 4 t ∗ (data m 0 c).leavesExact 5 t ∗ (data m 0 c).leavesExact 6 t ∗ (data m 0 c).leavesExact 7 t
    ∗ (∃ d, owns (c : Thread nD τ) (st0_8 t) fullShare d)
    ∗ (∃ d, owns (c : Thread nD τ) (st0_9 t) fullShare d)
    ∗ (∃ d, owns (c : Thread nD τ) (st0_10 t) fullShare d))

set_option maxHeartbeats 2000000 in
/-- The body's triple at any point. -/
theorem body_triple (c : Dev nD) (t : Fin cfg0.N) :
    bodyPre m c t ⊢ wp frame (wpE (defs₀ (F := F)) Variants.none c none) Set.univ (bodyAt0 t) (fun _ => bodyPost m c t) := by
  obtain ⟨b0, b1, b2, b3, b4, b5, b6, b7⟩ := before_in m c t
  obtain ⟨l0, l1, l2, l3, l4, l5, l6, l7⟩ := leaves_in m c t
  unfold bodyPre bodyPost bodyAt0
  simp only [b0, b1, b2, b3, b4, b5, b6, b7]
  rw [l0, l1, l2, l3, l4, l5, l6, l7]
  rw [show (data m 0 c).Φ t.succ = (data m 0 c).Φ t.castSucc from rfl,
    show (data m 0 c).owesAt () t.succ = (data m 0 c).owesAt () t.castSucc from rfl]
  rw [show (data m 0 c).Φ t.castSucc = Pipeline.ΦA spec0 c from rfl, inv_eq]
  iintro ⟨⟨⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10⟩
  iapply (run c (grid0.coords t) (kind t) _ _ _ _ _ _ _ _ _ _ _ _ _ _ _ _ _ _ _ _ _ _ _ _ _ _ (iblk m c 0 t) (iblk m c 1 t)
    (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  iintro ⟨H0, H1, H2, H3, H4, H5, H6, H7, H8, H9, H10, S0, S1⟩
  isplitl [S0 S1 Hg]
  · isplitl [S0 S1]
    · isplitl [S0]; · iexact S0
      iexact S1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at a point is the body as the triple spells it. -/
theorem row (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (data (F := F) m 0 c) (defs₀ (F := F)) Variants.none () Set.univ outs := fun t => by
  rw [bigSep_W0, bigSep_W0, row]
  exact triple_restated (body_triple m c t) rfl .rfl fun _ => .rfl

set_option backward.isDefEq.respectTransparency.types false in
/-- The run: everything outside the pipeline's own arrays ends as the region found it, and no signal is owed. -/
theorem ends : θ_run defs (onTc (τ := τ) (main (F := F))) (s₀ m ρ)
    (fun r => (Pipeline.RDat.FramePost (cfgs 0) (fun c => (data m 0 c).toRForget outs) (V m)) r ∧ r.2.sem = fun _ => 0) :=
  Pipeline.θ_run_frame_forget_shared (Q' := _) cfgs (data m) (0 : Fin 1) launch₀0 defs₀ Variants.none outs m ρ main
    (hbody := fun c => (obligation m c).loose) (hq := fun _ _ _ => rfl)
    (howed := fun _ _ => rfl) (V := V m) (hmain := hmain m Variants.none) (hA := data_A m) (hΦ := fun _ _ => rfl)

/-- The frame: from any launch, the arguments end unchanged and no signal is owed. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
    have rest := (h.1 c).2
    have kept := fun b hb hr => rest b (Pipeline.mem_restRefs_of b hb hr)
    ⟨(kept main_arg0 (by decide) (by decide)).trans (V_main_arg0 m c), (kept main_arg1 (by decide) (by decide)).trans (V_main_arg1 m c),
     (kept main_arg2 (by decide) (by decide)).trans (V_main_arg2 m c), (kept main_arg3 (by decide) (by decide)).trans (V_main_arg3 m c),
     (kept main_arg4 (by decide) (by decide)).trans (V_main_arg4 m c), (kept main_arg5 (by decide) (by decide)).trans (V_main_arg5 m c),
     (kept main_arg6 (by decide) (by decide)).trans (V_main_arg6 m c), (kept main_arg7 (by decide) (by decide)).trans (V_main_arg7 m c)⟩,
    h.2⟩) (ends m ρ)

end Cert.AttnBIdeal.Body

end
-- ==== Proof.Gate.lean ====
/- The gradient of the two branch gates: every result of the kernel is the reference's. -/
module

public import proofs.«01_k».proof.Proof.Gen.GateBIdeal.Frame
public import proofs.«01_k».proof.Proof.Gen.RefGateBIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GateBIdeal.Value

open Cert.GateBIdeal Cert.GateBIdeal.Gen

variable (m : (ℓ : Loc nD τ sig) → Buf (Elt Ideal) ℓ)

/-- The logistic of a gate, as the reference writes it. -/
def sgm (X : FVec Ideal S16384x1024 .f32) : FVec Ideal S16384x1024 .f32 :=
  Host.divf (broadcastInDim S16384x1024 ![] Cert.RefGateBIdeal.Gen.bcast_S_S16384x1024 (constant ⟨0, ![]⟩ .f32 0x3F800000#32))
    (addf (broadcastInDim S16384x1024 ![] Cert.RefGateBIdeal.Gen.bcast_S_S16384x1024 (constant ⟨0, ![]⟩ .f32 0x3F800000#32)) (Host.exp (Host.negf X)))

/-- The cotangent pulled back through the output projection. -/
def back (X5 : FVec Ideal S16384x1024 .f32) (X4 : FVec Ideal S1024x1024 .f32) : FVec Ideal S16384x1024 .f32 :=
  Host.dotGeneral Cert.RefGateBIdeal.dot_S16384x1024_S1024x1024_S16384x1024_1_1_0_0_n_n none X5 X4

/-- The gradient of a branch: gate times pulled-back cotangent. -/
def branch (g X5 : FVec Ideal S16384x1024 .f32) (X4 : FVec Ideal S1024x1024 .f32) : FVec Ideal S16384x1024 .bf16 :=
  truncf .bf16 (mulf (sgm g) (back X5 X4)) Cert.RefGateBIdeal.Gen.bitsLt_bf16_f32

/-- The gradient of a gate: pulled-back cotangent times branch times the logistic's derivative. -/
def gate (g y X5 : FVec Ideal S16384x1024 .f32) (X4 : FVec Ideal S1024x1024 .f32) : FVec Ideal S16384x1024 .bf16 :=
  truncf .bf16 (mulf (mulf (back X5 X4) y) (mulf (sgm g) (subf
    (broadcastInDim S16384x1024 ![] Cert.RefGateBIdeal.Gen.bcast_S_S16384x1024 (constant ⟨0, ![]⟩ .f32 0x3F800000#32)) (sgm g))))
    Cert.RefGateBIdeal.Gen.bitsLt_bf16_f32

/-- Every window moves down the rows with the grid point; the weight stays. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

end Cert.GateBIdeal.Value

end
-- ==== Proof.GateOut6.lean ====
/- The gradient of the first branch: the array the kernel leaves is the reference's. -/
module

public import proofs.«01_k».proof.Proof.Gate

@[expose] public section

set_option maxRecDepth 16384

noncomputable section

open Idealize.ShloMosaic Idealize.ShloMosaic.TcCoe Idealize.SL.Sem
open Idealize.ShloMosaic.Pipeline (Dat)

namespace Cert.GateBIdeal.Value

open Cert.GateBIdeal Cert.GateBIdeal.Gen

variable (m : (ℓ : Loc nD τ sig) → Buf (Elt Ideal) ℓ)

/-- One written block of the gradient of the first branch, element by element. -/
theorem point6 (c : Dev nD) (t : Fin cfg0.N) (y : S512x1024.Idx) :
    out0_6 (iblk m c 0 t) (iblk m c 1 t) (iblk m c 2 t) (iblk m c 3 t) (iblk m c 4 t) (iblk m c 5 t) y
      = branch (m ((c : Thread nD τ).loc main_arg0)) (m ((c : Thread nD τ).loc main_arg5)) (m ((c : Thread nD τ).loc main_arg4)) (((cfg0.win 6).blk t).view.emb y) := by
  canon_tiles x h
  all_goals open_payloads
  all_goals pointwise [branch, gate, sgm, back]
  all_goals simp only [zero_sub]
  all_goals try simp only [mul_assoc]
  all_goals blk_point [iblk, V, idx t]

/-- The whole gradient of the first branch after the call. -/
theorem final6 (c : Dev nD) : (dats m 0 c).arrAt 6 (cfgs 0).N = branch (m ((c : Thread nD τ).loc main_arg0)) (m ((c : Thread nD τ).loc main_arg5)) (m ((c : Thread nD τ).loc main_arg4)) := by
  refine (dats m 0 c).arrAt_eq_of_covers 6 _ (by decide +kernel) fun t _ y => ?_
  blk_simp
  rw [after0_6]
  exact point6 m c t y

end Cert.GateBIdeal.Value

end
-- ==== Proof.GateOut7.lean ====
/- The gradient of the second branch: the array the kernel leaves is the reference's. -/
module

public import proofs.«01_k».proof.Proof.Gate

@[expose] public section

set_option maxRecDepth 16384

noncomputable section

open Idealize.ShloMosaic Idealize.ShloMosaic.TcCoe Idealize.SL.Sem
open Idealize.ShloMosaic.Pipeline (Dat)

namespace Cert.GateBIdeal.Value

open Cert.GateBIdeal Cert.GateBIdeal.Gen

variable (m : (ℓ : Loc nD τ sig) → Buf (Elt Ideal) ℓ)

/-- One written block of the gradient of the second branch, element by element. -/
theorem point7 (c : Dev nD) (t : Fin cfg0.N) (y : S512x1024.Idx) :
    out0_7 (iblk m c 0 t) (iblk m c 1 t) (iblk m c 2 t) (iblk m c 3 t) (iblk m c 4 t) (iblk m c 5 t) y
      = branch (m ((c : Thread nD τ).loc main_arg1)) (m ((c : Thread nD τ).loc main_arg5)) (m ((c : Thread nD τ).loc main_arg4)) (((cfg0.win 7).blk t).view.emb y) := by
  canon_tiles x h
  all_goals open_payloads
  all_goals pointwise [branch, gate, sgm, back]
  all_goals simp only [zero_sub]
  all_goals try simp only [mul_assoc]
  all_goals blk_point [iblk, V, idx t]

/-- The whole gradient of the second branch after the call. -/
theorem final7 (c : Dev nD) : (dats m 0 c).arrAt 7 (cfgs 0).N = branch (m ((c : Thread nD τ).loc main_arg1)) (m ((c : Thread nD τ).loc main_arg5)) (m ((c : Thread nD τ).loc main_arg4)) := by
  refine (dats m 0 c).arrAt_eq_of_covers 7 _ (by decide +kernel) fun t _ y => ?_
  blk_simp
  rw [after0_7]
  exact point7 m c t y

end Cert.GateBIdeal.Value

end
-- ==== Proof.GateOut8.lean ====
/- The gradient of the first gate: the array the kernel leaves is the reference's. -/
module

public import proofs.«01_k».proof.Proof.Gate

@[expose] public section

set_option maxRecDepth 16384

noncomputable section

open Idealize.ShloMosaic Idealize.ShloMosaic.TcCoe Idealize.SL.Sem
open Idealize.ShloMosaic.Pipeline (Dat)

namespace Cert.GateBIdeal.Value

open Cert.GateBIdeal Cert.GateBIdeal.Gen

variable (m : (ℓ : Loc nD τ sig) → Buf (Elt Ideal) ℓ)

/-- One written block of the gradient of the first gate, element by element. -/
theorem point8 (c : Dev nD) (t : Fin cfg0.N) (y : S512x1024.Idx) :
    out0_8 (iblk m c 0 t) (iblk m c 1 t) (iblk m c 2 t) (iblk m c 3 t) (iblk m c 4 t) (iblk m c 5 t) y
      = gate (m ((c : Thread nD τ).loc main_arg0)) (m ((c : Thread nD τ).loc main_arg2)) (m ((c : Thread nD τ).loc main_arg5)) (m ((c : Thread nD τ).loc main_arg4)) (((cfg0.win 8).blk t).view.emb y) := by
  canon_tiles x h
  all_goals open_payloads
  all_goals pointwise [branch, gate, sgm, back]
  all_goals simp only [zero_sub]
  all_goals try simp only [mul_assoc]
  all_goals blk_point [iblk, V, idx t]

/-- The whole gradient of the first gate after the call. -/
theorem final8 (c : Dev nD) : (dats m 0 c).arrAt 8 (cfgs 0).N = gate (m ((c : Thread nD τ).loc main_arg0)) (m ((c : Thread nD τ).loc main_arg2)) (m ((c : Thread nD τ).loc main_arg5)) (m ((c : Thread nD τ).loc main_arg4)) := by
  refine (dats m 0 c).arrAt_eq_of_covers 8 _ (by decide +kernel) fun t _ y => ?_
  blk_simp
  rw [after0_8]
  exact point8 m c t y

end Cert.GateBIdeal.Value

end
-- ==== Proof.GateOut9.lean ====
/- The gradient of the second gate: the array the kernel leaves is the reference's. -/
module

public import proofs.«01_k».proof.Proof.Gate

@[expose] public section

set_option maxRecDepth 16384

noncomputable section

open Idealize.ShloMosaic Idealize.ShloMosaic.TcCoe Idealize.SL.Sem
open Idealize.ShloMosaic.Pipeline (Dat)

namespace Cert.GateBIdeal.Value

open Cert.GateBIdeal Cert.GateBIdeal.Gen

variable (m : (ℓ : Loc nD τ sig) → Buf (Elt Ideal) ℓ)

/-- One written block of the gradient of the second gate, element by element. -/
theorem point9 (c : Dev nD) (t : Fin cfg0.N) (y : S512x1024.Idx) :
    out0_9 (iblk m c 0 t) (iblk m c 1 t) (iblk m c 2 t) (iblk m c 3 t) (iblk m c 4 t) (iblk m c 5 t) y
      = gate (m ((c : Thread nD τ).loc main_arg1)) (m ((c : Thread nD τ).loc main_arg3)) (m ((c : Thread nD τ).loc main_arg5)) (m ((c : Thread nD τ).loc main_arg4)) (((cfg0.win 9).blk t).view.emb y) := by
  canon_tiles x h
  all_goals open_payloads
  all_goals pointwise [branch, gate, sgm, back]
  all_goals simp only [zero_sub]
  all_goals try simp only [mul_assoc]
  all_goals blk_point [iblk, V, idx t]

/-- The whole gradient of the second gate after the call. -/
theorem final9 (c : Dev nD) : (dats m 0 c).arrAt 9 (cfgs 0).N = gate (m ((c : Thread nD τ).loc main_arg1)) (m ((c : Thread nD τ).loc main_arg3)) (m ((c : Thread nD τ).loc main_arg5)) (m ((c : Thread nD τ).loc main_arg4)) := by
  refine (dats m 0 c).arrAt_eq_of_covers 9 _ (by decide +kernel) fun t _ y => ?_
  blk_simp
  rw [after0_9]
  exact point9 m c t y

end Cert.GateBIdeal.Value

end
-- ==== Proof.Claims.Gate.lean ====
/- The branch gates' gradient: the frames of both programs and the equality of their results. -/
module

public import proofs.«01_k».proof.Defs
public import proofs.«01_k».proof.Proof.Gen.GateB.Frame
public import proofs.«01_k».proof.Proof.Gen.GateBIdeal.Value
public import proofs.«01_k».proof.Proof.Gen.RefGateBIdeal.Run
public import proofs.«01_k».proof.Proof.GateOut6
public import proofs.«01_k».proof.Proof.GateOut7
public import proofs.«01_k».proof.Proof.GateOut8
public import proofs.«01_k».proof.Proof.GateOut9
public import Idealize.ShloMosaic.Lib.Claim

@[expose] public section

set_option maxRecDepth 16384

noncomputable section

namespace Cert.Gate

open Idealize.ShloMosaic Idealize.SL.Sem

/-- The reference ends with its arguments unchanged and no signal owed. -/
theorem frame_reference : Cert.quiescent_RefGateBIdeal (hRefGateBIdeal := Cert.RefGateBIdeal.Gen.facts) := by
  intro m g _
  exact (θ_run Cert.RefGateBIdeal.defs _ _).mono
    (fun r h => ⟨fun c => (h c).2.2.2.2, Idealize.ShloMosaic.sem_eq_zero_of_no_sems (by decide) r.2⟩) (Cert.RefGateBIdeal.Value.run m g)

/-- From equal arguments the kernel and the reference end with the same four gradients. -/
theorem algebraic : Cert.algebraic_GateBIdeal_RefGateBIdeal (hGateBIdeal := Cert.GateBIdeal.Gen.facts)
    (hRefGateBIdeal := Cert.RefGateBIdeal.Gen.facts) := by
  pair_intro
  · run_from Cert.GateBIdeal.Gen.run_main m g
  · run_from Cert.RefGateBIdeal.Value.run m' g'
    · exact (Cert.GateBIdeal.Value.final6 m c).symm
    · exact (Cert.GateBIdeal.Value.final7 m c).symm
    · exact (Cert.GateBIdeal.Value.final8 m c).symm
    · exact (Cert.GateBIdeal.Value.final9 m c).symm

end Cert.Gate

end
-- ==== Proof.Finite.lean ====
/- Real numbers among the extended reals: what stays real under the operations of a kernel, and what a finiteness precondition says. -/
module

public import Idealize.ShloMosaic.Lib.ReduceAll
public import Idealize.ShloMosaic.Lib.Pointwise

@[expose] public section

noncomputable section

open Idealize.ShloMosaic

namespace Cert.Finite

/-- An extended real that is a real number. -/
def IsR (x : EReal) : Prop := ∃ r : ℝ, x = (r : EReal)

theorem IsR.coe (r : ℝ) : IsR (r : EReal) := ⟨r, rfl⟩

theorem IsR.zero : IsR 0 := ⟨0, rfl⟩

theorem IsR.one : IsR 1 := ⟨1, rfl⟩

/-- Sums, differences, products and negatives of real numbers are real. -/
theorem IsR.add {x y : EReal} (hx : IsR x) (hy : IsR y) : IsR (x + y) := by
  obtain ⟨a, rfl⟩ := hx; obtain ⟨b, rfl⟩ := hy; exact ⟨a + b, by push_cast; rfl⟩

theorem IsR.sub {x y : EReal} (hx : IsR x) (hy : IsR y) : IsR (x - y) := by
  obtain ⟨a, rfl⟩ := hx; obtain ⟨b, rfl⟩ := hy; exact ⟨a - b, by push_cast; rfl⟩

theorem IsR.mul {x y : EReal} (hx : IsR x) (hy : IsR y) : IsR (x * y) := by
  obtain ⟨a, rfl⟩ := hx; obtain ⟨b, rfl⟩ := hy; exact ⟨a * b, by push_cast; rfl⟩

theorem IsR.neg {x : EReal} (hx : IsR x) : IsR (-x) := by
  obtain ⟨a, rfl⟩ := hx; exact ⟨-a, by push_cast; rfl⟩

/-- A finite sum of real numbers is the sum of the reals. -/
theorem coe_sum {ι : Type} (s : Finset ι) (f : ι → ℝ) : ((∑ k ∈ s, f k : ℝ) : EReal) = ∑ k ∈ s, (f k : EReal) := by
  induction s using Finset.cons_induction with
  | empty => simp
  | cons a s h ih => rw [Finset.sum_cons, Finset.sum_cons, EReal.coe_add, ih]

theorem IsR.sum {ι : Type} (s : Finset ι) {f : ι → EReal} (h : ∀ k, IsR (f k)) : IsR (∑ k ∈ s, f k) := by
  choose g hg using h
  exact ⟨∑ k ∈ s, g k, by rw [coe_sum]; exact Finset.sum_congr rfl fun k _ => hg k⟩

/-- The exponential of a real number is a positive real number. -/
theorem exp_pos {x : EReal} (hx : IsR x) : ∃ r : ℝ, 0 < r ∧ Ideal.exp x = (r : EReal) := by
  obtain ⟨a, rfl⟩ := hx; exact ⟨Real.exp a, Real.exp_pos a, rfl⟩

theorem IsR.exp {x : EReal} (hx : IsR x) : IsR (Ideal.exp x) := by
  obtain ⟨r, -, h⟩ := exp_pos hx; exact ⟨r, h⟩

/-- A quotient of reals by a nonzero real is the real quotient. -/
theorem div_real (a : ℝ) {b : ℝ} (hb : b ≠ 0) : Ideal.div (a : EReal) (b : EReal) = ((a / b : ℝ) : EReal) := by
  rw [Ideal.div_coe hb, ← EReal.coe_mul, mul_one_div]

/-- The logistic of a real number, as `1 / (1 + exp (-x))`, is real. -/
theorem IsR.sgm {x : EReal} (hx : IsR x) : IsR (Ideal.div 1 (1 + Ideal.exp (-x))) := by
  obtain ⟨r, hr, h⟩ := exp_pos hx.neg
  refine ⟨1 / (1 + r), ?_⟩
  rw [h, ← div_real 1 (by positivity), EReal.coe_add]; rfl

/-- An element whose absolute value is below plus infinity is a real number. -/
theorem real_of_lt {x : EReal} (h : max x (-x) < ⊤) : IsR x := by
  induction x with
  | bot => simp at h
  | top => simp at h
  | coe r => exact ⟨r, rfl⟩

/-- Every element of a float array is a real number. -/
def Finite {s : Shape} {φ : FTy} (x : FVec Ideal s φ) : Prop := ∀ i, IsR (x i)

/-- What one argument's part of a finiteness precondition says. -/
theorem finite_of_all {s t u : Shape} {axes : List (Fin s.rank)} [Subsingleton t.Idx] (x : FVec Ideal s .f32)
    (init : u.Idx → BitVec 1) (c : FVec Ideal s .f32) (hc : ∀ i, c i = Ideal.ofBits .f32 0x7F800000#32)
    (h : s.ReducesTo axes t) (hu : 0 < u.numel) (j : t.Idx)
    (e : Host.reduce IntOp.andi (cmpf .olt (Host.absf x) c) init h hu j = 1#1) : Finite x := by
  intro i
  have h1 := Host.reduce_andi_all _ init h hu j e i
  apply real_of_lt
  have h2 : Ideal.cmp .olt (max (x i) (-(x i))) (c i) = 1#1 := h1
  rw [hc] at h2
  have h3 : Ideal.ofBits .f32 0x7F800000#32 = ⊤ := by simp [Ideal.ofBits, Ideal.ieee]
  rw [h3] at h2
  by_contra hn
  simp [Ideal.cmp, hn] at h2

end Cert.Finite

end
-- ==== Proof.Swiglu.lean ====
/- The gradient of the gated feed-forward's activation: the terms of the kernel and of the reference, and where they are equal. -/
module

public import proofs.«01_k».proof.Proof.Gen.SwigluBIdeal.Frame
public import proofs.«01_k».proof.Proof.Gen.RefSwigluBIdeal.Run
public import proofs.«01_k».proof.Proof.Finite
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Finite

namespace Cert.SwigluBIdeal.Value

open Cert.SwigluBIdeal Cert.SwigluBIdeal.Gen

/-- The array of ones. -/
def ones : FVec Ideal S16384x2816 .f32 :=
  broadcastInDim S16384x2816 ![] Cert.RefSwigluBIdeal.Gen.bcast_S_S16384x2816 (constant ⟨0, ![]⟩ .f32 0x3F800000#32)

/-- The logistic of the gate, as the reference writes it. -/
def sgm (X : FVec Ideal S16384x2816 .f32) : FVec Ideal S16384x2816 .f32 :=
  Host.divf ones (addf ones (Host.exp (Host.negf X)))

/-- The cotangent pulled back through the down projection. -/
def back (ct : FVec Ideal S16384x1024 .f32) (w : FVec Ideal S2816x1024 .f32) : FVec Ideal S16384x2816 .f32 :=
  Host.dotGeneral Cert.RefSwigluBIdeal.dot_S16384x1024_S2816x1024_S16384x2816_1_1_0_0_n_n none ct w

/-- The gradient of the gate as the kernel writes it: one factor for the derivative of `x ↦ x * logistic x`. -/
def gateK (a u : FVec Ideal S16384x2816 .f32) (w : FVec Ideal S2816x1024 .f32) (ct : FVec Ideal S16384x1024 .f32) :
    FVec Ideal S16384x2816 .bf16 :=
  truncf .bf16 (mulf (mulf (back ct w) u) (mulf (sgm a) (addf ones (mulf a (subf ones (sgm a)))))) Cert.RefSwigluBIdeal.Gen.bitsLt_bf16_f32

/-- The gradient of the gate as the reference writes it: the product rule, term by term. -/
def gateR (a u : FVec Ideal S16384x2816 .f32) (w : FVec Ideal S2816x1024 .f32) (ct : FVec Ideal S16384x1024 .f32) :
    FVec Ideal S16384x2816 .bf16 :=
  truncf .bf16 (addf (mulf (mulf (back ct w) u) (sgm a)) (mulf (mulf a (mulf (back ct w) u)) (mulf (sgm a) (subf ones (sgm a)))))
    Cert.RefSwigluBIdeal.Gen.bitsLt_bf16_f32

/-- The gradient of the gated half, as the kernel writes it. -/
def upK (a : FVec Ideal S16384x2816 .f32) (w : FVec Ideal S2816x1024 .f32) (ct : FVec Ideal S16384x1024 .f32) :
    FVec Ideal S16384x2816 .bf16 :=
  truncf .bf16 (mulf (back ct w) (mulf a (sgm a))) Cert.RefSwigluBIdeal.Gen.bitsLt_bf16_f32

/-- The gradient of the gated half, as the reference writes it. -/
def upR (a : FVec Ideal S16384x2816 .f32) (w : FVec Ideal S2816x1024 .f32) (ct : FVec Ideal S16384x1024 .f32) :
    FVec Ideal S16384x2816 .bf16 :=
  truncf .bf16 (mulf (mulf a (sgm a)) (back ct w)) Cert.RefSwigluBIdeal.Gen.bitsLt_bf16_f32

/-- The product rule for `x * s` where the derivative of `s` is `s * (1 - s)`, on real numbers. -/
theorem product_rule {d a s : EReal} (hd : IsR d) (ha : IsR a) (hs : IsR s) :
    d * (s * (1 + a * (1 - s))) = d * s + a * d * (s * (1 - s)) := by
  obtain ⟨d, rfl⟩ := hd; obtain ⟨a, rfl⟩ := ha; obtain ⟨s, rfl⟩ := hs
  norm_cast; ring

/-- The two gate gradients agree where every argument is finite. -/
theorem gate_eq (a u : FVec Ideal S16384x2816 .f32) (w : FVec Ideal S2816x1024 .f32) (ct : FVec Ideal S16384x1024 .f32)
    (ha : Finite a) (hu : Finite u) (hw : Finite w) (hc : Finite ct) : gateK a u w ct = gateR a u w ct := by
  funext i
  have hb : IsR (back ct w i) := by
    pointwise [back]
    exact IsR.sum _ fun k => (hc _).mul (hw _)
  have hs : IsR (sgm a i) := by
    pointwise [sgm, ones]
    exact (ha i).sgm
  have h1 : ones i = 1 := by pointwise [ones]
  show back ct w i * u i * (sgm a i * (ones i + a i * (ones i - sgm a i)))
    = back ct w i * u i * sgm a i + a i * (back ct w i * u i) * (sgm a i * (ones i - sgm a i))
  rw [h1]
  exact product_rule (hb.mul (hu i)) (ha i) hs

/-- The two gradients of the gated half agree always. -/
theorem up_eq (a : FVec Ideal S16384x2816 .f32) (w : FVec Ideal S2816x1024 .f32) (ct : FVec Ideal S16384x1024 .f32) :
    upK a w ct = upR a w ct := by
  funext i
  exact mul_comm (back ct w i) (a i * sgm a i)

/-- The grid runs down the rows, once for each half of the columns. -/
theorem idx : ∀ t : Fin cfg0.N, win0_0.index t = ![t.val % 32, 0] ∧ win0_1.index t = ![t.val / 32, 0]
    ∧ win0_2.index t = ![t.val % 32, t.val / 32] ∧ win0_3.index t = ![t.val % 32, t.val / 32]
    ∧ win0_4.index t = ![t.val % 32, t.val / 32] ∧ win0_5.index t = ![t.val % 32, t.val / 32] :=
  (by decide +kernel : ∀ t : Fin grid0.N, _)

end Cert.SwigluBIdeal.Value

end
-- ==== Proof.SwigluOut4.lean ====
/- The gradient of the gate: the array the kernel leaves is the kernel's term of the whole arguments. -/
module

public import proofs.«01_k».proof.Proof.Swiglu

@[expose] public section

set_option maxRecDepth 16384

noncomputable section

open Idealize.ShloMosaic Idealize.ShloMosaic.TcCoe Idealize.SL.Sem
open Idealize.ShloMosaic.Pipeline (Dat)

namespace Cert.SwigluBIdeal.Value

open Cert.SwigluBIdeal Cert.SwigluBIdeal.Gen

variable (m : (ℓ : Loc nD τ sig) → Buf (Elt Ideal) ℓ)

/-- The whole gradient of the gate after the call. -/
theorem final4 (c : Dev nD) : (dats m 0 c).arrAt 4 (cfgs 0).N = gateK (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold outsAt0
  frame_out
  canon_tiles x h using View.cover_of_tiledBy _ ![512, 128] (by sl_kernel_rfl) _
  all_goals open_payloads
  all_goals pointwise [gateK, ones, sgm, back]
  all_goals simp only [zero_sub]
  all_goals blk_point [iblk, V, idx t]

end Cert.SwigluBIdeal.Value

end
-- ==== Proof.SwigluOut5.lean ====
/- The gradient of the gated half: the array the kernel leaves is the kernel's term of the whole arguments. -/
module

public import proofs.«01_k».proof.Proof.Swiglu

@[expose] public section

set_option maxRecDepth 16384

noncomputable section

open Idealize.ShloMosaic Idealize.ShloMosaic.TcCoe Idealize.SL.Sem
open Idealize.ShloMosaic.Pipeline (Dat)

namespace Cert.SwigluBIdeal.Value

open Cert.SwigluBIdeal Cert.SwigluBIdeal.Gen

variable (m : (ℓ : Loc nD τ sig) → Buf (Elt Ideal) ℓ)

/-- The whole gradient of the gated half after the call. -/
theorem final5 (c : Dev nD) : (dats m 0 c).arrAt 5 (cfgs 0).N = upK (m ((c : Thread nD τ).loc main_arg0)) (m ((c : Thread nD τ).loc main_arg2)) (m ((c : Thread nD τ).loc main_arg3)) := by
  refine (dats m 0 c).arrAt_eq_of_covers 5 _ (by decide +kernel) fun t _ y => ?_
  blk_simp
  rw [after0_5]
  unfold outsAt0
  frame_out
  canon_tiles x h using View.cover_of_tiledBy _ ![512, 128] (by sl_kernel_rfl) _
  all_goals open_payloads
  all_goals pointwise [upK, ones, sgm, back]
  all_goals simp only [zero_sub]
  all_goals blk_point [iblk, V, idx t]

end Cert.SwigluBIdeal.Value

end
-- ==== Proof.Claims.Swiglu.lean ====
/- The gated feed-forward's activation gradient: the frames of both programs and the equality of their results. -/
module

public import proofs.«01_k».proof.Defs
public import proofs.«01_k».proof.Proof.Gen.SwigluB.Frame
public import proofs.«01_k».proof.Proof.Gen.SwigluBIdeal.Value
public import proofs.«01_k».proof.Proof.Gen.RefSwigluBIdeal.Run
public import proofs.«01_k».proof.Proof.Gen.Pre_finite_bdown
public import proofs.«01_k».proof.Proof.SwigluOut4
public import proofs.«01_k».proof.Proof.SwigluOut5
public import Idealize.ShloMosaic.Lib.Claim

@[expose] public section

set_option maxRecDepth 16384

noncomputable section

namespace Cert.Swiglu

open Idealize.ShloMosaic Idealize.SL.Sem
open Cert.Finite

/-- The reference ends with its arguments unchanged and no signal owed. -/
theorem frame_reference : Cert.quiescent_RefSwigluBIdeal (hRefSwigluBIdeal := Cert.RefSwigluBIdeal.Gen.facts) := by
  intro m g _
  exact (θ_run Cert.RefSwigluBIdeal.defs _ _).mono
    (fun r h => ⟨fun c => (h c).2.2, Idealize.ShloMosaic.sem_eq_zero_of_no_sems (by decide) r.2⟩) (Cert.RefSwigluBIdeal.Value.run m g)

/-- The precondition says that every element of the four arguments is a real number. -/
theorem finite_args [Cert.Pre_finite_bdown.Facts] (a u : FVec Ideal Cert.Pre_finite_bdown.S16384x2816 .f32) (w : FVec Ideal Cert.Pre_finite_bdown.S2816x1024 .f32)
    (ct : FVec Ideal Cert.Pre_finite_bdown.S16384x1024 .f32)
    (h : Cert.Pre_finite_bdown.fn (F := Ideal) a u w ct = fun _ => 1#1) :
    Finite a ∧ Finite u ∧ Finite w ∧ Finite ct := by
  have e := congrFun h ix0
  simp only [Cert.Pre_finite_bdown.fn, Cert.Pre_finite_bdown.fn_part1, andi, IntOp.andi_eq_one] at e
  obtain ⟨⟨⟨e0, e1⟩, e2⟩, e3⟩ := e
  exact ⟨finite_of_all a _ _ (fun _ => rfl) _ _ _ e0, finite_of_all u _ _ (fun _ => rfl) _ _ _ e1,
    finite_of_all w _ _ (fun _ => rfl) _ _ _ e2, finite_of_all ct _ _ (fun _ => rfl) _ _ _ e3⟩

/-- From equal finite arguments the kernel and the reference end with the same two gradients. -/
theorem algebraic : Cert.algebraic_SwigluBIdeal_RefSwigluBIdeal_pre_finite_bdown (hSwigluBIdeal := Cert.SwigluBIdeal.Gen.facts)
    (hRefSwigluBIdeal := Cert.RefSwigluBIdeal.Gen.facts) (hPre_finite_bdown := Cert.Pre_finite_bdown.Gen.facts) := by
  pair_intro
  · run_from Cert.SwigluBIdeal.Gen.run_main m g
  · run_from Cert.RefSwigluBIdeal.Value.run m' g'
    · obtain ⟨ha, hu, hw, hc⟩ := finite_args _ _ _ _ (hpre c)
      exact ((Cert.SwigluBIdeal.Value.final4 m c).trans (Cert.SwigluBIdeal.Value.gate_eq _ _ _ _ ha hu hw hc)).symm
    · exact ((Cert.SwigluBIdeal.Value.final5 m c).trans (Cert.SwigluBIdeal.Value.up_eq _ _ _)).symm

end Cert.Swiglu

end
-- ==== Proof.Norm.lean ====
/- The gradient of a row's root-mean-square normalisation, as the kernels and as the derivative write it, on rows of real numbers. -/
module

public import proofs.«01_k».proof.Proof.Finite
public import Idealize.ShloMosaic.Lib.Pointwise

@[expose] public section

set_option maxRecDepth 16384

noncomputable section

open Idealize.ShloMosaic
open Cert.Finite

namespace Cert.Norm

/-- The number of columns, as a float constant. -/
abbrev N : EReal := Ideal.ofBits .f32 0x44800000#32
/-- The small constant under the root. -/
abbrev eps : EReal := Ideal.ofBits .f32 0x358637BD#32

theorem N_eq : N = ((1024 : ℝ) : EReal) := by
  simp [N, Ideal.ofBits, Ideal.ieee]
  rw [← EReal.coe_mul]; norm_num

theorem half_eq : Ideal.ofBits .f32 0x3F000000#32 = ((1 / 2 : ℝ) : EReal) := by
  simp [Ideal.ofBits, Ideal.ieee]
  rw [← EReal.coe_mul]; norm_num

theorem two_eq : Ideal.ofBits .f32 0x40000000#32 = ((2 : ℝ) : EReal) := by
  simp [Ideal.ofBits, Ideal.ieee]
  rw [← EReal.coe_mul]; norm_num

theorem mhalf_eq : Ideal.ofBits .f32 0xBF000000#32 = ((-(1 / 2) : ℝ) : EReal) := by
  simp [Ideal.ofBits, Ideal.ieee]
  rw [← EReal.coe_mul]; norm_num

theorem inv_eq : Ideal.ofBits .f32 0x3A800000#32 = ((1 / 1024 : ℝ) : EReal) := by
  simp [Ideal.ofBits, Ideal.ieee]
  rw [← EReal.coe_mul]; norm_num

theorem eps_eq : ∃ e : ℝ, 0 < e ∧ eps = (e : EReal) := by
  refine ⟨_, ?_, by simp [eps, Ideal.ofBits, Ideal.ieee]; rfl⟩
  positivity

/-- An index of a single row is determined by its column. -/
theorem row0 {n : ℕ} (y : (⟨2, ![1, n]⟩ : Shape).Idx) : ix2 (n0 := 1) (n1 := n) 0 (y 1) = y :=
  (congrArg (fun a => ix2 (n0 := 1) (n1 := n) a (y 1)) (Subsingleton.elim (α := Fin 1) _ _)).trans (ix2_eta y)

/-- The mean square of a row, and the small constant. -/
def ms (x : Fin 1024 → EReal) : EReal := Ideal.div (∑ k, x k * x k) N + eps

/-- The row's gradient as the kernels write it. -/
def bwdK (x d : Fin 1024 → EReal) (k : Fin 1024) : EReal :=
  Ideal.rsqrt (ms x) * (d k - x k * Ideal.rsqrt (ms x) * Ideal.div (∑ j, d j * (x j * Ideal.rsqrt (ms x))) N)

/-- The part of the derivative that passes through the mean square. -/
def through (x d : Fin 1024 → EReal) : EReal :=
  ∑ _j : Fin 1, Ideal.div ((∑ j, x j * d j) * (Ideal.ofBits .f32 0xBF000000#32 * Ideal.div (Ideal.rsqrt (ms x)) (ms x))) N

/-- The row's gradient as the derivative writes it. -/
def bwdR (x d : Fin 1024 → EReal) (k : Fin 1024) : EReal :=
  d k * Ideal.rsqrt (ms x) + x k * through x d + through x d * x k

/-- On real rows the mean square is a positive real, and its inverse root the real one. -/
theorem ms_real (x : Fin 1024 → ℝ) : ∃ v : ℝ, 0 < v ∧ ms (fun k => (x k : EReal)) = (v : EReal)
    ∧ Ideal.rsqrt (ms fun k => (x k : EReal)) = (((Real.sqrt v)⁻¹ : ℝ) : EReal) := by
  obtain ⟨e, he, hE⟩ := eps_eq
  have h : ms (fun k => (x k : EReal)) = (((∑ k, x k * x k) / 1024 + e : ℝ) : EReal) := by
    unfold ms
    rw [hE, N_eq, show (∑ k, (x k : EReal) * (x k : EReal)) = ((∑ k, x k * x k : ℝ) : EReal) by
      rw [coe_sum]; exact Finset.sum_congr rfl fun k _ => by push_cast; rfl, div_real _ (by norm_num)]
    push_cast; rfl
  have hp : 0 < (∑ k, x k * x k) / 1024 + e :=
    add_pos_of_nonneg_of_pos (div_nonneg (Finset.sum_nonneg fun k _ => mul_self_nonneg _) (by norm_num)) he
  refine ⟨_, hp, h, ?_⟩
  rw [h, Ideal.rsqrt_coe, if_neg (not_lt.mpr hp.le), if_neg hp.ne']

/-- The two forms agree on real rows. -/
theorem bwd_eq {x d : Fin 1024 → EReal} (hx : ∀ k, IsR (x k)) (hd : ∀ k, IsR (d k)) (k : Fin 1024) : bwdK x d k = bwdR x d k := by
  choose x' hx using hx
  choose d' hd using hd
  obtain rfl : x = fun k => (x' k : EReal) := funext hx
  obtain rfl : d = fun k => (d' k : EReal) := funext hd
  obtain ⟨v, hv, hm, hr⟩ := ms_real x'
  unfold bwdK bwdR through
  rw [hr, hm, div_real _ hv.ne', N_eq, mhalf_eq]
  generalize hs : (Real.sqrt v)⁻¹ = s
  have h1 : (∑ j, (d' j : EReal) * ((x' j : EReal) * (s : EReal))) = (((∑ j, x' j * d' j) * s : ℝ) : EReal) := by
    rw [Finset.sum_mul, coe_sum]
    exact Finset.sum_congr rfl fun j _ => by rw [← EReal.coe_mul, ← EReal.coe_mul]; congr 1; ring
  have h2 : (∑ j, (x' j : EReal) * (d' j : EReal)) = ((∑ j, x' j * d' j : ℝ) : EReal) := by
    rw [coe_sum]; exact Finset.sum_congr rfl fun j _ => by push_cast; rfl
  have h3 : s / v = s * s * s := by
    have h0 : Real.sqrt v ≠ 0 := (Real.sqrt_pos.mpr hv).ne'
    have key : ∀ q : ℝ, q ≠ 0 → q⁻¹ / (q * q) = q⁻¹ * q⁻¹ * q⁻¹ := fun q hq => by field_simp
    have := key _ h0
    rw [Real.mul_self_sqrt hv.le, hs] at this
    exact this
  rw [h1, h2, h3]
  simp only [Fin.sum_univ_one, ← EReal.coe_mul, div_real _ (show (1024 : ℝ) ≠ 0 by norm_num), ← EReal.coe_sub, ← EReal.coe_add]
  exact congrArg _ (by ring)

/-- The row's gradient is real on real rows. -/
theorem bwd_real {x d : Fin 1024 → EReal} (hx : ∀ k, IsR (x k)) (hd : ∀ k, IsR (d k)) (k : Fin 1024) : IsR (bwdK x d k) := by
  choose x' hx using hx
  obtain rfl : x = fun k => (x' k : EReal) := funext hx
  obtain ⟨v, hv, hm, hr⟩ := ms_real x'
  unfold bwdK
  rw [hr, N_eq]
  have h : IsR (∑ j, d j * ((x' j : EReal) * (((Real.sqrt v)⁻¹ : ℝ) : EReal))) :=
    IsR.sum _ fun j => (hd j).mul ((IsR.coe _).mul (IsR.coe _))
  obtain ⟨a, ha⟩ := h
  rw [ha, div_real _ (by norm_num)]
  exact (IsR.coe _).mul ((hd k).sub (((IsR.coe _).mul (IsR.coe _)).mul (IsR.coe _)))

/-- The normalised row is real on a real row. -/
theorem xhat_real {x : Fin 1024 → EReal} (hx : ∀ k, IsR (x k)) (k : Fin 1024) : IsR (x k * Ideal.rsqrt (ms x)) := by
  choose x' hx using hx
  obtain rfl : x = fun k => (x' k : EReal) := funext hx
  obtain ⟨v, hv, hm, hr⟩ := ms_real x'
  rw [hr]
  exact (IsR.coe _).mul (IsR.coe _)

end Cert.Norm

end
-- ==== Proof.Layer.lean ====
/- The gradient through SiLU and the layer norm, element by element: what the kernel and the reference compute, and that they agree on real arguments. -/
module

public import proofs.«01_k».proof.Proof.Gen.RefNormBIdeal.Run
public import proofs.«01_k».proof.Proof.Norm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Finite Cert.Norm

namespace Cert.Layer

open Cert.RefNormBIdeal Cert.RefNormBIdeal.Gen Cert.RefNormBIdeal.Value

/-- A row less its mean. -/
def mid (x : Fin 1024 → EReal) (k : Fin 1024) : EReal := x k - Ideal.div (∑ j, x j) N

/-- The layer norm's gradient: as the kernel writes it, and as the derivative does. -/
def lnK (x d : Fin 1024 → EReal) (k : Fin 1024) : EReal :=
  Ideal.rsqrt (ms (mid x)) * (d k - Ideal.div (∑ j, d j) N
    - mid x k * Ideal.rsqrt (ms (mid x)) * Ideal.div (∑ j, d j * (mid x j * Ideal.rsqrt (ms (mid x)))) N)
def lnR (x d : Fin 1024 → EReal) (k : Fin 1024) : EReal :=
  bwdR (mid x) d k + ∑ _j : Fin 1, Ideal.div (∑ j, -bwdR (mid x) d j) N

/-- A real row less its mean is real, and adds up to nothing. -/
theorem mid_real (x : Fin 1024 → ℝ) : ∃ y : Fin 1024 → ℝ, mid (fun k => (x k : EReal)) = (fun k => (y k : EReal)) ∧ ∑ k, y k = 0 := by
  refine ⟨fun k => x k - (∑ j, x j) / 1024, ?_, ?_⟩
  · funext k
    unfold mid
    rw [← coe_sum, N_eq, div_real _ (by norm_num), ← EReal.coe_sub]
  · rw [Finset.sum_sub_distrib]
    simp
    ring

/-- The two forms agree on real rows. -/
theorem ln_eq {x d : Fin 1024 → EReal} (hx : ∀ k, IsR (x k)) (hd : ∀ k, IsR (d k)) (k : Fin 1024) : lnK x d k = lnR x d k := by
  choose x' hx using hx
  obtain rfl : x = fun k => (x' k : EReal) := funext hx
  obtain ⟨y, hy, h0⟩ := mid_real x'
  have hb : ∀ j, bwdR (fun k => (y k : EReal)) d j = bwdK (fun k => (y k : EReal)) d j := fun j => (bwd_eq (fun _ => IsR.coe _) hd j).symm
  choose d' hd using hd
  obtain rfl : d = fun k => (d' k : EReal) := funext hd
  obtain ⟨v, hv, hm, hr⟩ := ms_real y
  unfold lnK lnR
  simp only [hy, hb]
  unfold bwdK
  rw [hr]
  generalize (Real.sqrt v)⁻¹ = s
  simp only [N_eq, ← EReal.coe_mul, ← coe_sum, div_real _ (show (1024 : ℝ) ≠ 0 by norm_num), ← EReal.coe_sub, ← EReal.coe_neg, ← EReal.coe_add, Fin.sum_univ_one]
  refine congrArg _ ?_
  generalize (∑ j, d' j * (y j * s)) / 1024 = M
  have : ∑ j, -(s * (d' j - y j * s * M)) = -(s * ∑ j, d' j) := by
    have h : ∀ j, -(s * (d' j - y j * s * M)) = s * s * M * y j - s * d' j := fun j => by ring
    simp only [h, Finset.sum_sub_distrib, ← Finset.mul_sum, h0]
    ring
  rw [this]
  ring

/-- The row's elements, its normalised row, and the layer norm. -/
def row (c : FVec Ideal S16384x1024 .f32) (r : Fin 16384) (k : Fin 1024) : EReal := c (ix2 r k)
def hat (c : FVec Ideal S16384x1024 .f32) (r : Fin 16384) (k : Fin 1024) : EReal := mid (row c r) k * Ideal.rsqrt (ms (mid (row c r)))
def ln (c : FVec Ideal S16384x1024 .f32) (g b : FVec Ideal S1024 .f32) (r : Fin 16384) (k : Fin 1024) : EReal := hat c r k * g (ix1 k) + b (ix1 k)

/-- The cotangent of SiLU. -/
def ds (w : FVec Ideal S1024x1024 .f32) (t : FVec Ideal S16384x1024 .f32) (r : Fin 16384) (k : Fin 1024) : EReal := ∑ j, t (ix2 r j) * w (ix2 k j)

/-- The cotangent of the layer norm: as the kernel writes SiLU's derivative, and as the derivative does. -/
def dlK (c : FVec Ideal S16384x1024 .f32) (g b : FVec Ideal S1024 .f32) (w : FVec Ideal S1024x1024 .f32) (t : FVec Ideal S16384x1024 .f32) (r : Fin 16384) (k : Fin 1024) : EReal :=
  ds w t r k * (Ideal.div 1 (1 + Ideal.exp (0 - ln c g b r k)) * (1 + ln c g b r k * (1 - Ideal.div 1 (1 + Ideal.exp (0 - ln c g b r k)))))
def dlR (c : FVec Ideal S16384x1024 .f32) (g b : FVec Ideal S1024 .f32) (w : FVec Ideal S1024x1024 .f32) (t : FVec Ideal S16384x1024 .f32) (r : Fin 16384) (k : Fin 1024) : EReal :=
  ds w t r k * Ideal.div 1 (1 + Ideal.exp (-ln c g b r k))
    + ln c g b r k * ds w t r k * (Ideal.div 1 (1 + Ideal.exp (-ln c g b r k)) * (1 - Ideal.div 1 (1 + Ideal.exp (-ln c g b r k))))

/-- The gradient of the layer norm's argument. -/
def dcK (c : FVec Ideal S16384x1024 .f32) (g b : FVec Ideal S1024 .f32) (w : FVec Ideal S1024x1024 .f32) (t : FVec Ideal S16384x1024 .f32) (r : Fin 16384) (k : Fin 1024) : EReal := lnK (row c r) (fun j => dlK c g b w t r j * g (ix1 j)) k
def dcR (c : FVec Ideal S16384x1024 .f32) (g b : FVec Ideal S1024 .f32) (w : FVec Ideal S1024x1024 .f32) (t : FVec Ideal S16384x1024 .f32) (r : Fin 16384) (k : Fin 1024) : EReal := lnR (row c r) (fun j => dlR c g b w t r j * g (ix1 j)) k

section Real

variable {c t : FVec Ideal S16384x1024 .f32} {g b : FVec Ideal S1024 .f32} {w : FVec Ideal S1024x1024 .f32}

theorem hat_real (hc : Finite c) (r : Fin 16384) (k : Fin 1024) : IsR (hat c r k) := by
  have h : ∀ k, IsR (row c r k) := fun k => hc _
  choose x' hx using h
  obtain ⟨y, hy, -⟩ := mid_real x'
  unfold hat
  rw [show row c r = fun k => (x' k : EReal) from funext hx, hy]
  exact xhat_real (fun _ => IsR.coe _) k

/-- The two forms of the layer norm's cotangent agree, and are real. -/
theorem dl_eq (hc : Finite c) (hg : Finite g) (hb : Finite b) (hw : Finite w) (ht : Finite t) (r : Fin 16384) (k : Fin 1024) :
    dlK c g b w t r k = dlR c g b w t r k ∧ IsR (dlK c g b w t r k) := by
  have hl : IsR (ln c g b r k) := ((hat_real hc r k).mul (hg _)).add (hb _)
  have hd : IsR (ds w t r k) := IsR.sum _ fun j => (ht _).mul (hw _)
  have hs := hl.sgm
  unfold dlK dlR
  rw [zero_sub]
  obtain ⟨l, el⟩ := hl
  obtain ⟨d, ed⟩ := hd
  obtain ⟨s, es⟩ := hs
  rw [es, el, ed]
  refine ⟨?_, (IsR.coe _).mul ((IsR.coe _).mul (IsR.one.add ((IsR.coe _).mul (IsR.one.sub (IsR.coe _)))))⟩
  simp only [← EReal.coe_one, ← EReal.coe_mul, ← EReal.coe_sub, ← EReal.coe_add]
  exact congrArg _ (by ring)

/-- The two forms of the argument's gradient agree. -/
theorem dc_eq (hc : Finite c) (hg : Finite g) (hb : Finite b) (hw : Finite w) (ht : Finite t) (r : Fin 16384) (k : Fin 1024) :
    dcK c g b w t r k = dcR c g b w t r k := by
  unfold dcK dcR
  refine (ln_eq (x := row c r) (d := fun j => dlK c g b w t r j * g (ix1 j)) (fun j => hc _) (fun j => (dl_eq hc hg hb hw ht r j).2.mul (hg _)) k).trans ?_
  simp only [(dl_eq hc hg hb hw ht r _).1]

/-- So do the two forms of the sums over the rows. -/
theorem gain_eq (hc : Finite c) (hg : Finite g) (hb : Finite b) (hw : Finite w) (ht : Finite t) (k : Fin 1024) :
    ∑ r, dlK c g b w t r k * hat c r k = ∑ _j : Fin 1, ∑ r, hat c r k * dlR c g b w t r k := by
  rw [Fin.sum_univ_one]
  exact Finset.sum_congr rfl fun r _ => by rw [(dl_eq hc hg hb hw ht r k).1, mul_comm]

theorem bias_eq (hc : Finite c) (hg : Finite g) (hb : Finite b) (hw : Finite w) (ht : Finite t) (k : Fin 1024) :
    ∑ r, dlK c g b w t r k = ∑ _j : Fin 1, ∑ r, dlR c g b w t r k := by
  rw [Fin.sum_univ_one]
  exact Finset.sum_congr rfl fun r _ => (dl_eq hc hg hb hw ht r k).1

end Real

/-- The reference's arguments. -/
abbrev a0 (m : (ℓ : Loc nD τ sig) → Buf (Elt Ideal) ℓ) (c : Dev nD) : FVec Ideal S16384x1024 .f32 := m ((c.tc : Thread nD τ).loc main_arg0)
abbrev a1 (m : (ℓ : Loc nD τ sig) → Buf (Elt Ideal) ℓ) (c : Dev nD) : FVec Ideal S1024 .f32 := m ((c.tc : Thread nD τ).loc main_arg1)
abbrev a2 (m : (ℓ : Loc nD τ sig) → Buf (Elt Ideal) ℓ) (c : Dev nD) : FVec Ideal S1024 .f32 := m ((c.tc : Thread nD τ).loc main_arg2)
abbrev a3 (m : (ℓ : Loc nD τ sig) → Buf (Elt Ideal) ℓ) (c : Dev nD) : FVec Ideal S1024x1024 .f32 := m ((c.tc : Thread nD τ).loc main_arg3)
abbrev a4 (m : (ℓ : Loc nD τ sig) → Buf (Elt Ideal) ℓ) (c : Dev nD) : FVec Ideal S16384x1024 .f32 := m ((c.tc : Thread nD τ).loc main_arg4)

variable (m : (ℓ : Loc nD τ sig) → Buf (Elt Ideal) ℓ) (c : Dev nD)

/-- The reference's three results. -/
theorem ref_dc (r : Fin 16384) (k : Fin 1024) : res_main_v59 m c (ix2 r k) = dcR (a0 m c) (a1 m c) (a2 m c) (a3 m c) (a4 m c) r k := by
  unfold res_main_v59
  pointwise []
  rfl

theorem ref_gain (k : Fin 1024) : res_main_v60 m c (ix2 0 k) = ∑ _j : Fin 1, ∑ r, hat (a0 m c) r k * dlR (a0 m c) (a1 m c) (a2 m c) (a3 m c) (a4 m c) r k := by
  unfold res_main_v60
  pointwise []
  rfl

theorem ref_bias (k : Fin 1024) : res_main_v61 m c (ix2 0 k) = ∑ _j : Fin 1, ∑ r, dlR (a0 m c) (a1 m c) (a2 m c) (a3 m c) (a4 m c) r k := by
  unfold res_main_v61
  pointwise []
  rfl

end Cert.Layer

end
-- ==== Proof.LayerKernel.lean ====
/- The arrays the layer norm's kernel leaves: its blocks at each grid point, the sums over the grid, and the run. -/
module

public import proofs.«01_k».proof.Proof.Gen.NormBIdeal.Frame
public import proofs.«01_k».proof.Proof.Layer
public import Idealize.ShloMosaic.Lib.Pipeline.ValueKit

@[expose] public section

set_option maxRecDepth 16384

noncomputable section

open Idealize.ShloMosaic Idealize.ShloMosaic.TcCoe Idealize.SL.Sem
open Cert.Finite Cert.Norm

namespace Cert.NormBIdeal.Value

open Cert.NormBIdeal Cert.NormBIdeal.Gen

/-- The row windows move down the rows with the grid point; the weights and the vectors stay. -/
theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![0, 0] ∧ win0_7.index t = ![0, 0] :=
  (by decide +kernel : ∀ t : Fin grid0.N, _)

/-- The kernel's arguments. -/
abbrev a0 (m : (ℓ : Loc nD τ sig) → Buf (Elt Ideal) ℓ) (c : Dev nD) : FVec Ideal S16384x1024 .f32 := m ((c : Thread nD τ).loc main_arg0)
abbrev a1 (m : (ℓ : Loc nD τ sig) → Buf (Elt Ideal) ℓ) (c : Dev nD) : FVec Ideal S1024 .f32 := m ((c : Thread nD τ).loc main_arg1)
abbrev a2 (m : (ℓ : Loc nD τ sig) → Buf (Elt Ideal) ℓ) (c : Dev nD) : FVec Ideal S1024 .f32 := m ((c : Thread nD τ).loc main_arg2)
abbrev a3 (m : (ℓ : Loc nD τ sig) → Buf (Elt Ideal) ℓ) (c : Dev nD) : FVec Ideal S1024x1024 .f32 := m ((c : Thread nD τ).loc main_arg3)
abbrev a4 (m : (ℓ : Loc nD τ sig) → Buf (Elt Ideal) ℓ) (c : Dev nD) : FVec Ideal S16384x1024 .f32 := m ((c : Thread nD τ).loc main_arg4)

variable (m : (ℓ : Loc nD τ sig) → Buf (Elt Ideal) ℓ) (c : Dev nD)

/-- The array's row a block's row is. -/
def rowAt (t : Fin cfg0.N) (p : Fin 256) : Fin 16384 :=
  ⟨t.val * 256 + p.val, by have := lt_of_lt_of_eq t.isLt (show cfg0.N = 64 from N_0); omega⟩

/-- What the operations before the call leave in its operands. -/
theorem host_t (r : Fin 16384) (k : Fin 1024) : V m c main_v0 (ix2 r k) = a4 m c (ix2 r k) := by
  simp only [V, hostOps0, List.flatten_cons, List.flatten_nil, List.append_nil, List.cons_append, List.nil_append]
  after_results_simp
  pointwise []

theorem host_w (r : Fin 1024) (k : Fin 1024) : V m c main_v1 (ix2 r k) = a3 m c (ix2 r k) := by
  simp only [V, hostOps0, List.flatten_cons, List.flatten_nil, List.append_nil, List.cons_append, List.nil_append]
  after_results_simp
  pointwise []

theorem host_c (r : Fin 16384) (k : Fin 1024) : V m c main_v2 (ix2 r k) = a0 m c (ix2 r k) := by
  simp only [V, hostOps0, List.flatten_cons, List.flatten_nil, List.append_nil, List.cons_append, List.nil_append]
  after_results_simp
  pointwise []

theorem host_g (k : Fin 1024) : V m c main_v3 (ix2 0 k) = a1 m c (ix1 k) := by
  simp only [V, hostOps0, List.flatten_cons, List.flatten_nil, List.append_nil, List.cons_append, List.nil_append]
  after_results_simp
  pointwise []

theorem host_b (k : Fin 1024) : V m c main_v4 (ix2 0 k) = a2 m c (ix1 k) := by
  simp only [V, hostOps0, List.flatten_cons, List.flatten_nil, List.append_nil, List.cons_append, List.nil_append]
  after_results_simp
  pointwise []

/-- The blocks a grid point reads. -/
theorem blk0 (t : Fin cfg0.N) (p : Fin 256) (k : Fin 1024) : iblk m c 0 t (ix2 p k) = a4 m c (ix2 (rowAt t p) k) := by
  rw [← host_t]
  blk_ext [iblk, idx t, rowAt]

theorem blk1 (t : Fin cfg0.N) (p : Fin 1024) (k : Fin 1024) : iblk m c 1 t (ix2 p k) = a3 m c (ix2 p k) := by
  rw [← host_w]
  blk_ext [iblk, idx t, rowAt]

theorem blk2 (t : Fin cfg0.N) (p : Fin 256) (k : Fin 1024) : iblk m c 2 t (ix2 p k) = Cert.Layer.row (a0 m c) (rowAt t p) k := by
  unfold Cert.Layer.row
  rw [← host_c]
  blk_ext [iblk, idx t, rowAt]

theorem blk3 (t : Fin cfg0.N) (k : Fin 1024) : iblk m c 3 t (ix2 0 k) = a1 m c (ix1 k) := by
  rw [← host_g]
  blk_ext [iblk, idx t, rowAt]

theorem blk4 (t : Fin cfg0.N) (k : Fin 1024) : iblk m c 4 t (ix2 0 k) = a2 m c (ix1 k) := by
  rw [← host_b]
  blk_ext [iblk, idx t, rowAt]

/-- The body's two cases: the first point, and the later ones. -/
theorem later {t : Fin cfg0.N} (h : ¬t.val % 64 = 0) : 1 ≤ t.val := by omega

theorem first {t : Fin cfg0.N} (h : t.val % 64 = 0) : ¬1 ≤ t.val := by
  have := lt_of_lt_of_eq t.isLt (show cfg0.N = 64 from N_0)
  omega

theorem last {t : Fin cfg0.N} (h : t.val % 64 = 63) : t.val + 1 = cfg0.N := by
  have := lt_of_lt_of_eq t.isLt (show cfg0.N = 64 from N_0)
  exact Eq.trans (by omega : t.val + 1 = 64) N_0.symm

/-- A sum over the points and each point's rows is the sum over all rows. -/
theorem sum_rows (f : Fin 16384 → EReal) : (∑ t : Fin cfg0.N, ∑ p : Fin 256, f (rowAt t p)) = ∑ r, f r :=
  Fin.sum_mul_add_congr (fun t p hl => rfl) (by rw [show cfg0.N = 64 from N_0])

/-- A grid point leaves its rows of the argument's gradient. -/
theorem outs5 (t : Fin cfg0.N) (p : Fin 256) (k : Fin 1024) :
    (outsAt0 m c t.val t.isLt).1 (ix2 p k) = Cert.Layer.dcK (a0 m c) (a1 m c) (a2 m c) (a3 m c) (a4 m c) (rowAt t p) k := by
  by_cases h : t.val % 64 = 0
  · rw [outsAt0_A m c t h (first h)]
    frame_out
    open_payloads
    pointwise []
    simp only [blk0, blk1, blk2, blk3, blk4]
    rfl
  · rw [outsAt0_B m c t h (later h)]
    frame_out
    open_payloads
    pointwise []
    simp only [blk0, blk1, blk2, blk3, blk4]
    rfl

theorem outs5_eq (t : Fin cfg0.N) : (outsAt0 m c t.val t.isLt).1 = fun y => Cert.Layer.dcK (a0 m c) (a1 m c) (a2 m c) (a3 m c) (a4 m c) (rowAt t (y 0)) (y 1) := by
  funext y
  have := outs5 m c t (y 0) (y 1)
  rwa [ix2_eta] at this

/-- The whole array of the argument's gradient after the call. -/
theorem final5 : (dats m 0 c).arrAt 5 (cfgs 0).N = fun i => Cert.Layer.dcK (a0 m c) (a1 m c) (a2 m c) (a3 m c) (a4 m c) (i 0) (i 1) := by
  refine (dats m 0 c).arrAt_eq_of_covers 5 _ (by decide +kernel) fun t _ y => ?_
  blk_simp
  rw [after0_5, outs5_eq]
  exact congrArg₂ (Cert.Layer.dcK (a0 m c) (a1 m c) (a2 m c) (a3 m c) (a4 m c)) (Fin.ext (by blk_simp [idx t, rowAt])) (Fin.ext (by blk_simp [idx t, rowAt]))

/-- A grid point adds its rows' part of the gain's gradient to what the points before left. -/
theorem first6 (t : Fin cfg0.N) (h : t.val % 64 = 0) (k : Fin 1024) :
    (outsAt0 m c t.val t.isLt).2.1 (ix2 0 k) = 0 + ∑ p, Cert.Layer.dlK (a0 m c) (a1 m c) (a2 m c) (a3 m c) (a4 m c) (rowAt t p) k * Cert.Layer.hat (a0 m c) (rowAt t p) k := by
  rw [outsAt0_A m c t h (first h)]
  frame_out
  open_payloads
  pointwise []
  simp only [blk0, blk1, blk2, blk3, blk4]
  rfl

theorem later6 (t : Fin cfg0.N) (h : ¬t.val % 64 = 0) (k : Fin 1024) :
    (outsAt0 m c t.val t.isLt).2.1 (ix2 0 k) = (outsAt0 m c (t.val - 1) (Nat.lt_of_le_of_lt (Nat.sub_le _ _) t.isLt)).2.1 (ix2 0 k)
      + ∑ p, Cert.Layer.dlK (a0 m c) (a1 m c) (a2 m c) (a3 m c) (a4 m c) (rowAt t p) k * Cert.Layer.hat (a0 m c) (rowAt t p) k := by
  rw [outsAt0_B m c t h (later h)]
  frame_out
  open_payloads
  pointwise []
  simp only [blk0, blk1, blk2, blk3, blk4]
  rfl

theorem total6 (t : Fin cfg0.N) (ht : t.val + 1 = cfg0.N) (k : Fin 1024) :
    (outsAt0 m c t.val t.isLt).2.1 (ix2 0 k) = ∑ r, Cert.Layer.dlK (a0 m c) (a1 m c) (a2 m c) (a3 m c) (a4 m c) r k * Cert.Layer.hat (a0 m c) r k := by
  rw [Pipeline.eq_sum_fin_of_reset_step_apply_last (fun n h k => (outsAt0 m c n h).2.1 (ix2 0 k)) 64 (fun _ => 0) _
    (first6 m c) (later6 m c) (le_of_eq N_0) t ht k, zero_add]
  exact sum_rows fun r => Cert.Layer.dlK (a0 m c) (a1 m c) (a2 m c) (a3 m c) (a4 m c) r k * Cert.Layer.hat (a0 m c) r k

theorem total6_eq (t : Fin cfg0.N) (ht : t.val + 1 = cfg0.N) : (outsAt0 m c t.val t.isLt).2.1 = fun y => ∑ r, Cert.Layer.dlK (a0 m c) (a1 m c) (a2 m c) (a3 m c) (a4 m c) r (y 1) * Cert.Layer.hat (a0 m c) r (y 1) := by
  funext y
  exact (congrArg _ (row0 y).symm).trans (total6 m c t ht (y 1))

/-- The sum of the gain's gradient over all rows after the call. -/
theorem final6 : (dats m 0 c).arrAt 6 (cfgs 0).N = fun i => ∑ r, Cert.Layer.dlK (a0 m c) (a1 m c) (a2 m c) (a3 m c) (a4 m c) r (i 1) * Cert.Layer.hat (a0 m c) r (i 1) := by
  refine (dats m 0 c).arrAt_eq_of_covers 6 _ (by decide +kernel) fun t hf y => ?_
  blk_simp
  rw [after0_6, total6_eq m c t (last ((flush0_6 t).mp hf))]
  exact congrArg (fun k => ∑ r, Cert.Layer.dlK (a0 m c) (a1 m c) (a2 m c) (a3 m c) (a4 m c) r k * Cert.Layer.hat (a0 m c) r k) (Fin.ext (by blk_simp [idx t]))

/-- A grid point adds its rows' part of the bias's gradient to what the points before left. -/
theorem first7 (t : Fin cfg0.N) (h : t.val % 64 = 0) (k : Fin 1024) :
    (outsAt0 m c t.val t.isLt).2.2 (ix2 0 k) = 0 + ∑ p, Cert.Layer.dlK (a0 m c) (a1 m c) (a2 m c) (a3 m c) (a4 m c) (rowAt t p) k := by
  rw [outsAt0_A m c t h (first h)]
  frame_out
  open_payloads
  pointwise []
  simp only [blk0, blk1, blk2, blk3, blk4]
  rfl

theorem later7 (t : Fin cfg0.N) (h : ¬t.val % 64 = 0) (k : Fin 1024) :
    (outsAt0 m c t.val t.isLt).2.2 (ix2 0 k) = (outsAt0 m c (t.val - 1) (Nat.lt_of_le_of_lt (Nat.sub_le _ _) t.isLt)).2.2 (ix2 0 k)
      + ∑ p, Cert.Layer.dlK (a0 m c) (a1 m c) (a2 m c) (a3 m c) (a4 m c) (rowAt t p) k := by
  rw [outsAt0_B m c t h (later h)]
  frame_out
  open_payloads
  pointwise []
  simp only [blk0, blk1, blk2, blk3, blk4]
  rfl

theorem total7 (t : Fin cfg0.N) (ht : t.val + 1 = cfg0.N) (k : Fin 1024) :
    (outsAt0 m c t.val t.isLt).2.2 (ix2 0 k) = ∑ r, Cert.Layer.dlK (a0 m c) (a1 m c) (a2 m c) (a3 m c) (a4 m c) r k := by
  rw [Pipeline.eq_sum_fin_of_reset_step_apply_last (fun n h k => (outsAt0 m c n h).2.2 (ix2 0 k)) 64 (fun _ => 0) _
    (first7 m c) (later7 m c) (le_of_eq N_0) t ht k, zero_add]
  exact sum_rows fun r => Cert.Layer.dlK (a0 m c) (a1 m c) (a2 m c) (a3 m c) (a4 m c) r k

theorem total7_eq (t : Fin cfg0.N) (ht : t.val + 1 = cfg0.N) : (outsAt0 m c t.val t.isLt).2.2 = fun y => ∑ r, Cert.Layer.dlK (a0 m c) (a1 m c) (a2 m c) (a3 m c) (a4 m c) r (y 1) := by
  funext y
  exact (congrArg _ (row0 y).symm).trans (total7 m c t ht (y 1))

/-- The sum of the bias's gradient over all rows after the call. -/
theorem final7 : (dats m 0 c).arrAt 7 (cfgs 0).N = fun i => ∑ r, Cert.Layer.dlK (a0 m c) (a1 m c) (a2 m c) (a3 m c) (a4 m c) r (i 1) := by
  refine (dats m 0 c).arrAt_eq_of_covers 7 _ (by decide +kernel) fun t hf y => ?_
  blk_simp
  rw [after0_7, total7_eq m c t (last ((flush0_7 t).mp hf))]
  exact congrArg (fun k => ∑ r, Cert.Layer.dlK (a0 m c) (a1 m c) (a2 m c) (a3 m c) (a4 m c) r k) (Fin.ext (by blk_simp [idx t]))

/-- From any memory the call ends with the gradient and the two sums, and the arguments as they were. -/
theorem run (ρ : Dev nD → PrngReg) : θ_run defs (onTc (main (F := Ideal))) ⟨m, fun _ => 0, ρ⟩ fun r => ∀ c : Dev nD,
    r.2.mem ((c.tc : Thread nD τ).loc main_v5_0) = (fun i => Cert.Layer.dcK (a0 m c) (a1 m c) (a2 m c) (a3 m c) (a4 m c) (i 0) (i 1))
    ∧ r.2.mem ((c.tc : Thread nD τ).loc main_v5_1) = (fun i => ∑ r, Cert.Layer.dlK (a0 m c) (a1 m c) (a2 m c) (a3 m c) (a4 m c) r (i 1) * Cert.Layer.hat (a0 m c) r (i 1))
    ∧ r.2.mem ((c.tc : Thread nD τ).loc main_v5_2) = (fun i => ∑ r, Cert.Layer.dlK (a0 m c) (a1 m c) (a2 m c) (a3 m c) (a4 m c) r (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨((h.1 c).1 5).trans (final5 m c), ((h.1 c).1 6).trans (final6 m c), ((h.1 c).1 7).trans (final7 m c), h.2 c⟩) (θ_run_and (run_main m ρ) (unchanged m ρ))

end Cert.NormBIdeal.Value

end
-- ==== Proof.Claims.Layer.lean ====
/- The layer norm's gradients: the reference's frame and the equality of the three results. -/
module

public import proofs.«01_k».proof.Defs
public import proofs.«01_k».proof.Proof.Gen.NormB.Frame
public import proofs.«01_k».proof.Proof.Gen.Pre_finite_bconv
public import proofs.«01_k».proof.Proof.LayerKernel
public import Idealize.ShloMosaic.Lib.Claim

@[expose] public section

set_option maxRecDepth 65536

noncomputable section

namespace Cert.Layer

open Idealize.ShloMosaic Idealize.SL.Sem
open Cert.Finite Cert.Norm

/-- The reference ends with its arguments unchanged and no signal owed. -/
theorem frame_reference : Cert.quiescent_RefNormBIdeal (hRefNormBIdeal := Cert.RefNormBIdeal.Gen.facts) := by
  intro m g _
  exact (θ_run Cert.RefNormBIdeal.defs _ _).mono
    (fun r h => ⟨fun c => (h c).2.2.2, Idealize.ShloMosaic.sem_eq_zero_of_no_sems (by decide) r.2⟩) (Cert.RefNormBIdeal.Value.run m g)

/-- The precondition says that every element of the five arguments is a real number. -/
theorem finite_args [Cert.Pre_finite_bconv.Facts] (c : FVec Ideal Cert.Pre_finite_bconv.S16384x1024 .f32) (g b : FVec Ideal Cert.Pre_finite_bconv.S1024 .f32)
    (w : FVec Ideal Cert.Pre_finite_bconv.S1024x1024 .f32) (t : FVec Ideal Cert.Pre_finite_bconv.S16384x1024 .f32)
    (h : Cert.Pre_finite_bconv.fn (F := Ideal) c g b w t = fun _ => 1#1) :
    Finite c ∧ Finite g ∧ Finite b ∧ Finite w ∧ Finite t := by
  have e := congrFun h ix0
  simp only [Cert.Pre_finite_bconv.fn, Cert.Pre_finite_bconv.fn_part1, andi, IntOp.andi_eq_one] at e
  obtain ⟨⟨⟨⟨e0, e1⟩, e2⟩, e3⟩, e4⟩ := e
  exact ⟨finite_of_all c _ _ (fun _ => rfl) _ _ _ e0, finite_of_all g _ _ (fun _ => rfl) _ _ _ e1,
    finite_of_all b _ _ (fun _ => rfl) _ _ _ e2, finite_of_all w _ _ (fun _ => rfl) _ _ _ e3, finite_of_all t _ _ (fun _ => rfl) _ _ _ e4⟩

/-- From equal finite arguments the kernel and the reference end with the same three gradients. -/
theorem algebraic : Cert.algebraic_NormBIdeal_RefNormBIdeal_pre_finite_bconv (hNormBIdeal := Cert.NormBIdeal.Gen.facts)
    (hRefNormBIdeal := Cert.RefNormBIdeal.Gen.facts) (hPre_finite_bconv := Cert.Pre_finite_bconv.Gen.facts) := by
  pair_intro
  · run_from Cert.NormBIdeal.Value.run m g
  · refine Idealize.ShloMosaic.θ_run_mono (Cert.RefNormBIdeal.Value.run m' g') ?_
    intro r hr c
    obtain ⟨e0, e1, e2, ea⟩ := hr c
    refine ⟨e0.trans ?_, e1.trans ?_, e2.trans ?_, ea⟩
    all_goals obtain ⟨hc, hg, hb, hw, ht⟩ := finite_args _ _ _ _ _ (hpre c)
    all_goals obtain ⟨h0, h1, h2, h3, h4⟩ := hagree c
    all_goals funext i
    · refine (congrArg _ (eq_ix2 i)).trans ((ref_dc m' c (i 0) (i 1)).trans ?_)
      simp only [a0, a1, a2, a3, a4, h0, h1, h2, h3, h4]
      exact (dc_eq hc hg hb hw ht _ _).symm
    · refine (congrArg _ (row0 i).symm).trans ((ref_gain m' c (i 1)).trans ?_)
      simp only [a0, a1, a2, a3, a4, h0, h1, h2, h3, h4]
      exact (gain_eq hc hg hb hw ht (i 1)).symm
    · refine (congrArg _ (row0 i).symm).trans ((ref_bias m' c (i 1)).trans ?_)
      simp only [a0, a1, a2, a3, a4, h0, h1, h2, h3, h4]
      exact (bias_eq hc hg hb hw ht (i 1)).symm

end Cert.Layer

end
-- ==== Proof.Rms.lean ====
/- The gradient of a residual sum through the modulated norm and the two products of the feed-forward, element by element: what the kernel and the reference compute. -/
module

public import proofs.«01_k».proof.Proof.Gen.RefRmsBIdeal.Run
public import proofs.«01_k».proof.Proof.Norm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Finite Cert.Norm

namespace Cert.Rms

open Cert.RefRmsBIdeal Cert.RefRmsBIdeal.Gen Cert.RefRmsBIdeal.Value

/-- The residual sum. -/
def row (x f : FVec Ideal S16384x1024 .f32) (g : FVec Ideal S1x1024 .f32) (r : Fin 16384) (k : Fin 1024) : EReal := x (ix2 r k) + g (ix2 0 k) * f (ix2 r k)

/-- The normalised row. -/
def hat (x f : FVec Ideal S16384x1024 .f32) (g : FVec Ideal S1x1024 .f32) (r : Fin 16384) (k : Fin 1024) : EReal := row x f g r k * Ideal.rsqrt (ms (row x f g r))

/-- The cotangent of the modulated norm: the kernel's sum of the two products, and the derivative's. -/
def dhK (wg wu : FVec Ideal S1024x2816 .f32) (da du : FVec Ideal S16384x2816 .f32) (r : Fin 16384) (k : Fin 1024) : EReal := ∑ j, da (ix2 r j) * wg (ix2 k j) + ∑ j, du (ix2 r j) * wu (ix2 k j)
def dhR (wg wu : FVec Ideal S1024x2816 .f32) (da du : FVec Ideal S16384x2816 .f32) (r : Fin 16384) (k : Fin 1024) : EReal := ∑ j, du (ix2 r j) * wu (ix2 k j) + ∑ j, da (ix2 r j) * wg (ix2 k j)

/-- The gradient of the residual sum: the kernel's, and the derivative's. -/
def dxK (x f : FVec Ideal S16384x1024 .f32) (g n s : FVec Ideal S1x1024 .f32) (wg wu : FVec Ideal S1024x2816 .f32) (da du : FVec Ideal S16384x2816 .f32) (o : FVec Ideal S16384x1024 .f32) (r : Fin 16384) (k : Fin 1024) : EReal :=
  o (ix2 r k) + bwdK (row x f g r) (fun j => dhK wg wu da du r j * (1 + s (ix2 0 j)) * n (ix2 0 j)) k
def dxR (x f : FVec Ideal S16384x1024 .f32) (g n s : FVec Ideal S1x1024 .f32) (wg wu : FVec Ideal S1024x2816 .f32) (da du : FVec Ideal S16384x2816 .f32) (o : FVec Ideal S16384x1024 .f32) (r : Fin 16384) (k : Fin 1024) : EReal :=
  o (ix2 r k) + dhR wg wu da du r k * (1 + s (ix2 0 k)) * n (ix2 0 k) * Ideal.rsqrt (ms (row x f g r))
    + row x f g r k * through (row x f g r) (fun j => dhR wg wu da du r j * (1 + s (ix2 0 j)) * n (ix2 0 j))
    + through (row x f g r) (fun j => dhR wg wu da du r j * (1 + s (ix2 0 j)) * n (ix2 0 j)) * row x f g r k

/-- The gradient of the branch as the kernel computes it. -/
def dfK (x f : FVec Ideal S16384x1024 .f32) (g n s : FVec Ideal S1x1024 .f32) (wg wu : FVec Ideal S1024x2816 .f32) (da du : FVec Ideal S16384x2816 .f32) (o : FVec Ideal S16384x1024 .f32) (r : Fin 16384) (k : Fin 1024) : EReal := g (ix2 0 k) * dxK x f g n s wg wu da du o r k

section Real

variable {x f o : FVec Ideal S16384x1024 .f32} {g n s : FVec Ideal S1x1024 .f32} {wg wu : FVec Ideal S1024x2816 .f32} {da du : FVec Ideal S16384x2816 .f32}

/-- The two products may be added in either order. -/
theorem dh_eq (r : Fin 16384) (k : Fin 1024) : dhK wg wu da du r k = dhR wg wu da du r k := add_comm _ _

theorem row_real (hx : Finite x) (hf : Finite f) (hg : Finite g) (r : Fin 16384) (k : Fin 1024) : IsR (row x f g r k) :=
  (hx _).add ((hg _).mul (hf _))

theorem dn_real (hn : Finite n) (hs : Finite s) (hwg : Finite wg) (hwu : Finite wu) (hda : Finite da) (hdu : Finite du) (r : Fin 16384) (k : Fin 1024) :
    IsR (dhK wg wu da du r k * (1 + s (ix2 0 k)) * n (ix2 0 k)) :=
  (((IsR.sum _ fun j => (hda _).mul (hwg _)).add (IsR.sum _ fun j => (hdu _).mul (hwu _))).mul (IsR.one.add (hs _))).mul (hn _)

/-- A row's parts of the scale's and the gain's gradients, with their factors in the derivative's order. -/
theorem scale_eq (r : Fin 16384) (k : Fin 1024) :
    hat x f g r k * n (ix2 0 k) * dhR wg wu da du r k = dhK wg wu da du r k * hat x f g r k * n (ix2 0 k) := by
  rw [dh_eq, mul_comm, mul_assoc]

theorem gain_eq (r : Fin 16384) (k : Fin 1024) :
    hat x f g r k * (dhR wg wu da du r k * (1 + s (ix2 0 k))) = dhK wg wu da du r k * (1 + s (ix2 0 k)) * hat x f g r k := by
  rw [dh_eq, mul_comm]

/-- The two forms of the residual sum's gradient agree. -/
theorem dx_eq (hx : Finite x) (hf : Finite f) (hg : Finite g) (hn : Finite n) (hs : Finite s) (hwg : Finite wg) (hwu : Finite wu)
    (hda : Finite da) (hdu : Finite du) (r : Fin 16384) (k : Fin 1024) :
    dxK x f g n s wg wu da du o r k = dxR x f g n s wg wu da du o r k := by
  unfold dxK dxR
  rw [bwd_eq (row_real hx hf hg r) (dn_real hn hs hwg hwu hda hdu r)]
  simp only [← dh_eq, bwdR, add_assoc]

/-- The gate's gradient, from either form. -/
theorem gate_eq (hx : Finite x) (hf : Finite f) (hg : Finite g) (hn : Finite n) (hs : Finite s) (hwg : Finite wg) (hwu : Finite wu)
    (hda : Finite da) (hdu : Finite du) (k : Fin 1024) :
    ∑ r, dxK x f g n s wg wu da du o r k * f (ix2 r k) = ∑ r, dxR x f g n s wg wu da du o r k * f (ix2 r k) :=
  Finset.sum_congr rfl fun r _ => congrArg (· * _) (dx_eq hx hf hg hn hs hwg hwu hda hdu r k)

end Real

/-- The reference's arguments. -/
abbrev a0 (m : (ℓ : Loc nD τ sig) → Buf (Elt Ideal) ℓ) (c : Dev nD) : FVec Ideal S16384x1024 .f32 := m ((c.tc : Thread nD τ).loc main_arg0)
abbrev a1 (m : (ℓ : Loc nD τ sig) → Buf (Elt Ideal) ℓ) (c : Dev nD) : FVec Ideal S16384x1024 .f32 := m ((c.tc : Thread nD τ).loc main_arg1)
abbrev a2 (m : (ℓ : Loc nD τ sig) → Buf (Elt Ideal) ℓ) (c : Dev nD) : FVec Ideal S1x1024 .f32 := m ((c.tc : Thread nD τ).loc main_arg2)
abbrev a3 (m : (ℓ : Loc nD τ sig) → Buf (Elt Ideal) ℓ) (c : Dev nD) : FVec Ideal S1x1024 .f32 := m ((c.tc : Thread nD τ).loc main_arg3)
abbrev a4 (m : (ℓ : Loc nD τ sig) → Buf (Elt Ideal) ℓ) (c : Dev nD) : FVec Ideal S1x1024 .f32 := m ((c.tc : Thread nD τ).loc main_arg4)
abbrev a6 (m : (ℓ : Loc nD τ sig) → Buf (Elt Ideal) ℓ) (c : Dev nD) : FVec Ideal S1024x2816 .f32 := m ((c.tc : Thread nD τ).loc main_arg6)
abbrev a7 (m : (ℓ : Loc nD τ sig) → Buf (Elt Ideal) ℓ) (c : Dev nD) : FVec Ideal S1024x2816 .f32 := m ((c.tc : Thread nD τ).loc main_arg7)
abbrev a8 (m : (ℓ : Loc nD τ sig) → Buf (Elt Ideal) ℓ) (c : Dev nD) : FVec Ideal S16384x2816 .f32 := m ((c.tc : Thread nD τ).loc main_arg8)
abbrev a9 (m : (ℓ : Loc nD τ sig) → Buf (Elt Ideal) ℓ) (c : Dev nD) : FVec Ideal S16384x2816 .f32 := m ((c.tc : Thread nD τ).loc main_arg9)
abbrev a10 (m : (ℓ : Loc nD τ sig) → Buf (Elt Ideal) ℓ) (c : Dev nD) : FVec Ideal S16384x1024 .f32 := m ((c.tc : Thread nD τ).loc main_arg10)

variable (m : (ℓ : Loc nD τ sig) → Buf (Elt Ideal) ℓ) (c : Dev nD)

/-- The reference's gradient of the residual sum. -/
theorem ref_dx (r : Fin 16384) (k : Fin 1024) : res_main_v55 m c (ix2 r k) = dxR (a0 m c) (a1 m c) (a2 m c) (a3 m c) (a4 m c) (a6 m c) (a7 m c) (a8 m c) (a9 m c) (a10 m c) r k := by
  unfold res_main_v55
  pointwise []
  rfl

/-- The reference's gradient of the branch. -/
theorem ref_df (r : Fin 16384) (k : Fin 1024) : res_main_v62 m c (ix2 r k) = a2 m c (ix2 0 k) * dxR (a0 m c) (a1 m c) (a2 m c) (a3 m c) (a4 m c) (a6 m c) (a7 m c) (a8 m c) (a9 m c) (a10 m c) r k := by
  unfold res_main_v62
  pointwise []
  rfl

/-- The reference's gradient of the gate. -/
theorem ref_dgate (k : Fin 1024) : res_main_v61 m c (ix2 0 k) = ∑ r, dxR (a0 m c) (a1 m c) (a2 m c) (a3 m c) (a4 m c) (a6 m c) (a7 m c) (a8 m c) (a9 m c) (a10 m c) r k * a1 m c (ix2 r k) := by
  unfold res_main_v61
  pointwise []
  rfl

end Cert.Rms

end
-- ==== Proof.RmsKernel.lean ====
/- The arrays the feed-forward norm's kernel leaves: its blocks at each grid point, the sums over the grid, and the run. -/
module

public import proofs.«01_k».proof.Proof.Gen.RmsBIdeal.Frame
public import proofs.«01_k».proof.Proof.Rms
public import Idealize.ShloMosaic.Lib.Pipeline.ValueKit

@[expose] public section

set_option maxRecDepth 16384

noncomputable section

open Idealize.ShloMosaic Idealize.ShloMosaic.TcCoe Idealize.SL.Sem
open Cert.Finite Cert.Norm

namespace Cert.RmsBIdeal.Value

open Cert.RmsBIdeal Cert.RmsBIdeal.Gen

/-- The row windows move down the rows with the grid point; the weights and the vectors stay. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0]
    ∧ win0_8.index t = ![0, 0] ∧ win0_9.index t = ![0, 0] ∧ win0_10.index t = ![t.val, 0] ∧ win0_11.index t = ![t.val, 0]
    ∧ win0_12.index t = ![0, 0] ∧ win0_13.index t = ![0, 0] ∧ win0_14.index t = ![0, 0] ∧ win0_15.index t = ![0, 0] :=
  (by decide +kernel : ∀ t : Fin grid0.N, _)

/-- The kernel's arguments. -/
abbrev a0 (m : (ℓ : Loc nD τ sig) → Buf (Elt Ideal) ℓ) (c : Dev nD) : FVec Ideal S16384x1024 .f32 := m ((c : Thread nD τ).loc main_arg0)
abbrev a1 (m : (ℓ : Loc nD τ sig) → Buf (Elt Ideal) ℓ) (c : Dev nD) : FVec Ideal S16384x1024 .f32 := m ((c : Thread nD τ).loc main_arg1)
abbrev a2 (m : (ℓ : Loc nD τ sig) → Buf (Elt Ideal) ℓ) (c : Dev nD) : FVec Ideal S1x1024 .f32 := m ((c : Thread nD τ).loc main_arg2)
abbrev a3 (m : (ℓ : Loc nD τ sig) → Buf (Elt Ideal) ℓ) (c : Dev nD) : FVec Ideal S1x1024 .f32 := m ((c : Thread nD τ).loc main_arg3)
abbrev a4 (m : (ℓ : Loc nD τ sig) → Buf (Elt Ideal) ℓ) (c : Dev nD) : FVec Ideal S1x1024 .f32 := m ((c : Thread nD τ).loc main_arg4)
abbrev a6 (m : (ℓ : Loc nD τ sig) → Buf (Elt Ideal) ℓ) (c : Dev nD) : FVec Ideal S1024x2816 .f32 := m ((c : Thread nD τ).loc main_arg6)
abbrev a7 (m : (ℓ : Loc nD τ sig) → Buf (Elt Ideal) ℓ) (c : Dev nD) : FVec Ideal S1024x2816 .f32 := m ((c : Thread nD τ).loc main_arg7)
abbrev a8 (m : (ℓ : Loc nD τ sig) → Buf (Elt Ideal) ℓ) (c : Dev nD) : FVec Ideal S16384x2816 .f32 := m ((c : Thread nD τ).loc main_arg8)
abbrev a9 (m : (ℓ : Loc nD τ sig) → Buf (Elt Ideal) ℓ) (c : Dev nD) : FVec Ideal S16384x2816 .f32 := m ((c : Thread nD τ).loc main_arg9)
abbrev a10 (m : (ℓ : Loc nD τ sig) → Buf (Elt Ideal) ℓ) (c : Dev nD) : FVec Ideal S16384x1024 .f32 := m ((c : Thread nD τ).loc main_arg10)

variable (m : (ℓ : Loc nD τ sig) → Buf (Elt Ideal) ℓ) (c : Dev nD)

/-- The array's row a block's row is. -/
def rowAt (t : Fin cfg0.N) (p : Fin 256) : Fin 16384 :=
  ⟨t.val * 256 + p.val, by have := lt_of_lt_of_eq t.isLt (show cfg0.N = 64 from N_0); omega⟩

/-- What the operations before the call leave in its operands. -/
theorem host_row (r : Fin 16384) (k : Fin 1024) : V m c main_v6 (ix2 r k) = Cert.Rms.row (a0 m c) (a1 m c) (a2 m c) r k := by
  simp only [V, hostOps0, List.flatten_cons, List.flatten_nil, List.append_nil, List.cons_append, List.nil_append]
  after_results_simp
  pointwise []
  rfl

theorem host_da (r : Fin 16384) (k : Fin 2816) : V m c main_v0 (ix2 r k) = a8 m c (ix2 r k) := by
  simp only [V, hostOps0, List.flatten_cons, List.flatten_nil, List.append_nil, List.cons_append, List.nil_append]
  after_results_simp
  pointwise []

theorem host_wg (r : Fin 1024) (k : Fin 2816) : V m c main_v1 (ix2 r k) = a6 m c (ix2 r k) := by
  simp only [V, hostOps0, List.flatten_cons, List.flatten_nil, List.append_nil, List.cons_append, List.nil_append]
  after_results_simp
  pointwise []

theorem host_du (r : Fin 16384) (k : Fin 2816) : V m c main_v2 (ix2 r k) = a9 m c (ix2 r k) := by
  simp only [V, hostOps0, List.flatten_cons, List.flatten_nil, List.append_nil, List.cons_append, List.nil_append]
  after_results_simp
  pointwise []

theorem host_wu (r : Fin 1024) (k : Fin 2816) : V m c main_v3 (ix2 r k) = a7 m c (ix2 r k) := by
  simp only [V, hostOps0, List.flatten_cons, List.flatten_nil, List.append_nil, List.cons_append, List.nil_append]
  after_results_simp
  pointwise []

theorem host_f (r : Fin 16384) (k : Fin 1024) : V m c main_v7 (ix2 r k) = a1 m c (ix2 r k) := by
  simp only [V, hostOps0, List.flatten_cons, List.flatten_nil, List.append_nil, List.cons_append, List.nil_append]
  after_results_simp
  pointwise []

/-- The blocks a grid point reads. -/
theorem blk0 (t : Fin cfg0.N) (p : Fin 256) (k : Fin 2816) : iblk m c 0 t (ix2 p k) = a8 m c (ix2 (rowAt t p) k) := by
  rw [← host_da]
  blk_ext [iblk, idx t, rowAt]

theorem blk1 (t : Fin cfg0.N) (p : Fin 1024) (k : Fin 2816) : iblk m c 1 t (ix2 p k) = a6 m c (ix2 p k) := by
  rw [← host_wg]
  blk_ext [iblk, idx t, rowAt]

theorem blk2 (t : Fin cfg0.N) (p : Fin 256) (k : Fin 2816) : iblk m c 2 t (ix2 p k) = a9 m c (ix2 (rowAt t p) k) := by
  rw [← host_du]
  blk_ext [iblk, idx t, rowAt]

theorem blk3 (t : Fin cfg0.N) (p : Fin 1024) (k : Fin 2816) : iblk m c 3 t (ix2 p k) = a7 m c (ix2 p k) := by
  rw [← host_wu]
  blk_ext [iblk, idx t, rowAt]

theorem blk4 (t : Fin cfg0.N) (p : Fin 256) (k : Fin 1024) : iblk m c 4 t (ix2 p k) = Cert.Rms.row (a0 m c) (a1 m c) (a2 m c) (rowAt t p) k := by
  rw [← host_row]
  blk_ext [iblk, idx t, rowAt]

theorem blk5 (t : Fin cfg0.N) (p : Fin 256) (k : Fin 1024) : iblk m c 5 t (ix2 p k) = a10 m c (ix2 (rowAt t p) k) := by
  blk_ext [iblk, V, idx t, rowAt]

theorem blk6 (t : Fin cfg0.N) (p : Fin 256) (k : Fin 1024) : iblk m c 6 t (ix2 p k) = a1 m c (ix2 (rowAt t p) k) := by
  rw [← host_f]
  blk_ext [iblk, idx t, rowAt]

theorem blk7 (t : Fin cfg0.N) (k : Fin 1024) : iblk m c 7 t (ix2 0 k) = a3 m c (ix2 0 k) := by
  blk_ext [iblk, V, idx t, rowAt]

theorem blk8 (t : Fin cfg0.N) (k : Fin 1024) : iblk m c 8 t (ix2 0 k) = a4 m c (ix2 0 k) := by
  blk_ext [iblk, V, idx t, rowAt]

theorem blk9 (t : Fin cfg0.N) (k : Fin 1024) : iblk m c 9 t (ix2 0 k) = a2 m c (ix2 0 k) := by
  blk_ext [iblk, V, idx t, rowAt]

/-- The body's two cases: the first point, and the later ones. -/
theorem later {t : Fin cfg0.N} (h : ¬t.val % 64 = 0) : 1 ≤ t.val := by omega

theorem first {t : Fin cfg0.N} (h : t.val % 64 = 0) : ¬1 ≤ t.val := by
  have := lt_of_lt_of_eq t.isLt (show cfg0.N = 64 from N_0)
  omega

theorem last {t : Fin cfg0.N} (h : t.val % 64 = 63) : t.val + 1 = cfg0.N := by
  have := lt_of_lt_of_eq t.isLt (show cfg0.N = 64 from N_0)
  exact Eq.trans (by omega : t.val + 1 = 64) N_0.symm

/-- A sum over the points and each point's rows is the sum over all rows. -/
theorem sum_rows (f : Fin 16384 → EReal) : (∑ t : Fin cfg0.N, ∑ p : Fin 256, f (rowAt t p)) = ∑ r, f r :=
  Fin.sum_mul_add_congr (fun t p hl => rfl) (by rw [show cfg0.N = 64 from N_0])

/-- A grid point leaves its rows of the residual sum's gradient. -/
theorem outs10 (t : Fin cfg0.N) (p : Fin 256) (k : Fin 1024) :
    (outsAt0 m c t.val t.isLt).1 (ix2 p k) = Cert.Rms.dxK (a0 m c) (a1 m c) (a2 m c) (a3 m c) (a4 m c) (a6 m c) (a7 m c) (a8 m c) (a9 m c) (a10 m c) (rowAt t p) k := by
  by_cases h : t.val % 64 = 0
  · rw [outsAt0_A m c t h (first h)]
    frame_out
    open_payloads
    pointwise []
    simp only [blk0, blk1, blk2, blk3, blk4, blk5, blk6, blk7, blk8, blk9]
    rfl
  · rw [outsAt0_B m c t h (later h)]
    frame_out
    open_payloads
    pointwise []
    simp only [blk0, blk1, blk2, blk3, blk4, blk5, blk6, blk7, blk8, blk9]
    rfl

theorem outs10_eq (t : Fin cfg0.N) : (outsAt0 m c t.val t.isLt).1 = fun y => Cert.Rms.dxK (a0 m c) (a1 m c) (a2 m c) (a3 m c) (a4 m c) (a6 m c) (a7 m c) (a8 m c) (a9 m c) (a10 m c) (rowAt t (y 0)) (y 1) := by
  funext y
  have := outs10 m c t (y 0) (y 1)
  rwa [ix2_eta] at this

/-- The whole array of the residual sum's gradient after the call. -/
theorem final10 : (dats m 0 c).arrAt 10 (cfgs 0).N = fun i => Cert.Rms.dxK (a0 m c) (a1 m c) (a2 m c) (a3 m c) (a4 m c) (a6 m c) (a7 m c) (a8 m c) (a9 m c) (a10 m c) (i 0) (i 1) := by
  refine (dats m 0 c).arrAt_eq_of_covers 10 _ (by decide +kernel) fun t _ y => ?_
  blk_simp
  rw [after0_10, outs10_eq]
  exact congrArg₂ (Cert.Rms.dxK (a0 m c) (a1 m c) (a2 m c) (a3 m c) (a4 m c) (a6 m c) (a7 m c) (a8 m c) (a9 m c) (a10 m c)) (Fin.ext (by blk_simp [idx t, rowAt])) (Fin.ext (by blk_simp [idx t, rowAt]))

/-- A grid point leaves its rows of the branch's gradient. -/
theorem outs11 (t : Fin cfg0.N) (p : Fin 256) (k : Fin 1024) :
    (outsAt0 m c t.val t.isLt).2.1 (ix2 p k) = Cert.Rms.dfK (a0 m c) (a1 m c) (a2 m c) (a3 m c) (a4 m c) (a6 m c) (a7 m c) (a8 m c) (a9 m c) (a10 m c) (rowAt t p) k := by
  by_cases h : t.val % 64 = 0
  · rw [outsAt0_A m c t h (first h)]
    frame_out
    open_payloads
    pointwise []
    simp only [blk0, blk1, blk2, blk3, blk4, blk5, blk6, blk7, blk8, blk9]
    rfl
  · rw [outsAt0_B m c t h (later h)]
    frame_out
    open_payloads
    pointwise []
    simp only [blk0, blk1, blk2, blk3, blk4, blk5, blk6, blk7, blk8, blk9]
    rfl

theorem outs11_eq (t : Fin cfg0.N) : (outsAt0 m c t.val t.isLt).2.1 = fun y => Cert.Rms.dfK (a0 m c) (a1 m c) (a2 m c) (a3 m c) (a4 m c) (a6 m c) (a7 m c) (a8 m c) (a9 m c) (a10 m c) (rowAt t (y 0)) (y 1) := by
  funext y
  have := outs11 m c t (y 0) (y 1)
  rwa [ix2_eta] at this

/-- The whole array of the branch's gradient after the call. -/
theorem final11 : (dats m 0 c).arrAt 11 (cfgs 0).N = fun i => Cert.Rms.dfK (a0 m c) (a1 m c) (a2 m c) (a3 m c) (a4 m c) (a6 m c) (a7 m c) (a8 m c) (a9 m c) (a10 m c) (i 0) (i 1) := by
  refine (dats m 0 c).arrAt_eq_of_covers 11 _ (by decide +kernel) fun t _ y => ?_
  blk_simp
  rw [after0_11, outs11_eq]
  exact congrArg₂ (Cert.Rms.dfK (a0 m c) (a1 m c) (a2 m c) (a3 m c) (a4 m c) (a6 m c) (a7 m c) (a8 m c) (a9 m c) (a10 m c)) (Fin.ext (by blk_simp [idx t, rowAt])) (Fin.ext (by blk_simp [idx t, rowAt]))

/-- A grid point adds its rows' part of the shift's gradient to what the points before left. -/
theorem first12 (t : Fin cfg0.N) (h : t.val % 64 = 0) (k : Fin 1024) :
    (outsAt0 m c t.val t.isLt).2.2.1 (ix2 0 k) = 0 + ∑ p, Cert.Rms.dhK (a6 m c) (a7 m c) (a8 m c) (a9 m c) (rowAt t p) k := by
  rw [outsAt0_A m c t h (first h)]
  frame_out
  open_payloads
  pointwise []
  simp only [blk0, blk1, blk2, blk3, blk4, blk5, blk6, blk7, blk8, blk9]
  rfl

theorem later12 (t : Fin cfg0.N) (h : ¬t.val % 64 = 0) (k : Fin 1024) :
    (outsAt0 m c t.val t.isLt).2.2.1 (ix2 0 k) = (outsAt0 m c (t.val - 1) (Nat.lt_of_le_of_lt (Nat.sub_le _ _) t.isLt)).2.2.1 (ix2 0 k)
      + ∑ p, Cert.Rms.dhK (a6 m c) (a7 m c) (a8 m c) (a9 m c) (rowAt t p) k := by
  rw [outsAt0_B m c t h (later h)]
  frame_out
  open_payloads
  pointwise []
  simp only [blk0, blk1, blk2, blk3, blk4, blk5, blk6, blk7, blk8, blk9]
  rfl

theorem total12 (t : Fin cfg0.N) (ht : t.val + 1 = cfg0.N) (k : Fin 1024) :
    (outsAt0 m c t.val t.isLt).2.2.1 (ix2 0 k) = ∑ r, Cert.Rms.dhK (a6 m c) (a7 m c) (a8 m c) (a9 m c) r k := by
  rw [Pipeline.eq_sum_fin_of_reset_step_apply_last (fun n h k => (outsAt0 m c n h).2.2.1 (ix2 0 k)) 64 (fun _ => 0) _
    (first12 m c) (later12 m c) (le_of_eq N_0) t ht k, zero_add]
  exact sum_rows fun r => Cert.Rms.dhK (a6 m c) (a7 m c) (a8 m c) (a9 m c) r k

theorem total12_eq (t : Fin cfg0.N) (ht : t.val + 1 = cfg0.N) : (outsAt0 m c t.val t.isLt).2.2.1 = fun y => ∑ r, Cert.Rms.dhK (a6 m c) (a7 m c) (a8 m c) (a9 m c) r (y 1) := by
  funext y
  exact (congrArg _ (row0 y).symm).trans (total12 m c t ht (y 1))

/-- The sum of the shift's gradient over all rows after the call. -/
theorem final12 : (dats m 0 c).arrAt 12 (cfgs 0).N = fun i => ∑ r, Cert.Rms.dhK (a6 m c) (a7 m c) (a8 m c) (a9 m c) r (i 1) := by
  refine (dats m 0 c).arrAt_eq_of_covers 12 _ (by decide +kernel) fun t hf y => ?_
  blk_simp
  rw [after0_12, total12_eq m c t (last ((flush0_12 t).mp hf))]
  exact congrArg (fun k => ∑ r, Cert.Rms.dhK (a6 m c) (a7 m c) (a8 m c) (a9 m c) r k) (Fin.ext (by blk_simp [idx t]))

/-- A grid point adds its rows' part of the scale's gradient to what the points before left. -/
theorem first13 (t : Fin cfg0.N) (h : t.val % 64 = 0) (k : Fin 1024) :
    (outsAt0 m c t.val t.isLt).2.2.2.1 (ix2 0 k) = 0 + ∑ p, Cert.Rms.dhK (a6 m c) (a7 m c) (a8 m c) (a9 m c) (rowAt t p) k * Cert.Rms.hat (a0 m c) (a1 m c) (a2 m c) (rowAt t p) k * a3 m c (ix2 0 k) := by
  rw [outsAt0_A m c t h (first h)]
  frame_out
  open_payloads
  pointwise []
  simp only [blk0, blk1, blk2, blk3, blk4, blk5, blk6, blk7, blk8, blk9]
  rfl

theorem later13 (t : Fin cfg0.N) (h : ¬t.val % 64 = 0) (k : Fin 1024) :
    (outsAt0 m c t.val t.isLt).2.2.2.1 (ix2 0 k) = (outsAt0 m c (t.val - 1) (Nat.lt_of_le_of_lt (Nat.sub_le _ _) t.isLt)).2.2.2.1 (ix2 0 k)
      + ∑ p, Cert.Rms.dhK (a6 m c) (a7 m c) (a8 m c) (a9 m c) (rowAt t p) k * Cert.Rms.hat (a0 m c) (a1 m c) (a2 m c) (rowAt t p) k * a3 m c (ix2 0 k) := by
  rw [outsAt0_B m c t h (later h)]
  frame_out
  open_payloads
  pointwise []
  simp only [blk0, blk1, blk2, blk3, blk4, blk5, blk6, blk7, blk8, blk9]
  rfl

theorem total13 (t : Fin cfg0.N) (ht : t.val + 1 = cfg0.N) (k : Fin 1024) :
    (outsAt0 m c t.val t.isLt).2.2.2.1 (ix2 0 k) = ∑ r, Cert.Rms.dhK (a6 m c) (a7 m c) (a8 m c) (a9 m c) r k * Cert.Rms.hat (a0 m c) (a1 m c) (a2 m c) r k * a3 m c (ix2 0 k) := by
  rw [Pipeline.eq_sum_fin_of_reset_step_apply_last (fun n h k => (outsAt0 m c n h).2.2.2.1 (ix2 0 k)) 64 (fun _ => 0) _
    (first13 m c) (later13 m c) (le_of_eq N_0) t ht k, zero_add]
  exact sum_rows fun r => Cert.Rms.dhK (a6 m c) (a7 m c) (a8 m c) (a9 m c) r k * Cert.Rms.hat (a0 m c) (a1 m c) (a2 m c) r k * a3 m c (ix2 0 k)

theorem total13_eq (t : Fin cfg0.N) (ht : t.val + 1 = cfg0.N) : (outsAt0 m c t.val t.isLt).2.2.2.1 = fun y => ∑ r, Cert.Rms.dhK (a6 m c) (a7 m c) (a8 m c) (a9 m c) r (y 1) * Cert.Rms.hat (a0 m c) (a1 m c) (a2 m c) r (y 1) * a3 m c (ix2 0 (y 1)) := by
  funext y
  exact (congrArg _ (row0 y).symm).trans (total13 m c t ht (y 1))

/-- The sum of the scale's gradient over all rows after the call. -/
theorem final13 : (dats m 0 c).arrAt 13 (cfgs 0).N = fun i => ∑ r, Cert.Rms.dhK (a6 m c) (a7 m c) (a8 m c) (a9 m c) r (i 1) * Cert.Rms.hat (a0 m c) (a1 m c) (a2 m c) r (i 1) * a3 m c (ix2 0 (i 1)) := by
  refine (dats m 0 c).arrAt_eq_of_covers 13 _ (by decide +kernel) fun t hf y => ?_
  blk_simp
  rw [after0_13, total13_eq m c t (last ((flush0_13 t).mp hf))]
  exact congrArg (fun k => ∑ r, Cert.Rms.dhK (a6 m c) (a7 m c) (a8 m c) (a9 m c) r k * Cert.Rms.hat (a0 m c) (a1 m c) (a2 m c) r k * a3 m c (ix2 0 k)) (Fin.ext (by blk_simp [idx t]))

/-- A grid point adds its rows' part of the norm gain's gradient to what the points before left. -/
theorem first14 (t : Fin cfg0.N) (h : t.val % 64 = 0) (k : Fin 1024) :
    (outsAt0 m c t.val t.isLt).2.2.2.2.1 (ix2 0 k) = 0 + ∑ p, Cert.Rms.dhK (a6 m c) (a7 m c) (a8 m c) (a9 m c) (rowAt t p) k * (1 + a4 m c (ix2 0 k)) * Cert.Rms.hat (a0 m c) (a1 m c) (a2 m c) (rowAt t p) k := by
  rw [outsAt0_A m c t h (first h)]
  frame_out
  open_payloads
  pointwise []
  simp only [blk0, blk1, blk2, blk3, blk4, blk5, blk6, blk7, blk8, blk9]
  rfl

theorem later14 (t : Fin cfg0.N) (h : ¬t.val % 64 = 0) (k : Fin 1024) :
    (outsAt0 m c t.val t.isLt).2.2.2.2.1 (ix2 0 k) = (outsAt0 m c (t.val - 1) (Nat.lt_of_le_of_lt (Nat.sub_le _ _) t.isLt)).2.2.2.2.1 (ix2 0 k)
      + ∑ p, Cert.Rms.dhK (a6 m c) (a7 m c) (a8 m c) (a9 m c) (rowAt t p) k * (1 + a4 m c (ix2 0 k)) * Cert.Rms.hat (a0 m c) (a1 m c) (a2 m c) (rowAt t p) k := by
  rw [outsAt0_B m c t h (later h)]
  frame_out
  open_payloads
  pointwise []
  simp only [blk0, blk1, blk2, blk3, blk4, blk5, blk6, blk7, blk8, blk9]
  rfl

theorem total14 (t : Fin cfg0.N) (ht : t.val + 1 = cfg0.N) (k : Fin 1024) :
    (outsAt0 m c t.val t.isLt).2.2.2.2.1 (ix2 0 k) = ∑ r, Cert.Rms.dhK (a6 m c) (a7 m c) (a8 m c) (a9 m c) r k * (1 + a4 m c (ix2 0 k)) * Cert.Rms.hat (a0 m c) (a1 m c) (a2 m c) r k := by
  rw [Pipeline.eq_sum_fin_of_reset_step_apply_last (fun n h k => (outsAt0 m c n h).2.2.2.2.1 (ix2 0 k)) 64 (fun _ => 0) _
    (first14 m c) (later14 m c) (le_of_eq N_0) t ht k, zero_add]
  exact sum_rows fun r => Cert.Rms.dhK (a6 m c) (a7 m c) (a8 m c) (a9 m c) r k * (1 + a4 m c (ix2 0 k)) * Cert.Rms.hat (a0 m c) (a1 m c) (a2 m c) r k

theorem total14_eq (t : Fin cfg0.N) (ht : t.val + 1 = cfg0.N) : (outsAt0 m c t.val t.isLt).2.2.2.2.1 = fun y => ∑ r, Cert.Rms.dhK (a6 m c) (a7 m c) (a8 m c) (a9 m c) r (y 1) * (1 + a4 m c (ix2 0 (y 1))) * Cert.Rms.hat (a0 m c) (a1 m c) (a2 m c) r (y 1) := by
  funext y
  exact (congrArg _ (row0 y).symm).trans (total14 m c t ht (y 1))

/-- The sum of the norm gain's gradient over all rows after the call. -/
theorem final14 : (dats m 0 c).arrAt 14 (cfgs 0).N = fun i => ∑ r, Cert.Rms.dhK (a6 m c) (a7 m c) (a8 m c) (a9 m c) r (i 1) * (1 + a4 m c (ix2 0 (i 1))) * Cert.Rms.hat (a0 m c) (a1 m c) (a2 m c) r (i 1) := by
  refine (dats m 0 c).arrAt_eq_of_covers 14 _ (by decide +kernel) fun t hf y => ?_
  blk_simp
  rw [after0_14, total14_eq m c t (last ((flush0_14 t).mp hf))]
  exact congrArg (fun k => ∑ r, Cert.Rms.dhK (a6 m c) (a7 m c) (a8 m c) (a9 m c) r k * (1 + a4 m c (ix2 0 k)) * Cert.Rms.hat (a0 m c) (a1 m c) (a2 m c) r k) (Fin.ext (by blk_simp [idx t]))

/-- A grid point adds its rows' part of the gate's gradient to what the points before left. -/
theorem first15 (t : Fin cfg0.N) (h : t.val % 64 = 0) (k : Fin 1024) :
    (outsAt0 m c t.val t.isLt).2.2.2.2.2 (ix2 0 k) = 0 + ∑ p, Cert.Rms.dxK (a0 m c) (a1 m c) (a2 m c) (a3 m c) (a4 m c) (a6 m c) (a7 m c) (a8 m c) (a9 m c) (a10 m c) (rowAt t p) k * a1 m c (ix2 (rowAt t p) k) := by
  rw [outsAt0_A m c t h (first h)]
  frame_out
  open_payloads
  pointwise []
  simp only [blk0, blk1, blk2, blk3, blk4, blk5, blk6, blk7, blk8, blk9]
  rfl

theorem later15 (t : Fin cfg0.N) (h : ¬t.val % 64 = 0) (k : Fin 1024) :
    (outsAt0 m c t.val t.isLt).2.2.2.2.2 (ix2 0 k) = (outsAt0 m c (t.val - 1) (Nat.lt_of_le_of_lt (Nat.sub_le _ _) t.isLt)).2.2.2.2.2 (ix2 0 k)
      + ∑ p, Cert.Rms.dxK (a0 m c) (a1 m c) (a2 m c) (a3 m c) (a4 m c) (a6 m c) (a7 m c) (a8 m c) (a9 m c) (a10 m c) (rowAt t p) k * a1 m c (ix2 (rowAt t p) k) := by
  rw [outsAt0_B m c t h (later h)]
  frame_out
  open_payloads
  pointwise []
  simp only [blk0, blk1, blk2, blk3, blk4, blk5, blk6, blk7, blk8, blk9]
  rfl

theorem total15 (t : Fin cfg0.N) (ht : t.val + 1 = cfg0.N) (k : Fin 1024) :
    (outsAt0 m c t.val t.isLt).2.2.2.2.2 (ix2 0 k) = ∑ r, Cert.Rms.dxK (a0 m c) (a1 m c) (a2 m c) (a3 m c) (a4 m c) (a6 m c) (a7 m c) (a8 m c) (a9 m c) (a10 m c) r k * a1 m c (ix2 r k) := by
  rw [Pipeline.eq_sum_fin_of_reset_step_apply_last (fun n h k => (outsAt0 m c n h).2.2.2.2.2 (ix2 0 k)) 64 (fun _ => 0) _
    (first15 m c) (later15 m c) (le_of_eq N_0) t ht k, zero_add]
  exact sum_rows fun r => Cert.Rms.dxK (a0 m c) (a1 m c) (a2 m c) (a3 m c) (a4 m c) (a6 m c) (a7 m c) (a8 m c) (a9 m c) (a10 m c) r k * a1 m c (ix2 r k)

theorem total15_eq (t : Fin cfg0.N) (ht : t.val + 1 = cfg0.N) : (outsAt0 m c t.val t.isLt).2.2.2.2.2 = fun y => ∑ r, Cert.Rms.dxK (a0 m c) (a1 m c) (a2 m c) (a3 m c) (a4 m c) (a6 m c) (a7 m c) (a8 m c) (a9 m c) (a10 m c) r (y 1) * a1 m c (ix2 r (y 1)) := by
  funext y
  exact (congrArg _ (row0 y).symm).trans (total15 m c t ht (y 1))

/-- The sum of the gate's gradient over all rows after the call. -/
theorem final15 : (dats m 0 c).arrAt 15 (cfgs 0).N = fun i => ∑ r, Cert.Rms.dxK (a0 m c) (a1 m c) (a2 m c) (a3 m c) (a4 m c) (a6 m c) (a7 m c) (a8 m c) (a9 m c) (a10 m c) r (i 1) * a1 m c (ix2 r (i 1)) := by
  refine (dats m 0 c).arrAt_eq_of_covers 15 _ (by decide +kernel) fun t hf y => ?_
  blk_simp
  rw [after0_15, total15_eq m c t (last ((flush0_15 t).mp hf))]
  exact congrArg (fun k => ∑ r, Cert.Rms.dxK (a0 m c) (a1 m c) (a2 m c) (a3 m c) (a4 m c) (a6 m c) (a7 m c) (a8 m c) (a9 m c) (a10 m c) r k * a1 m c (ix2 r k)) (Fin.ext (by blk_simp [idx t]))

/-- From any memory the call ends with the two gradients and the four sums, and the arguments as they were. -/
theorem run (ρ : Dev nD → PrngReg) : θ_run defs (onTc (main (F := Ideal))) ⟨m, fun _ => 0, ρ⟩ fun r => ∀ c : Dev nD,
    r.2.mem ((c.tc : Thread nD τ).loc main_v8_0) = (fun i => Cert.Rms.dxK (a0 m c) (a1 m c) (a2 m c) (a3 m c) (a4 m c) (a6 m c) (a7 m c) (a8 m c) (a9 m c) (a10 m c) (i 0) (i 1))
    ∧ r.2.mem ((c.tc : Thread nD τ).loc main_v8_1) = (fun i => Cert.Rms.dfK (a0 m c) (a1 m c) (a2 m c) (a3 m c) (a4 m c) (a6 m c) (a7 m c) (a8 m c) (a9 m c) (a10 m c) (i 0) (i 1))
    ∧ r.2.mem ((c.tc : Thread nD τ).loc main_v8_2) = (fun i => ∑ r, Cert.Rms.dhK (a6 m c) (a7 m c) (a8 m c) (a9 m c) r (i 1))
    ∧ r.2.mem ((c.tc : Thread nD τ).loc main_v8_3) = (fun i => ∑ r, Cert.Rms.dhK (a6 m c) (a7 m c) (a8 m c) (a9 m c) r (i 1) * Cert.Rms.hat (a0 m c) (a1 m c) (a2 m c) r (i 1) * a3 m c (ix2 0 (i 1)))
    ∧ r.2.mem ((c.tc : Thread nD τ).loc main_v8_4) = (fun i => ∑ r, Cert.Rms.dhK (a6 m c) (a7 m c) (a8 m c) (a9 m c) r (i 1) * (1 + a4 m c (ix2 0 (i 1))) * Cert.Rms.hat (a0 m c) (a1 m c) (a2 m c) r (i 1))
    ∧ r.2.mem ((c.tc : Thread nD τ).loc main_v8_5) = (fun i => ∑ r, Cert.Rms.dxK (a0 m c) (a1 m c) (a2 m c) (a3 m c) (a4 m c) (a6 m c) (a7 m c) (a8 m c) (a9 m c) (a10 m c) r (i 1) * a1 m c (ix2 r (i 1)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) :=
  (θ_run defs _ _).mono (fun r h c => ⟨((h.1 c).1 10).trans (final10 m c), ((h.1 c).1 11).trans (final11 m c), ((h.1 c).1 12).trans (final12 m c), ((h.1 c).1 13).trans (final13 m c), ((h.1 c).1 14).trans (final14 m c), ((h.1 c).1 15).trans (final15 m c), h.2 c⟩) (θ_run_and (run_main m ρ) (unchanged m ρ))

end Cert.RmsBIdeal.Value

end
-- ==== Proof.Claims.Rms.lean ====
/- The feed-forward norm's gradients: the reference's frame and the equality of the six results. -/
module

public import proofs.«01_k».proof.Defs
public import proofs.«01_k».proof.Proof.Gen.RmsB.Frame
public import proofs.«01_k».proof.Proof.Gen.Pre_finite_bup
public import proofs.«01_k».proof.Proof.RmsKernel
public import Idealize.ShloMosaic.Lib.Claim

@[expose] public section

set_option maxRecDepth 65536

noncomputable section

namespace Cert.Rms

open Idealize.ShloMosaic Idealize.SL.Sem
open Cert.Finite Cert.Norm

/-- The reference ends with its arguments unchanged and no signal owed. -/
theorem frame_reference : Cert.quiescent_RefRmsBIdeal (hRefRmsBIdeal := Cert.RefRmsBIdeal.Gen.facts) := by
  intro m g _
  exact (θ_run Cert.RefRmsBIdeal.defs _ _).mono
    (fun r h => ⟨fun c => (h c).2.2.2.2.2.2, Idealize.ShloMosaic.sem_eq_zero_of_no_sems (by decide) r.2⟩) (Cert.RefRmsBIdeal.Value.run m g)

/-- The precondition says that every element of the eleven arguments is a real number. -/
theorem finite_args [Cert.Pre_finite_bup.Facts] (x f : FVec Ideal Cert.Pre_finite_bup.S16384x1024 .f32) (g n s b : FVec Ideal Cert.Pre_finite_bup.S1x1024 .f32)
    (wg wu : FVec Ideal Cert.Pre_finite_bup.S1024x2816 .f32) (da du : FVec Ideal Cert.Pre_finite_bup.S16384x2816 .f32) (o : FVec Ideal Cert.Pre_finite_bup.S16384x1024 .f32)
    (h : Cert.Pre_finite_bup.fn (F := Ideal) x f g n s b wg wu da du o = fun _ => 1#1) :
    Finite x ∧ Finite f ∧ Finite g ∧ Finite n ∧ Finite s ∧ Finite wg ∧ Finite wu ∧ Finite da ∧ Finite du := by
  have e := congrFun h ix0
  simp only [Cert.Pre_finite_bup.fn, Cert.Pre_finite_bup.fn_part1, Cert.Pre_finite_bup.fn_part2, Cert.Pre_finite_bup.fn_part3, andi, IntOp.andi_eq_one] at e
  obtain ⟨⟨⟨⟨⟨⟨⟨⟨⟨⟨e0, e1⟩, e2⟩, e3⟩, e4⟩, -⟩, e6⟩, e7⟩, e8⟩, e9⟩, -⟩ := e
  exact ⟨finite_of_all x _ _ (fun _ => rfl) _ _ _ e0, finite_of_all f _ _ (fun _ => rfl) _ _ _ e1,
    finite_of_all g _ _ (fun _ => rfl) _ _ _ e2, finite_of_all n _ _ (fun _ => rfl) _ _ _ e3, finite_of_all s _ _ (fun _ => rfl) _ _ _ e4,
    finite_of_all wg _ _ (fun _ => rfl) _ _ _ e6, finite_of_all wu _ _ (fun _ => rfl) _ _ _ e7,
    finite_of_all da _ _ (fun _ => rfl) _ _ _ e8, finite_of_all du _ _ (fun _ => rfl) _ _ _ e9⟩

/-- From equal finite arguments the kernel and the reference end with the same six gradients. -/
theorem algebraic : Cert.algebraic_RmsBIdeal_RefRmsBIdeal_pre_finite_bup (hRmsBIdeal := Cert.RmsBIdeal.Gen.facts)
    (hRefRmsBIdeal := Cert.RefRmsBIdeal.Gen.facts) (hPre_finite_bup := Cert.Pre_finite_bup.Gen.facts) := by
  pair_intro
  · run_from Cert.RmsBIdeal.Value.run m g
  · refine Idealize.ShloMosaic.θ_run_mono (Cert.RefRmsBIdeal.Value.run m' g') ?_
    intro r hr c
    obtain ⟨e0, e1, e2, e3, e4, e5, ea⟩ := hr c
    refine ⟨e0.trans ?_, e1.trans ?_, e2.trans ?_, e3.trans ?_, e4.trans ?_, e5.trans ?_, ea⟩
    all_goals obtain ⟨hx, hf, hg, hn, hs, hwg, hwu, hda, hdu⟩ := finite_args _ _ _ _ _ _ _ _ _ _ _ (hpre c)
    all_goals obtain ⟨h0, h1, h2, h3, h4, -, h6, h7, h8, h9, h10⟩ := hagree c
    all_goals funext i
    · refine (congrArg _ (eq_ix2 i)).trans ((ref_dx m' c (i 0) (i 1)).trans ?_)
      simp only [a0, a1, a2, a3, a4, a6, a7, a8, a9, a10, h0, h1, h2, h3, h4, h6, h7, h8, h9, h10]
      exact (dx_eq hx hf hg hn hs hwg hwu hda hdu _ _).symm
    · refine (congrArg _ (eq_ix2 i)).trans ((ref_df m' c (i 0) (i 1)).trans ?_)
      simp only [a0, a1, a2, a3, a4, a6, a7, a8, a9, a10, h0, h1, h2, h3, h4, h6, h7, h8, h9, h10]
      exact (congrArg _ (dx_eq hx hf hg hn hs hwg hwu hda hdu _ _)).symm
    · pointwise []
      simp only [h0, h1, h2, h3, h4, h6, h7, h8, h9]
      exact Finset.sum_congr rfl fun r _ => (dh_eq r (i 1)).symm
    · pointwise []
      simp only [h0, h1, h2, h3, h4, h6, h7, h8, h9]
      exact Finset.sum_congr rfl fun r _ => scale_eq r (i 1)
    · pointwise []
      simp only [h0, h1, h2, h3, h4, h6, h7, h8, h9]
      exact Finset.sum_congr rfl fun r _ => gain_eq r (i 1)
    · refine (congrArg _ (row0 i).symm).trans ((ref_dgate m' c (i 1)).trans ?_)
      simp only [a0, a1, a2, a3, a4, a6, a7, a8, a9, a10, h0, h1, h2, h3, h4, h6, h7, h8, h9, h10]
      exact (gate_eq hx hf hg hn hs hwg hwu hda hdu (i 1)).symm

end Cert.Rms

end
-- ==== Proof.Loss.lean ====
/- The loss and the gradients of the last residual sum and the final norm, element by element: what the kernel and the reference compute. -/
module

public import proofs.«01_k».proof.Proof.Gen.RefLossHeadIdeal.Run
public import proofs.«01_k».proof.Proof.Norm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Finite Cert.Norm

namespace Cert.Loss

open Cert.RefLossHeadIdeal Cert.RefLossHeadIdeal.Gen Cert.RefLossHeadIdeal.Value

/-- A half, as a float constant. -/
abbrev half : EReal := Ideal.ofBits .f32 0x3F000000#32

theorem coe_eq : Ideal.ofBits .f32 0x3A000000#32 = ((1 / 2048 : ℝ) : EReal) := by
  simp [Ideal.ofBits, Ideal.ieee]
  rw [← EReal.coe_mul]; norm_num

/-- The last residual sum. -/
def row (x f : FVec Ideal S16384x1024 .f32) (g : FVec Ideal S1x1024 .f32) (r : Fin 16384) (k : Fin 1024) : EReal :=
  x (ix2 r k) + half * g (ix2 0 k) * f (ix2 r k)

/-- The normalised row. -/
def hat (x f : FVec Ideal S16384x1024 .f32) (g : FVec Ideal S1x1024 .f32) (r : Fin 16384) (k : Fin 1024) : EReal :=
  row x f g r k * Ideal.rsqrt (ms (row x f g r))

/-- The difference from the target. -/
def err (x f : FVec Ideal S16384x1024 .f32) (g : FVec Ideal S1x1024 .f32) (w : FVec Ideal S1024 .f32) (T : FVec Ideal S16384x1024 .f32)
    (r : Fin 16384) (k : Fin 1024) : EReal :=
  hat x f g r k * w (ix1 k) - T (ix2 r k)

/-- The cotangent of the normalised and scaled row: the kernel's, and the derivative's. -/
def dyK (x f : FVec Ideal S16384x1024 .f32) (g : FVec Ideal S1x1024 .f32) (w : FVec Ideal S1024 .f32) (T : FVec Ideal S16384x1024 .f32)
    (r : Fin 16384) (k : Fin 1024) : EReal :=
  err x f g w T r k * Ideal.ofBits .f32 0x3A800000#32

def dyR (x f : FVec Ideal S16384x1024 .f32) (g : FVec Ideal S1x1024 .f32) (w : FVec Ideal S1024 .f32) (T : FVec Ideal S16384x1024 .f32)
    (r : Fin 16384) (k : Fin 1024) : EReal :=
  Ideal.div half N * (Ideal.ofBits .f32 0x40000000#32 * err x f g w T r k)

/-- The gradient of the last residual sum: the kernel's, and the derivative's. -/
def dxK (x f : FVec Ideal S16384x1024 .f32) (g : FVec Ideal S1x1024 .f32) (w : FVec Ideal S1024 .f32) (T : FVec Ideal S16384x1024 .f32)
    (r : Fin 16384) (k : Fin 1024) : EReal :=
  bwdK (row x f g r) (fun j => dyK x f g w T r j * w (ix1 j)) k

def dxR (x f : FVec Ideal S16384x1024 .f32) (g : FVec Ideal S1x1024 .f32) (w : FVec Ideal S1024 .f32) (T : FVec Ideal S16384x1024 .f32)
    (r : Fin 16384) (k : Fin 1024) : EReal :=
  bwdR (row x f g r) (fun j => dyR x f g w T r j * w (ix1 j)) k

/-- The gradient of the last branch as the kernel computes it. -/
def dfK (x f : FVec Ideal S16384x1024 .f32) (g : FVec Ideal S1x1024 .f32) (w : FVec Ideal S1024 .f32) (T : FVec Ideal S16384x1024 .f32)
    (r : Fin 16384) (k : Fin 1024) : EReal :=
  half * g (ix2 0 k) * dxK x f g w T r k

section Real

variable {x f : FVec Ideal S16384x1024 .f32} {g : FVec Ideal S1x1024 .f32} {w : FVec Ideal S1024 .f32} {T : FVec Ideal S16384x1024 .f32}

theorem row_real (hx : Finite x) (hf : Finite f) (hg : Finite g) (r : Fin 16384) (k : Fin 1024) : IsR (row x f g r k) :=
  (hx _).add ((IsR.mul ⟨_, half_eq⟩ (hg _)).mul (hf _))

theorem hat_real (hx : Finite x) (hf : Finite f) (hg : Finite g) (r : Fin 16384) (k : Fin 1024) : IsR (hat x f g r k) :=
  xhat_real (row_real hx hf hg r) k

theorem err_real (hx : Finite x) (hf : Finite f) (hg : Finite g) (hw : Finite w) (hT : Finite T) (r : Fin 16384) (k : Fin 1024) :
    IsR (err x f g w T r k) :=
  ((hat_real hx hf hg r k).mul (hw _)).sub (hT _)

theorem dy_real (hx : Finite x) (hf : Finite f) (hg : Finite g) (hw : Finite w) (hT : Finite T) (r : Fin 16384) (k : Fin 1024) :
    IsR (dyK x f g w T r k) :=
  (err_real hx hf hg hw hT r k).mul ⟨_, inv_eq⟩

/-- The two forms of the normalised row's cotangent agree. -/
theorem dy_eq (hx : Finite x) (hf : Finite f) (hg : Finite g) (hw : Finite w) (hT : Finite T) (r : Fin 16384) (k : Fin 1024) :
    dyK x f g w T r k = dyR x f g w T r k := by
  obtain ⟨e, he⟩ := err_real hx hf hg hw hT r k
  unfold dyK dyR
  rw [he, inv_eq, show half = _ from half_eq, two_eq, N_eq, div_real _ (by norm_num), ← EReal.coe_mul, ← EReal.coe_mul, ← EReal.coe_mul]
  exact congrArg _ (by ring)

/-- The two forms of the residual sum's gradient agree. -/
theorem dx_eq (hx : Finite x) (hf : Finite f) (hg : Finite g) (hw : Finite w) (hT : Finite T) (r : Fin 16384) (k : Fin 1024) :
    dxK x f g w T r k = dxR x f g w T r k := by
  unfold dxR
  simp only [← dy_eq hx hf hg hw hT]
  exact bwd_eq (row_real hx hf hg r) (fun j => (dy_real hx hf hg hw hT r j).mul (hw _)) k

theorem dx_real (hx : Finite x) (hf : Finite f) (hg : Finite g) (hw : Finite w) (hT : Finite T) (r : Fin 16384) (k : Fin 1024) :
    IsR (dxK x f g w T r k) :=
  bwd_real (row_real hx hf hg r) (fun j => (dy_real hx hf hg hw hT r j).mul (hw _)) k

/-- The half may be taken out of the gate's sum. -/
theorem gate_eq (hx : Finite x) (hf : Finite f) (hg : Finite g) (hw : Finite w) (hT : Finite T) (k : Fin 1024) :
    ∑ r, half * dxK x f g w T r k * f (ix2 r k) = half * ∑ r, dxR x f g w T r k * f (ix2 r k) := by
  simp only [← dx_eq hx hf hg hw hT]
  choose d hd using fun r => dx_real hx hf hg hw hT r k
  choose f' hf using hf
  simp only [hd, hf, half, half_eq, ← EReal.coe_mul, ← coe_sum]
  exact congrArg _ (by rw [Finset.mul_sum]; exact Finset.sum_congr rfl fun r _ => by ring)

/-- The mean of the squared errors, taken over rows first or over columns first. -/
theorem loss_eq (hx : Finite x) (hf : Finite f) (hg : Finite g) (hw : Finite w) (hT : Finite T) :
    Ideal.ofBits .f32 0x3A000000#32 * ∑ k, ∑ r, err x f g w T r k * err x f g w T r k
      = half * ∑ r, Ideal.div (∑ k, err x f g w T r k * err x f g w T r k) N := by
  choose e he using err_real hx hf hg hw hT
  simp only [he, half, half_eq, N_eq, coe_eq, ← EReal.coe_mul, ← coe_sum, div_real _ (by norm_num : (1024 : ℝ) ≠ 0)]
  refine congrArg _ ?_
  rw [Finset.sum_comm, ← Finset.sum_div]
  ring

end Real

/-- The reference's arguments. -/
abbrev aX (m : (ℓ : Loc nD τ sig) → Buf (Elt Ideal) ℓ) (c : Dev nD) : FVec Ideal S16384x1024 .f32 := m ((c.tc : Thread nD τ).loc main_arg0)
abbrev aF (m : (ℓ : Loc nD τ sig) → Buf (Elt Ideal) ℓ) (c : Dev nD) : FVec Ideal S16384x1024 .f32 := m ((c.tc : Thread nD τ).loc main_arg1)
abbrev aG (m : (ℓ : Loc nD τ sig) → Buf (Elt Ideal) ℓ) (c : Dev nD) : FVec Ideal S1x1024 .f32 := m ((c.tc : Thread nD τ).loc main_arg2)
abbrev aW (m : (ℓ : Loc nD τ sig) → Buf (Elt Ideal) ℓ) (c : Dev nD) : FVec Ideal S1024 .f32 := m ((c.tc : Thread nD τ).loc main_arg3)
abbrev aT (m : (ℓ : Loc nD τ sig) → Buf (Elt Ideal) ℓ) (c : Dev nD) : FVec Ideal S16384x1024 .f32 := m ((c.tc : Thread nD τ).loc main_arg4)

variable (m : (ℓ : Loc nD τ sig) → Buf (Elt Ideal) ℓ) (c : Dev nD)

/-- The reference's gradient of the residual sum. -/
theorem ref_dx (r : Fin 16384) (k : Fin 1024) : res_main_v55 m c (ix2 r k) = dxR (aX m c) (aF m c) (aG m c) (aW m c) (aT m c) r k := by
  unfold res_main_v55
  pointwise []
  rfl

/-- The reference's gradient of the last branch. -/
theorem ref_df (r : Fin 16384) (k : Fin 1024) : res_main_v63 m c (ix2 r k) = half * aG m c (ix2 0 k) * dxR (aX m c) (aF m c) (aG m c) (aW m c) (aT m c) r k := by
  unfold res_main_v63
  pointwise []
  rfl

/-- The reference's gradient of the last gate. -/
theorem ref_dgate (k : Fin 1024) : res_main_v62 m c (ix2 0 k) = half * ∑ r, dxR (aX m c) (aF m c) (aG m c) (aW m c) (aT m c) r k * aF m c (ix2 r k) := by
  unfold res_main_v62
  pointwise []
  rfl

end Cert.Loss

end
-- ==== Proof.LossKernel.lean ====
/- The blocks the loss kernel reads and writes at each grid point. -/
module

public import proofs.«01_k».proof.Proof.Gen.LossHeadIdeal.Frame
public import proofs.«01_k».proof.Proof.Loss
public import Idealize.ShloMosaic.Lib.Pipeline.ValueKit

@[expose] public section

set_option maxRecDepth 16384

noncomputable section

open Idealize.ShloMosaic Idealize.ShloMosaic.TcCoe Idealize.SL.Sem
open Cert.Norm (row0)

namespace Cert.LossHeadIdeal.Value

open Cert.LossHeadIdeal Cert.LossHeadIdeal.Gen

/-- The row windows move down the rows with the grid point; the vectors stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] ∧ win0_9.index t = ![0, 0] :=
  (by decide +kernel : ∀ t : Fin grid0.N, _)

variable (m : (ℓ : Loc nD τ sig) → Buf (Elt Ideal) ℓ) (c : Dev nD)

/-- The kernel's arguments. -/
abbrev aX : FVec Ideal S16384x1024 .f32 := m ((c : Thread nD τ).loc main_arg0)
abbrev aF : FVec Ideal S16384x1024 .f32 := m ((c : Thread nD τ).loc main_arg1)
abbrev aG : FVec Ideal S1x1024 .f32 := m ((c : Thread nD τ).loc main_arg2)
abbrev aW : FVec Ideal S1024 .f32 := m ((c : Thread nD τ).loc main_arg3)
abbrev aT : FVec Ideal S16384x1024 .f32 := m ((c : Thread nD τ).loc main_arg4)

/-- The array's row a block's row is. -/
def rowAt (t : Fin cfg0.N) (p : Fin 512) : Fin 16384 :=
  ⟨t.val * 512 + p.val, by have := lt_of_lt_of_eq t.isLt (show cfg0.N = 32 from N_0); omega⟩

/-- The residual sum computed before the call. -/
theorem host_row (r : Fin 16384) (k : Fin 1024) : V m c main_v4 (ix2 r k) = Cert.Loss.row (aX m c) (aF m c) (aG m c) r k := by
  simp only [V, V0, hostOps0, List.flatten_cons, List.flatten_nil, List.append_nil, List.cons_append, List.nil_append]
  after_results_simp
  pointwise []
  rfl

theorem host_w (k : Fin 1024) : V m c main_v5 (ix2 0 k) = aW m c (ix1 k) := by
  simp only [V, V0, hostOps0, List.flatten_cons, List.flatten_nil, List.append_nil, List.cons_append, List.nil_append]
  after_results_simp
  pointwise []

theorem host_f (r : Fin 16384) (k : Fin 1024) : V m c main_v6 (ix2 r k) = aF m c (ix2 r k) := by
  simp only [V, V0, hostOps0, List.flatten_cons, List.flatten_nil, List.append_nil, List.cons_append, List.nil_append]
  after_results_simp
  pointwise []

theorem blk0 (t : Fin cfg0.N) (p : Fin 512) (k : Fin 1024) :
    iblk m c 0 t (ix2 p k) = Cert.Loss.row (aX m c) (aF m c) (aG m c) (rowAt t p) k := by
  rw [← host_row]
  blk_ext [iblk, idx t, rowAt]

theorem blk1 (t : Fin cfg0.N) (p : Fin 512) (k : Fin 1024) : iblk m c 1 t (ix2 p k) = aT m c (ix2 (rowAt t p) k) := by
  blk_ext [iblk, V, idx t, rowAt]

theorem blk2 (t : Fin cfg0.N) (p : Fin 512) (k : Fin 1024) : iblk m c 2 t (ix2 p k) = aF m c (ix2 (rowAt t p) k) := by
  rw [← host_f]
  blk_ext [iblk, idx t, rowAt]

theorem blk3 (t : Fin cfg0.N) (k : Fin 1024) : iblk m c 3 t (ix2 0 k) = aW m c (ix1 k) := by
  rw [← host_w]
  blk_ext [iblk, idx t, rowAt]

theorem blk4 (t : Fin cfg0.N) (k : Fin 1024) : iblk m c 4 t (ix2 0 k) = aG m c (ix2 0 k) := by
  blk_ext [iblk, V, idx t, rowAt]

/-- Not the first point: both of the body's conditions say so. -/
theorem later {t : Fin cfg0.N} (h : ¬t.val % 32 = 0) : 1 ≤ t.val := by omega

theorem first {t : Fin cfg0.N} (h : t.val % 32 = 0) : ¬1 ≤ t.val := by
  have := lt_of_lt_of_eq t.isLt (show cfg0.N = 32 from N_0)
  omega

/-- The last point of the grid. -/
theorem last {t : Fin cfg0.N} (h : t.val % 32 = 31) : t.val + 1 = cfg0.N := by
  have := lt_of_lt_of_eq t.isLt (show cfg0.N = 32 from N_0)
  exact Eq.trans (by omega : t.val + 1 = 32) N_0.symm

/-- A sum over the points and each point's rows is the sum over all rows. -/
theorem sum_rows (f : Fin 16384 → EReal) : (∑ t : Fin cfg0.N, ∑ p : Fin 512, f (rowAt t p)) = ∑ r, f r :=
  Fin.sum_mul_add_congr (fun t p hl => rfl) (by rw [show cfg0.N = 32 from N_0])

/-- A grid point leaves its rows of the residual sum's gradient. -/
theorem outs5 (t : Fin cfg0.N) (p : Fin 512) (k : Fin 1024) :
    (outsAt0 m c t.val t.isLt).1 (ix2 p k) = Cert.Loss.dxK (aX m c) (aF m c) (aG m c) (aW m c) (aT m c) (rowAt t p) k := by
  by_cases h : t.val % 32 = 0
  · rw [outsAt0_A m c t h (first h)]
    frame_out
    open_payloads
    pointwise []
    simp only [blk0, blk1, blk2, blk3, blk4]
    rfl
  · rw [outsAt0_B m c t h (later h)]
    frame_out
    open_payloads
    pointwise []
    simp only [blk0, blk1, blk2, blk3, blk4]
    rfl

theorem outs5_eq (t : Fin cfg0.N) : (outsAt0 m c t.val t.isLt).1 = fun y => Cert.Loss.dxK (aX m c) (aF m c) (aG m c) (aW m c) (aT m c) (rowAt t (y 0)) (y 1) := by
  funext y
  have := outs5 m c t (y 0) (y 1)
  rwa [ix2_eta] at this

/-- The whole array of the residual sum's gradient after the call. -/
theorem final5 : (dats m 0 c).arrAt 5 (cfgs 0).N = fun i => Cert.Loss.dxK (aX m c) (aF m c) (aG m c) (aW m c) (aT m c) (i 0) (i 1) := by
  refine (dats m 0 c).arrAt_eq_of_covers 5 _ (by decide +kernel) fun t _ y => ?_
  blk_simp
  rw [after0_5, outs5_eq]
  exact congrArg₂ (Cert.Loss.dxK (aX m c) (aF m c) (aG m c) (aW m c) (aT m c)) (Fin.ext (by blk_simp [idx t, rowAt])) (Fin.ext (by blk_simp [idx t, rowAt]))

/-- A grid point leaves its rows of the last branch's gradient. -/
theorem outs6 (t : Fin cfg0.N) (p : Fin 512) (k : Fin 1024) :
    (outsAt0 m c t.val t.isLt).2.1 (ix2 p k) = Cert.Loss.dfK (aX m c) (aF m c) (aG m c) (aW m c) (aT m c) (rowAt t p) k := by
  by_cases h : t.val % 32 = 0
  · rw [outsAt0_A m c t h (first h)]
    frame_out
    open_payloads
    pointwise []
    simp only [blk0, blk1, blk2, blk3, blk4]
    rfl
  · rw [outsAt0_B m c t h (later h)]
    frame_out
    open_payloads
    pointwise []
    simp only [blk0, blk1, blk2, blk3, blk4]
    rfl

theorem outs6_eq (t : Fin cfg0.N) : (outsAt0 m c t.val t.isLt).2.1 = fun y => Cert.Loss.dfK (aX m c) (aF m c) (aG m c) (aW m c) (aT m c) (rowAt t (y 0)) (y 1) := by
  funext y
  have := outs6 m c t (y 0) (y 1)
  rwa [ix2_eta] at this

/-- The whole array of the last branch's gradient after the call. -/
theorem final6 : (dats m 0 c).arrAt 6 (cfgs 0).N = fun i => Cert.Loss.dfK (aX m c) (aF m c) (aG m c) (aW m c) (aT m c) (i 0) (i 1) := by
  refine (dats m 0 c).arrAt_eq_of_covers 6 _ (by decide +kernel) fun t _ y => ?_
  blk_simp
  rw [after0_6, outs6_eq]
  exact congrArg₂ (Cert.Loss.dfK (aX m c) (aF m c) (aG m c) (aW m c) (aT m c)) (Fin.ext (by blk_simp [idx t, rowAt])) (Fin.ext (by blk_simp [idx t, rowAt]))

/-- A grid point adds its rows' part of the squared error to what the points before left. -/
theorem first7 (t : Fin cfg0.N) (h : t.val % 32 = 0) (k : Fin 1024) :
    (outsAt0 m c t.val t.isLt).2.2.1 (ix2 0 k) = 0 + ∑ p, Cert.Loss.err (aX m c) (aF m c) (aG m c) (aW m c) (aT m c) (rowAt t p) k * Cert.Loss.err (aX m c) (aF m c) (aG m c) (aW m c) (aT m c) (rowAt t p) k := by
  rw [outsAt0_A m c t h (first h)]
  frame_out
  open_payloads
  pointwise []
  simp only [blk0, blk1, blk2, blk3, blk4]
  rfl

theorem later7 (t : Fin cfg0.N) (h : ¬t.val % 32 = 0) (k : Fin 1024) :
    (outsAt0 m c t.val t.isLt).2.2.1 (ix2 0 k) = (outsAt0 m c (t.val - 1) (Nat.lt_of_le_of_lt (Nat.sub_le _ _) t.isLt)).2.2.1 (ix2 0 k)
      + ∑ p, Cert.Loss.err (aX m c) (aF m c) (aG m c) (aW m c) (aT m c) (rowAt t p) k * Cert.Loss.err (aX m c) (aF m c) (aG m c) (aW m c) (aT m c) (rowAt t p) k := by
  rw [outsAt0_B m c t h (later h)]
  frame_out
  open_payloads
  pointwise []
  simp only [blk0, blk1, blk2, blk3, blk4]
  rfl

theorem total7 (t : Fin cfg0.N) (ht : t.val + 1 = cfg0.N) (k : Fin 1024) :
    (outsAt0 m c t.val t.isLt).2.2.1 (ix2 0 k) = ∑ r, Cert.Loss.err (aX m c) (aF m c) (aG m c) (aW m c) (aT m c) r k * Cert.Loss.err (aX m c) (aF m c) (aG m c) (aW m c) (aT m c) r k := by
  rw [Pipeline.eq_sum_fin_of_reset_step_apply_last (fun n h k => (outsAt0 m c n h).2.2.1 (ix2 0 k)) 32 (fun _ => 0) _
    (first7 m c) (later7 m c) (le_of_eq N_0) t ht k, zero_add]
  exact sum_rows fun r => Cert.Loss.err (aX m c) (aF m c) (aG m c) (aW m c) (aT m c) r k * Cert.Loss.err (aX m c) (aF m c) (aG m c) (aW m c) (aT m c) r k

theorem total7_eq (t : Fin cfg0.N) (ht : t.val + 1 = cfg0.N) : (outsAt0 m c t.val t.isLt).2.2.1 = fun y => ∑ r, Cert.Loss.err (aX m c) (aF m c) (aG m c) (aW m c) (aT m c) r (y 1) * Cert.Loss.err (aX m c) (aF m c) (aG m c) (aW m c) (aT m c) r (y 1) := by
  funext y
  exact (congrArg _ (row0 y).symm).trans (total7 m c t ht (y 1))

/-- The sum of the squared error over all rows after the call. -/
theorem final7 : (dats m 0 c).arrAt 7 (cfgs 0).N = fun i => ∑ r, Cert.Loss.err (aX m c) (aF m c) (aG m c) (aW m c) (aT m c) r (i 1) * Cert.Loss.err (aX m c) (aF m c) (aG m c) (aW m c) (aT m c) r (i 1) := by
  refine (dats m 0 c).arrAt_eq_of_covers 7 _ (by decide +kernel) fun t hf y => ?_
  blk_simp
  rw [after0_7]
  rw [total7_eq m c t (last ((flush0_7 t).mp hf))]
  exact congrArg (fun k => ∑ r, Cert.Loss.err (aX m c) (aF m c) (aG m c) (aW m c) (aT m c) r k * Cert.Loss.err (aX m c) (aF m c) (aG m c) (aW m c) (aT m c) r k) (Fin.ext (by blk_simp [idx t]))

/-- A grid point adds its rows' part of the norm's scale gradient to what the points before left. -/
theorem first8 (t : Fin cfg0.N) (h : t.val % 32 = 0) (k : Fin 1024) :
    (outsAt0 m c t.val t.isLt).2.2.2.1 (ix2 0 k) = 0 + ∑ p, Cert.Loss.dyK (aX m c) (aF m c) (aG m c) (aW m c) (aT m c) (rowAt t p) k * Cert.Loss.hat (aX m c) (aF m c) (aG m c) (rowAt t p) k := by
  rw [outsAt0_A m c t h (first h)]
  frame_out
  open_payloads
  pointwise []
  simp only [blk0, blk1, blk2, blk3, blk4]
  rfl

theorem later8 (t : Fin cfg0.N) (h : ¬t.val % 32 = 0) (k : Fin 1024) :
    (outsAt0 m c t.val t.isLt).2.2.2.1 (ix2 0 k) = (outsAt0 m c (t.val - 1) (Nat.lt_of_le_of_lt (Nat.sub_le _ _) t.isLt)).2.2.2.1 (ix2 0 k)
      + ∑ p, Cert.Loss.dyK (aX m c) (aF m c) (aG m c) (aW m c) (aT m c) (rowAt t p) k * Cert.Loss.hat (aX m c) (aF m c) (aG m c) (rowAt t p) k := by
  rw [outsAt0_B m c t h (later h)]
  frame_out
  open_payloads
  pointwise []
  simp only [blk0, blk1, blk2, blk3, blk4]
  rfl

theorem total8 (t : Fin cfg0.N) (ht : t.val + 1 = cfg0.N) (k : Fin 1024) :
    (outsAt0 m c t.val t.isLt).2.2.2.1 (ix2 0 k) = ∑ r, Cert.Loss.dyK (aX m c) (aF m c) (aG m c) (aW m c) (aT m c) r k * Cert.Loss.hat (aX m c) (aF m c) (aG m c) r k := by
  rw [Pipeline.eq_sum_fin_of_reset_step_apply_last (fun n h k => (outsAt0 m c n h).2.2.2.1 (ix2 0 k)) 32 (fun _ => 0) _
    (first8 m c) (later8 m c) (le_of_eq N_0) t ht k, zero_add]
  exact sum_rows fun r => Cert.Loss.dyK (aX m c) (aF m c) (aG m c) (aW m c) (aT m c) r k * Cert.Loss.hat (aX m c) (aF m c) (aG m c) r k

theorem total8_eq (t : Fin cfg0.N) (ht : t.val + 1 = cfg0.N) : (outsAt0 m c t.val t.isLt).2.2.2.1 = fun y => ∑ r, Cert.Loss.dyK (aX m c) (aF m c) (aG m c) (aW m c) (aT m c) r (y 1) * Cert.Loss.hat (aX m c) (aF m c) (aG m c) r (y 1) := by
  funext y
  exact (congrArg _ (row0 y).symm).trans (total8 m c t ht (y 1))

/-- The sum of the norm's scale gradient over all rows after the call. -/
theorem final8 : (dats m 0 c).arrAt 8 (cfgs 0).N = fun i => ∑ r, Cert.Loss.dyK (aX m c) (aF m c) (aG m c) (aW m c) (aT m c) r (i 1) * Cert.Loss.hat (aX m c) (aF m c) (aG m c) r (i 1) := by
  refine (dats m 0 c).arrAt_eq_of_covers 8 _ (by decide +kernel) fun t hf y => ?_
  blk_simp
  rw [after0_8]
  rw [total8_eq m c t (last ((flush0_8 t).mp hf))]
  exact congrArg (fun k => ∑ r, Cert.Loss.dyK (aX m c) (aF m c) (aG m c) (aW m c) (aT m c) r k * Cert.Loss.hat (aX m c) (aF m c) (aG m c) r k) (Fin.ext (by blk_simp [idx t]))

/-- A grid point adds its rows' part of the last gate's gradient to what the points before left. -/
theorem first9 (t : Fin cfg0.N) (h : t.val % 32 = 0) (k : Fin 1024) :
    (outsAt0 m c t.val t.isLt).2.2.2.2 (ix2 0 k) = 0 + ∑ p, Cert.Loss.half * Cert.Loss.dxK (aX m c) (aF m c) (aG m c) (aW m c) (aT m c) (rowAt t p) k * aF m c (ix2 (rowAt t p) k) := by
  rw [outsAt0_A m c t h (first h)]
  frame_out
  open_payloads
  pointwise []
  simp only [blk0, blk1, blk2, blk3, blk4]
  rfl

theorem later9 (t : Fin cfg0.N) (h : ¬t.val % 32 = 0) (k : Fin 1024) :
    (outsAt0 m c t.val t.isLt).2.2.2.2 (ix2 0 k) = (outsAt0 m c (t.val - 1) (Nat.lt_of_le_of_lt (Nat.sub_le _ _) t.isLt)).2.2.2.2 (ix2 0 k)
      + ∑ p, Cert.Loss.half * Cert.Loss.dxK (aX m c) (aF m c) (aG m c) (aW m c) (aT m c) (rowAt t p) k * aF m c (ix2 (rowAt t p) k) := by
  rw [outsAt0_B m c t h (later h)]
  frame_out
  open_payloads
  pointwise []
  simp only [blk0, blk1, blk2, blk3, blk4]
  rfl

theorem total9 (t : Fin cfg0.N) (ht : t.val + 1 = cfg0.N) (k : Fin 1024) :
    (outsAt0 m c t.val t.isLt).2.2.2.2 (ix2 0 k) = ∑ r, Cert.Loss.half * Cert.Loss.dxK (aX m c) (aF m c) (aG m c) (aW m c) (aT m c) r k * aF m c (ix2 r k) := by
  rw [Pipeline.eq_sum_fin_of_reset_step_apply_last (fun n h k => (outsAt0 m c n h).2.2.2.2 (ix2 0 k)) 32 (fun _ => 0) _
    (first9 m c) (later9 m c) (le_of_eq N_0) t ht k, zero_add]
  exact sum_rows fun r => Cert.Loss.half * Cert.Loss.dxK (aX m c) (aF m c) (aG m c) (aW m c) (aT m c) r k * aF m c (ix2 r k)

theorem total9_eq (t : Fin cfg0.N) (ht : t.val + 1 = cfg0.N) : (outsAt0 m c t.val t.isLt).2.2.2.2 = fun y => ∑ r, Cert.Loss.half * Cert.Loss.dxK (aX m c) (aF m c) (aG m c) (aW m c) (aT m c) r (y 1) * aF m c (ix2 r (y 1)) := by
  funext y
  exact (congrArg _ (row0 y).symm).trans (total9 m c t ht (y 1))

/-- The sum of the last gate's gradient over all rows after the call. -/
theorem final9 : (dats m 0 c).arrAt 9 (cfgs 0).N = fun i => ∑ r, Cert.Loss.half * Cert.Loss.dxK (aX m c) (aF m c) (aG m c) (aW m c) (aT m c) r (i 1) * aF m c (ix2 r (i 1)) := by
  refine (dats m 0 c).arrAt_eq_of_covers 9 _ (by decide +kernel) fun t hf y => ?_
  blk_simp
  rw [after0_9]
  rw [total9_eq m c t (last ((flush0_9 t).mp hf))]
  exact congrArg (fun k => ∑ r, Cert.Loss.half * Cert.Loss.dxK (aX m c) (aF m c) (aG m c) (aW m c) (aT m c) r k * aF m c (ix2 r k)) (Fin.ext (by blk_simp [idx t]))

/-- The mean squared error, computed from its sums after the call. -/
theorem tail9 : Pipeline.afterTail₀ cfgs (dats m) 0 (V0 m) [hostOps1] c main_v9
    = fun _ => Ideal.ofBits .f32 0x3A000000#32 * ∑ k, ∑ r, Cert.Loss.err (aX m c) (aF m c) (aG m c) (aW m c) (aT m c) r k * Cert.Loss.err (aX m c) (aF m c) (aG m c) (aW m c) (aT m c) r k := by
  unfold Pipeline.afterTail₀
  simp only [hostOps1, List.flatten_cons, List.flatten_nil, List.append_nil, List.cons_append, List.nil_append]
  after_results_simp
  rw [show Pipeline.withArrays (cfgs 0).spec c (V0 m c) (fun w => (dats m 0 c).arrAt w (cfgs 0).N) (Proc.devRef .tc main_v7_2) = (dats m 0 c).arrAt 7 (cfgs 0).N from
    Pipeline.withArrays_arr (cfgs 0).spec (by decide) c (V0 m c) _ 7, final7]
  funext i
  pointwise []
  exact congrArg _ (Fin.sum_univ_one _)

/-- Every run of the kernel ends with the loss and the four gradients, its arguments unchanged. -/
theorem run (ρ : Dev nD → PrngReg) : θ_run defs (onTc (τ := τ) (main (F := Ideal))) ⟨m, fun _ => 0, ρ⟩ fun r => ∀ c : Dev nD,
    r.2.mem ((c.tc : Thread nD τ).loc main_v9) = (fun _ => Ideal.ofBits .f32 0x3A000000#32 * ∑ k, ∑ r, Cert.Loss.err (aX m c) (aF m c) (aG m c) (aW m c) (aT m c) r k * Cert.Loss.err (aX m c) (aF m c) (aG m c) (aW m c) (aT m c) r k)
    ∧ r.2.mem ((c.tc : Thread nD τ).loc main_v7_0) = (fun i => Cert.Loss.dxK (aX m c) (aF m c) (aG m c) (aW m c) (aT m c) (i 0) (i 1))
    ∧ r.2.mem ((c.tc : Thread nD τ).loc main_v7_1) = (fun i => Cert.Loss.dfK (aX m c) (aF m c) (aG m c) (aW m c) (aT m c) (i 0) (i 1))
    ∧ r.2.mem ((c.tc : Thread nD τ).loc main_v7_4) = (fun i => ∑ r, Cert.Loss.half * Cert.Loss.dxK (aX m c) (aF m c) (aG m c) (aW m c) (aT m c) r (i 1) * aF m c (ix2 r (i 1)))
    ∧ r.2.mem ((c.tc : Thread nD τ).loc main_v7_3) = (fun i => ∑ r, Cert.Loss.dyK (aX m c) (aF m c) (aG m c) (aW m c) (aT m c) r (i 1) * Cert.Loss.hat (aX m c) (aF m c) (aG m c) r (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨((h.1 c).2 main_v9 (by decide)).trans (tail9 m c), ((h.1 c).1 5).trans (final5 m c), ((h.1 c).1 6).trans (final6 m c),
    ((h.1 c).1 9).trans (final9 m c), ((h.1 c).1 8).trans (final8 m c), h.2 c⟩) (θ_run_and (run_main m ρ) (unchanged m ρ))

end Cert.LossHeadIdeal.Value

end
-- ==== Proof.Claims.Loss.lean ====
/- The loss and its gradients: the reference's frame and the equality of the five results. -/
module

public import proofs.«01_k».proof.Defs
public import proofs.«01_k».proof.Proof.Gen.LossHead.Frame
public import proofs.«01_k».proof.Proof.Gen.Pre_finite_loss
public import proofs.«01_k».proof.Proof.LossKernel
public import Idealize.ShloMosaic.Lib.Claim

@[expose] public section

set_option maxRecDepth 65536

noncomputable section

namespace Cert.Loss

open Idealize.ShloMosaic Idealize.SL.Sem
open Cert.Finite Cert.Norm

/-- The reference ends with its arguments unchanged and no signal owed. -/
theorem frame_reference : Cert.quiescent_RefLossHeadIdeal (hRefLossHeadIdeal := Cert.RefLossHeadIdeal.Gen.facts) := by
  intro m g _
  exact (θ_run Cert.RefLossHeadIdeal.defs _ _).mono
    (fun r h => ⟨fun c => (h c).2.2.2.2.2, Idealize.ShloMosaic.sem_eq_zero_of_no_sems (by decide) r.2⟩) (Cert.RefLossHeadIdeal.Value.run m g)

/-- The precondition says that every element of the five arguments is a real number. -/
theorem finite_args [Cert.Pre_finite_loss.Facts] (x f : FVec Ideal Cert.Pre_finite_loss.S16384x1024 .f32) (g : FVec Ideal Cert.Pre_finite_loss.S1x1024 .f32)
    (w : FVec Ideal Cert.Pre_finite_loss.S1024 .f32) (T : FVec Ideal Cert.Pre_finite_loss.S16384x1024 .f32)
    (h : Cert.Pre_finite_loss.fn (F := Ideal) x f g w T = fun _ => 1#1) :
    Finite x ∧ Finite f ∧ Finite g ∧ Finite w ∧ Finite T := by
  have e := congrFun h ix0
  simp only [Cert.Pre_finite_loss.fn, Cert.Pre_finite_loss.fn_part1, andi, IntOp.andi_eq_one] at e
  obtain ⟨⟨⟨⟨e0, e1⟩, e2⟩, e3⟩, e4⟩ := e
  exact ⟨finite_of_all x _ _ (fun _ => rfl) _ _ _ e0, finite_of_all f _ _ (fun _ => rfl) _ _ _ e1,
    finite_of_all g _ _ (fun _ => rfl) _ _ _ e2, finite_of_all w _ _ (fun _ => rfl) _ _ _ e3, finite_of_all T _ _ (fun _ => rfl) _ _ _ e4⟩

/-- From equal finite arguments the kernel and the reference end with the same loss and the same four gradients. -/
theorem algebraic : Cert.algebraic_LossHeadIdeal_RefLossHeadIdeal_pre_finite_loss (hLossHeadIdeal := Cert.LossHeadIdeal.Gen.facts)
    (hRefLossHeadIdeal := Cert.RefLossHeadIdeal.Gen.facts) (hPre_finite_loss := Cert.Pre_finite_loss.Gen.facts) := by
  pair_intro
  · run_from Cert.LossHeadIdeal.Value.run m g
  · run_from Cert.RefLossHeadIdeal.Value.run m' g'
    all_goals obtain ⟨hx, hf, hg, hw, hT⟩ := finite_args _ _ _ _ _ (hpre c)
    all_goals obtain ⟨h0, h1, h2, h3, h4⟩ := hagree c
    all_goals funext i
    · refine Eq.trans ?_ (loss_eq hx hf hg hw hT).symm
      pointwise []
      rfl
    · refine (congrArg _ (eq_ix2 i)).trans ((ref_dx m' c (i 0) (i 1)).trans ?_)
      simp only [aX, aF, aG, aW, aT, h0, h1, h2, h3, h4]
      exact (dx_eq hx hf hg hw hT _ _).symm
    · refine (congrArg _ (eq_ix2 i)).trans ((ref_df m' c (i 0) (i 1)).trans ?_)
      simp only [aX, aF, aG, aW, aT, h0, h1, h2, h3, h4]
      exact (congrArg _ (dx_eq hx hf hg hw hT _ _)).symm
    · refine (congrArg _ (row0 i).symm).trans ((ref_dgate m' c (i 1)).trans ?_)
      simp only [aX, aF, aG, aW, aT, h0, h1, h2, h3, h4]
      exact (gate_eq hx hf hg hw hT (i 1)).symm
    · pointwise []
      refine (Fin.sum_univ_one _).trans (Finset.sum_congr rfl fun r _ => ?_)
      exact (mul_comm _ _).trans (congrArg (· * _) (dy_eq hx hf hg hw hT r (i 1)).symm)

end Cert.Loss

end
-- ==== Proof.Window.lean ====
/- One query row of the dilated window attention: its scores against the window's previous and current key blocks, and what the softmax leaves of them. -/
module

public import Idealize.ShloMosaic.Lib.Pointwise

@[expose] public section

noncomputable section

open Idealize.ShloMosaic

namespace Cert.Window

/-- The inner product of a query and a key over a head's lanes, times the factor of the scores. -/
def score (q k : Fin 64 → EReal) : EReal := (∑ e, q e * k e) * Ideal.ofBits .f32 1040187392#32

/-- The scores against the current block's keys: those at or before the query's row. -/
def cur (i : Fin 128) (q : Fin 64 → EReal) (k : Fin 128 → Fin 64 → EReal) (j : Fin 128) : EReal :=
  if j.val ≤ i.val then score q (k j) else ⊥

/-- The scores against the previous block's keys: those at or after the query's row, where there is such a block. -/
def prev (b : Prop) [Decidable b] (i : Fin 128) (q : Fin 64 → EReal) (k : Fin 128 → Fin 64 → EReal) (j : Fin 128) : EReal :=
  if i.val ≤ j.val ∧ b then score q (k j) else ⊥

variable (b : Prop) [Decidable b] (i : Fin 128) (q : Fin 64 → EReal) (kp kc : Fin 128 → Fin 64 → EReal) (vp vc : Fin 128 → EReal)

/-- The largest score. -/
def top : EReal := max (Finset.univ.fold max ⊥ (cur i q kc)) (Finset.univ.fold max ⊥ (prev b i q kp))

/-- The exponentials' sum. -/
def den : EReal := (∑ j, Ideal.exp (cur i q kc j - top b i q kp kc)) + ∑ j, Ideal.exp (prev b i q kp j - top b i q kp kc)

/-- The weighted values. -/
def out : EReal :=
  Ideal.div ((∑ j, Ideal.exp (cur i q kc j - top b i q kp kc) * vc j) + ∑ j, Ideal.exp (prev b i q kp j - top b i q kp kc) * vp j) (den b i q kp kc)

/-- The logarithm of the exponentials' sum. -/
def lse : EReal := top b i q kp kc + Ideal.log (den b i q kp kc)

/-- Where there is no previous block its keys and values do not matter. -/
theorem exp_bot (x : EReal) : Ideal.exp (⊥ - x) = 0 := by
  rw [sub_eq_add_neg, EReal.bot_add]; rfl

variable {b}

theorem prev_none (h : ¬b) : prev b i q kp = fun _ => ⊥ := by
  funext j; exact if_neg fun e => h e.2

theorem prev_iff {b' : Prop} [Decidable b'] (h : b ↔ b') (j : Fin 128) : prev b i q kp j = prev b' i q kp j :=
  if_congr (and_congr_right fun _ => h) rfl rfl

theorem out_none (h : ¬b) (kp' : Fin 128 → Fin 64 → EReal) (vp' : Fin 128 → EReal) : out b i q kp kc vp vc = out b i q kp' kc vp' vc := by
  simp only [out, den, top, prev_none i q _ h, exp_bot, zero_mul]

theorem lse_none (h : ¬b) (kp' : Fin 128 → Fin 64 → EReal) : lse b i q kp kc = lse b i q kp' kc := by
  simp only [lse, den, top, prev_none i q _ h]

/-- A sum over the two blocks' keys, the previous block's first. -/
theorem sum_two (f : Fin 256 → EReal) : ∑ k, f k = (∑ j : Fin 128, f ⟨128 + j.val, by omega⟩) + ∑ j : Fin 128, f ⟨j.val, by omega⟩ :=
  (Fin.sum_univ_add (a := 128) (b := 128) f).trans (add_comm _ _)

/-- The largest of the two blocks' scores. -/
theorem fold_two (f : Fin 256 → EReal) : Finset.univ.fold max ⊥ f
    = max (Finset.univ.fold max ⊥ fun j : Fin 128 => f ⟨128 + j.val, by omega⟩) (Finset.univ.fold max ⊥ fun j : Fin 128 => f ⟨j.val, by omega⟩) := by
  have key : ∀ {n : ℕ} (g : Fin n → EReal) (x : EReal), Finset.univ.fold max ⊥ g ≤ x ↔ ∀ j, g j ≤ x := fun g x => by
    rw [Finset.fold_max_le]; simp
  refine eq_of_forall_ge_iff fun x => ?_
  rw [max_le_iff, key, key, key]
  constructor
  · exact fun h => ⟨fun j => h _, fun j => h _⟩
  · rintro ⟨h1, h2⟩ k
    by_cases hk : k.val < 128
    · exact h2 ⟨k.val, hk⟩
    · have := h1 ⟨k.val - 128, by omega⟩
      rwa [show (⟨128 + (k.val - 128), by omega⟩ : Fin 256) = k from Fin.ext (by simp; omega)] at this

/-- What the softmax over the two blocks' 256 keys leaves, when its scores are the two blocks'. -/
theorem top_eq {f : Fin 256 → EReal} (hc : ∀ j : Fin 128, f ⟨128 + j.val, by omega⟩ = cur i q kc j) (hp : ∀ j : Fin 128, f ⟨j.val, by omega⟩ = prev b i q kp j) :
    Finset.univ.fold max ⊥ f = top b i q kp kc := by
  rw [fold_two, top, funext hc, funext hp]

theorem den_eq {f : Fin 256 → EReal} (hc : ∀ j : Fin 128, f ⟨128 + j.val, by omega⟩ = cur i q kc j) (hp : ∀ j : Fin 128, f ⟨j.val, by omega⟩ = prev b i q kp j) :
    (∑ k, Ideal.exp (f k - top b i q kp kc)) = den b i q kp kc := by
  rw [sum_two, den]
  simp only [hc, hp]

theorem out_eq {f v : Fin 256 → EReal} (hc : ∀ j : Fin 128, f ⟨128 + j.val, by omega⟩ = cur i q kc j) (hp : ∀ j : Fin 128, f ⟨j.val, by omega⟩ = prev b i q kp j)
    (hvc : ∀ j : Fin 128, v ⟨128 + j.val, by omega⟩ = vc j) (hvp : ∀ j : Fin 128, v ⟨j.val, by omega⟩ = vp j) :
    Ideal.div (∑ k, v k * Ideal.exp (f k - top b i q kp kc)) (den b i q kp kc) = out b i q kp kc vp vc := by
  rw [sum_two, out]
  simp only [hc, hp, hvc, hvp, mul_comm]

theorem out_iff {b' : Prop} [Decidable b'] (h : b ↔ b') : out b i q kp kc vp vc = out b' i q kp kc vp vc := by
  simp only [out, den, top, funext fun j => prev_iff (i := i) (q := q) (kp := kp) h j]

theorem lse_iff {b' : Prop} [Decidable b'] (h : b ↔ b') : lse b i q kp kc = lse b' i q kp kc := by
  simp only [lse, den, top, funext fun j => prev_iff (i := i) (q := q) (kp := kp) h j]

/-- Choosing by a printed bit is choosing by what the bit says. -/
theorem select_if (p : Prop) [Decidable p] (x y : EReal) : Scalar.select (if p then 1#1 else 0#1) x y = if p then x else y := by
  split <;> rfl

/-- The mask's constant on the extended reals. -/
theorem bot_f32 : Ideal.ofBits .f32 4286578688#32 = (⊥ : EReal) := by simp [Ideal.ofBits, Ideal.ieee]

/-- The printed mask of the 256 keys, at the current block's keys and at the previous block's. -/
def band (x : BitVec 1) (i j : BitVec 32) : BitVec 1 :=
  IntOp.andi (IntOp.andi (IntOp.cmpi .sge (IntOp.subi (IntOp.addi i 128#32) j) 0#32) (IntOp.cmpi .sle (IntOp.subi (IntOp.addi i 128#32) j) 128#32))
    (IntOp.ori x (IntOp.cmpi .sge j 128#32))

theorem band_cur : ∀ (x : BitVec 1) (i j : Fin 128), band x (BitVec.ofNat 32 i.val) (BitVec.ofNat 32 (128 + j.val)) = if j.val ≤ i.val then 1#1 else 0#1 := by
  decide +kernel

theorem band_prev : ∀ (x : BitVec 1) (i j : Fin 128), band x (BitVec.ofNat 32 i.val) (BitVec.ofNat 32 j.val) = if i.val ≤ j.val ∧ x = 1#1 then 1#1 else 0#1 := by
  decide +kernel

/-- There is a block before every block but the first. -/
theorem later : ∀ n : Fin 128, IntOp.cmpi .sgt (BitVec.ofNat 32 n.val) 0#32 = 1#1 ↔ 0 < n.val := by
  decide +kernel

/-- A sum over the four heads' lanes of what one head's lanes hold is the sum over that head's lanes. -/
theorem sum_head (h : Fin 4) (f : Fin 256 → EReal) : (∑ l : Fin 256, if l.val / 64 = h.val then f l else 0) = ∑ e : Fin 64, f ⟨h.val * 64 + e.val, by omega⟩ := by
  rw [← Finset.sum_filter]
  refine Finset.sum_bij' (fun l _ => ⟨l.val % 64, by omega⟩) (fun e _ => ⟨h.val * 64 + e.val, by omega⟩) ?_ ?_ ?_ ?_ ?_
  · exact fun _ _ => Finset.mem_univ _
  · intro e _
    refine Finset.mem_filter.mpr ⟨Finset.mem_univ _, ?_⟩
    show (h.val * 64 + e.val) / 64 = h.val
    omega
  · intro l hl
    have := (Finset.mem_filter.mp hl).2
    refine Fin.ext ?_
    show h.val * 64 + l.val % 64 = l.val
    omega
  · intro e _
    refine Fin.ext ?_
    show (h.val * 64 + e.val) % 64 = e.val
    omega
  · intro l hl
    have := (Finset.mem_filter.mp hl).2
    refine congrArg f (Fin.ext ?_)
    show l.val = h.val * 64 + l.val % 64
    omega

/-! ### The rows of a dilation -/

variable {D NB : ℕ}

/-- The token of a residue's row in a block: residues are the tokens' remainders, and a block is 128 of a residue's rows. -/
def tok (hD : D * NB = 128) (r : Fin D) (n : Fin NB) (j : Fin 128) : Fin 16384 :=
  ⟨(n.val * 128 + j.val) * D + r.val, by
    have h1 : (n.val * 128 + j.val) + 1 ≤ NB * 128 := by omega
    have h2 := Nat.mul_le_mul_right D h1
    have h3 : NB * 128 * D = 16384 := by rw [Nat.mul_right_comm, Nat.mul_comm NB, hD]
    rw [h3, Nat.add_mul] at h2
    omega⟩

/-- The block before, and the first block's own. -/
def back (n : Fin NB) : Fin NB := ⟨n.val - 1, by omega⟩

/-- The window attention of a token of residue `r`, block `n`, row `i`: its output in a head's lane and the logarithm of its exponentials' sum. -/
def attnOut (hD : D * NB = 128) (q k v : FVec Ideal ⟨3, ![16384, 4, 64]⟩ .f32) (r : Fin D) (n : Fin NB) (i : Fin 128) (h : Fin 4) (e : Fin 64) : EReal :=
  out (0 < n.val) i (fun e => q (ix3 (tok hD r n i) h e)) (fun j e => k (ix3 (tok hD r (back n) j) h e)) (fun j e => k (ix3 (tok hD r n j) h e))
    (fun j => v (ix3 (tok hD r (back n) j) h e)) (fun j => v (ix3 (tok hD r n j) h e))

def attnLse (hD : D * NB = 128) (q k : FVec Ideal ⟨3, ![16384, 4, 64]⟩ .f32) (r : Fin D) (n : Fin NB) (i : Fin 128) (h : Fin 4) : EReal :=
  lse (0 < n.val) i (fun e => q (ix3 (tok hD r n i) h e)) (fun j e => k (ix3 (tok hD r (back n) j) h e)) (fun j e => k (ix3 (tok hD r n j) h e))

theorem attnOut_congr (hD : D * NB = 128) (q k v : FVec Ideal ⟨3, ![16384, 4, 64]⟩ .f32) {r r' : Fin D} {n n' : Fin NB} {i i' : Fin 128} {h h' : Fin 4} {e e' : Fin 64}
    (e1 : r = r') (e2 : n = n') (e3 : i = i') (e4 : h = h') (e5 : e = e') : attnOut hD q k v r n i h e = attnOut hD q k v r' n' i' h' e' := by
  rw [e1, e2, e3, e4, e5]

theorem attnLse_congr (hD : D * NB = 128) (q k : FVec Ideal ⟨3, ![16384, 4, 64]⟩ .f32) {r r' : Fin D} {n n' : Fin NB} {i i' : Fin 128} {h h' : Fin 4}
    (e1 : r = r') (e2 : n = n') (e3 : i = i') (e4 : h = h') : attnLse hD q k r n i h = attnLse hD q k r' n' i' h' := by
  rw [e1, e2, e3, e4]

/-- An array at equal coordinates. -/
theorem congr_ix3 (x : FVec Ideal ⟨3, ![16384, 4, 64]⟩ .f32) {s s' : Fin 16384} {h h' : Fin 4} {e e' : Fin 64} (e1 : s.val = s'.val) (e2 : h.val = h'.val) (e3 : e.val = e'.val) :
    x (ix3 s h e) = x (ix3 s' h' e') := by
  rw [Fin.ext e1, Fin.ext e2, Fin.ext e3]

end Cert.Window

end
-- ==== Proof.FwdTile.lean ====
/- One block of the forward attention's kernel, element by element: its head masks, its window masks, and what each head leaves of a query row. -/
module

public import proofs.«01_k».proof.Proof.Gen.Fwd16Ideal.Frame
public import proofs.«01_k».proof.Proof.Window
public import Idealize.ShloMosaic.Lib.Pipeline.ValueKit

@[expose] public section

set_option maxRecDepth 65536

noncomputable section

open Idealize.ShloMosaic Idealize.ShloMosaic.TcCoe Idealize.SL.Sem

namespace Cert.Fwd16Ideal.Value

open Cert.Fwd16Ideal Cert.Fwd16Ideal.Gen Cert.Window

/-- The lanes of a head. -/
def headMask (h : Fin 4) : IVec S128x256 1 :=
  andi (cmpi .sge (iota .tc S128x256 32 [1] iota_S128x256_d1_w32) (broadcast S128x256 (BitVec.ofNat 32 (h.val * 64))))
    (cmpi .slt (iota .tc S128x256 32 [1] iota_S128x256_d1_w32) (broadcast S128x256 (BitVec.ofNat 32 (h.val * 64 + 64))))

/-- The previous block's keys in a query's window, where there is such a block. -/
def prevMask (b : BitVec 1) : IVec S128x128 1 :=
  andi (cmpi .sge (iota .tc S128x128 32 [1] iota_S128x128_d1_w32) (iota .tc S128x128 32 [0] iota_S128x128_d0_w32)) (broadcast S128x128 b)

theorem headMask_at (h : Fin 4) (i : Fin 128) (l : Fin 256) : headMask h (ix2 i l) = if l.val / 64 = h.val then 1#1 else 0#1 := by
  unfold headMask
  pointwise []
  exact (by decide +kernel : ∀ (h : Fin 4) (l : Fin 256), IntOp.andi (IntOp.cmpi .sge (BitVec.ofNat 32 l.val) (BitVec.ofNat 32 (h.val * 64)))
    (IntOp.cmpi .slt (BitVec.ofNat 32 l.val) (BitVec.ofNat 32 (h.val * 64 + 64))) = if l.val / 64 = h.val then 1#1 else 0#1) h l

theorem curMask_at (i j : Fin 128) : k0_pay7 (ix2 i j) = if j.val ≤ i.val then 1#1 else 0#1 := by
  unfold k0_pay7
  pointwise []
  exact (by decide +kernel : ∀ i j : Fin 128, IntOp.cmpi .sle (BitVec.ofNat 32 j.val) (BitVec.ofNat 32 i.val) = if j.val ≤ i.val then 1#1 else 0#1) i j

theorem prevMask_at (b : BitVec 1) (i j : Fin 128) : prevMask b (ix2 i j) = if i.val ≤ j.val ∧ b = 1#1 then 1#1 else 0#1 := by
  unfold prevMask
  pointwise []
  exact (by decide +kernel : ∀ (b : BitVec 1) (i j : Fin 128), IntOp.andi (IntOp.cmpi .sge (BitVec.ofNat 32 j.val) (BitVec.ofNat 32 i.val)) b
    = if i.val ≤ j.val ∧ b = 1#1 then 1#1 else 0#1) b i j

/-- A row's lanes of one head. -/
def lanes (x : FVec Ideal S128x256 .bf16) (h : Fin 4) (i : Fin 128) (e : Fin 64) : EReal := x (ix2 i ⟨h.val * 64 + e.val, by omega⟩)

variable (b : BitVec 1) (kp vp q kc vc : FVec Ideal S128x256 .bf16) (acc : FVec Ideal S128x256 .f32) (h : Fin 4) (i j : Fin 128) (l : Fin 256)

theorem mask_bot : (Named.named κ "mask" 0xF149F2CA#32 : Ideal .f32) = (⊥ : EReal) := rfl

theorem scores_cur : k0_pay18 q kc k0_pay7 (headMask h) (ix2 i j) = cur i (lanes q h i) (lanes kc h) j := by
  unfold k0_pay18 k0_pay17
  pointwise []
  simp only [curMask_at, headMask_at, select_if, sum_head, mask_bot]
  rfl

theorem scores_prev : k0_pay19 kp q (prevMask b) (headMask h) (ix2 i j) = prev (b = 1#1) i (lanes q h i) (lanes kp h) j := by
  unfold k0_pay19 k0_pay17
  pointwise []
  simp only [prevMask_at, headMask_at, select_if, sum_head, mask_bot]
  rfl

theorem top_at : k0_pay20 kp q kc k0_pay7 (prevMask b) (headMask h) (ix2 i 0) = top (b = 1#1) i (lanes q h i) (lanes kp h) (lanes kc h) := by
  unfold k0_pay20
  pointwise []
  simp only [scores_cur, scores_prev, bot_f32]
  rfl

theorem exp_cur : k0_pay21 kp q kc k0_pay7 (prevMask b) (headMask h) (ix2 i j)
    = Ideal.exp (cur i (lanes q h i) (lanes kc h) j - top (b = 1#1) i (lanes q h i) (lanes kp h) (lanes kc h)) := by
  unfold k0_pay21
  pointwise []
  rw [scores_cur, top_at]

theorem exp_prev : k0_pay22 kp q kc k0_pay7 (prevMask b) (headMask h) (ix2 i j)
    = Ideal.exp (prev (b = 1#1) i (lanes q h i) (lanes kp h) j - top (b = 1#1) i (lanes q h i) (lanes kp h) (lanes kc h)) := by
  unfold k0_pay22
  pointwise []
  rw [scores_prev, top_at]

theorem den_at : k0_pay23 kp q kc k0_pay7 (prevMask b) (headMask h) (ix2 i 0) = den (b = 1#1) i (lanes q h i) (lanes kp h) (lanes kc h) := by
  unfold k0_pay23
  pointwise []
  simp only [exp_cur, exp_prev]
  rfl

/-- One head's output over its lanes, the earlier heads' elsewhere. -/
theorem step_out : k0_pay24 kp vp q kc vc k0_pay7 (prevMask b) acc (headMask h) (ix2 i l) = if l.val / 64 = h.val
    then out (b = 1#1) i (lanes q h i) (lanes kp h) (lanes kc h) (fun j => vp (ix2 j l)) (fun j => vc (ix2 j l)) else acc (ix2 i l) := by
  unfold k0_pay24
  pointwise []
  simp only [headMask_at, select_if, exp_cur, exp_prev, den_at]
  rfl

/-- The four heads' outputs beside each other. -/
def tileOut : FVec Ideal S128x256 .f32 :=
  k0_pay24 kp vp q kc vc k0_pay7 (prevMask b) (k0_pay24 kp vp q kc vc k0_pay7 (prevMask b) (k0_pay24 kp vp q kc vc k0_pay7 (prevMask b)
    (k0_pay24 kp vp q kc vc k0_pay7 (prevMask b) k0_pay9 (headMask 0)) (headMask 1)) (headMask 2)) (headMask 3)

/-- One head's logarithms over its lanes. -/
def stepLse (hm : IVec S128x256 1) : FVec Ideal S128x256 .f32 :=
  select hm (broadcastTo S128x256 (k0_pay25 kp q kc k0_pay7 (prevMask b) hm) broadcasts_S128x1_S128x256) acc

def tileLse : FVec Ideal S128x256 .f32 :=
  stepLse b kp q kc (stepLse b kp q kc (stepLse b kp q kc (stepLse b kp q kc k0_pay10 (headMask 0)) (headMask 1)) (headMask 2)) (headMask 3)

theorem step_lse : stepLse b kp q kc acc (headMask h) (ix2 i l) = if l.val / 64 = h.val
    then lse (b = 1#1) i (lanes q h i) (lanes kp h) (lanes kc h) else acc (ix2 i l) := by
  unfold stepLse k0_pay25
  pointwise []
  simp only [headMask_at, select_if, top_at, den_at]
  rfl

/-- A lane of the four heads' is its own head's. -/
theorem tileOut_at (e : Fin 64) : tileOut b kp vp q kc vc (ix2 i ⟨h.val * 64 + e.val, by omega⟩)
    = out (b = 1#1) i (lanes q h i) (lanes kp h) (lanes kc h) (fun j => lanes vp h j e) (fun j => lanes vc h j e) := by
  unfold tileOut
  simp only [step_out]
  match h with
  | 0 => rw [if_neg (by show ¬(0 * 64 + e.val) / 64 = 3; omega), if_neg (by show ¬(0 * 64 + e.val) / 64 = 2; omega), if_neg (by show ¬(0 * 64 + e.val) / 64 = 1; omega), if_pos (by show (0 * 64 + e.val) / 64 = 0; omega)]; rfl
  | 1 => rw [if_neg (by show ¬(1 * 64 + e.val) / 64 = 3; omega), if_neg (by show ¬(1 * 64 + e.val) / 64 = 2; omega), if_pos (by show (1 * 64 + e.val) / 64 = 1; omega)]; rfl
  | 2 => rw [if_neg (by show ¬(2 * 64 + e.val) / 64 = 3; omega), if_pos (by show (2 * 64 + e.val) / 64 = 2; omega)]; rfl
  | 3 => rw [if_pos (by show (3 * 64 + e.val) / 64 = 3; omega)]; rfl

theorem tileLse_at (e : Fin 64) : tileLse b kp q kc (ix2 i ⟨h.val * 64 + e.val, by omega⟩)
    = lse (b = 1#1) i (lanes q h i) (lanes kp h) (lanes kc h) := by
  unfold tileLse
  simp only [step_lse]
  match h with
  | 0 => rw [if_neg (by show ¬(0 * 64 + e.val) / 64 = 3; omega), if_neg (by show ¬(0 * 64 + e.val) / 64 = 2; omega), if_neg (by show ¬(0 * 64 + e.val) / 64 = 1; omega), if_pos (by show (0 * 64 + e.val) / 64 = 0; omega)]
  | 1 => rw [if_neg (by show ¬(1 * 64 + e.val) / 64 = 3; omega), if_neg (by show ¬(1 * 64 + e.val) / 64 = 2; omega), if_pos (by show (1 * 64 + e.val) / 64 = 1; omega)]
  | 2 => rw [if_neg (by show ¬(2 * 64 + e.val) / 64 = 3; omega), if_pos (by show (2 * 64 + e.val) / 64 = 2; omega)]
  | 3 => rw [if_pos (by show (3 * 64 + e.val) / 64 = 3; omega)]

variable (x0 x1 x3 : Vec Ideal S1x512x256 .bf16) (x2 x4 : Vec Ideal S1x128x256 .bf16)

/-- A block of a window's rows. -/
def rows (x : Vec Ideal S1x128x256 .bf16) : FVec Ideal S128x256 .bf16 := shapeCast S128x256 x shapeCasts_S1x128x256_S128x256

/-- The four blocks' outputs under each other: each block's previous keys are the block's before it, the first block's a window of their own. -/
def tilesOut : Vec Ideal S1x512x256 .f32 := View.canon [
    ⟨r0_4, shapeCast S1x128x256 (tileOut 1#1 (rows (View.ld x1 r0_3)) (rows (View.ld x3 r0_3)) (rows (View.ld x0 r0_4)) (rows (View.ld x1 r0_4)) (rows (View.ld x3 r0_4))) shapeCasts_S128x256_S1x128x256⟩,
    ⟨r0_3, shapeCast S1x128x256 (tileOut 1#1 (rows (View.ld x1 r0_2)) (rows (View.ld x3 r0_2)) (rows (View.ld x0 r0_3)) (rows (View.ld x1 r0_3)) (rows (View.ld x3 r0_3))) shapeCasts_S128x256_S1x128x256⟩,
    ⟨r0_2, shapeCast S1x128x256 (tileOut 1#1 (rows (View.ld x1 r0_1)) (rows (View.ld x3 r0_1)) (rows (View.ld x0 r0_2)) (rows (View.ld x1 r0_2)) (rows (View.ld x3 r0_2))) shapeCasts_S128x256_S1x128x256⟩,
    ⟨r0_1, shapeCast S1x128x256 (tileOut b (rows (View.ld x2 r0_0)) (rows (View.ld x4 r0_0)) (rows (View.ld x0 r0_1)) (rows (View.ld x1 r0_1)) (rows (View.ld x3 r0_1))) shapeCasts_S128x256_S1x128x256⟩]

def tilesLse : Vec Ideal S1x512x256 .f32 := View.canon [
    ⟨r0_4, shapeCast S1x128x256 (tileLse 1#1 (rows (View.ld x1 r0_3)) (rows (View.ld x0 r0_4)) (rows (View.ld x1 r0_4))) shapeCasts_S128x256_S1x128x256⟩,
    ⟨r0_3, shapeCast S1x128x256 (tileLse 1#1 (rows (View.ld x1 r0_2)) (rows (View.ld x0 r0_3)) (rows (View.ld x1 r0_3))) shapeCasts_S128x256_S1x128x256⟩,
    ⟨r0_2, shapeCast S1x128x256 (tileLse 1#1 (rows (View.ld x1 r0_1)) (rows (View.ld x0 r0_2)) (rows (View.ld x1 r0_2))) shapeCasts_S128x256_S1x128x256⟩,
    ⟨r0_1, shapeCast S1x128x256 (tileLse b (rows (View.ld x2 r0_0)) (rows (View.ld x0 r0_1)) (rows (View.ld x1 r0_1))) shapeCasts_S128x256_S1x128x256⟩]

/-- The window attention of a grid point's rows: blocks `n` of 128 rows whose tokens are `T n`, and whose previous blocks' tokens are `P n`. -/
def pointOut (q k v : FVec Ideal S16384x4x64 .f32) (T P : Fin 4 → Fin 128 → Fin 16384) (n : Fin 4) (i : Fin 128) (h : Fin 4) (e : Fin 64) : EReal :=
  out (n.val = 0 → b = 1#1) i (fun e => q (ix3 (T n i) h e)) (fun j e => k (ix3 (P n j) h e)) (fun j e => k (ix3 (T n j) h e))
    (fun j => v (ix3 (P n j) h e)) (fun j => v (ix3 (T n j) h e))

def pointLse (q k : FVec Ideal S16384x4x64 .f32) (T P : Fin 4 → Fin 128 → Fin 16384) (n : Fin 4) (i : Fin 128) (h : Fin 4) : EReal :=
  lse (n.val = 0 → b = 1#1) i (fun e => q (ix3 (T n i) h e)) (fun j e => k (ix3 (P n j) h e)) (fun j e => k (ix3 (T n j) h e))

/-- A window's rows are the tokens' of its blocks. -/
def Holds (x : Vec Ideal S1x512x256 .bf16) (X : FVec Ideal S16384x4x64 .f32) (T : Fin 4 → Fin 128 → Fin 16384) : Prop :=
  ∀ (n : Fin 4) (j : Fin 128) (h : Fin 4) (e : Fin 64), x (ix3 0 ⟨n.val * 128 + j.val, by omega⟩ ⟨h.val * 64 + e.val, by omega⟩) = X (ix3 (T n j) h e)

theorem lanes_ld {x : Vec Ideal S1x512x256 .bf16} {X : FVec Ideal S16384x4x64 .f32} {T : Fin 4 → Fin 128 → Fin 16384} (hx : Holds x X T) :
    (lanes (rows (View.ld x r0_1)) h = fun j e => X (ix3 (T 0 j) h e)) ∧ (lanes (rows (View.ld x r0_2)) h = fun j e => X (ix3 (T 1 j) h e))
    ∧ (lanes (rows (View.ld x r0_3)) h = fun j e => X (ix3 (T 2 j) h e)) ∧ lanes (rows (View.ld x r0_4)) h = fun j e => X (ix3 (T 3 j) h e) := by
  refine ⟨?_, ?_, ?_, ?_⟩ <;> funext j e <;> unfold lanes rows <;> pointwise []
  · exact (congrArg (fun a => x (ix3 0 a ⟨h.val * 64 + e.val, by omega⟩)) (Fin.ext (by simp))).trans (hx 0 j h e)
  · exact (congrArg (fun a => x (ix3 0 a ⟨h.val * 64 + e.val, by omega⟩)) (Fin.ext (by simp))).trans (hx 1 j h e)
  · exact (congrArg (fun a => x (ix3 0 a ⟨h.val * 64 + e.val, by omega⟩)) (Fin.ext (by simp))).trans (hx 2 j h e)
  · exact (congrArg (fun a => x (ix3 0 a ⟨h.val * 64 + e.val, by omega⟩)) (Fin.ext (by simp))).trans (hx 3 j h e)

theorem lanes_ld0 {x : Vec Ideal S1x128x256 .bf16} {X : FVec Ideal S16384x4x64 .f32} {P : Fin 4 → Fin 128 → Fin 16384}
    (hx : ∀ (j : Fin 128) (h : Fin 4) (e : Fin 64), x (ix3 0 j ⟨h.val * 64 + e.val, by omega⟩) = X (ix3 (P 0 j) h e)) :
    lanes (rows (View.ld x r0_0)) h = fun j e => X (ix3 (P 0 j) h e) := by
  funext j e
  unfold lanes rows
  pointwise []
  exact hx j h e

/-- A stored block read at its lanes, at an index of the window's rows. -/
theorem tile_read {t : FVec Ideal S128x256 .f32} {G : Fin 128 → Fin 4 → Fin 64 → EReal} (hG : ∀ i h e, t (ix2 i ⟨h.val * 64 + e.val, by omega⟩) = G i h e)
    (x : S1x128x256.Idx) (y1 : Fin 512) (y2 : Fin 256) (o : ℕ) (h1 : y1.val = o * 128 + (x 1).val) (h2 : y2.val = (x 2).val) :
    shapeCast S1x128x256 t shapeCasts_S128x256_S1x128x256 x = G ⟨y1.val % 128, by omega⟩ ⟨y2.val / 64, by omega⟩ ⟨y2.val % 64, by omega⟩ := by
  have x1 : (x 1).val < 128 := (x 1).isLt
  have e1 : (⟨y1.val % 128, by omega⟩ : Fin 128) = x 1 := Fin.ext (by show y1.val % 128 = (x 1).val; omega)
  have e2 : (⟨y2.val / 64 * 64 + y2.val % 64, by omega⟩ : Fin 256) = x 2 := Fin.ext (by show y2.val / 64 * 64 + y2.val % 64 = (x 2).val; omega)
  refine Eq.trans ?_ (hG _ _ _)
  refine Eq.trans (b := t (ix2 (x 1) (x 2))) (by pointwise []) ?_
  exact congrArg₂ (fun a b => t (ix2 a b)) e1.symm e2.symm

variable {b x0 x1 x2 x3 x4} {q k v : FVec Ideal S16384x4x64 .f32} {T P : Fin 4 → Fin 128 → Fin 16384}

variable (hq : Holds x0 q T) (hk : Holds x1 k T) (hv : Holds x3 v T) (hp : P 1 = T 0 ∧ P 2 = T 1 ∧ P 3 = T 2)
  (hkp : ∀ (j : Fin 128) (h : Fin 4) (e : Fin 64), x2 (ix3 0 j ⟨h.val * 64 + e.val, by omega⟩) = k (ix3 (P 0 j) h e))
  (hvp : ∀ (j : Fin 128) (h : Fin 4) (e : Fin 64), x4 (ix3 0 j ⟨h.val * 64 + e.val, by omega⟩) = v (ix3 (P 0 j) h e))
include hq hk hp hkp

/-- The logarithms a grid point leaves. -/
theorem tilesLse_at : tilesLse b x0 x1 x2 = fun y => pointLse b q k T P ⟨(y 1).val / 128, by have : (y 1).val < 512 := (y 1).isLt; omega⟩ ⟨(y 1).val % 128, by omega⟩
      ⟨(y 2).val / 64, by have : (y 2).val < 256 := (y 2).isLt; omega⟩ := by
  obtain ⟨p1, p2, p3⟩ := hp
  funext y
  unfold tilesLse
  canon_tiles x hy using View.cover_of_tiledBy _ ![1, 128, 256] (by sl_kernel_rfl) _
  · refine (tile_read (G := fun i h _ => pointLse b q k T P 3 i h) (fun i h e => ?_) x (y 1) (y 2) 3 (by omega) hy2).trans
      (congrArg (fun n => pointLse b q k T P n _ _) (Fin.ext (by show 3 = (y 1).val / 128; omega)))
    simp only [tileLse_at, lanes_ld h hq, lanes_ld h hk, pointLse, p3]
    exact lse_iff _ _ _ _ (by simp)
  · refine (tile_read (G := fun i h _ => pointLse b q k T P 2 i h) (fun i h e => ?_) x (y 1) (y 2) 2 (by omega) hy2).trans
      (congrArg (fun n => pointLse b q k T P n _ _) (Fin.ext (by show 2 = (y 1).val / 128; omega)))
    simp only [tileLse_at, lanes_ld h hq, lanes_ld h hk, pointLse, p2]
    exact lse_iff _ _ _ _ (by simp)
  · refine (tile_read (G := fun i h _ => pointLse b q k T P 1 i h) (fun i h e => ?_) x (y 1) (y 2) 1 (by omega) hy2).trans
      (congrArg (fun n => pointLse b q k T P n _ _) (Fin.ext (by show 1 = (y 1).val / 128; omega)))
    simp only [tileLse_at, lanes_ld h hq, lanes_ld h hk, pointLse, p1]
    exact lse_iff _ _ _ _ (by simp)
  · refine (tile_read (G := fun i h _ => pointLse b q k T P 0 i h) (fun i h e => ?_) x (y 1) (y 2) 0 (by omega) hy2).trans
      (congrArg (fun n => pointLse b q k T P n _ _) (Fin.ext (by show 0 = (y 1).val / 128; omega)))
    simp only [tileLse_at, lanes_ld h hq, lanes_ld h hk, lanes_ld0 h hkp, pointLse]
    exact lse_iff _ _ _ _ (by simp)

include hv hvp

/-- The outputs a grid point leaves. -/
theorem tilesOut_at : tilesOut b x0 x1 x3 x2 x4 = fun y => pointOut b q k v T P ⟨(y 1).val / 128, by have : (y 1).val < 512 := (y 1).isLt; omega⟩ ⟨(y 1).val % 128, by omega⟩
      ⟨(y 2).val / 64, by have : (y 2).val < 256 := (y 2).isLt; omega⟩ ⟨(y 2).val % 64, by omega⟩ := by
  obtain ⟨p1, p2, p3⟩ := hp
  funext y
  unfold tilesOut
  canon_tiles x hy using View.cover_of_tiledBy _ ![1, 128, 256] (by sl_kernel_rfl) _
  · refine (tile_read (G := fun i h e => pointOut b q k v T P 3 i h e) (fun i h e => ?_) x (y 1) (y 2) 3 (by omega) hy2).trans
      (congrArg (fun n => pointOut b q k v T P n _ _ _) (Fin.ext (by show 3 = (y 1).val / 128; omega)))
    simp only [tileOut_at, lanes_ld h hq, lanes_ld h hk, lanes_ld h hv, pointOut, p3]
    exact out_iff _ _ _ _ _ _ (by simp)
  · refine (tile_read (G := fun i h e => pointOut b q k v T P 2 i h e) (fun i h e => ?_) x (y 1) (y 2) 2 (by omega) hy2).trans
      (congrArg (fun n => pointOut b q k v T P n _ _ _) (Fin.ext (by show 2 = (y 1).val / 128; omega)))
    simp only [tileOut_at, lanes_ld h hq, lanes_ld h hk, lanes_ld h hv, pointOut, p2]
    exact out_iff _ _ _ _ _ _ (by simp)
  · refine (tile_read (G := fun i h e => pointOut b q k v T P 1 i h e) (fun i h e => ?_) x (y 1) (y 2) 1 (by omega) hy2).trans
      (congrArg (fun n => pointOut b q k v T P n _ _ _) (Fin.ext (by show 1 = (y 1).val / 128; omega)))
    simp only [tileOut_at, lanes_ld h hq, lanes_ld h hk, lanes_ld h hv, pointOut, p1]
    exact out_iff _ _ _ _ _ _ (by simp)
  · refine (tile_read (G := fun i h e => pointOut b q k v T P 0 i h e) (fun i h e => ?_) x (y 1) (y 2) 0 (by omega) hy2).trans
      (congrArg (fun n => pointOut b q k v T P n _ _ _) (Fin.ext (by show 0 = (y 1).val / 128; omega)))
    simp only [tileOut_at, lanes_ld h hq, lanes_ld h hk, lanes_ld h hv, lanes_ld0 h hkp, lanes_ld0 h hvp, pointOut]
    exact out_iff _ _ _ _ _ _ (by simp)

end Cert.Fwd16Ideal.Value

end
-- ==== Proof.Fwd16Kernel.lean ====
/- The arrays the forward attention's kernel leaves at dilation 16: its blocks at each grid point, the layout after the call, and the run. -/
module

public import proofs.«01_k».proof.Proof.Gen.Fwd16Ideal.Frame
public import proofs.«01_k».proof.Proof.FwdTile

@[expose] public section

set_option maxRecDepth 65536

noncomputable section

open Idealize.ShloMosaic Idealize.ShloMosaic.TcCoe Idealize.SL.Sem

namespace Cert.Fwd16Ideal.Value

open Cert.Fwd16Ideal Cert.Fwd16Ideal.Gen Cert.Window
open Cert.Fwd16Ideal.Value (tilesOut tilesLse tilesOut_at tilesLse_at pointOut pointLse Holds)

/-- The windows move along the residues and along each residue's rows, the previous block's a block behind. -/
theorem idx : ∀ t : Fin cfg0.N, win0_0.index t = ![t.val / 2, t.val % 2, 0] ∧ win0_1.index t = ![t.val / 2, t.val % 2, 0]
    ∧ win0_2.index t = ![t.val / 2, 4 * (t.val % 2) - 1, 0] ∧ win0_3.index t = ![t.val / 2, t.val % 2, 0]
    ∧ win0_4.index t = ![t.val / 2, 4 * (t.val % 2) - 1, 0] ∧ win0_5.index t = ![t.val / 2, t.val % 2, 0] ∧ win0_6.index t = ![t.val / 2, t.val % 2, 0] :=
  (by decide +kernel : ∀ t : Fin grid0.N, _)

theorem coord : ∀ t : Fin cfg0.N, (grid0.coords t 1).val = t.val % 2 := (by decide +kernel : ∀ t : Fin grid0.N, _)

/-- The kernel's arguments. -/
abbrev a0 (m : (ℓ : Loc nD τ sig) → Buf (Elt Ideal) ℓ) (c : Dev nD) : FVec Ideal S16384x4x64 .f32 := m ((c : Thread nD τ).loc main_arg0)
abbrev a1 (m : (ℓ : Loc nD τ sig) → Buf (Elt Ideal) ℓ) (c : Dev nD) : FVec Ideal S16384x4x64 .f32 := m ((c : Thread nD τ).loc main_arg1)
abbrev a2 (m : (ℓ : Loc nD τ sig) → Buf (Elt Ideal) ℓ) (c : Dev nD) : FVec Ideal S16384x4x64 .f32 := m ((c : Thread nD τ).loc main_arg2)

theorem lt32 (t : Fin cfg0.N) : t.val < 32 := lt_of_lt_of_eq t.isLt (show cfg0.N = 32 from N_0)

/-- A grid point's residue and its blocks. -/
def resAt (t : Fin cfg0.N) : Fin 16 := ⟨t.val / 2, by have := lt32 t; omega⟩
def blockAt (t : Fin cfg0.N) (n : Fin 4) : Fin 8 := ⟨4 * (t.val % 2) + n.val, by omega⟩

/-- Their tokens, and the tokens of the blocks before them. -/
def toks (t : Fin cfg0.N) (n : Fin 4) : Fin 128 → Fin 16384 := tok rfl (resAt t) (blockAt t n)
def toksBefore (t : Fin cfg0.N) (n : Fin 4) : Fin 128 → Fin 16384 := tok rfl (resAt t) (back (blockAt t n))

variable (m : (ℓ : Loc nD τ sig) → Buf (Elt Ideal) ℓ) (c : Dev nD) (t : Fin cfg0.N)

/-- The arguments as the call takes them: the rows of one residue next to each other, the heads beside each other. -/
theorem host_q (r : Fin 16) (p : Fin 1024) (h : Fin 4) (e : Fin 64) : V m c main_v2 (ix3 r p ⟨h.val * 64 + e.val, by omega⟩) = a0 m c (ix3 ⟨p.val * 16 + r.val, by omega⟩ h e) := by
  simp only [V, V0, hostOps0, List.flatten_cons, List.flatten_nil, List.append_nil, List.cons_append, List.nil_append]
  after_results_simp
  pointwise []
  exact congr_ix3 (a0 m c) (by dsimp only <;> omega) (by dsimp only <;> omega) (by dsimp only <;> omega)

theorem host_k (r : Fin 16) (p : Fin 1024) (h : Fin 4) (e : Fin 64) : V m c main_v5 (ix3 r p ⟨h.val * 64 + e.val, by omega⟩) = a1 m c (ix3 ⟨p.val * 16 + r.val, by omega⟩ h e) := by
  simp only [V, V0, hostOps0, List.flatten_cons, List.flatten_nil, List.append_nil, List.cons_append, List.nil_append]
  after_results_simp
  pointwise []
  exact congr_ix3 (a1 m c) (by dsimp only <;> omega) (by dsimp only <;> omega) (by dsimp only <;> omega)

theorem host_v (r : Fin 16) (p : Fin 1024) (h : Fin 4) (e : Fin 64) : V m c main_v8 (ix3 r p ⟨h.val * 64 + e.val, by omega⟩) = a2 m c (ix3 ⟨p.val * 16 + r.val, by omega⟩ h e) := by
  simp only [V, V0, hostOps0, List.flatten_cons, List.flatten_nil, List.append_nil, List.cons_append, List.nil_append]
  after_results_simp
  pointwise []
  exact congr_ix3 (a2 m c) (by dsimp only <;> omega) (by dsimp only <;> omega) (by dsimp only <;> omega)

/-- A grid point's rows in the arrays. -/
def rowAt (n : Fin 4) (j : Fin 128) : Fin 1024 := ⟨t.val % 2 * 512 + (n.val * 128 + j.val), by omega⟩
def rowBefore (j : Fin 128) : Fin 1024 := ⟨(4 * (t.val % 2) - 1) * 128 + j.val, by omega⟩

theorem row_tok (n : Fin 4) (j : Fin 128) : (⟨(rowAt t n j).val * 16 + (resAt t).val, by omega⟩ : Fin 16384) = toks t n j :=
  Fin.ext (by show (t.val % 2 * 512 + (n.val * 128 + j.val)) * 16 + t.val / 2 = ((4 * (t.val % 2) + n.val) * 128 + j.val) * 16 + t.val / 2; omega)

theorem before_tok (j : Fin 128) : (⟨(rowBefore t j).val * 16 + (resAt t).val, by omega⟩ : Fin 16384) = toksBefore t 0 j :=
  Fin.ext (by show ((4 * (t.val % 2) - 1) * 128 + j.val) * 16 + t.val / 2 = ((4 * (t.val % 2) + 0 - 1) * 128 + j.val) * 16 + t.val / 2; omega)

/-- The blocks a grid point reads. -/
theorem blk0 : Holds (iblk m c 0 t) (a0 m c) (toks t) := fun n j h e => by
  rw [← row_tok, ← host_q]
  blk_ext [iblk, idx t, rowAt, resAt]

theorem blk1 : Holds (iblk m c 1 t) (a1 m c) (toks t) := fun n j h e => by
  rw [← row_tok, ← host_k]
  blk_ext [iblk, idx t, rowAt, resAt]

theorem blk3 : Holds (iblk m c 3 t) (a2 m c) (toks t) := fun n j h e => by
  rw [← row_tok, ← host_v]
  blk_ext [iblk, idx t, rowAt, resAt]

theorem blk2 (j : Fin 128) (h : Fin 4) (e : Fin 64) : iblk m c 2 t (ix3 0 j ⟨h.val * 64 + e.val, by omega⟩) = a1 m c (ix3 (toksBefore t 0 j) h e) := by
  rw [← before_tok, ← host_k]
  blk_ext [iblk, idx t, rowBefore, resAt]

theorem blk4 (j : Fin 128) (h : Fin 4) (e : Fin 64) : iblk m c 4 t (ix3 0 j ⟨h.val * 64 + e.val, by omega⟩) = a2 m c (ix3 (toksBefore t 0 j) h e) := by
  rw [← before_tok, ← host_v]
  blk_ext [iblk, idx t, rowBefore, resAt]

theorem before_eq : toksBefore t 1 = toks t 0 ∧ toksBefore t 2 = toks t 1 ∧ toksBefore t 3 = toks t 2 :=
  ⟨congrArg (tok rfl (resAt t)) (Fin.ext rfl), congrArg (tok rfl (resAt t)) (Fin.ext rfl), congrArg (tok rfl (resAt t)) (Fin.ext rfl)⟩

set_option maxHeartbeats 1600000 in
/-- What the body leaves in its two output windows. -/
theorem out5 (g : grid0.Coords) (x0 x1 x3 : Vec Ideal S1x512x256 .bf16) (x2 x4 : Vec Ideal S1x128x256 .bf16) :
    out0_5 g x0 x1 x2 x3 x4 = tilesOut (Scalar.cmpi .sgt (BitVec.ofNat 32 (g 1).val) 0#32) x0 x1 x3 x2 x4 := rfl

set_option maxHeartbeats 1600000 in
theorem out6 (g : grid0.Coords) (x0 x1 x3 : Vec Ideal S1x512x256 .bf16) (x2 x4 : Vec Ideal S1x128x256 .bf16) :
    out0_6 g x0 x1 x2 x3 x4 = tilesLse (Scalar.cmpi .sgt (BitVec.ofNat 32 (g 1).val) 0#32) x0 x1 x2 := rfl

/-- A block has one before it unless it is the first of all. -/
theorem first_iff (n : Fin 4) : (n.val = 0 → Scalar.cmpi .sgt (BitVec.ofNat 32 (grid0.coords t 1).val) 0#32 = 1#1) ↔ 0 < (blockAt t n).val := by
  have h := later ⟨t.val % 2, by omega⟩
  rw [coord]
  show (n.val = 0 → IntOp.cmpi .sgt (BitVec.ofNat 32 (t.val % 2)) 0#32 = 1#1) ↔ 0 < 4 * (t.val % 2) + n.val
  rw [h]
  show (n.val = 0 → 0 < t.val % 2) ↔ _
  omega

/-- The whole output after the call. -/
theorem final5 : (dats m 0 c).arrAt 5 (cfgs 0).N = fun y => attnOut (D := 16) (NB := 8) rfl (a0 m c) (a1 m c) (a2 m c) (y 0)
    ⟨(y 1).val / 128, by have : (y 1).val < 1024 := (y 1).isLt; omega⟩ ⟨(y 1).val % 128, by omega⟩ ⟨(y 2).val / 64, by have : (y 2).val < 256 := (y 2).isLt; omega⟩ ⟨(y 2).val % 64, by omega⟩ := by
  refine (dats m 0 c).arrAt_eq_of_covers 5 _ (by decide +kernel) fun t _ y => ?_
  blk_simp
  rw [after0_5, out5, tilesOut_at (blk0 m c t) (blk1 m c t) (blk3 m c t) (before_eq t) (blk2 m c t) (blk4 m c t)]
  refine (out_iff _ _ _ _ _ _ (first_iff t _)).trans ?_
  refine attnOut_congr rfl (a0 m c) (a1 m c) (a2 m c) (r := resAt t) (n := blockAt t _) (Fin.ext ?_) (Fin.ext ?_) (Fin.ext ?_) (Fin.ext ?_) (Fin.ext ?_)
  all_goals blk_simp [idx t, resAt, blockAt]
  all_goals (try dsimp only) <;> omega

/-- The whole array of logarithms after the call. -/
theorem final6 : (dats m 0 c).arrAt 6 (cfgs 0).N = fun y => attnLse (D := 16) (NB := 8) rfl (a0 m c) (a1 m c) (y 0)
    ⟨(y 1).val / 128, by have : (y 1).val < 1024 := (y 1).isLt; omega⟩ ⟨(y 1).val % 128, by omega⟩ ⟨(y 2).val / 64, by have : (y 2).val < 256 := (y 2).isLt; omega⟩ := by
  refine (dats m 0 c).arrAt_eq_of_covers 6 _ (by decide +kernel) fun t _ y => ?_
  blk_simp
  rw [after0_6, out6, tilesLse_at (blk0 m c t) (blk1 m c t) (before_eq t) (blk2 m c t)]
  refine (lse_iff _ _ _ _ (first_iff t _)).trans ?_
  refine attnLse_congr rfl (a0 m c) (a1 m c) (r := resAt t) (n := blockAt t _) (Fin.ext ?_) (Fin.ext ?_) (Fin.ext ?_) (Fin.ext ?_)
  all_goals blk_simp [idx t, resAt, blockAt]
  all_goals (try dsimp only) <;> omega

/-- The two results of a token: its residue, its block and its row in the block. -/
def outAt (s : Fin 16384) (h : Fin 4) (e : Fin 64) : EReal :=
  attnOut (D := 16) (NB := 8) rfl (a0 m c) (a1 m c) (a2 m c) ⟨s.val % 16, by omega⟩ ⟨s.val / 16 / 128, by omega⟩ ⟨s.val / 16 % 128, by omega⟩ h e

def lseAt (s : Fin 16384) (h : Fin 4) : EReal :=
  attnLse (D := 16) (NB := 8) rfl (a0 m c) (a1 m c) ⟨s.val % 16, by omega⟩ ⟨s.val / 16 / 128, by omega⟩ ⟨s.val / 16 % 128, by omega⟩ h

/-- The results back in the tokens' order. -/
theorem tail11 (s : Fin 16384) (h : Fin 4) (e : Fin 64) : Pipeline.afterTail₀ cfgs (dats m) 0 (V0 m) [hostOps1] c main_v11 (ix3 s h e) = outAt m c s h e := by
  unfold Pipeline.afterTail₀
  simp only [hostOps1, List.flatten_cons, List.flatten_nil, List.append_nil, List.cons_append, List.nil_append]
  after_results_simp
  rw [show Pipeline.withArrays (cfgs 0).spec c (V0 m c) (fun w => (dats m 0 c).arrAt w (cfgs 0).N) (Proc.devRef .tc main_v9_0) = (dats m 0 c).arrAt 5 (cfgs 0).N from
    (dats m 0 c).withArrays_arrAt sharedIn0 (V0 m c) (A_eq m c) 5, final5]
  pointwise []
  refine attnOut_congr rfl (a0 m c) (a1 m c) (a2 m c) (Fin.ext ?_) (Fin.ext ?_) (Fin.ext ?_) (Fin.ext ?_) (Fin.ext ?_)
  all_goals try rfl
  all_goals simp
  all_goals omega

theorem tail15 (s : Fin 16384) (h : Fin 4) : Pipeline.afterTail₀ cfgs (dats m) 0 (V0 m) [hostOps1] c main_v15 (ix2 s h) = lseAt m c s h := by
  unfold Pipeline.afterTail₀
  simp only [hostOps1, List.flatten_cons, List.flatten_nil, List.append_nil, List.cons_append, List.nil_append]
  after_results_simp
  rw [show Pipeline.withArrays (cfgs 0).spec c (V0 m c) (fun w => (dats m 0 c).arrAt w (cfgs 0).N) (Proc.devRef .tc main_v9_1) = (dats m 0 c).arrAt 6 (cfgs 0).N from
    (dats m 0 c).withArrays_arrAt sharedIn0 (V0 m c) (A_eq m c) 6, final6]
  pointwise []
  refine attnLse_congr rfl (a0 m c) (a1 m c) (Fin.ext ?_) (Fin.ext ?_) (Fin.ext ?_) (Fin.ext ?_)
  all_goals try rfl
  all_goals simp
  all_goals omega

/-- Every run of the kernel ends with the outputs and the logarithms, its arguments unchanged. -/
theorem run (ρ : Dev nD → PrngReg) : θ_run defs (onTc (τ := τ) (main (F := Ideal))) ⟨m, fun _ => 0, ρ⟩ fun r => ∀ c : Dev nD,
    r.2.mem ((c.tc : Thread nD τ).loc main_v11) = (fun i => outAt m c (i 0) (i 1) (i 2))
    ∧ r.2.mem ((c.tc : Thread nD τ).loc main_v15) = (fun i => lseAt m c (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun r h c => ⟨((h.1 c).2 main_v11 (by decide)).trans (funext fun i => (congrArg _ (eq_ix3 i)).trans (tail11 m c (i 0) (i 1) (i 2))),
    ((h.1 c).2 main_v15 (by decide)).trans (funext fun i => (congrArg _ (eq_ix2 i)).trans (tail15 m c (i 0) (i 1))), h.2 c⟩) (θ_run_and (run_main m ρ) (unchanged m ρ))

end Cert.Fwd16Ideal.Value

end
-- ==== Proof.FwdRef16.lean ====
/- The reference's windowed attention at dilation 16, element by element. -/
module

public import proofs.«01_k».proof.Proof.Gen.RefFwd16Ideal.Run
public import proofs.«01_k».proof.Proof.Window

@[expose] public section

set_option maxRecDepth 65536

noncomputable section

open Idealize.ShloMosaic Idealize.ShloMosaic.TcCoe

namespace Cert.RefFwd16Ideal.Value

open Cert.RefFwd16Ideal Cert.RefFwd16Ideal.Gen Cert.Window

/-- An argument's rows in blocks: residues, blocks, rows of a block, heads, lanes. -/
def blocks (x : FVec Ideal S16384x4x64 .f32) : FVec Ideal S16x8x128x4x64 .f32 :=
  shapeCast _ (transpose S16x1024x4x64 [1, 0, 2, 3] (shapeCast _ x shapeCasts_S16384x4x64_S1024x16x4x64) transposes_S1024x16x4x64_S16x1024x4x64_1_0_2_3) shapeCasts_S16x1024x4x64_S16x8x128x4x64

/-- Each block behind the block before it, zeros before the first. -/
def both (x : FVec Ideal S16384x4x64 .f32) : FVec Ideal S16x8x256x4x64 .f32 :=
  concatenate S16x8x256x4x64 2 [⟨S16x8x128x4x64, (concatenate S16x8x128x4x64 1 [⟨S16x1x128x4x64, (broadcastInDim S16x1x128x4x64 ![] bcast_S_S16x1x128x4x64 (constant S_ .f32 0x00000000#32))⟩, ⟨S16x7x128x4x64, (extractStridedSlice S16x7x128x4x64 ![0, 0, 0, 0, 0] (blocks x) slices_S16x8x128x4x64_S16x7x128x4x64_0_0_0_0_0)⟩] concatenates_S16x1x128x4x64_S16x7x128x4x64_S16x8x128x4x64_d1)⟩, ⟨S16x8x128x4x64, (blocks x)⟩] concatenates_S16x8x128x4x64_S16x8x128x4x64_S16x8x256x4x64_d2

/-- The keys a query's row may see. -/
def mask : IVec S8x1x128x256 1 :=
  broadcastInDim S8x1x128x256 ![0, 2, 3] bcast_S8x128x256_S8x1x128x256_0_2_3 (andi (broadcastInDim S8x128x256 ![0, 1, 2] bcast_S1x128x256_S8x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S8x128x256 ![0, 1, 2] bcast_S8x1x256_S8x128x256_0_1_2 (ori (broadcastInDim S8x1x256 ![0, 1, 2] bcast_S8x1x1_S8x1x256_0_1_2 (cmpi .sgt (broadcastInDim S8x1x1 ![0] bcast_S8_S8x1x1_0 (iotaInDim S8 32 0)) (broadcastInDim S8x1x1 ![] bcast_S_S8x1x1 (constantI S_ 32 0#32)))) (broadcastInDim S8x1x256 ![0, 1, 2] bcast_S1x1x256_S8x1x256_0_1_2 (cmpi .sge (broadcastInDim S1x1x256 ![1, 2] bcast_S1x256_S1x1x256_1_2 (broadcastInDim S1x256 ![1] bcast_S256_S1x256_1 (iotaInDim S256 32 0))) (broadcastInDim S1x1x256 ![] bcast_S_S1x1x256 (constantI S_ 32 128#32)))))))

def scores (q k : FVec Ideal S16384x4x64 .f32) : FVec Ideal S16x8x4x128x256 .f32 :=
  select (broadcastInDim S16x8x4x128x256 ![1, 2, 3, 4] bcast_S8x1x128x256_S16x8x4x128x256_1_2_3_4 mask) (mulf (Host.dotGeneral dot_S16x8x128x4x64_S16x8x256x4x64_S16x8x4x128x256_4_4_2_2_013_013 none (blocks q) (both k)) (broadcastInDim S16x8x4x128x256 ![] bcast_S_S16x8x4x128x256 (constant S_ .f32 0x3E000000#32))) (broadcastInDim S16x8x4x128x256 ![] bcast_S_S16x8x4x128x256 (id (constant S_ .f32 0xFF800000#32)))

def tops (q k : FVec Ideal S16384x4x64 .f32) : FVec Ideal S16x8x4x128 .f32 :=
  Host.reduce FloatOps.maximumf (scores q k) (constant S_ .f32 0xFF800000#32) reducesTo_S16x8x4x128x256_S16x8x4x128_d4 h_S_

def weights (q k : FVec Ideal S16384x4x64 .f32) : FVec Ideal S16x8x4x128x256 .f32 :=
  Host.exp (subf (scores q k) (broadcastInDim S16x8x4x128x256 ![0, 1, 2, 3, 4] bcast_S16x8x4x128x1_S16x8x4x128x256_0_1_2_3_4 (broadcastInDim S16x8x4x128x1 ![0, 1, 2, 3] bcast_S16x8x4x128_S16x8x4x128x1_0_1_2_3 (tops q k))))

def dens (q k : FVec Ideal S16384x4x64 .f32) : FVec Ideal S16x8x4x128 .f32 :=
  Host.reduceAdd (weights q k) (constant S_ .f32 0x00000000#32) reducesTo_S16x8x4x128x256_S16x8x4x128_d4 h_S_

/-- The largest scores, once more as rows of logarithms' summands. -/
def kept (q k : FVec Ideal S16384x4x64 .f32) : FVec Ideal S16x8x4x128 .f32 :=
  shapeCast _ (broadcastInDim S16x8x4x128x1 ![0, 1, 2, 3] bcast_S16x8x4x128_S16x8x4x128x1_0_1_2_3 (tops q k)) shapeCasts_S16x8x4x128x1_S16x8x4x128

/-- The logarithms of the exponentials' sums, the heads last. -/
def logs (t u : FVec Ideal S16x8x4x128 .f32) : FVec Ideal S16x8x128x4 .f32 :=
  transpose S16x8x128x4 [0, 1, 3, 2] (addf t (Host.log u)) transposes_S16x8x4x128_S16x8x128x4_0_1_3_2

/-- The reference's arguments. -/
abbrev a0 (m : (ℓ : Loc nD τ sig) → Buf (Elt Ideal) ℓ) (c : Dev nD) : FVec Ideal S16384x4x64 .f32 := m ((c.tc : Thread nD τ).loc main_arg0)
abbrev a1 (m : (ℓ : Loc nD τ sig) → Buf (Elt Ideal) ℓ) (c : Dev nD) : FVec Ideal S16384x4x64 .f32 := m ((c.tc : Thread nD τ).loc main_arg1)
abbrev a2 (m : (ℓ : Loc nD τ sig) → Buf (Elt Ideal) ℓ) (c : Dev nD) : FVec Ideal S16384x4x64 .f32 := m ((c.tc : Thread nD τ).loc main_arg2)

/-- The two results, in the parts above. -/
theorem res_out (m : (ℓ : Loc nD τ sig) → Buf (Elt Ideal) ℓ) (c : Dev nD) : res_main_v69 m c =
  shapeCast _ (transpose S1024x16x4x64 [1, 0, 2, 3] (shapeCast _ (Host.divf (transpose S16x8x128x4x64 [0, 1, 4, 2, 3] (Host.dotGeneral dot_S16x8x256x4x64_S16x8x4x128x256_S16x8x4x64x128_2_4_4_3_013_012 none (both (a2 m c)) (weights (a0 m c) (a1 m c))) transposes_S16x8x4x64x128_S16x8x128x4x64_0_1_4_2_3) (broadcastInDim S16x8x128x4x64 ![0, 1, 2, 3, 4] bcast_S16x8x128x4x1_S16x8x128x4x64_0_1_2_3_4 (broadcastInDim S16x8x128x4x1 ![0, 1, 2, 3] bcast_S16x8x128x4_S16x8x128x4x1_0_1_2_3 (transpose S16x8x128x4 [0, 1, 3, 2] (dens (a0 m c) (a1 m c)) transposes_S16x8x4x128_S16x8x128x4_0_1_3_2)))) shapeCasts_S16x8x128x4x64_S16x1024x4x64) transposes_S16x1024x4x64_S1024x16x4x64_1_0_2_3) shapeCasts_S1024x16x4x64_S16384x4x64 := rfl

theorem res_lse (m : (ℓ : Loc nD τ sig) → Buf (Elt Ideal) ℓ) (c : Dev nD) : res_main_v73 m c =
  shapeCast _ (transpose S1024x16x4 [1, 0, 2] (shapeCast _ (logs (kept (a0 m c) (a1 m c)) (dens (a0 m c) (a1 m c))) shapeCasts_S16x8x128x4_S16x1024x4) transposes_S16x1024x4_S1024x16x4_1_0_2) shapeCasts_S1024x16x4_S16384x4 := rfl

variable (x q k v : FVec Ideal S16384x4x64 .f32) (r : Fin 16) (n : Fin 8) (h : Fin 4) (i j : Fin 128) (e : Fin 64)

theorem blocks_at : blocks x (ix5 r n i h e) = x (ix3 (tok rfl r n i) h e) := by
  unfold blocks
  pointwise []
  rfl

theorem both_cur : both x (ix5 r n ⟨128 + j.val, by omega⟩ h e) = x (ix3 (tok rfl r n j) h e) := by
  unfold both
  pointwise []
  exact blocks_at x r n h j e

theorem both_prev (hn : 0 < n.val) : both x (ix5 r n ⟨j.val, by omega⟩ h e) = x (ix3 (tok rfl r (back n) j) h e) := by
  unfold both
  pointwise []
  exact (dif_neg (by omega)).trans (blocks_at x r (back n) h j e)

theorem mask_at (j : Fin 256) : mask (ix4 n 0 i j) = band (IntOp.cmpi .sgt (BitVec.ofNat 32 n.val) 0#32) (BitVec.ofNat 32 i.val) (BitVec.ofNat 32 j.val) := by
  unfold mask
  pointwise []
  rfl

theorem later_at : IntOp.cmpi .sgt (BitVec.ofNat 32 n.val) 0#32 = 1#1 ↔ 0 < n.val := later ⟨n.val, by omega⟩

/-- The previous block's keys as the scores read them. -/
def prevRows (x : FVec Ideal S16384x4x64 .f32) (r : Fin 16) (n : Fin 8) (h : Fin 4) (j : Fin 128) (e : Fin 64) : EReal := both x (ix5 r n ⟨j.val, by omega⟩ h e)

theorem prevRows_eq (hn : 0 < n.val) : prevRows x r n h = fun j e => x (ix3 (tok rfl r (back n) j) h e) :=
  funext fun j => funext fun e => both_prev x r n h j e hn

theorem scores_at (j : Fin 256) : scores q k (ix5 r n h i j) = Scalar.select (mask (ix4 n 0 i j))
    ((∑ e, blocks q (ix5 r n i h e) * both k (ix5 r n j h e)) * Ideal.ofBits .f32 1040187392#32) (Ideal.ofBits .f32 4286578688#32) := by
  unfold scores
  pointwise []
  rfl

theorem scores_cur : scores q k (ix5 r n h i ⟨128 + j.val, by omega⟩)
    = cur i (fun e => q (ix3 (tok rfl r n i) h e)) (fun j e => k (ix3 (tok rfl r n j) h e)) j := by
  rw [scores_at, mask_at, band_cur, select_if, bot_f32]
  simp only [blocks_at, both_cur]
  rfl

theorem scores_prev : scores q k (ix5 r n h i ⟨j.val, by omega⟩)
    = prev (0 < n.val) i (fun e => q (ix3 (tok rfl r n i) h e)) (prevRows k r n h) j := by
  rw [scores_at, mask_at, band_prev, select_if, bot_f32]
  simp only [blocks_at, later_at]
  rfl

theorem top_at : tops q k (ix4 r n h i)
    = Cert.Window.top (0 < n.val) i (fun e => q (ix3 (tok rfl r n i) h e)) (prevRows k r n h) (fun j e => k (ix3 (tok rfl r n j) h e)) := by
  refine Eq.trans (b := Finset.univ.fold max (Ideal.ofBits .f32 4286578688#32) (fun x => scores q k (ix5 r n h i x))) ?_ ?_
  · unfold tops
    pointwise []
  · rw [bot_f32]
    exact top_eq i _ _ _ (fun j => scores_cur q k r n h i j) (fun j => scores_prev q k r n h i j)

theorem weights_at (j : Fin 256) : weights q k (ix5 r n h i j) = Ideal.exp (scores q k (ix5 r n h i j) - tops q k (ix4 r n h i)) := by
  unfold weights
  pointwise []

theorem den_at : dens q k (ix4 r n h i)
    = Cert.Window.den (0 < n.val) i (fun e => q (ix3 (tok rfl r n i) h e)) (prevRows k r n h) (fun j e => k (ix3 (tok rfl r n j) h e)) := by
  refine Eq.trans (b := ∑ x, weights q k (ix5 r n h i x)) ?_ ?_
  · unfold dens
    pointwise []
  · simp only [weights_at, top_at]
    exact den_eq i _ _ _ (fun j => scores_cur q k r n h i j) (fun j => scores_prev q k r n h i j)

theorem logs_at (t u : FVec Ideal S16x8x4x128 .f32) : logs t u (ix4 r n i h) = t (ix4 r n h i) + Ideal.log (u (ix4 r n h i)) := by
  unfold logs
  pointwise []

theorem kept_at : kept q k (ix4 r n h i) = tops q k (ix4 r n h i) := by
  unfold kept
  refine (shapeCast_apply _ _ _ (ix5 r n h i 0) ?_).trans ?_
  · rw [rowMajor_val5 _ _ _ _ _ rfl rfl rfl rfl, rowMajor_val4 _ _ _ _ rfl rfl rfl]
    show r.val * (8 * 4 * 128) + n.val * (4 * 128) + h.val * 128 + i.val * 1 + 0 = r.val * (8 * 4 * 128) + n.val * (4 * 128) + h.val * 128 + i.val
    omega
  · pointwise []

variable (m : (ℓ : Loc nD τ sig) → Buf (Elt Ideal) ℓ) (c : Dev nD) (s : Fin 16384)

/-- A token's residue, block and row. -/
def resOf (s : Fin 16384) : Fin 16 := ⟨s.val % 16, by omega⟩
def blockOf (s : Fin 16384) : Fin 8 := ⟨s.val / 16 / 128, by omega⟩
def rowOf (s : Fin 16384) : Fin 128 := ⟨s.val / 16 % 128, by omega⟩

/-- The reference's output. -/
theorem ref_out : res_main_v69 m c (ix3 s h e) = attnOut rfl (a0 m c) (a1 m c) (a2 m c) (resOf s) (blockOf s) (rowOf s) h e := by
  refine Eq.trans (b := Ideal.div (∑ x, both (a2 m c) (ix5 (resOf s) (blockOf s) x h e) * weights (a0 m c) (a1 m c) (ix5 (resOf s) (blockOf s) h (rowOf s) x))
    (dens (a0 m c) (a1 m c) (ix4 (resOf s) (blockOf s) h (rowOf s)))) ?_ ?_
  · rw [res_out]
    pointwise []
    rfl
  · simp only [weights_at, top_at, den_at]
    refine (out_eq _ _ _ _ _ _ (fun j => scores_cur _ _ _ _ _ _ j) (fun j => scores_prev _ _ _ _ _ _ j) (fun j => both_cur _ _ _ _ j _) (fun j => rfl)).trans ?_
    by_cases hn : 0 < (blockOf s).val
    · simp only [prevRows_eq _ _ _ _ hn, both_prev _ _ _ _ _ _ hn]
      rfl
    · exact out_none _ _ _ _ _ _ hn _ _

/-- The reference's logarithms. -/
theorem ref_lse : res_main_v73 m c (ix2 s h) = attnLse rfl (a0 m c) (a1 m c) (resOf s) (blockOf s) (rowOf s) h := by
  refine Eq.trans (b := logs (kept (a0 m c) (a1 m c)) (dens (a0 m c) (a1 m c)) (ix4 (resOf s) (blockOf s) (rowOf s) h)) ?_ ?_
  · rw [res_lse]
    pointwise []
    rfl
  · rw [logs_at, kept_at, top_at, den_at]
    by_cases hn : 0 < (blockOf s).val
    · rw [prevRows_eq _ _ _ _ hn]
      rfl
    · exact lse_none _ _ _ _ hn _

end Cert.RefFwd16Ideal.Value

end
-- ==== Proof.Claims.Fwd16.lean ====
/- The forward attention at dilation 16: the reference's frame and the equality of the two results. -/
module

public import proofs.«01_k».proof.Defs
public import proofs.«01_k».proof.Proof.Gen.Fwd16.Frame
public import proofs.«01_k».proof.Proof.Fwd16Kernel
public import proofs.«01_k».proof.Proof.FwdRef16
public import Idealize.ShloMosaic.Lib.Claim

@[expose] public section

set_option maxRecDepth 65536

noncomputable section

namespace Cert.Fwd16

open Idealize.ShloMosaic Idealize.SL.Sem

/-- The reference ends with its arguments unchanged and no signal owed. -/
theorem frame_reference : Cert.quiescent_RefFwd16Ideal (hRefFwd16Ideal := Cert.RefFwd16Ideal.Gen.facts) := by
  intro m g _
  exact (θ_run Cert.RefFwd16Ideal.defs _ _).mono
    (fun r h => ⟨fun c => (h c).2.2, Idealize.ShloMosaic.sem_eq_zero_of_no_sems (by decide) r.2⟩) (Cert.RefFwd16Ideal.Value.run m g)

/-- From equal arguments the kernel and the reference end with the same outputs and the same logarithms of the denominators. -/
theorem algebraic : Cert.algebraic_Fwd16Ideal_RefFwd16Ideal (hFwd16Ideal := Cert.Fwd16Ideal.Gen.facts) (hRefFwd16Ideal := Cert.RefFwd16Ideal.Gen.facts) := by
  pair_intro
  · run_from Cert.Fwd16Ideal.Value.run m g
  · refine Idealize.ShloMosaic.θ_run_mono (Cert.RefFwd16Ideal.Value.run m' g') ?_
    intro r hr c
    obtain ⟨e0, e1, ea⟩ := hr c
    refine ⟨e0.trans ?_, e1.trans ?_, ea⟩
    all_goals obtain ⟨h0, h1, h2⟩ := hagree c
    all_goals funext i
    · refine (congrArg _ (eq_ix3 i)).trans ((Cert.RefFwd16Ideal.Value.ref_out (i 1) (i 2) m' c (i 0)).trans ?_)
      simp only [Cert.RefFwd16Ideal.Value.a0, Cert.RefFwd16Ideal.Value.a1, Cert.RefFwd16Ideal.Value.a2, h0, h1, h2]
      rfl
    · refine (congrArg _ (eq_ix2 i)).trans ((Cert.RefFwd16Ideal.Value.ref_lse (i 1) m' c (i 0)).trans ?_)
      simp only [Cert.RefFwd16Ideal.Value.a0, Cert.RefFwd16Ideal.Value.a1, h0, h1]
      rfl

end Cert.Fwd16

end
-- ==== Proof.Fwd4Kernel.lean ====
/- The arrays the forward attention's kernel leaves at dilation 4: its blocks at each grid point, the layout after the call, and the run. -/
module

public import proofs.«01_k».proof.Proof.Gen.Fwd4Ideal.Frame
public import proofs.«01_k».proof.Proof.FwdTile

@[expose] public section

set_option maxRecDepth 65536

noncomputable section

open Idealize.ShloMosaic Idealize.ShloMosaic.TcCoe Idealize.SL.Sem

namespace Cert.Fwd4Ideal.Value

open Cert.Fwd4Ideal Cert.Fwd4Ideal.Gen Cert.Window
open Cert.Fwd16Ideal.Value (tilesOut tilesLse tilesOut_at tilesLse_at pointOut pointLse Holds)

/-- The windows move along the residues and along each residue's rows, the previous block's a block behind. -/
theorem idx : ∀ t : Fin cfg0.N, win0_0.index t = ![t.val / 8, t.val % 8, 0] ∧ win0_1.index t = ![t.val / 8, t.val % 8, 0]
    ∧ win0_2.index t = ![t.val / 8, 4 * (t.val % 8) - 1, 0] ∧ win0_3.index t = ![t.val / 8, t.val % 8, 0]
    ∧ win0_4.index t = ![t.val / 8, 4 * (t.val % 8) - 1, 0] ∧ win0_5.index t = ![t.val / 8, t.val % 8, 0] ∧ win0_6.index t = ![t.val / 8, t.val % 8, 0] :=
  (by decide +kernel : ∀ t : Fin grid0.N, _)

theorem coord : ∀ t : Fin cfg0.N, (grid0.coords t 1).val = t.val % 8 := (by decide +kernel : ∀ t : Fin grid0.N, _)

/-- The kernel's arguments. -/
abbrev a0 (m : (ℓ : Loc nD τ sig) → Buf (Elt Ideal) ℓ) (c : Dev nD) : FVec Ideal S16384x4x64 .f32 := m ((c : Thread nD τ).loc main_arg0)
abbrev a1 (m : (ℓ : Loc nD τ sig) → Buf (Elt Ideal) ℓ) (c : Dev nD) : FVec Ideal S16384x4x64 .f32 := m ((c : Thread nD τ).loc main_arg1)
abbrev a2 (m : (ℓ : Loc nD τ sig) → Buf (Elt Ideal) ℓ) (c : Dev nD) : FVec Ideal S16384x4x64 .f32 := m ((c : Thread nD τ).loc main_arg2)

theorem lt32 (t : Fin cfg0.N) : t.val < 32 := lt_of_lt_of_eq t.isLt (show cfg0.N = 32 from N_0)

/-- A grid point's residue and its blocks. -/
def resAt (t : Fin cfg0.N) : Fin 4 := ⟨t.val / 8, by have := lt32 t; omega⟩
def blockAt (t : Fin cfg0.N) (n : Fin 4) : Fin 32 := ⟨4 * (t.val % 8) + n.val, by omega⟩

/-- Their tokens, and the tokens of the blocks before them. -/
def toks (t : Fin cfg0.N) (n : Fin 4) : Fin 128 → Fin 16384 := tok rfl (resAt t) (blockAt t n)
def toksBefore (t : Fin cfg0.N) (n : Fin 4) : Fin 128 → Fin 16384 := tok rfl (resAt t) (back (blockAt t n))

variable (m : (ℓ : Loc nD τ sig) → Buf (Elt Ideal) ℓ) (c : Dev nD) (t : Fin cfg0.N)

/-- The arguments as the call takes them: the rows of one residue next to each other, the heads beside each other. -/
theorem host_q (r : Fin 4) (p : Fin 4096) (h : Fin 4) (e : Fin 64) : V m c main_v2 (ix3 r p ⟨h.val * 64 + e.val, by omega⟩) = a0 m c (ix3 ⟨p.val * 4 + r.val, by omega⟩ h e) := by
  simp only [V, V0, hostOps0, List.flatten_cons, List.flatten_nil, List.append_nil, List.cons_append, List.nil_append]
  after_results_simp
  pointwise []
  exact congr_ix3 (a0 m c) (by dsimp only <;> omega) (by dsimp only <;> omega) (by dsimp only <;> omega)

theorem host_k (r : Fin 4) (p : Fin 4096) (h : Fin 4) (e : Fin 64) : V m c main_v5 (ix3 r p ⟨h.val * 64 + e.val, by omega⟩) = a1 m c (ix3 ⟨p.val * 4 + r.val, by omega⟩ h e) := by
  simp only [V, V0, hostOps0, List.flatten_cons, List.flatten_nil, List.append_nil, List.cons_append, List.nil_append]
  after_results_simp
  pointwise []
  exact congr_ix3 (a1 m c) (by dsimp only <;> omega) (by dsimp only <;> omega) (by dsimp only <;> omega)

theorem host_v (r : Fin 4) (p : Fin 4096) (h : Fin 4) (e : Fin 64) : V m c main_v8 (ix3 r p ⟨h.val * 64 + e.val, by omega⟩) = a2 m c (ix3 ⟨p.val * 4 + r.val, by omega⟩ h e) := by
  simp only [V, V0, hostOps0, List.flatten_cons, List.flatten_nil, List.append_nil, List.cons_append, List.nil_append]
  after_results_simp
  pointwise []
  exact congr_ix3 (a2 m c) (by dsimp only <;> omega) (by dsimp only <;> omega) (by dsimp only <;> omega)

/-- A grid point's rows in the arrays. -/
def rowAt (n : Fin 4) (j : Fin 128) : Fin 4096 := ⟨t.val % 8 * 512 + (n.val * 128 + j.val), by omega⟩
def rowBefore (j : Fin 128) : Fin 4096 := ⟨(4 * (t.val % 8) - 1) * 128 + j.val, by omega⟩

theorem row_tok (n : Fin 4) (j : Fin 128) : (⟨(rowAt t n j).val * 4 + (resAt t).val, by omega⟩ : Fin 16384) = toks t n j :=
  Fin.ext (by show (t.val % 8 * 512 + (n.val * 128 + j.val)) * 4 + t.val / 8 = ((4 * (t.val % 8) + n.val) * 128 + j.val) * 4 + t.val / 8; omega)

theorem before_tok (j : Fin 128) : (⟨(rowBefore t j).val * 4 + (resAt t).val, by omega⟩ : Fin 16384) = toksBefore t 0 j :=
  Fin.ext (by show ((4 * (t.val % 8) - 1) * 128 + j.val) * 4 + t.val / 8 = ((4 * (t.val % 8) + 0 - 1) * 128 + j.val) * 4 + t.val / 8; omega)

/-- The blocks a grid point reads. -/
theorem blk0 : Holds (iblk m c 0 t) (a0 m c) (toks t) := fun n j h e => by
  rw [← row_tok, ← host_q]
  blk_ext [iblk, idx t, rowAt, resAt]

theorem blk1 : Holds (iblk m c 1 t) (a1 m c) (toks t) := fun n j h e => by
  rw [← row_tok, ← host_k]
  blk_ext [iblk, idx t, rowAt, resAt]

theorem blk3 : Holds (iblk m c 3 t) (a2 m c) (toks t) := fun n j h e => by
  rw [← row_tok, ← host_v]
  blk_ext [iblk, idx t, rowAt, resAt]

theorem blk2 (j : Fin 128) (h : Fin 4) (e : Fin 64) : iblk m c 2 t (ix3 0 j ⟨h.val * 64 + e.val, by omega⟩) = a1 m c (ix3 (toksBefore t 0 j) h e) := by
  rw [← before_tok, ← host_k]
  blk_ext [iblk, idx t, rowBefore, resAt]

theorem blk4 (j : Fin 128) (h : Fin 4) (e : Fin 64) : iblk m c 4 t (ix3 0 j ⟨h.val * 64 + e.val, by omega⟩) = a2 m c (ix3 (toksBefore t 0 j) h e) := by
  rw [← before_tok, ← host_v]
  blk_ext [iblk, idx t, rowBefore, resAt]

theorem before_eq : toksBefore t 1 = toks t 0 ∧ toksBefore t 2 = toks t 1 ∧ toksBefore t 3 = toks t 2 :=
  ⟨congrArg (tok rfl (resAt t)) (Fin.ext rfl), congrArg (tok rfl (resAt t)) (Fin.ext rfl), congrArg (tok rfl (resAt t)) (Fin.ext rfl)⟩

set_option maxHeartbeats 1600000 in
/-- What the body leaves in its two output windows. -/
theorem out5 (g : grid0.Coords) (x0 x1 x3 : Vec Ideal S1x512x256 .bf16) (x2 x4 : Vec Ideal S1x128x256 .bf16) :
    out0_5 g x0 x1 x2 x3 x4 = tilesOut (Scalar.cmpi .sgt (BitVec.ofNat 32 (g 1).val) 0#32) x0 x1 x3 x2 x4 := rfl

set_option maxHeartbeats 1600000 in
theorem out6 (g : grid0.Coords) (x0 x1 x3 : Vec Ideal S1x512x256 .bf16) (x2 x4 : Vec Ideal S1x128x256 .bf16) :
    out0_6 g x0 x1 x2 x3 x4 = tilesLse (Scalar.cmpi .sgt (BitVec.ofNat 32 (g 1).val) 0#32) x0 x1 x2 := rfl

/-- A block has one before it unless it is the first of all. -/
theorem first_iff (n : Fin 4) : (n.val = 0 → Scalar.cmpi .sgt (BitVec.ofNat 32 (grid0.coords t 1).val) 0#32 = 1#1) ↔ 0 < (blockAt t n).val := by
  have h := later ⟨t.val % 8, by omega⟩
  rw [coord]
  show (n.val = 0 → IntOp.cmpi .sgt (BitVec.ofNat 32 (t.val % 8)) 0#32 = 1#1) ↔ 0 < 4 * (t.val % 8) + n.val
  rw [h]
  show (n.val = 0 → 0 < t.val % 8) ↔ _
  omega

/-- The whole output after the call. -/
theorem final5 : (dats m 0 c).arrAt 5 (cfgs 0).N = fun y => attnOut (D := 4) (NB := 32) rfl (a0 m c) (a1 m c) (a2 m c) (y 0)
    ⟨(y 1).val / 128, by have : (y 1).val < 4096 := (y 1).isLt; omega⟩ ⟨(y 1).val % 128, by omega⟩ ⟨(y 2).val / 64, by have : (y 2).val < 256 := (y 2).isLt; omega⟩ ⟨(y 2).val % 64, by omega⟩ := by
  refine (dats m 0 c).arrAt_eq_of_covers 5 _ (by decide +kernel) fun t _ y => ?_
  blk_simp
  rw [after0_5, out5, tilesOut_at (blk0 m c t) (blk1 m c t) (blk3 m c t) (before_eq t) (blk2 m c t) (blk4 m c t)]
  refine (out_iff _ _ _ _ _ _ (first_iff t _)).trans ?_
  refine attnOut_congr rfl (a0 m c) (a1 m c) (a2 m c) (r := resAt t) (n := blockAt t _) (Fin.ext ?_) (Fin.ext ?_) (Fin.ext ?_) (Fin.ext ?_) (Fin.ext ?_)
  all_goals blk_simp [idx t, resAt, blockAt]
  all_goals (try dsimp only) <;> omega

/-- The whole array of logarithms after the call. -/
theorem final6 : (dats m 0 c).arrAt 6 (cfgs 0).N = fun y => attnLse (D := 4) (NB := 32) rfl (a0 m c) (a1 m c) (y 0)
    ⟨(y 1).val / 128, by have : (y 1).val < 4096 := (y 1).isLt; omega⟩ ⟨(y 1).val % 128, by omega⟩ ⟨(y 2).val / 64, by have : (y 2).val < 256 := (y 2).isLt; omega⟩ := by
  refine (dats m 0 c).arrAt_eq_of_covers 6 _ (by decide +kernel) fun t _ y => ?_
  blk_simp
  rw [after0_6, out6, tilesLse_at (blk0 m c t) (blk1 m c t) (before_eq t) (blk2 m c t)]
  refine (lse_iff _ _ _ _ (first_iff t _)).trans ?_
  refine attnLse_congr rfl (a0 m c) (a1 m c) (r := resAt t) (n := blockAt t _) (Fin.ext ?_) (Fin.ext ?_) (Fin.ext ?_) (Fin.ext ?_)
  all_goals blk_simp [idx t, resAt, blockAt]
  all_goals (try dsimp only) <;> omega

/-- The two results of a token: its residue, its block and its row in the block. -/
def outAt (s : Fin 16384) (h : Fin 4) (e : Fin 64) : EReal :=
  attnOut (D := 4) (NB := 32) rfl (a0 m c) (a1 m c) (a2 m c) ⟨s.val % 4, by omega⟩ ⟨s.val / 4 / 128, by omega⟩ ⟨s.val / 4 % 128, by omega⟩ h e

def lseAt (s : Fin 16384) (h : Fin 4) : EReal :=
  attnLse (D := 4) (NB := 32) rfl (a0 m c) (a1 m c) ⟨s.val % 4, by omega⟩ ⟨s.val / 4 / 128, by omega⟩ ⟨s.val / 4 % 128, by omega⟩ h

/-- The results back in the tokens' order. -/
theorem tail11 (s : Fin 16384) (h : Fin 4) (e : Fin 64) : Pipeline.afterTail₀ cfgs (dats m) 0 (V0 m) [hostOps1] c main_v11 (ix3 s h e) = outAt m c s h e := by
  unfold Pipeline.afterTail₀
  simp only [hostOps1, List.flatten_cons, List.flatten_nil, List.append_nil, List.cons_append, List.nil_append]
  after_results_simp
  rw [show Pipeline.withArrays (cfgs 0).spec c (V0 m c) (fun w => (dats m 0 c).arrAt w (cfgs 0).N) (Proc.devRef .tc main_v9_0) = (dats m 0 c).arrAt 5 (cfgs 0).N from
    (dats m 0 c).withArrays_arrAt sharedIn0 (V0 m c) (A_eq m c) 5, final5]
  pointwise []
  refine attnOut_congr rfl (a0 m c) (a1 m c) (a2 m c) (Fin.ext ?_) (Fin.ext ?_) (Fin.ext ?_) (Fin.ext ?_) (Fin.ext ?_)
  all_goals try rfl
  all_goals simp
  all_goals omega

theorem tail15 (s : Fin 16384) (h : Fin 4) : Pipeline.afterTail₀ cfgs (dats m) 0 (V0 m) [hostOps1] c main_v15 (ix2 s h) = lseAt m c s h := by
  unfold Pipeline.afterTail₀
  simp only [hostOps1, List.flatten_cons, List.flatten_nil, List.append_nil, List.cons_append, List.nil_append]
  after_results_simp
  rw [show Pipeline.withArrays (cfgs 0).spec c (V0 m c) (fun w => (dats m 0 c).arrAt w (cfgs 0).N) (Proc.devRef .tc main_v9_1) = (dats m 0 c).arrAt 6 (cfgs 0).N from
    (dats m 0 c).withArrays_arrAt sharedIn0 (V0 m c) (A_eq m c) 6, final6]
  pointwise []
  refine attnLse_congr rfl (a0 m c) (a1 m c) (Fin.ext ?_) (Fin.ext ?_) (Fin.ext ?_) (Fin.ext ?_)
  all_goals try rfl
  all_goals simp
  all_goals omega

/-- Every run of the kernel ends with the outputs and the logarithms, its arguments unchanged. -/
theorem run (ρ : Dev nD → PrngReg) : θ_run defs (onTc (τ := τ) (main (F := Ideal))) ⟨m, fun _ => 0, ρ⟩ fun r => ∀ c : Dev nD,
    r.2.mem ((c.tc : Thread nD τ).loc main_v11) = (fun i => outAt m c (i 0) (i 1) (i 2))
    ∧ r.2.mem ((c.tc : Thread nD τ).loc main_v15) = (fun i => lseAt m c (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun r h c => ⟨((h.1 c).2 main_v11 (by decide)).trans (funext fun i => (congrArg _ (eq_ix3 i)).trans (tail11 m c (i 0) (i 1) (i 2))),
    ((h.1 c).2 main_v15 (by decide)).trans (funext fun i => (congrArg _ (eq_ix2 i)).trans (tail15 m c (i 0) (i 1))), h.2 c⟩) (θ_run_and (run_main m ρ) (unchanged m ρ))

end Cert.Fwd4Ideal.Value

end
-- ==== Proof.FwdRef4.lean ====
/- The reference's windowed attention at dilation 4, element by element. -/
module

public import proofs.«01_k».proof.Proof.Gen.RefFwd4Ideal.Run
public import proofs.«01_k».proof.Proof.Window

@[expose] public section

set_option maxRecDepth 65536

noncomputable section

open Idealize.ShloMosaic Idealize.ShloMosaic.TcCoe

namespace Cert.RefFwd4Ideal.Value

open Cert.RefFwd4Ideal Cert.RefFwd4Ideal.Gen Cert.Window

/-- An argument's rows in blocks: residues, blocks, rows of a block, heads, lanes. -/
def blocks (x : FVec Ideal S16384x4x64 .f32) : FVec Ideal S4x32x128x4x64 .f32 :=
  shapeCast _ (transpose S4x4096x4x64 [1, 0, 2, 3] (shapeCast _ x shapeCasts_S16384x4x64_S4096x4x4x64) transposes_S4096x4x4x64_S4x4096x4x64_1_0_2_3) shapeCasts_S4x4096x4x64_S4x32x128x4x64

/-- Each block behind the block before it, zeros before the first. -/
def both (x : FVec Ideal S16384x4x64 .f32) : FVec Ideal S4x32x256x4x64 .f32 :=
  concatenate S4x32x256x4x64 2 [⟨S4x32x128x4x64, (concatenate S4x32x128x4x64 1 [⟨S4x1x128x4x64, (broadcastInDim S4x1x128x4x64 ![] bcast_S_S4x1x128x4x64 (constant S_ .f32 0x00000000#32))⟩, ⟨S4x31x128x4x64, (extractStridedSlice S4x31x128x4x64 ![0, 0, 0, 0, 0] (blocks x) slices_S4x32x128x4x64_S4x31x128x4x64_0_0_0_0_0)⟩] concatenates_S4x1x128x4x64_S4x31x128x4x64_S4x32x128x4x64_d1)⟩, ⟨S4x32x128x4x64, (blocks x)⟩] concatenates_S4x32x128x4x64_S4x32x128x4x64_S4x32x256x4x64_d2

/-- The keys a query's row may see. -/
def mask : IVec S32x1x128x256 1 :=
  broadcastInDim S32x1x128x256 ![0, 2, 3] bcast_S32x128x256_S32x1x128x256_0_2_3 (andi (broadcastInDim S32x128x256 ![0, 1, 2] bcast_S1x128x256_S32x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S32x128x256 ![0, 1, 2] bcast_S32x1x256_S32x128x256_0_1_2 (ori (broadcastInDim S32x1x256 ![0, 1, 2] bcast_S32x1x1_S32x1x256_0_1_2 (cmpi .sgt (broadcastInDim S32x1x1 ![0] bcast_S32_S32x1x1_0 (iotaInDim S32 32 0)) (broadcastInDim S32x1x1 ![] bcast_S_S32x1x1 (constantI S_ 32 0#32)))) (broadcastInDim S32x1x256 ![0, 1, 2] bcast_S1x1x256_S32x1x256_0_1_2 (cmpi .sge (broadcastInDim S1x1x256 ![1, 2] bcast_S1x256_S1x1x256_1_2 (broadcastInDim S1x256 ![1] bcast_S256_S1x256_1 (iotaInDim S256 32 0))) (broadcastInDim S1x1x256 ![] bcast_S_S1x1x256 (constantI S_ 32 128#32)))))))

def scores (q k : FVec Ideal S16384x4x64 .f32) : FVec Ideal S4x32x4x128x256 .f32 :=
  select (broadcastInDim S4x32x4x128x256 ![1, 2, 3, 4] bcast_S32x1x128x256_S4x32x4x128x256_1_2_3_4 mask) (mulf (Host.dotGeneral dot_S4x32x128x4x64_S4x32x256x4x64_S4x32x4x128x256_4_4_2_2_013_013 none (blocks q) (both k)) (broadcastInDim S4x32x4x128x256 ![] bcast_S_S4x32x4x128x256 (constant S_ .f32 0x3E000000#32))) (broadcastInDim S4x32x4x128x256 ![] bcast_S_S4x32x4x128x256 (id (constant S_ .f32 0xFF800000#32)))

def tops (q k : FVec Ideal S16384x4x64 .f32) : FVec Ideal S4x32x4x128 .f32 :=
  Host.reduce FloatOps.maximumf (scores q k) (constant S_ .f32 0xFF800000#32) reducesTo_S4x32x4x128x256_S4x32x4x128_d4 h_S_

def weights (q k : FVec Ideal S16384x4x64 .f32) : FVec Ideal S4x32x4x128x256 .f32 :=
  Host.exp (subf (scores q k) (broadcastInDim S4x32x4x128x256 ![0, 1, 2, 3, 4] bcast_S4x32x4x128x1_S4x32x4x128x256_0_1_2_3_4 (broadcastInDim S4x32x4x128x1 ![0, 1, 2, 3] bcast_S4x32x4x128_S4x32x4x128x1_0_1_2_3 (tops q k))))

def dens (q k : FVec Ideal S16384x4x64 .f32) : FVec Ideal S4x32x4x128 .f32 :=
  Host.reduceAdd (weights q k) (constant S_ .f32 0x00000000#32) reducesTo_S4x32x4x128x256_S4x32x4x128_d4 h_S_

/-- The largest scores, once more as rows of logarithms' summands. -/
def kept (q k : FVec Ideal S16384x4x64 .f32) : FVec Ideal S4x32x4x128 .f32 :=
  shapeCast _ (broadcastInDim S4x32x4x128x1 ![0, 1, 2, 3] bcast_S4x32x4x128_S4x32x4x128x1_0_1_2_3 (tops q k)) shapeCasts_S4x32x4x128x1_S4x32x4x128

/-- The logarithms of the exponentials' sums, the heads last. -/
def logs (t u : FVec Ideal S4x32x4x128 .f32) : FVec Ideal S4x32x128x4 .f32 :=
  transpose S4x32x128x4 [0, 1, 3, 2] (addf t (Host.log u)) transposes_S4x32x4x128_S4x32x128x4_0_1_3_2

/-- The reference's arguments. -/
abbrev a0 (m : (ℓ : Loc nD τ sig) → Buf (Elt Ideal) ℓ) (c : Dev nD) : FVec Ideal S16384x4x64 .f32 := m ((c.tc : Thread nD τ).loc main_arg0)
abbrev a1 (m : (ℓ : Loc nD τ sig) → Buf (Elt Ideal) ℓ) (c : Dev nD) : FVec Ideal S16384x4x64 .f32 := m ((c.tc : Thread nD τ).loc main_arg1)
abbrev a2 (m : (ℓ : Loc nD τ sig) → Buf (Elt Ideal) ℓ) (c : Dev nD) : FVec Ideal S16384x4x64 .f32 := m ((c.tc : Thread nD τ).loc main_arg2)

/-- The two results, in the parts above. -/
theorem res_out (m : (ℓ : Loc nD τ sig) → Buf (Elt Ideal) ℓ) (c : Dev nD) : res_main_v69 m c =
  shapeCast _ (transpose S4096x4x4x64 [1, 0, 2, 3] (shapeCast _ (Host.divf (transpose S4x32x128x4x64 [0, 1, 4, 2, 3] (Host.dotGeneral dot_S4x32x256x4x64_S4x32x4x128x256_S4x32x4x64x128_2_4_4_3_013_012 none (both (a2 m c)) (weights (a0 m c) (a1 m c))) transposes_S4x32x4x64x128_S4x32x128x4x64_0_1_4_2_3) (broadcastInDim S4x32x128x4x64 ![0, 1, 2, 3, 4] bcast_S4x32x128x4x1_S4x32x128x4x64_0_1_2_3_4 (broadcastInDim S4x32x128x4x1 ![0, 1, 2, 3] bcast_S4x32x128x4_S4x32x128x4x1_0_1_2_3 (transpose S4x32x128x4 [0, 1, 3, 2] (dens (a0 m c) (a1 m c)) transposes_S4x32x4x128_S4x32x128x4_0_1_3_2)))) shapeCasts_S4x32x128x4x64_S4x4096x4x64) transposes_S4x4096x4x64_S4096x4x4x64_1_0_2_3) shapeCasts_S4096x4x4x64_S16384x4x64 := rfl

theorem res_lse (m : (ℓ : Loc nD τ sig) → Buf (Elt Ideal) ℓ) (c : Dev nD) : res_main_v73 m c =
  shapeCast _ (transpose S4096x4x4 [1, 0, 2] (shapeCast _ (logs (kept (a0 m c) (a1 m c)) (dens (a0 m c) (a1 m c))) shapeCasts_S4x32x128x4_S4x4096x4) transposes_S4x4096x4_S4096x4x4_1_0_2) shapeCasts_S4096x4x4_S16384x4 := rfl

variable (x q k v : FVec Ideal S16384x4x64 .f32) (r : Fin 4) (n : Fin 32) (h : Fin 4) (i j : Fin 128) (e : Fin 64)

theorem blocks_at : blocks x (ix5 r n i h e) = x (ix3 (tok rfl r n i) h e) := by
  unfold blocks
  pointwise []
  rfl

theorem both_cur : both x (ix5 r n ⟨128 + j.val, by omega⟩ h e) = x (ix3 (tok rfl r n j) h e) := by
  unfold both
  pointwise []
  exact blocks_at x r n h j e

theorem both_prev (hn : 0 < n.val) : both x (ix5 r n ⟨j.val, by omega⟩ h e) = x (ix3 (tok rfl r (back n) j) h e) := by
  unfold both
  pointwise []
  exact (dif_neg (by omega)).trans (blocks_at x r (back n) h j e)

theorem mask_at (j : Fin 256) : mask (ix4 n 0 i j) = band (IntOp.cmpi .sgt (BitVec.ofNat 32 n.val) 0#32) (BitVec.ofNat 32 i.val) (BitVec.ofNat 32 j.val) := by
  unfold mask
  pointwise []
  rfl

theorem later_at : IntOp.cmpi .sgt (BitVec.ofNat 32 n.val) 0#32 = 1#1 ↔ 0 < n.val := later ⟨n.val, by omega⟩

/-- The previous block's keys as the scores read them. -/
def prevRows (x : FVec Ideal S16384x4x64 .f32) (r : Fin 4) (n : Fin 32) (h : Fin 4) (j : Fin 128) (e : Fin 64) : EReal := both x (ix5 r n ⟨j.val, by omega⟩ h e)

theorem prevRows_eq (hn : 0 < n.val) : prevRows x r n h = fun j e => x (ix3 (tok rfl r (back n) j) h e) :=
  funext fun j => funext fun e => both_prev x r n h j e hn

theorem scores_at (j : Fin 256) : scores q k (ix5 r n h i j) = Scalar.select (mask (ix4 n 0 i j))
    ((∑ e, blocks q (ix5 r n i h e) * both k (ix5 r n j h e)) * Ideal.ofBits .f32 1040187392#32) (Ideal.ofBits .f32 4286578688#32) := by
  unfold scores
  pointwise []
  rfl

theorem scores_cur : scores q k (ix5 r n h i ⟨128 + j.val, by omega⟩)
    = cur i (fun e => q (ix3 (tok rfl r n i) h e)) (fun j e => k (ix3 (tok rfl r n j) h e)) j := by
  rw [scores_at, mask_at, band_cur, select_if, bot_f32]
  simp only [blocks_at, both_cur]
  rfl

theorem scores_prev : scores q k (ix5 r n h i ⟨j.val, by omega⟩)
    = prev (0 < n.val) i (fun e => q (ix3 (tok rfl r n i) h e)) (prevRows k r n h) j := by
  rw [scores_at, mask_at, band_prev, select_if, bot_f32]
  simp only [blocks_at, later_at]
  rfl

theorem top_at : tops q k (ix4 r n h i)
    = Cert.Window.top (0 < n.val) i (fun e => q (ix3 (tok rfl r n i) h e)) (prevRows k r n h) (fun j e => k (ix3 (tok rfl r n j) h e)) := by
  refine Eq.trans (b := Finset.univ.fold max (Ideal.ofBits .f32 4286578688#32) (fun x => scores q k (ix5 r n h i x))) ?_ ?_
  · unfold tops
    pointwise []
  · rw [bot_f32]
    exact top_eq i _ _ _ (fun j => scores_cur q k r n h i j) (fun j => scores_prev q k r n h i j)

theorem weights_at (j : Fin 256) : weights q k (ix5 r n h i j) = Ideal.exp (scores q k (ix5 r n h i j) - tops q k (ix4 r n h i)) := by
  unfold weights
  pointwise []

theorem den_at : dens q k (ix4 r n h i)
    = Cert.Window.den (0 < n.val) i (fun e => q (ix3 (tok rfl r n i) h e)) (prevRows k r n h) (fun j e => k (ix3 (tok rfl r n j) h e)) := by
  refine Eq.trans (b := ∑ x, weights q k (ix5 r n h i x)) ?_ ?_
  · unfold dens
    pointwise []
  · simp only [weights_at, top_at]
    exact den_eq i _ _ _ (fun j => scores_cur q k r n h i j) (fun j => scores_prev q k r n h i j)

theorem logs_at (t u : FVec Ideal S4x32x4x128 .f32) : logs t u (ix4 r n i h) = t (ix4 r n h i) + Ideal.log (u (ix4 r n h i)) := by
  unfold logs
  pointwise []

theorem kept_at : kept q k (ix4 r n h i) = tops q k (ix4 r n h i) := by
  unfold kept
  refine (shapeCast_apply _ _ _ (ix5 r n h i 0) ?_).trans ?_
  · rw [rowMajor_val5 _ _ _ _ _ rfl rfl rfl rfl, rowMajor_val4 _ _ _ _ rfl rfl rfl]
    show r.val * (32 * 4 * 128) + n.val * (4 * 128) + h.val * 128 + i.val * 1 + 0 = r.val * (32 * 4 * 128) + n.val * (4 * 128) + h.val * 128 + i.val
    omega
  · pointwise []

variable (m : (ℓ : Loc nD τ sig) → Buf (Elt Ideal) ℓ) (c : Dev nD) (s : Fin 16384)

/-- A token's residue, block and row. -/
def resOf (s : Fin 16384) : Fin 4 := ⟨s.val % 4, by omega⟩
def blockOf (s : Fin 16384) : Fin 32 := ⟨s.val / 4 / 128, by omega⟩
def rowOf (s : Fin 16384) : Fin 128 := ⟨s.val / 4 % 128, by omega⟩

/-- The reference's output. -/
theorem ref_out : res_main_v69 m c (ix3 s h e) = attnOut rfl (a0 m c) (a1 m c) (a2 m c) (resOf s) (blockOf s) (rowOf s) h e := by
  refine Eq.trans (b := Ideal.div (∑ x, both (a2 m c) (ix5 (resOf s) (blockOf s) x h e) * weights (a0 m c) (a1 m c) (ix5 (resOf s) (blockOf s) h (rowOf s) x))
    (dens (a0 m c) (a1 m c) (ix4 (resOf s) (blockOf s) h (rowOf s)))) ?_ ?_
  · rw [res_out]
    pointwise []
    rfl
  · simp only [weights_at, top_at, den_at]
    refine (out_eq _ _ _ _ _ _ (fun j => scores_cur _ _ _ _ _ _ j) (fun j => scores_prev _ _ _ _ _ _ j) (fun j => both_cur _ _ _ _ j _) (fun j => rfl)).trans ?_
    by_cases hn : 0 < (blockOf s).val
    · simp only [prevRows_eq _ _ _ _ hn, both_prev _ _ _ _ _ _ hn]
      rfl
    · exact out_none _ _ _ _ _ _ hn _ _

/-- The reference's logarithms. -/
theorem ref_lse : res_main_v73 m c (ix2 s h) = attnLse rfl (a0 m c) (a1 m c) (resOf s) (blockOf s) (rowOf s) h := by
  refine Eq.trans (b := logs (kept (a0 m c) (a1 m c)) (dens (a0 m c) (a1 m c)) (ix4 (resOf s) (blockOf s) (rowOf s) h)) ?_ ?_
  · rw [res_lse]
    pointwise []
    rfl
  · rw [logs_at, kept_at, top_at, den_at]
    by_cases hn : 0 < (blockOf s).val
    · rw [prevRows_eq _ _ _ _ hn]
      rfl
    · exact lse_none _ _ _ _ hn _

end Cert.RefFwd4Ideal.Value

end
-- ==== Proof.Claims.Fwd4.lean ====
/- The forward attention at dilation 4: the reference's frame and the equality of the two results. -/
module

public import proofs.«01_k».proof.Defs
public import proofs.«01_k».proof.Proof.Gen.Fwd4.Frame
public import proofs.«01_k».proof.Proof.Fwd4Kernel
public import proofs.«01_k».proof.Proof.FwdRef4
public import Idealize.ShloMosaic.Lib.Claim

@[expose] public section

set_option maxRecDepth 65536

noncomputable section

namespace Cert.Fwd4

open Idealize.ShloMosaic Idealize.SL.Sem

/-- The reference ends with its arguments unchanged and no signal owed. -/
theorem frame_reference : Cert.quiescent_RefFwd4Ideal (hRefFwd4Ideal := Cert.RefFwd4Ideal.Gen.facts) := by
  intro m g _
  exact (θ_run Cert.RefFwd4Ideal.defs _ _).mono
    (fun r h => ⟨fun c => (h c).2.2, Idealize.ShloMosaic.sem_eq_zero_of_no_sems (by decide) r.2⟩) (Cert.RefFwd4Ideal.Value.run m g)

/-- From equal arguments the kernel and the reference end with the same outputs and the same logarithms of the denominators. -/
theorem algebraic : Cert.algebraic_Fwd4Ideal_RefFwd4Ideal (hFwd4Ideal := Cert.Fwd4Ideal.Gen.facts) (hRefFwd4Ideal := Cert.RefFwd4Ideal.Gen.facts) := by
  pair_intro
  · run_from Cert.Fwd4Ideal.Value.run m g
  · refine Idealize.ShloMosaic.θ_run_mono (Cert.RefFwd4Ideal.Value.run m' g') ?_
    intro r hr c
    obtain ⟨e0, e1, ea⟩ := hr c
    refine ⟨e0.trans ?_, e1.trans ?_, ea⟩
    all_goals obtain ⟨h0, h1, h2⟩ := hagree c
    all_goals funext i
    · refine (congrArg _ (eq_ix3 i)).trans ((Cert.RefFwd4Ideal.Value.ref_out (i 1) (i 2) m' c (i 0)).trans ?_)
      simp only [Cert.RefFwd4Ideal.Value.a0, Cert.RefFwd4Ideal.Value.a1, Cert.RefFwd4Ideal.Value.a2, h0, h1, h2]
      rfl
    · refine (congrArg _ (eq_ix2 i)).trans ((Cert.RefFwd4Ideal.Value.ref_lse (i 1) m' c (i 0)).trans ?_)
      simp only [Cert.RefFwd4Ideal.Value.a0, Cert.RefFwd4Ideal.Value.a1, h0, h1]
      rfl

end Cert.Fwd4

end
-- ==== Proof.Fwd1Kernel.lean ====
/- The arrays the forward attention's kernel leaves at dilation 1: its blocks at each grid point, the layout after the call, and the run. -/
module

public import proofs.«01_k».proof.Proof.Gen.Fwd1Ideal.Frame
public import proofs.«01_k».proof.Proof.FwdTile

@[expose] public section

set_option maxRecDepth 65536

noncomputable section

open Idealize.ShloMosaic Idealize.ShloMosaic.TcCoe Idealize.SL.Sem

namespace Cert.Fwd1Ideal.Value

open Cert.Fwd1Ideal Cert.Fwd1Ideal.Gen Cert.Window
open Cert.Fwd16Ideal.Value (tilesOut tilesLse tilesOut_at tilesLse_at pointOut pointLse Holds)

/-- The windows move along the residues and along each residue's rows, the previous block's a block behind. -/
theorem idx : ∀ t : Fin cfg0.N, win0_0.index t = ![t.val / 32, t.val % 32, 0] ∧ win0_1.index t = ![t.val / 32, t.val % 32, 0]
    ∧ win0_2.index t = ![t.val / 32, 4 * (t.val % 32) - 1, 0] ∧ win0_3.index t = ![t.val / 32, t.val % 32, 0]
    ∧ win0_4.index t = ![t.val / 32, 4 * (t.val % 32) - 1, 0] ∧ win0_5.index t = ![t.val / 32, t.val % 32, 0] ∧ win0_6.index t = ![t.val / 32, t.val % 32, 0] :=
  (by decide +kernel : ∀ t : Fin grid0.N, _)

theorem coord : ∀ t : Fin cfg0.N, (grid0.coords t 1).val = t.val % 32 := (by decide +kernel : ∀ t : Fin grid0.N, _)

/-- The kernel's arguments. -/
abbrev a0 (m : (ℓ : Loc nD τ sig) → Buf (Elt Ideal) ℓ) (c : Dev nD) : FVec Ideal S16384x4x64 .f32 := m ((c : Thread nD τ).loc main_arg0)
abbrev a1 (m : (ℓ : Loc nD τ sig) → Buf (Elt Ideal) ℓ) (c : Dev nD) : FVec Ideal S16384x4x64 .f32 := m ((c : Thread nD τ).loc main_arg1)
abbrev a2 (m : (ℓ : Loc nD τ sig) → Buf (Elt Ideal) ℓ) (c : Dev nD) : FVec Ideal S16384x4x64 .f32 := m ((c : Thread nD τ).loc main_arg2)

theorem lt32 (t : Fin cfg0.N) : t.val < 32 := lt_of_lt_of_eq t.isLt (show cfg0.N = 32 from N_0)

/-- A grid point's residue and its blocks. -/
def resAt (t : Fin cfg0.N) : Fin 1 := ⟨t.val / 32, by have := lt32 t; omega⟩
def blockAt (t : Fin cfg0.N) (n : Fin 4) : Fin 128 := ⟨4 * (t.val % 32) + n.val, by omega⟩

/-- Their tokens, and the tokens of the blocks before them. -/
def toks (t : Fin cfg0.N) (n : Fin 4) : Fin 128 → Fin 16384 := tok rfl (resAt t) (blockAt t n)
def toksBefore (t : Fin cfg0.N) (n : Fin 4) : Fin 128 → Fin 16384 := tok rfl (resAt t) (back (blockAt t n))

variable (m : (ℓ : Loc nD τ sig) → Buf (Elt Ideal) ℓ) (c : Dev nD) (t : Fin cfg0.N)

/-- The arguments as the call takes them: the rows of one residue next to each other, the heads beside each other. -/
theorem host_q (r : Fin 1) (p : Fin 16384) (h : Fin 4) (e : Fin 64) : V m c main_v2 (ix3 r p ⟨h.val * 64 + e.val, by omega⟩) = a0 m c (ix3 ⟨p.val * 1 + r.val, by omega⟩ h e) := by
  simp only [V, V0, hostOps0, List.flatten_cons, List.flatten_nil, List.append_nil, List.cons_append, List.nil_append]
  after_results_simp
  pointwise []
  exact congr_ix3 (a0 m c) (by dsimp only <;> omega) (by dsimp only <;> omega) (by dsimp only <;> omega)

theorem host_k (r : Fin 1) (p : Fin 16384) (h : Fin 4) (e : Fin 64) : V m c main_v5 (ix3 r p ⟨h.val * 64 + e.val, by omega⟩) = a1 m c (ix3 ⟨p.val * 1 + r.val, by omega⟩ h e) := by
  simp only [V, V0, hostOps0, List.flatten_cons, List.flatten_nil, List.append_nil, List.cons_append, List.nil_append]
  after_results_simp
  pointwise []
  exact congr_ix3 (a1 m c) (by dsimp only <;> omega) (by dsimp only <;> omega) (by dsimp only <;> omega)

theorem host_v (r : Fin 1) (p : Fin 16384) (h : Fin 4) (e : Fin 64) : V m c main_v8 (ix3 r p ⟨h.val * 64 + e.val, by omega⟩) = a2 m c (ix3 ⟨p.val * 1 + r.val, by omega⟩ h e) := by
  simp only [V, V0, hostOps0, List.flatten_cons, List.flatten_nil, List.append_nil, List.cons_append, List.nil_append]
  after_results_simp
  pointwise []
  exact congr_ix3 (a2 m c) (by dsimp only <;> omega) (by dsimp only <;> omega) (by dsimp only <;> omega)

/-- A grid point's rows in the arrays. -/
def rowAt (n : Fin 4) (j : Fin 128) : Fin 16384 := ⟨t.val % 32 * 512 + (n.val * 128 + j.val), by omega⟩
def rowBefore (j : Fin 128) : Fin 16384 := ⟨(4 * (t.val % 32) - 1) * 128 + j.val, by omega⟩

theorem row_tok (n : Fin 4) (j : Fin 128) : (⟨(rowAt t n j).val * 1 + (resAt t).val, by omega⟩ : Fin 16384) = toks t n j :=
  Fin.ext (by show (t.val % 32 * 512 + (n.val * 128 + j.val)) * 1 + t.val / 32 = ((4 * (t.val % 32) + n.val) * 128 + j.val) * 1 + t.val / 32; omega)

theorem before_tok (j : Fin 128) : (⟨(rowBefore t j).val * 1 + (resAt t).val, by omega⟩ : Fin 16384) = toksBefore t 0 j :=
  Fin.ext (by show ((4 * (t.val % 32) - 1) * 128 + j.val) * 1 + t.val / 32 = ((4 * (t.val % 32) + 0 - 1) * 128 + j.val) * 1 + t.val / 32; omega)

/-- The blocks a grid point reads. -/
theorem blk0 : Holds (iblk m c 0 t) (a0 m c) (toks t) := fun n j h e => by
  rw [← row_tok, ← host_q]
  blk_ext [iblk, idx t, rowAt, resAt]

theorem blk1 : Holds (iblk m c 1 t) (a1 m c) (toks t) := fun n j h e => by
  rw [← row_tok, ← host_k]
  blk_ext [iblk, idx t, rowAt, resAt]

theorem blk3 : Holds (iblk m c 3 t) (a2 m c) (toks t) := fun n j h e => by
  rw [← row_tok, ← host_v]
  blk_ext [iblk, idx t, rowAt, resAt]

theorem blk2 (j : Fin 128) (h : Fin 4) (e : Fin 64) : iblk m c 2 t (ix3 0 j ⟨h.val * 64 + e.val, by omega⟩) = a1 m c (ix3 (toksBefore t 0 j) h e) := by
  rw [← before_tok, ← host_k]
  blk_ext [iblk, idx t, rowBefore, resAt]

theorem blk4 (j : Fin 128) (h : Fin 4) (e : Fin 64) : iblk m c 4 t (ix3 0 j ⟨h.val * 64 + e.val, by omega⟩) = a2 m c (ix3 (toksBefore t 0 j) h e) := by
  rw [← before_tok, ← host_v]
  blk_ext [iblk, idx t, rowBefore, resAt]

theorem before_eq : toksBefore t 1 = toks t 0 ∧ toksBefore t 2 = toks t 1 ∧ toksBefore t 3 = toks t 2 :=
  ⟨congrArg (tok rfl (resAt t)) (Fin.ext rfl), congrArg (tok rfl (resAt t)) (Fin.ext rfl), congrArg (tok rfl (resAt t)) (Fin.ext rfl)⟩

set_option maxHeartbeats 1600000 in
/-- What the body leaves in its two output windows. -/
theorem out5 (g : grid0.Coords) (x0 x1 x3 : Vec Ideal S1x512x256 .bf16) (x2 x4 : Vec Ideal S1x128x256 .bf16) :
    out0_5 g x0 x1 x2 x3 x4 = tilesOut (Scalar.cmpi .sgt (BitVec.ofNat 32 (g 1).val) 0#32) x0 x1 x3 x2 x4 := rfl

set_option maxHeartbeats 1600000 in
theorem out6 (g : grid0.Coords) (x0 x1 x3 : Vec Ideal S1x512x256 .bf16) (x2 x4 : Vec Ideal S1x128x256 .bf16) :
    out0_6 g x0 x1 x2 x3 x4 = tilesLse (Scalar.cmpi .sgt (BitVec.ofNat 32 (g 1).val) 0#32) x0 x1 x2 := rfl

/-- A block has one before it unless it is the first of all. -/
theorem first_iff (n : Fin 4) : (n.val = 0 → Scalar.cmpi .sgt (BitVec.ofNat 32 (grid0.coords t 1).val) 0#32 = 1#1) ↔ 0 < (blockAt t n).val := by
  have h := later ⟨t.val % 32, by omega⟩
  rw [coord]
  show (n.val = 0 → IntOp.cmpi .sgt (BitVec.ofNat 32 (t.val % 32)) 0#32 = 1#1) ↔ 0 < 4 * (t.val % 32) + n.val
  rw [h]
  show (n.val = 0 → 0 < t.val % 32) ↔ _
  omega

/-- The whole output after the call. -/
theorem final5 : (dats m 0 c).arrAt 5 (cfgs 0).N = fun y => attnOut (D := 1) (NB := 128) rfl (a0 m c) (a1 m c) (a2 m c) (y 0)
    ⟨(y 1).val / 128, by have : (y 1).val < 16384 := (y 1).isLt; omega⟩ ⟨(y 1).val % 128, by omega⟩ ⟨(y 2).val / 64, by have : (y 2).val < 256 := (y 2).isLt; omega⟩ ⟨(y 2).val % 64, by omega⟩ := by
  refine (dats m 0 c).arrAt_eq_of_covers 5 _ (by decide +kernel) fun t _ y => ?_
  blk_simp
  rw [after0_5, out5, tilesOut_at (blk0 m c t) (blk1 m c t) (blk3 m c t) (before_eq t) (blk2 m c t) (blk4 m c t)]
  refine (out_iff _ _ _ _ _ _ (first_iff t _)).trans ?_
  refine attnOut_congr rfl (a0 m c) (a1 m c) (a2 m c) (r := resAt t) (n := blockAt t _) (Fin.ext ?_) (Fin.ext ?_) (Fin.ext ?_) (Fin.ext ?_) (Fin.ext ?_)
  all_goals blk_simp [idx t, resAt, blockAt]
  all_goals (try dsimp only) <;> omega

/-- The whole array of logarithms after the call. -/
theorem final6 : (dats m 0 c).arrAt 6 (cfgs 0).N = fun y => attnLse (D := 1) (NB := 128) rfl (a0 m c) (a1 m c) (y 0)
    ⟨(y 1).val / 128, by have : (y 1).val < 16384 := (y 1).isLt; omega⟩ ⟨(y 1).val % 128, by omega⟩ ⟨(y 2).val / 64, by have : (y 2).val < 256 := (y 2).isLt; omega⟩ := by
  refine (dats m 0 c).arrAt_eq_of_covers 6 _ (by decide +kernel) fun t _ y => ?_
  blk_simp
  rw [after0_6, out6, tilesLse_at (blk0 m c t) (blk1 m c t) (before_eq t) (blk2 m c t)]
  refine (lse_iff _ _ _ _ (first_iff t _)).trans ?_
  refine attnLse_congr rfl (a0 m c) (a1 m c) (r := resAt t) (n := blockAt t _) (Fin.ext ?_) (Fin.ext ?_) (Fin.ext ?_) (Fin.ext ?_)
  all_goals blk_simp [idx t, resAt, blockAt]
  all_goals (try dsimp only) <;> omega

/-- The two results of a token: its residue, its block and its row in the block. -/
def outAt (s : Fin 16384) (h : Fin 4) (e : Fin 64) : EReal :=
  attnOut (D := 1) (NB := 128) rfl (a0 m c) (a1 m c) (a2 m c) 0 ⟨s.val / 128, by omega⟩ ⟨s.val % 128, by omega⟩ h e

def lseAt (s : Fin 16384) (h : Fin 4) : EReal :=
  attnLse (D := 1) (NB := 128) rfl (a0 m c) (a1 m c) 0 ⟨s.val / 128, by omega⟩ ⟨s.val % 128, by omega⟩ h

/-- The results back in the tokens' order. -/
theorem tail11 (s : Fin 16384) (h : Fin 4) (e : Fin 64) : Pipeline.afterTail₀ cfgs (dats m) 0 (V0 m) [hostOps1] c main_v11 (ix3 s h e) = outAt m c s h e := by
  unfold Pipeline.afterTail₀
  simp only [hostOps1, List.flatten_cons, List.flatten_nil, List.append_nil, List.cons_append, List.nil_append]
  after_results_simp
  rw [show Pipeline.withArrays (cfgs 0).spec c (V0 m c) (fun w => (dats m 0 c).arrAt w (cfgs 0).N) (Proc.devRef .tc main_v9_0) = (dats m 0 c).arrAt 5 (cfgs 0).N from
    (dats m 0 c).withArrays_arrAt sharedIn0 (V0 m c) (A_eq m c) 5, final5]
  pointwise []
  refine attnOut_congr rfl (a0 m c) (a1 m c) (a2 m c) (Fin.ext ?_) (Fin.ext ?_) (Fin.ext ?_) (Fin.ext ?_) (Fin.ext ?_)
  all_goals try rfl
  all_goals simp
  all_goals omega

theorem tail15 (s : Fin 16384) (h : Fin 4) : Pipeline.afterTail₀ cfgs (dats m) 0 (V0 m) [hostOps1] c main_v15 (ix2 s h) = lseAt m c s h := by
  unfold Pipeline.afterTail₀
  simp only [hostOps1, List.flatten_cons, List.flatten_nil, List.append_nil, List.cons_append, List.nil_append]
  after_results_simp
  rw [show Pipeline.withArrays (cfgs 0).spec c (V0 m c) (fun w => (dats m 0 c).arrAt w (cfgs 0).N) (Proc.devRef .tc main_v9_1) = (dats m 0 c).arrAt 6 (cfgs 0).N from
    (dats m 0 c).withArrays_arrAt sharedIn0 (V0 m c) (A_eq m c) 6, final6]
  pointwise []
  refine attnLse_congr rfl (a0 m c) (a1 m c) (Fin.ext ?_) (Fin.ext ?_) (Fin.ext ?_) (Fin.ext ?_)
  all_goals try rfl
  all_goals simp
  all_goals omega

/-- Every run of the kernel ends with the outputs and the logarithms, its arguments unchanged. -/
theorem run (ρ : Dev nD → PrngReg) : θ_run defs (onTc (τ := τ) (main (F := Ideal))) ⟨m, fun _ => 0, ρ⟩ fun r => ∀ c : Dev nD,
    r.2.mem ((c.tc : Thread nD τ).loc main_v11) = (fun i => outAt m c (i 0) (i 1) (i 2))
    ∧ r.2.mem ((c.tc : Thread nD τ).loc main_v15) = (fun i => lseAt m c (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun r h c => ⟨((h.1 c).2 main_v11 (by decide)).trans (funext fun i => (congrArg _ (eq_ix3 i)).trans (tail11 m c (i 0) (i 1) (i 2))),
    ((h.1 c).2 main_v15 (by decide)).trans (funext fun i => (congrArg _ (eq_ix2 i)).trans (tail15 m c (i 0) (i 1))), h.2 c⟩) (θ_run_and (run_main m ρ) (unchanged m ρ))

end Cert.Fwd1Ideal.Value

end
-- ==== Proof.FwdRef1.lean ====
/- The reference's windowed attention at dilation 1, element by element. -/
module

public import proofs.«01_k».proof.Proof.Gen.RefFwd1Ideal.Run
public import proofs.«01_k».proof.Proof.Window

@[expose] public section

set_option maxRecDepth 65536

noncomputable section

open Idealize.ShloMosaic Idealize.ShloMosaic.TcCoe

namespace Cert.RefFwd1Ideal.Value

open Cert.RefFwd1Ideal Cert.RefFwd1Ideal.Gen Cert.Window

/-- An argument's rows in blocks: residues, blocks, rows of a block, heads, lanes. -/
def blocks (x : FVec Ideal S16384x4x64 .f32) : FVec Ideal S1x128x128x4x64 .f32 :=
  shapeCast _ (transpose S1x16384x4x64 [1, 0, 2, 3] (shapeCast _ x shapeCasts_S16384x4x64_S16384x1x4x64) transposes_S16384x1x4x64_S1x16384x4x64_1_0_2_3) shapeCasts_S1x16384x4x64_S1x128x128x4x64

/-- Each block behind the block before it, zeros before the first. -/
def both (x : FVec Ideal S16384x4x64 .f32) : FVec Ideal S1x128x256x4x64 .f32 :=
  concatenate S1x128x256x4x64 2 [⟨S1x128x128x4x64, (concatenate S1x128x128x4x64 1 [⟨S1x1x128x4x64, (broadcastInDim S1x1x128x4x64 ![] bcast_S_S1x1x128x4x64 (constant S_ .f32 0x00000000#32))⟩, ⟨S1x127x128x4x64, (extractStridedSlice S1x127x128x4x64 ![0, 0, 0, 0, 0] (blocks x) slices_S1x128x128x4x64_S1x127x128x4x64_0_0_0_0_0)⟩] concatenates_S1x1x128x4x64_S1x127x128x4x64_S1x128x128x4x64_d1)⟩, ⟨S1x128x128x4x64, (blocks x)⟩] concatenates_S1x128x128x4x64_S1x128x128x4x64_S1x128x256x4x64_d2

/-- The keys a query's row may see. -/
def mask : IVec S128x1x128x256 1 :=
  broadcastInDim S128x1x128x256 ![0, 2, 3] bcast_S128x128x256_S128x1x128x256_0_2_3 (andi (broadcastInDim S128x128x256 ![0, 1, 2] bcast_S1x128x256_S128x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S128x128x256 ![0, 1, 2] bcast_S128x1x256_S128x128x256_0_1_2 (ori (broadcastInDim S128x1x256 ![0, 1, 2] bcast_S128x1x1_S128x1x256_0_1_2 (cmpi .sgt (broadcastInDim S128x1x1 ![0] bcast_S128_S128x1x1_0 (iotaInDim S128 32 0)) (broadcastInDim S128x1x1 ![] bcast_S_S128x1x1 (constantI S_ 32 0#32)))) (broadcastInDim S128x1x256 ![0, 1, 2] bcast_S1x1x256_S128x1x256_0_1_2 (cmpi .sge (broadcastInDim S1x1x256 ![1, 2] bcast_S1x256_S1x1x256_1_2 (broadcastInDim S1x256 ![1] bcast_S256_S1x256_1 (iotaInDim S256 32 0))) (broadcastInDim S1x1x256 ![] bcast_S_S1x1x256 (constantI S_ 32 128#32)))))))

def scores (q k : FVec Ideal S16384x4x64 .f32) : FVec Ideal S1x128x4x128x256 .f32 :=
  select (broadcastInDim S1x128x4x128x256 ![1, 2, 3, 4] bcast_S128x1x128x256_S1x128x4x128x256_1_2_3_4 mask) (mulf (Host.dotGeneral dot_S1x128x128x4x64_S1x128x256x4x64_S1x128x4x128x256_4_4_2_2_013_013 none (blocks q) (both k)) (broadcastInDim S1x128x4x128x256 ![] bcast_S_S1x128x4x128x256 (constant S_ .f32 0x3E000000#32))) (broadcastInDim S1x128x4x128x256 ![] bcast_S_S1x128x4x128x256 (id (constant S_ .f32 0xFF800000#32)))

def tops (q k : FVec Ideal S16384x4x64 .f32) : FVec Ideal S1x128x4x128 .f32 :=
  Host.reduce FloatOps.maximumf (scores q k) (constant S_ .f32 0xFF800000#32) reducesTo_S1x128x4x128x256_S1x128x4x128_d4 h_S_

def weights (q k : FVec Ideal S16384x4x64 .f32) : FVec Ideal S1x128x4x128x256 .f32 :=
  Host.exp (subf (scores q k) (broadcastInDim S1x128x4x128x256 ![0, 1, 2, 3, 4] bcast_S1x128x4x128x1_S1x128x4x128x256_0_1_2_3_4 (broadcastInDim S1x128x4x128x1 ![0, 1, 2, 3] bcast_S1x128x4x128_S1x128x4x128x1_0_1_2_3 (tops q k))))

def dens (q k : FVec Ideal S16384x4x64 .f32) : FVec Ideal S1x128x4x128 .f32 :=
  Host.reduceAdd (weights q k) (constant S_ .f32 0x00000000#32) reducesTo_S1x128x4x128x256_S1x128x4x128_d4 h_S_

/-- The largest scores, once more as rows of logarithms' summands. -/
def kept (q k : FVec Ideal S16384x4x64 .f32) : FVec Ideal S1x128x4x128 .f32 :=
  shapeCast _ (broadcastInDim S1x128x4x128x1 ![0, 1, 2, 3] bcast_S1x128x4x128_S1x128x4x128x1_0_1_2_3 (tops q k)) shapeCasts_S1x128x4x128x1_S1x128x4x128

/-- The logarithms of the exponentials' sums, the heads last. -/
def logs (t u : FVec Ideal S1x128x4x128 .f32) : FVec Ideal S1x128x128x4 .f32 :=
  transpose S1x128x128x4 [0, 1, 3, 2] (addf t (Host.log u)) transposes_S1x128x4x128_S1x128x128x4_0_1_3_2

/-- The reference's arguments. -/
abbrev a0 (m : (ℓ : Loc nD τ sig) → Buf (Elt Ideal) ℓ) (c : Dev nD) : FVec Ideal S16384x4x64 .f32 := m ((c.tc : Thread nD τ).loc main_arg0)
abbrev a1 (m : (ℓ : Loc nD τ sig) → Buf (Elt Ideal) ℓ) (c : Dev nD) : FVec Ideal S16384x4x64 .f32 := m ((c.tc : Thread nD τ).loc main_arg1)
abbrev a2 (m : (ℓ : Loc nD τ sig) → Buf (Elt Ideal) ℓ) (c : Dev nD) : FVec Ideal S16384x4x64 .f32 := m ((c.tc : Thread nD τ).loc main_arg2)

/-- The two results, in the parts above. -/
theorem res_out (m : (ℓ : Loc nD τ sig) → Buf (Elt Ideal) ℓ) (c : Dev nD) : res_main_v69 m c =
  shapeCast _ (transpose S16384x1x4x64 [1, 0, 2, 3] (shapeCast _ (Host.divf (transpose S1x128x128x4x64 [0, 1, 4, 2, 3] (Host.dotGeneral dot_S1x128x256x4x64_S1x128x4x128x256_S1x128x4x64x128_2_4_4_3_013_012 none (both (a2 m c)) (weights (a0 m c) (a1 m c))) transposes_S1x128x4x64x128_S1x128x128x4x64_0_1_4_2_3) (broadcastInDim S1x128x128x4x64 ![0, 1, 2, 3, 4] bcast_S1x128x128x4x1_S1x128x128x4x64_0_1_2_3_4 (broadcastInDim S1x128x128x4x1 ![0, 1, 2, 3] bcast_S1x128x128x4_S1x128x128x4x1_0_1_2_3 (transpose S1x128x128x4 [0, 1, 3, 2] (dens (a0 m c) (a1 m c)) transposes_S1x128x4x128_S1x128x128x4_0_1_3_2)))) shapeCasts_S1x128x128x4x64_S1x16384x4x64) transposes_S1x16384x4x64_S16384x1x4x64_1_0_2_3) shapeCasts_S16384x1x4x64_S16384x4x64 := rfl

theorem res_lse (m : (ℓ : Loc nD τ sig) → Buf (Elt Ideal) ℓ) (c : Dev nD) : res_main_v73 m c =
  shapeCast _ (transpose S16384x1x4 [1, 0, 2] (shapeCast _ (logs (kept (a0 m c) (a1 m c)) (dens (a0 m c) (a1 m c))) shapeCasts_S1x128x128x4_S1x16384x4) transposes_S1x16384x4_S16384x1x4_1_0_2) shapeCasts_S16384x1x4_S16384x4 := rfl

variable (x q k v : FVec Ideal S16384x4x64 .f32) (n : Fin 128) (h : Fin 4) (i j : Fin 128) (e : Fin 64)

theorem blocks_at : blocks x (ix5 0 n i h e) = x (ix3 (tok rfl (0 : Fin 1) n i) h e) := by
  unfold blocks
  pointwise []
  exact congrArg (fun a => x (ix3 a h e)) (Fin.ext (by show n.val * 128 + i.val = (n.val * 128 + i.val) * 1 + 0; omega))

theorem both_cur : both x (ix5 0 n ⟨128 + j.val, by omega⟩ h e) = x (ix3 (tok rfl (0 : Fin 1) n j) h e) := by
  unfold both
  pointwise []
  exact blocks_at x n h j e

theorem both_prev (hn : 0 < n.val) : both x (ix5 0 n ⟨j.val, by omega⟩ h e) = x (ix3 (tok rfl (0 : Fin 1) (back n) j) h e) := by
  unfold both
  pointwise []
  exact (dif_neg (by omega)).trans (blocks_at x (back n) h j e)

theorem mask_at (j : Fin 256) : mask (ix4 n 0 i j) = band (IntOp.cmpi .sgt (BitVec.ofNat 32 n.val) 0#32) (BitVec.ofNat 32 i.val) (BitVec.ofNat 32 j.val) := by
  unfold mask
  pointwise []
  rfl

theorem later_at : IntOp.cmpi .sgt (BitVec.ofNat 32 n.val) 0#32 = 1#1 ↔ 0 < n.val := later ⟨n.val, by omega⟩

/-- The previous block's keys as the scores read them. -/
def prevRows (x : FVec Ideal S16384x4x64 .f32) (n : Fin 128) (h : Fin 4) (j : Fin 128) (e : Fin 64) : EReal := both x (ix5 0 n ⟨j.val, by omega⟩ h e)

theorem prevRows_eq (hn : 0 < n.val) : prevRows x n h = fun j e => x (ix3 (tok rfl (0 : Fin 1) (back n) j) h e) :=
  funext fun j => funext fun e => both_prev x n h j e hn

theorem scores_at (j : Fin 256) : scores q k (ix5 0 n h i j) = Scalar.select (mask (ix4 n 0 i j))
    ((∑ e, blocks q (ix5 0 n i h e) * both k (ix5 0 n j h e)) * Ideal.ofBits .f32 1040187392#32) (Ideal.ofBits .f32 4286578688#32) := by
  unfold scores
  pointwise []
  rfl

theorem scores_cur : scores q k (ix5 0 n h i ⟨128 + j.val, by omega⟩)
    = cur i (fun e => q (ix3 (tok rfl (0 : Fin 1) n i) h e)) (fun j e => k (ix3 (tok rfl (0 : Fin 1) n j) h e)) j := by
  rw [scores_at, mask_at, band_cur, select_if, bot_f32]
  simp only [blocks_at, both_cur]
  rfl

theorem scores_prev : scores q k (ix5 0 n h i ⟨j.val, by omega⟩)
    = prev (0 < n.val) i (fun e => q (ix3 (tok rfl (0 : Fin 1) n i) h e)) (prevRows k n h) j := by
  rw [scores_at, mask_at, band_prev, select_if, bot_f32]
  simp only [blocks_at, later_at]
  rfl

theorem top_at : tops q k (ix4 0 n h i)
    = Cert.Window.top (0 < n.val) i (fun e => q (ix3 (tok rfl (0 : Fin 1) n i) h e)) (prevRows k n h) (fun j e => k (ix3 (tok rfl (0 : Fin 1) n j) h e)) := by
  refine Eq.trans (b := Finset.univ.fold max (Ideal.ofBits .f32 4286578688#32) (fun x => scores q k (ix5 0 n h i x))) ?_ ?_
  · unfold tops
    pointwise []
  · rw [bot_f32]
    exact top_eq i _ _ _ (fun j => scores_cur q k n h i j) (fun j => scores_prev q k n h i j)

theorem weights_at (j : Fin 256) : weights q k (ix5 0 n h i j) = Ideal.exp (scores q k (ix5 0 n h i j) - tops q k (ix4 0 n h i)) := by
  unfold weights
  pointwise []

theorem den_at : dens q k (ix4 0 n h i)
    = Cert.Window.den (0 < n.val) i (fun e => q (ix3 (tok rfl (0 : Fin 1) n i) h e)) (prevRows k n h) (fun j e => k (ix3 (tok rfl (0 : Fin 1) n j) h e)) := by
  refine Eq.trans (b := ∑ x, weights q k (ix5 0 n h i x)) ?_ ?_
  · unfold dens
    pointwise []
  · simp only [weights_at, top_at]
    exact den_eq i _ _ _ (fun j => scores_cur q k n h i j) (fun j => scores_prev q k n h i j)

theorem logs_at (t u : FVec Ideal S1x128x4x128 .f32) : logs t u (ix4 0 n i h) = t (ix4 0 n h i) + Ideal.log (u (ix4 0 n h i)) := by
  unfold logs
  pointwise []

theorem kept_at : kept q k (ix4 0 n h i) = tops q k (ix4 0 n h i) := by
  unfold kept
  refine (shapeCast_apply _ _ _ (ix5 0 n h i 0) ?_).trans ?_
  · rw [rowMajor_val5 _ _ _ _ _ rfl rfl rfl rfl, rowMajor_val4 _ _ _ _ rfl rfl rfl]
    show 0 * (128 * 4 * 128) + n.val * (4 * 128) + h.val * 128 + i.val * 1 + 0 = 0 * (128 * 4 * 128) + n.val * (4 * 128) + h.val * 128 + i.val
    omega
  · pointwise []

variable (m : (ℓ : Loc nD τ sig) → Buf (Elt Ideal) ℓ) (c : Dev nD) (s : Fin 16384)

/-- A token's block and row. -/
def blockOf (s : Fin 16384) : Fin 128 := ⟨s.val / 128, by omega⟩
def rowOf (s : Fin 16384) : Fin 128 := ⟨s.val % 128, by omega⟩

/-- The reference's output. -/
theorem ref_out : res_main_v69 m c (ix3 s h e) = attnOut rfl (a0 m c) (a1 m c) (a2 m c) (0 : Fin 1) (blockOf s) (rowOf s) h e := by
  refine Eq.trans (b := Ideal.div (∑ x, both (a2 m c) (ix5 0 (blockOf s) x h e) * weights (a0 m c) (a1 m c) (ix5 0 (blockOf s) h (rowOf s) x))
    (dens (a0 m c) (a1 m c) (ix4 0 (blockOf s) h (rowOf s)))) ?_ ?_
  · rw [res_out]
    pointwise []
    rfl
  · simp only [weights_at, top_at, den_at]
    refine (out_eq _ _ _ _ _ _ (fun j => scores_cur _ _ _ _ _ j) (fun j => scores_prev _ _ _ _ _ j) (fun j => both_cur _ _ _ j _) (fun j => rfl)).trans ?_
    by_cases hn : 0 < (blockOf s).val
    · simp only [prevRows_eq _ _ _ hn, both_prev _ _ _ _ _ hn]
      rfl
    · exact out_none _ _ _ _ _ _ hn _ _

/-- The reference's logarithms. -/
theorem ref_lse : res_main_v73 m c (ix2 s h) = attnLse rfl (a0 m c) (a1 m c) (0 : Fin 1) (blockOf s) (rowOf s) h := by
  refine Eq.trans (b := logs (kept (a0 m c) (a1 m c)) (dens (a0 m c) (a1 m c)) (ix4 0 (blockOf s) (rowOf s) h)) ?_ ?_
  · rw [res_lse]
    pointwise []
    rfl
  · rw [logs_at, kept_at, top_at, den_at]
    by_cases hn : 0 < (blockOf s).val
    · rw [prevRows_eq _ _ _ hn]
      rfl
    · exact lse_none _ _ _ _ hn _

end Cert.RefFwd1Ideal.Value

end
-- ==== Proof.Claims.Fwd1.lean ====
/- The forward attention at dilation 1: the reference's frame and the equality of the two results. -/
module

public import proofs.«01_k».proof.Defs
public import proofs.«01_k».proof.Proof.Gen.Fwd1.Frame
public import proofs.«01_k».proof.Proof.Fwd1Kernel
public import proofs.«01_k».proof.Proof.FwdRef1
public import Idealize.ShloMosaic.Lib.Claim

@[expose] public section

set_option maxRecDepth 65536

noncomputable section

namespace Cert.Fwd1

open Idealize.ShloMosaic Idealize.SL.Sem

/-- The reference ends with its arguments unchanged and no signal owed. -/
theorem frame_reference : Cert.quiescent_RefFwd1Ideal (hRefFwd1Ideal := Cert.RefFwd1Ideal.Gen.facts) := by
  intro m g _
  exact (θ_run Cert.RefFwd1Ideal.defs _ _).mono
    (fun r h => ⟨fun c => (h c).2.2, Idealize.ShloMosaic.sem_eq_zero_of_no_sems (by decide) r.2⟩) (Cert.RefFwd1Ideal.Value.run m g)

/-- From equal arguments the kernel and the reference end with the same outputs and the same logarithms of the denominators. -/
theorem algebraic : Cert.algebraic_Fwd1Ideal_RefFwd1Ideal (hFwd1Ideal := Cert.Fwd1Ideal.Gen.facts) (hRefFwd1Ideal := Cert.RefFwd1Ideal.Gen.facts) := by
  pair_intro
  · run_from Cert.Fwd1Ideal.Value.run m g
  · refine Idealize.ShloMosaic.θ_run_mono (Cert.RefFwd1Ideal.Value.run m' g') ?_
    intro r hr c
    obtain ⟨e0, e1, ea⟩ := hr c
    refine ⟨e0.trans ?_, e1.trans ?_, ea⟩
    all_goals obtain ⟨h0, h1, h2⟩ := hagree c
    all_goals funext i
    · refine (congrArg _ (eq_ix3 i)).trans ((Cert.RefFwd1Ideal.Value.ref_out (i 1) (i 2) m' c (i 0)).trans ?_)
      simp only [Cert.RefFwd1Ideal.Value.a0, Cert.RefFwd1Ideal.Value.a1, Cert.RefFwd1Ideal.Value.a2, h0, h1, h2]
      rfl
    · refine (congrArg _ (eq_ix2 i)).trans ((Cert.RefFwd1Ideal.Value.ref_lse (i 1) m' c (i 0)).trans ?_)
      simp only [Cert.RefFwd1Ideal.Value.a0, Cert.RefFwd1Ideal.Value.a1, h0, h1]
      rfl

end Cert.Fwd1

end
-- ==== Proof.Forward.lean ====
/- The row functions of the forward calls with a gate or a norm. -/
module

public import proofs.«01_k».proof.Proof.Norm

@[expose] public section

set_option maxRecDepth 16384

noncomputable section

open Idealize.ShloMosaic
open Cert.Norm

namespace Cert.Forward

/-- A matrix with `a` rows and `b` columns. -/
abbrev Mat (a b : ℕ) := FVec Ideal ⟨2, ![a, b]⟩ .f32

/-- One entry of a product of two matrices. -/
def prod {a k b : ℕ} (x : Mat a k) (w : Mat k b) (r : Fin a) (j : Fin b) : EReal := ∑ i, x (ix2 r i) * w (ix2 i j)

/-- The logistic function. -/
def logistic (x : EReal) : EReal := Ideal.div 1 (1 + Ideal.exp (-x))

/-- Two branches, each under its gate. -/
def gated (ga ya gc yc : EReal) : EReal := logistic ga * ya + logistic gc * yc

/-- A half, as a float constant. -/
abbrev half : EReal := Ideal.ofBits .f32 0x3F000000#32

/-- The feed-forward's residual sum: half of the branch under its gate. -/
def halfSum (x : Mat 16384 1024) (g : Mat 1 1024) (f : Fin 16384 → Fin 1024 → EReal) (r : Fin 16384) (k : Fin 1024) : EReal :=
  x (ix2 r k) + half * g (ix2 0 k) * f r k

/-- The mixer's residual sum: the branch under its gate. -/
def wholeSum (x : Mat 16384 1024) (g : Mat 1 1024) (f : Fin 16384 → Fin 1024 → EReal) (r : Fin 16384) (k : Fin 1024) : EReal :=
  x (ix2 r k) + g (ix2 0 k) * f r k

/-- A normalised row, scaled by its gain, modulated by a scale and a shift. -/
def modulated (x : Fin 1024 → EReal) (g s b : Mat 1 1024) (k : Fin 1024) : EReal :=
  x k * Ideal.rsqrt (ms x) * g (ix2 0 k) * (1 + s (ix2 0 k)) + b (ix2 0 k)

/-- The array's row that is a row of the `t`-th group of 512. -/
def rowIn (t : ℕ) (h : t < 32) (p : Fin 512) : Fin 16384 := ⟨t * 512 + p.val, by omega⟩

end Cert.Forward

end
-- ==== Proof.Up.lean ====
/- The feed-forward's two up projections and their gated product: what the kernel leaves. -/
module

public import proofs.«01_k».proof.Proof.Gen.UpFIdeal.Frame
public import proofs.«01_k».proof.Proof.Forward
public import Idealize.ShloMosaic.Lib.Pipeline.ValueKit

@[expose] public section

set_option maxRecDepth 16384

noncomputable section

open Idealize.ShloMosaic Idealize.ShloMosaic.TcCoe Idealize.SL.Sem
open Cert.Forward

namespace Cert.UpFIdeal.Value

open Cert.UpFIdeal Cert.UpFIdeal.Gen

/-- The grid runs down the rows, once for each half of the columns. -/
theorem idx : ∀ t : Fin cfg0.N, win0_0.index t = ![t.val % 32, 0]
    ∧ win0_1.index t = ![0, t.val / 32]
    ∧ win0_2.index t = ![t.val % 32, 0]
    ∧ win0_3.index t = ![0, t.val / 32]
    ∧ win0_4.index t = ![t.val % 32, t.val / 32]
    ∧ win0_5.index t = ![t.val % 32, t.val / 32]
    ∧ win0_6.index t = ![t.val % 32, t.val / 32] :=
  (by decide +kernel : ∀ t : Fin grid0.N, _)

variable (m : (ℓ : Loc nD τ sig) → Buf (Elt Ideal) ℓ) (c : Dev nD)

/-- The kernel's arguments. -/
abbrev aH : Mat 16384 1024 := m ((c : Thread nD τ).loc main_arg0)
abbrev aWg : Mat 1024 2816 := m ((c : Thread nD τ).loc main_arg1)
abbrev aWu : Mat 1024 2816 := m ((c : Thread nD τ).loc main_arg2)

/-- The array's row a block's row is. -/
def rowAt (t : Fin cfg0.N) (p : Fin 512) : Fin 16384 := rowIn (t.val % 32) (Nat.mod_lt _ (by decide)) p

/-- The array's column a block's column is. -/
def colAt (t : Fin cfg0.N) (k : Fin 1408) : Fin 2816 :=
  ⟨t.val / 32 * 1408 + k.val, by have := lt_of_lt_of_eq t.isLt (show cfg0.N = 64 from N_0); omega⟩

theorem blk0 (t : Fin cfg0.N) (p : Fin 512) (k : Fin 1024) : iblk m c 0 t (ix2 p k) = aH m c (ix2 (rowAt t p) k) := by
  blk_ext [iblk, V, idx t, rowAt, rowIn]

theorem blk1 (t : Fin cfg0.N) (j : Fin 1024) (k : Fin 1408) : iblk m c 1 t (ix2 j k) = aWg m c (ix2 j (colAt t k)) := by
  blk_ext [iblk, V, idx t, colAt]

theorem blk2 (t : Fin cfg0.N) (p : Fin 512) (k : Fin 1024) : iblk m c 2 t (ix2 p k) = aH m c (ix2 (rowAt t p) k) := by
  blk_ext [iblk, V, idx t, rowAt, rowIn]

theorem blk3 (t : Fin cfg0.N) (j : Fin 1024) (k : Fin 1408) : iblk m c 3 t (ix2 j k) = aWu m c (ix2 j (colAt t k)) := by
  blk_ext [iblk, V, idx t, colAt]

/-- A grid point's block of the gate. -/
theorem out4 (t : Fin cfg0.N) (p : Fin 512) (k : Fin 1408) :
    out0_4 (iblk m c 0 t) (iblk m c 1 t) (iblk m c 2 t) (iblk m c 3 t) (ix2 p k) = prod (aH m c) (aWg m c) (rowAt t p) (colAt t k) := by
  frame_out
  open_payloads
  pointwise []
  simp only [blk0, blk1, blk2, blk3]
  rfl

/-- The whole array of the gate after the call. -/
theorem final4 : (dats m 0 c).arrAt 4 (cfgs 0).N = fun i => prod (aH m c) (aWg m c) ((i 0)) (i 1) := by
  refine (dats m 0 c).arrAt_eq_of_covers 4 _ (by decide +kernel) fun t _ y => ?_
  blk_simp
  rw [after0_4]
  refine ((congrArg _ (eq_ix2 y)).trans (out4 m c t (y 0) (y 1))).trans ?_
  exact congrArg₂ (fun r k => prod (aH m c) (aWg m c) (r) k) (Fin.ext (by blk_simp [idx t, rowAt, rowIn, colAt])) (Fin.ext (by blk_simp [idx t, rowAt, rowIn, colAt]))

/-- A grid point's block of the gated half. -/
theorem out5 (t : Fin cfg0.N) (p : Fin 512) (k : Fin 1408) :
    out0_5 (iblk m c 0 t) (iblk m c 1 t) (iblk m c 2 t) (iblk m c 3 t) (ix2 p k) = prod (aH m c) (aWu m c) (rowAt t p) (colAt t k) := by
  frame_out
  open_payloads
  pointwise []
  simp only [blk0, blk1, blk2, blk3]
  rfl

/-- The whole array of the gated half after the call. -/
theorem final5 : (dats m 0 c).arrAt 5 (cfgs 0).N = fun i => prod (aH m c) (aWu m c) ((i 0)) (i 1) := by
  refine (dats m 0 c).arrAt_eq_of_covers 5 _ (by decide +kernel) fun t _ y => ?_
  blk_simp
  rw [after0_5]
  refine ((congrArg _ (eq_ix2 y)).trans (out5 m c t (y 0) (y 1))).trans ?_
  exact congrArg₂ (fun r k => prod (aH m c) (aWu m c) (r) k) (Fin.ext (by blk_simp [idx t, rowAt, rowIn, colAt])) (Fin.ext (by blk_simp [idx t, rowAt, rowIn, colAt]))

/-- A grid point's block of the gated product. -/
theorem out6 (t : Fin cfg0.N) (p : Fin 512) (k : Fin 1408) :
    out0_6 (iblk m c 0 t) (iblk m c 1 t) (iblk m c 2 t) (iblk m c 3 t) (ix2 p k) = prod (aH m c) (aWg m c) (rowAt t p) (colAt t k) * logistic (prod (aH m c) (aWg m c) (rowAt t p) (colAt t k)) * prod (aH m c) (aWu m c) (rowAt t p) (colAt t k) := by
  frame_out
  open_payloads
  pointwise []
  simp only [blk0, blk1, blk2, blk3, zero_sub]
  rfl

/-- The whole array of the gated product after the call. -/
theorem final6 : (dats m 0 c).arrAt 6 (cfgs 0).N = fun i => prod (aH m c) (aWg m c) ((i 0)) (i 1) * logistic (prod (aH m c) (aWg m c) ((i 0)) (i 1)) * prod (aH m c) (aWu m c) ((i 0)) (i 1) := by
  refine (dats m 0 c).arrAt_eq_of_covers 6 _ (by decide +kernel) fun t _ y => ?_
  blk_simp
  rw [after0_6]
  refine ((congrArg _ (eq_ix2 y)).trans (out6 m c t (y 0) (y 1))).trans ?_
  exact congrArg₂ (fun r k => prod (aH m c) (aWg m c) (r) k * logistic (prod (aH m c) (aWg m c) (r) k) * prod (aH m c) (aWu m c) (r) k) (Fin.ext (by blk_simp [idx t, rowAt, rowIn, colAt])) (Fin.ext (by blk_simp [idx t, rowAt, rowIn, colAt]))

end Cert.UpFIdeal.Value

end
-- ==== Proof.Claims.Up.lean ====
/- The up projections: the frames and the equality of the results. -/
module

public import proofs.«01_k».proof.Defs
public import proofs.«01_k».proof.Proof.Gen.UpF.Frame
public import proofs.«01_k».proof.Proof.Gen.UpFIdeal.Value
public import proofs.«01_k».proof.Proof.Gen.RefUpFIdeal.Run
public import proofs.«01_k».proof.Proof.Up
public import Idealize.ShloMosaic.Lib.Claim

@[expose] public section

set_option maxRecDepth 16384

noncomputable section

open Idealize.ShloMosaic Idealize.SL.Sem

namespace Cert.Up

/-- The reference ends with its arguments unchanged and no signal owed. -/
theorem frame_reference : Cert.quiescent_RefUpFIdeal (hRefUpFIdeal := Cert.RefUpFIdeal.Gen.facts) := by
  intro m g _
  exact (θ_run Cert.RefUpFIdeal.defs _ _).mono
    (fun r h => ⟨fun c => (h c).2.2.2, Idealize.ShloMosaic.sem_eq_zero_of_no_sems (by decide) r.2⟩) (Cert.RefUpFIdeal.Value.run m g)

/-- From equal arguments the kernel and the reference end with the same gate, gated half and product. -/
theorem algebraic : Cert.algebraic_UpFIdeal_RefUpFIdeal (hUpFIdeal := Cert.UpFIdeal.Gen.facts)
    (hRefUpFIdeal := Cert.RefUpFIdeal.Gen.facts) := by
  pair_intro
  · run_from Cert.UpFIdeal.Gen.run_main m g
  · run_from Cert.RefUpFIdeal.Value.run m' g'
    · refine Eq.trans ?_ (Cert.UpFIdeal.Value.final4 m c).symm
      funext i
      obtain ⟨r, k, rfl⟩ : ∃ r k, i = ix2 r k := ⟨_, _, eq_ix2 i⟩
      pointwise []
      rfl
    · refine Eq.trans ?_ (Cert.UpFIdeal.Value.final5 m c).symm
      funext i
      obtain ⟨r, k, rfl⟩ : ∃ r k, i = ix2 r k := ⟨_, _, eq_ix2 i⟩
      pointwise []
      rfl
    · refine Eq.trans ?_ (Cert.UpFIdeal.Value.final6 m c).symm
      funext i
      obtain ⟨r, k, rfl⟩ : ∃ r k, i = ix2 r k := ⟨_, _, eq_ix2 i⟩
      pointwise []
      rfl

end Cert.Up

end
-- ==== Proof.Branch.lean ====
/- The two branches' projections and their gated sum: what the kernel leaves. -/
module

public import proofs.«01_k».proof.Proof.Gen.BranchFIdeal.Frame
public import proofs.«01_k».proof.Proof.Forward
public import Idealize.ShloMosaic.Lib.Pipeline.ValueKit

@[expose] public section

set_option maxRecDepth 16384

noncomputable section

open Idealize.ShloMosaic Idealize.ShloMosaic.TcCoe Idealize.SL.Sem
open Cert.Forward

namespace Cert.BranchFIdeal.Value

open Cert.BranchFIdeal Cert.BranchFIdeal.Gen

/-- The row windows move down the rows with the grid point; the weights stay. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0]
    ∧ win0_6.index t = ![t.val, 0]
    ∧ win0_7.index t = ![t.val, 0]
    ∧ win0_8.index t = ![t.val, 0] :=
  (by decide +kernel : ∀ t : Fin grid0.N, _)

variable (m : (ℓ : Loc nD τ sig) → Buf (Elt Ideal) ℓ) (c : Dev nD)

/-- The kernel's arguments. -/
abbrev aO : Mat 16384 256 := m ((c : Thread nD τ).loc main_arg0)
abbrev aWo : Mat 256 1024 := m ((c : Thread nD τ).loc main_arg1)
abbrev aA : Mat 16384 1024 := m ((c : Thread nD τ).loc main_arg2)
abbrev aWc : Mat 1024 1024 := m ((c : Thread nD τ).loc main_arg3)
abbrev aGa : Mat 16384 1024 := m ((c : Thread nD τ).loc main_arg4)
abbrev aGc : Mat 16384 1024 := m ((c : Thread nD τ).loc main_arg5)

/-- The array's row a block's row is. -/
def rowAt (t : Fin cfg0.N) (p : Fin 512) : Fin 16384 := rowIn t.val (lt_of_lt_of_eq t.isLt (show cfg0.N = 32 from N_0)) p

theorem blk0 (t : Fin cfg0.N) (p : Fin 512) (k : Fin 256) : iblk m c 0 t (ix2 p k) = aO m c (ix2 (rowAt t p) k) := by
  blk_ext [iblk, V, idx t, rowAt, rowIn]

theorem blk1 (t : Fin cfg0.N) (j : Fin 256) (k : Fin 1024) : iblk m c 1 t (ix2 j k) = aWo m c (ix2 j k) := by
  blk_ext [iblk, V, idx t]

theorem blk2 (t : Fin cfg0.N) (p : Fin 512) (k : Fin 1024) : iblk m c 2 t (ix2 p k) = aA m c (ix2 (rowAt t p) k) := by
  blk_ext [iblk, V, idx t, rowAt, rowIn]

theorem blk3 (t : Fin cfg0.N) (j : Fin 1024) (k : Fin 1024) : iblk m c 3 t (ix2 j k) = aWc m c (ix2 j k) := by
  blk_ext [iblk, V, idx t]

theorem blk4 (t : Fin cfg0.N) (p : Fin 512) (k : Fin 1024) : iblk m c 4 t (ix2 p k) = aGa m c (ix2 (rowAt t p) k) := by
  blk_ext [iblk, V, idx t, rowAt, rowIn]

theorem blk5 (t : Fin cfg0.N) (p : Fin 512) (k : Fin 1024) : iblk m c 5 t (ix2 p k) = aGc m c (ix2 (rowAt t p) k) := by
  blk_ext [iblk, V, idx t, rowAt, rowIn]

/-- A grid point's block of the gated sum. -/
theorem out6 (t : Fin cfg0.N) (p : Fin 512) (k : Fin 1024) :
    out0_6 (iblk m c 0 t) (iblk m c 1 t) (iblk m c 2 t) (iblk m c 3 t) (iblk m c 4 t) (iblk m c 5 t) (ix2 p k) = gated (aGa m c (ix2 (rowAt t p) k)) (prod (aO m c) (aWo m c) (rowAt t p) k) (aGc m c (ix2 (rowAt t p) k)) (prod (aA m c) (aWc m c) (rowAt t p) k) := by
  frame_out
  open_payloads
  pointwise []
  simp only [blk0, blk1, blk2, blk3, blk4, blk5, zero_sub]
  rfl

/-- The whole array of the gated sum after the call. -/
theorem final6 : (dats m 0 c).arrAt 6 (cfgs 0).N = fun i => gated (aGa m c (ix2 ((i 0)) (i 1))) (prod (aO m c) (aWo m c) ((i 0)) (i 1)) (aGc m c (ix2 ((i 0)) (i 1))) (prod (aA m c) (aWc m c) ((i 0)) (i 1)) := by
  refine (dats m 0 c).arrAt_eq_of_covers 6 _ (by decide +kernel) fun t _ y => ?_
  blk_simp
  rw [after0_6]
  refine ((congrArg _ (eq_ix2 y)).trans (out6 m c t (y 0) (y 1))).trans ?_
  exact congrArg₂ (fun r k => gated (aGa m c (ix2 (r) k)) (prod (aO m c) (aWo m c) (r) k) (aGc m c (ix2 (r) k)) (prod (aA m c) (aWc m c) (r) k)) (Fin.ext (by blk_simp [idx t, rowAt, rowIn])) (Fin.ext (by blk_simp [idx t, rowAt, rowIn]))

/-- A grid point's block of the first branch. -/
theorem out7 (t : Fin cfg0.N) (p : Fin 512) (k : Fin 1024) :
    out0_7 (iblk m c 0 t) (iblk m c 1 t) (iblk m c 2 t) (iblk m c 3 t) (iblk m c 4 t) (iblk m c 5 t) (ix2 p k) = prod (aO m c) (aWo m c) (rowAt t p) k := by
  frame_out
  open_payloads
  pointwise []
  simp only [blk0, blk1, blk2, blk3, blk4, blk5]
  rfl

/-- The whole array of the first branch after the call. -/
theorem final7 : (dats m 0 c).arrAt 7 (cfgs 0).N = fun i => prod (aO m c) (aWo m c) ((i 0)) (i 1) := by
  refine (dats m 0 c).arrAt_eq_of_covers 7 _ (by decide +kernel) fun t _ y => ?_
  blk_simp
  rw [after0_7]
  refine ((congrArg _ (eq_ix2 y)).trans (out7 m c t (y 0) (y 1))).trans ?_
  exact congrArg₂ (fun r k => prod (aO m c) (aWo m c) (r) k) (Fin.ext (by blk_simp [idx t, rowAt, rowIn])) (Fin.ext (by blk_simp [idx t, rowAt, rowIn]))

/-- A grid point's block of the second branch. -/
theorem out8 (t : Fin cfg0.N) (p : Fin 512) (k : Fin 1024) :
    out0_8 (iblk m c 0 t) (iblk m c 1 t) (iblk m c 2 t) (iblk m c 3 t) (iblk m c 4 t) (iblk m c 5 t) (ix2 p k) = prod (aA m c) (aWc m c) (rowAt t p) k := by
  frame_out
  open_payloads
  pointwise []
  simp only [blk0, blk1, blk2, blk3, blk4, blk5]
  rfl

/-- The whole array of the second branch after the call. -/
theorem final8 : (dats m 0 c).arrAt 8 (cfgs 0).N = fun i => prod (aA m c) (aWc m c) ((i 0)) (i 1) := by
  refine (dats m 0 c).arrAt_eq_of_covers 8 _ (by decide +kernel) fun t _ y => ?_
  blk_simp
  rw [after0_8]
  refine ((congrArg _ (eq_ix2 y)).trans (out8 m c t (y 0) (y 1))).trans ?_
  exact congrArg₂ (fun r k => prod (aA m c) (aWc m c) (r) k) (Fin.ext (by blk_simp [idx t, rowAt, rowIn])) (Fin.ext (by blk_simp [idx t, rowAt, rowIn]))

end Cert.BranchFIdeal.Value

end
-- ==== Proof.Claims.Branch.lean ====
/- The gated branches: the frames and the equality of the results. -/
module

public import proofs.«01_k».proof.Defs
public import proofs.«01_k».proof.Proof.Gen.BranchF.Frame
public import proofs.«01_k».proof.Proof.Gen.BranchFIdeal.Value
public import proofs.«01_k».proof.Proof.Gen.RefBranchFIdeal.Run
public import proofs.«01_k».proof.Proof.Branch
public import Idealize.ShloMosaic.Lib.Claim

@[expose] public section

set_option maxRecDepth 16384

noncomputable section

open Idealize.ShloMosaic Idealize.SL.Sem

namespace Cert.Branch

/-- The reference ends with its arguments unchanged and no signal owed. -/
theorem frame_reference : Cert.quiescent_RefBranchFIdeal (hRefBranchFIdeal := Cert.RefBranchFIdeal.Gen.facts) := by
  intro m g _
  exact (θ_run Cert.RefBranchFIdeal.defs _ _).mono
    (fun r h => ⟨fun c => (h c).2.2.2, Idealize.ShloMosaic.sem_eq_zero_of_no_sems (by decide) r.2⟩) (Cert.RefBranchFIdeal.Value.run m g)

/-- From equal arguments the kernel and the reference end with the same gated sum and the same two branches. -/
theorem algebraic : Cert.algebraic_BranchFIdeal_RefBranchFIdeal (hBranchFIdeal := Cert.BranchFIdeal.Gen.facts)
    (hRefBranchFIdeal := Cert.RefBranchFIdeal.Gen.facts) := by
  pair_intro
  · run_from Cert.BranchFIdeal.Gen.run_main m g
  · run_from Cert.RefBranchFIdeal.Value.run m' g'
    · refine Eq.trans ?_ (Cert.BranchFIdeal.Value.final6 m c).symm
      funext i
      obtain ⟨r, k, rfl⟩ : ∃ r k, i = ix2 r k := ⟨_, _, eq_ix2 i⟩
      pointwise []
      rfl
    · refine Eq.trans ?_ (Cert.BranchFIdeal.Value.final7 m c).symm
      funext i
      obtain ⟨r, k, rfl⟩ : ∃ r k, i = ix2 r k := ⟨_, _, eq_ix2 i⟩
      pointwise []
      rfl
    · refine Eq.trans ?_ (Cert.BranchFIdeal.Value.final8 m c).symm
      funext i
      obtain ⟨r, k, rfl⟩ : ∃ r k, i = ix2 r k := ⟨_, _, eq_ix2 i⟩
      pointwise []
      rfl

end Cert.Branch

end
-- ==== Proof.Down.lean ====
/- The feed-forward's down projection with its residual sum and the next norm: what the kernel leaves. -/
module

public import proofs.«01_k».proof.Proof.Gen.DownFIdeal.Frame
public import proofs.«01_k».proof.Proof.Forward
public import Idealize.ShloMosaic.Lib.Pipeline.ValueKit

@[expose] public section

set_option maxRecDepth 16384

noncomputable section

open Idealize.ShloMosaic Idealize.ShloMosaic.TcCoe Idealize.SL.Sem
open Cert.Forward

namespace Cert.DownFIdeal.Value

open Cert.DownFIdeal Cert.DownFIdeal.Gen

/-- The row windows move down the rows with the grid point; the weights and the vectors stay. -/
theorem idx : ∀ t : Fin cfg0.N, win0_0.index t = ![t.val, 0]
    ∧ win0_1.index t = ![0, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![t.val, 0]
    ∧ win0_8.index t = ![t.val, 0]
    ∧ win0_9.index t = ![t.val, 0] :=
  (by decide +kernel : ∀ t : Fin grid0.N, _)

variable (m : (ℓ : Loc nD τ sig) → Buf (Elt Ideal) ℓ) (c : Dev nD)

/-- The kernel's arguments. -/
abbrev aT : Mat 16384 2816 := m ((c : Thread nD τ).loc main_arg0)
abbrev aW : Mat 2816 1024 := m ((c : Thread nD τ).loc main_arg1)
abbrev aX : Mat 16384 1024 := m ((c : Thread nD τ).loc main_arg2)
abbrev aG : Mat 1 1024 := m ((c : Thread nD τ).loc main_arg3)
abbrev aN : Mat 1 1024 := m ((c : Thread nD τ).loc main_arg4)
abbrev aS : Mat 1 1024 := m ((c : Thread nD τ).loc main_arg5)
abbrev aB : Mat 1 1024 := m ((c : Thread nD τ).loc main_arg6)

/-- The array's row a block's row is. -/
def rowAt (t : Fin cfg0.N) (p : Fin 512) : Fin 16384 := rowIn t.val (lt_of_lt_of_eq t.isLt (show cfg0.N = 32 from N_0)) p

theorem blk0 (t : Fin cfg0.N) (p : Fin 512) (k : Fin 2816) : iblk m c 0 t (ix2 p k) = aT m c (ix2 (rowAt t p) k) := by
  blk_ext [iblk, V, idx t, rowAt, rowIn]

theorem blk1 (t : Fin cfg0.N) (j : Fin 2816) (k : Fin 1024) : iblk m c 1 t (ix2 j k) = aW m c (ix2 j k) := by
  blk_ext [iblk, V, idx t]

theorem blk2 (t : Fin cfg0.N) (p : Fin 512) (k : Fin 1024) : iblk m c 2 t (ix2 p k) = aX m c (ix2 (rowAt t p) k) := by
  blk_ext [iblk, V, idx t, rowAt, rowIn]

theorem blk3 (t : Fin cfg0.N) (k : Fin 1024) : iblk m c 3 t (ix2 0 k) = aG m c (ix2 0 k) := by
  blk_ext [iblk, V, idx t]

theorem blk4 (t : Fin cfg0.N) (k : Fin 1024) : iblk m c 4 t (ix2 0 k) = aN m c (ix2 0 k) := by
  blk_ext [iblk, V, idx t]

theorem blk5 (t : Fin cfg0.N) (k : Fin 1024) : iblk m c 5 t (ix2 0 k) = aS m c (ix2 0 k) := by
  blk_ext [iblk, V, idx t]

theorem blk6 (t : Fin cfg0.N) (k : Fin 1024) : iblk m c 6 t (ix2 0 k) = aB m c (ix2 0 k) := by
  blk_ext [iblk, V, idx t]

/-- A grid point's block of the residual sum. -/
theorem out7 (t : Fin cfg0.N) (p : Fin 512) (k : Fin 1024) :
    out0_7 (iblk m c 0 t) (iblk m c 1 t) (iblk m c 2 t) (iblk m c 3 t) (iblk m c 4 t) (iblk m c 5 t) (iblk m c 6 t) (ix2 p k) = halfSum (aX m c) (aG m c) (prod (aT m c) (aW m c)) (rowAt t p) k := by
  frame_out
  open_payloads
  pointwise []
  simp only [blk0, blk1, blk2, blk3, blk4, blk5, blk6]
  rfl

/-- The whole array of the residual sum after the call. -/
theorem final7 : (dats m 0 c).arrAt 7 (cfgs 0).N = fun i => halfSum (aX m c) (aG m c) (prod (aT m c) (aW m c)) ((i 0)) (i 1) := by
  refine (dats m 0 c).arrAt_eq_of_covers 7 _ (by decide +kernel) fun t _ y => ?_
  blk_simp
  rw [after0_7]
  refine ((congrArg _ (eq_ix2 y)).trans (out7 m c t (y 0) (y 1))).trans ?_
  exact congrArg₂ (fun r k => halfSum (aX m c) (aG m c) (prod (aT m c) (aW m c)) (r) k) (Fin.ext (by blk_simp [idx t, rowAt, rowIn])) (Fin.ext (by blk_simp [idx t, rowAt, rowIn]))

/-- A grid point's block of the branch. -/
theorem out8 (t : Fin cfg0.N) (p : Fin 512) (k : Fin 1024) :
    out0_8 (iblk m c 0 t) (iblk m c 1 t) (iblk m c 2 t) (iblk m c 3 t) (iblk m c 4 t) (iblk m c 5 t) (iblk m c 6 t) (ix2 p k) = prod (aT m c) (aW m c) (rowAt t p) k := by
  frame_out
  open_payloads
  pointwise []
  simp only [blk0, blk1, blk2, blk3, blk4, blk5, blk6]
  rfl

/-- The whole array of the branch after the call. -/
theorem final8 : (dats m 0 c).arrAt 8 (cfgs 0).N = fun i => prod (aT m c) (aW m c) ((i 0)) (i 1) := by
  refine (dats m 0 c).arrAt_eq_of_covers 8 _ (by decide +kernel) fun t _ y => ?_
  blk_simp
  rw [after0_8]
  refine ((congrArg _ (eq_ix2 y)).trans (out8 m c t (y 0) (y 1))).trans ?_
  exact congrArg₂ (fun r k => prod (aT m c) (aW m c) (r) k) (Fin.ext (by blk_simp [idx t, rowAt, rowIn])) (Fin.ext (by blk_simp [idx t, rowAt, rowIn]))

/-- A grid point's block of the next normalised rows. -/
theorem out9 (t : Fin cfg0.N) (p : Fin 512) (k : Fin 1024) :
    out0_9 (iblk m c 0 t) (iblk m c 1 t) (iblk m c 2 t) (iblk m c 3 t) (iblk m c 4 t) (iblk m c 5 t) (iblk m c 6 t) (ix2 p k) = modulated (halfSum (aX m c) (aG m c) (prod (aT m c) (aW m c)) (rowAt t p)) (aN m c) (aS m c) (aB m c) k := by
  frame_out
  open_payloads
  pointwise []
  simp only [blk0, blk1, blk2, blk3, blk4, blk5, blk6]
  rfl

/-- The whole array of the next normalised rows after the call. -/
theorem final9 : (dats m 0 c).arrAt 9 (cfgs 0).N = fun i => modulated (halfSum (aX m c) (aG m c) (prod (aT m c) (aW m c)) ((i 0))) (aN m c) (aS m c) (aB m c) (i 1) := by
  refine (dats m 0 c).arrAt_eq_of_covers 9 _ (by decide +kernel) fun t _ y => ?_
  blk_simp
  rw [after0_9]
  refine ((congrArg _ (eq_ix2 y)).trans (out9 m c t (y 0) (y 1))).trans ?_
  exact congrArg₂ (fun r k => modulated (halfSum (aX m c) (aG m c) (prod (aT m c) (aW m c)) (r)) (aN m c) (aS m c) (aB m c) k) (Fin.ext (by blk_simp [idx t, rowAt, rowIn])) (Fin.ext (by blk_simp [idx t, rowAt, rowIn]))

end Cert.DownFIdeal.Value

end
-- ==== Proof.Claims.Down.lean ====
/- The down projection: the frames and the equality of the results. -/
module

public import proofs.«01_k».proof.Defs
public import proofs.«01_k».proof.Proof.Gen.DownF.Frame
public import proofs.«01_k».proof.Proof.Gen.DownFIdeal.Value
public import proofs.«01_k».proof.Proof.Gen.RefDownFIdeal.Run
public import proofs.«01_k».proof.Proof.Down
public import Idealize.ShloMosaic.Lib.Claim

@[expose] public section

set_option maxRecDepth 16384

noncomputable section

open Idealize.ShloMosaic Idealize.SL.Sem

namespace Cert.Down

/-- The reference ends with its arguments unchanged and no signal owed. -/
theorem frame_reference : Cert.quiescent_RefDownFIdeal (hRefDownFIdeal := Cert.RefDownFIdeal.Gen.facts) := by
  intro m g _
  exact (θ_run Cert.RefDownFIdeal.defs _ _).mono
    (fun r h => ⟨fun c => (h c).2.2.2, Idealize.ShloMosaic.sem_eq_zero_of_no_sems (by decide) r.2⟩) (Cert.RefDownFIdeal.Value.run m g)

/-- From equal arguments the kernel and the reference end with the same residual sum, branch and next rows. -/
theorem algebraic : Cert.algebraic_DownFIdeal_RefDownFIdeal (hDownFIdeal := Cert.DownFIdeal.Gen.facts)
    (hRefDownFIdeal := Cert.RefDownFIdeal.Gen.facts) := by
  pair_intro
  · run_from Cert.DownFIdeal.Gen.run_main m g
  · run_from Cert.RefDownFIdeal.Value.run m' g'
    · refine Eq.trans ?_ (Cert.DownFIdeal.Value.final7 m c).symm
      funext i
      obtain ⟨r, k, rfl⟩ : ∃ r k, i = ix2 r k := ⟨_, _, eq_ix2 i⟩
      pointwise []
      rfl
    · refine Eq.trans ?_ (Cert.DownFIdeal.Value.final8 m c).symm
      funext i
      obtain ⟨r, k, rfl⟩ : ∃ r k, i = ix2 r k := ⟨_, _, eq_ix2 i⟩
      pointwise []
      rfl
    · refine Eq.trans ?_ (Cert.DownFIdeal.Value.final9 m c).symm
      funext i
      obtain ⟨r, k, rfl⟩ : ∃ r k, i = ix2 r k := ⟨_, _, eq_ix2 i⟩
      pointwise []
      rfl

end Cert.Down

end
-- ==== Proof.Out.lean ====
/- The mixer's output projection with its residual sum and the next norm: what the kernel leaves. -/
module

public import proofs.«01_k».proof.Proof.Gen.OutFIdeal.Frame
public import proofs.«01_k».proof.Proof.Forward
public import Idealize.ShloMosaic.Lib.Pipeline.ValueKit

@[expose] public section

set_option maxRecDepth 16384

noncomputable section

open Idealize.ShloMosaic Idealize.ShloMosaic.TcCoe Idealize.SL.Sem
open Cert.Forward

namespace Cert.OutFIdeal.Value

open Cert.OutFIdeal Cert.OutFIdeal.Gen

/-- The row windows move down the rows with the grid point; the weights and the vectors stay. -/
theorem idx : ∀ t : Fin cfg0.N, win0_0.index t = ![t.val, 0]
    ∧ win0_1.index t = ![0, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![t.val, 0]
    ∧ win0_8.index t = ![t.val, 0]
    ∧ win0_9.index t = ![t.val, 0] :=
  (by decide +kernel : ∀ t : Fin grid0.N, _)

variable (m : (ℓ : Loc nD τ sig) → Buf (Elt Ideal) ℓ) (c : Dev nD)

/-- The kernel's arguments. -/
abbrev aT : Mat 16384 1024 := m ((c : Thread nD τ).loc main_arg0)
abbrev aW : Mat 1024 1024 := m ((c : Thread nD τ).loc main_arg1)
abbrev aX : Mat 16384 1024 := m ((c : Thread nD τ).loc main_arg2)
abbrev aG : Mat 1 1024 := m ((c : Thread nD τ).loc main_arg3)
abbrev aN : Mat 1 1024 := m ((c : Thread nD τ).loc main_arg4)
abbrev aS : Mat 1 1024 := m ((c : Thread nD τ).loc main_arg5)
abbrev aB : Mat 1 1024 := m ((c : Thread nD τ).loc main_arg6)

/-- The array's row a block's row is. -/
def rowAt (t : Fin cfg0.N) (p : Fin 512) : Fin 16384 := rowIn t.val (lt_of_lt_of_eq t.isLt (show cfg0.N = 32 from N_0)) p

theorem blk0 (t : Fin cfg0.N) (p : Fin 512) (k : Fin 1024) : iblk m c 0 t (ix2 p k) = aT m c (ix2 (rowAt t p) k) := by
  blk_ext [iblk, V, idx t, rowAt, rowIn]

theorem blk1 (t : Fin cfg0.N) (j : Fin 1024) (k : Fin 1024) : iblk m c 1 t (ix2 j k) = aW m c (ix2 j k) := by
  blk_ext [iblk, V, idx t]

theorem blk2 (t : Fin cfg0.N) (p : Fin 512) (k : Fin 1024) : iblk m c 2 t (ix2 p k) = aX m c (ix2 (rowAt t p) k) := by
  blk_ext [iblk, V, idx t, rowAt, rowIn]

theorem blk3 (t : Fin cfg0.N) (k : Fin 1024) : iblk m c 3 t (ix2 0 k) = aG m c (ix2 0 k) := by
  blk_ext [iblk, V, idx t]

theorem blk4 (t : Fin cfg0.N) (k : Fin 1024) : iblk m c 4 t (ix2 0 k) = aN m c (ix2 0 k) := by
  blk_ext [iblk, V, idx t]

theorem blk5 (t : Fin cfg0.N) (k : Fin 1024) : iblk m c 5 t (ix2 0 k) = aS m c (ix2 0 k) := by
  blk_ext [iblk, V, idx t]

theorem blk6 (t : Fin cfg0.N) (k : Fin 1024) : iblk m c 6 t (ix2 0 k) = aB m c (ix2 0 k) := by
  blk_ext [iblk, V, idx t]

/-- A grid point's block of the residual sum. -/
theorem out7 (t : Fin cfg0.N) (p : Fin 512) (k : Fin 1024) :
    out0_7 (iblk m c 0 t) (iblk m c 1 t) (iblk m c 2 t) (iblk m c 3 t) (iblk m c 4 t) (iblk m c 5 t) (iblk m c 6 t) (ix2 p k) = wholeSum (aX m c) (aG m c) (prod (aT m c) (aW m c)) (rowAt t p) k := by
  frame_out
  open_payloads
  pointwise []
  simp only [blk0, blk1, blk2, blk3, blk4, blk5, blk6, one_mul]
  rfl

/-- The whole array of the residual sum after the call. -/
theorem final7 : (dats m 0 c).arrAt 7 (cfgs 0).N = fun i => wholeSum (aX m c) (aG m c) (prod (aT m c) (aW m c)) ((i 0)) (i 1) := by
  refine (dats m 0 c).arrAt_eq_of_covers 7 _ (by decide +kernel) fun t _ y => ?_
  blk_simp
  rw [after0_7]
  refine ((congrArg _ (eq_ix2 y)).trans (out7 m c t (y 0) (y 1))).trans ?_
  exact congrArg₂ (fun r k => wholeSum (aX m c) (aG m c) (prod (aT m c) (aW m c)) (r) k) (Fin.ext (by blk_simp [idx t, rowAt, rowIn])) (Fin.ext (by blk_simp [idx t, rowAt, rowIn]))

/-- A grid point's block of the branch. -/
theorem out8 (t : Fin cfg0.N) (p : Fin 512) (k : Fin 1024) :
    out0_8 (iblk m c 0 t) (iblk m c 1 t) (iblk m c 2 t) (iblk m c 3 t) (iblk m c 4 t) (iblk m c 5 t) (iblk m c 6 t) (ix2 p k) = prod (aT m c) (aW m c) (rowAt t p) k := by
  frame_out
  open_payloads
  pointwise []
  simp only [blk0, blk1, blk2, blk3, blk4, blk5, blk6]
  rfl

/-- The whole array of the branch after the call. -/
theorem final8 : (dats m 0 c).arrAt 8 (cfgs 0).N = fun i => prod (aT m c) (aW m c) ((i 0)) (i 1) := by
  refine (dats m 0 c).arrAt_eq_of_covers 8 _ (by decide +kernel) fun t _ y => ?_
  blk_simp
  rw [after0_8]
  refine ((congrArg _ (eq_ix2 y)).trans (out8 m c t (y 0) (y 1))).trans ?_
  exact congrArg₂ (fun r k => prod (aT m c) (aW m c) (r) k) (Fin.ext (by blk_simp [idx t, rowAt, rowIn])) (Fin.ext (by blk_simp [idx t, rowAt, rowIn]))

/-- A grid point's block of the next normalised rows. -/
theorem out9 (t : Fin cfg0.N) (p : Fin 512) (k : Fin 1024) :
    out0_9 (iblk m c 0 t) (iblk m c 1 t) (iblk m c 2 t) (iblk m c 3 t) (iblk m c 4 t) (iblk m c 5 t) (iblk m c 6 t) (ix2 p k) = modulated (wholeSum (aX m c) (aG m c) (prod (aT m c) (aW m c)) (rowAt t p)) (aN m c) (aS m c) (aB m c) k := by
  frame_out
  open_payloads
  pointwise []
  simp only [blk0, blk1, blk2, blk3, blk4, blk5, blk6, one_mul]
  rfl

/-- The whole array of the next normalised rows after the call. -/
theorem final9 : (dats m 0 c).arrAt 9 (cfgs 0).N = fun i => modulated (wholeSum (aX m c) (aG m c) (prod (aT m c) (aW m c)) ((i 0))) (aN m c) (aS m c) (aB m c) (i 1) := by
  refine (dats m 0 c).arrAt_eq_of_covers 9 _ (by decide +kernel) fun t _ y => ?_
  blk_simp
  rw [after0_9]
  refine ((congrArg _ (eq_ix2 y)).trans (out9 m c t (y 0) (y 1))).trans ?_
  exact congrArg₂ (fun r k => modulated (wholeSum (aX m c) (aG m c) (prod (aT m c) (aW m c)) (r)) (aN m c) (aS m c) (aB m c) k) (Fin.ext (by blk_simp [idx t, rowAt, rowIn])) (Fin.ext (by blk_simp [idx t, rowAt, rowIn]))

end Cert.OutFIdeal.Value

end
-- ==== Proof.Claims.Out.lean ====
/- The output projection: the frames and the equality of the results. -/
module

public import proofs.«01_k».proof.Defs
public import proofs.«01_k».proof.Proof.Gen.OutF.Frame
public import proofs.«01_k».proof.Proof.Gen.OutFIdeal.Value
public import proofs.«01_k».proof.Proof.Gen.RefOutFIdeal.Run
public import proofs.«01_k».proof.Proof.Out
public import Idealize.ShloMosaic.Lib.Claim

@[expose] public section

set_option maxRecDepth 16384

noncomputable section

open Idealize.ShloMosaic Idealize.SL.Sem

namespace Cert.Out

/-- The reference ends with its arguments unchanged and no signal owed. -/
theorem frame_reference : Cert.quiescent_RefOutFIdeal (hRefOutFIdeal := Cert.RefOutFIdeal.Gen.facts) := by
  intro m g _
  exact (θ_run Cert.RefOutFIdeal.defs _ _).mono
    (fun r h => ⟨fun c => (h c).2.2.2, Idealize.ShloMosaic.sem_eq_zero_of_no_sems (by decide) r.2⟩) (Cert.RefOutFIdeal.Value.run m g)

/-- From equal arguments the kernel and the reference end with the same residual sum, branch and next rows. -/
theorem algebraic : Cert.algebraic_OutFIdeal_RefOutFIdeal (hOutFIdeal := Cert.OutFIdeal.Gen.facts)
    (hRefOutFIdeal := Cert.RefOutFIdeal.Gen.facts) := by
  pair_intro
  · run_from Cert.OutFIdeal.Gen.run_main m g
  · run_from Cert.RefOutFIdeal.Value.run m' g'
    · refine Eq.trans ?_ (Cert.OutFIdeal.Value.final7 m c).symm
      funext i
      obtain ⟨r, k, rfl⟩ : ∃ r k, i = ix2 r k := ⟨_, _, eq_ix2 i⟩
      pointwise []
      rfl
    · refine Eq.trans ?_ (Cert.OutFIdeal.Value.final8 m c).symm
      funext i
      obtain ⟨r, k, rfl⟩ : ∃ r k, i = ix2 r k := ⟨_, _, eq_ix2 i⟩
      pointwise []
      rfl
    · refine Eq.trans ?_ (Cert.OutFIdeal.Value.final9 m c).symm
      funext i
      obtain ⟨r, k, rfl⟩ : ∃ r k, i = ix2 r k := ⟨_, _, eq_ix2 i⟩
      pointwise []
      rfl

end Cert.Out

end
-- ==== Proof.Modulate.lean ====
/- The modulated norm of a layer's first branch: what the kernel leaves. -/
module

public import proofs.«01_k».proof.Proof.Gen.ModFIdeal.Frame
public import proofs.«01_k».proof.Proof.Forward
public import Idealize.ShloMosaic.Lib.Pipeline.ValueKit

@[expose] public section

set_option maxRecDepth 16384

noncomputable section

open Idealize.ShloMosaic Idealize.ShloMosaic.TcCoe Idealize.SL.Sem
open Cert.Forward

namespace Cert.ModFIdeal.Value

open Cert.ModFIdeal Cert.ModFIdeal.Gen

/-- The row windows move down the rows with the grid point; the vectors stay. -/
theorem idx : ∀ t : Fin cfg0.N, win0_0.index t = ![t.val, 0]
    ∧ win0_1.index t = ![0, 0]
    ∧ win0_2.index t = ![0, 0]
    ∧ win0_3.index t = ![0, 0]
    ∧ win0_4.index t = ![t.val, 0] :=
  (by decide +kernel : ∀ t : Fin grid0.N, _)

variable (m : (ℓ : Loc nD τ sig) → Buf (Elt Ideal) ℓ) (c : Dev nD)

/-- The kernel's arguments. -/
abbrev aX : Mat 16384 1024 := m ((c : Thread nD τ).loc main_arg0)
abbrev aG : Mat 1 1024 := m ((c : Thread nD τ).loc main_arg1)
abbrev aS : Mat 1 1024 := m ((c : Thread nD τ).loc main_arg2)
abbrev aB : Mat 1 1024 := m ((c : Thread nD τ).loc main_arg3)

/-- The array's row a block's row is. -/
def rowAt (t : Fin cfg0.N) (p : Fin 512) : Fin 16384 := rowIn t.val (lt_of_lt_of_eq t.isLt (show cfg0.N = 32 from N_0)) p

theorem blk0 (t : Fin cfg0.N) (p : Fin 512) (k : Fin 1024) : iblk m c 0 t (ix2 p k) = aX m c (ix2 (rowAt t p) k) := by
  blk_ext [iblk, V, idx t, rowAt, rowIn]

theorem blk1 (t : Fin cfg0.N) (k : Fin 1024) : iblk m c 1 t (ix2 0 k) = aG m c (ix2 0 k) := by
  blk_ext [iblk, V, idx t]

theorem blk2 (t : Fin cfg0.N) (k : Fin 1024) : iblk m c 2 t (ix2 0 k) = aS m c (ix2 0 k) := by
  blk_ext [iblk, V, idx t]

theorem blk3 (t : Fin cfg0.N) (k : Fin 1024) : iblk m c 3 t (ix2 0 k) = aB m c (ix2 0 k) := by
  blk_ext [iblk, V, idx t]

/-- A grid point's block of the modulated rows. -/
theorem out4 (t : Fin cfg0.N) (p : Fin 512) (k : Fin 1024) :
    out0_4 (iblk m c 0 t) (iblk m c 1 t) (iblk m c 2 t) (iblk m c 3 t) (ix2 p k) = modulated (fun j => aX m c (ix2 (rowAt t p) j)) (aG m c) (aS m c) (aB m c) k := by
  frame_out
  open_payloads
  pointwise []
  simp only [blk0, blk1, blk2, blk3]
  rfl

/-- The whole array of the modulated rows after the call. -/
theorem final4 : (dats m 0 c).arrAt 4 (cfgs 0).N = fun i => modulated (fun j => aX m c (ix2 ((i 0)) j)) (aG m c) (aS m c) (aB m c) (i 1) := by
  refine (dats m 0 c).arrAt_eq_of_covers 4 _ (by decide +kernel) fun t _ y => ?_
  blk_simp
  rw [after0_4]
  refine ((congrArg _ (eq_ix2 y)).trans (out4 m c t (y 0) (y 1))).trans ?_
  exact congrArg₂ (fun r k => modulated (fun j => aX m c (ix2 (r) j)) (aG m c) (aS m c) (aB m c) k) (Fin.ext (by blk_simp [idx t, rowAt, rowIn])) (Fin.ext (by blk_simp [idx t, rowAt, rowIn]))

end Cert.ModFIdeal.Value

end
-- ==== Proof.Claims.Modulate.lean ====
/- The modulated norm: the frames and the equality of the results. -/
module

public import proofs.«01_k».proof.Defs
public import proofs.«01_k».proof.Proof.Gen.ModF.Frame
public import proofs.«01_k».proof.Proof.Gen.ModFIdeal.Value
public import proofs.«01_k».proof.Proof.Gen.RefModFIdeal.Run
public import proofs.«01_k».proof.Proof.Modulate
public import Idealize.ShloMosaic.Lib.Claim

@[expose] public section

set_option maxRecDepth 16384

noncomputable section

open Idealize.ShloMosaic Idealize.SL.Sem

namespace Cert.Modulate

/-- The reference ends with its arguments unchanged and no signal owed. -/
theorem frame_reference : Cert.quiescent_RefModFIdeal (hRefModFIdeal := Cert.RefModFIdeal.Gen.facts) := by
  intro m g _
  exact (θ_run Cert.RefModFIdeal.defs _ _).mono
    (fun r h => ⟨fun c => (h c).2, Idealize.ShloMosaic.sem_eq_zero_of_no_sems (by decide) r.2⟩) (Cert.RefModFIdeal.Value.run m g)

/-- From equal arguments the kernel and the reference end with the same modulated rows. -/
theorem algebraic : Cert.algebraic_ModFIdeal_RefModFIdeal (hModFIdeal := Cert.ModFIdeal.Gen.facts)
    (hRefModFIdeal := Cert.RefModFIdeal.Gen.facts) := by
  pair_intro
  · run_from Cert.ModFIdeal.Gen.run_main m g
  · run_from Cert.RefModFIdeal.Value.run m' g'
    · refine Eq.trans ?_ (Cert.ModFIdeal.Value.final4 m c).symm
      funext i
      obtain ⟨r, k, rfl⟩ : ∃ r k, i = ix2 r k := ⟨_, _, eq_ix2 i⟩
      pointwise []
      rfl

end Cert.Modulate

end
-- ==== Proof.Bin.lean ====
/- The gradient of a residual sum through the modulated norm and the token mixer's four products, element by element: what the kernel and the reference compute. -/
module

public import proofs.«01_k».proof.Proof.Gen.RefBinBIdeal.Run
public import proofs.«01_k».proof.Proof.Norm
public import proofs.«01_k».proof.Proof.Forward
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Finite Cert.Norm
open Cert.Forward (half Mat)

namespace Cert.Bin

open Cert.RefBinBIdeal Cert.RefBinBIdeal.Gen Cert.RefBinBIdeal.Value

/-- What the gradient is computed of: the stream, the branch under its gate, the norm's gain and scale, the joint weights, the four cotangents and the stream's own. -/
structure Args where
  x : Mat 16384 1024
  f : Mat 16384 1024
  g : Mat 1 1024
  n : Mat 1 1024
  s : Mat 1 1024
  w : Mat 1024 6400
  q : Mat 16384 2304
  u : Mat 16384 2048
  a : Mat 16384 1024
  c : Mat 16384 1024
  o : Mat 16384 1024

variable (A : Args)

/-- The residual sum. -/
def row (r : Fin 16384) (k : Fin 1024) : EReal := A.x (ix2 r k) + half * A.g (ix2 0 k) * A.f (ix2 r k)

/-- The normalised row. -/
def hat (r : Fin 16384) (k : Fin 1024) : EReal := row A r k * Ideal.rsqrt (ms (row A r))

/-- The four parts of the joint weights. -/
def wq (k : Fin 1024) (j : Fin 2304) : EReal := A.w (ix2 k ⟨j.val, by omega⟩)
def wu (k : Fin 1024) (j : Fin 2048) : EReal := A.w (ix2 k ⟨2304 + j.val, by omega⟩)
def wa (k : Fin 1024) (j : Fin 1024) : EReal := A.w (ix2 k ⟨4352 + j.val, by omega⟩)
def wc (k : Fin 1024) (j : Fin 1024) : EReal := A.w (ix2 k ⟨5376 + j.val, by omega⟩)

/-- The cotangent of the modulated norm: the kernel's sum of the four products, and the derivative's. -/
def dhK (r : Fin 16384) (k : Fin 1024) : EReal :=
  ∑ j, A.q (ix2 r j) * wq A k j + ∑ j, A.u (ix2 r j) * wu A k j + ∑ j, A.a (ix2 r j) * wa A k j + ∑ j, A.c (ix2 r j) * wc A k j
def dhR (r : Fin 16384) (k : Fin 1024) : EReal :=
  ∑ j, A.c (ix2 r j) * wc A k j + ∑ j, A.a (ix2 r j) * wa A k j + ∑ j, A.u (ix2 r j) * wu A k j + ∑ j, A.q (ix2 r j) * wq A k j

/-- The gradient of the residual sum: the kernel's, and the derivative's. -/
def dxK (r : Fin 16384) (k : Fin 1024) : EReal :=
  A.o (ix2 r k) + bwdK (row A r) (fun j => dhK A r j * (1 + A.s (ix2 0 j)) * A.n (ix2 0 j)) k
def dxR (r : Fin 16384) (k : Fin 1024) : EReal :=
  A.o (ix2 r k) + dhR A r k * (1 + A.s (ix2 0 k)) * A.n (ix2 0 k) * Ideal.rsqrt (ms (row A r))
    + row A r k * through (row A r) (fun j => dhR A r j * (1 + A.s (ix2 0 j)) * A.n (ix2 0 j))
    + through (row A r) (fun j => dhR A r j * (1 + A.s (ix2 0 j)) * A.n (ix2 0 j)) * row A r k

/-- The gradient of the branch as the kernel computes it. -/
def dfK (r : Fin 16384) (k : Fin 1024) : EReal := half * A.g (ix2 0 k) * dxK A r k

/-- The rows' parts of the scale's, the gain's and the gate's gradients as the kernel adds them. -/
def scaleK (r : Fin 16384) (k : Fin 1024) : EReal := dhK A r k * hat A r k * A.n (ix2 0 k)
def gainK (r : Fin 16384) (k : Fin 1024) : EReal := dhK A r k * (1 + A.s (ix2 0 k)) * hat A r k
def gateK (r : Fin 16384) (k : Fin 1024) : EReal := half * dxK A r k * A.f (ix2 r k)

variable {A}

/-- The four products may be added in either order. -/
theorem dh_eq (r : Fin 16384) (k : Fin 1024) : dhK A r k = dhR A r k := by
  unfold dhK dhR
  ac_rfl

/-- The arguments whose elements must be real for the two forms to agree. -/
structure Args.Real (A : Args) : Prop where
  x : Finite (φ := .f32) A.x
  f : Finite (φ := .f32) A.f
  g : Finite (φ := .f32) A.g
  n : Finite (φ := .f32) A.n
  s : Finite (φ := .f32) A.s
  w : Finite (φ := .f32) A.w
  q : Finite (φ := .f32) A.q
  u : Finite (φ := .f32) A.u
  a : Finite (φ := .f32) A.a
  c : Finite (φ := .f32) A.c

theorem row_real (h : A.Real) (r : Fin 16384) (k : Fin 1024) : IsR (row A r k) :=
  (h.x _).add ((IsR.mul ⟨_, half_eq⟩ (h.g _)).mul (h.f _))

theorem dn_real (h : A.Real) (r : Fin 16384) (k : Fin 1024) : IsR (dhK A r k * (1 + A.s (ix2 0 k)) * A.n (ix2 0 k)) :=
  (((((IsR.sum _ fun j => (h.q _).mul (h.w _)).add (IsR.sum _ fun j => (h.u _).mul (h.w _))).add (IsR.sum _ fun j => (h.a _).mul (h.w _))).add
    (IsR.sum _ fun j => (h.c _).mul (h.w _))).mul (IsR.one.add (h.s _))).mul (h.n _)

/-- A row's parts of the scale's and the gain's gradients, with their factors in the derivative's order. -/
theorem scale_eq (r : Fin 16384) (k : Fin 1024) : hat A r k * A.n (ix2 0 k) * dhR A r k = scaleK A r k := by
  rw [scaleK, dh_eq, mul_comm, mul_assoc]

theorem gain_eq (r : Fin 16384) (k : Fin 1024) : hat A r k * (dhR A r k * (1 + A.s (ix2 0 k))) = gainK A r k := by
  rw [gainK, dh_eq, mul_comm]

/-- The two forms of the residual sum's gradient agree. -/
theorem dx_eq (h : A.Real) (r : Fin 16384) (k : Fin 1024) : dxK A r k = dxR A r k := by
  unfold dxK dxR
  rw [bwd_eq (row_real h r) (dn_real h r)]
  simp only [← dh_eq, bwdR, add_assoc]

/-- A half may be taken out of a sum. -/
theorem half_sum {ι : Type} (s : Finset ι) (f : ι → EReal) : ∑ i ∈ s, half * f i = half * ∑ i ∈ s, f i := by
  classical
  induction s using Finset.induction_on with
  | empty => simp
  | insert i s hi ih =>
    rw [Finset.sum_insert hi, Finset.sum_insert hi, ih, EReal.left_distrib_of_nonneg_of_ne_top]
    · rw [half, half_eq]; exact EReal.coe_nonneg.mpr (by norm_num)
    · rw [half, half_eq]; exact EReal.coe_ne_top _

/-- The gate's gradient, from either form. -/
theorem gate_eq (h : A.Real) (k : Fin 1024) : ∑ r, gateK A r k = half * ∑ r, dxR A r k * A.f (ix2 r k) := by
  rw [← half_sum]
  exact Finset.sum_congr rfl fun r _ => by rw [gateK, dx_eq h, mul_assoc]

/-- The reference's arguments. -/
def args (m : (ℓ : Loc nD τ sig) → Buf (Elt Ideal) ℓ) (c : Dev nD) : Args where
  x := m ((c.tc : Thread nD τ).loc main_arg0)
  f := m ((c.tc : Thread nD τ).loc main_arg1)
  g := m ((c.tc : Thread nD τ).loc main_arg2)
  n := m ((c.tc : Thread nD τ).loc main_arg3)
  s := m ((c.tc : Thread nD τ).loc main_arg4)
  w := m ((c.tc : Thread nD τ).loc main_arg6)
  q := m ((c.tc : Thread nD τ).loc main_arg7)
  u := m ((c.tc : Thread nD τ).loc main_arg8)
  a := m ((c.tc : Thread nD τ).loc main_arg9)
  c := m ((c.tc : Thread nD τ).loc main_arg10)
  o := m ((c.tc : Thread nD τ).loc main_arg11)

variable (m : (ℓ : Loc nD τ sig) → Buf (Elt Ideal) ℓ) (c : Dev nD)

/-- The reference's gradient of the residual sum. -/
theorem ref_dx (r : Fin 16384) (k : Fin 1024) : res_main_v67 m c (ix2 r k) = dxR (args m c) r k := by
  unfold res_main_v67
  pointwise []
  rfl

/-- The reference's gradient of the branch. -/
theorem ref_df (r : Fin 16384) (k : Fin 1024) : res_main_v76 m c (ix2 r k) = half * (args m c).g (ix2 0 k) * dxR (args m c) r k := by
  unfold res_main_v76
  pointwise []
  rfl

/-- The reference's gradient of the gate. -/
theorem ref_dgate (k : Fin 1024) : res_main_v75 m c (ix2 0 k) = half * ∑ r, dxR (args m c) r k * (args m c).f (ix2 r k) := by
  unfold res_main_v75
  pointwise []
  rfl

end Cert.Bin

end
-- ==== Proof.BinKernel.lean ====
/- The arrays the token mixer's norm kernel leaves: its blocks at each grid point, the sums over the grid, and the run. -/
module

public import proofs.«01_k».proof.Proof.Gen.BinBIdeal.Frame
public import proofs.«01_k».proof.Proof.Bin
public import Idealize.ShloMosaic.Lib.Pipeline.ValueKit

@[expose] public section

set_option maxRecDepth 16384

noncomputable section

open Idealize.ShloMosaic Idealize.ShloMosaic.TcCoe Idealize.SL.Sem
open Cert.Finite Cert.Norm

namespace Cert.BinBIdeal.Value

open Cert.BinBIdeal Cert.BinBIdeal.Gen

/-- The row windows move down the rows with the grid point; the weights, the vectors and the sums stay. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![0, 0] ∧ win0_6.index t = ![t.val, 0] ∧ win0_7.index t = ![0, 0] ∧ win0_8.index t = ![t.val, 0] ∧ win0_9.index t = ![t.val, 0] ∧ win0_10.index t = ![t.val, 0] ∧ win0_11.index t = ![0, 0] ∧ win0_12.index t = ![0, 0] ∧ win0_13.index t = ![0, 0] ∧ win0_14.index t = ![t.val, 0] ∧ win0_15.index t = ![t.val, 0] ∧ win0_16.index t = ![0, 0] ∧ win0_17.index t = ![0, 0] ∧ win0_18.index t = ![0, 0] ∧ win0_19.index t = ![0, 0] :=
  (by decide +kernel : ∀ t : Fin grid0.N, _)

/-- The kernel's arguments. -/
def args (m : (ℓ : Loc nD τ sig) → Buf (Elt Ideal) ℓ) (c : Dev nD) : Cert.Bin.Args where
  x := m ((c : Thread nD τ).loc main_arg0)
  f := m ((c : Thread nD τ).loc main_arg1)
  g := m ((c : Thread nD τ).loc main_arg2)
  n := m ((c : Thread nD τ).loc main_arg3)
  s := m ((c : Thread nD τ).loc main_arg4)
  w := m ((c : Thread nD τ).loc main_arg6)
  q := m ((c : Thread nD τ).loc main_arg7)
  u := m ((c : Thread nD τ).loc main_arg8)
  a := m ((c : Thread nD τ).loc main_arg9)
  c := m ((c : Thread nD τ).loc main_arg10)
  o := m ((c : Thread nD τ).loc main_arg11)

variable (m : (ℓ : Loc nD τ sig) → Buf (Elt Ideal) ℓ) (c : Dev nD)

/-- The array's row a block's row is. -/
def rowAt (t : Fin cfg0.N) (p : Fin 256) : Fin 16384 :=
  ⟨t.val * 256 + p.val, by have := lt_of_lt_of_eq t.isLt (show cfg0.N = 64 from N_0); omega⟩

/-! What the operations before the call leave in its operands. -/

theorem host_q (r : Fin 16384) (k : Fin 2304) : V m c main_v4 (ix2 r k) = (args m c).q (ix2 r k) := by
  simp only [V, hostOps0, List.flatten_cons, List.flatten_nil, List.append_nil, List.cons_append, List.nil_append]
  after_results_simp
  pointwise []
  rfl

theorem host_wq (r : Fin 1024) (k : Fin 2304) : V m c main_v5 (ix2 r k) = Cert.Bin.wq (args m c) r k := by
  simp only [V, hostOps0, List.flatten_cons, List.flatten_nil, List.append_nil, List.cons_append, List.nil_append]
  after_results_simp
  pointwise []
  rfl

theorem host_u (r : Fin 16384) (k : Fin 2048) : V m c main_v6 (ix2 r k) = (args m c).u (ix2 r k) := by
  simp only [V, hostOps0, List.flatten_cons, List.flatten_nil, List.append_nil, List.cons_append, List.nil_append]
  after_results_simp
  pointwise []
  rfl

theorem host_wu (r : Fin 1024) (k : Fin 2048) : V m c main_v7 (ix2 r k) = Cert.Bin.wu (args m c) r k := by
  simp only [V, hostOps0, List.flatten_cons, List.flatten_nil, List.append_nil, List.cons_append, List.nil_append]
  after_results_simp
  pointwise []
  rfl

theorem host_a (r : Fin 16384) (k : Fin 1024) : V m c main_v8 (ix2 r k) = (args m c).a (ix2 r k) := by
  simp only [V, hostOps0, List.flatten_cons, List.flatten_nil, List.append_nil, List.cons_append, List.nil_append]
  after_results_simp
  pointwise []
  rfl

theorem host_wa (r : Fin 1024) (k : Fin 1024) : V m c main_v9 (ix2 r k) = Cert.Bin.wa (args m c) r k := by
  simp only [V, hostOps0, List.flatten_cons, List.flatten_nil, List.append_nil, List.cons_append, List.nil_append]
  after_results_simp
  pointwise []
  rfl

theorem host_c (r : Fin 16384) (k : Fin 1024) : V m c main_v10 (ix2 r k) = (args m c).c (ix2 r k) := by
  simp only [V, hostOps0, List.flatten_cons, List.flatten_nil, List.append_nil, List.cons_append, List.nil_append]
  after_results_simp
  pointwise []
  rfl

theorem host_wc (r : Fin 1024) (k : Fin 1024) : V m c main_v11 (ix2 r k) = Cert.Bin.wc (args m c) r k := by
  simp only [V, hostOps0, List.flatten_cons, List.flatten_nil, List.append_nil, List.cons_append, List.nil_append]
  after_results_simp
  pointwise []
  rfl

theorem host_row (r : Fin 16384) (k : Fin 1024) : V m c main_v16 (ix2 r k) = Cert.Bin.row (args m c) r k := by
  simp only [V, hostOps0, List.flatten_cons, List.flatten_nil, List.append_nil, List.cons_append, List.nil_append]
  after_results_simp
  pointwise []
  rfl

theorem host_f (r : Fin 16384) (k : Fin 1024) : V m c main_v17 (ix2 r k) = (args m c).f (ix2 r k) := by
  simp only [V, hostOps0, List.flatten_cons, List.flatten_nil, List.append_nil, List.cons_append, List.nil_append]
  after_results_simp
  pointwise []
  rfl

/-! The blocks a grid point reads. -/

theorem blk0 (t : Fin cfg0.N) (p : Fin 256) (k : Fin 2304) : iblk m c 0 t (ix2 p k) = (args m c).q (ix2 (rowAt t p) k) := by
  rw [← host_q]
  blk_ext [iblk, idx t, rowAt]

theorem blk1 (t : Fin cfg0.N) (p : Fin 1024) (k : Fin 2304) : iblk m c 1 t (ix2 p k) = Cert.Bin.wq (args m c) p k := by
  rw [← host_wq]
  blk_ext [iblk, idx t, rowAt]

theorem blk2 (t : Fin cfg0.N) (p : Fin 256) (k : Fin 2048) : iblk m c 2 t (ix2 p k) = (args m c).u (ix2 (rowAt t p) k) := by
  rw [← host_u]
  blk_ext [iblk, idx t, rowAt]

theorem blk3 (t : Fin cfg0.N) (p : Fin 1024) (k : Fin 2048) : iblk m c 3 t (ix2 p k) = Cert.Bin.wu (args m c) p k := by
  rw [← host_wu]
  blk_ext [iblk, idx t, rowAt]

theorem blk4 (t : Fin cfg0.N) (p : Fin 256) (k : Fin 1024) : iblk m c 4 t (ix2 p k) = (args m c).a (ix2 (rowAt t p) k) := by
  rw [← host_a]
  blk_ext [iblk, idx t, rowAt]

theorem blk5 (t : Fin cfg0.N) (p : Fin 1024) (k : Fin 1024) : iblk m c 5 t (ix2 p k) = Cert.Bin.wa (args m c) p k := by
  rw [← host_wa]
  blk_ext [iblk, idx t, rowAt]

theorem blk6 (t : Fin cfg0.N) (p : Fin 256) (k : Fin 1024) : iblk m c 6 t (ix2 p k) = (args m c).c (ix2 (rowAt t p) k) := by
  rw [← host_c]
  blk_ext [iblk, idx t, rowAt]

theorem blk7 (t : Fin cfg0.N) (p : Fin 1024) (k : Fin 1024) : iblk m c 7 t (ix2 p k) = Cert.Bin.wc (args m c) p k := by
  rw [← host_wc]
  blk_ext [iblk, idx t, rowAt]

theorem blk8 (t : Fin cfg0.N) (p : Fin 256) (k : Fin 1024) : iblk m c 8 t (ix2 p k) = Cert.Bin.row (args m c) (rowAt t p) k := by
  rw [← host_row]
  blk_ext [iblk, idx t, rowAt]

theorem blk9 (t : Fin cfg0.N) (p : Fin 256) (k : Fin 1024) : iblk m c 9 t (ix2 p k) = (args m c).o (ix2 (rowAt t p) k) := by
  unfold args
  blk_ext [iblk, V, idx t, rowAt]

theorem blk10 (t : Fin cfg0.N) (p : Fin 256) (k : Fin 1024) : iblk m c 10 t (ix2 p k) = (args m c).f (ix2 (rowAt t p) k) := by
  rw [← host_f]
  blk_ext [iblk, idx t, rowAt]

theorem blk11 (t : Fin cfg0.N) (k : Fin 1024) : iblk m c 11 t (ix2 0 k) = (args m c).n (ix2 0 k) := by
  unfold args
  blk_ext [iblk, V, idx t, rowAt]

theorem blk12 (t : Fin cfg0.N) (k : Fin 1024) : iblk m c 12 t (ix2 0 k) = (args m c).s (ix2 0 k) := by
  unfold args
  blk_ext [iblk, V, idx t, rowAt]

theorem blk13 (t : Fin cfg0.N) (k : Fin 1024) : iblk m c 13 t (ix2 0 k) = (args m c).g (ix2 0 k) := by
  unfold args
  blk_ext [iblk, V, idx t, rowAt]

/-- The body's two cases: the first point, and the later ones. -/
theorem later {t : Fin cfg0.N} (h : ¬t.val % 64 = 0) : 1 ≤ t.val := by omega

theorem first {t : Fin cfg0.N} (h : t.val % 64 = 0) : ¬1 ≤ t.val := by
  have := lt_of_lt_of_eq t.isLt (show cfg0.N = 64 from N_0)
  omega

theorem last {t : Fin cfg0.N} (h : t.val % 64 = 63) : t.val + 1 = cfg0.N := by
  have := lt_of_lt_of_eq t.isLt (show cfg0.N = 64 from N_0)
  exact Eq.trans (by omega : t.val + 1 = 64) N_0.symm

/-- What starts at the first point from zero, and to which every point adds its rows, is the sum over all rows at the last point. -/
theorem total (acc : (n : ℕ) → n < cfg0.N → Fin 1024 → EReal) (f : Fin 16384 → Fin 1024 → EReal)
    (ha : ∀ (t : Fin cfg0.N), t.val % 64 = 0 → ∀ k, acc t.val t.isLt k = 0 + ∑ p, f (rowAt t p) k)
    (hb : ∀ (t : Fin cfg0.N), ¬t.val % 64 = 0 → ∀ k, acc t.val t.isLt k = acc (t.val - 1) (Nat.lt_of_le_of_lt (Nat.sub_le _ _) t.isLt) k + ∑ p, f (rowAt t p) k)
    (t : Fin cfg0.N) (ht : t.val + 1 = cfg0.N) (k : Fin 1024) : acc t.val t.isLt k = ∑ r, f r k := by
  rw [Pipeline.eq_sum_fin_of_reset_step_apply_last acc 64 (fun _ => 0) (fun t k => ∑ p, f (rowAt t p) k) ha hb (le_of_eq N_0) t ht k, zero_add]
  exact Fin.sum_mul_add_congr (f := fun r => f r k) (fun t p hl => rfl) (by rw [show cfg0.N = 64 from N_0])

/-- A grid point leaves its rows of the residual sum's gradient. -/
theorem outs14 (t : Fin cfg0.N) (p : Fin 256) (k : Fin 1024) : (outsAt0 m c t.val t.isLt).1 (ix2 p k) = Cert.Bin.dxK (args m c) (rowAt t p) k := by
  by_cases h : t.val % 64 = 0
  · rw [outsAt0_A m c t h (first h)]
    frame_out
    open_payloads
    pointwise []
    simp only [blk0, blk1, blk2, blk3, blk4, blk5, blk6, blk7, blk8, blk9, blk10, blk11, blk12, blk13]
    rfl
  · rw [outsAt0_B m c t h (later h)]
    frame_out
    open_payloads
    pointwise []
    simp only [blk0, blk1, blk2, blk3, blk4, blk5, blk6, blk7, blk8, blk9, blk10, blk11, blk12, blk13]
    rfl

/-- The whole array of the residual sum's gradient after the call. -/
theorem final14 : (dats m 0 c).arrAt 14 (cfgs 0).N = fun i => Cert.Bin.dxK (args m c) (i 0) (i 1) := by
  refine (dats m 0 c).arrAt_eq_of_covers 14 _ (by decide +kernel) fun t _ y => ?_
  blk_simp
  rw [after0_14]
  refine ((congrArg _ (eq_ix2 y)).trans (outs14 m c t (y 0) (y 1))).trans ?_
  exact congrArg₂ (Cert.Bin.dxK (args m c)) (Fin.ext (by blk_simp [idx t, rowAt])) (Fin.ext (by blk_simp [idx t, rowAt]))

/-- A grid point leaves its rows of the branch's gradient. -/
theorem outs15 (t : Fin cfg0.N) (p : Fin 256) (k : Fin 1024) : (outsAt0 m c t.val t.isLt).2.1 (ix2 p k) = Cert.Bin.dfK (args m c) (rowAt t p) k := by
  by_cases h : t.val % 64 = 0
  · rw [outsAt0_A m c t h (first h)]
    frame_out
    open_payloads
    pointwise []
    simp only [blk0, blk1, blk2, blk3, blk4, blk5, blk6, blk7, blk8, blk9, blk10, blk11, blk12, blk13]
    rfl
  · rw [outsAt0_B m c t h (later h)]
    frame_out
    open_payloads
    pointwise []
    simp only [blk0, blk1, blk2, blk3, blk4, blk5, blk6, blk7, blk8, blk9, blk10, blk11, blk12, blk13]
    rfl

/-- The whole array of the branch's gradient after the call. -/
theorem final15 : (dats m 0 c).arrAt 15 (cfgs 0).N = fun i => Cert.Bin.dfK (args m c) (i 0) (i 1) := by
  refine (dats m 0 c).arrAt_eq_of_covers 15 _ (by decide +kernel) fun t _ y => ?_
  blk_simp
  rw [after0_15]
  refine ((congrArg _ (eq_ix2 y)).trans (outs15 m c t (y 0) (y 1))).trans ?_
  exact congrArg₂ (Cert.Bin.dfK (args m c)) (Fin.ext (by blk_simp [idx t, rowAt])) (Fin.ext (by blk_simp [idx t, rowAt]))

/-- A grid point adds its rows' part of the shift's gradient to what the points before left. -/
theorem first16 (t : Fin cfg0.N) (h : t.val % 64 = 0) (k : Fin 1024) :
    (outsAt0 m c t.val t.isLt).2.2.1 (ix2 0 k) = 0 + ∑ p, Cert.Bin.dhK (args m c) (rowAt t p) k := by
  rw [outsAt0_A m c t h (first h)]
  frame_out
  open_payloads
  pointwise []
  simp only [blk0, blk1, blk2, blk3, blk4, blk5, blk6, blk7, blk8, blk9, blk10, blk11, blk12, blk13]
  rfl

theorem later16 (t : Fin cfg0.N) (h : ¬t.val % 64 = 0) (k : Fin 1024) :
    (outsAt0 m c t.val t.isLt).2.2.1 (ix2 0 k) = (outsAt0 m c (t.val - 1) (Nat.lt_of_le_of_lt (Nat.sub_le _ _) t.isLt)).2.2.1 (ix2 0 k)
      + ∑ p, Cert.Bin.dhK (args m c) (rowAt t p) k := by
  rw [outsAt0_B m c t h (later h)]
  frame_out
  open_payloads
  pointwise []
  simp only [blk0, blk1, blk2, blk3, blk4, blk5, blk6, blk7, blk8, blk9, blk10, blk11, blk12, blk13]
  rfl

/-- The sum of the shift's gradient over all rows after the call. -/
theorem final16 : (dats m 0 c).arrAt 16 (cfgs 0).N = fun i => ∑ r, Cert.Bin.dhK (args m c) r (i 1) := by
  refine (dats m 0 c).arrAt_eq_of_covers 16 _ (by decide +kernel) fun t hf y => ?_
  blk_simp
  rw [after0_16]
  refine ((congrArg _ (row0 y).symm).trans (total (fun n h k => (outsAt0 m c n h).2.2.1 (ix2 0 k)) _ (first16 m c) (later16 m c) t (last ((flush0_16 t).mp hf)) (y 1))).trans ?_
  exact congrArg (fun k => ∑ r, Cert.Bin.dhK (args m c) r k) (Fin.ext (by blk_simp [idx t]))

/-- A grid point adds its rows' part of the scale's gradient to what the points before left. -/
theorem first17 (t : Fin cfg0.N) (h : t.val % 64 = 0) (k : Fin 1024) :
    (outsAt0 m c t.val t.isLt).2.2.2.1 (ix2 0 k) = 0 + ∑ p, Cert.Bin.scaleK (args m c) (rowAt t p) k := by
  rw [outsAt0_A m c t h (first h)]
  frame_out
  open_payloads
  pointwise []
  simp only [blk0, blk1, blk2, blk3, blk4, blk5, blk6, blk7, blk8, blk9, blk10, blk11, blk12, blk13]
  rfl

theorem later17 (t : Fin cfg0.N) (h : ¬t.val % 64 = 0) (k : Fin 1024) :
    (outsAt0 m c t.val t.isLt).2.2.2.1 (ix2 0 k) = (outsAt0 m c (t.val - 1) (Nat.lt_of_le_of_lt (Nat.sub_le _ _) t.isLt)).2.2.2.1 (ix2 0 k)
      + ∑ p, Cert.Bin.scaleK (args m c) (rowAt t p) k := by
  rw [outsAt0_B m c t h (later h)]
  frame_out
  open_payloads
  pointwise []
  simp only [blk0, blk1, blk2, blk3, blk4, blk5, blk6, blk7, blk8, blk9, blk10, blk11, blk12, blk13]
  rfl

/-- The sum of the scale's gradient over all rows after the call. -/
theorem final17 : (dats m 0 c).arrAt 17 (cfgs 0).N = fun i => ∑ r, Cert.Bin.scaleK (args m c) r (i 1) := by
  refine (dats m 0 c).arrAt_eq_of_covers 17 _ (by decide +kernel) fun t hf y => ?_
  blk_simp
  rw [after0_17]
  refine ((congrArg _ (row0 y).symm).trans (total (fun n h k => (outsAt0 m c n h).2.2.2.1 (ix2 0 k)) _ (first17 m c) (later17 m c) t (last ((flush0_17 t).mp hf)) (y 1))).trans ?_
  exact congrArg (fun k => ∑ r, Cert.Bin.scaleK (args m c) r k) (Fin.ext (by blk_simp [idx t]))

/-- A grid point adds its rows' part of the norm gain's gradient to what the points before left. -/
theorem first18 (t : Fin cfg0.N) (h : t.val % 64 = 0) (k : Fin 1024) :
    (outsAt0 m c t.val t.isLt).2.2.2.2.1 (ix2 0 k) = 0 + ∑ p, Cert.Bin.gainK (args m c) (rowAt t p) k := by
  rw [outsAt0_A m c t h (first h)]
  frame_out
  open_payloads
  pointwise []
  simp only [blk0, blk1, blk2, blk3, blk4, blk5, blk6, blk7, blk8, blk9, blk10, blk11, blk12, blk13]
  rfl

theorem later18 (t : Fin cfg0.N) (h : ¬t.val % 64 = 0) (k : Fin 1024) :
    (outsAt0 m c t.val t.isLt).2.2.2.2.1 (ix2 0 k) = (outsAt0 m c (t.val - 1) (Nat.lt_of_le_of_lt (Nat.sub_le _ _) t.isLt)).2.2.2.2.1 (ix2 0 k)
      + ∑ p, Cert.Bin.gainK (args m c) (rowAt t p) k := by
  rw [outsAt0_B m c t h (later h)]
  frame_out
  open_payloads
  pointwise []
  simp only [blk0, blk1, blk2, blk3, blk4, blk5, blk6, blk7, blk8, blk9, blk10, blk11, blk12, blk13]
  rfl

/-- The sum of the norm gain's gradient over all rows after the call. -/
theorem final18 : (dats m 0 c).arrAt 18 (cfgs 0).N = fun i => ∑ r, Cert.Bin.gainK (args m c) r (i 1) := by
  refine (dats m 0 c).arrAt_eq_of_covers 18 _ (by decide +kernel) fun t hf y => ?_
  blk_simp
  rw [after0_18]
  refine ((congrArg _ (row0 y).symm).trans (total (fun n h k => (outsAt0 m c n h).2.2.2.2.1 (ix2 0 k)) _ (first18 m c) (later18 m c) t (last ((flush0_18 t).mp hf)) (y 1))).trans ?_
  exact congrArg (fun k => ∑ r, Cert.Bin.gainK (args m c) r k) (Fin.ext (by blk_simp [idx t]))

/-- A grid point adds its rows' part of the gate's gradient to what the points before left. -/
theorem first19 (t : Fin cfg0.N) (h : t.val % 64 = 0) (k : Fin 1024) :
    (outsAt0 m c t.val t.isLt).2.2.2.2.2 (ix2 0 k) = 0 + ∑ p, Cert.Bin.gateK (args m c) (rowAt t p) k := by
  rw [outsAt0_A m c t h (first h)]
  frame_out
  open_payloads
  pointwise []
  simp only [blk0, blk1, blk2, blk3, blk4, blk5, blk6, blk7, blk8, blk9, blk10, blk11, blk12, blk13]
  rfl

theorem later19 (t : Fin cfg0.N) (h : ¬t.val % 64 = 0) (k : Fin 1024) :
    (outsAt0 m c t.val t.isLt).2.2.2.2.2 (ix2 0 k) = (outsAt0 m c (t.val - 1) (Nat.lt_of_le_of_lt (Nat.sub_le _ _) t.isLt)).2.2.2.2.2 (ix2 0 k)
      + ∑ p, Cert.Bin.gateK (args m c) (rowAt t p) k := by
  rw [outsAt0_B m c t h (later h)]
  frame_out
  open_payloads
  pointwise []
  simp only [blk0, blk1, blk2, blk3, blk4, blk5, blk6, blk7, blk8, blk9, blk10, blk11, blk12, blk13]
  rfl

/-- The sum of the gate's gradient over all rows after the call. -/
theorem final19 : (dats m 0 c).arrAt 19 (cfgs 0).N = fun i => ∑ r, Cert.Bin.gateK (args m c) r (i 1) := by
  refine (dats m 0 c).arrAt_eq_of_covers 19 _ (by decide +kernel) fun t hf y => ?_
  blk_simp
  rw [after0_19]
  refine ((congrArg _ (row0 y).symm).trans (total (fun n h k => (outsAt0 m c n h).2.2.2.2.2 (ix2 0 k)) _ (first19 m c) (later19 m c) t (last ((flush0_19 t).mp hf)) (y 1))).trans ?_
  exact congrArg (fun k => ∑ r, Cert.Bin.gateK (args m c) r k) (Fin.ext (by blk_simp [idx t]))

/-- From any memory the call ends with the two gradients and the four sums, and the arguments as they were. -/
theorem run (ρ : Dev nD → PrngReg) : θ_run defs (onTc (main (F := Ideal))) ⟨m, fun _ => 0, ρ⟩ fun r => ∀ c : Dev nD,
    r.2.mem ((c.tc : Thread nD τ).loc main_v18_0) = (fun i => Cert.Bin.dxK (args m c) (i 0) (i 1))
    ∧ r.2.mem ((c.tc : Thread nD τ).loc main_v18_1) = (fun i => Cert.Bin.dfK (args m c) (i 0) (i 1))
    ∧ r.2.mem ((c.tc : Thread nD τ).loc main_v18_2) = (fun i => ∑ r, Cert.Bin.dhK (args m c) r (i 1))
    ∧ r.2.mem ((c.tc : Thread nD τ).loc main_v18_3) = (fun i => ∑ r, Cert.Bin.scaleK (args m c) r (i 1))
    ∧ r.2.mem ((c.tc : Thread nD τ).loc main_v18_4) = (fun i => ∑ r, Cert.Bin.gainK (args m c) r (i 1))
    ∧ r.2.mem ((c.tc : Thread nD τ).loc main_v18_5) = (fun i => ∑ r, Cert.Bin.gateK (args m c) r (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11) :=
  (θ_run defs _ _).mono (fun r h c => ⟨((h.1 c).1 14).trans (final14 m c), ((h.1 c).1 15).trans (final15 m c), ((h.1 c).1 16).trans (final16 m c), ((h.1 c).1 17).trans (final17 m c), ((h.1 c).1 18).trans (final18 m c), ((h.1 c).1 19).trans (final19 m c), h.2 c⟩) (θ_run_and (run_main m ρ) (unchanged m ρ))

end Cert.BinBIdeal.Value

end
-- ==== Proof.Claims.Bin.lean ====
/- The token mixer's norm's gradients: the reference's frame and the equality of the six results. -/
module

public import proofs.«01_k».proof.Defs
public import proofs.«01_k».proof.Proof.Gen.BinB.Frame
public import proofs.«01_k».proof.Proof.Gen.Pre_finite_bin
public import proofs.«01_k».proof.Proof.BinKernel
public import Idealize.ShloMosaic.Lib.Claim

@[expose] public section

set_option maxRecDepth 65536

noncomputable section

namespace Cert.Bin

open Idealize.ShloMosaic Idealize.SL.Sem
open Cert.Finite Cert.Norm

/-- The reference ends with its arguments unchanged and no signal owed. -/
theorem frame_reference : Cert.quiescent_RefBinBIdeal (hRefBinBIdeal := Cert.RefBinBIdeal.Gen.facts) := by
  intro m g _
  exact (θ_run Cert.RefBinBIdeal.defs _ _).mono
    (fun r h => ⟨fun c => (h c).2.2.2.2.2.2, Idealize.ShloMosaic.sem_eq_zero_of_no_sems (by decide) r.2⟩) (Cert.RefBinBIdeal.Value.run m g)

/-- The precondition says that every element of the ten arguments it names is a real number. -/
theorem real_args [Cert.Pre_finite_bin.Facts] (x f : FVec Ideal Cert.Pre_finite_bin.S16384x1024 .f32) (g n s b : FVec Ideal Cert.Pre_finite_bin.S1x1024 .f32)
    (w : FVec Ideal Cert.Pre_finite_bin.S1024x6400 .f32) (q : FVec Ideal Cert.Pre_finite_bin.S16384x2304 .f32)
    (u : FVec Ideal Cert.Pre_finite_bin.S16384x2048 .f32) (a c o : FVec Ideal Cert.Pre_finite_bin.S16384x1024 .f32)
    (h : Cert.Pre_finite_bin.fn (F := Ideal) x f g n s b w q u a c o = fun _ => 1#1) : Args.Real ⟨x, f, g, n, s, w, q, u, a, c, o⟩ := by
  have e := congrFun h ix0
  simp only [Cert.Pre_finite_bin.fn, Cert.Pre_finite_bin.fn_part1, Cert.Pre_finite_bin.fn_part2, andi, IntOp.andi_eq_one] at e
  obtain ⟨⟨⟨⟨⟨⟨⟨⟨⟨e0, e1⟩, e2⟩, e3⟩, e4⟩, e5⟩, e6⟩, e7⟩, e8⟩, e9⟩ := e
  exact ⟨finite_of_all x _ _ (fun _ => rfl) _ _ _ e0, finite_of_all f _ _ (fun _ => rfl) _ _ _ e1,
    finite_of_all g _ _ (fun _ => rfl) _ _ _ e2, finite_of_all n _ _ (fun _ => rfl) _ _ _ e3, finite_of_all s _ _ (fun _ => rfl) _ _ _ e4,
    finite_of_all w _ _ (fun _ => rfl) _ _ _ e5, finite_of_all q _ _ (fun _ => rfl) _ _ _ e6,
    finite_of_all u _ _ (fun _ => rfl) _ _ _ e7, finite_of_all a _ _ (fun _ => rfl) _ _ _ e8, finite_of_all c _ _ (fun _ => rfl) _ _ _ e9⟩

/-- From equal finite arguments the kernel and the reference end with the same six gradients. -/
theorem algebraic : Cert.algebraic_BinBIdeal_RefBinBIdeal_pre_finite_bin (hBinBIdeal := Cert.BinBIdeal.Gen.facts)
    (hRefBinBIdeal := Cert.RefBinBIdeal.Gen.facts) (hPre_finite_bin := Cert.Pre_finite_bin.Gen.facts) := by
  pair_intro
  · run_from Cert.BinBIdeal.Value.run m g
  · refine Idealize.ShloMosaic.θ_run_mono (Cert.RefBinBIdeal.Value.run m' g') ?_
    intro r hr c
    obtain ⟨e0, e1, e2, e3, e4, e5, ea⟩ := hr c
    have hf : (Cert.BinBIdeal.Value.args m c).Real := real_args _ _ _ _ _ _ _ _ _ _ _ _ (hpre c)
    have ha : args m' c = Cert.BinBIdeal.Value.args m c := by
      obtain ⟨h0, h1, h2, h3, h4, -, h6, h7, h8, h9, h10, h11⟩ := hagree c
      simp only [args, Cert.BinBIdeal.Value.args, h0, h1, h2, h3, h4, h6, h7, h8, h9, h10, h11]
    refine ⟨e0.trans ?_, e1.trans ?_, e2.trans ?_, e3.trans ?_, e4.trans ?_, e5.trans ?_, ea⟩
    all_goals funext i
    all_goals try rw [← ha] at hf ⊢
    · exact (congrArg _ (eq_ix2 i)).trans ((ref_dx m' c (i 0) (i 1)).trans (dx_eq hf _ _).symm)
    · exact (congrArg _ (eq_ix2 i)).trans ((ref_df m' c (i 0) (i 1)).trans (congrArg _ (dx_eq hf _ _).symm))
    · pointwise []
      exact Finset.sum_congr rfl fun r _ => (dh_eq (A := args m' c) r (i 1)).symm
    · pointwise []
      exact Finset.sum_congr rfl fun r _ => scale_eq (A := args m' c) r (i 1)
    · pointwise []
      exact Finset.sum_congr rfl fun r _ => gain_eq (A := args m' c) r (i 1)
    · exact (congrArg _ (row0 i).symm).trans ((ref_dgate m' c (i 1)).trans (gate_eq hf (i 1)).symm)

end Cert.Bin

end
-- ==== Proof.Condition.lean ====
/- The conditions' silu: what the kernel leaves. -/
module

public import proofs.«01_k».proof.Proof.Gen.CondFIdeal.Frame
public import proofs.«01_k».proof.Proof.Forward
public import Idealize.ShloMosaic.Lib.Pipeline.ValueKit

@[expose] public section

set_option maxRecDepth 16384

noncomputable section

open Idealize.ShloMosaic Idealize.ShloMosaic.TcCoe Idealize.SL.Sem
open Cert.Forward

namespace Cert.CondFIdeal.Value

open Cert.CondFIdeal Cert.CondFIdeal.Gen

/-- The call has one grid point, whose blocks are the whole arrays. -/
theorem idx : ∀ t : Fin cfg0.N, win0_0.index t = ![0, 0] ∧ win0_1.index t = ![0, 0] :=
  (by decide +kernel : ∀ t : Fin grid0.N, _)

variable (m : (ℓ : Loc nD τ sig) → Buf (Elt Ideal) ℓ) (c : Dev nD)

/-- The kernel's argument: the conditions. -/
abbrev aC : Mat 8 1024 := m ((c : Thread nD τ).loc main_arg0)

theorem blk0 (t : Fin cfg0.N) (p : Fin 8) (k : Fin 1024) : iblk m c 0 t (ix2 p k) = aC m c (ix2 p k) := by
  blk_ext [iblk, V, idx t]

/-- The block is the silu of the conditions. -/
theorem out1 (t : Fin cfg0.N) (p : Fin 8) (k : Fin 1024) :
    out0_1 (iblk m c 0 t) (ix2 p k) = aC m c (ix2 p k) * logistic (aC m c (ix2 p k)) := by
  frame_out
  open_payloads
  pointwise []
  simp only [blk0, zero_sub]
  rfl

/-- The whole array after the call. -/
theorem final1 : (dats m 0 c).arrAt 1 (cfgs 0).N = fun i => aC m c (ix2 (i 0) (i 1)) * logistic (aC m c (ix2 (i 0) (i 1))) := by
  refine (dats m 0 c).arrAt_eq_of_covers 1 _ (by decide +kernel) fun t _ y => ?_
  blk_simp
  rw [after0_1]
  refine ((congrArg _ (eq_ix2 y)).trans (out1 m c t (y 0) (y 1))).trans ?_
  exact congrArg₂ (fun r k => aC m c (ix2 r k) * logistic (aC m c (ix2 r k))) (Fin.ext (by blk_simp [idx t])) (Fin.ext (by blk_simp [idx t]))

end Cert.CondFIdeal.Value

end
-- ==== Proof.Claims.Condition.lean ====
/- The conditions' silu: the frame and the equality of the results. -/
module

public import proofs.«01_k».proof.Defs
public import proofs.«01_k».proof.Proof.Gen.CondF.Frame
public import proofs.«01_k».proof.Proof.Gen.RefCondFIdeal.Run
public import proofs.«01_k».proof.Proof.Condition
public import Idealize.ShloMosaic.Lib.Claim

@[expose] public section

set_option maxRecDepth 16384

noncomputable section

open Idealize.ShloMosaic Idealize.SL.Sem

namespace Cert.Condition

/-- The reference ends with its arguments unchanged and no signal owed. -/
theorem frame_reference : Cert.quiescent_RefCondFIdeal (hRefCondFIdeal := Cert.RefCondFIdeal.Gen.facts) := by
  intro m g _
  exact (θ_run Cert.RefCondFIdeal.defs _ _).mono
    (fun r h => ⟨fun c => (h c).2, Idealize.ShloMosaic.sem_eq_zero_of_no_sems (by decide) r.2⟩) (Cert.RefCondFIdeal.Value.run m g)

/-- From equal arguments the kernel and the reference end with the same silu of the conditions. -/
theorem algebraic : Cert.algebraic_CondFIdeal_RefCondFIdeal (hCondFIdeal := Cert.CondFIdeal.Gen.facts)
    (hRefCondFIdeal := Cert.RefCondFIdeal.Gen.facts) := by
  pair_intro
  · run_from Cert.CondFIdeal.Gen.run_main m g
  · run_from Cert.RefCondFIdeal.Value.run m' g'
    · refine Eq.trans ?_ (Cert.CondFIdeal.Value.final1 m c).symm
      funext i
      obtain ⟨r, k, rfl⟩ : ∃ r k, i = ix2 r k := ⟨_, _, eq_ix2 i⟩
      pointwise []
      rfl

end Cert.Condition

end
-- ==== Proof.Ada.lean ====
/- The modulation of the norms, one row per device: the product of the conditions with its weights, and its bias, as the kernel leaves them. -/
module

public import proofs.«01_k».proof.Proof.Gen.AdaFIdeal.Frame
public import proofs.«01_k».proof.Proof.Forward
public import Idealize.ShloMosaic.Lib.Pipeline.ValueKit
public import Idealize.ShloMosaic.Lib.Pointwise
public import Idealize.ShloMosaic.Lib.KernelVsHost

@[expose] public section

set_option maxRecDepth 16384

noncomputable section

open Idealize.ShloMosaic Idealize.ShloMosaic.TcCoe Idealize.SL.Sem
open Cert.Forward

namespace Cert.AdaFIdeal.Value

open Cert.AdaFIdeal Cert.AdaFIdeal.Gen

/-- The grid has one point. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

variable (m : (ℓ : Loc nD τ sig) → Buf (Elt Ideal) ℓ) (c : Dev nD)

/-- The kernel's arguments: the conditions, the weights and the bias. -/
abbrev aC : Mat 8 1024 := m ((c : Thread nD τ).loc main_arg0)
abbrev aW : Mat 1024 1152 := m ((c : Thread nD τ).loc main_arg1)
abbrev aB : FVec Ideal ⟨1, ![1152]⟩ .f32 := m ((c : Thread nD τ).loc main_arg2)

/-- The conditions with the rows that fill up the block. -/
abbrev aP : FVec Ideal ⟨2, ![128, 1024]⟩ .bf16 := V m c main_v1

/-- The conditions' own rows come first. -/
theorem host_c (r : Fin 8) (k : Fin 1024) : aP m c (ix2 ⟨r.val, by omega⟩ k) = aC m c (ix2 r k) := by
  simp only [aP, V, V0, hostOps0, hostOps0_1, hostOps0_2, List.flatten_cons, List.flatten_nil, List.append_nil, List.cons_append, List.nil_append]
  after_results_simp
  exact pad_apply_of_inside ![0, 0] ![120, 0] ![0, 0] (aC m c) _ pads_S8x1024_S128x1024_01200_000 h_S_ (ix2 ⟨r.val, by omega⟩ k) (ix2 r k)
    fun a => by fin_cases a <;> simp

theorem host_w (j : Fin 1024) (k : Fin 1152) : V m c main_v2 (ix2 j k) = aW m c (ix2 j k) := by
  simp only [aP, V, V0, hostOps0, hostOps0_1, hostOps0_2, List.flatten_cons, List.flatten_nil, List.append_nil, List.cons_append, List.nil_append]
  after_results_simp
  pointwise []

theorem host_b (k : Fin 1152) : V m c main_v3 (ix2 0 k) = aB m c (ix1 k) := by
  simp only [aP, V, V0, hostOps0, hostOps0_1, hostOps0_2, List.flatten_cons, List.flatten_nil, List.append_nil, List.cons_append, List.nil_append]
  after_results_simp
  pointwise []

theorem blk0 (t : Fin cfg0.N) (p : Fin 128) (k : Fin 1024) : iblk m c 0 t (ix2 p k) = aP m c (ix2 p k) := by
  blk_ext [iblk, idx t]

theorem blk1 (t : Fin cfg0.N) (j : Fin 1024) (k : Fin 1152) : iblk m c 1 t (ix2 j k) = aW m c (ix2 j k) := by
  rw [← host_w]
  blk_ext [iblk, idx t]

theorem blk2 (t : Fin cfg0.N) (k : Fin 1152) : iblk m c 2 t (ix2 0 k) = aB m c (ix1 k) := by
  rw [← host_b]
  blk_ext [iblk, idx t]

/-- An entry of the product with the bias, over the filled up rows. -/
def full (p : Fin 128) (k : Fin 1152) : EReal := ∑ i, aP m c (ix2 p i) * aW m c (ix2 i k) + aB m c (ix1 k)

/-- The one block of the result. -/
theorem out3 (t : Fin cfg0.N) (p : Fin 128) (k : Fin 1152) : out0_3 (iblk m c 0 t) (iblk m c 1 t) (iblk m c 2 t) (ix2 p k) = full m c p k := by
  frame_out
  open_payloads
  pointwise []
  simp only [blk0, blk1, blk2]
  rfl

/-- The whole array after the call. -/
theorem final3 : (dats m 0 c).arrAt 3 (cfgs 0).N = fun i => full m c (i 0) (i 1) := by
  refine (dats m 0 c).arrAt_eq_of_covers 3 _ (by decide +kernel) fun t _ y => ?_
  blk_simp
  rw [after0_3]
  refine ((congrArg _ (eq_ix2 y)).trans (out3 m c t (y 0) (y 1))).trans ?_
  exact congrArg₂ (full m c) (Fin.ext (by blk_simp [idx t])) (Fin.ext (by blk_simp [idx t]))

/-- The product with the bias on the conditions' own rows. -/
def modAt (r : Fin 8) (k : Fin 1152) : EReal := prod (aC m c) (aW m c) r k + aB m c (ix1 k)

/-- The rows the program returns. -/
theorem tail5 (r : Fin 8) (k : Fin 1152) : Pipeline.afterTail₀ cfgs (dats m) 0 (V0 m) [hostOps1] c main_v5 (ix2 r k) = modAt m c r k := by
  unfold Pipeline.afterTail₀
  simp only [hostOps1, List.flatten_cons, List.flatten_nil, List.append_nil, List.cons_append, List.nil_append]
  after_results_simp
  rw [show Pipeline.withArrays (cfgs 0).spec c (V0 m c) (fun w => (dats m 0 c).arrAt w (cfgs 0).N) (Proc.devRef .tc main_v4) = (dats m 0 c).arrAt 3 (cfgs 0).N from
    Pipeline.withArrays_arr (cfgs 0).spec (by decide) c (V0 m c) _ 3, final3]
  pointwise []
  have h : ∀ i, aP m c (ix2 ⟨r.val, by omega⟩ i) = aC m c (ix2 r i) := host_c m c r
  unfold modAt prod
  simp only [← h]
  refine congrArg₂ (full m c) (Fin.ext ?_) (Fin.ext ?_) <;> simp

/-- Every run of the kernel ends with the modulation's rows, its arguments unchanged. -/
theorem run (ρ : Dev nD → PrngReg) : θ_run defs (onTc (τ := τ) (main (F := Ideal))) ⟨m, fun _ => 0, ρ⟩ fun r => ∀ c : Dev nD,
    r.2.mem ((c.tc : Thread nD τ).loc main_v5) = (fun i => modAt m c (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun r h c => ⟨((h.1 c).2 main_v5 (by decide)).trans (funext fun i => (congrArg _ (eq_ix2 i)).trans (tail5 m c (i 0) (i 1))), h.2 c⟩)
    (θ_run_and (run_main m ρ) (unchanged m ρ))

end Cert.AdaFIdeal.Value

end
-- ==== Proof.Claims.Ada.lean ====
/- The modulation of the norms: the reference's frame and the equality of the results. -/
module

public import proofs.«01_k».proof.Defs
public import proofs.«01_k».proof.Proof.Gen.AdaF.Frame
public import proofs.«01_k».proof.Proof.Gen.RefAdaFIdeal.Run
public import proofs.«01_k».proof.Proof.Ada
public import Idealize.ShloMosaic.Lib.Claim

@[expose] public section

set_option maxRecDepth 16384

noncomputable section

open Idealize.ShloMosaic Idealize.SL.Sem

namespace Cert.Ada

/-- The reference ends with its arguments unchanged and no signal owed. -/
theorem frame_reference : Cert.quiescent_RefAdaFIdeal (hRefAdaFIdeal := Cert.RefAdaFIdeal.Gen.facts) := by
  intro m g _
  exact (θ_run Cert.RefAdaFIdeal.defs _ _).mono
    (fun r h => ⟨fun c => (h c).2, Idealize.ShloMosaic.sem_eq_zero_of_no_sems (by decide) r.2⟩) (Cert.RefAdaFIdeal.Value.run m g)

/-- From equal arguments the kernel and the reference end with the same modulation. -/
theorem algebraic : Cert.algebraic_AdaFIdeal_RefAdaFIdeal (hAdaFIdeal := Cert.AdaFIdeal.Gen.facts)
    (hRefAdaFIdeal := Cert.RefAdaFIdeal.Gen.facts) := by
  pair_intro
  · run_from Cert.AdaFIdeal.Value.run m g
  · run_from Cert.RefAdaFIdeal.Value.run m' g'
    · funext i
      obtain ⟨r, k, rfl⟩ : ∃ r k, i = ix2 r k := ⟨_, _, eq_ix2 i⟩
      pointwise []
      rfl

end Cert.Ada

end
-- ==== Proof.Project.lean ====
/- The projection to queries, keys and values: what the kernel leaves. -/
module

public import proofs.«01_k».proof.Proof.Gen.QkvFIdeal.Frame
public import proofs.«01_k».proof.Proof.Forward
public import Idealize.ShloMosaic.Lib.Pipeline.ValueKit

@[expose] public section

set_option maxRecDepth 16384

noncomputable section

open Idealize.ShloMosaic Idealize.ShloMosaic.TcCoe Idealize.SL.Sem
open Cert.Forward

namespace Cert.QkvFIdeal.Value

open Cert.QkvFIdeal Cert.QkvFIdeal.Gen

/-- The grid runs down the rows; the weights stay. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The kernel's arguments: the rows and the weights. -/
abbrev aH : Mat 16384 1024 := m ((c : Thread nD τ).loc main_arg0)
abbrev aW : Mat 1024 2304 := m ((c : Thread nD τ).loc main_arg1)

/-- The array's row a block's row is. -/
def rowAt (t : Fin cfg0.N) (p : Fin 512) : Fin 16384 := rowIn t.val (lt_of_lt_of_eq t.isLt (show cfg0.N = 32 from N_0)) p

theorem blk0 (t : Fin cfg0.N) (p : Fin 512) (k : Fin 1024) : iblk m c 0 t (ix2 p k) = aH m c (ix2 (rowAt t p) k) := by
  blk_ext [iblk, V, idx t, rowAt, rowIn]

theorem blk1 (t : Fin cfg0.N) (j : Fin 1024) (k : Fin 2304) : iblk m c 1 t (ix2 j k) = aW m c (ix2 j k) := by
  blk_ext [iblk, V, idx t]

/-- A grid point's block of the product. -/
theorem out2 (t : Fin cfg0.N) (p : Fin 512) (k : Fin 2304) :
    out0_2 (iblk m c 0 t) (iblk m c 1 t) (ix2 p k) = prod (aH m c) (aW m c) (rowAt t p) k := by
  frame_out
  open_payloads
  pointwise []
  simp only [blk0, blk1]
  rfl

/-- The whole product after the call. -/
theorem final2 : (dats m 0 c).arrAt 2 (cfgs 0).N = fun i => prod (aH m c) (aW m c) (i 0) (i 1) := by
  refine (dats m 0 c).arrAt_eq_of_covers 2 _ (by decide +kernel) fun t _ y => ?_
  blk_simp
  rw [after0_2]
  refine ((congrArg _ (eq_ix2 y)).trans (out2 m c t (y 0) (y 1))).trans ?_
  exact congrArg₂ (prod (aH m c) (aW m c)) (Fin.ext (by blk_simp [idx t, rowAt, rowIn])) (Fin.ext (by blk_simp [idx t]))

end Cert.QkvFIdeal.Value

end
-- ==== Proof.Claims.Project.lean ====
/- The projection to queries, keys and values: the frame and the equality of the results. -/
module

public import proofs.«01_k».proof.Defs
public import proofs.«01_k».proof.Proof.Gen.QkvF.Frame
public import proofs.«01_k».proof.Proof.Gen.RefQkvFIdeal.Run
public import proofs.«01_k».proof.Proof.Project
public import Idealize.ShloMosaic.Lib.Claim

@[expose] public section

set_option maxRecDepth 16384

noncomputable section

open Idealize.ShloMosaic Idealize.SL.Sem

namespace Cert.Project

/-- The reference ends with its arguments unchanged and no signal owed. -/
theorem frame_reference : Cert.quiescent_RefQkvFIdeal (hRefQkvFIdeal := Cert.RefQkvFIdeal.Gen.facts) := by
  intro m g _
  exact (θ_run Cert.RefQkvFIdeal.defs _ _).mono
    (fun r h => ⟨fun c => (h c).2, Idealize.ShloMosaic.sem_eq_zero_of_no_sems (by decide) r.2⟩) (Cert.RefQkvFIdeal.Value.run m g)

/-- From equal arguments the kernel and the reference end with the same product. -/
theorem algebraic : Cert.algebraic_QkvFIdeal_RefQkvFIdeal (hQkvFIdeal := Cert.QkvFIdeal.Gen.facts)
    (hRefQkvFIdeal := Cert.RefQkvFIdeal.Gen.facts) := by
  pair_intro
  · run_from Cert.QkvFIdeal.Gen.run_main m g
  · run_from Cert.RefQkvFIdeal.Value.run m' g'
    · refine Eq.trans ?_ (Cert.QkvFIdeal.Value.final2 m c).symm
      funext i
      obtain ⟨r, k, rfl⟩ : ∃ r k, i = ix2 r k := ⟨_, _, eq_ix2 i⟩
      pointwise []
      rfl

end Cert.Project

end
-- ==== Proof.Weight.lean ====
/- The gradient of a weight, a product over all rows: what the kernel leaves. -/
module

public import proofs.«01_k».proof.Proof.Gen.WeightBIdeal.Frame
public import proofs.«01_k».proof.Proof.Forward
public import Idealize.ShloMosaic.Lib.Pipeline.ValueKit

@[expose] public section

set_option maxRecDepth 16384

noncomputable section

open Idealize.ShloMosaic Idealize.ShloMosaic.TcCoe Idealize.SL.Sem
open Cert.Forward

namespace Cert.WeightBIdeal.Value

open Cert.WeightBIdeal Cert.WeightBIdeal.Gen

/-- The grid runs down the rows the product contracts; its result stays. -/
theorem idx : ∀ t : Fin cfg0.N, win0_0.index t = ![t.val, 0] ∧ win0_1.index t = ![t.val, 0] ∧ win0_2.index t = ![0, 0] :=
  (by decide +kernel : ∀ t : Fin grid0.N, _)

variable (m : (ℓ : Loc nD τ sig) → Buf (Elt Ideal) ℓ) (c : Dev nD)

/-- The kernel's arguments: the rows of the branch's input and of its cotangent. -/
abbrev aH : Mat 16384 1024 := m ((c : Thread nD τ).loc main_arg0)
abbrev aD : Mat 16384 2816 := m ((c : Thread nD τ).loc main_arg1)

/-- The array's row a block's row is. -/
def rowAt (t : Fin cfg0.N) (p : Fin 512) : Fin 16384 := rowIn t.val (lt_of_lt_of_eq t.isLt (show cfg0.N = 32 from N_0)) p

theorem blk0 (t : Fin cfg0.N) (p : Fin 512) (k : Fin 1024) : iblk m c 0 t (ix2 p k) = aH m c (ix2 (rowAt t p) k) := by
  blk_ext [iblk, V, idx t, rowAt, rowIn]

theorem blk1 (t : Fin cfg0.N) (p : Fin 512) (k : Fin 2816) : iblk m c 1 t (ix2 p k) = aD m c (ix2 (rowAt t p) k) := by
  blk_ext [iblk, V, idx t, rowAt, rowIn]

/-- The part of one entry of the product that a grid point's rows give. -/
def part (t : Fin cfg0.N) (i : Fin 1024) (j : Fin 2816) : EReal := ∑ p, aH m c (ix2 (rowAt t p) i) * aD m c (ix2 (rowAt t p) j)

/-- The first point begins the accumulator with its part. -/
theorem first (t : Fin cfg0.N) (h : t.val % 32 = 0) (i : Fin 1024) (j : Fin 2816) : (outsAt0 m c t.val t.isLt).2 (ix2 i j) = 0 + part m c t i j := by
  rw [outsAt0_A m c t h (by omega)]
  frame_out
  open_payloads
  pointwise []
  simp only [blk0, blk1]
  rfl

/-- The later points add theirs. -/
theorem later (t : Fin cfg0.N) (h : ¬t.val % 32 = 0) (i : Fin 1024) (j : Fin 2816) : (outsAt0 m c t.val t.isLt).2 (ix2 i j)
    = (outsAt0 m c (t.val - 1) (Nat.lt_of_le_of_lt (Nat.sub_le _ _) t.isLt)).2 (ix2 i j) + part m c t i j := by
  by_cases hl : t.val % 32 = 31
  · rw [outsAt0_C m c t h hl]
    frame_out
    open_payloads
    pointwise []
    simp only [blk0, blk1]
    exact congrArg (· + part m c t i j) (congrFun ((Memref.isWhole_whole _).read_unread _) _)
  · rw [outsAt0_B m c t h hl]
    frame_out
    open_payloads
    pointwise []
    simp only [blk0, blk1]
    exact congrArg (· + part m c t i j) (congrFun ((Memref.isWhole_whole _).read_unread _) _)

/-- The last point writes the accumulator out. -/
theorem written (t : Fin cfg0.N) (h : t.val % 32 = 31) (i : Fin 1024) (j : Fin 2816) :
    (outsAt0 m c t.val t.isLt).1 (ix2 i j) = (outsAt0 m c t.val t.isLt).2 (ix2 i j) := by
  rw [outsAt0_C m c t (by omega) h]
  frame_out
  open_payloads
  pointwise []

/-- A sum over the points and each point's rows is the sum over all rows. -/
theorem sum_rows (f : Fin 16384 → EReal) : (∑ t : Fin cfg0.N, ∑ p : Fin 512, f (rowAt t p)) = ∑ r, f r :=
  Fin.sum_mul_add_congr (fun t p hl => rfl) (by rw [show cfg0.N = 32 from N_0])

/-- The last point leaves the product of the whole arrays. -/
theorem total (t : Fin cfg0.N) (h : t.val % 32 = 31) (i : Fin 1024) (j : Fin 2816) :
    (outsAt0 m c t.val t.isLt).1 (ix2 i j) = ∑ r, aH m c (ix2 r i) * aD m c (ix2 r j) := by
  have ht : t.val + 1 = cfg0.N := by
    have := lt_of_lt_of_eq t.isLt (show cfg0.N = 32 from N_0)
    exact Eq.trans (by omega : t.val + 1 = 32) N_0.symm
  rw [written m c t h, Pipeline.eq_sum_fin_of_reset_step_apply_last (fun n h (y : Fin 1024 × Fin 2816) => (outsAt0 m c n h).2 (ix2 y.1 y.2)) 32 (fun _ => 0)
    (fun t y => part m c t y.1 y.2) (fun t h y => first m c t h y.1 y.2) (fun t h y => later m c t h y.1 y.2) (le_of_eq N_0) t ht (i, j), zero_add]
  exact sum_rows fun r => aH m c (ix2 r i) * aD m c (ix2 r j)

/-- The whole product after the call. -/
theorem final2 : (dats m 0 c).arrAt 2 (cfgs 0).N = fun i => ∑ r, aH m c (ix2 r (i 0)) * aD m c (ix2 r (i 1)) := by
  refine (dats m 0 c).arrAt_eq_of_covers 2 _ (by decide +kernel) fun t hf y => ?_
  blk_simp
  rw [after0_2]
  refine ((congrArg _ (eq_ix2 y)).trans (total m c t ((flush0_2 t).mp hf) (y 0) (y 1))).trans ?_
  exact congrArg₂ (fun i j => ∑ r, aH m c (ix2 r i) * aD m c (ix2 r j)) (Fin.ext (by blk_simp [idx t])) (Fin.ext (by blk_simp [idx t]))

end Cert.WeightBIdeal.Value

end
-- ==== Proof.Claims.Weight.lean ====
/- The gradient of a weight: the frame and the equality of the results. -/
module

public import proofs.«01_k».proof.Defs
public import proofs.«01_k».proof.Proof.Gen.WeightB.Frame
public import proofs.«01_k».proof.Proof.Gen.RefWeightBIdeal.Run
public import proofs.«01_k».proof.Proof.Weight
public import Idealize.ShloMosaic.Lib.Claim

@[expose] public section

set_option maxRecDepth 65536

noncomputable section

open Idealize.ShloMosaic Idealize.SL.Sem

namespace Cert.Weight

/-- The reference ends with its arguments unchanged and no signal owed. -/
theorem frame_reference : Cert.quiescent_RefWeightBIdeal (hRefWeightBIdeal := Cert.RefWeightBIdeal.Gen.facts) := by
  intro m g _
  exact (θ_run Cert.RefWeightBIdeal.defs _ _).mono
    (fun r h => ⟨fun c => (h c).2, Idealize.ShloMosaic.sem_eq_zero_of_no_sems (by decide) r.2⟩) (Cert.RefWeightBIdeal.Value.run m g)

/-- From equal arguments the kernel and the reference end with the same gradient of the weight. -/
theorem algebraic : Cert.algebraic_WeightBIdeal_RefWeightBIdeal (hWeightBIdeal := Cert.WeightBIdeal.Gen.facts)
    (hRefWeightBIdeal := Cert.RefWeightBIdeal.Gen.facts) := by
  pair_intro
  · run_from Cert.WeightBIdeal.Gen.run_main m g
  · run_from Cert.RefWeightBIdeal.Value.run m' g'
    · refine Eq.trans ?_ (Cert.WeightBIdeal.Value.final2 m c).symm
      funext i
      obtain ⟨r, k, rfl⟩ : ∃ r k, i = ix2 r k := ⟨_, _, eq_ix2 i⟩
      pointwise []
      exact Finset.sum_congr rfl fun r _ => mul_comm _ _

end Cert.Weight

end
-- ==== Proof.Adam.lean ====
/- The optimiser: what the kernel leaves of one array of weights. -/
module

public import proofs.«01_k».proof.Proof.Gen.AdamUIdeal.Frame
public import proofs.«01_k».proof.Proof.Forward
public import Idealize.ShloMosaic.Lib.Pipeline.ValueKit

@[expose] public section

set_option maxRecDepth 16384

noncomputable section

open Idealize.ShloMosaic Idealize.ShloMosaic.TcCoe Idealize.SL.Sem
open Cert.Forward

namespace Cert.AdamUIdeal.Value

open Cert.AdamUIdeal Cert.AdamUIdeal.Gen

/-- The weights' rows move down with the grid point, and the moments' and the gradient's with them. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The running mean of the gradient. -/
def mean (m g : EReal) : EReal := Ideal.ofBits .f32 0x3F666666#32 * m + Ideal.ofBits .f32 0x3DCCCCCD#32 * g

/-- The running mean of the gradient's square. -/
def square (v g : EReal) : EReal := Ideal.ofBits .f32 0x3F7FBE77#32 * v + Ideal.ofBits .f32 0x3A83126F#32 * (g * g)

/-- The step of one weight: the corrected mean over the root of the corrected square, and the decay of the weight. -/
def step (w g m v : EReal) : EReal :=
  Ideal.ofBits .f32 0xBA83126F#32 * (Ideal.div (Ideal.div (mean m g) (Ideal.ofBits .f32 0x3F26BD02#32))
    (Ideal.sqrt (Ideal.div (square v g) (Ideal.ofBits .f32 0x3C231ACC#32)) + Ideal.ofBits .f32 0x322BCC77#32)
    + Ideal.ofBits .f32 0x3C23D70A#32 * w)

variable (m : (ℓ : Loc nD τ sig) → Buf (Elt Ideal) ℓ) (c : Dev nD)

/-- The kernel's arguments: the weights, their gradient and its two running means. -/
abbrev aW : Mat 2048 1152 := m ((c : Thread nD τ).loc main_arg0)
abbrev aG : Mat 2048 1152 := m ((c : Thread nD τ).loc main_arg1)
abbrev aM : Mat 2048 1152 := m ((c : Thread nD τ).loc main_arg2)
abbrev aV : Mat 2048 1152 := m ((c : Thread nD τ).loc main_arg3)

/-- The array's row a block's row is. -/
def rowAt (t : Fin cfg0.N) (p : Fin 128) : Fin 2048 :=
  ⟨t.val * 128 + p.val, by have := lt_of_lt_of_eq t.isLt (show cfg0.N = 16 from N_0); omega⟩

theorem blk0 (t : Fin cfg0.N) (p : Fin 128) (k : Fin 1152) : iblk m c 0 t (ix2 p k) = aW m c (ix2 (rowAt t p) k) := by
  blk_ext [iblk, V, idx t, rowAt]

theorem blk1 (t : Fin cfg0.N) (p : Fin 128) (k : Fin 1152) : iblk m c 1 t (ix2 p k) = aM m c (ix2 (rowAt t p) k) := by
  blk_ext [iblk, V, idx t, rowAt]

theorem blk2 (t : Fin cfg0.N) (p : Fin 128) (k : Fin 1152) : iblk m c 2 t (ix2 p k) = aV m c (ix2 (rowAt t p) k) := by
  blk_ext [iblk, V, idx t, rowAt]

theorem blk3 (t : Fin cfg0.N) (p : Fin 128) (k : Fin 1152) : iblk m c 3 t (ix2 p k) = aG m c (ix2 (rowAt t p) k) := by
  blk_ext [iblk, V, idx t, rowAt]

/-- A grid point's block of the gradient. -/
theorem out4 (t : Fin cfg0.N) (p : Fin 128) (k : Fin 1152) :
    out0_4 (iblk m c 0 t) (iblk m c 1 t) (iblk m c 2 t) (iblk m c 3 t) (ix2 p k) = aG m c (ix2 (rowAt t p) k) := by
  frame_out
  open_payloads
  pointwise []
  simp only [blk0, blk1, blk2, blk3]

/-- The whole array of the gradient after the call. -/
theorem final4 : (dats m 0 c).arrAt 4 (cfgs 0).N = fun i => aG m c (ix2 (i 0) (i 1)) := by
  refine (dats m 0 c).arrAt_eq_of_covers 4 _ (by decide +kernel) fun t _ y => ?_
  blk_simp
  rw [after0_4]
  refine ((congrArg _ (eq_ix2 y)).trans (out4 m c t (y 0) (y 1))).trans ?_
  exact congrArg₂ (fun r k => aG m c (ix2 (r) k)) (Fin.ext (by blk_simp [idx t, rowAt])) (Fin.ext (by blk_simp [idx t, rowAt]))

/-- A grid point's block of the step. -/
theorem out5 (t : Fin cfg0.N) (p : Fin 128) (k : Fin 1152) :
    out0_5 (iblk m c 0 t) (iblk m c 1 t) (iblk m c 2 t) (iblk m c 3 t) (ix2 p k) = step (aW m c (ix2 (rowAt t p) k)) (aG m c (ix2 (rowAt t p) k)) (aM m c (ix2 (rowAt t p) k)) (aV m c (ix2 (rowAt t p) k)) := by
  frame_out
  open_payloads
  pointwise []
  simp only [blk0, blk1, blk2, blk3]
  rfl

/-- The whole array of the step after the call. -/
theorem final5 : (dats m 0 c).arrAt 5 (cfgs 0).N = fun i => step (aW m c (ix2 (i 0) (i 1))) (aG m c (ix2 (i 0) (i 1))) (aM m c (ix2 (i 0) (i 1))) (aV m c (ix2 (i 0) (i 1))) := by
  refine (dats m 0 c).arrAt_eq_of_covers 5 _ (by decide +kernel) fun t _ y => ?_
  blk_simp
  rw [after0_5]
  refine ((congrArg _ (eq_ix2 y)).trans (out5 m c t (y 0) (y 1))).trans ?_
  exact congrArg₂ (fun r k => step (aW m c (ix2 (r) k)) (aG m c (ix2 (r) k)) (aM m c (ix2 (r) k)) (aV m c (ix2 (r) k))) (Fin.ext (by blk_simp [idx t, rowAt])) (Fin.ext (by blk_simp [idx t, rowAt]))

/-- A grid point's block of the first moment. -/
theorem out6 (t : Fin cfg0.N) (p : Fin 128) (k : Fin 1152) :
    out0_6 (iblk m c 0 t) (iblk m c 1 t) (iblk m c 2 t) (iblk m c 3 t) (ix2 p k) = mean (aM m c (ix2 (rowAt t p) k)) (aG m c (ix2 (rowAt t p) k)) := by
  frame_out
  open_payloads
  pointwise []
  simp only [blk0, blk1, blk2, blk3]
  rfl

/-- The whole array of the first moment after the call. -/
theorem final6 : (dats m 0 c).arrAt 6 (cfgs 0).N = fun i => mean (aM m c (ix2 (i 0) (i 1))) (aG m c (ix2 (i 0) (i 1))) := by
  refine (dats m 0 c).arrAt_eq_of_covers 6 _ (by decide +kernel) fun t _ y => ?_
  blk_simp
  rw [after0_6]
  refine ((congrArg _ (eq_ix2 y)).trans (out6 m c t (y 0) (y 1))).trans ?_
  exact congrArg₂ (fun r k => mean (aM m c (ix2 (r) k)) (aG m c (ix2 (r) k))) (Fin.ext (by blk_simp [idx t, rowAt])) (Fin.ext (by blk_simp [idx t, rowAt]))

/-- A grid point's block of the second moment. -/
theorem out7 (t : Fin cfg0.N) (p : Fin 128) (k : Fin 1152) :
    out0_7 (iblk m c 0 t) (iblk m c 1 t) (iblk m c 2 t) (iblk m c 3 t) (ix2 p k) = square (aV m c (ix2 (rowAt t p) k)) (aG m c (ix2 (rowAt t p) k)) := by
  frame_out
  open_payloads
  pointwise []
  simp only [blk0, blk1, blk2, blk3]
  rfl

/-- The whole array of the second moment after the call. -/
theorem final7 : (dats m 0 c).arrAt 7 (cfgs 0).N = fun i => square (aV m c (ix2 (i 0) (i 1))) (aG m c (ix2 (i 0) (i 1))) := by
  refine (dats m 0 c).arrAt_eq_of_covers 7 _ (by decide +kernel) fun t _ y => ?_
  blk_simp
  rw [after0_7]
  refine ((congrArg _ (eq_ix2 y)).trans (out7 m c t (y 0) (y 1))).trans ?_
  exact congrArg₂ (fun r k => square (aV m c (ix2 (r) k)) (aG m c (ix2 (r) k))) (Fin.ext (by blk_simp [idx t, rowAt])) (Fin.ext (by blk_simp [idx t, rowAt]))

end Cert.AdamUIdeal.Value

end
-- ==== Proof.Claims.Adam.lean ====
/- The optimiser: the frame and the equality of the results. -/
module

public import proofs.«01_k».proof.Defs
public import proofs.«01_k».proof.Proof.Gen.AdamU.Frame
public import proofs.«01_k».proof.Proof.Gen.RefAdamUIdeal.Run
public import proofs.«01_k».proof.Proof.Adam
public import Idealize.ShloMosaic.Lib.Claim

@[expose] public section

set_option maxRecDepth 16384

noncomputable section

open Idealize.ShloMosaic Idealize.SL.Sem

namespace Cert.Adam

/-- The reference ends with its arguments unchanged and no signal owed. -/
theorem frame_reference : Cert.quiescent_RefAdamUIdeal (hRefAdamUIdeal := Cert.RefAdamUIdeal.Gen.facts) := by
  intro m g _
  exact (θ_run Cert.RefAdamUIdeal.defs _ _).mono
    (fun r h => ⟨fun c => (h c).2.2.2.2, Idealize.ShloMosaic.sem_eq_zero_of_no_sems (by decide) r.2⟩) (Cert.RefAdamUIdeal.Value.run m g)

/-- From equal arguments the kernel and the reference end with the same gradient, step and moments. -/
theorem algebraic : Cert.algebraic_AdamUIdeal_RefAdamUIdeal (hAdamUIdeal := Cert.AdamUIdeal.Gen.facts)
    (hRefAdamUIdeal := Cert.RefAdamUIdeal.Gen.facts) := by
  pair_intro
  · run_from Cert.AdamUIdeal.Gen.run_main m g
  · run_from Cert.RefAdamUIdeal.Value.run m' g'
    · refine Eq.trans ?_ (Cert.AdamUIdeal.Value.final4 m c).symm
      funext i
      obtain ⟨r, k, rfl⟩ : ∃ r k, i = ix2 r k := ⟨_, _, eq_ix2 i⟩
      pointwise []
    · refine Eq.trans ?_ (Cert.AdamUIdeal.Value.final5 m c).symm
      funext i
      obtain ⟨r, k, rfl⟩ : ∃ r k, i = ix2 r k := ⟨_, _, eq_ix2 i⟩
      pointwise []
      rfl
    · refine Eq.trans ?_ (Cert.AdamUIdeal.Value.final6 m c).symm
      funext i
      obtain ⟨r, k, rfl⟩ : ∃ r k, i = ix2 r k := ⟨_, _, eq_ix2 i⟩
      pointwise []
      rfl
    · refine Eq.trans ?_ (Cert.AdamUIdeal.Value.final7 m c).symm
      funext i
      obtain ⟨r, k, rfl⟩ : ∃ r k, i = ix2 r k := ⟨_, _, eq_ix2 i⟩
      pointwise []
      rfl

end Cert.Adam

end
-- ==== Proof.Parts.lean ====
/- The sum of the devices' parts of the small gradients: what the kernel leaves. -/
module

public import proofs.«01_k».proof.Proof.Gen.SumUIdeal.Frame
public import proofs.«01_k».proof.Proof.Forward
public import Idealize.ShloMosaic.Lib.Pipeline.ValueKit

@[expose] public section

set_option maxRecDepth 16384

noncomputable section

open Idealize.ShloMosaic Idealize.ShloMosaic.TcCoe Idealize.SL.Sem
open Cert.Forward

namespace Cert.SumUIdeal.Value

open Cert.SumUIdeal Cert.SumUIdeal.Gen

/-- The call has one grid point, whose blocks are the whole arrays. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

variable (m : (ℓ : Loc nD τ sig) → Buf (Elt Ideal) ℓ) (c : Dev nD)

/-- The kernel's argument: the devices' parts of the small gradients. -/
abbrev aG : FVec Ideal S8x744x128 .f32 := m ((c : Thread nD τ).loc main_arg0)

theorem blk0 (t : Fin cfg0.N) (p : Fin 744) (k : Fin 128) : iblk m c 0 t (ix2 p k) = aG m c (ix3 0 p k) := by
  refine Eq.trans (b := V m c main_v1 (ix2 p k)) (by blk_ext [iblk, idx t]) ?_
  simp only [V, hostOps0, List.flatten_cons, List.flatten_nil, List.append_nil, List.cons_append, List.nil_append]
  after_results_simp
  pointwise []

theorem blk1 (t : Fin cfg0.N) (p : Fin 744) (k : Fin 128) : iblk m c 1 t (ix2 p k) = aG m c (ix3 1 p k) := by
  refine Eq.trans (b := V m c main_v3 (ix2 p k)) (by blk_ext [iblk, idx t]) ?_
  simp only [V, hostOps0, List.flatten_cons, List.flatten_nil, List.append_nil, List.cons_append, List.nil_append]
  after_results_simp
  pointwise []

theorem blk2 (t : Fin cfg0.N) (p : Fin 744) (k : Fin 128) : iblk m c 2 t (ix2 p k) = aG m c (ix3 2 p k) := by
  refine Eq.trans (b := V m c main_v5 (ix2 p k)) (by blk_ext [iblk, idx t]) ?_
  simp only [V, hostOps0, List.flatten_cons, List.flatten_nil, List.append_nil, List.cons_append, List.nil_append]
  after_results_simp
  pointwise []

theorem blk3 (t : Fin cfg0.N) (p : Fin 744) (k : Fin 128) : iblk m c 3 t (ix2 p k) = aG m c (ix3 3 p k) := by
  refine Eq.trans (b := V m c main_v7 (ix2 p k)) (by blk_ext [iblk, idx t]) ?_
  simp only [V, hostOps0, List.flatten_cons, List.flatten_nil, List.append_nil, List.cons_append, List.nil_append]
  after_results_simp
  pointwise []

theorem blk4 (t : Fin cfg0.N) (p : Fin 744) (k : Fin 128) : iblk m c 4 t (ix2 p k) = aG m c (ix3 4 p k) := by
  refine Eq.trans (b := V m c main_v9 (ix2 p k)) (by blk_ext [iblk, idx t]) ?_
  simp only [V, hostOps0, List.flatten_cons, List.flatten_nil, List.append_nil, List.cons_append, List.nil_append]
  after_results_simp
  pointwise []

theorem blk5 (t : Fin cfg0.N) (p : Fin 744) (k : Fin 128) : iblk m c 5 t (ix2 p k) = aG m c (ix3 5 p k) := by
  refine Eq.trans (b := V m c main_v11 (ix2 p k)) (by blk_ext [iblk, idx t]) ?_
  simp only [V, hostOps0, List.flatten_cons, List.flatten_nil, List.append_nil, List.cons_append, List.nil_append]
  after_results_simp
  pointwise []

theorem blk6 (t : Fin cfg0.N) (p : Fin 744) (k : Fin 128) : iblk m c 6 t (ix2 p k) = aG m c (ix3 6 p k) := by
  refine Eq.trans (b := V m c main_v13 (ix2 p k)) (by blk_ext [iblk, idx t]) ?_
  simp only [V, hostOps0, List.flatten_cons, List.flatten_nil, List.append_nil, List.cons_append, List.nil_append]
  after_results_simp
  pointwise []

theorem blk7 (t : Fin cfg0.N) (p : Fin 744) (k : Fin 128) : iblk m c 7 t (ix2 p k) = aG m c (ix3 7 p k) := by
  refine Eq.trans (b := V m c main_v15 (ix2 p k)) (by blk_ext [iblk, idx t]) ?_
  simp only [V, hostOps0, List.flatten_cons, List.flatten_nil, List.append_nil, List.cons_append, List.nil_append]
  after_results_simp
  pointwise []

/-- The block is the sum of the devices' parts. -/
theorem out8 (t : Fin cfg0.N) (p : Fin 744) (k : Fin 128) :
    out0_8 (iblk m c 0 t) (iblk m c 1 t) (iblk m c 2 t) (iblk m c 3 t) (iblk m c 4 t) (iblk m c 5 t) (iblk m c 6 t) (iblk m c 7 t) (ix2 p k) = ∑ d, aG m c (ix3 d p k) := by
  rw [Fin.sum_univ_eight]
  frame_out
  open_payloads
  pointwise []
  simp only [blk0, blk1, blk2, blk3, blk4, blk5, blk6, blk7]

/-- The whole array of sums after the call. -/
theorem final8 : (dats m 0 c).arrAt 8 (cfgs 0).N = fun i => ∑ d, aG m c (ix3 d (i 0) (i 1)) := by
  refine (dats m 0 c).arrAt_eq_of_covers 8 _ (by decide +kernel) fun t _ y => ?_
  blk_simp
  rw [after0_8]
  refine ((congrArg _ (eq_ix2 y)).trans (out8 m c t (y 0) (y 1))).trans ?_
  exact congrArg₂ (fun r k => ∑ d, aG m c (ix3 d r k)) (Fin.ext (by blk_simp [idx t])) (Fin.ext (by blk_simp [idx t]))

end Cert.SumUIdeal.Value

end
-- ==== Proof.Claims.Parts.lean ====
/- The sum of the devices' parts: the frame and the equality of the results. -/
module

public import proofs.«01_k».proof.Defs
public import proofs.«01_k».proof.Proof.Gen.SumU.Frame
public import proofs.«01_k».proof.Proof.Gen.RefSumUIdeal.Run
public import proofs.«01_k».proof.Proof.Parts
public import Idealize.ShloMosaic.Lib.Claim

@[expose] public section

set_option maxRecDepth 16384

noncomputable section

open Idealize.ShloMosaic Idealize.SL.Sem

namespace Cert.Parts

/-- The reference ends with its arguments unchanged and no signal owed. -/
theorem frame_reference : Cert.quiescent_RefSumUIdeal (hRefSumUIdeal := Cert.RefSumUIdeal.Gen.facts) := by
  intro m g _
  exact (θ_run Cert.RefSumUIdeal.defs _ _).mono
    (fun r h => ⟨fun c => (h c).2, Idealize.ShloMosaic.sem_eq_zero_of_no_sems (by decide) r.2⟩) (Cert.RefSumUIdeal.Value.run m g)

/-- The reference's sum over the devices, at one place. -/
theorem ref_sum (x : FVec Ideal Cert.RefSumUIdeal.S8x744x128 .f32) (r : Fin 744) (k : Fin 128) :
    Host.reduceAdd x (constant Cert.RefSumUIdeal.S_ .f32 0x00000000#32) Cert.RefSumUIdeal.Gen.facts.reducesTo_S8x744x128_S744x128_d0 Cert.RefSumUIdeal.Gen.facts.h_S_ (ix2 r k)
      = ∑ d, x (ix3 d r k) := by
  pointwise []

/-- From equal arguments the kernel and the reference end with the same sums. -/
theorem algebraic : Cert.algebraic_SumUIdeal_RefSumUIdeal (hSumUIdeal := Cert.SumUIdeal.Gen.facts)
    (hRefSumUIdeal := Cert.RefSumUIdeal.Gen.facts) := by
  pair_intro
  · run_from Cert.SumUIdeal.Gen.run_main m g
  · refine Idealize.ShloMosaic.θ_run_mono (Cert.RefSumUIdeal.Value.run m' g') ?_
    intro r hr c
    obtain ⟨e, ea⟩ := hr c
    refine ⟨e.trans ?_, ea⟩
    refine Eq.trans ?_ (Cert.SumUIdeal.Value.final8 m c).symm
    funext i
    obtain ⟨r, k, rfl⟩ : ∃ r k, i = ix2 r k := ⟨_, _, eq_ix2 i⟩
    rw [hagree c]
    exact ref_sum _ r k

end Cert.Parts

end
-- ==== Proof.Claims.References.lean ====
/- The references whose results are not compared with a kernel's: each ends with its arguments unchanged and no signal owed. -/
module

public import proofs.«01_k».proof.Defs
public import proofs.«01_k».proof.Proof.Gen.RefAttnBIdeal.Run
public import proofs.«01_k».proof.Proof.Gen.RefConvBIdeal.Run
public import proofs.«01_k».proof.Proof.Gen.RefSplitBIdeal.Run
public import proofs.«01_k».proof.Proof.Gen.RefConvFIdeal.Run
public import proofs.«01_k».proof.Proof.Gen.RefMergeFIdeal.Run
public import proofs.«01_k».proof.Proof.Gen.RefRopeFIdeal.Run
public import Idealize.ShloMosaic.Lib.Claim

@[expose] public section

set_option maxRecDepth 16384

noncomputable section

namespace Cert.References

open Idealize.ShloMosaic Idealize.SL.Sem

/-- The reference of the attention gradient. -/
theorem attn : Cert.quiescent_RefAttnBIdeal (hRefAttnBIdeal := Cert.RefAttnBIdeal.Gen.facts) := by
  intro m g _
  exact (θ_run Cert.RefAttnBIdeal.defs _ _).mono
    (fun r h => ⟨fun c => (h c).2.2.2, Idealize.ShloMosaic.sem_eq_zero_of_no_sems (by decide) r.2⟩) (Cert.RefAttnBIdeal.Value.run m g)

/-- The reference of the causal convolution gradient. -/
theorem conv : Cert.quiescent_RefConvBIdeal (hRefConvBIdeal := Cert.RefConvBIdeal.Gen.facts) := by
  intro m g _
  exact (θ_run Cert.RefConvBIdeal.defs _ _).mono
    (fun r h => ⟨fun c => (h c).2.2.2, Idealize.ShloMosaic.sem_eq_zero_of_no_sems (by decide) r.2⟩) (Cert.RefConvBIdeal.Value.run m g)

/-- The reference of the split of the attention's cotangents. -/
theorem split : Cert.quiescent_RefSplitBIdeal (hRefSplitBIdeal := Cert.RefSplitBIdeal.Gen.facts) := by
  intro m g _
  exact (θ_run Cert.RefSplitBIdeal.defs _ _).mono
    (fun r h => ⟨fun c => (h c).2.2.2.2.2.2.2.2.2, Idealize.ShloMosaic.sem_eq_zero_of_no_sems (by decide) r.2⟩) (Cert.RefSplitBIdeal.Value.run m g)

/-- The reference of the causal convolution with its norm and gate. -/
theorem convForward : Cert.quiescent_RefConvFIdeal (hRefConvFIdeal := Cert.RefConvFIdeal.Gen.facts) := by
  intro m g _
  exact (θ_run Cert.RefConvFIdeal.defs _ _).mono
    (fun r h => ⟨fun c => (h c).2.2, Idealize.ShloMosaic.sem_eq_zero_of_no_sems (by decide) r.2⟩) (Cert.RefConvFIdeal.Value.run m g)

/-- The reference of the merge of the attention's groups. -/
theorem merge : Cert.quiescent_RefMergeFIdeal (hRefMergeFIdeal := Cert.RefMergeFIdeal.Gen.facts) := by
  intro m g _
  exact (θ_run Cert.RefMergeFIdeal.defs _ _).mono
    (fun r h => ⟨fun c => (h c).2.2, Idealize.ShloMosaic.sem_eq_zero_of_no_sems (by decide) r.2⟩) (Cert.RefMergeFIdeal.Value.run m g)

/-- The reference of the rotation and the split into the groups. -/
theorem rope : Cert.quiescent_RefRopeFIdeal (hRefRopeFIdeal := Cert.RefRopeFIdeal.Gen.facts) := by
  intro m g _
  exact (θ_run Cert.RefRopeFIdeal.defs _ _).mono
    (fun r h => ⟨fun c => (h c).2.2.2.2.2.2.2.2.2, Idealize.ShloMosaic.sem_eq_zero_of_no_sems (by decide) r.2⟩) (Cert.RefRopeFIdeal.Value.run m g)

end Cert.References

end
-- ==== Proof.lean ====
/- Everything the certificate claims, assembled. -/
module

public import proofs.«01_k».proof.Defs
public import proofs.«01_k».proof.Proof.Attn.Frame
public import proofs.«01_k».proof.Proof.AttnIdeal.Frame
public import proofs.«01_k».proof.Proof.Claims.Gate
public import proofs.«01_k».proof.Proof.Claims.Swiglu
public import proofs.«01_k».proof.Proof.Claims.Layer
public import proofs.«01_k».proof.Proof.Claims.Rms
public import proofs.«01_k».proof.Proof.Claims.Loss
public import proofs.«01_k».proof.Proof.Claims.Fwd16
public import proofs.«01_k».proof.Proof.Claims.Fwd4
public import proofs.«01_k».proof.Proof.Claims.Fwd1
public import proofs.«01_k».proof.Proof.Claims.Up
public import proofs.«01_k».proof.Proof.Claims.Branch
public import proofs.«01_k».proof.Proof.Claims.Down
public import proofs.«01_k».proof.Proof.Claims.Out
public import proofs.«01_k».proof.Proof.Claims.Modulate
public import proofs.«01_k».proof.Proof.Claims.Bin
public import proofs.«01_k».proof.Proof.Claims.Condition
public import proofs.«01_k».proof.Proof.Claims.Ada
public import proofs.«01_k».proof.Proof.Claims.Project
public import proofs.«01_k».proof.Proof.Claims.Weight
public import proofs.«01_k».proof.Proof.Claims.Adam
public import proofs.«01_k».proof.Proof.Claims.Parts
public import proofs.«01_k».proof.Proof.Claims.References
public import proofs.«01_k».proof.Proof.Gen.ConvB.Frame
public import proofs.«01_k».proof.Proof.Gen.ConvBIdeal.Frame
public import proofs.«01_k».proof.Proof.Gen.SplitB.Frame
public import proofs.«01_k».proof.Proof.Gen.SplitBIdeal.Frame
public import proofs.«01_k».proof.Proof.Gen.ConvF.Frame
public import proofs.«01_k».proof.Proof.Gen.ConvFIdeal.Frame
public import proofs.«01_k».proof.Proof.Gen.MergeF.Frame
public import proofs.«01_k».proof.Proof.Gen.MergeFIdeal.Frame
public import proofs.«01_k».proof.Proof.Gen.RopeF.Frame
public import proofs.«01_k».proof.Proof.Gen.RopeFIdeal.Frame

@[expose] public section

set_option maxRecDepth 16384

noncomputable section

namespace Cert.Proof

open Idealize.ShloMosaic Idealize.SL.Sem

/-- The certificate's claim: the frames of the twenty-six calls' programs and references, and the equalities of the proved pairs. -/
theorem claim : Cert.Claim := ⟨
  AttnB.Gen.facts, AttnBIdeal.Gen.facts, RefAttnBIdeal.Gen.facts,
  GateB.Gen.facts, GateBIdeal.Gen.facts, RefGateBIdeal.Gen.facts,
  SwigluB.Gen.facts, SwigluBIdeal.Gen.facts, RefSwigluBIdeal.Gen.facts,
  NormB.Gen.facts, NormBIdeal.Gen.facts, RefNormBIdeal.Gen.facts,
  RmsB.Gen.facts, RmsBIdeal.Gen.facts, RefRmsBIdeal.Gen.facts,
  ConvB.Gen.facts, ConvBIdeal.Gen.facts, RefConvBIdeal.Gen.facts,
  LossHead.Gen.facts, LossHeadIdeal.Gen.facts, RefLossHeadIdeal.Gen.facts,
  SplitB.Gen.facts, SplitBIdeal.Gen.facts, RefSplitBIdeal.Gen.facts,
  Fwd16.Gen.facts, Fwd16Ideal.Gen.facts, RefFwd16Ideal.Gen.facts,
  Fwd4.Gen.facts, Fwd4Ideal.Gen.facts, RefFwd4Ideal.Gen.facts,
  Fwd1.Gen.facts, Fwd1Ideal.Gen.facts, RefFwd1Ideal.Gen.facts,
  UpF.Gen.facts, UpFIdeal.Gen.facts, RefUpFIdeal.Gen.facts,
  BranchF.Gen.facts, BranchFIdeal.Gen.facts, RefBranchFIdeal.Gen.facts,
  DownF.Gen.facts, DownFIdeal.Gen.facts, RefDownFIdeal.Gen.facts,
  OutF.Gen.facts, OutFIdeal.Gen.facts, RefOutFIdeal.Gen.facts,
  ModF.Gen.facts, ModFIdeal.Gen.facts, RefModFIdeal.Gen.facts,
  BinB.Gen.facts, BinBIdeal.Gen.facts, RefBinBIdeal.Gen.facts,
  CondF.Gen.facts, CondFIdeal.Gen.facts, RefCondFIdeal.Gen.facts,
  AdaF.Gen.facts, AdaFIdeal.Gen.facts, RefAdaFIdeal.Gen.facts,
  QkvF.Gen.facts, QkvFIdeal.Gen.facts, RefQkvFIdeal.Gen.facts,
  WeightB.Gen.facts, WeightBIdeal.Gen.facts, RefWeightBIdeal.Gen.facts,
  AdamU.Gen.facts, AdamUIdeal.Gen.facts, RefAdamUIdeal.Gen.facts,
  SumU.Gen.facts, SumUIdeal.Gen.facts, RefSumUIdeal.Gen.facts,
  ConvF.Gen.facts, ConvFIdeal.Gen.facts, RefConvFIdeal.Gen.facts,
  MergeF.Gen.facts, MergeFIdeal.Gen.facts, RefMergeFIdeal.Gen.facts,
  RopeF.Gen.facts, RopeFIdeal.Gen.facts, RefRopeFIdeal.Gen.facts,
  Pre_finite_bdown.Gen.facts, Pre_finite_bconv.Gen.facts, Pre_finite_bup.Gen.facts, Pre_finite_loss.Gen.facts, Pre_finite_bin.Gen.facts,
  fun m ρ _ => AttnB.Body.frame m ρ, fun m ρ _ => AttnBIdeal.Body.frame m ρ, References.attn,
  fun m ρ _ => GateB.Gen.frame m ρ, fun m ρ _ => GateBIdeal.Gen.frame m ρ, Gate.frame_reference,
  fun m ρ _ => SwigluB.Gen.frame m ρ, fun m ρ _ => SwigluBIdeal.Gen.frame m ρ, fun m ρ _ => SwigluBIdeal.Gen.frame m ρ,
  Swiglu.frame_reference, fun m ρ _ => Swiglu.frame_reference m ρ trivial,
  fun m ρ _ => NormB.Gen.frame m ρ, fun m ρ _ => NormBIdeal.Gen.frame m ρ, fun m ρ _ => NormBIdeal.Gen.frame m ρ,
  Layer.frame_reference, fun m ρ _ => Layer.frame_reference m ρ trivial,
  fun m ρ _ => RmsB.Gen.frame m ρ, fun m ρ _ => RmsBIdeal.Gen.frame m ρ, fun m ρ _ => RmsBIdeal.Gen.frame m ρ,
  Rms.frame_reference, fun m ρ _ => Rms.frame_reference m ρ trivial,
  fun m ρ _ => ConvB.Gen.frame m ρ, fun m ρ _ => ConvBIdeal.Gen.frame m ρ, References.conv,
  fun m ρ _ => LossHead.Gen.frame m ρ, fun m ρ _ => LossHeadIdeal.Gen.frame m ρ, fun m ρ _ => LossHeadIdeal.Gen.frame m ρ,
  Loss.frame_reference, fun m ρ _ => Loss.frame_reference m ρ trivial,
  fun m ρ _ => SplitB.Gen.frame m ρ, fun m ρ _ => SplitBIdeal.Gen.frame m ρ, References.split,
  fun m ρ _ => Fwd16.Gen.frame m ρ, fun m ρ _ => Fwd16Ideal.Gen.frame m ρ, Fwd16.frame_reference,
  fun m ρ _ => Fwd4.Gen.frame m ρ, fun m ρ _ => Fwd4Ideal.Gen.frame m ρ, Fwd4.frame_reference,
  fun m ρ _ => Fwd1.Gen.frame m ρ, fun m ρ _ => Fwd1Ideal.Gen.frame m ρ, Fwd1.frame_reference,
  fun m ρ _ => UpF.Gen.frame m ρ, fun m ρ _ => UpFIdeal.Gen.frame m ρ, Up.frame_reference,
  fun m ρ _ => BranchF.Gen.frame m ρ, fun m ρ _ => BranchFIdeal.Gen.frame m ρ, Branch.frame_reference,
  fun m ρ _ => DownF.Gen.frame m ρ, fun m ρ _ => DownFIdeal.Gen.frame m ρ, Down.frame_reference,
  fun m ρ _ => OutF.Gen.frame m ρ, fun m ρ _ => OutFIdeal.Gen.frame m ρ, Out.frame_reference,
  fun m ρ _ => ModF.Gen.frame m ρ, fun m ρ _ => ModFIdeal.Gen.frame m ρ, Modulate.frame_reference,
  fun m ρ _ => BinB.Gen.frame m ρ, fun m ρ _ => BinBIdeal.Gen.frame m ρ, fun m ρ _ => BinBIdeal.Gen.frame m ρ,
  Bin.frame_reference, fun m ρ _ => Bin.frame_reference m ρ trivial,
  fun m ρ _ => CondF.Gen.frame m ρ, fun m ρ _ => CondFIdeal.Gen.frame m ρ, Condition.frame_reference,
  fun m ρ _ => AdaF.Gen.frame m ρ, fun m ρ _ => AdaFIdeal.Gen.frame m ρ, Ada.frame_reference,
  fun m ρ _ => QkvF.Gen.frame m ρ, fun m ρ _ => QkvFIdeal.Gen.frame m ρ, Project.frame_reference,
  fun m ρ _ => WeightB.Gen.frame m ρ, fun m ρ _ => WeightBIdeal.Gen.frame m ρ, Weight.frame_reference,
  fun m ρ _ => AdamU.Gen.frame m ρ, fun m ρ _ => AdamUIdeal.Gen.frame m ρ, Adam.frame_reference,
  fun m ρ _ => SumU.Gen.frame m ρ, fun m ρ _ => SumUIdeal.Gen.frame m ρ, Parts.frame_reference,
  fun m ρ _ => ConvF.Gen.frame m ρ, fun m ρ _ => ConvFIdeal.Gen.frame m ρ, References.convForward,
  fun m ρ _ => MergeF.Gen.frame m ρ, fun m ρ _ => MergeFIdeal.Gen.frame m ρ, References.merge,
  fun m ρ _ => RopeF.Gen.frame m ρ, fun m ρ _ => RopeFIdeal.Gen.frame m ρ, References.rope,
  IdealRules.named_const.statement Cert.AttnBIdeal.κ "mask" .f32 0xF149F2CA#32 ⊥ rfl,
  trivial, Gate.algebraic, trivial, Swiglu.algebraic, trivial, Layer.algebraic, trivial, Rms.algebraic, trivial,
  trivial, Loss.algebraic, trivial,
  IdealRules.named_const.statement Cert.Fwd16Ideal.κ "mask" .f32 0xF149F2CA#32 ⊥ rfl, Fwd16.algebraic,
  IdealRules.named_const.statement Cert.Fwd4Ideal.κ "mask" .f32 0xF149F2CA#32 ⊥ rfl, Fwd4.algebraic,
  IdealRules.named_const.statement Cert.Fwd1Ideal.κ "mask" .f32 0xF149F2CA#32 ⊥ rfl, Fwd1.algebraic,
  trivial, Up.algebraic, trivial, Branch.algebraic, trivial, Down.algebraic, trivial, Out.algebraic, trivial, Modulate.algebraic,
  trivial, Bin.algebraic, trivial, Condition.algebraic, trivial, Ada.algebraic, trivial, Project.algebraic, trivial, Weight.algebraic, trivial, Adam.algebraic, trivial, Parts.algebraic, trivial, trivial, trivial⟩

end Cert.Proof

end
